-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_Update (m : (ℓ : Loc Cert.Update.nD Cert.Update.τ Cert.Update.sig) → Buf (Elt Bits) ℓ) : Prop :=
  True

def Pre_UpdateIdeal (m : (ℓ : Loc Cert.UpdateIdeal.nD Cert.UpdateIdeal.τ Cert.UpdateIdeal.sig) → Buf (Elt Ideal) ℓ) : Prop :=
  True

def Pre_UpdateRefIdeal (m : (ℓ : Loc Cert.UpdateRefIdeal.nD Cert.UpdateRefIdeal.τ Cert.UpdateRefIdeal.sig) → Buf (Elt Ideal) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherRefIdeal (m : (ℓ : Loc Cert.GatherRefIdeal.nD Cert.GatherRefIdeal.τ Cert.GatherRefIdeal.sig) → Buf (Elt Ideal) ℓ) : Prop :=
  True

def Pre_GatherRef (m : (ℓ : Loc Cert.GatherRef.nD Cert.GatherRef.τ Cert.GatherRef.sig) → Buf (Elt Bits) ℓ) : Prop :=
  True

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseRefIdeal (m : (ℓ : Loc Cert.DenseRefIdeal.nD Cert.DenseRefIdeal.τ Cert.DenseRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Passes (m : (ℓ : Loc Cert.Passes.nD Cert.Passes.τ Cert.Passes.sig) → Buf (Elt Bits) ℓ) : Prop :=
  True

def Pre_PassesIdeal (m : (ℓ : Loc Cert.PassesIdeal.nD Cert.PassesIdeal.τ Cert.PassesIdeal.sig) → Buf (Elt Ideal) ℓ) : Prop :=
  True

def Pre_PassesRefIdeal (m : (ℓ : Loc Cert.PassesRefIdeal.nD Cert.PassesRefIdeal.τ Cert.PassesRefIdeal.sig) → Buf (Elt Ideal) ℓ) : Prop :=
  True

def Pre_GwFfn (m : (ℓ : Loc Cert.GwFfn.nD Cert.GwFfn.τ Cert.GwFfn.sig) → Buf (Elt Bits) ℓ) : Prop :=
  True

def Pre_GwFfnIdeal (m : (ℓ : Loc Cert.GwFfnIdeal.nD Cert.GwFfnIdeal.τ Cert.GwFfnIdeal.sig) → Buf (Elt Ideal) ℓ) : Prop :=
  True

def Pre_GwFfnRefIdeal (m : (ℓ : Loc Cert.GwFfnRefIdeal.nD Cert.GwFfnRefIdeal.τ Cert.GwFfnRefIdeal.sig) → Buf (Elt Ideal) ℓ) : Prop :=
  True

def Pre_GwOut (m : (ℓ : Loc Cert.GwOut.nD Cert.GwOut.τ Cert.GwOut.sig) → Buf (Elt Bits) ℓ) : Prop :=
  True

def Pre_GwOutIdeal (m : (ℓ : Loc Cert.GwOutIdeal.nD Cert.GwOutIdeal.τ Cert.GwOutIdeal.sig) → Buf (Elt Ideal) ℓ) : Prop :=
  True

def Pre_GwOutRefIdeal (m : (ℓ : Loc Cert.GwOutRefIdeal.nD Cert.GwOutRefIdeal.τ Cert.GwOutRefIdeal.sig) → Buf (Elt Ideal) ℓ) : Prop :=
  True

def Pre_GwIn (m : (ℓ : Loc Cert.GwIn.nD Cert.GwIn.τ Cert.GwIn.sig) → Buf (Elt Bits) ℓ) : Prop :=
  True

def Pre_GwInIdeal (m : (ℓ : Loc Cert.GwInIdeal.nD Cert.GwInIdeal.τ Cert.GwInIdeal.sig) → Buf (Elt Ideal) ℓ) : Prop :=
  True

def Pre_GwInRefIdeal (m : (ℓ : Loc Cert.GwInRefIdeal.nD Cert.GwInRefIdeal.τ Cert.GwInRefIdeal.sig) → Buf (Elt Ideal) ℓ) : Prop :=
  True

def Pre_HidGate (m : (ℓ : Loc Cert.HidGate.nD Cert.HidGate.τ Cert.HidGate.sig) → Buf (Elt Bits) ℓ) : Prop :=
  True

def Pre_HidGateIdeal (m : (ℓ : Loc Cert.HidGateIdeal.nD Cert.HidGateIdeal.τ Cert.HidGateIdeal.sig) → Buf (Elt Ideal) ℓ) : Prop :=
  True

def Pre_HidGateRefIdeal (m : (ℓ : Loc Cert.HidGateRefIdeal.nD Cert.HidGateRefIdeal.τ Cert.HidGateRefIdeal.sig) → Buf (Elt Ideal) ℓ) : Prop :=
  True

def Pre_HidUp (m : (ℓ : Loc Cert.HidUp.nD Cert.HidUp.τ Cert.HidUp.sig) → Buf (Elt Bits) ℓ) : Prop :=
  True

def Pre_HidUpIdeal (m : (ℓ : Loc Cert.HidUpIdeal.nD Cert.HidUpIdeal.τ Cert.HidUpIdeal.sig) → Buf (Elt Ideal) ℓ) : Prop :=
  True

def Pre_HidUpRefIdeal (m : (ℓ : Loc Cert.HidUpRefIdeal.nD Cert.HidUpRefIdeal.τ Cert.HidUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerRefIdeal (m : (ℓ : Loc Cert.MixerRefIdeal.nD Cert.MixerRefIdeal.τ Cert.MixerRefIdeal.sig) → Buf (Elt Ideal) ℓ) : Prop :=
  True

def Pre_Patch (m : (ℓ : Loc Cert.Patch.nD Cert.Patch.τ Cert.Patch.sig) → Buf (Elt Bits) ℓ) : Prop :=
  True

def Pre_PatchIdeal (m : (ℓ : Loc Cert.PatchIdeal.nD Cert.PatchIdeal.τ Cert.PatchIdeal.sig) → Buf (Elt Ideal) ℓ) : Prop :=
  True

def Pre_PatchRefIdeal (m : (ℓ : Loc Cert.PatchRefIdeal.nD Cert.PatchRefIdeal.τ Cert.PatchRefIdeal.sig) → Buf (Elt Ideal) ℓ) : Prop :=
  True

def Pre_PatchRef (m : (ℓ : Loc Cert.PatchRef.nD Cert.PatchRef.τ Cert.PatchRef.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def quiescent_Update [hUpdate : Cert.Update.Facts] : Prop :=
  ∀ (m : (ℓ : Loc Cert.Update.nD Cert.Update.τ Cert.Update.sig) → Buf (Elt Bits) ℓ) (g : Dev Cert.Update.nD → PrngReg), Pre_Update m →
    θ_run (Cert.Update.defs (F := Bits)) (onTc (τ := Cert.Update.τ) (Cert.Update.main (F := Bits))) ⟨m, fun _ => 0, g⟩ (fun r => (∀ c : Dev Cert.Update.nD,
      r.2.mem ((c.tc : Thread Cert.Update.nD Cert.Update.τ).loc Cert.Update.main_arg0) = m ((c.tc : Thread Cert.Update.nD Cert.Update.τ).loc Cert.Update.main_arg0)
      ∧ r.2.mem ((c.tc : Thread Cert.Update.nD Cert.Update.τ).loc Cert.Update.main_arg1) = m ((c.tc : Thread Cert.Update.nD Cert.Update.τ).loc Cert.Update.main_arg1)
      ∧ r.2.mem ((c.tc : Thread Cert.Update.nD Cert.Update.τ).loc Cert.Update.main_arg2) = m ((c.tc : Thread Cert.Update.nD Cert.Update.τ).loc Cert.Update.main_arg2)
      ∧ r.2.mem ((c.tc : Thread Cert.Update.nD Cert.Update.τ).loc Cert.Update.main_arg3) = m ((c.tc : Thread Cert.Update.nD Cert.Update.τ).loc Cert.Update.main_arg3)
      ∧ r.2.mem ((c.tc : Thread Cert.Update.nD Cert.Update.τ).loc Cert.Update.main_arg4) = m ((c.tc : Thread Cert.Update.nD Cert.Update.τ).loc Cert.Update.main_arg4)
      ∧ r.2.mem ((c.tc : Thread Cert.Update.nD Cert.Update.τ).loc Cert.Update.main_arg5) = m ((c.tc : Thread Cert.Update.nD Cert.Update.τ).loc Cert.Update.main_arg5)
      ∧ r.2.mem ((c.tc : Thread Cert.Update.nD Cert.Update.τ).loc Cert.Update.main_arg6) = m ((c.tc : Thread Cert.Update.nD Cert.Update.τ).loc Cert.Update.main_arg6)
      ∧ r.2.mem ((c.tc : Thread Cert.Update.nD Cert.Update.τ).loc Cert.Update.main_arg7) = m ((c.tc : Thread Cert.Update.nD Cert.Update.τ).loc Cert.Update.main_arg7)
      ∧ r.2.mem ((c.tc : Thread Cert.Update.nD Cert.Update.τ).loc Cert.Update.main_arg8) = m ((c.tc : Thread Cert.Update.nD Cert.Update.τ).loc Cert.Update.main_arg8)
      ∧ r.2.mem ((c.tc : Thread Cert.Update.nD Cert.Update.τ).loc Cert.Update.main_arg9) = m ((c.tc : Thread Cert.Update.nD Cert.Update.τ).loc Cert.Update.main_arg9)
      ∧ r.2.mem ((c.tc : Thread Cert.Update.nD Cert.Update.τ).loc Cert.Update.main_arg10) = m ((c.tc : Thread Cert.Update.nD Cert.Update.τ).loc Cert.Update.main_arg10)
      ∧ r.2.mem ((c.tc : Thread Cert.Update.nD Cert.Update.τ).loc Cert.Update.main_arg11) = m ((c.tc : Thread Cert.Update.nD Cert.Update.τ).loc Cert.Update.main_arg11)
      ∧ r.2.mem ((c.tc : Thread Cert.Update.nD Cert.Update.τ).loc Cert.Update.main_arg12) = m ((c.tc : Thread Cert.Update.nD Cert.Update.τ).loc Cert.Update.main_arg12)
      ∧ r.2.mem ((c.tc : Thread Cert.Update.nD Cert.Update.τ).loc Cert.Update.main_arg13) = m ((c.tc : Thread Cert.Update.nD Cert.Update.τ).loc Cert.Update.main_arg13)
      ∧ r.2.mem ((c.tc : Thread Cert.Update.nD Cert.Update.τ).loc Cert.Update.main_arg14) = m ((c.tc : Thread Cert.Update.nD Cert.Update.τ).loc Cert.Update.main_arg14)
      ∧ r.2.mem ((c.tc : Thread Cert.Update.nD Cert.Update.τ).loc Cert.Update.main_arg15) = m ((c.tc : Thread Cert.Update.nD Cert.Update.τ).loc Cert.Update.main_arg15)
      ∧ r.2.mem ((c.tc : Thread Cert.Update.nD Cert.Update.τ).loc Cert.Update.main_arg16) = m ((c.tc : Thread Cert.Update.nD Cert.Update.τ).loc Cert.Update.main_arg16)
      ∧ r.2.mem ((c.tc : Thread Cert.Update.nD Cert.Update.τ).loc Cert.Update.main_arg17) = m ((c.tc : Thread Cert.Update.nD Cert.Update.τ).loc Cert.Update.main_arg17)
      ∧ r.2.mem ((c.tc : Thread Cert.Update.nD Cert.Update.τ).loc Cert.Update.main_arg18) = m ((c.tc : Thread Cert.Update.nD Cert.Update.τ).loc Cert.Update.main_arg18)
      ∧ r.2.mem ((c.tc : Thread Cert.Update.nD Cert.Update.τ).loc Cert.Update.main_arg19) = m ((c.tc : Thread Cert.Update.nD Cert.Update.τ).loc Cert.Update.main_arg19))
      ∧ r.2.sem = fun _ => 0)

def quiescent_UpdateIdeal [hUpdateIdeal : Cert.UpdateIdeal.Facts] : Prop :=
  ∀ (m : (ℓ : Loc Cert.UpdateIdeal.nD Cert.UpdateIdeal.τ Cert.UpdateIdeal.sig) → Buf (Elt Ideal) ℓ) (g : Dev Cert.UpdateIdeal.nD → PrngReg), Pre_UpdateIdeal m →
    θ_run (Cert.UpdateIdeal.defs (F := Ideal)) (onTc (τ := Cert.UpdateIdeal.τ) (Cert.UpdateIdeal.main (F := Ideal))) ⟨m, fun _ => 0, g⟩ (fun r => (∀ c : Dev Cert.UpdateIdeal.nD,
      r.2.mem ((c.tc : Thread Cert.UpdateIdeal.nD Cert.UpdateIdeal.τ).loc Cert.UpdateIdeal.main_arg0) = m ((c.tc : Thread Cert.UpdateIdeal.nD Cert.UpdateIdeal.τ).loc Cert.UpdateIdeal.main_arg0)
      ∧ r.2.mem ((c.tc : Thread Cert.UpdateIdeal.nD Cert.UpdateIdeal.τ).loc Cert.UpdateIdeal.main_arg1) = m ((c.tc : Thread Cert.UpdateIdeal.nD Cert.UpdateIdeal.τ).loc Cert.UpdateIdeal.main_arg1)
      ∧ r.2.mem ((c.tc : Thread Cert.UpdateIdeal.nD Cert.UpdateIdeal.τ).loc Cert.UpdateIdeal.main_arg2) = m ((c.tc : Thread Cert.UpdateIdeal.nD Cert.UpdateIdeal.τ).loc Cert.UpdateIdeal.main_arg2)
      ∧ r.2.mem ((c.tc : Thread Cert.UpdateIdeal.nD Cert.UpdateIdeal.τ).loc Cert.UpdateIdeal.main_arg3) = m ((c.tc : Thread Cert.UpdateIdeal.nD Cert.UpdateIdeal.τ).loc Cert.UpdateIdeal.main_arg3)
      ∧ r.2.mem ((c.tc : Thread Cert.UpdateIdeal.nD Cert.UpdateIdeal.τ).loc Cert.UpdateIdeal.main_arg4) = m ((c.tc : Thread Cert.UpdateIdeal.nD Cert.UpdateIdeal.τ).loc Cert.UpdateIdeal.main_arg4)
      ∧ r.2.mem ((c.tc : Thread Cert.UpdateIdeal.nD Cert.UpdateIdeal.τ).loc Cert.UpdateIdeal.main_arg5) = m ((c.tc : Thread Cert.UpdateIdeal.nD Cert.UpdateIdeal.τ).loc Cert.UpdateIdeal.main_arg5)
      ∧ r.2.mem ((c.tc : Thread Cert.UpdateIdeal.nD Cert.UpdateIdeal.τ).loc Cert.UpdateIdeal.main_arg6) = m ((c.tc : Thread Cert.UpdateIdeal.nD Cert.UpdateIdeal.τ).loc Cert.UpdateIdeal.main_arg6)
      ∧ r.2.mem ((c.tc : Thread Cert.UpdateIdeal.nD Cert.UpdateIdeal.τ).loc Cert.UpdateIdeal.main_arg7) = m ((c.tc : Thread Cert.UpdateIdeal.nD Cert.UpdateIdeal.τ).loc Cert.UpdateIdeal.main_arg7)
      ∧ r.2.mem ((c.tc : Thread Cert.UpdateIdeal.nD Cert.UpdateIdeal.τ).loc Cert.UpdateIdeal.main_arg8) = m ((c.tc : Thread Cert.UpdateIdeal.nD Cert.UpdateIdeal.τ).loc Cert.UpdateIdeal.main_arg8)
      ∧ r.2.mem ((c.tc : Thread Cert.UpdateIdeal.nD Cert.UpdateIdeal.τ).loc Cert.UpdateIdeal.main_arg9) = m ((c.tc : Thread Cert.UpdateIdeal.nD Cert.UpdateIdeal.τ).loc Cert.UpdateIdeal.main_arg9)
      ∧ r.2.mem ((c.tc : Thread Cert.UpdateIdeal.nD Cert.UpdateIdeal.τ).loc Cert.UpdateIdeal.main_arg10) = m ((c.tc : Thread Cert.UpdateIdeal.nD Cert.UpdateIdeal.τ).loc Cert.UpdateIdeal.main_arg10)
      ∧ r.2.mem ((c.tc : Thread Cert.UpdateIdeal.nD Cert.UpdateIdeal.τ).loc Cert.UpdateIdeal.main_arg11) = m ((c.tc : Thread Cert.UpdateIdeal.nD Cert.UpdateIdeal.τ).loc Cert.UpdateIdeal.main_arg11)
      ∧ r.2.mem ((c.tc : Thread Cert.UpdateIdeal.nD Cert.UpdateIdeal.τ).loc Cert.UpdateIdeal.main_arg12) = m ((c.tc : Thread Cert.UpdateIdeal.nD Cert.UpdateIdeal.τ).loc Cert.UpdateIdeal.main_arg12)
      ∧ r.2.mem ((c.tc : Thread Cert.UpdateIdeal.nD Cert.UpdateIdeal.τ).loc Cert.UpdateIdeal.main_arg13) = m ((c.tc : Thread Cert.UpdateIdeal.nD Cert.UpdateIdeal.τ).loc Cert.UpdateIdeal.main_arg13)
      ∧ r.2.mem ((c.tc : Thread Cert.UpdateIdeal.nD Cert.UpdateIdeal.τ).loc Cert.UpdateIdeal.main_arg14) = m ((c.tc : Thread Cert.UpdateIdeal.nD Cert.UpdateIdeal.τ).loc Cert.UpdateIdeal.main_arg14)
      ∧ r.2.mem ((c.tc : Thread Cert.UpdateIdeal.nD Cert.UpdateIdeal.τ).loc Cert.UpdateIdeal.main_arg15) = m ((c.tc : Thread Cert.UpdateIdeal.nD Cert.UpdateIdeal.τ).loc Cert.UpdateIdeal.main_arg15)
      ∧ r.2.mem ((c.tc : Thread Cert.UpdateIdeal.nD Cert.UpdateIdeal.τ).loc Cert.UpdateIdeal.main_arg16) = m ((c.tc : Thread Cert.UpdateIdeal.nD Cert.UpdateIdeal.τ).loc Cert.UpdateIdeal.main_arg16)
      ∧ r.2.mem ((c.tc : Thread Cert.UpdateIdeal.nD Cert.UpdateIdeal.τ).loc Cert.UpdateIdeal.main_arg17) = m ((c.tc : Thread Cert.UpdateIdeal.nD Cert.UpdateIdeal.τ).loc Cert.UpdateIdeal.main_arg17)
      ∧ r.2.mem ((c.tc : Thread Cert.UpdateIdeal.nD Cert.UpdateIdeal.τ).loc Cert.UpdateIdeal.main_arg18) = m ((c.tc : Thread Cert.UpdateIdeal.nD Cert.UpdateIdeal.τ).loc Cert.UpdateIdeal.main_arg18)
      ∧ r.2.mem ((c.tc : Thread Cert.UpdateIdeal.nD Cert.UpdateIdeal.τ).loc Cert.UpdateIdeal.main_arg19) = m ((c.tc : Thread Cert.UpdateIdeal.nD Cert.UpdateIdeal.τ).loc Cert.UpdateIdeal.main_arg19))
      ∧ r.2.sem = fun _ => 0)

def quiescent_UpdateRefIdeal [hUpdateRefIdeal : Cert.UpdateRefIdeal.Facts] : Prop :=
  ∀ (m : (ℓ : Loc Cert.UpdateRefIdeal.nD Cert.UpdateRefIdeal.τ Cert.UpdateRefIdeal.sig) → Buf (Elt Ideal) ℓ) (g : Dev Cert.UpdateRefIdeal.nD → PrngReg), Pre_UpdateRefIdeal m →
    θ_run (Cert.UpdateRefIdeal.defs (F := Ideal)) (onTc (τ := Cert.UpdateRefIdeal.τ) (Cert.UpdateRefIdeal.main (F := Ideal))) ⟨m, fun _ => 0, g⟩ (fun r => (∀ c : Dev Cert.UpdateRefIdeal.nD,
      r.2.mem ((c.tc : Thread Cert.UpdateRefIdeal.nD Cert.UpdateRefIdeal.τ).loc Cert.UpdateRefIdeal.main_arg0) = m ((c.tc : Thread Cert.UpdateRefIdeal.nD Cert.UpdateRefIdeal.τ).loc Cert.UpdateRefIdeal.main_arg0)
      ∧ r.2.mem ((c.tc : Thread Cert.UpdateRefIdeal.nD Cert.UpdateRefIdeal.τ).loc Cert.UpdateRefIdeal.main_arg1) = m ((c.tc : Thread Cert.UpdateRefIdeal.nD Cert.UpdateRefIdeal.τ).loc Cert.UpdateRefIdeal.main_arg1)
      ∧ r.2.mem ((c.tc : Thread Cert.UpdateRefIdeal.nD Cert.UpdateRefIdeal.τ).loc Cert.UpdateRefIdeal.main_arg2) = m ((c.tc : Thread Cert.UpdateRefIdeal.nD Cert.UpdateRefIdeal.τ).loc Cert.UpdateRefIdeal.main_arg2)
      ∧ r.2.mem ((c.tc : Thread Cert.UpdateRefIdeal.nD Cert.UpdateRefIdeal.τ).loc Cert.UpdateRefIdeal.main_arg3) = m ((c.tc : Thread Cert.UpdateRefIdeal.nD Cert.UpdateRefIdeal.τ).loc Cert.UpdateRefIdeal.main_arg3)
      ∧ r.2.mem ((c.tc : Thread Cert.UpdateRefIdeal.nD Cert.UpdateRefIdeal.τ).loc Cert.UpdateRefIdeal.main_arg4) = m ((c.tc : Thread Cert.UpdateRefIdeal.nD Cert.UpdateRefIdeal.τ).loc Cert.UpdateRefIdeal.main_arg4)
      ∧ r.2.mem ((c.tc : Thread Cert.UpdateRefIdeal.nD Cert.UpdateRefIdeal.τ).loc Cert.UpdateRefIdeal.main_arg5) = m ((c.tc : Thread Cert.UpdateRefIdeal.nD Cert.UpdateRefIdeal.τ).loc Cert.UpdateRefIdeal.main_arg5)
      ∧ r.2.mem ((c.tc : Thread Cert.UpdateRefIdeal.nD Cert.UpdateRefIdeal.τ).loc Cert.UpdateRefIdeal.main_arg6) = m ((c.tc : Thread Cert.UpdateRefIdeal.nD Cert.UpdateRefIdeal.τ).loc Cert.UpdateRefIdeal.main_arg6)
      ∧ r.2.mem ((c.tc : Thread Cert.UpdateRefIdeal.nD Cert.UpdateRefIdeal.τ).loc Cert.UpdateRefIdeal.main_arg7) = m ((c.tc : Thread Cert.UpdateRefIdeal.nD Cert.UpdateRefIdeal.τ).loc Cert.UpdateRefIdeal.main_arg7)
      ∧ r.2.mem ((c.tc : Thread Cert.UpdateRefIdeal.nD Cert.UpdateRefIdeal.τ).loc Cert.UpdateRefIdeal.main_arg8) = m ((c.tc : Thread Cert.UpdateRefIdeal.nD Cert.UpdateRefIdeal.τ).loc Cert.UpdateRefIdeal.main_arg8)
      ∧ r.2.mem ((c.tc : Thread Cert.UpdateRefIdeal.nD Cert.UpdateRefIdeal.τ).loc Cert.UpdateRefIdeal.main_arg9) = m ((c.tc : Thread Cert.UpdateRefIdeal.nD Cert.UpdateRefIdeal.τ).loc Cert.UpdateRefIdeal.main_arg9)
      ∧ r.2.mem ((c.tc : Thread Cert.UpdateRefIdeal.nD Cert.UpdateRefIdeal.τ).loc Cert.UpdateRefIdeal.main_arg10) = m ((c.tc : Thread Cert.UpdateRefIdeal.nD Cert.UpdateRefIdeal.τ).loc Cert.UpdateRefIdeal.main_arg10)
      ∧ r.2.mem ((c.tc : Thread Cert.UpdateRefIdeal.nD Cert.UpdateRefIdeal.τ).loc Cert.UpdateRefIdeal.main_arg11) = m ((c.tc : Thread Cert.UpdateRefIdeal.nD Cert.UpdateRefIdeal.τ).loc Cert.UpdateRefIdeal.main_arg11)
      ∧ r.2.mem ((c.tc : Thread Cert.UpdateRefIdeal.nD Cert.UpdateRefIdeal.τ).loc Cert.UpdateRefIdeal.main_arg12) = m ((c.tc : Thread Cert.UpdateRefIdeal.nD Cert.UpdateRefIdeal.τ).loc Cert.UpdateRefIdeal.main_arg12)
      ∧ r.2.mem ((c.tc : Thread Cert.UpdateRefIdeal.nD Cert.UpdateRefIdeal.τ).loc Cert.UpdateRefIdeal.main_arg13) = m ((c.tc : Thread Cert.UpdateRefIdeal.nD Cert.UpdateRefIdeal.τ).loc Cert.UpdateRefIdeal.main_arg13)
      ∧ r.2.mem ((c.tc : Thread Cert.UpdateRefIdeal.nD Cert.UpdateRefIdeal.τ).loc Cert.UpdateRefIdeal.main_arg14) = m ((c.tc : Thread Cert.UpdateRefIdeal.nD Cert.UpdateRefIdeal.τ).loc Cert.UpdateRefIdeal.main_arg14)
      ∧ r.2.mem ((c.tc : Thread Cert.UpdateRefIdeal.nD Cert.UpdateRefIdeal.τ).loc Cert.UpdateRefIdeal.main_arg15) = m ((c.tc : Thread Cert.UpdateRefIdeal.nD Cert.UpdateRefIdeal.τ).loc Cert.UpdateRefIdeal.main_arg15)
      ∧ r.2.mem ((c.tc : Thread Cert.UpdateRefIdeal.nD Cert.UpdateRefIdeal.τ).loc Cert.UpdateRefIdeal.main_arg16) = m ((c.tc : Thread Cert.UpdateRefIdeal.nD Cert.UpdateRefIdeal.τ).loc Cert.UpdateRefIdeal.main_arg16)
      ∧ r.2.mem ((c.tc : Thread Cert.UpdateRefIdeal.nD Cert.UpdateRefIdeal.τ).loc Cert.UpdateRefIdeal.main_arg17) = m ((c.tc : Thread Cert.UpdateRefIdeal.nD Cert.UpdateRefIdeal.τ).loc Cert.UpdateRefIdeal.main_arg17)
      ∧ r.2.mem ((c.tc : Thread Cert.UpdateRefIdeal.nD Cert.UpdateRefIdeal.τ).loc Cert.UpdateRefIdeal.main_arg18) = m ((c.tc : Thread Cert.UpdateRefIdeal.nD Cert.UpdateRefIdeal.τ).loc Cert.UpdateRefIdeal.main_arg18)
      ∧ r.2.mem ((c.tc : Thread Cert.UpdateRefIdeal.nD Cert.UpdateRefIdeal.τ).loc Cert.UpdateRefIdeal.main_arg19) = m ((c.tc : Thread Cert.UpdateRefIdeal.nD Cert.UpdateRefIdeal.τ).loc Cert.UpdateRefIdeal.main_arg19))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2)
      ∧ r.2.mem ((c.tc : Thread Cert.Gather.nD Cert.Gather.τ).loc Cert.Gather.main_arg3) = m ((c.tc : Thread Cert.Gather.nD Cert.Gather.τ).loc Cert.Gather.main_arg3)
      ∧ r.2.mem ((c.tc : Thread Cert.Gather.nD Cert.Gather.τ).loc Cert.Gather.main_arg4) = m ((c.tc : Thread Cert.Gather.nD Cert.Gather.τ).loc Cert.Gather.main_arg4))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
      ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
      ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0)
      ∧ r.2.mem ((c.tc : Thread Cert.GatherRefIdeal.nD Cert.GatherRefIdeal.τ).loc Cert.GatherRefIdeal.main_arg1) = m ((c.tc : Thread Cert.GatherRefIdeal.nD Cert.GatherRefIdeal.τ).loc Cert.GatherRefIdeal.main_arg1)
      ∧ r.2.mem ((c.tc : Thread Cert.GatherRefIdeal.nD Cert.GatherRefIdeal.τ).loc Cert.GatherRefIdeal.main_arg2) = m ((c.tc : Thread Cert.GatherRefIdeal.nD Cert.GatherRefIdeal.τ).loc Cert.GatherRefIdeal.main_arg2)
      ∧ r.2.mem ((c.tc : Thread Cert.GatherRefIdeal.nD Cert.GatherRefIdeal.τ).loc Cert.GatherRefIdeal.main_arg3) = m ((c.tc : Thread Cert.GatherRefIdeal.nD Cert.GatherRefIdeal.τ).loc Cert.GatherRefIdeal.main_arg3)
      ∧ r.2.mem ((c.tc : Thread Cert.GatherRefIdeal.nD Cert.GatherRefIdeal.τ).loc Cert.GatherRefIdeal.main_arg4) = m ((c.tc : Thread Cert.GatherRefIdeal.nD Cert.GatherRefIdeal.τ).loc Cert.GatherRefIdeal.main_arg4))
      ∧ r.2.sem = fun _ => 0)

def quiescent_GatherRef [hGatherRef : Cert.GatherRef.Facts] : Prop :=
  ∀ (m : (ℓ : Loc Cert.GatherRef.nD Cert.GatherRef.τ Cert.GatherRef.sig) → Buf (Elt Bits) ℓ) (g : Dev Cert.GatherRef.nD → PrngReg), Pre_GatherRef m →
    θ_run (Cert.GatherRef.defs (F := Bits)) (onTc (τ := Cert.GatherRef.τ) (Cert.GatherRef.main (F := Bits))) ⟨m, fun _ => 0, g⟩ (fun r => (∀ c : Dev Cert.GatherRef.nD,
      r.2.mem ((c.tc : Thread Cert.GatherRef.nD Cert.GatherRef.τ).loc Cert.GatherRef.main_arg0) = m ((c.tc : Thread Cert.GatherRef.nD Cert.GatherRef.τ).loc Cert.GatherRef.main_arg0)
      ∧ r.2.mem ((c.tc : Thread Cert.GatherRef.nD Cert.GatherRef.τ).loc Cert.GatherRef.main_arg1) = m ((c.tc : Thread Cert.GatherRef.nD Cert.GatherRef.τ).loc Cert.GatherRef.main_arg1)
      ∧ r.2.mem ((c.tc : Thread Cert.GatherRef.nD Cert.GatherRef.τ).loc Cert.GatherRef.main_arg2) = m ((c.tc : Thread Cert.GatherRef.nD Cert.GatherRef.τ).loc Cert.GatherRef.main_arg2)
      ∧ r.2.mem ((c.tc : Thread Cert.GatherRef.nD Cert.GatherRef.τ).loc Cert.GatherRef.main_arg3) = m ((c.tc : Thread Cert.GatherRef.nD Cert.GatherRef.τ).loc Cert.GatherRef.main_arg3)
      ∧ r.2.mem ((c.tc : Thread Cert.GatherRef.nD Cert.GatherRef.τ).loc Cert.GatherRef.main_arg4) = m ((c.tc : Thread Cert.GatherRef.nD Cert.GatherRef.τ).loc Cert.GatherRef.main_arg4))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1))
      ∧ r.2.sem = fun _ => 0)

def quiescent_DenseRefIdeal [hDenseRefIdeal : Cert.DenseRefIdeal.Facts] : Prop :=
  ∀ (m : (ℓ : Loc Cert.DenseRefIdeal.nD Cert.DenseRefIdeal.τ Cert.DenseRefIdeal.sig) → Buf (Elt Ideal) ℓ) (g : Dev Cert.DenseRefIdeal.nD → PrngReg), Pre_DenseRefIdeal m →
    θ_run (Cert.DenseRefIdeal.defs (F := Ideal)) (onTc (τ := Cert.DenseRefIdeal.τ) (Cert.DenseRefIdeal.main (F := Ideal))) ⟨m, fun _ => 0, g⟩ (fun r => (∀ c : Dev Cert.DenseRefIdeal.nD,
      r.2.mem ((c.tc : Thread Cert.DenseRefIdeal.nD Cert.DenseRefIdeal.τ).loc Cert.DenseRefIdeal.main_arg0) = m ((c.tc : Thread Cert.DenseRefIdeal.nD Cert.DenseRefIdeal.τ).loc Cert.DenseRefIdeal.main_arg0)
      ∧ r.2.mem ((c.tc : Thread Cert.DenseRefIdeal.nD Cert.DenseRefIdeal.τ).loc Cert.DenseRefIdeal.main_arg1) = m ((c.tc : Thread Cert.DenseRefIdeal.nD Cert.DenseRefIdeal.τ).loc Cert.DenseRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_Passes [hPasses : Cert.Passes.Facts] : Prop :=
  ∀ (m : (ℓ : Loc Cert.Passes.nD Cert.Passes.τ Cert.Passes.sig) → Buf (Elt Bits) ℓ) (g : Dev Cert.Passes.nD → PrngReg), Pre_Passes m →
    θ_run (Cert.Passes.defs (F := Bits)) (onTc (τ := Cert.Passes.τ) (Cert.Passes.main (F := Bits))) ⟨m, fun _ => 0, g⟩ (fun r => (∀ c : Dev Cert.Passes.nD,
      r.2.mem ((c.tc : Thread Cert.Passes.nD Cert.Passes.τ).loc Cert.Passes.main_arg0) = m ((c.tc : Thread Cert.Passes.nD Cert.Passes.τ).loc Cert.Passes.main_arg0)
      ∧ r.2.mem ((c.tc : Thread Cert.Passes.nD Cert.Passes.τ).loc Cert.Passes.main_arg1) = m ((c.tc : Thread Cert.Passes.nD Cert.Passes.τ).loc Cert.Passes.main_arg1)
      ∧ r.2.mem ((c.tc : Thread Cert.Passes.nD Cert.Passes.τ).loc Cert.Passes.main_arg2) = m ((c.tc : Thread Cert.Passes.nD Cert.Passes.τ).loc Cert.Passes.main_arg2)
      ∧ r.2.mem ((c.tc : Thread Cert.Passes.nD Cert.Passes.τ).loc Cert.Passes.main_arg3) = m ((c.tc : Thread Cert.Passes.nD Cert.Passes.τ).loc Cert.Passes.main_arg3)
      ∧ r.2.mem ((c.tc : Thread Cert.Passes.nD Cert.Passes.τ).loc Cert.Passes.main_arg4) = m ((c.tc : Thread Cert.Passes.nD Cert.Passes.τ).loc Cert.Passes.main_arg4)
      ∧ r.2.mem ((c.tc : Thread Cert.Passes.nD Cert.Passes.τ).loc Cert.Passes.main_arg5) = m ((c.tc : Thread Cert.Passes.nD Cert.Passes.τ).loc Cert.Passes.main_arg5)
      ∧ r.2.mem ((c.tc : Thread Cert.Passes.nD Cert.Passes.τ).loc Cert.Passes.main_arg6) = m ((c.tc : Thread Cert.Passes.nD Cert.Passes.τ).loc Cert.Passes.main_arg6)
      ∧ r.2.mem ((c.tc : Thread Cert.Passes.nD Cert.Passes.τ).loc Cert.Passes.main_arg7) = m ((c.tc : Thread Cert.Passes.nD Cert.Passes.τ).loc Cert.Passes.main_arg7)
      ∧ r.2.mem ((c.tc : Thread Cert.Passes.nD Cert.Passes.τ).loc Cert.Passes.main_arg8) = m ((c.tc : Thread Cert.Passes.nD Cert.Passes.τ).loc Cert.Passes.main_arg8)
      ∧ r.2.mem ((c.tc : Thread Cert.Passes.nD Cert.Passes.τ).loc Cert.Passes.main_arg9) = m ((c.tc : Thread Cert.Passes.nD Cert.Passes.τ).loc Cert.Passes.main_arg9)
      ∧ r.2.mem ((c.tc : Thread Cert.Passes.nD Cert.Passes.τ).loc Cert.Passes.main_arg10) = m ((c.tc : Thread Cert.Passes.nD Cert.Passes.τ).loc Cert.Passes.main_arg10))
      ∧ r.2.sem = fun _ => 0)

def quiescent_PassesIdeal [hPassesIdeal : Cert.PassesIdeal.Facts] : Prop :=
  ∀ (m : (ℓ : Loc Cert.PassesIdeal.nD Cert.PassesIdeal.τ Cert.PassesIdeal.sig) → Buf (Elt Ideal) ℓ) (g : Dev Cert.PassesIdeal.nD → PrngReg), Pre_PassesIdeal m →
    θ_run (Cert.PassesIdeal.defs (F := Ideal)) (onTc (τ := Cert.PassesIdeal.τ) (Cert.PassesIdeal.main (F := Ideal))) ⟨m, fun _ => 0, g⟩ (fun r => (∀ c : Dev Cert.PassesIdeal.nD,
      r.2.mem ((c.tc : Thread Cert.PassesIdeal.nD Cert.PassesIdeal.τ).loc Cert.PassesIdeal.main_arg0) = m ((c.tc : Thread Cert.PassesIdeal.nD Cert.PassesIdeal.τ).loc Cert.PassesIdeal.main_arg0)
      ∧ r.2.mem ((c.tc : Thread Cert.PassesIdeal.nD Cert.PassesIdeal.τ).loc Cert.PassesIdeal.main_arg1) = m ((c.tc : Thread Cert.PassesIdeal.nD Cert.PassesIdeal.τ).loc Cert.PassesIdeal.main_arg1)
      ∧ r.2.mem ((c.tc : Thread Cert.PassesIdeal.nD Cert.PassesIdeal.τ).loc Cert.PassesIdeal.main_arg2) = m ((c.tc : Thread Cert.PassesIdeal.nD Cert.PassesIdeal.τ).loc Cert.PassesIdeal.main_arg2)
      ∧ r.2.mem ((c.tc : Thread Cert.PassesIdeal.nD Cert.PassesIdeal.τ).loc Cert.PassesIdeal.main_arg3) = m ((c.tc : Thread Cert.PassesIdeal.nD Cert.PassesIdeal.τ).loc Cert.PassesIdeal.main_arg3)
      ∧ r.2.mem ((c.tc : Thread Cert.PassesIdeal.nD Cert.PassesIdeal.τ).loc Cert.PassesIdeal.main_arg4) = m ((c.tc : Thread Cert.PassesIdeal.nD Cert.PassesIdeal.τ).loc Cert.PassesIdeal.main_arg4)
      ∧ r.2.mem ((c.tc : Thread Cert.PassesIdeal.nD Cert.PassesIdeal.τ).loc Cert.PassesIdeal.main_arg5) = m ((c.tc : Thread Cert.PassesIdeal.nD Cert.PassesIdeal.τ).loc Cert.PassesIdeal.main_arg5)
      ∧ r.2.mem ((c.tc : Thread Cert.PassesIdeal.nD Cert.PassesIdeal.τ).loc Cert.PassesIdeal.main_arg6) = m ((c.tc : Thread Cert.PassesIdeal.nD Cert.PassesIdeal.τ).loc Cert.PassesIdeal.main_arg6)
      ∧ r.2.mem ((c.tc : Thread Cert.PassesIdeal.nD Cert.PassesIdeal.τ).loc Cert.PassesIdeal.main_arg7) = m ((c.tc : Thread Cert.PassesIdeal.nD Cert.PassesIdeal.τ).loc Cert.PassesIdeal.main_arg7)
      ∧ r.2.mem ((c.tc : Thread Cert.PassesIdeal.nD Cert.PassesIdeal.τ).loc Cert.PassesIdeal.main_arg8) = m ((c.tc : Thread Cert.PassesIdeal.nD Cert.PassesIdeal.τ).loc Cert.PassesIdeal.main_arg8)
      ∧ r.2.mem ((c.tc : Thread Cert.PassesIdeal.nD Cert.PassesIdeal.τ).loc Cert.PassesIdeal.main_arg9) = m ((c.tc : Thread Cert.PassesIdeal.nD Cert.PassesIdeal.τ).loc Cert.PassesIdeal.main_arg9)
      ∧ r.2.mem ((c.tc : Thread Cert.PassesIdeal.nD Cert.PassesIdeal.τ).loc Cert.PassesIdeal.main_arg10) = m ((c.tc : Thread Cert.PassesIdeal.nD Cert.PassesIdeal.τ).loc Cert.PassesIdeal.main_arg10))
      ∧ r.2.sem = fun _ => 0)

def quiescent_PassesRefIdeal [hPassesRefIdeal : Cert.PassesRefIdeal.Facts] : Prop :=
  ∀ (m : (ℓ : Loc Cert.PassesRefIdeal.nD Cert.PassesRefIdeal.τ Cert.PassesRefIdeal.sig) → Buf (Elt Ideal) ℓ) (g : Dev Cert.PassesRefIdeal.nD → PrngReg), Pre_PassesRefIdeal m →
    θ_run (Cert.PassesRefIdeal.defs (F := Ideal)) (onTc (τ := Cert.PassesRefIdeal.τ) (Cert.PassesRefIdeal.main (F := Ideal))) ⟨m, fun _ => 0, g⟩ (fun r => (∀ c : Dev Cert.PassesRefIdeal.nD,
      r.2.mem ((c.tc : Thread Cert.PassesRefIdeal.nD Cert.PassesRefIdeal.τ).loc Cert.PassesRefIdeal.main_arg0) = m ((c.tc : Thread Cert.PassesRefIdeal.nD Cert.PassesRefIdeal.τ).loc Cert.PassesRefIdeal.main_arg0)
      ∧ r.2.mem ((c.tc : Thread Cert.PassesRefIdeal.nD Cert.PassesRefIdeal.τ).loc Cert.PassesRefIdeal.main_arg1) = m ((c.tc : Thread Cert.PassesRefIdeal.nD Cert.PassesRefIdeal.τ).loc Cert.PassesRefIdeal.main_arg1)
      ∧ r.2.mem ((c.tc : Thread Cert.PassesRefIdeal.nD Cert.PassesRefIdeal.τ).loc Cert.PassesRefIdeal.main_arg2) = m ((c.tc : Thread Cert.PassesRefIdeal.nD Cert.PassesRefIdeal.τ).loc Cert.PassesRefIdeal.main_arg2)
      ∧ r.2.mem ((c.tc : Thread Cert.PassesRefIdeal.nD Cert.PassesRefIdeal.τ).loc Cert.PassesRefIdeal.main_arg3) = m ((c.tc : Thread Cert.PassesRefIdeal.nD Cert.PassesRefIdeal.τ).loc Cert.PassesRefIdeal.main_arg3)
      ∧ r.2.mem ((c.tc : Thread Cert.PassesRefIdeal.nD Cert.PassesRefIdeal.τ).loc Cert.PassesRefIdeal.main_arg4) = m ((c.tc : Thread Cert.PassesRefIdeal.nD Cert.PassesRefIdeal.τ).loc Cert.PassesRefIdeal.main_arg4)
      ∧ r.2.mem ((c.tc : Thread Cert.PassesRefIdeal.nD Cert.PassesRefIdeal.τ).loc Cert.PassesRefIdeal.main_arg5) = m ((c.tc : Thread Cert.PassesRefIdeal.nD Cert.PassesRefIdeal.τ).loc Cert.PassesRefIdeal.main_arg5)
      ∧ r.2.mem ((c.tc : Thread Cert.PassesRefIdeal.nD Cert.PassesRefIdeal.τ).loc Cert.PassesRefIdeal.main_arg6) = m ((c.tc : Thread Cert.PassesRefIdeal.nD Cert.PassesRefIdeal.τ).loc Cert.PassesRefIdeal.main_arg6)
      ∧ r.2.mem ((c.tc : Thread Cert.PassesRefIdeal.nD Cert.PassesRefIdeal.τ).loc Cert.PassesRefIdeal.main_arg7) = m ((c.tc : Thread Cert.PassesRefIdeal.nD Cert.PassesRefIdeal.τ).loc Cert.PassesRefIdeal.main_arg7)
      ∧ r.2.mem ((c.tc : Thread Cert.PassesRefIdeal.nD Cert.PassesRefIdeal.τ).loc Cert.PassesRefIdeal.main_arg8) = m ((c.tc : Thread Cert.PassesRefIdeal.nD Cert.PassesRefIdeal.τ).loc Cert.PassesRefIdeal.main_arg8)
      ∧ r.2.mem ((c.tc : Thread Cert.PassesRefIdeal.nD Cert.PassesRefIdeal.τ).loc Cert.PassesRefIdeal.main_arg9) = m ((c.tc : Thread Cert.PassesRefIdeal.nD Cert.PassesRefIdeal.τ).loc Cert.PassesRefIdeal.main_arg9)
      ∧ r.2.mem ((c.tc : Thread Cert.PassesRefIdeal.nD Cert.PassesRefIdeal.τ).loc Cert.PassesRefIdeal.main_arg10) = m ((c.tc : Thread Cert.PassesRefIdeal.nD Cert.PassesRefIdeal.τ).loc Cert.PassesRefIdeal.main_arg10))
      ∧ r.2.sem = fun _ => 0)

def quiescent_GwFfn [hGwFfn : Cert.GwFfn.Facts] : Prop :=
  ∀ (m : (ℓ : Loc Cert.GwFfn.nD Cert.GwFfn.τ Cert.GwFfn.sig) → Buf (Elt Bits) ℓ) (g : Dev Cert.GwFfn.nD → PrngReg), Pre_GwFfn m →
    θ_run (Cert.GwFfn.defs (F := Bits)) (onTc (τ := Cert.GwFfn.τ) (Cert.GwFfn.main (F := Bits))) ⟨m, fun _ => 0, g⟩ (fun r => (∀ c : Dev Cert.GwFfn.nD,
      r.2.mem ((c.tc : Thread Cert.GwFfn.nD Cert.GwFfn.τ).loc Cert.GwFfn.main_arg0) = m ((c.tc : Thread Cert.GwFfn.nD Cert.GwFfn.τ).loc Cert.GwFfn.main_arg0)
      ∧ r.2.mem ((c.tc : Thread Cert.GwFfn.nD Cert.GwFfn.τ).loc Cert.GwFfn.main_arg1) = m ((c.tc : Thread Cert.GwFfn.nD Cert.GwFfn.τ).loc Cert.GwFfn.main_arg1))
      ∧ r.2.sem = fun _ => 0)

def quiescent_GwFfnIdeal [hGwFfnIdeal : Cert.GwFfnIdeal.Facts] : Prop :=
  ∀ (m : (ℓ : Loc Cert.GwFfnIdeal.nD Cert.GwFfnIdeal.τ Cert.GwFfnIdeal.sig) → Buf (Elt Ideal) ℓ) (g : Dev Cert.GwFfnIdeal.nD → PrngReg), Pre_GwFfnIdeal m →
    θ_run (Cert.GwFfnIdeal.defs (F := Ideal)) (onTc (τ := Cert.GwFfnIdeal.τ) (Cert.GwFfnIdeal.main (F := Ideal))) ⟨m, fun _ => 0, g⟩ (fun r => (∀ c : Dev Cert.GwFfnIdeal.nD,
      r.2.mem ((c.tc : Thread Cert.GwFfnIdeal.nD Cert.GwFfnIdeal.τ).loc Cert.GwFfnIdeal.main_arg0) = m ((c.tc : Thread Cert.GwFfnIdeal.nD Cert.GwFfnIdeal.τ).loc Cert.GwFfnIdeal.main_arg0)
      ∧ r.2.mem ((c.tc : Thread Cert.GwFfnIdeal.nD Cert.GwFfnIdeal.τ).loc Cert.GwFfnIdeal.main_arg1) = m ((c.tc : Thread Cert.GwFfnIdeal.nD Cert.GwFfnIdeal.τ).loc Cert.GwFfnIdeal.main_arg1))
      ∧ r.2.sem = fun _ => 0)

def quiescent_GwFfnRefIdeal [hGwFfnRefIdeal : Cert.GwFfnRefIdeal.Facts] : Prop :=
  ∀ (m : (ℓ : Loc Cert.GwFfnRefIdeal.nD Cert.GwFfnRefIdeal.τ Cert.GwFfnRefIdeal.sig) → Buf (Elt Ideal) ℓ) (g : Dev Cert.GwFfnRefIdeal.nD → PrngReg), Pre_GwFfnRefIdeal m →
    θ_run (Cert.GwFfnRefIdeal.defs (F := Ideal)) (onTc (τ := Cert.GwFfnRefIdeal.τ) (Cert.GwFfnRefIdeal.main (F := Ideal))) ⟨m, fun _ => 0, g⟩ (fun r => (∀ c : Dev Cert.GwFfnRefIdeal.nD,
      r.2.mem ((c.tc : Thread Cert.GwFfnRefIdeal.nD Cert.GwFfnRefIdeal.τ).loc Cert.GwFfnRefIdeal.main_arg0) = m ((c.tc : Thread Cert.GwFfnRefIdeal.nD Cert.GwFfnRefIdeal.τ).loc Cert.GwFfnRefIdeal.main_arg0)
      ∧ r.2.mem ((c.tc : Thread Cert.GwFfnRefIdeal.nD Cert.GwFfnRefIdeal.τ).loc Cert.GwFfnRefIdeal.main_arg1) = m ((c.tc : Thread Cert.GwFfnRefIdeal.nD Cert.GwFfnRefIdeal.τ).loc Cert.GwFfnRefIdeal.main_arg1))
      ∧ r.2.sem = fun _ => 0)

def quiescent_GwOut [hGwOut : Cert.GwOut.Facts] : Prop :=
  ∀ (m : (ℓ : Loc Cert.GwOut.nD Cert.GwOut.τ Cert.GwOut.sig) → Buf (Elt Bits) ℓ) (g : Dev Cert.GwOut.nD → PrngReg), Pre_GwOut m →
    θ_run (Cert.GwOut.defs (F := Bits)) (onTc (τ := Cert.GwOut.τ) (Cert.GwOut.main (F := Bits))) ⟨m, fun _ => 0, g⟩ (fun r => (∀ c : Dev Cert.GwOut.nD,
      r.2.mem ((c.tc : Thread Cert.GwOut.nD Cert.GwOut.τ).loc Cert.GwOut.main_arg0) = m ((c.tc : Thread Cert.GwOut.nD Cert.GwOut.τ).loc Cert.GwOut.main_arg0)
      ∧ r.2.mem ((c.tc : Thread Cert.GwOut.nD Cert.GwOut.τ).loc Cert.GwOut.main_arg1) = m ((c.tc : Thread Cert.GwOut.nD Cert.GwOut.τ).loc Cert.GwOut.main_arg1))
      ∧ r.2.sem = fun _ => 0)

def quiescent_GwOutIdeal [hGwOutIdeal : Cert.GwOutIdeal.Facts] : Prop :=
  ∀ (m : (ℓ : Loc Cert.GwOutIdeal.nD Cert.GwOutIdeal.τ Cert.GwOutIdeal.sig) → Buf (Elt Ideal) ℓ) (g : Dev Cert.GwOutIdeal.nD → PrngReg), Pre_GwOutIdeal m →
    θ_run (Cert.GwOutIdeal.defs (F := Ideal)) (onTc (τ := Cert.GwOutIdeal.τ) (Cert.GwOutIdeal.main (F := Ideal))) ⟨m, fun _ => 0, g⟩ (fun r => (∀ c : Dev Cert.GwOutIdeal.nD,
      r.2.mem ((c.tc : Thread Cert.GwOutIdeal.nD Cert.GwOutIdeal.τ).loc Cert.GwOutIdeal.main_arg0) = m ((c.tc : Thread Cert.GwOutIdeal.nD Cert.GwOutIdeal.τ).loc Cert.GwOutIdeal.main_arg0)
      ∧ r.2.mem ((c.tc : Thread Cert.GwOutIdeal.nD Cert.GwOutIdeal.τ).loc Cert.GwOutIdeal.main_arg1) = m ((c.tc : Thread Cert.GwOutIdeal.nD Cert.GwOutIdeal.τ).loc Cert.GwOutIdeal.main_arg1))
      ∧ r.2.sem = fun _ => 0)

def quiescent_GwOutRefIdeal [hGwOutRefIdeal : Cert.GwOutRefIdeal.Facts] : Prop :=
  ∀ (m : (ℓ : Loc Cert.GwOutRefIdeal.nD Cert.GwOutRefIdeal.τ Cert.GwOutRefIdeal.sig) → Buf (Elt Ideal) ℓ) (g : Dev Cert.GwOutRefIdeal.nD → PrngReg), Pre_GwOutRefIdeal m →
    θ_run (Cert.GwOutRefIdeal.defs (F := Ideal)) (onTc (τ := Cert.GwOutRefIdeal.τ) (Cert.GwOutRefIdeal.main (F := Ideal))) ⟨m, fun _ => 0, g⟩ (fun r => (∀ c : Dev Cert.GwOutRefIdeal.nD,
      r.2.mem ((c.tc : Thread Cert.GwOutRefIdeal.nD Cert.GwOutRefIdeal.τ).loc Cert.GwOutRefIdeal.main_arg0) = m ((c.tc : Thread Cert.GwOutRefIdeal.nD Cert.GwOutRefIdeal.τ).loc Cert.GwOutRefIdeal.main_arg0)
      ∧ r.2.mem ((c.tc : Thread Cert.GwOutRefIdeal.nD Cert.GwOutRefIdeal.τ).loc Cert.GwOutRefIdeal.main_arg1) = m ((c.tc : Thread Cert.GwOutRefIdeal.nD Cert.GwOutRefIdeal.τ).loc Cert.GwOutRefIdeal.main_arg1))
      ∧ r.2.sem = fun _ => 0)

def quiescent_GwIn [hGwIn : Cert.GwIn.Facts] : Prop :=
  ∀ (m : (ℓ : Loc Cert.GwIn.nD Cert.GwIn.τ Cert.GwIn.sig) → Buf (Elt Bits) ℓ) (g : Dev Cert.GwIn.nD → PrngReg), Pre_GwIn m →
    θ_run (Cert.GwIn.defs (F := Bits)) (onTc (τ := Cert.GwIn.τ) (Cert.GwIn.main (F := Bits))) ⟨m, fun _ => 0, g⟩ (fun r => (∀ c : Dev Cert.GwIn.nD,
      r.2.mem ((c.tc : Thread Cert.GwIn.nD Cert.GwIn.τ).loc Cert.GwIn.main_arg0) = m ((c.tc : Thread Cert.GwIn.nD Cert.GwIn.τ).loc Cert.GwIn.main_arg0)
      ∧ r.2.mem ((c.tc : Thread Cert.GwIn.nD Cert.GwIn.τ).loc Cert.GwIn.main_arg1) = m ((c.tc : Thread Cert.GwIn.nD Cert.GwIn.τ).loc Cert.GwIn.main_arg1))
      ∧ r.2.sem = fun _ => 0)

def quiescent_GwInIdeal [hGwInIdeal : Cert.GwInIdeal.Facts] : Prop :=
  ∀ (m : (ℓ : Loc Cert.GwInIdeal.nD Cert.GwInIdeal.τ Cert.GwInIdeal.sig) → Buf (Elt Ideal) ℓ) (g : Dev Cert.GwInIdeal.nD → PrngReg), Pre_GwInIdeal m →
    θ_run (Cert.GwInIdeal.defs (F := Ideal)) (onTc (τ := Cert.GwInIdeal.τ) (Cert.GwInIdeal.main (F := Ideal))) ⟨m, fun _ => 0, g⟩ (fun r => (∀ c : Dev Cert.GwInIdeal.nD,
      r.2.mem ((c.tc : Thread Cert.GwInIdeal.nD Cert.GwInIdeal.τ).loc Cert.GwInIdeal.main_arg0) = m ((c.tc : Thread Cert.GwInIdeal.nD Cert.GwInIdeal.τ).loc Cert.GwInIdeal.main_arg0)
      ∧ r.2.mem ((c.tc : Thread Cert.GwInIdeal.nD Cert.GwInIdeal.τ).loc Cert.GwInIdeal.main_arg1) = m ((c.tc : Thread Cert.GwInIdeal.nD Cert.GwInIdeal.τ).loc Cert.GwInIdeal.main_arg1))
      ∧ r.2.sem = fun _ => 0)

def quiescent_GwInRefIdeal [hGwInRefIdeal : Cert.GwInRefIdeal.Facts] : Prop :=
  ∀ (m : (ℓ : Loc Cert.GwInRefIdeal.nD Cert.GwInRefIdeal.τ Cert.GwInRefIdeal.sig) → Buf (Elt Ideal) ℓ) (g : Dev Cert.GwInRefIdeal.nD → PrngReg), Pre_GwInRefIdeal m →
    θ_run (Cert.GwInRefIdeal.defs (F := Ideal)) (onTc (τ := Cert.GwInRefIdeal.τ) (Cert.GwInRefIdeal.main (F := Ideal))) ⟨m, fun _ => 0, g⟩ (fun r => (∀ c : Dev Cert.GwInRefIdeal.nD,
      r.2.mem ((c.tc : Thread Cert.GwInRefIdeal.nD Cert.GwInRefIdeal.τ).loc Cert.GwInRefIdeal.main_arg0) = m ((c.tc : Thread Cert.GwInRefIdeal.nD Cert.GwInRefIdeal.τ).loc Cert.GwInRefIdeal.main_arg0)
      ∧ r.2.mem ((c.tc : Thread Cert.GwInRefIdeal.nD Cert.GwInRefIdeal.τ).loc Cert.GwInRefIdeal.main_arg1) = m ((c.tc : Thread Cert.GwInRefIdeal.nD Cert.GwInRefIdeal.τ).loc Cert.GwInRefIdeal.main_arg1))
      ∧ r.2.sem = fun _ => 0)

def quiescent_HidGate [hHidGate : Cert.HidGate.Facts] : Prop :=
  ∀ (m : (ℓ : Loc Cert.HidGate.nD Cert.HidGate.τ Cert.HidGate.sig) → Buf (Elt Bits) ℓ) (g : Dev Cert.HidGate.nD → PrngReg), Pre_HidGate m →
    θ_run (Cert.HidGate.defs (F := Bits)) (onTc (τ := Cert.HidGate.τ) (Cert.HidGate.main (F := Bits))) ⟨m, fun _ => 0, g⟩ (fun r => (∀ c : Dev Cert.HidGate.nD,
      r.2.mem ((c.tc : Thread Cert.HidGate.nD Cert.HidGate.τ).loc Cert.HidGate.main_arg0) = m ((c.tc : Thread Cert.HidGate.nD Cert.HidGate.τ).loc Cert.HidGate.main_arg0)
      ∧ r.2.mem ((c.tc : Thread Cert.HidGate.nD Cert.HidGate.τ).loc Cert.HidGate.main_arg1) = m ((c.tc : Thread Cert.HidGate.nD Cert.HidGate.τ).loc Cert.HidGate.main_arg1))
      ∧ r.2.sem = fun _ => 0)

def quiescent_HidGateIdeal [hHidGateIdeal : Cert.HidGateIdeal.Facts] : Prop :=
  ∀ (m : (ℓ : Loc Cert.HidGateIdeal.nD Cert.HidGateIdeal.τ Cert.HidGateIdeal.sig) → Buf (Elt Ideal) ℓ) (g : Dev Cert.HidGateIdeal.nD → PrngReg), Pre_HidGateIdeal m →
    θ_run (Cert.HidGateIdeal.defs (F := Ideal)) (onTc (τ := Cert.HidGateIdeal.τ) (Cert.HidGateIdeal.main (F := Ideal))) ⟨m, fun _ => 0, g⟩ (fun r => (∀ c : Dev Cert.HidGateIdeal.nD,
      r.2.mem ((c.tc : Thread Cert.HidGateIdeal.nD Cert.HidGateIdeal.τ).loc Cert.HidGateIdeal.main_arg0) = m ((c.tc : Thread Cert.HidGateIdeal.nD Cert.HidGateIdeal.τ).loc Cert.HidGateIdeal.main_arg0)
      ∧ r.2.mem ((c.tc : Thread Cert.HidGateIdeal.nD Cert.HidGateIdeal.τ).loc Cert.HidGateIdeal.main_arg1) = m ((c.tc : Thread Cert.HidGateIdeal.nD Cert.HidGateIdeal.τ).loc Cert.HidGateIdeal.main_arg1))
      ∧ r.2.sem = fun _ => 0)

def quiescent_HidGateRefIdeal [hHidGateRefIdeal : Cert.HidGateRefIdeal.Facts] : Prop :=
  ∀ (m : (ℓ : Loc Cert.HidGateRefIdeal.nD Cert.HidGateRefIdeal.τ Cert.HidGateRefIdeal.sig) → Buf (Elt Ideal) ℓ) (g : Dev Cert.HidGateRefIdeal.nD → PrngReg), Pre_HidGateRefIdeal m →
    θ_run (Cert.HidGateRefIdeal.defs (F := Ideal)) (onTc (τ := Cert.HidGateRefIdeal.τ) (Cert.HidGateRefIdeal.main (F := Ideal))) ⟨m, fun _ => 0, g⟩ (fun r => (∀ c : Dev Cert.HidGateRefIdeal.nD,
      r.2.mem ((c.tc : Thread Cert.HidGateRefIdeal.nD Cert.HidGateRefIdeal.τ).loc Cert.HidGateRefIdeal.main_arg0) = m ((c.tc : Thread Cert.HidGateRefIdeal.nD Cert.HidGateRefIdeal.τ).loc Cert.HidGateRefIdeal.main_arg0)
      ∧ r.2.mem ((c.tc : Thread Cert.HidGateRefIdeal.nD Cert.HidGateRefIdeal.τ).loc Cert.HidGateRefIdeal.main_arg1) = m ((c.tc : Thread Cert.HidGateRefIdeal.nD Cert.HidGateRefIdeal.τ).loc Cert.HidGateRefIdeal.main_arg1))
      ∧ r.2.sem = fun _ => 0)

def quiescent_HidUp [hHidUp : Cert.HidUp.Facts] : Prop :=
  ∀ (m : (ℓ : Loc Cert.HidUp.nD Cert.HidUp.τ Cert.HidUp.sig) → Buf (Elt Bits) ℓ) (g : Dev Cert.HidUp.nD → PrngReg), Pre_HidUp m →
    θ_run (Cert.HidUp.defs (F := Bits)) (onTc (τ := Cert.HidUp.τ) (Cert.HidUp.main (F := Bits))) ⟨m, fun _ => 0, g⟩ (fun r => (∀ c : Dev Cert.HidUp.nD,
      r.2.mem ((c.tc : Thread Cert.HidUp.nD Cert.HidUp.τ).loc Cert.HidUp.main_arg0) = m ((c.tc : Thread Cert.HidUp.nD Cert.HidUp.τ).loc Cert.HidUp.main_arg0)
      ∧ r.2.mem ((c.tc : Thread Cert.HidUp.nD Cert.HidUp.τ).loc Cert.HidUp.main_arg1) = m ((c.tc : Thread Cert.HidUp.nD Cert.HidUp.τ).loc Cert.HidUp.main_arg1)
      ∧ r.2.mem ((c.tc : Thread Cert.HidUp.nD Cert.HidUp.τ).loc Cert.HidUp.main_arg2) = m ((c.tc : Thread Cert.HidUp.nD Cert.HidUp.τ).loc Cert.HidUp.main_arg2))
      ∧ r.2.sem = fun _ => 0)

def quiescent_HidUpIdeal [hHidUpIdeal : Cert.HidUpIdeal.Facts] : Prop :=
  ∀ (m : (ℓ : Loc Cert.HidUpIdeal.nD Cert.HidUpIdeal.τ Cert.HidUpIdeal.sig) → Buf (Elt Ideal) ℓ) (g : Dev Cert.HidUpIdeal.nD → PrngReg), Pre_HidUpIdeal m →
    θ_run (Cert.HidUpIdeal.defs (F := Ideal)) (onTc (τ := Cert.HidUpIdeal.τ) (Cert.HidUpIdeal.main (F := Ideal))) ⟨m, fun _ => 0, g⟩ (fun r => (∀ c : Dev Cert.HidUpIdeal.nD,
      r.2.mem ((c.tc : Thread Cert.HidUpIdeal.nD Cert.HidUpIdeal.τ).loc Cert.HidUpIdeal.main_arg0) = m ((c.tc : Thread Cert.HidUpIdeal.nD Cert.HidUpIdeal.τ).loc Cert.HidUpIdeal.main_arg0)
      ∧ r.2.mem ((c.tc : Thread Cert.HidUpIdeal.nD Cert.HidUpIdeal.τ).loc Cert.HidUpIdeal.main_arg1) = m ((c.tc : Thread Cert.HidUpIdeal.nD Cert.HidUpIdeal.τ).loc Cert.HidUpIdeal.main_arg1)
      ∧ r.2.mem ((c.tc : Thread Cert.HidUpIdeal.nD Cert.HidUpIdeal.τ).loc Cert.HidUpIdeal.main_arg2) = m ((c.tc : Thread Cert.HidUpIdeal.nD Cert.HidUpIdeal.τ).loc Cert.HidUpIdeal.main_arg2))
      ∧ r.2.sem = fun _ => 0)

def quiescent_HidUpRefIdeal [hHidUpRefIdeal : Cert.HidUpRefIdeal.Facts] : Prop :=
  ∀ (m : (ℓ : Loc Cert.HidUpRefIdeal.nD Cert.HidUpRefIdeal.τ Cert.HidUpRefIdeal.sig) → Buf (Elt Ideal) ℓ) (g : Dev Cert.HidUpRefIdeal.nD → PrngReg), Pre_HidUpRefIdeal m →
    θ_run (Cert.HidUpRefIdeal.defs (F := Ideal)) (onTc (τ := Cert.HidUpRefIdeal.τ) (Cert.HidUpRefIdeal.main (F := Ideal))) ⟨m, fun _ => 0, g⟩ (fun r => (∀ c : Dev Cert.HidUpRefIdeal.nD,
      r.2.mem ((c.tc : Thread Cert.HidUpRefIdeal.nD Cert.HidUpRefIdeal.τ).loc Cert.HidUpRefIdeal.main_arg0) = m ((c.tc : Thread Cert.HidUpRefIdeal.nD Cert.HidUpRefIdeal.τ).loc Cert.HidUpRefIdeal.main_arg0)
      ∧ r.2.mem ((c.tc : Thread Cert.HidUpRefIdeal.nD Cert.HidUpRefIdeal.τ).loc Cert.HidUpRefIdeal.main_arg1) = m ((c.tc : Thread Cert.HidUpRefIdeal.nD Cert.HidUpRefIdeal.τ).loc Cert.HidUpRefIdeal.main_arg1)
      ∧ r.2.mem ((c.tc : Thread Cert.HidUpRefIdeal.nD Cert.HidUpRefIdeal.τ).loc Cert.HidUpRefIdeal.main_arg2) = m ((c.tc : Thread Cert.HidUpRefIdeal.nD Cert.HidUpRefIdeal.τ).loc Cert.HidUpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8)
      ∧ r.2.mem ((c.tc : Thread Cert.MixerRefIdeal.nD Cert.MixerRefIdeal.τ).loc Cert.MixerRefIdeal.main_arg9) = m ((c.tc : Thread Cert.MixerRefIdeal.nD Cert.MixerRefIdeal.τ).loc Cert.MixerRefIdeal.main_arg9))
      ∧ r.2.sem = fun _ => 0)

def quiescent_Patch [hPatch : Cert.Patch.Facts] : Prop :=
  ∀ (m : (ℓ : Loc Cert.Patch.nD Cert.Patch.τ Cert.Patch.sig) → Buf (Elt Bits) ℓ) (g : Dev Cert.Patch.nD → PrngReg), Pre_Patch m →
    θ_run (Cert.Patch.defs (F := Bits)) (onTc (τ := Cert.Patch.τ) (Cert.Patch.main (F := Bits))) ⟨m, fun _ => 0, g⟩ (fun r => (∀ c : Dev Cert.Patch.nD,
      r.2.mem ((c.tc : Thread Cert.Patch.nD Cert.Patch.τ).loc Cert.Patch.main_arg0) = m ((c.tc : Thread Cert.Patch.nD Cert.Patch.τ).loc Cert.Patch.main_arg0)
      ∧ r.2.mem ((c.tc : Thread Cert.Patch.nD Cert.Patch.τ).loc Cert.Patch.main_arg1) = m ((c.tc : Thread Cert.Patch.nD Cert.Patch.τ).loc Cert.Patch.main_arg1))
      ∧ r.2.sem = fun _ => 0)

def quiescent_PatchIdeal [hPatchIdeal : Cert.PatchIdeal.Facts] : Prop :=
  ∀ (m : (ℓ : Loc Cert.PatchIdeal.nD Cert.PatchIdeal.τ Cert.PatchIdeal.sig) → Buf (Elt Ideal) ℓ) (g : Dev Cert.PatchIdeal.nD → PrngReg), Pre_PatchIdeal m →
    θ_run (Cert.PatchIdeal.defs (F := Ideal)) (onTc (τ := Cert.PatchIdeal.τ) (Cert.PatchIdeal.main (F := Ideal))) ⟨m, fun _ => 0, g⟩ (fun r => (∀ c : Dev Cert.PatchIdeal.nD,
      r.2.mem ((c.tc : Thread Cert.PatchIdeal.nD Cert.PatchIdeal.τ).loc Cert.PatchIdeal.main_arg0) = m ((c.tc : Thread Cert.PatchIdeal.nD Cert.PatchIdeal.τ).loc Cert.PatchIdeal.main_arg0)
      ∧ r.2.mem ((c.tc : Thread Cert.PatchIdeal.nD Cert.PatchIdeal.τ).loc Cert.PatchIdeal.main_arg1) = m ((c.tc : Thread Cert.PatchIdeal.nD Cert.PatchIdeal.τ).loc Cert.PatchIdeal.main_arg1))
      ∧ r.2.sem = fun _ => 0)

def quiescent_PatchRefIdeal [hPatchRefIdeal : Cert.PatchRefIdeal.Facts] : Prop :=
  ∀ (m : (ℓ : Loc Cert.PatchRefIdeal.nD Cert.PatchRefIdeal.τ Cert.PatchRefIdeal.sig) → Buf (Elt Ideal) ℓ) (g : Dev Cert.PatchRefIdeal.nD → PrngReg), Pre_PatchRefIdeal m →
    θ_run (Cert.PatchRefIdeal.defs (F := Ideal)) (onTc (τ := Cert.PatchRefIdeal.τ) (Cert.PatchRefIdeal.main (F := Ideal))) ⟨m, fun _ => 0, g⟩ (fun r => (∀ c : Dev Cert.PatchRefIdeal.nD,
      r.2.mem ((c.tc : Thread Cert.PatchRefIdeal.nD Cert.PatchRefIdeal.τ).loc Cert.PatchRefIdeal.main_arg0) = m ((c.tc : Thread Cert.PatchRefIdeal.nD Cert.PatchRefIdeal.τ).loc Cert.PatchRefIdeal.main_arg0)
      ∧ r.2.mem ((c.tc : Thread Cert.PatchRefIdeal.nD Cert.PatchRefIdeal.τ).loc Cert.PatchRefIdeal.main_arg1) = m ((c.tc : Thread Cert.PatchRefIdeal.nD Cert.PatchRefIdeal.τ).loc Cert.PatchRefIdeal.main_arg1))
      ∧ r.2.sem = fun _ => 0)

def quiescent_PatchRef [hPatchRef : Cert.PatchRef.Facts] : Prop :=
  ∀ (m : (ℓ : Loc Cert.PatchRef.nD Cert.PatchRef.τ Cert.PatchRef.sig) → Buf (Elt Bits) ℓ) (g : Dev Cert.PatchRef.nD → PrngReg), Pre_PatchRef m →
    θ_run (Cert.PatchRef.defs (F := Bits)) (onTc (τ := Cert.PatchRef.τ) (Cert.PatchRef.main (F := Bits))) ⟨m, fun _ => 0, g⟩ (fun r => (∀ c : Dev Cert.PatchRef.nD,
      r.2.mem ((c.tc : Thread Cert.PatchRef.nD Cert.PatchRef.τ).loc Cert.PatchRef.main_arg0) = m ((c.tc : Thread Cert.PatchRef.nD Cert.PatchRef.τ).loc Cert.PatchRef.main_arg0)
      ∧ r.2.mem ((c.tc : Thread Cert.PatchRef.nD Cert.PatchRef.τ).loc Cert.PatchRef.main_arg1) = m ((c.tc : Thread Cert.PatchRef.nD Cert.PatchRef.τ).loc Cert.PatchRef.main_arg1))
      ∧ r.2.sem = fun _ => 0)

def preserves_Kernel_KernelIdeal : Prop :=
  True

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.block ⟨2, ![3328, 2048]⟩ ⟨2, ![26624, 2048]⟩ 0 8 c (m' (((0 : Dev Cert.Reference.nD).tc : Thread Cert.Reference.nD Cert.Reference.τ).loc Cert.Reference.main_arg0))
      ∧ m ((c.tc : Thread Cert.Kernel.nD Cert.Kernel.τ).loc Cert.Kernel.main_arg1) = Layout.block ⟨2, ![2048, 2048]⟩ ⟨2, ![16384, 2048]⟩ 0 8 c (m' (((0 : Dev Cert.Reference.nD).tc : Thread Cert.Reference.nD Cert.Reference.τ).loc Cert.Reference.main_arg1))
      ∧ m ((c.tc : Thread Cert.Kernel.nD Cert.Kernel.τ).loc Cert.Kernel.main_arg2) = Layout.block ⟨2, ![5632, 2048]⟩ ⟨2, ![45056, 2048]⟩ 0 8 c (m' (((0 : Dev Cert.Reference.nD).tc : Thread Cert.Reference.nD Cert.Reference.τ).loc Cert.Reference.main_arg2))
      ∧ m ((c.tc : Thread Cert.Kernel.nD Cert.Kernel.τ).loc Cert.Kernel.main_arg3) = Layout.block ⟨2, ![5632, 2048]⟩ ⟨2, ![45056, 2048]⟩ 0 8 c (m' (((0 : Dev Cert.Reference.nD).tc : Thread Cert.Reference.nD Cert.Reference.τ).loc Cert.Reference.main_arg3))
      ∧ m ((c.tc : Thread Cert.Kernel.nD Cert.Kernel.τ).loc Cert.Kernel.main_arg4) = Layout.block ⟨2, ![5632, 2048]⟩ ⟨2, ![45056, 2048]⟩ 0 8 c (m' (((0 : Dev Cert.Reference.nD).tc : Thread Cert.Reference.nD Cert.Reference.τ).loc Cert.Reference.main_arg4))) →
    ∃ (v0 : Buf (Elt Bits) (((0 : Dev Cert.Reference.nD).tc : Thread Cert.Reference.nD Cert.Reference.τ).loc Cert.Reference.main_v2)) (v1 : Buf (Elt Bits) (((0 : Dev Cert.Reference.nD).tc : Thread Cert.Reference.nD Cert.Reference.τ).loc Cert.Reference.main_v5)) (v2 : Buf (Elt Bits) (((0 : Dev Cert.Reference.nD).tc : Thread Cert.Reference.nD Cert.Reference.τ).loc Cert.Reference.main_v8)) (v3 : Buf (Elt Bits) (((0 : Dev Cert.Reference.nD).tc : Thread Cert.Reference.nD Cert.Reference.τ).loc Cert.Reference.main_v11)) (v4 : Buf (Elt Bits) (((0 : Dev Cert.Reference.nD).tc : Thread Cert.Reference.nD Cert.Reference.τ).loc Cert.Reference.main_v14)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1_0) = Layout.block ⟨3, ![8, 416, 2048]⟩ ⟨3, ![64, 416, 2048]⟩ 0 8 c v0
          ∧ r.2.mem ((c.tc : Thread Cert.Kernel.nD Cert.Kernel.τ).loc Cert.Kernel.main_v1_1) = Layout.block ⟨3, ![8, 256, 2048]⟩ ⟨3, ![64, 256, 2048]⟩ 0 8 c v1
          ∧ r.2.mem ((c.tc : Thread Cert.Kernel.nD Cert.Kernel.τ).loc Cert.Kernel.main_v1_2) = Layout.block ⟨3, ![8, 704, 2048]⟩ ⟨3, ![64, 704, 2048]⟩ 0 8 c v2
          ∧ r.2.mem ((c.tc : Thread Cert.Kernel.nD Cert.Kernel.τ).loc Cert.Kernel.main_v1_3) = Layout.block ⟨3, ![8, 704, 2048]⟩ ⟨3, ![64, 704, 2048]⟩ 0 8 c v3
          ∧ r.2.mem ((c.tc : Thread Cert.Kernel.nD Cert.Kernel.τ).loc Cert.Kernel.main_v1_4) = Layout.block ⟨3, ![8, 704, 2048]⟩ ⟨3, ![64, 704, 2048]⟩ 0 8 c v4
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v2) = v0
          ∧ r.2.mem (((0 : Dev Cert.Reference.nD).tc : Thread Cert.Reference.nD Cert.Reference.τ).loc Cert.Reference.main_v5) = v1
          ∧ r.2.mem (((0 : Dev Cert.Reference.nD).tc : Thread Cert.Reference.nD Cert.Reference.τ).loc Cert.Reference.main_v8) = v2
          ∧ r.2.mem (((0 : Dev Cert.Reference.nD).tc : Thread Cert.Reference.nD Cert.Reference.τ).loc Cert.Reference.main_v11) = v3
          ∧ r.2.mem (((0 : Dev Cert.Reference.nD).tc : Thread Cert.Reference.nD Cert.Reference.τ).loc Cert.Reference.main_v14) = v4
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1)
          ∧ r.2.mem (((0 : Dev Cert.Reference.nD).tc : Thread Cert.Reference.nD Cert.Reference.τ).loc Cert.Reference.main_arg2) = m' (((0 : Dev Cert.Reference.nD).tc : Thread Cert.Reference.nD Cert.Reference.τ).loc Cert.Reference.main_arg2)
          ∧ r.2.mem (((0 : Dev Cert.Reference.nD).tc : Thread Cert.Reference.nD Cert.Reference.τ).loc Cert.Reference.main_arg3) = m' (((0 : Dev Cert.Reference.nD).tc : Thread Cert.Reference.nD Cert.Reference.τ).loc Cert.Reference.main_arg3)
          ∧ r.2.mem (((0 : Dev Cert.Reference.nD).tc : Thread Cert.Reference.nD Cert.Reference.τ).loc Cert.Reference.main_arg4) = m' (((0 : Dev Cert.Reference.nD).tc : Thread Cert.Reference.nD Cert.Reference.τ).loc Cert.Reference.main_arg4))

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![3328, 2048]⟩ ⟨2, ![26624, 2048]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 2048]⟩ ⟨2, ![16384, 2048]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![5632, 2048]⟩ ⟨2, ![45056, 2048]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![5632, 2048]⟩ ⟨2, ![45056, 2048]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![5632, 2048]⟩ ⟨2, ![45056, 2048]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v2)) (v1 : Buf (Elt Ideal) (((0 : Dev Cert.ReferenceIdeal.nD).tc : Thread Cert.ReferenceIdeal.nD Cert.ReferenceIdeal.τ).loc Cert.ReferenceIdeal.main_v5)) (v2 : Buf (Elt Ideal) (((0 : Dev Cert.ReferenceIdeal.nD).tc : Thread Cert.ReferenceIdeal.nD Cert.ReferenceIdeal.τ).loc Cert.ReferenceIdeal.main_v8)) (v3 : Buf (Elt Ideal) (((0 : Dev Cert.ReferenceIdeal.nD).tc : Thread Cert.ReferenceIdeal.nD Cert.ReferenceIdeal.τ).loc Cert.ReferenceIdeal.main_v11)) (v4 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨3, ![8, 416, 2048]⟩ ⟨3, ![64, 416, 2048]⟩ 0 8 c v0
          ∧ r.2.mem ((c.tc : Thread Cert.KernelIdeal.nD Cert.KernelIdeal.τ).loc Cert.KernelIdeal.main_v1_1) = Layout.block ⟨3, ![8, 256, 2048]⟩ ⟨3, ![64, 256, 2048]⟩ 0 8 c v1
          ∧ r.2.mem ((c.tc : Thread Cert.KernelIdeal.nD Cert.KernelIdeal.τ).loc Cert.KernelIdeal.main_v1_2) = Layout.block ⟨3, ![8, 704, 2048]⟩ ⟨3, ![64, 704, 2048]⟩ 0 8 c v2
          ∧ r.2.mem ((c.tc : Thread Cert.KernelIdeal.nD Cert.KernelIdeal.τ).loc Cert.KernelIdeal.main_v1_3) = Layout.block ⟨3, ![8, 704, 2048]⟩ ⟨3, ![64, 704, 2048]⟩ 0 8 c v3
          ∧ r.2.mem ((c.tc : Thread Cert.KernelIdeal.nD Cert.KernelIdeal.τ).loc Cert.KernelIdeal.main_v1_4) = Layout.block ⟨3, ![8, 704, 2048]⟩ ⟨3, ![64, 704, 2048]⟩ 0 8 c v4
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_v5) = v1
          ∧ r.2.mem (((0 : Dev Cert.ReferenceIdeal.nD).tc : Thread Cert.ReferenceIdeal.nD Cert.ReferenceIdeal.τ).loc Cert.ReferenceIdeal.main_v8) = v2
          ∧ r.2.mem (((0 : Dev Cert.ReferenceIdeal.nD).tc : Thread Cert.ReferenceIdeal.nD Cert.ReferenceIdeal.τ).loc Cert.ReferenceIdeal.main_v11) = v3
          ∧ r.2.mem (((0 : Dev Cert.ReferenceIdeal.nD).tc : Thread Cert.ReferenceIdeal.nD Cert.ReferenceIdeal.τ).loc Cert.ReferenceIdeal.main_v14) = v4
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def preserves_Update_UpdateIdeal : Prop :=
  True

def algebraic_UpdateIdeal_UpdateRefIdeal [hUpdateIdeal : Cert.UpdateIdeal.Facts] [hUpdateRefIdeal : Cert.UpdateRefIdeal.Facts] : Prop :=
  ∀ (m : (ℓ : Loc Cert.UpdateIdeal.nD Cert.UpdateIdeal.τ Cert.UpdateIdeal.sig) → Buf (Elt Ideal) ℓ) (g : Dev Cert.UpdateIdeal.nD → PrngReg)
    (m' : (ℓ : Loc Cert.UpdateRefIdeal.nD Cert.UpdateRefIdeal.τ Cert.UpdateRefIdeal.sig) → Buf (Elt Ideal) ℓ) (g' : Dev Cert.UpdateRefIdeal.nD → PrngReg), Pre_UpdateIdeal m →
    (∀ c : Dev Cert.UpdateIdeal.nD,
      m' ((c.tc : Thread Cert.UpdateRefIdeal.nD Cert.UpdateRefIdeal.τ).loc Cert.UpdateRefIdeal.main_arg0) = m ((c.tc : Thread Cert.UpdateIdeal.nD Cert.UpdateIdeal.τ).loc Cert.UpdateIdeal.main_arg0)
      ∧ m' ((c.tc : Thread Cert.UpdateRefIdeal.nD Cert.UpdateRefIdeal.τ).loc Cert.UpdateRefIdeal.main_arg1) = m ((c.tc : Thread Cert.UpdateIdeal.nD Cert.UpdateIdeal.τ).loc Cert.UpdateIdeal.main_arg1)
      ∧ m' ((c.tc : Thread Cert.UpdateRefIdeal.nD Cert.UpdateRefIdeal.τ).loc Cert.UpdateRefIdeal.main_arg2) = m ((c.tc : Thread Cert.UpdateIdeal.nD Cert.UpdateIdeal.τ).loc Cert.UpdateIdeal.main_arg2)
      ∧ m' ((c.tc : Thread Cert.UpdateRefIdeal.nD Cert.UpdateRefIdeal.τ).loc Cert.UpdateRefIdeal.main_arg3) = m ((c.tc : Thread Cert.UpdateIdeal.nD Cert.UpdateIdeal.τ).loc Cert.UpdateIdeal.main_arg3)
      ∧ m' ((c.tc : Thread Cert.UpdateRefIdeal.nD Cert.UpdateRefIdeal.τ).loc Cert.UpdateRefIdeal.main_arg4) = m ((c.tc : Thread Cert.UpdateIdeal.nD Cert.UpdateIdeal.τ).loc Cert.UpdateIdeal.main_arg4)
      ∧ m' ((c.tc : Thread Cert.UpdateRefIdeal.nD Cert.UpdateRefIdeal.τ).loc Cert.UpdateRefIdeal.main_arg5) = m ((c.tc : Thread Cert.UpdateIdeal.nD Cert.UpdateIdeal.τ).loc Cert.UpdateIdeal.main_arg5)
      ∧ m' ((c.tc : Thread Cert.UpdateRefIdeal.nD Cert.UpdateRefIdeal.τ).loc Cert.UpdateRefIdeal.main_arg6) = m ((c.tc : Thread Cert.UpdateIdeal.nD Cert.UpdateIdeal.τ).loc Cert.UpdateIdeal.main_arg6)
      ∧ m' ((c.tc : Thread Cert.UpdateRefIdeal.nD Cert.UpdateRefIdeal.τ).loc Cert.UpdateRefIdeal.main_arg7) = m ((c.tc : Thread Cert.UpdateIdeal.nD Cert.UpdateIdeal.τ).loc Cert.UpdateIdeal.main_arg7)
      ∧ m' ((c.tc : Thread Cert.UpdateRefIdeal.nD Cert.UpdateRefIdeal.τ).loc Cert.UpdateRefIdeal.main_arg8) = m ((c.tc : Thread Cert.UpdateIdeal.nD Cert.UpdateIdeal.τ).loc Cert.UpdateIdeal.main_arg8)
      ∧ m' ((c.tc : Thread Cert.UpdateRefIdeal.nD Cert.UpdateRefIdeal.τ).loc Cert.UpdateRefIdeal.main_arg9) = m ((c.tc : Thread Cert.UpdateIdeal.nD Cert.UpdateIdeal.τ).loc Cert.UpdateIdeal.main_arg9)
      ∧ m' ((c.tc : Thread Cert.UpdateRefIdeal.nD Cert.UpdateRefIdeal.τ).loc Cert.UpdateRefIdeal.main_arg10) = m ((c.tc : Thread Cert.UpdateIdeal.nD Cert.UpdateIdeal.τ).loc Cert.UpdateIdeal.main_arg10)
      ∧ m' ((c.tc : Thread Cert.UpdateRefIdeal.nD Cert.UpdateRefIdeal.τ).loc Cert.UpdateRefIdeal.main_arg11) = m ((c.tc : Thread Cert.UpdateIdeal.nD Cert.UpdateIdeal.τ).loc Cert.UpdateIdeal.main_arg11)
      ∧ m' ((c.tc : Thread Cert.UpdateRefIdeal.nD Cert.UpdateRefIdeal.τ).loc Cert.UpdateRefIdeal.main_arg12) = m ((c.tc : Thread Cert.UpdateIdeal.nD Cert.UpdateIdeal.τ).loc Cert.UpdateIdeal.main_arg12)
      ∧ m' ((c.tc : Thread Cert.UpdateRefIdeal.nD Cert.UpdateRefIdeal.τ).loc Cert.UpdateRefIdeal.main_arg13) = m ((c.tc : Thread Cert.UpdateIdeal.nD Cert.UpdateIdeal.τ).loc Cert.UpdateIdeal.main_arg13)
      ∧ m' ((c.tc : Thread Cert.UpdateRefIdeal.nD Cert.UpdateRefIdeal.τ).loc Cert.UpdateRefIdeal.main_arg14) = m ((c.tc : Thread Cert.UpdateIdeal.nD Cert.UpdateIdeal.τ).loc Cert.UpdateIdeal.main_arg14)
      ∧ m' ((c.tc : Thread Cert.UpdateRefIdeal.nD Cert.UpdateRefIdeal.τ).loc Cert.UpdateRefIdeal.main_arg15) = m ((c.tc : Thread Cert.UpdateIdeal.nD Cert.UpdateIdeal.τ).loc Cert.UpdateIdeal.main_arg15)
      ∧ m' ((c.tc : Thread Cert.UpdateRefIdeal.nD Cert.UpdateRefIdeal.τ).loc Cert.UpdateRefIdeal.main_arg16) = m ((c.tc : Thread Cert.UpdateIdeal.nD Cert.UpdateIdeal.τ).loc Cert.UpdateIdeal.main_arg16)
      ∧ m' ((c.tc : Thread Cert.UpdateRefIdeal.nD Cert.UpdateRefIdeal.τ).loc Cert.UpdateRefIdeal.main_arg17) = m ((c.tc : Thread Cert.UpdateIdeal.nD Cert.UpdateIdeal.τ).loc Cert.UpdateIdeal.main_arg17)
      ∧ m' ((c.tc : Thread Cert.UpdateRefIdeal.nD Cert.UpdateRefIdeal.τ).loc Cert.UpdateRefIdeal.main_arg18) = m ((c.tc : Thread Cert.UpdateIdeal.nD Cert.UpdateIdeal.τ).loc Cert.UpdateIdeal.main_arg18)
      ∧ m' ((c.tc : Thread Cert.UpdateRefIdeal.nD Cert.UpdateRefIdeal.τ).loc Cert.UpdateRefIdeal.main_arg19) = m ((c.tc : Thread Cert.UpdateIdeal.nD Cert.UpdateIdeal.τ).loc Cert.UpdateIdeal.main_arg19)) →
    ∃ (v0 : (c : Dev Cert.UpdateIdeal.nD) → Buf (Elt Ideal) ((c.tc : Thread Cert.UpdateIdeal.nD Cert.UpdateIdeal.τ).loc Cert.UpdateIdeal.main_v6)) (v1 : (c : Dev Cert.UpdateIdeal.nD) → Buf (Elt Ideal) ((c.tc : Thread Cert.UpdateIdeal.nD Cert.UpdateIdeal.τ).loc Cert.UpdateIdeal.main_v7)) (v2 : (c : Dev Cert.UpdateIdeal.nD) → Buf (Elt Ideal) ((c.tc : Thread Cert.UpdateIdeal.nD Cert.UpdateIdeal.τ).loc Cert.UpdateIdeal.main_v8)) (v3 : (c : Dev Cert.UpdateIdeal.nD) → Buf (Elt Ideal) ((c.tc : Thread Cert.UpdateIdeal.nD Cert.UpdateIdeal.τ).loc Cert.UpdateIdeal.main_v9)) (v4 : (c : Dev Cert.UpdateIdeal.nD) → Buf (Elt Ideal) ((c.tc : Thread Cert.UpdateIdeal.nD Cert.UpdateIdeal.τ).loc Cert.UpdateIdeal.main_v15)) (v5 : (c : Dev Cert.UpdateIdeal.nD) → Buf (Elt Ideal) ((c.tc : Thread Cert.UpdateIdeal.nD Cert.UpdateIdeal.τ).loc Cert.UpdateIdeal.main_v16)) (v6 : (c : Dev Cert.UpdateIdeal.nD) → Buf (Elt Ideal) ((c.tc : Thread Cert.UpdateIdeal.nD Cert.UpdateIdeal.τ).loc Cert.UpdateIdeal.main_v17)) (v7 : (c : Dev Cert.UpdateIdeal.nD) → Buf (Elt Ideal) ((c.tc : Thread Cert.UpdateIdeal.nD Cert.UpdateIdeal.τ).loc Cert.UpdateIdeal.main_v18)) (v8 : (c : Dev Cert.UpdateIdeal.nD) → Buf (Elt Ideal) ((c.tc : Thread Cert.UpdateIdeal.nD Cert.UpdateIdeal.τ).loc Cert.UpdateIdeal.main_v25)) (v9 : (c : Dev Cert.UpdateIdeal.nD) → Buf (Elt Ideal) ((c.tc : Thread Cert.UpdateIdeal.nD Cert.UpdateIdeal.τ).loc Cert.UpdateIdeal.main_v26)) (v10 : (c : Dev Cert.UpdateIdeal.nD) → Buf (Elt Ideal) ((c.tc : Thread Cert.UpdateIdeal.nD Cert.UpdateIdeal.τ).loc Cert.UpdateIdeal.main_v27)) (v11 : (c : Dev Cert.UpdateIdeal.nD) → Buf (Elt Ideal) ((c.tc : Thread Cert.UpdateIdeal.nD Cert.UpdateIdeal.τ).loc Cert.UpdateIdeal.main_v28)) (v12 : (c : Dev Cert.UpdateIdeal.nD) → Buf (Elt Ideal) ((c.tc : Thread Cert.UpdateIdeal.nD Cert.UpdateIdeal.τ).loc Cert.UpdateIdeal.main_v35)) (v13 : (c : Dev Cert.UpdateIdeal.nD) → Buf (Elt Ideal) ((c.tc : Thread Cert.UpdateIdeal.nD Cert.UpdateIdeal.τ).loc Cert.UpdateIdeal.main_v36)) (v14 : (c : Dev Cert.UpdateIdeal.nD) → Buf (Elt Ideal) ((c.tc : Thread Cert.UpdateIdeal.nD Cert.UpdateIdeal.τ).loc Cert.UpdateIdeal.main_v37)) (v15 : (c : Dev Cert.UpdateIdeal.nD) → Buf (Elt Ideal) ((c.tc : Thread Cert.UpdateIdeal.nD Cert.UpdateIdeal.τ).loc Cert.UpdateIdeal.main_v38)) (v16 : (c : Dev Cert.UpdateIdeal.nD) → Buf (Elt Ideal) ((c.tc : Thread Cert.UpdateIdeal.nD Cert.UpdateIdeal.τ).loc Cert.UpdateIdeal.main_v44)) (v17 : (c : Dev Cert.UpdateIdeal.nD) → Buf (Elt Ideal) ((c.tc : Thread Cert.UpdateIdeal.nD Cert.UpdateIdeal.τ).loc Cert.UpdateIdeal.main_v45)) (v18 : (c : Dev Cert.UpdateIdeal.nD) → Buf (Elt Ideal) ((c.tc : Thread Cert.UpdateIdeal.nD Cert.UpdateIdeal.τ).loc Cert.UpdateIdeal.main_v46)) (v19 : (c : Dev Cert.UpdateIdeal.nD) → Buf (Elt Ideal) ((c.tc : Thread Cert.UpdateIdeal.nD Cert.UpdateIdeal.τ).loc Cert.UpdateIdeal.main_v47)),
      θ_run (Cert.UpdateIdeal.defs (F := Ideal)) (onTc (τ := Cert.UpdateIdeal.τ) (Cert.UpdateIdeal.main (F := Ideal))) ⟨m, fun _ => 0, g⟩ (fun r => ∀ c : Dev Cert.UpdateIdeal.nD,
          r.2.mem ((c.tc : Thread Cert.UpdateIdeal.nD Cert.UpdateIdeal.τ).loc Cert.UpdateIdeal.main_v6) = v0 c
          ∧ r.2.mem ((c.tc : Thread Cert.UpdateIdeal.nD Cert.UpdateIdeal.τ).loc Cert.UpdateIdeal.main_v7) = v1 c
          ∧ r.2.mem ((c.tc : Thread Cert.UpdateIdeal.nD Cert.UpdateIdeal.τ).loc Cert.UpdateIdeal.main_v8) = v2 c
          ∧ r.2.mem ((c.tc : Thread Cert.UpdateIdeal.nD Cert.UpdateIdeal.τ).loc Cert.UpdateIdeal.main_v9) = v3 c
          ∧ r.2.mem ((c.tc : Thread Cert.UpdateIdeal.nD Cert.UpdateIdeal.τ).loc Cert.UpdateIdeal.main_v15) = v4 c
          ∧ r.2.mem ((c.tc : Thread Cert.UpdateIdeal.nD Cert.UpdateIdeal.τ).loc Cert.UpdateIdeal.main_v16) = v5 c
          ∧ r.2.mem ((c.tc : Thread Cert.UpdateIdeal.nD Cert.UpdateIdeal.τ).loc Cert.UpdateIdeal.main_v17) = v6 c
          ∧ r.2.mem ((c.tc : Thread Cert.UpdateIdeal.nD Cert.UpdateIdeal.τ).loc Cert.UpdateIdeal.main_v18) = v7 c
          ∧ r.2.mem ((c.tc : Thread Cert.UpdateIdeal.nD Cert.UpdateIdeal.τ).loc Cert.UpdateIdeal.main_v25) = v8 c
          ∧ r.2.mem ((c.tc : Thread Cert.UpdateIdeal.nD Cert.UpdateIdeal.τ).loc Cert.UpdateIdeal.main_v26) = v9 c
          ∧ r.2.mem ((c.tc : Thread Cert.UpdateIdeal.nD Cert.UpdateIdeal.τ).loc Cert.UpdateIdeal.main_v27) = v10 c
          ∧ r.2.mem ((c.tc : Thread Cert.UpdateIdeal.nD Cert.UpdateIdeal.τ).loc Cert.UpdateIdeal.main_v28) = v11 c
          ∧ r.2.mem ((c.tc : Thread Cert.UpdateIdeal.nD Cert.UpdateIdeal.τ).loc Cert.UpdateIdeal.main_v35) = v12 c
          ∧ r.2.mem ((c.tc : Thread Cert.UpdateIdeal.nD Cert.UpdateIdeal.τ).loc Cert.UpdateIdeal.main_v36) = v13 c
          ∧ r.2.mem ((c.tc : Thread Cert.UpdateIdeal.nD Cert.UpdateIdeal.τ).loc Cert.UpdateIdeal.main_v37) = v14 c
          ∧ r.2.mem ((c.tc : Thread Cert.UpdateIdeal.nD Cert.UpdateIdeal.τ).loc Cert.UpdateIdeal.main_v38) = v15 c
          ∧ r.2.mem ((c.tc : Thread Cert.UpdateIdeal.nD Cert.UpdateIdeal.τ).loc Cert.UpdateIdeal.main_v44) = v16 c
          ∧ r.2.mem ((c.tc : Thread Cert.UpdateIdeal.nD Cert.UpdateIdeal.τ).loc Cert.UpdateIdeal.main_v45) = v17 c
          ∧ r.2.mem ((c.tc : Thread Cert.UpdateIdeal.nD Cert.UpdateIdeal.τ).loc Cert.UpdateIdeal.main_v46) = v18 c
          ∧ r.2.mem ((c.tc : Thread Cert.UpdateIdeal.nD Cert.UpdateIdeal.τ).loc Cert.UpdateIdeal.main_v47) = v19 c
          ∧ r.2.mem ((c.tc : Thread Cert.UpdateIdeal.nD Cert.UpdateIdeal.τ).loc Cert.UpdateIdeal.main_arg0) = m ((c.tc : Thread Cert.UpdateIdeal.nD Cert.UpdateIdeal.τ).loc Cert.UpdateIdeal.main_arg0)
          ∧ r.2.mem ((c.tc : Thread Cert.UpdateIdeal.nD Cert.UpdateIdeal.τ).loc Cert.UpdateIdeal.main_arg1) = m ((c.tc : Thread Cert.UpdateIdeal.nD Cert.UpdateIdeal.τ).loc Cert.UpdateIdeal.main_arg1)
          ∧ r.2.mem ((c.tc : Thread Cert.UpdateIdeal.nD Cert.UpdateIdeal.τ).loc Cert.UpdateIdeal.main_arg2) = m ((c.tc : Thread Cert.UpdateIdeal.nD Cert.UpdateIdeal.τ).loc Cert.UpdateIdeal.main_arg2)
          ∧ r.2.mem ((c.tc : Thread Cert.UpdateIdeal.nD Cert.UpdateIdeal.τ).loc Cert.UpdateIdeal.main_arg3) = m ((c.tc : Thread Cert.UpdateIdeal.nD Cert.UpdateIdeal.τ).loc Cert.UpdateIdeal.main_arg3)
          ∧ r.2.mem ((c.tc : Thread Cert.UpdateIdeal.nD Cert.UpdateIdeal.τ).loc Cert.UpdateIdeal.main_arg4) = m ((c.tc : Thread Cert.UpdateIdeal.nD Cert.UpdateIdeal.τ).loc Cert.UpdateIdeal.main_arg4)
          ∧ r.2.mem ((c.tc : Thread Cert.UpdateIdeal.nD Cert.UpdateIdeal.τ).loc Cert.UpdateIdeal.main_arg5) = m ((c.tc : Thread Cert.UpdateIdeal.nD Cert.UpdateIdeal.τ).loc Cert.UpdateIdeal.main_arg5)
          ∧ r.2.mem ((c.tc : Thread Cert.UpdateIdeal.nD Cert.UpdateIdeal.τ).loc Cert.UpdateIdeal.main_arg6) = m ((c.tc : Thread Cert.UpdateIdeal.nD Cert.UpdateIdeal.τ).loc Cert.UpdateIdeal.main_arg6)
          ∧ r.2.mem ((c.tc : Thread Cert.UpdateIdeal.nD Cert.UpdateIdeal.τ).loc Cert.UpdateIdeal.main_arg7) = m ((c.tc : Thread Cert.UpdateIdeal.nD Cert.UpdateIdeal.τ).loc Cert.UpdateIdeal.main_arg7)
          ∧ r.2.mem ((c.tc : Thread Cert.UpdateIdeal.nD Cert.UpdateIdeal.τ).loc Cert.UpdateIdeal.main_arg8) = m ((c.tc : Thread Cert.UpdateIdeal.nD Cert.UpdateIdeal.τ).loc Cert.UpdateIdeal.main_arg8)
          ∧ r.2.mem ((c.tc : Thread Cert.UpdateIdeal.nD Cert.UpdateIdeal.τ).loc Cert.UpdateIdeal.main_arg9) = m ((c.tc : Thread Cert.UpdateIdeal.nD Cert.UpdateIdeal.τ).loc Cert.UpdateIdeal.main_arg9)
          ∧ r.2.mem ((c.tc : Thread Cert.UpdateIdeal.nD Cert.UpdateIdeal.τ).loc Cert.UpdateIdeal.main_arg10) = m ((c.tc : Thread Cert.UpdateIdeal.nD Cert.UpdateIdeal.τ).loc Cert.UpdateIdeal.main_arg10)
          ∧ r.2.mem ((c.tc : Thread Cert.UpdateIdeal.nD Cert.UpdateIdeal.τ).loc Cert.UpdateIdeal.main_arg11) = m ((c.tc : Thread Cert.UpdateIdeal.nD Cert.UpdateIdeal.τ).loc Cert.UpdateIdeal.main_arg11)
          ∧ r.2.mem ((c.tc : Thread Cert.UpdateIdeal.nD Cert.UpdateIdeal.τ).loc Cert.UpdateIdeal.main_arg12) = m ((c.tc : Thread Cert.UpdateIdeal.nD Cert.UpdateIdeal.τ).loc Cert.UpdateIdeal.main_arg12)
          ∧ r.2.mem ((c.tc : Thread Cert.UpdateIdeal.nD Cert.UpdateIdeal.τ).loc Cert.UpdateIdeal.main_arg13) = m ((c.tc : Thread Cert.UpdateIdeal.nD Cert.UpdateIdeal.τ).loc Cert.UpdateIdeal.main_arg13)
          ∧ r.2.mem ((c.tc : Thread Cert.UpdateIdeal.nD Cert.UpdateIdeal.τ).loc Cert.UpdateIdeal.main_arg14) = m ((c.tc : Thread Cert.UpdateIdeal.nD Cert.UpdateIdeal.τ).loc Cert.UpdateIdeal.main_arg14)
          ∧ r.2.mem ((c.tc : Thread Cert.UpdateIdeal.nD Cert.UpdateIdeal.τ).loc Cert.UpdateIdeal.main_arg15) = m ((c.tc : Thread Cert.UpdateIdeal.nD Cert.UpdateIdeal.τ).loc Cert.UpdateIdeal.main_arg15)
          ∧ r.2.mem ((c.tc : Thread Cert.UpdateIdeal.nD Cert.UpdateIdeal.τ).loc Cert.UpdateIdeal.main_arg16) = m ((c.tc : Thread Cert.UpdateIdeal.nD Cert.UpdateIdeal.τ).loc Cert.UpdateIdeal.main_arg16)
          ∧ r.2.mem ((c.tc : Thread Cert.UpdateIdeal.nD Cert.UpdateIdeal.τ).loc Cert.UpdateIdeal.main_arg17) = m ((c.tc : Thread Cert.UpdateIdeal.nD Cert.UpdateIdeal.τ).loc Cert.UpdateIdeal.main_arg17)
          ∧ r.2.mem ((c.tc : Thread Cert.UpdateIdeal.nD Cert.UpdateIdeal.τ).loc Cert.UpdateIdeal.main_arg18) = m ((c.tc : Thread Cert.UpdateIdeal.nD Cert.UpdateIdeal.τ).loc Cert.UpdateIdeal.main_arg18)
          ∧ r.2.mem ((c.tc : Thread Cert.UpdateIdeal.nD Cert.UpdateIdeal.τ).loc Cert.UpdateIdeal.main_arg19) = m ((c.tc : Thread Cert.UpdateIdeal.nD Cert.UpdateIdeal.τ).loc Cert.UpdateIdeal.main_arg19))
      ∧ θ_run (Cert.UpdateRefIdeal.defs (F := Ideal)) (onTc (τ := Cert.UpdateRefIdeal.τ) (Cert.UpdateRefIdeal.main (F := Ideal))) ⟨m', fun _ => 0, g'⟩ (fun r => ∀ c : Dev Cert.UpdateRefIdeal.nD,
          r.2.mem ((c.tc : Thread Cert.UpdateRefIdeal.nD Cert.UpdateRefIdeal.τ).loc Cert.UpdateRefIdeal.main_v3) = v0 c
          ∧ r.2.mem ((c.tc : Thread Cert.UpdateRefIdeal.nD Cert.UpdateRefIdeal.τ).loc Cert.UpdateRefIdeal.main_v27) = v1 c
          ∧ r.2.mem ((c.tc : Thread Cert.UpdateRefIdeal.nD Cert.UpdateRefIdeal.τ).loc Cert.UpdateRefIdeal.main_v8) = v2 c
          ∧ r.2.mem ((c.tc : Thread Cert.UpdateRefIdeal.nD Cert.UpdateRefIdeal.τ).loc Cert.UpdateRefIdeal.main_v14) = v3 c
          ∧ r.2.mem ((c.tc : Thread Cert.UpdateRefIdeal.nD Cert.UpdateRefIdeal.τ).loc Cert.UpdateRefIdeal.main_v30) = v4 c
          ∧ r.2.mem ((c.tc : Thread Cert.UpdateRefIdeal.nD Cert.UpdateRefIdeal.τ).loc Cert.UpdateRefIdeal.main_v54) = v5 c
          ∧ r.2.mem ((c.tc : Thread Cert.UpdateRefIdeal.nD Cert.UpdateRefIdeal.τ).loc Cert.UpdateRefIdeal.main_v35) = v6 c
          ∧ r.2.mem ((c.tc : Thread Cert.UpdateRefIdeal.nD Cert.UpdateRefIdeal.τ).loc Cert.UpdateRefIdeal.main_v41) = v7 c
          ∧ r.2.mem ((c.tc : Thread Cert.UpdateRefIdeal.nD Cert.UpdateRefIdeal.τ).loc Cert.UpdateRefIdeal.main_v58) = v8 c
          ∧ r.2.mem ((c.tc : Thread Cert.UpdateRefIdeal.nD Cert.UpdateRefIdeal.τ).loc Cert.UpdateRefIdeal.main_v82) = v9 c
          ∧ r.2.mem ((c.tc : Thread Cert.UpdateRefIdeal.nD Cert.UpdateRefIdeal.τ).loc Cert.UpdateRefIdeal.main_v63) = v10 c
          ∧ r.2.mem ((c.tc : Thread Cert.UpdateRefIdeal.nD Cert.UpdateRefIdeal.τ).loc Cert.UpdateRefIdeal.main_v69) = v11 c
          ∧ r.2.mem ((c.tc : Thread Cert.UpdateRefIdeal.nD Cert.UpdateRefIdeal.τ).loc Cert.UpdateRefIdeal.main_v86) = v12 c
          ∧ r.2.mem ((c.tc : Thread Cert.UpdateRefIdeal.nD Cert.UpdateRefIdeal.τ).loc Cert.UpdateRefIdeal.main_v110) = v13 c
          ∧ r.2.mem ((c.tc : Thread Cert.UpdateRefIdeal.nD Cert.UpdateRefIdeal.τ).loc Cert.UpdateRefIdeal.main_v91) = v14 c
          ∧ r.2.mem ((c.tc : Thread Cert.UpdateRefIdeal.nD Cert.UpdateRefIdeal.τ).loc Cert.UpdateRefIdeal.main_v97) = v15 c
          ∧ r.2.mem ((c.tc : Thread Cert.UpdateRefIdeal.nD Cert.UpdateRefIdeal.τ).loc Cert.UpdateRefIdeal.main_v113) = v16 c
          ∧ r.2.mem ((c.tc : Thread Cert.UpdateRefIdeal.nD Cert.UpdateRefIdeal.τ).loc Cert.UpdateRefIdeal.main_v137) = v17 c
          ∧ r.2.mem ((c.tc : Thread Cert.UpdateRefIdeal.nD Cert.UpdateRefIdeal.τ).loc Cert.UpdateRefIdeal.main_v118) = v18 c
          ∧ r.2.mem ((c.tc : Thread Cert.UpdateRefIdeal.nD Cert.UpdateRefIdeal.τ).loc Cert.UpdateRefIdeal.main_v124) = v19 c
          ∧ r.2.mem ((c.tc : Thread Cert.UpdateRefIdeal.nD Cert.UpdateRefIdeal.τ).loc Cert.UpdateRefIdeal.main_arg0) = m' ((c.tc : Thread Cert.UpdateRefIdeal.nD Cert.UpdateRefIdeal.τ).loc Cert.UpdateRefIdeal.main_arg0)
          ∧ r.2.mem ((c.tc : Thread Cert.UpdateRefIdeal.nD Cert.UpdateRefIdeal.τ).loc Cert.UpdateRefIdeal.main_arg1) = m' ((c.tc : Thread Cert.UpdateRefIdeal.nD Cert.UpdateRefIdeal.τ).loc Cert.UpdateRefIdeal.main_arg1)
          ∧ r.2.mem ((c.tc : Thread Cert.UpdateRefIdeal.nD Cert.UpdateRefIdeal.τ).loc Cert.UpdateRefIdeal.main_arg2) = m' ((c.tc : Thread Cert.UpdateRefIdeal.nD Cert.UpdateRefIdeal.τ).loc Cert.UpdateRefIdeal.main_arg2)
          ∧ r.2.mem ((c.tc : Thread Cert.UpdateRefIdeal.nD Cert.UpdateRefIdeal.τ).loc Cert.UpdateRefIdeal.main_arg3) = m' ((c.tc : Thread Cert.UpdateRefIdeal.nD Cert.UpdateRefIdeal.τ).loc Cert.UpdateRefIdeal.main_arg3)
          ∧ r.2.mem ((c.tc : Thread Cert.UpdateRefIdeal.nD Cert.UpdateRefIdeal.τ).loc Cert.UpdateRefIdeal.main_arg4) = m' ((c.tc : Thread Cert.UpdateRefIdeal.nD Cert.UpdateRefIdeal.τ).loc Cert.UpdateRefIdeal.main_arg4)
          ∧ r.2.mem ((c.tc : Thread Cert.UpdateRefIdeal.nD Cert.UpdateRefIdeal.τ).loc Cert.UpdateRefIdeal.main_arg5) = m' ((c.tc : Thread Cert.UpdateRefIdeal.nD Cert.UpdateRefIdeal.τ).loc Cert.UpdateRefIdeal.main_arg5)
          ∧ r.2.mem ((c.tc : Thread Cert.UpdateRefIdeal.nD Cert.UpdateRefIdeal.τ).loc Cert.UpdateRefIdeal.main_arg6) = m' ((c.tc : Thread Cert.UpdateRefIdeal.nD Cert.UpdateRefIdeal.τ).loc Cert.UpdateRefIdeal.main_arg6)
          ∧ r.2.mem ((c.tc : Thread Cert.UpdateRefIdeal.nD Cert.UpdateRefIdeal.τ).loc Cert.UpdateRefIdeal.main_arg7) = m' ((c.tc : Thread Cert.UpdateRefIdeal.nD Cert.UpdateRefIdeal.τ).loc Cert.UpdateRefIdeal.main_arg7)
          ∧ r.2.mem ((c.tc : Thread Cert.UpdateRefIdeal.nD Cert.UpdateRefIdeal.τ).loc Cert.UpdateRefIdeal.main_arg8) = m' ((c.tc : Thread Cert.UpdateRefIdeal.nD Cert.UpdateRefIdeal.τ).loc Cert.UpdateRefIdeal.main_arg8)
          ∧ r.2.mem ((c.tc : Thread Cert.UpdateRefIdeal.nD Cert.UpdateRefIdeal.τ).loc Cert.UpdateRefIdeal.main_arg9) = m' ((c.tc : Thread Cert.UpdateRefIdeal.nD Cert.UpdateRefIdeal.τ).loc Cert.UpdateRefIdeal.main_arg9)
          ∧ r.2.mem ((c.tc : Thread Cert.UpdateRefIdeal.nD Cert.UpdateRefIdeal.τ).loc Cert.UpdateRefIdeal.main_arg10) = m' ((c.tc : Thread Cert.UpdateRefIdeal.nD Cert.UpdateRefIdeal.τ).loc Cert.UpdateRefIdeal.main_arg10)
          ∧ r.2.mem ((c.tc : Thread Cert.UpdateRefIdeal.nD Cert.UpdateRefIdeal.τ).loc Cert.UpdateRefIdeal.main_arg11) = m' ((c.tc : Thread Cert.UpdateRefIdeal.nD Cert.UpdateRefIdeal.τ).loc Cert.UpdateRefIdeal.main_arg11)
          ∧ r.2.mem ((c.tc : Thread Cert.UpdateRefIdeal.nD Cert.UpdateRefIdeal.τ).loc Cert.UpdateRefIdeal.main_arg12) = m' ((c.tc : Thread Cert.UpdateRefIdeal.nD Cert.UpdateRefIdeal.τ).loc Cert.UpdateRefIdeal.main_arg12)
          ∧ r.2.mem ((c.tc : Thread Cert.UpdateRefIdeal.nD Cert.UpdateRefIdeal.τ).loc Cert.UpdateRefIdeal.main_arg13) = m' ((c.tc : Thread Cert.UpdateRefIdeal.nD Cert.UpdateRefIdeal.τ).loc Cert.UpdateRefIdeal.main_arg13)
          ∧ r.2.mem ((c.tc : Thread Cert.UpdateRefIdeal.nD Cert.UpdateRefIdeal.τ).loc Cert.UpdateRefIdeal.main_arg14) = m' ((c.tc : Thread Cert.UpdateRefIdeal.nD Cert.UpdateRefIdeal.τ).loc Cert.UpdateRefIdeal.main_arg14)
          ∧ r.2.mem ((c.tc : Thread Cert.UpdateRefIdeal.nD Cert.UpdateRefIdeal.τ).loc Cert.UpdateRefIdeal.main_arg15) = m' ((c.tc : Thread Cert.UpdateRefIdeal.nD Cert.UpdateRefIdeal.τ).loc Cert.UpdateRefIdeal.main_arg15)
          ∧ r.2.mem ((c.tc : Thread Cert.UpdateRefIdeal.nD Cert.UpdateRefIdeal.τ).loc Cert.UpdateRefIdeal.main_arg16) = m' ((c.tc : Thread Cert.UpdateRefIdeal.nD Cert.UpdateRefIdeal.τ).loc Cert.UpdateRefIdeal.main_arg16)
          ∧ r.2.mem ((c.tc : Thread Cert.UpdateRefIdeal.nD Cert.UpdateRefIdeal.τ).loc Cert.UpdateRefIdeal.main_arg17) = m' ((c.tc : Thread Cert.UpdateRefIdeal.nD Cert.UpdateRefIdeal.τ).loc Cert.UpdateRefIdeal.main_arg17)
          ∧ r.2.mem ((c.tc : Thread Cert.UpdateRefIdeal.nD Cert.UpdateRefIdeal.τ).loc Cert.UpdateRefIdeal.main_arg18) = m' ((c.tc : Thread Cert.UpdateRefIdeal.nD Cert.UpdateRefIdeal.τ).loc Cert.UpdateRefIdeal.main_arg18)
          ∧ r.2.mem ((c.tc : Thread Cert.UpdateRefIdeal.nD Cert.UpdateRefIdeal.τ).loc Cert.UpdateRefIdeal.main_arg19) = m' ((c.tc : Thread Cert.UpdateRefIdeal.nD Cert.UpdateRefIdeal.τ).loc Cert.UpdateRefIdeal.main_arg19))

def preserves_Gather_GatherIdeal : Prop :=
  True

def bitexact_Gather_GatherRef [hGather : Cert.Gather.Facts] [hGatherRef : Cert.GatherRef.Facts] : Prop :=
  ∀ (m : (ℓ : Loc Cert.Gather.nD Cert.Gather.τ Cert.Gather.sig) → Buf (Elt Bits) ℓ) (g : Dev Cert.Gather.nD → PrngReg)
    (m' : (ℓ : Loc Cert.GatherRef.nD Cert.GatherRef.τ Cert.GatherRef.sig) → Buf (Elt Bits) ℓ) (g' : Dev Cert.GatherRef.nD → PrngReg), Pre_Gather m →
    (∀ c : Dev Cert.Gather.nD,
      m ((c.tc : Thread Cert.Gather.nD Cert.Gather.τ).loc Cert.Gather.main_arg0) = Layout.block ⟨2, ![416, 2048]⟩ ⟨2, ![3328, 2048]⟩ 0 8 c (m' (((0 : Dev Cert.GatherRef.nD).tc : Thread Cert.GatherRef.nD Cert.GatherRef.τ).loc Cert.GatherRef.main_arg0))
      ∧ m ((c.tc : Thread Cert.Gather.nD Cert.Gather.τ).loc Cert.Gather.main_arg1) = Layout.block ⟨2, ![256, 2048]⟩ ⟨2, ![2048, 2048]⟩ 0 8 c (m' (((0 : Dev Cert.GatherRef.nD).tc : Thread Cert.GatherRef.nD Cert.GatherRef.τ).loc Cert.GatherRef.main_arg1))
      ∧ m ((c.tc : Thread Cert.Gather.nD Cert.Gather.τ).loc Cert.Gather.main_arg2) = Layout.block ⟨2, ![704, 2048]⟩ ⟨2, ![5632, 2048]⟩ 0 8 c (m' (((0 : Dev Cert.GatherRef.nD).tc : Thread Cert.GatherRef.nD Cert.GatherRef.τ).loc Cert.GatherRef.main_arg2))
      ∧ m ((c.tc : Thread Cert.Gather.nD Cert.Gather.τ).loc Cert.Gather.main_arg3) = Layout.block ⟨2, ![704, 2048]⟩ ⟨2, ![5632, 2048]⟩ 0 8 c (m' (((0 : Dev Cert.GatherRef.nD).tc : Thread Cert.GatherRef.nD Cert.GatherRef.τ).loc Cert.GatherRef.main_arg3))
      ∧ m ((c.tc : Thread Cert.Gather.nD Cert.Gather.τ).loc Cert.Gather.main_arg4) = Layout.block ⟨2, ![704, 2048]⟩ ⟨2, ![5632, 2048]⟩ 0 8 c (m' (((0 : Dev Cert.GatherRef.nD).tc : Thread Cert.GatherRef.nD Cert.GatherRef.τ).loc Cert.GatherRef.main_arg4))) →
    ∃ (v0 : Buf (Elt Bits) (((0 : Dev Cert.GatherRef.nD).tc : Thread Cert.GatherRef.nD Cert.GatherRef.τ).loc Cert.GatherRef.main_arg0)) (v1 : Buf (Elt Bits) (((0 : Dev Cert.GatherRef.nD).tc : Thread Cert.GatherRef.nD Cert.GatherRef.τ).loc Cert.GatherRef.main_arg1)) (v2 : Buf (Elt Bits) (((0 : Dev Cert.GatherRef.nD).tc : Thread Cert.GatherRef.nD Cert.GatherRef.τ).loc Cert.GatherRef.main_arg2)) (v3 : Buf (Elt Bits) (((0 : Dev Cert.GatherRef.nD).tc : Thread Cert.GatherRef.nD Cert.GatherRef.τ).loc Cert.GatherRef.main_arg3)) (v4 : Buf (Elt Bits) (((0 : Dev Cert.GatherRef.nD).tc : Thread Cert.GatherRef.nD Cert.GatherRef.τ).loc Cert.GatherRef.main_arg4)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1_0) = v0
          ∧ r.2.mem ((c.tc : Thread Cert.Gather.nD Cert.Gather.τ).loc Cert.Gather.main_v1_1) = v1
          ∧ r.2.mem ((c.tc : Thread Cert.Gather.nD Cert.Gather.τ).loc Cert.Gather.main_v1_2) = v2
          ∧ r.2.mem ((c.tc : Thread Cert.Gather.nD Cert.Gather.τ).loc Cert.Gather.main_v1_3) = v3
          ∧ r.2.mem ((c.tc : Thread Cert.Gather.nD Cert.Gather.τ).loc Cert.Gather.main_v1_4) = v4
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1)
          ∧ r.2.mem ((c.tc : Thread Cert.Gather.nD Cert.Gather.τ).loc Cert.Gather.main_arg2) = m ((c.tc : Thread Cert.Gather.nD Cert.Gather.τ).loc Cert.Gather.main_arg2)
          ∧ r.2.mem ((c.tc : Thread Cert.Gather.nD Cert.Gather.τ).loc Cert.Gather.main_arg3) = m ((c.tc : Thread Cert.Gather.nD Cert.Gather.τ).loc Cert.Gather.main_arg3)
          ∧ r.2.mem ((c.tc : Thread Cert.Gather.nD Cert.Gather.τ).loc Cert.Gather.main_arg4) = m ((c.tc : Thread Cert.Gather.nD Cert.Gather.τ).loc Cert.Gather.main_arg4))
      ∧ θ_run (Cert.GatherRef.defs (F := Bits)) (onTc (τ := Cert.GatherRef.τ) (Cert.GatherRef.main (F := Bits))) ⟨m', fun _ => 0, g'⟩ (fun r =>
          r.2.mem (((0 : Dev Cert.GatherRef.nD).tc : Thread Cert.GatherRef.nD Cert.GatherRef.τ).loc Cert.GatherRef.main_arg0) = v0
          ∧ r.2.mem (((0 : Dev Cert.GatherRef.nD).tc : Thread Cert.GatherRef.nD Cert.GatherRef.τ).loc Cert.GatherRef.main_arg1) = v1
          ∧ r.2.mem (((0 : Dev Cert.GatherRef.nD).tc : Thread Cert.GatherRef.nD Cert.GatherRef.τ).loc Cert.GatherRef.main_arg2) = v2
          ∧ r.2.mem (((0 : Dev Cert.GatherRef.nD).tc : Thread Cert.GatherRef.nD Cert.GatherRef.τ).loc Cert.GatherRef.main_arg3) = v3
          ∧ r.2.mem (((0 : Dev Cert.GatherRef.nD).tc : Thread Cert.GatherRef.nD Cert.GatherRef.τ).loc Cert.GatherRef.main_arg4) = v4
          ∧ r.2.mem (((0 : Dev Cert.GatherRef.nD).tc : Thread Cert.GatherRef.nD Cert.GatherRef.τ).loc Cert.GatherRef.main_arg0) = m' (((0 : Dev Cert.GatherRef.nD).tc : Thread Cert.GatherRef.nD Cert.GatherRef.τ).loc Cert.GatherRef.main_arg0)
          ∧ r.2.mem (((0 : Dev Cert.GatherRef.nD).tc : Thread Cert.GatherRef.nD Cert.GatherRef.τ).loc Cert.GatherRef.main_arg1) = m' (((0 : Dev Cert.GatherRef.nD).tc : Thread Cert.GatherRef.nD Cert.GatherRef.τ).loc Cert.GatherRef.main_arg1)
          ∧ r.2.mem (((0 : Dev Cert.GatherRef.nD).tc : Thread Cert.GatherRef.nD Cert.GatherRef.τ).loc Cert.GatherRef.main_arg2) = m' (((0 : Dev Cert.GatherRef.nD).tc : Thread Cert.GatherRef.nD Cert.GatherRef.τ).loc Cert.GatherRef.main_arg2)
          ∧ r.2.mem (((0 : Dev Cert.GatherRef.nD).tc : Thread Cert.GatherRef.nD Cert.GatherRef.τ).loc Cert.GatherRef.main_arg3) = m' (((0 : Dev Cert.GatherRef.nD).tc : Thread Cert.GatherRef.nD Cert.GatherRef.τ).loc Cert.GatherRef.main_arg3)
          ∧ r.2.mem (((0 : Dev Cert.GatherRef.nD).tc : Thread Cert.GatherRef.nD Cert.GatherRef.τ).loc Cert.GatherRef.main_arg4) = m' (((0 : Dev Cert.GatherRef.nD).tc : Thread Cert.GatherRef.nD Cert.GatherRef.τ).loc Cert.GatherRef.main_arg4))

def algebraic_GatherIdeal_GatherRefIdeal [hGatherIdeal : Cert.GatherIdeal.Facts] [hGatherRefIdeal : Cert.GatherRefIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m ((c.tc : Thread Cert.GatherIdeal.nD Cert.GatherIdeal.τ).loc Cert.GatherIdeal.main_arg0) = Layout.block ⟨2, ![416, 2048]⟩ ⟨2, ![3328, 2048]⟩ 0 8 c (m' (((0 : Dev Cert.GatherRefIdeal.nD).tc : Thread Cert.GatherRefIdeal.nD Cert.GatherRefIdeal.τ).loc Cert.GatherRefIdeal.main_arg0))
      ∧ m ((c.tc : Thread Cert.GatherIdeal.nD Cert.GatherIdeal.τ).loc Cert.GatherIdeal.main_arg1) = Layout.block ⟨2, ![256, 2048]⟩ ⟨2, ![2048, 2048]⟩ 0 8 c (m' (((0 : Dev Cert.GatherRefIdeal.nD).tc : Thread Cert.GatherRefIdeal.nD Cert.GatherRefIdeal.τ).loc Cert.GatherRefIdeal.main_arg1))
      ∧ m ((c.tc : Thread Cert.GatherIdeal.nD Cert.GatherIdeal.τ).loc Cert.GatherIdeal.main_arg2) = Layout.block ⟨2, ![704, 2048]⟩ ⟨2, ![5632, 2048]⟩ 0 8 c (m' (((0 : Dev Cert.GatherRefIdeal.nD).tc : Thread Cert.GatherRefIdeal.nD Cert.GatherRefIdeal.τ).loc Cert.GatherRefIdeal.main_arg2))
      ∧ m ((c.tc : Thread Cert.GatherIdeal.nD Cert.GatherIdeal.τ).loc Cert.GatherIdeal.main_arg3) = Layout.block ⟨2, ![704, 2048]⟩ ⟨2, ![5632, 2048]⟩ 0 8 c (m' (((0 : Dev Cert.GatherRefIdeal.nD).tc : Thread Cert.GatherRefIdeal.nD Cert.GatherRefIdeal.τ).loc Cert.GatherRefIdeal.main_arg3))
      ∧ m ((c.tc : Thread Cert.GatherIdeal.nD Cert.GatherIdeal.τ).loc Cert.GatherIdeal.main_arg4) = Layout.block ⟨2, ![704, 2048]⟩ ⟨2, ![5632, 2048]⟩ 0 8 c (m' (((0 : Dev Cert.GatherRefIdeal.nD).tc : Thread Cert.GatherRefIdeal.nD Cert.GatherRefIdeal.τ).loc Cert.GatherRefIdeal.main_arg4))) →
    ∃ (v0 : Buf (Elt Ideal) (((0 : Dev Cert.GatherRefIdeal.nD).tc : Thread Cert.GatherRefIdeal.nD Cert.GatherRefIdeal.τ).loc Cert.GatherRefIdeal.main_arg0)) (v1 : Buf (Elt Ideal) (((0 : Dev Cert.GatherRefIdeal.nD).tc : Thread Cert.GatherRefIdeal.nD Cert.GatherRefIdeal.τ).loc Cert.GatherRefIdeal.main_arg1)) (v2 : Buf (Elt Ideal) (((0 : Dev Cert.GatherRefIdeal.nD).tc : Thread Cert.GatherRefIdeal.nD Cert.GatherRefIdeal.τ).loc Cert.GatherRefIdeal.main_arg2)) (v3 : Buf (Elt Ideal) (((0 : Dev Cert.GatherRefIdeal.nD).tc : Thread Cert.GatherRefIdeal.nD Cert.GatherRefIdeal.τ).loc Cert.GatherRefIdeal.main_arg3)) (v4 : Buf (Elt Ideal) (((0 : Dev Cert.GatherRefIdeal.nD).tc : Thread Cert.GatherRefIdeal.nD Cert.GatherRefIdeal.τ).loc Cert.GatherRefIdeal.main_arg4)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1_0) = v0
          ∧ r.2.mem ((c.tc : Thread Cert.GatherIdeal.nD Cert.GatherIdeal.τ).loc Cert.GatherIdeal.main_v1_1) = v1
          ∧ r.2.mem ((c.tc : Thread Cert.GatherIdeal.nD Cert.GatherIdeal.τ).loc Cert.GatherIdeal.main_v1_2) = v2
          ∧ r.2.mem ((c.tc : Thread Cert.GatherIdeal.nD Cert.GatherIdeal.τ).loc Cert.GatherIdeal.main_v1_3) = v3
          ∧ r.2.mem ((c.tc : Thread Cert.GatherIdeal.nD Cert.GatherIdeal.τ).loc Cert.GatherIdeal.main_v1_4) = v4
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
          ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
          ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4))
      ∧ θ_run (Cert.GatherRefIdeal.defs (F := Ideal)) (onTc (τ := Cert.GatherRefIdeal.τ) (Cert.GatherRefIdeal.main (F := Ideal))) ⟨m', fun _ => 0, g'⟩ (fun r =>
          r.2.mem (((0 : Dev Cert.GatherRefIdeal.nD).tc : Thread Cert.GatherRefIdeal.nD Cert.GatherRefIdeal.τ).loc Cert.GatherRefIdeal.main_arg0) = v0
          ∧ r.2.mem (((0 : Dev Cert.GatherRefIdeal.nD).tc : Thread Cert.GatherRefIdeal.nD Cert.GatherRefIdeal.τ).loc Cert.GatherRefIdeal.main_arg1) = v1
          ∧ r.2.mem (((0 : Dev Cert.GatherRefIdeal.nD).tc : Thread Cert.GatherRefIdeal.nD Cert.GatherRefIdeal.τ).loc Cert.GatherRefIdeal.main_arg2) = v2
          ∧ r.2.mem (((0 : Dev Cert.GatherRefIdeal.nD).tc : Thread Cert.GatherRefIdeal.nD Cert.GatherRefIdeal.τ).loc Cert.GatherRefIdeal.main_arg3) = v3
          ∧ r.2.mem (((0 : Dev Cert.GatherRefIdeal.nD).tc : Thread Cert.GatherRefIdeal.nD Cert.GatherRefIdeal.τ).loc Cert.GatherRefIdeal.main_arg4) = v4
          ∧ r.2.mem (((0 : Dev Cert.GatherRefIdeal.nD).tc : Thread Cert.GatherRefIdeal.nD Cert.GatherRefIdeal.τ).loc Cert.GatherRefIdeal.main_arg0) = m' (((0 : Dev Cert.GatherRefIdeal.nD).tc : Thread Cert.GatherRefIdeal.nD Cert.GatherRefIdeal.τ).loc Cert.GatherRefIdeal.main_arg0)
          ∧ r.2.mem (((0 : Dev Cert.GatherRefIdeal.nD).tc : Thread Cert.GatherRefIdeal.nD Cert.GatherRefIdeal.τ).loc Cert.GatherRefIdeal.main_arg1) = m' (((0 : Dev Cert.GatherRefIdeal.nD).tc : Thread Cert.GatherRefIdeal.nD Cert.GatherRefIdeal.τ).loc Cert.GatherRefIdeal.main_arg1)
          ∧ r.2.mem (((0 : Dev Cert.GatherRefIdeal.nD).tc : Thread Cert.GatherRefIdeal.nD Cert.GatherRefIdeal.τ).loc Cert.GatherRefIdeal.main_arg2) = m' (((0 : Dev Cert.GatherRefIdeal.nD).tc : Thread Cert.GatherRefIdeal.nD Cert.GatherRefIdeal.τ).loc Cert.GatherRefIdeal.main_arg2)
          ∧ r.2.mem (((0 : Dev Cert.GatherRefIdeal.nD).tc : Thread Cert.GatherRefIdeal.nD Cert.GatherRefIdeal.τ).loc Cert.GatherRefIdeal.main_arg3) = m' (((0 : Dev Cert.GatherRefIdeal.nD).tc : Thread Cert.GatherRefIdeal.nD Cert.GatherRefIdeal.τ).loc Cert.GatherRefIdeal.main_arg3)
          ∧ r.2.mem (((0 : Dev Cert.GatherRefIdeal.nD).tc : Thread Cert.GatherRefIdeal.nD Cert.GatherRefIdeal.τ).loc Cert.GatherRefIdeal.main_arg4) = m' (((0 : Dev Cert.GatherRefIdeal.nD).tc : Thread Cert.GatherRefIdeal.nD Cert.GatherRefIdeal.τ).loc Cert.GatherRefIdeal.main_arg4))

def preserves_Dense_DenseIdeal : Prop :=
  True

def algebraic_DenseIdeal_DenseRefIdeal [hDenseIdeal : Cert.DenseIdeal.Facts] [hDenseRefIdeal : Cert.DenseRefIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseRefIdeal.nD Cert.DenseRefIdeal.τ Cert.DenseRefIdeal.sig) → Buf (Elt Ideal) ℓ) (g' : Dev Cert.DenseRefIdeal.nD → PrngReg), Pre_DenseIdeal m →
    (∀ c : Dev Cert.DenseIdeal.nD,
      m' ((c.tc : Thread Cert.DenseRefIdeal.nD Cert.DenseRefIdeal.τ).loc Cert.DenseRefIdeal.main_arg0) = m ((c.tc : Thread Cert.DenseIdeal.nD Cert.DenseIdeal.τ).loc Cert.DenseIdeal.main_arg0)
      ∧ m' ((c.tc : Thread Cert.DenseRefIdeal.nD Cert.DenseRefIdeal.τ).loc Cert.DenseRefIdeal.main_arg1) = m ((c.tc : Thread Cert.DenseIdeal.nD Cert.DenseIdeal.τ).loc Cert.DenseIdeal.main_arg1)) →
    ∃ (v0 : (c : Dev Cert.DenseIdeal.nD) → Buf (Elt Ideal) ((c.tc : Thread Cert.DenseIdeal.nD Cert.DenseIdeal.τ).loc Cert.DenseIdeal.main_v0)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v0) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1))
      ∧ θ_run (Cert.DenseRefIdeal.defs (F := Ideal)) (onTc (τ := Cert.DenseRefIdeal.τ) (Cert.DenseRefIdeal.main (F := Ideal))) ⟨m', fun _ => 0, g'⟩ (fun r => ∀ c : Dev Cert.DenseRefIdeal.nD,
          r.2.mem ((c.tc : Thread Cert.DenseRefIdeal.nD Cert.DenseRefIdeal.τ).loc Cert.DenseRefIdeal.main_v0) = v0 c
          ∧ r.2.mem ((c.tc : Thread Cert.DenseRefIdeal.nD Cert.DenseRefIdeal.τ).loc Cert.DenseRefIdeal.main_arg0) = m' ((c.tc : Thread Cert.DenseRefIdeal.nD Cert.DenseRefIdeal.τ).loc Cert.DenseRefIdeal.main_arg0)
          ∧ r.2.mem ((c.tc : Thread Cert.DenseRefIdeal.nD Cert.DenseRefIdeal.τ).loc Cert.DenseRefIdeal.main_arg1) = m' ((c.tc : Thread Cert.DenseRefIdeal.nD Cert.DenseRefIdeal.τ).loc Cert.DenseRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v1_0)) (v1 : (c : Dev Cert.NormIdeal.nD) → Buf (Elt Ideal) ((c.tc : Thread Cert.NormIdeal.nD Cert.NormIdeal.τ).loc Cert.NormIdeal.main_v1_1)) (v2 : (c : Dev Cert.NormIdeal.nD) → Buf (Elt Ideal) ((c.tc : Thread Cert.NormIdeal.nD Cert.NormIdeal.τ).loc Cert.NormIdeal.main_v1_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1_0) = v0 c
          ∧ r.2.mem ((c.tc : Thread Cert.NormIdeal.nD Cert.NormIdeal.τ).loc Cert.NormIdeal.main_v1_1) = v1 c
          ∧ r.2.mem ((c.tc : Thread Cert.NormIdeal.nD Cert.NormIdeal.τ).loc Cert.NormIdeal.main_v1_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v25) = v0 c
          ∧ r.2.mem ((c.tc : Thread Cert.NormRefIdeal.nD Cert.NormRefIdeal.τ).loc Cert.NormRefIdeal.main_v26) = v1 c
          ∧ r.2.mem ((c.tc : Thread Cert.NormRefIdeal.nD Cert.NormRefIdeal.τ).loc Cert.NormRefIdeal.main_v29) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_Passes_PassesIdeal : Prop :=
  True

def algebraic_PassesIdeal_PassesRefIdeal [hPassesIdeal : Cert.PassesIdeal.Facts] [hPassesRefIdeal : Cert.PassesRefIdeal.Facts] : Prop :=
  ∀ (m : (ℓ : Loc Cert.PassesIdeal.nD Cert.PassesIdeal.τ Cert.PassesIdeal.sig) → Buf (Elt Ideal) ℓ) (g : Dev Cert.PassesIdeal.nD → PrngReg)
    (m' : (ℓ : Loc Cert.PassesRefIdeal.nD Cert.PassesRefIdeal.τ Cert.PassesRefIdeal.sig) → Buf (Elt Ideal) ℓ) (g' : Dev Cert.PassesRefIdeal.nD → PrngReg), Pre_PassesIdeal m →
    (∀ c : Dev Cert.PassesIdeal.nD,
      m' ((c.tc : Thread Cert.PassesRefIdeal.nD Cert.PassesRefIdeal.τ).loc Cert.PassesRefIdeal.main_arg0) = m ((c.tc : Thread Cert.PassesIdeal.nD Cert.PassesIdeal.τ).loc Cert.PassesIdeal.main_arg0)
      ∧ m' ((c.tc : Thread Cert.PassesRefIdeal.nD Cert.PassesRefIdeal.τ).loc Cert.PassesRefIdeal.main_arg1) = m ((c.tc : Thread Cert.PassesIdeal.nD Cert.PassesIdeal.τ).loc Cert.PassesIdeal.main_arg1)
      ∧ m' ((c.tc : Thread Cert.PassesRefIdeal.nD Cert.PassesRefIdeal.τ).loc Cert.PassesRefIdeal.main_arg2) = m ((c.tc : Thread Cert.PassesIdeal.nD Cert.PassesIdeal.τ).loc Cert.PassesIdeal.main_arg2)
      ∧ m' ((c.tc : Thread Cert.PassesRefIdeal.nD Cert.PassesRefIdeal.τ).loc Cert.PassesRefIdeal.main_arg3) = m ((c.tc : Thread Cert.PassesIdeal.nD Cert.PassesIdeal.τ).loc Cert.PassesIdeal.main_arg3)
      ∧ m' ((c.tc : Thread Cert.PassesRefIdeal.nD Cert.PassesRefIdeal.τ).loc Cert.PassesRefIdeal.main_arg4) = m ((c.tc : Thread Cert.PassesIdeal.nD Cert.PassesIdeal.τ).loc Cert.PassesIdeal.main_arg4)
      ∧ m' ((c.tc : Thread Cert.PassesRefIdeal.nD Cert.PassesRefIdeal.τ).loc Cert.PassesRefIdeal.main_arg5) = m ((c.tc : Thread Cert.PassesIdeal.nD Cert.PassesIdeal.τ).loc Cert.PassesIdeal.main_arg5)
      ∧ m' ((c.tc : Thread Cert.PassesRefIdeal.nD Cert.PassesRefIdeal.τ).loc Cert.PassesRefIdeal.main_arg6) = m ((c.tc : Thread Cert.PassesIdeal.nD Cert.PassesIdeal.τ).loc Cert.PassesIdeal.main_arg6)
      ∧ m' ((c.tc : Thread Cert.PassesRefIdeal.nD Cert.PassesRefIdeal.τ).loc Cert.PassesRefIdeal.main_arg7) = m ((c.tc : Thread Cert.PassesIdeal.nD Cert.PassesIdeal.τ).loc Cert.PassesIdeal.main_arg7)
      ∧ m' ((c.tc : Thread Cert.PassesRefIdeal.nD Cert.PassesRefIdeal.τ).loc Cert.PassesRefIdeal.main_arg8) = m ((c.tc : Thread Cert.PassesIdeal.nD Cert.PassesIdeal.τ).loc Cert.PassesIdeal.main_arg8)
      ∧ m' ((c.tc : Thread Cert.PassesRefIdeal.nD Cert.PassesRefIdeal.τ).loc Cert.PassesRefIdeal.main_arg9) = m ((c.tc : Thread Cert.PassesIdeal.nD Cert.PassesIdeal.τ).loc Cert.PassesIdeal.main_arg9)
      ∧ m' ((c.tc : Thread Cert.PassesRefIdeal.nD Cert.PassesRefIdeal.τ).loc Cert.PassesRefIdeal.main_arg10) = m ((c.tc : Thread Cert.PassesIdeal.nD Cert.PassesIdeal.τ).loc Cert.PassesIdeal.main_arg10)) →
    ∃ (v0 : (c : Dev Cert.PassesIdeal.nD) → Buf (Elt Ideal) ((c.tc : Thread Cert.PassesIdeal.nD Cert.PassesIdeal.τ).loc Cert.PassesIdeal.main_v1)) (v1 : (c : Dev Cert.PassesIdeal.nD) → Buf (Elt Ideal) ((c.tc : Thread Cert.PassesIdeal.nD Cert.PassesIdeal.τ).loc Cert.PassesIdeal.main_v2)) (v2 : (c : Dev Cert.PassesIdeal.nD) → Buf (Elt Ideal) ((c.tc : Thread Cert.PassesIdeal.nD Cert.PassesIdeal.τ).loc Cert.PassesIdeal.main_v3)) (v3 : (c : Dev Cert.PassesIdeal.nD) → Buf (Elt Ideal) ((c.tc : Thread Cert.PassesIdeal.nD Cert.PassesIdeal.τ).loc Cert.PassesIdeal.main_v4)) (v4 : (c : Dev Cert.PassesIdeal.nD) → Buf (Elt Ideal) ((c.tc : Thread Cert.PassesIdeal.nD Cert.PassesIdeal.τ).loc Cert.PassesIdeal.main_v5)) (v5 : (c : Dev Cert.PassesIdeal.nD) → Buf (Elt Ideal) ((c.tc : Thread Cert.PassesIdeal.nD Cert.PassesIdeal.τ).loc Cert.PassesIdeal.main_v6_0)) (v6 : (c : Dev Cert.PassesIdeal.nD) → Buf (Elt Ideal) ((c.tc : Thread Cert.PassesIdeal.nD Cert.PassesIdeal.τ).loc Cert.PassesIdeal.main_v6_1)) (v7 : (c : Dev Cert.PassesIdeal.nD) → Buf (Elt Ideal) ((c.tc : Thread Cert.PassesIdeal.nD Cert.PassesIdeal.τ).loc Cert.PassesIdeal.main_v7_0)) (v8 : (c : Dev Cert.PassesIdeal.nD) → Buf (Elt Ideal) ((c.tc : Thread Cert.PassesIdeal.nD Cert.PassesIdeal.τ).loc Cert.PassesIdeal.main_v7_1)) (v9 : (c : Dev Cert.PassesIdeal.nD) → Buf (Elt Ideal) ((c.tc : Thread Cert.PassesIdeal.nD Cert.PassesIdeal.τ).loc Cert.PassesIdeal.main_v8)),
      θ_run (Cert.PassesIdeal.defs (F := Ideal)) (onTc (τ := Cert.PassesIdeal.τ) (Cert.PassesIdeal.main (F := Ideal))) ⟨m, fun _ => 0, g⟩ (fun r => ∀ c : Dev Cert.PassesIdeal.nD,
          r.2.mem ((c.tc : Thread Cert.PassesIdeal.nD Cert.PassesIdeal.τ).loc Cert.PassesIdeal.main_v1) = v0 c
          ∧ r.2.mem ((c.tc : Thread Cert.PassesIdeal.nD Cert.PassesIdeal.τ).loc Cert.PassesIdeal.main_v2) = v1 c
          ∧ r.2.mem ((c.tc : Thread Cert.PassesIdeal.nD Cert.PassesIdeal.τ).loc Cert.PassesIdeal.main_v3) = v2 c
          ∧ r.2.mem ((c.tc : Thread Cert.PassesIdeal.nD Cert.PassesIdeal.τ).loc Cert.PassesIdeal.main_v4) = v3 c
          ∧ r.2.mem ((c.tc : Thread Cert.PassesIdeal.nD Cert.PassesIdeal.τ).loc Cert.PassesIdeal.main_v5) = v4 c
          ∧ r.2.mem ((c.tc : Thread Cert.PassesIdeal.nD Cert.PassesIdeal.τ).loc Cert.PassesIdeal.main_v6_0) = v5 c
          ∧ r.2.mem ((c.tc : Thread Cert.PassesIdeal.nD Cert.PassesIdeal.τ).loc Cert.PassesIdeal.main_v6_1) = v6 c
          ∧ r.2.mem ((c.tc : Thread Cert.PassesIdeal.nD Cert.PassesIdeal.τ).loc Cert.PassesIdeal.main_v7_0) = v7 c
          ∧ r.2.mem ((c.tc : Thread Cert.PassesIdeal.nD Cert.PassesIdeal.τ).loc Cert.PassesIdeal.main_v7_1) = v8 c
          ∧ r.2.mem ((c.tc : Thread Cert.PassesIdeal.nD Cert.PassesIdeal.τ).loc Cert.PassesIdeal.main_v8) = v9 c
          ∧ r.2.mem ((c.tc : Thread Cert.PassesIdeal.nD Cert.PassesIdeal.τ).loc Cert.PassesIdeal.main_arg0) = m ((c.tc : Thread Cert.PassesIdeal.nD Cert.PassesIdeal.τ).loc Cert.PassesIdeal.main_arg0)
          ∧ r.2.mem ((c.tc : Thread Cert.PassesIdeal.nD Cert.PassesIdeal.τ).loc Cert.PassesIdeal.main_arg1) = m ((c.tc : Thread Cert.PassesIdeal.nD Cert.PassesIdeal.τ).loc Cert.PassesIdeal.main_arg1)
          ∧ r.2.mem ((c.tc : Thread Cert.PassesIdeal.nD Cert.PassesIdeal.τ).loc Cert.PassesIdeal.main_arg2) = m ((c.tc : Thread Cert.PassesIdeal.nD Cert.PassesIdeal.τ).loc Cert.PassesIdeal.main_arg2)
          ∧ r.2.mem ((c.tc : Thread Cert.PassesIdeal.nD Cert.PassesIdeal.τ).loc Cert.PassesIdeal.main_arg3) = m ((c.tc : Thread Cert.PassesIdeal.nD Cert.PassesIdeal.τ).loc Cert.PassesIdeal.main_arg3)
          ∧ r.2.mem ((c.tc : Thread Cert.PassesIdeal.nD Cert.PassesIdeal.τ).loc Cert.PassesIdeal.main_arg4) = m ((c.tc : Thread Cert.PassesIdeal.nD Cert.PassesIdeal.τ).loc Cert.PassesIdeal.main_arg4)
          ∧ r.2.mem ((c.tc : Thread Cert.PassesIdeal.nD Cert.PassesIdeal.τ).loc Cert.PassesIdeal.main_arg5) = m ((c.tc : Thread Cert.PassesIdeal.nD Cert.PassesIdeal.τ).loc Cert.PassesIdeal.main_arg5)
          ∧ r.2.mem ((c.tc : Thread Cert.PassesIdeal.nD Cert.PassesIdeal.τ).loc Cert.PassesIdeal.main_arg6) = m ((c.tc : Thread Cert.PassesIdeal.nD Cert.PassesIdeal.τ).loc Cert.PassesIdeal.main_arg6)
          ∧ r.2.mem ((c.tc : Thread Cert.PassesIdeal.nD Cert.PassesIdeal.τ).loc Cert.PassesIdeal.main_arg7) = m ((c.tc : Thread Cert.PassesIdeal.nD Cert.PassesIdeal.τ).loc Cert.PassesIdeal.main_arg7)
          ∧ r.2.mem ((c.tc : Thread Cert.PassesIdeal.nD Cert.PassesIdeal.τ).loc Cert.PassesIdeal.main_arg8) = m ((c.tc : Thread Cert.PassesIdeal.nD Cert.PassesIdeal.τ).loc Cert.PassesIdeal.main_arg8)
          ∧ r.2.mem ((c.tc : Thread Cert.PassesIdeal.nD Cert.PassesIdeal.τ).loc Cert.PassesIdeal.main_arg9) = m ((c.tc : Thread Cert.PassesIdeal.nD Cert.PassesIdeal.τ).loc Cert.PassesIdeal.main_arg9)
          ∧ r.2.mem ((c.tc : Thread Cert.PassesIdeal.nD Cert.PassesIdeal.τ).loc Cert.PassesIdeal.main_arg10) = m ((c.tc : Thread Cert.PassesIdeal.nD Cert.PassesIdeal.τ).loc Cert.PassesIdeal.main_arg10))
      ∧ θ_run (Cert.PassesRefIdeal.defs (F := Ideal)) (onTc (τ := Cert.PassesRefIdeal.τ) (Cert.PassesRefIdeal.main (F := Ideal))) ⟨m', fun _ => 0, g'⟩ (fun r => ∀ c : Dev Cert.PassesRefIdeal.nD,
          r.2.mem ((c.tc : Thread Cert.PassesRefIdeal.nD Cert.PassesRefIdeal.τ).loc Cert.PassesRefIdeal.main_v13) = v0 c
          ∧ r.2.mem ((c.tc : Thread Cert.PassesRefIdeal.nD Cert.PassesRefIdeal.τ).loc Cert.PassesRefIdeal.main_v52) = v1 c
          ∧ r.2.mem ((c.tc : Thread Cert.PassesRefIdeal.nD Cert.PassesRefIdeal.τ).loc Cert.PassesRefIdeal.main_v15) = v2 c
          ∧ r.2.mem ((c.tc : Thread Cert.PassesRefIdeal.nD Cert.PassesRefIdeal.τ).loc Cert.PassesRefIdeal.main_v28) = v3 c
          ∧ r.2.mem ((c.tc : Thread Cert.PassesRefIdeal.nD Cert.PassesRefIdeal.τ).loc Cert.PassesRefIdeal.main_v30) = v4 c
          ∧ r.2.mem ((c.tc : Thread Cert.PassesRefIdeal.nD Cert.PassesRefIdeal.τ).loc Cert.PassesRefIdeal.main_v32) = v5 c
          ∧ r.2.mem ((c.tc : Thread Cert.PassesRefIdeal.nD Cert.PassesRefIdeal.τ).loc Cert.PassesRefIdeal.main_v55) = v6 c
          ∧ r.2.mem ((c.tc : Thread Cert.PassesRefIdeal.nD Cert.PassesRefIdeal.τ).loc Cert.PassesRefIdeal.main_v56) = v7 c
          ∧ r.2.mem ((c.tc : Thread Cert.PassesRefIdeal.nD Cert.PassesRefIdeal.τ).loc Cert.PassesRefIdeal.main_v57) = v8 c
          ∧ r.2.mem ((c.tc : Thread Cert.PassesRefIdeal.nD Cert.PassesRefIdeal.τ).loc Cert.PassesRefIdeal.main_v59) = v9 c
          ∧ r.2.mem ((c.tc : Thread Cert.PassesRefIdeal.nD Cert.PassesRefIdeal.τ).loc Cert.PassesRefIdeal.main_arg0) = m' ((c.tc : Thread Cert.PassesRefIdeal.nD Cert.PassesRefIdeal.τ).loc Cert.PassesRefIdeal.main_arg0)
          ∧ r.2.mem ((c.tc : Thread Cert.PassesRefIdeal.nD Cert.PassesRefIdeal.τ).loc Cert.PassesRefIdeal.main_arg1) = m' ((c.tc : Thread Cert.PassesRefIdeal.nD Cert.PassesRefIdeal.τ).loc Cert.PassesRefIdeal.main_arg1)
          ∧ r.2.mem ((c.tc : Thread Cert.PassesRefIdeal.nD Cert.PassesRefIdeal.τ).loc Cert.PassesRefIdeal.main_arg2) = m' ((c.tc : Thread Cert.PassesRefIdeal.nD Cert.PassesRefIdeal.τ).loc Cert.PassesRefIdeal.main_arg2)
          ∧ r.2.mem ((c.tc : Thread Cert.PassesRefIdeal.nD Cert.PassesRefIdeal.τ).loc Cert.PassesRefIdeal.main_arg3) = m' ((c.tc : Thread Cert.PassesRefIdeal.nD Cert.PassesRefIdeal.τ).loc Cert.PassesRefIdeal.main_arg3)
          ∧ r.2.mem ((c.tc : Thread Cert.PassesRefIdeal.nD Cert.PassesRefIdeal.τ).loc Cert.PassesRefIdeal.main_arg4) = m' ((c.tc : Thread Cert.PassesRefIdeal.nD Cert.PassesRefIdeal.τ).loc Cert.PassesRefIdeal.main_arg4)
          ∧ r.2.mem ((c.tc : Thread Cert.PassesRefIdeal.nD Cert.PassesRefIdeal.τ).loc Cert.PassesRefIdeal.main_arg5) = m' ((c.tc : Thread Cert.PassesRefIdeal.nD Cert.PassesRefIdeal.τ).loc Cert.PassesRefIdeal.main_arg5)
          ∧ r.2.mem ((c.tc : Thread Cert.PassesRefIdeal.nD Cert.PassesRefIdeal.τ).loc Cert.PassesRefIdeal.main_arg6) = m' ((c.tc : Thread Cert.PassesRefIdeal.nD Cert.PassesRefIdeal.τ).loc Cert.PassesRefIdeal.main_arg6)
          ∧ r.2.mem ((c.tc : Thread Cert.PassesRefIdeal.nD Cert.PassesRefIdeal.τ).loc Cert.PassesRefIdeal.main_arg7) = m' ((c.tc : Thread Cert.PassesRefIdeal.nD Cert.PassesRefIdeal.τ).loc Cert.PassesRefIdeal.main_arg7)
          ∧ r.2.mem ((c.tc : Thread Cert.PassesRefIdeal.nD Cert.PassesRefIdeal.τ).loc Cert.PassesRefIdeal.main_arg8) = m' ((c.tc : Thread Cert.PassesRefIdeal.nD Cert.PassesRefIdeal.τ).loc Cert.PassesRefIdeal.main_arg8)
          ∧ r.2.mem ((c.tc : Thread Cert.PassesRefIdeal.nD Cert.PassesRefIdeal.τ).loc Cert.PassesRefIdeal.main_arg9) = m' ((c.tc : Thread Cert.PassesRefIdeal.nD Cert.PassesRefIdeal.τ).loc Cert.PassesRefIdeal.main_arg9)
          ∧ r.2.mem ((c.tc : Thread Cert.PassesRefIdeal.nD Cert.PassesRefIdeal.τ).loc Cert.PassesRefIdeal.main_arg10) = m' ((c.tc : Thread Cert.PassesRefIdeal.nD Cert.PassesRefIdeal.τ).loc Cert.PassesRefIdeal.main_arg10))

def preserves_GwFfn_GwFfnIdeal : Prop :=
  True

def algebraic_GwFfnIdeal_GwFfnRefIdeal [hGwFfnIdeal : Cert.GwFfnIdeal.Facts] [hGwFfnRefIdeal : Cert.GwFfnRefIdeal.Facts] : Prop :=
  ∀ (m : (ℓ : Loc Cert.GwFfnIdeal.nD Cert.GwFfnIdeal.τ Cert.GwFfnIdeal.sig) → Buf (Elt Ideal) ℓ) (g : Dev Cert.GwFfnIdeal.nD → PrngReg)
    (m' : (ℓ : Loc Cert.GwFfnRefIdeal.nD Cert.GwFfnRefIdeal.τ Cert.GwFfnRefIdeal.sig) → Buf (Elt Ideal) ℓ) (g' : Dev Cert.GwFfnRefIdeal.nD → PrngReg), Pre_GwFfnIdeal m →
    (∀ c : Dev Cert.GwFfnIdeal.nD,
      m' ((c.tc : Thread Cert.GwFfnRefIdeal.nD Cert.GwFfnRefIdeal.τ).loc Cert.GwFfnRefIdeal.main_arg0) = m ((c.tc : Thread Cert.GwFfnIdeal.nD Cert.GwFfnIdeal.τ).loc Cert.GwFfnIdeal.main_arg0)
      ∧ m' ((c.tc : Thread Cert.GwFfnRefIdeal.nD Cert.GwFfnRefIdeal.τ).loc Cert.GwFfnRefIdeal.main_arg1) = m ((c.tc : Thread Cert.GwFfnIdeal.nD Cert.GwFfnIdeal.τ).loc Cert.GwFfnIdeal.main_arg1)) →
    ∃ (v0 : (c : Dev Cert.GwFfnIdeal.nD) → Buf (Elt Ideal) ((c.tc : Thread Cert.GwFfnIdeal.nD Cert.GwFfnIdeal.τ).loc Cert.GwFfnIdeal.main_v0)),
      θ_run (Cert.GwFfnIdeal.defs (F := Ideal)) (onTc (τ := Cert.GwFfnIdeal.τ) (Cert.GwFfnIdeal.main (F := Ideal))) ⟨m, fun _ => 0, g⟩ (fun r => ∀ c : Dev Cert.GwFfnIdeal.nD,
          r.2.mem ((c.tc : Thread Cert.GwFfnIdeal.nD Cert.GwFfnIdeal.τ).loc Cert.GwFfnIdeal.main_v0) = v0 c
          ∧ r.2.mem ((c.tc : Thread Cert.GwFfnIdeal.nD Cert.GwFfnIdeal.τ).loc Cert.GwFfnIdeal.main_arg0) = m ((c.tc : Thread Cert.GwFfnIdeal.nD Cert.GwFfnIdeal.τ).loc Cert.GwFfnIdeal.main_arg0)
          ∧ r.2.mem ((c.tc : Thread Cert.GwFfnIdeal.nD Cert.GwFfnIdeal.τ).loc Cert.GwFfnIdeal.main_arg1) = m ((c.tc : Thread Cert.GwFfnIdeal.nD Cert.GwFfnIdeal.τ).loc Cert.GwFfnIdeal.main_arg1))
      ∧ θ_run (Cert.GwFfnRefIdeal.defs (F := Ideal)) (onTc (τ := Cert.GwFfnRefIdeal.τ) (Cert.GwFfnRefIdeal.main (F := Ideal))) ⟨m', fun _ => 0, g'⟩ (fun r => ∀ c : Dev Cert.GwFfnRefIdeal.nD,
          r.2.mem ((c.tc : Thread Cert.GwFfnRefIdeal.nD Cert.GwFfnRefIdeal.τ).loc Cert.GwFfnRefIdeal.main_v2) = v0 c
          ∧ r.2.mem ((c.tc : Thread Cert.GwFfnRefIdeal.nD Cert.GwFfnRefIdeal.τ).loc Cert.GwFfnRefIdeal.main_arg0) = m' ((c.tc : Thread Cert.GwFfnRefIdeal.nD Cert.GwFfnRefIdeal.τ).loc Cert.GwFfnRefIdeal.main_arg0)
          ∧ r.2.mem ((c.tc : Thread Cert.GwFfnRefIdeal.nD Cert.GwFfnRefIdeal.τ).loc Cert.GwFfnRefIdeal.main_arg1) = m' ((c.tc : Thread Cert.GwFfnRefIdeal.nD Cert.GwFfnRefIdeal.τ).loc Cert.GwFfnRefIdeal.main_arg1))

def preserves_GwOut_GwOutIdeal : Prop :=
  True

def algebraic_GwOutIdeal_GwOutRefIdeal [hGwOutIdeal : Cert.GwOutIdeal.Facts] [hGwOutRefIdeal : Cert.GwOutRefIdeal.Facts] : Prop :=
  ∀ (m : (ℓ : Loc Cert.GwOutIdeal.nD Cert.GwOutIdeal.τ Cert.GwOutIdeal.sig) → Buf (Elt Ideal) ℓ) (g : Dev Cert.GwOutIdeal.nD → PrngReg)
    (m' : (ℓ : Loc Cert.GwOutRefIdeal.nD Cert.GwOutRefIdeal.τ Cert.GwOutRefIdeal.sig) → Buf (Elt Ideal) ℓ) (g' : Dev Cert.GwOutRefIdeal.nD → PrngReg), Pre_GwOutIdeal m →
    (∀ c : Dev Cert.GwOutIdeal.nD,
      m' ((c.tc : Thread Cert.GwOutRefIdeal.nD Cert.GwOutRefIdeal.τ).loc Cert.GwOutRefIdeal.main_arg0) = m ((c.tc : Thread Cert.GwOutIdeal.nD Cert.GwOutIdeal.τ).loc Cert.GwOutIdeal.main_arg0)
      ∧ m' ((c.tc : Thread Cert.GwOutRefIdeal.nD Cert.GwOutRefIdeal.τ).loc Cert.GwOutRefIdeal.main_arg1) = m ((c.tc : Thread Cert.GwOutIdeal.nD Cert.GwOutIdeal.τ).loc Cert.GwOutIdeal.main_arg1)) →
    ∃ (v0 : (c : Dev Cert.GwOutIdeal.nD) → Buf (Elt Ideal) ((c.tc : Thread Cert.GwOutIdeal.nD Cert.GwOutIdeal.τ).loc Cert.GwOutIdeal.main_v0)),
      θ_run (Cert.GwOutIdeal.defs (F := Ideal)) (onTc (τ := Cert.GwOutIdeal.τ) (Cert.GwOutIdeal.main (F := Ideal))) ⟨m, fun _ => 0, g⟩ (fun r => ∀ c : Dev Cert.GwOutIdeal.nD,
          r.2.mem ((c.tc : Thread Cert.GwOutIdeal.nD Cert.GwOutIdeal.τ).loc Cert.GwOutIdeal.main_v0) = v0 c
          ∧ r.2.mem ((c.tc : Thread Cert.GwOutIdeal.nD Cert.GwOutIdeal.τ).loc Cert.GwOutIdeal.main_arg0) = m ((c.tc : Thread Cert.GwOutIdeal.nD Cert.GwOutIdeal.τ).loc Cert.GwOutIdeal.main_arg0)
          ∧ r.2.mem ((c.tc : Thread Cert.GwOutIdeal.nD Cert.GwOutIdeal.τ).loc Cert.GwOutIdeal.main_arg1) = m ((c.tc : Thread Cert.GwOutIdeal.nD Cert.GwOutIdeal.τ).loc Cert.GwOutIdeal.main_arg1))
      ∧ θ_run (Cert.GwOutRefIdeal.defs (F := Ideal)) (onTc (τ := Cert.GwOutRefIdeal.τ) (Cert.GwOutRefIdeal.main (F := Ideal))) ⟨m', fun _ => 0, g'⟩ (fun r => ∀ c : Dev Cert.GwOutRefIdeal.nD,
          r.2.mem ((c.tc : Thread Cert.GwOutRefIdeal.nD Cert.GwOutRefIdeal.τ).loc Cert.GwOutRefIdeal.main_v2) = v0 c
          ∧ r.2.mem ((c.tc : Thread Cert.GwOutRefIdeal.nD Cert.GwOutRefIdeal.τ).loc Cert.GwOutRefIdeal.main_arg0) = m' ((c.tc : Thread Cert.GwOutRefIdeal.nD Cert.GwOutRefIdeal.τ).loc Cert.GwOutRefIdeal.main_arg0)
          ∧ r.2.mem ((c.tc : Thread Cert.GwOutRefIdeal.nD Cert.GwOutRefIdeal.τ).loc Cert.GwOutRefIdeal.main_arg1) = m' ((c.tc : Thread Cert.GwOutRefIdeal.nD Cert.GwOutRefIdeal.τ).loc Cert.GwOutRefIdeal.main_arg1))

def preserves_GwIn_GwInIdeal : Prop :=
  True

def algebraic_GwInIdeal_GwInRefIdeal [hGwInIdeal : Cert.GwInIdeal.Facts] [hGwInRefIdeal : Cert.GwInRefIdeal.Facts] : Prop :=
  ∀ (m : (ℓ : Loc Cert.GwInIdeal.nD Cert.GwInIdeal.τ Cert.GwInIdeal.sig) → Buf (Elt Ideal) ℓ) (g : Dev Cert.GwInIdeal.nD → PrngReg)
    (m' : (ℓ : Loc Cert.GwInRefIdeal.nD Cert.GwInRefIdeal.τ Cert.GwInRefIdeal.sig) → Buf (Elt Ideal) ℓ) (g' : Dev Cert.GwInRefIdeal.nD → PrngReg), Pre_GwInIdeal m →
    (∀ c : Dev Cert.GwInIdeal.nD,
      m' ((c.tc : Thread Cert.GwInRefIdeal.nD Cert.GwInRefIdeal.τ).loc Cert.GwInRefIdeal.main_arg0) = m ((c.tc : Thread Cert.GwInIdeal.nD Cert.GwInIdeal.τ).loc Cert.GwInIdeal.main_arg0)
      ∧ m' ((c.tc : Thread Cert.GwInRefIdeal.nD Cert.GwInRefIdeal.τ).loc Cert.GwInRefIdeal.main_arg1) = m ((c.tc : Thread Cert.GwInIdeal.nD Cert.GwInIdeal.τ).loc Cert.GwInIdeal.main_arg1)) →
    ∃ (v0 : (c : Dev Cert.GwInIdeal.nD) → Buf (Elt Ideal) ((c.tc : Thread Cert.GwInIdeal.nD Cert.GwInIdeal.τ).loc Cert.GwInIdeal.main_v0)),
      θ_run (Cert.GwInIdeal.defs (F := Ideal)) (onTc (τ := Cert.GwInIdeal.τ) (Cert.GwInIdeal.main (F := Ideal))) ⟨m, fun _ => 0, g⟩ (fun r => ∀ c : Dev Cert.GwInIdeal.nD,
          r.2.mem ((c.tc : Thread Cert.GwInIdeal.nD Cert.GwInIdeal.τ).loc Cert.GwInIdeal.main_v0) = v0 c
          ∧ r.2.mem ((c.tc : Thread Cert.GwInIdeal.nD Cert.GwInIdeal.τ).loc Cert.GwInIdeal.main_arg0) = m ((c.tc : Thread Cert.GwInIdeal.nD Cert.GwInIdeal.τ).loc Cert.GwInIdeal.main_arg0)
          ∧ r.2.mem ((c.tc : Thread Cert.GwInIdeal.nD Cert.GwInIdeal.τ).loc Cert.GwInIdeal.main_arg1) = m ((c.tc : Thread Cert.GwInIdeal.nD Cert.GwInIdeal.τ).loc Cert.GwInIdeal.main_arg1))
      ∧ θ_run (Cert.GwInRefIdeal.defs (F := Ideal)) (onTc (τ := Cert.GwInRefIdeal.τ) (Cert.GwInRefIdeal.main (F := Ideal))) ⟨m', fun _ => 0, g'⟩ (fun r => ∀ c : Dev Cert.GwInRefIdeal.nD,
          r.2.mem ((c.tc : Thread Cert.GwInRefIdeal.nD Cert.GwInRefIdeal.τ).loc Cert.GwInRefIdeal.main_v2) = v0 c
          ∧ r.2.mem ((c.tc : Thread Cert.GwInRefIdeal.nD Cert.GwInRefIdeal.τ).loc Cert.GwInRefIdeal.main_arg0) = m' ((c.tc : Thread Cert.GwInRefIdeal.nD Cert.GwInRefIdeal.τ).loc Cert.GwInRefIdeal.main_arg0)
          ∧ r.2.mem ((c.tc : Thread Cert.GwInRefIdeal.nD Cert.GwInRefIdeal.τ).loc Cert.GwInRefIdeal.main_arg1) = m' ((c.tc : Thread Cert.GwInRefIdeal.nD Cert.GwInRefIdeal.τ).loc Cert.GwInRefIdeal.main_arg1))

def preserves_HidGate_HidGateIdeal : Prop :=
  True

def algebraic_HidGateIdeal_HidGateRefIdeal [hHidGateIdeal : Cert.HidGateIdeal.Facts] [hHidGateRefIdeal : Cert.HidGateRefIdeal.Facts] : Prop :=
  ∀ (m : (ℓ : Loc Cert.HidGateIdeal.nD Cert.HidGateIdeal.τ Cert.HidGateIdeal.sig) → Buf (Elt Ideal) ℓ) (g : Dev Cert.HidGateIdeal.nD → PrngReg)
    (m' : (ℓ : Loc Cert.HidGateRefIdeal.nD Cert.HidGateRefIdeal.τ Cert.HidGateRefIdeal.sig) → Buf (Elt Ideal) ℓ) (g' : Dev Cert.HidGateRefIdeal.nD → PrngReg), Pre_HidGateIdeal m →
    (∀ c : Dev Cert.HidGateIdeal.nD,
      m' ((c.tc : Thread Cert.HidGateRefIdeal.nD Cert.HidGateRefIdeal.τ).loc Cert.HidGateRefIdeal.main_arg0) = m ((c.tc : Thread Cert.HidGateIdeal.nD Cert.HidGateIdeal.τ).loc Cert.HidGateIdeal.main_arg0)
      ∧ m' ((c.tc : Thread Cert.HidGateRefIdeal.nD Cert.HidGateRefIdeal.τ).loc Cert.HidGateRefIdeal.main_arg1) = m ((c.tc : Thread Cert.HidGateIdeal.nD Cert.HidGateIdeal.τ).loc Cert.HidGateIdeal.main_arg1)) →
    ∃ (v0 : (c : Dev Cert.HidGateIdeal.nD) → Buf (Elt Ideal) ((c.tc : Thread Cert.HidGateIdeal.nD Cert.HidGateIdeal.τ).loc Cert.HidGateIdeal.main_v0)),
      θ_run (Cert.HidGateIdeal.defs (F := Ideal)) (onTc (τ := Cert.HidGateIdeal.τ) (Cert.HidGateIdeal.main (F := Ideal))) ⟨m, fun _ => 0, g⟩ (fun r => ∀ c : Dev Cert.HidGateIdeal.nD,
          r.2.mem ((c.tc : Thread Cert.HidGateIdeal.nD Cert.HidGateIdeal.τ).loc Cert.HidGateIdeal.main_v0) = v0 c
          ∧ r.2.mem ((c.tc : Thread Cert.HidGateIdeal.nD Cert.HidGateIdeal.τ).loc Cert.HidGateIdeal.main_arg0) = m ((c.tc : Thread Cert.HidGateIdeal.nD Cert.HidGateIdeal.τ).loc Cert.HidGateIdeal.main_arg0)
          ∧ r.2.mem ((c.tc : Thread Cert.HidGateIdeal.nD Cert.HidGateIdeal.τ).loc Cert.HidGateIdeal.main_arg1) = m ((c.tc : Thread Cert.HidGateIdeal.nD Cert.HidGateIdeal.τ).loc Cert.HidGateIdeal.main_arg1))
      ∧ θ_run (Cert.HidGateRefIdeal.defs (F := Ideal)) (onTc (τ := Cert.HidGateRefIdeal.τ) (Cert.HidGateRefIdeal.main (F := Ideal))) ⟨m', fun _ => 0, g'⟩ (fun r => ∀ c : Dev Cert.HidGateRefIdeal.nD,
          r.2.mem ((c.tc : Thread Cert.HidGateRefIdeal.nD Cert.HidGateRefIdeal.τ).loc Cert.HidGateRefIdeal.main_v0) = v0 c
          ∧ r.2.mem ((c.tc : Thread Cert.HidGateRefIdeal.nD Cert.HidGateRefIdeal.τ).loc Cert.HidGateRefIdeal.main_arg0) = m' ((c.tc : Thread Cert.HidGateRefIdeal.nD Cert.HidGateRefIdeal.τ).loc Cert.HidGateRefIdeal.main_arg0)
          ∧ r.2.mem ((c.tc : Thread Cert.HidGateRefIdeal.nD Cert.HidGateRefIdeal.τ).loc Cert.HidGateRefIdeal.main_arg1) = m' ((c.tc : Thread Cert.HidGateRefIdeal.nD Cert.HidGateRefIdeal.τ).loc Cert.HidGateRefIdeal.main_arg1))

def preserves_HidUp_HidUpIdeal : Prop :=
  True

def algebraic_HidUpIdeal_HidUpRefIdeal [hHidUpIdeal : Cert.HidUpIdeal.Facts] [hHidUpRefIdeal : Cert.HidUpRefIdeal.Facts] : Prop :=
  ∀ (m : (ℓ : Loc Cert.HidUpIdeal.nD Cert.HidUpIdeal.τ Cert.HidUpIdeal.sig) → Buf (Elt Ideal) ℓ) (g : Dev Cert.HidUpIdeal.nD → PrngReg)
    (m' : (ℓ : Loc Cert.HidUpRefIdeal.nD Cert.HidUpRefIdeal.τ Cert.HidUpRefIdeal.sig) → Buf (Elt Ideal) ℓ) (g' : Dev Cert.HidUpRefIdeal.nD → PrngReg), Pre_HidUpIdeal m →
    (∀ c : Dev Cert.HidUpIdeal.nD,
      m' ((c.tc : Thread Cert.HidUpRefIdeal.nD Cert.HidUpRefIdeal.τ).loc Cert.HidUpRefIdeal.main_arg0) = m ((c.tc : Thread Cert.HidUpIdeal.nD Cert.HidUpIdeal.τ).loc Cert.HidUpIdeal.main_arg0)
      ∧ m' ((c.tc : Thread Cert.HidUpRefIdeal.nD Cert.HidUpRefIdeal.τ).loc Cert.HidUpRefIdeal.main_arg1) = m ((c.tc : Thread Cert.HidUpIdeal.nD Cert.HidUpIdeal.τ).loc Cert.HidUpIdeal.main_arg1)
      ∧ m' ((c.tc : Thread Cert.HidUpRefIdeal.nD Cert.HidUpRefIdeal.τ).loc Cert.HidUpRefIdeal.main_arg2) = m ((c.tc : Thread Cert.HidUpIdeal.nD Cert.HidUpIdeal.τ).loc Cert.HidUpIdeal.main_arg2)) →
    ∃ (v0 : (c : Dev Cert.HidUpIdeal.nD) → Buf (Elt Ideal) ((c.tc : Thread Cert.HidUpIdeal.nD Cert.HidUpIdeal.τ).loc Cert.HidUpIdeal.main_v0)),
      θ_run (Cert.HidUpIdeal.defs (F := Ideal)) (onTc (τ := Cert.HidUpIdeal.τ) (Cert.HidUpIdeal.main (F := Ideal))) ⟨m, fun _ => 0, g⟩ (fun r => ∀ c : Dev Cert.HidUpIdeal.nD,
          r.2.mem ((c.tc : Thread Cert.HidUpIdeal.nD Cert.HidUpIdeal.τ).loc Cert.HidUpIdeal.main_v0) = v0 c
          ∧ r.2.mem ((c.tc : Thread Cert.HidUpIdeal.nD Cert.HidUpIdeal.τ).loc Cert.HidUpIdeal.main_arg0) = m ((c.tc : Thread Cert.HidUpIdeal.nD Cert.HidUpIdeal.τ).loc Cert.HidUpIdeal.main_arg0)
          ∧ r.2.mem ((c.tc : Thread Cert.HidUpIdeal.nD Cert.HidUpIdeal.τ).loc Cert.HidUpIdeal.main_arg1) = m ((c.tc : Thread Cert.HidUpIdeal.nD Cert.HidUpIdeal.τ).loc Cert.HidUpIdeal.main_arg1)
          ∧ r.2.mem ((c.tc : Thread Cert.HidUpIdeal.nD Cert.HidUpIdeal.τ).loc Cert.HidUpIdeal.main_arg2) = m ((c.tc : Thread Cert.HidUpIdeal.nD Cert.HidUpIdeal.τ).loc Cert.HidUpIdeal.main_arg2))
      ∧ θ_run (Cert.HidUpRefIdeal.defs (F := Ideal)) (onTc (τ := Cert.HidUpRefIdeal.τ) (Cert.HidUpRefIdeal.main (F := Ideal))) ⟨m', fun _ => 0, g'⟩ (fun r => ∀ c : Dev Cert.HidUpRefIdeal.nD,
          r.2.mem ((c.tc : Thread Cert.HidUpRefIdeal.nD Cert.HidUpRefIdeal.τ).loc Cert.HidUpRefIdeal.main_v1) = v0 c
          ∧ r.2.mem ((c.tc : Thread Cert.HidUpRefIdeal.nD Cert.HidUpRefIdeal.τ).loc Cert.HidUpRefIdeal.main_arg0) = m' ((c.tc : Thread Cert.HidUpRefIdeal.nD Cert.HidUpRefIdeal.τ).loc Cert.HidUpRefIdeal.main_arg0)
          ∧ r.2.mem ((c.tc : Thread Cert.HidUpRefIdeal.nD Cert.HidUpRefIdeal.τ).loc Cert.HidUpRefIdeal.main_arg1) = m' ((c.tc : Thread Cert.HidUpRefIdeal.nD Cert.HidUpRefIdeal.τ).loc Cert.HidUpRefIdeal.main_arg1)
          ∧ r.2.mem ((c.tc : Thread Cert.HidUpRefIdeal.nD Cert.HidUpRefIdeal.τ).loc Cert.HidUpRefIdeal.main_arg2) = m' ((c.tc : Thread Cert.HidUpRefIdeal.nD Cert.HidUpRefIdeal.τ).loc Cert.HidUpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)) (v2 : (c : Dev Cert.DownIdeal.nD) → Buf (Elt Ideal) ((c.tc : Thread Cert.DownIdeal.nD Cert.DownIdeal.τ).loc Cert.DownIdeal.main_v0_2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_v0_2) = v2 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v4) = v0 c
          ∧ r.2.mem ((c.tc : Thread Cert.DownRefIdeal.nD Cert.DownRefIdeal.τ).loc Cert.DownRefIdeal.main_v9) = v1 c
          ∧ r.2.mem ((c.tc : Thread Cert.DownRefIdeal.nD Cert.DownRefIdeal.τ).loc Cert.DownRefIdeal.main_v12) = v2 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Mixer_MixerIdeal : Prop :=
  IdealRules.named_const.Statement Cert.MixerIdeal.κ "slope0" .f32 0x3F3504F3#32 (((Real.sqrt 2)⁻¹ : ℝ) : EReal)
  ∧ IdealRules.named_const.Statement Cert.MixerIdeal.κ "mask" .f32 0xF149F2CA#32 ⊥
  ∧ IdealRules.named_const.Statement Cert.MixerIdeal.κ "slope2" .f32 0x3EB504F3#32 (((2 * (Real.sqrt 2))⁻¹ : ℝ) : EReal)
  ∧ IdealRules.named_const.Statement Cert.MixerIdeal.κ "slope4" .f32 0x3E3504F3#32 (((4 * (Real.sqrt 2))⁻¹ : ℝ) : EReal)
  ∧ IdealRules.named_const.Statement Cert.MixerIdeal.κ "slope6" .f32 0x3DB504F3#32 (((8 * (Real.sqrt 2))⁻¹ : ℝ) : EReal)
  ∧ IdealRules.named_const.Statement Cert.MixerIdeal.κ "slope8" .f32 0x3D3504F3#32 (((16 * (Real.sqrt 2))⁻¹ : ℝ) : EReal)
  ∧ IdealRules.named_const.Statement Cert.MixerIdeal.κ "slope10" .f32 0x3CB504F3#32 (((32 * (Real.sqrt 2))⁻¹ : ℝ) : EReal)
  ∧ IdealRules.named_const.Statement Cert.MixerIdeal.κ "slope12" .f32 0x3C3504F3#32 (((64 * (Real.sqrt 2))⁻¹ : ℝ) : EReal)
  ∧ IdealRules.named_const.Statement Cert.MixerIdeal.κ "slope14" .f32 0x3BB504F3#32 (((128 * (Real.sqrt 2))⁻¹ : ℝ) : EReal)

def algebraic_MixerIdeal_MixerRefIdeal [hMixerIdeal : Cert.MixerIdeal.Facts] [hMixerRefIdeal : Cert.MixerRefIdeal.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)
      ∧ m' ((c.tc : Thread Cert.MixerRefIdeal.nD Cert.MixerRefIdeal.τ).loc Cert.MixerRefIdeal.main_arg5) = m ((c.tc : Thread Cert.MixerIdeal.nD Cert.MixerIdeal.τ).loc Cert.MixerIdeal.main_arg5)
      ∧ m' ((c.tc : Thread Cert.MixerRefIdeal.nD Cert.MixerRefIdeal.τ).loc Cert.MixerRefIdeal.main_arg6) = m ((c.tc : Thread Cert.MixerIdeal.nD Cert.MixerIdeal.τ).loc Cert.MixerIdeal.main_arg6)
      ∧ m' ((c.tc : Thread Cert.MixerRefIdeal.nD Cert.MixerRefIdeal.τ).loc Cert.MixerRefIdeal.main_arg7) = m ((c.tc : Thread Cert.MixerIdeal.nD Cert.MixerIdeal.τ).loc Cert.MixerIdeal.main_arg7)
      ∧ m' ((c.tc : Thread Cert.MixerRefIdeal.nD Cert.MixerRefIdeal.τ).loc Cert.MixerRefIdeal.main_arg8) = m ((c.tc : Thread Cert.MixerIdeal.nD Cert.MixerIdeal.τ).loc Cert.MixerIdeal.main_arg8)
      ∧ m' ((c.tc : Thread Cert.MixerRefIdeal.nD Cert.MixerRefIdeal.τ).loc Cert.MixerRefIdeal.main_arg9) = m ((c.tc : Thread Cert.MixerIdeal.nD Cert.MixerIdeal.τ).loc Cert.MixerIdeal.main_arg9)) →
    ∃ (v0 : (c : Dev Cert.MixerIdeal.nD) → Buf (Elt Ideal) ((c.tc : Thread Cert.MixerIdeal.nD Cert.MixerIdeal.τ).loc Cert.MixerIdeal.main_v0)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v0) = v0 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
          ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
          ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v203) = v0 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
          ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5)
          ∧ r.2.mem ((c.tc : Thread Cert.MixerRefIdeal.nD Cert.MixerRefIdeal.τ).loc Cert.MixerRefIdeal.main_arg6) = m' ((c.tc : Thread Cert.MixerRefIdeal.nD Cert.MixerRefIdeal.τ).loc Cert.MixerRefIdeal.main_arg6)
          ∧ r.2.mem ((c.tc : Thread Cert.MixerRefIdeal.nD Cert.MixerRefIdeal.τ).loc Cert.MixerRefIdeal.main_arg7) = m' ((c.tc : Thread Cert.MixerRefIdeal.nD Cert.MixerRefIdeal.τ).loc Cert.MixerRefIdeal.main_arg7)
          ∧ r.2.mem ((c.tc : Thread Cert.MixerRefIdeal.nD Cert.MixerRefIdeal.τ).loc Cert.MixerRefIdeal.main_arg8) = m' ((c.tc : Thread Cert.MixerRefIdeal.nD Cert.MixerRefIdeal.τ).loc Cert.MixerRefIdeal.main_arg8)
          ∧ r.2.mem ((c.tc : Thread Cert.MixerRefIdeal.nD Cert.MixerRefIdeal.τ).loc Cert.MixerRefIdeal.main_arg9) = m' ((c.tc : Thread Cert.MixerRefIdeal.nD Cert.MixerRefIdeal.τ).loc Cert.MixerRefIdeal.main_arg9))

def preserves_Patch_PatchIdeal : Prop :=
  True

def bitexact_Patch_PatchRef [hPatch : Cert.Patch.Facts] [hPatchRef : Cert.PatchRef.Facts] : Prop :=
  ∀ (m : (ℓ : Loc Cert.Patch.nD Cert.Patch.τ Cert.Patch.sig) → Buf (Elt Bits) ℓ) (g : Dev Cert.Patch.nD → PrngReg)
    (m' : (ℓ : Loc Cert.PatchRef.nD Cert.PatchRef.τ Cert.PatchRef.sig) → Buf (Elt Bits) ℓ) (g' : Dev Cert.PatchRef.nD → PrngReg), Pre_Patch m →
    (∀ c : Dev Cert.Patch.nD,
      m' ((c.tc : Thread Cert.PatchRef.nD Cert.PatchRef.τ).loc Cert.PatchRef.main_arg0) = m ((c.tc : Thread Cert.Patch.nD Cert.Patch.τ).loc Cert.Patch.main_arg0)
      ∧ m' ((c.tc : Thread Cert.PatchRef.nD Cert.PatchRef.τ).loc Cert.PatchRef.main_arg1) = m ((c.tc : Thread Cert.Patch.nD Cert.Patch.τ).loc Cert.Patch.main_arg1)) →
    ∃ (v0 : (c : Dev Cert.Patch.nD) → Buf (Elt Bits) ((c.tc : Thread Cert.Patch.nD Cert.Patch.τ).loc Cert.Patch.main_v0)),
      θ_run (Cert.Patch.defs (F := Bits)) (onTc (τ := Cert.Patch.τ) (Cert.Patch.main (F := Bits))) ⟨m, fun _ => 0, g⟩ (fun r => ∀ c : Dev Cert.Patch.nD,
          r.2.mem ((c.tc : Thread Cert.Patch.nD Cert.Patch.τ).loc Cert.Patch.main_v0) = v0 c
          ∧ r.2.mem ((c.tc : Thread Cert.Patch.nD Cert.Patch.τ).loc Cert.Patch.main_arg0) = m ((c.tc : Thread Cert.Patch.nD Cert.Patch.τ).loc Cert.Patch.main_arg0)
          ∧ r.2.mem ((c.tc : Thread Cert.Patch.nD Cert.Patch.τ).loc Cert.Patch.main_arg1) = m ((c.tc : Thread Cert.Patch.nD Cert.Patch.τ).loc Cert.Patch.main_arg1))
      ∧ θ_run (Cert.PatchRef.defs (F := Bits)) (onTc (τ := Cert.PatchRef.τ) (Cert.PatchRef.main (F := Bits))) ⟨m', fun _ => 0, g'⟩ (fun r => ∀ c : Dev Cert.PatchRef.nD,
          r.2.mem ((c.tc : Thread Cert.PatchRef.nD Cert.PatchRef.τ).loc Cert.PatchRef.main_v0) = v0 c
          ∧ r.2.mem ((c.tc : Thread Cert.PatchRef.nD Cert.PatchRef.τ).loc Cert.PatchRef.main_arg0) = m' ((c.tc : Thread Cert.PatchRef.nD Cert.PatchRef.τ).loc Cert.PatchRef.main_arg0)
          ∧ r.2.mem ((c.tc : Thread Cert.PatchRef.nD Cert.PatchRef.τ).loc Cert.PatchRef.main_arg1) = m' ((c.tc : Thread Cert.PatchRef.nD Cert.PatchRef.τ).loc Cert.PatchRef.main_arg1))

def algebraic_PatchIdeal_PatchRefIdeal [hPatchIdeal : Cert.PatchIdeal.Facts] [hPatchRefIdeal : Cert.PatchRefIdeal.Facts] : Prop :=
  ∀ (m : (ℓ : Loc Cert.PatchIdeal.nD Cert.PatchIdeal.τ Cert.PatchIdeal.sig) → Buf (Elt Ideal) ℓ) (g : Dev Cert.PatchIdeal.nD → PrngReg)
    (m' : (ℓ : Loc Cert.PatchRefIdeal.nD Cert.PatchRefIdeal.τ Cert.PatchRefIdeal.sig) → Buf (Elt Ideal) ℓ) (g' : Dev Cert.PatchRefIdeal.nD → PrngReg), Pre_PatchIdeal m →
    (∀ c : Dev Cert.PatchIdeal.nD,
      m' ((c.tc : Thread Cert.PatchRefIdeal.nD Cert.PatchRefIdeal.τ).loc Cert.PatchRefIdeal.main_arg0) = m ((c.tc : Thread Cert.PatchIdeal.nD Cert.PatchIdeal.τ).loc Cert.PatchIdeal.main_arg0)
      ∧ m' ((c.tc : Thread Cert.PatchRefIdeal.nD Cert.PatchRefIdeal.τ).loc Cert.PatchRefIdeal.main_arg1) = m ((c.tc : Thread Cert.PatchIdeal.nD Cert.PatchIdeal.τ).loc Cert.PatchIdeal.main_arg1)) →
    ∃ (v0 : (c : Dev Cert.PatchIdeal.nD) → Buf (Elt Ideal) ((c.tc : Thread Cert.PatchIdeal.nD Cert.PatchIdeal.τ).loc Cert.PatchIdeal.main_v0)),
      θ_run (Cert.PatchIdeal.defs (F := Ideal)) (onTc (τ := Cert.PatchIdeal.τ) (Cert.PatchIdeal.main (F := Ideal))) ⟨m, fun _ => 0, g⟩ (fun r => ∀ c : Dev Cert.PatchIdeal.nD,
          r.2.mem ((c.tc : Thread Cert.PatchIdeal.nD Cert.PatchIdeal.τ).loc Cert.PatchIdeal.main_v0) = v0 c
          ∧ r.2.mem ((c.tc : Thread Cert.PatchIdeal.nD Cert.PatchIdeal.τ).loc Cert.PatchIdeal.main_arg0) = m ((c.tc : Thread Cert.PatchIdeal.nD Cert.PatchIdeal.τ).loc Cert.PatchIdeal.main_arg0)
          ∧ r.2.mem ((c.tc : Thread Cert.PatchIdeal.nD Cert.PatchIdeal.τ).loc Cert.PatchIdeal.main_arg1) = m ((c.tc : Thread Cert.PatchIdeal.nD Cert.PatchIdeal.τ).loc Cert.PatchIdeal.main_arg1))
      ∧ θ_run (Cert.PatchRefIdeal.defs (F := Ideal)) (onTc (τ := Cert.PatchRefIdeal.τ) (Cert.PatchRefIdeal.main (F := Ideal))) ⟨m', fun _ => 0, g'⟩ (fun r => ∀ c : Dev Cert.PatchRefIdeal.nD,
          r.2.mem ((c.tc : Thread Cert.PatchRefIdeal.nD Cert.PatchRefIdeal.τ).loc Cert.PatchRefIdeal.main_v0) = v0 c
          ∧ r.2.mem ((c.tc : Thread Cert.PatchRefIdeal.nD Cert.PatchRefIdeal.τ).loc Cert.PatchRefIdeal.main_arg0) = m' ((c.tc : Thread Cert.PatchRefIdeal.nD Cert.PatchRefIdeal.τ).loc Cert.PatchRefIdeal.main_arg0)
          ∧ r.2.mem ((c.tc : Thread Cert.PatchRefIdeal.nD Cert.PatchRefIdeal.τ).loc Cert.PatchRefIdeal.main_arg1) = m' ((c.tc : Thread Cert.PatchRefIdeal.nD Cert.PatchRefIdeal.τ).loc Cert.PatchRefIdeal.main_arg1))

def Claim : Prop :=
  ∃ (hKernel : Cert.Kernel.Facts) (hKernelIdeal : Cert.KernelIdeal.Facts) (hReferenceIdeal : Cert.ReferenceIdeal.Facts) (hReference : Cert.Reference.Facts) (hUpdate : Cert.Update.Facts) (hUpdateIdeal : Cert.UpdateIdeal.Facts) (hUpdateRefIdeal : Cert.UpdateRefIdeal.Facts) (hGather : Cert.Gather.Facts) (hGatherIdeal : Cert.GatherIdeal.Facts) (hGatherRefIdeal : Cert.GatherRefIdeal.Facts) (hGatherRef : Cert.GatherRef.Facts) (hDense : Cert.Dense.Facts) (hDenseIdeal : Cert.DenseIdeal.Facts) (hDenseRefIdeal : Cert.DenseRefIdeal.Facts) (hNorm : Cert.Norm.Facts) (hNormIdeal : Cert.NormIdeal.Facts) (hNormRefIdeal : Cert.NormRefIdeal.Facts) (hPasses : Cert.Passes.Facts) (hPassesIdeal : Cert.PassesIdeal.Facts) (hPassesRefIdeal : Cert.PassesRefIdeal.Facts) (hGwFfn : Cert.GwFfn.Facts) (hGwFfnIdeal : Cert.GwFfnIdeal.Facts) (hGwFfnRefIdeal : Cert.GwFfnRefIdeal.Facts) (hGwOut : Cert.GwOut.Facts) (hGwOutIdeal : Cert.GwOutIdeal.Facts) (hGwOutRefIdeal : Cert.GwOutRefIdeal.Facts) (hGwIn : Cert.GwIn.Facts) (hGwInIdeal : Cert.GwInIdeal.Facts) (hGwInRefIdeal : Cert.GwInRefIdeal.Facts) (hHidGate : Cert.HidGate.Facts) (hHidGateIdeal : Cert.HidGateIdeal.Facts) (hHidGateRefIdeal : Cert.HidGateRefIdeal.Facts) (hHidUp : Cert.HidUp.Facts) (hHidUpIdeal : Cert.HidUpIdeal.Facts) (hHidUpRefIdeal : Cert.HidUpRefIdeal.Facts) (hDown : Cert.Down.Facts) (hDownIdeal : Cert.DownIdeal.Facts) (hDownRefIdeal : Cert.DownRefIdeal.Facts) (hMixer : Cert.Mixer.Facts) (hMixerIdeal : Cert.MixerIdeal.Facts) (hMixerRefIdeal : Cert.MixerRefIdeal.Facts) (hPatch : Cert.Patch.Facts) (hPatchIdeal : Cert.PatchIdeal.Facts) (hPatchRefIdeal : Cert.PatchRefIdeal.Facts) (hPatchRef : Cert.PatchRef.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_Update (hUpdate := hUpdate)
    ∧ quiescent_UpdateIdeal (hUpdateIdeal := hUpdateIdeal)
    ∧ quiescent_UpdateRefIdeal (hUpdateRefIdeal := hUpdateRefIdeal)
    ∧ quiescent_Gather (hGather := hGather)
    ∧ quiescent_GatherIdeal (hGatherIdeal := hGatherIdeal)
    ∧ quiescent_GatherRefIdeal (hGatherRefIdeal := hGatherRefIdeal)
    ∧ quiescent_GatherRef (hGatherRef := hGatherRef)
    ∧ quiescent_Dense (hDense := hDense)
    ∧ quiescent_DenseIdeal (hDenseIdeal := hDenseIdeal)
    ∧ quiescent_DenseRefIdeal (hDenseRefIdeal := hDenseRefIdeal)
    ∧ quiescent_Norm (hNorm := hNorm)
    ∧ quiescent_NormIdeal (hNormIdeal := hNormIdeal)
    ∧ quiescent_NormRefIdeal (hNormRefIdeal := hNormRefIdeal)
    ∧ quiescent_Passes (hPasses := hPasses)
    ∧ quiescent_PassesIdeal (hPassesIdeal := hPassesIdeal)
    ∧ quiescent_PassesRefIdeal (hPassesRefIdeal := hPassesRefIdeal)
    ∧ quiescent_GwFfn (hGwFfn := hGwFfn)
    ∧ quiescent_GwFfnIdeal (hGwFfnIdeal := hGwFfnIdeal)
    ∧ quiescent_GwFfnRefIdeal (hGwFfnRefIdeal := hGwFfnRefIdeal)
    ∧ quiescent_GwOut (hGwOut := hGwOut)
    ∧ quiescent_GwOutIdeal (hGwOutIdeal := hGwOutIdeal)
    ∧ quiescent_GwOutRefIdeal (hGwOutRefIdeal := hGwOutRefIdeal)
    ∧ quiescent_GwIn (hGwIn := hGwIn)
    ∧ quiescent_GwInIdeal (hGwInIdeal := hGwInIdeal)
    ∧ quiescent_GwInRefIdeal (hGwInRefIdeal := hGwInRefIdeal)
    ∧ quiescent_HidGate (hHidGate := hHidGate)
    ∧ quiescent_HidGateIdeal (hHidGateIdeal := hHidGateIdeal)
    ∧ quiescent_HidGateRefIdeal (hHidGateRefIdeal := hHidGateRefIdeal)
    ∧ quiescent_HidUp (hHidUp := hHidUp)
    ∧ quiescent_HidUpIdeal (hHidUpIdeal := hHidUpIdeal)
    ∧ quiescent_HidUpRefIdeal (hHidUpRefIdeal := hHidUpRefIdeal)
    ∧ quiescent_Down (hDown := hDown)
    ∧ quiescent_DownIdeal (hDownIdeal := hDownIdeal)
    ∧ quiescent_DownRefIdeal (hDownRefIdeal := hDownRefIdeal)
    ∧ quiescent_Mixer (hMixer := hMixer)
    ∧ quiescent_MixerIdeal (hMixerIdeal := hMixerIdeal)
    ∧ quiescent_MixerRefIdeal (hMixerRefIdeal := hMixerRefIdeal)
    ∧ quiescent_Patch (hPatch := hPatch)
    ∧ quiescent_PatchIdeal (hPatchIdeal := hPatchIdeal)
    ∧ quiescent_PatchRefIdeal (hPatchRefIdeal := hPatchRefIdeal)
    ∧ quiescent_PatchRef (hPatchRef := hPatchRef)
    ∧ preserves_Kernel_KernelIdeal
    ∧ bitexact_Kernel_Reference (hKernel := hKernel) (hReference := hReference)
    ∧ algebraic_KernelIdeal_ReferenceIdeal (hKernelIdeal := hKernelIdeal) (hReferenceIdeal := hReferenceIdeal)
    ∧ preserves_Update_UpdateIdeal
    ∧ algebraic_UpdateIdeal_UpdateRefIdeal (hUpdateIdeal := hUpdateIdeal) (hUpdateRefIdeal := hUpdateRefIdeal)
    ∧ preserves_Gather_GatherIdeal
    ∧ bitexact_Gather_GatherRef (hGather := hGather) (hGatherRef := hGatherRef)
    ∧ algebraic_GatherIdeal_GatherRefIdeal (hGatherIdeal := hGatherIdeal) (hGatherRefIdeal := hGatherRefIdeal)
    ∧ preserves_Dense_DenseIdeal
    ∧ algebraic_DenseIdeal_DenseRefIdeal (hDenseIdeal := hDenseIdeal) (hDenseRefIdeal := hDenseRefIdeal)
    ∧ preserves_Norm_NormIdeal
    ∧ algebraic_NormIdeal_NormRefIdeal (hNormIdeal := hNormIdeal) (hNormRefIdeal := hNormRefIdeal)
    ∧ preserves_Passes_PassesIdeal
    ∧ algebraic_PassesIdeal_PassesRefIdeal (hPassesIdeal := hPassesIdeal) (hPassesRefIdeal := hPassesRefIdeal)
    ∧ preserves_GwFfn_GwFfnIdeal
    ∧ algebraic_GwFfnIdeal_GwFfnRefIdeal (hGwFfnIdeal := hGwFfnIdeal) (hGwFfnRefIdeal := hGwFfnRefIdeal)
    ∧ preserves_GwOut_GwOutIdeal
    ∧ algebraic_GwOutIdeal_GwOutRefIdeal (hGwOutIdeal := hGwOutIdeal) (hGwOutRefIdeal := hGwOutRefIdeal)
    ∧ preserves_GwIn_GwInIdeal
    ∧ algebraic_GwInIdeal_GwInRefIdeal (hGwInIdeal := hGwInIdeal) (hGwInRefIdeal := hGwInRefIdeal)
    ∧ preserves_HidGate_HidGateIdeal
    ∧ algebraic_HidGateIdeal_HidGateRefIdeal (hHidGateIdeal := hHidGateIdeal) (hHidGateRefIdeal := hHidGateRefIdeal)
    ∧ preserves_HidUp_HidUpIdeal
    ∧ algebraic_HidUpIdeal_HidUpRefIdeal (hHidUpIdeal := hHidUpIdeal) (hHidUpRefIdeal := hHidUpRefIdeal)
    ∧ preserves_Down_DownIdeal
    ∧ algebraic_DownIdeal_DownRefIdeal (hDownIdeal := hDownIdeal) (hDownRefIdeal := hDownRefIdeal)
    ∧ preserves_Mixer_MixerIdeal
    ∧ algebraic_MixerIdeal_MixerRefIdeal (hMixerIdeal := hMixerIdeal) (hMixerRefIdeal := hMixerRefIdeal)
    ∧ preserves_Patch_PatchIdeal
    ∧ bitexact_Patch_PatchRef (hPatch := hPatch) (hPatchRef := hPatchRef)
    ∧ algebraic_PatchIdeal_PatchRefIdeal (hPatchIdeal := hPatchIdeal) (hPatchRefIdeal := hPatchRefIdeal)
-- ==== Kernel.lean ====
abbrev S3328x2048 : Shape := ⟨2, ![3328, 2048]⟩
abbrev S2048x2048 : Shape := ⟨2, ![2048, 2048]⟩
abbrev S5632x2048 : Shape := ⟨2, ![5632, 2048]⟩
abbrev S8x416x2048 : Shape := ⟨3, ![8, 416, 2048]⟩
abbrev S8x256x2048 : Shape := ⟨3, ![8, 256, 2048]⟩
abbrev S8x704x2048 : Shape := ⟨3, ![8, 704, 2048]⟩
abbrev S5x7 : Shape := ⟨2, ![5, 7]⟩
abbrev S5 : Shape := ⟨1, ![5]⟩
abbrev S1 : Shape := ⟨1, ![1]⟩
abbrev S_ : Shape := ⟨0, ![]⟩
abbrev S1x416x2048 : Shape := ⟨3, ![1, 416, 2048]⟩
abbrev S416x2048 : Shape := ⟨2, ![416, 2048]⟩
abbrev S1x256x2048 : Shape := ⟨3, ![1, 256, 2048]⟩
abbrev S256x2048 : Shape := ⟨2, ![256, 2048]⟩
abbrev S1x704x2048 : Shape := ⟨3, ![1, 704, 2048]⟩
abbrev S704x2048 : Shape := ⟨2, ![704, 2048]⟩
abbrev S1x1 : Shape := ⟨2, ![1, 1]⟩

abbrev nBuf : Space → Nat
  | .hbm => 10
  | .vmem => 0
  | .smem => 0
  | _ => 0

abbrev bufTy : (tb : Table) → Fin (tcTables nBuf tb) → BufTy
  | .hbm, ⟨0, _⟩ => ⟨S3328x2048, .bf16⟩
  | .hbm, ⟨1, _⟩ => ⟨S2048x2048, .bf16⟩
  | .hbm, ⟨2, _⟩ => ⟨S5632x2048, .bf16⟩
  | .hbm, ⟨3, _⟩ => ⟨S5632x2048, .bf16⟩
  | .hbm, ⟨4, _⟩ => ⟨S5632x2048, .bf16⟩
  | .hbm, ⟨5, _⟩ => ⟨S8x416x2048, .bf16⟩
  | .hbm, ⟨6, _⟩ => ⟨S8x256x2048, .bf16⟩
  | .hbm, ⟨7, _⟩ => ⟨S8x704x2048, .bf16⟩
  | .hbm, ⟨8, _⟩ => ⟨S8x704x2048, .bf16⟩
  | .hbm, ⟨9, _⟩ => ⟨S8x704x2048, .bf16⟩
  | _, _ => ⟨S3328x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  ofTc nBuf bufTy 0 75 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩

abbrev nD : Nat := 8
abbrev τ : Topo := Topo.v7x

variable {F : FTy → Type} [FloatOps F]

abbrev grid0 : Pipeline.Grid := .none

def k0_mult1 (d0 : Dev nD) : BitVec 32 :=
  let c4_i32_7 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v13 : BitVec 32 := Scalar.xori v2 c0_i32
  let v16 : BitVec 32 := Scalar.muli c4_i32_7 v13
  let c2_i32_8 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_5 : BitVec 32 := 0#32
  let v14 : BitVec 32 := Scalar.xori v5 c0_i32_5
  let v17 : BitVec 32 := Scalar.muli c2_i32_8 v14
  let v18 : BitVec 32 := Scalar.addi v16 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_6 : BitVec 32 := 1#32
  let v15 : BitVec 32 := Scalar.xori v8 c1_i32_6
  let v19 : BitVec 32 := Scalar.addi v18 v15
  let c416_i32 : BitVec 32 := 416#32
  let v20 : BitVec 32 := Scalar.muli v19 c416_i32
  v20
def k0_mult2 (d0 : Dev nD) : BitVec 32 :=
  let c4_i32_12 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_9 : BitVec 32 := 1#32
  let v22 : BitVec 32 := Scalar.xori v2 c1_i32_9
  let v25 : BitVec 32 := Scalar.muli c4_i32_12 v22
  let c2_i32_13 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_10 : BitVec 32 := 0#32
  let v23 : BitVec 32 := Scalar.xori v5 c0_i32_10
  let v26 : BitVec 32 := Scalar.muli c2_i32_13 v23
  let v27 : BitVec 32 := Scalar.addi v25 v26
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_11 : BitVec 32 := 0#32
  let v24 : BitVec 32 := Scalar.xori v8 c0_i32_11
  let v28 : BitVec 32 := Scalar.addi v27 v24
  let c416_i32_14 : BitVec 32 := 416#32
  let v29 : BitVec 32 := Scalar.muli v28 c416_i32_14
  v29
def k0_mult3 (d0 : Dev nD) : BitVec 32 :=
  let c4_i32_18 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_15 : BitVec 32 := 0#32
  let v31 : BitVec 32 := Scalar.xori v2 c0_i32_15
  let v34 : BitVec 32 := Scalar.muli c4_i32_18 v31
  let c2_i32_19 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_16 : BitVec 32 := 1#32
  let v32 : BitVec 32 := Scalar.xori v5 c1_i32_16
  let v35 : BitVec 32 := Scalar.muli c2_i32_19 v32
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_17 : BitVec 32 := 0#32
  let v33 : BitVec 32 := Scalar.xori v8 c0_i32_17
  let v37 : BitVec 32 := Scalar.addi v36 v33
  let c416_i32_20 : BitVec 32 := 416#32
  let v38 : BitVec 32 := Scalar.muli v37 c416_i32_20
  v38
def k0_mult4 (d0 : Dev nD) : BitVec 32 :=
  let c4_i32_24 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_21 : BitVec 32 := 1#32
  let v40 : BitVec 32 := Scalar.xori v2 c1_i32_21
  let v43 : BitVec 32 := Scalar.muli c4_i32_24 v40
  let c2_i32_25 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_22 : BitVec 32 := 1#32
  let v41 : BitVec 32 := Scalar.xori v5 c1_i32_22
  let v44 : BitVec 32 := Scalar.muli c2_i32_25 v41
  let v45 : BitVec 32 := Scalar.addi v43 v44
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_23 : BitVec 32 := 0#32
  let v42 : BitVec 32 := Scalar.xori v8 c0_i32_23
  let v46 : BitVec 32 := Scalar.addi v45 v42
  let c416_i32_26 : BitVec 32 := 416#32
  let v47 : BitVec 32 := Scalar.muli v46 c416_i32_26
  v47
def k0_mult5 (d0 : Dev nD) : BitVec 32 :=
  let c4_i32_30 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_27 : BitVec 32 := 1#32
  let v49 : BitVec 32 := Scalar.xori v2 c1_i32_27
  let v52 : BitVec 32 := Scalar.muli c4_i32_30 v49
  let c2_i32_31 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_28 : BitVec 32 := 0#32
  let v50 : BitVec 32 := Scalar.xori v5 c0_i32_28
  let v53 : BitVec 32 := Scalar.muli c2_i32_31 v50
  let v54 : BitVec 32 := Scalar.addi v52 v53
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_29 : BitVec 32 := 1#32
  let v51 : BitVec 32 := Scalar.xori v8 c1_i32_29
  let v55 : BitVec 32 := Scalar.addi v54 v51
  let c416_i32_32 : BitVec 32 := 416#32
  let v56 : BitVec 32 := Scalar.muli v55 c416_i32_32
  v56
def k0_mult6 (d0 : Dev nD) : BitVec 32 :=
  let c4_i32_36 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_33 : BitVec 32 := 0#32
  let v58 : BitVec 32 := Scalar.xori v2 c0_i32_33
  let v61 : BitVec 32 := Scalar.muli c4_i32_36 v58
  let c2_i32_37 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_34 : BitVec 32 := 1#32
  let v59 : BitVec 32 := Scalar.xori v5 c1_i32_34
  let v62 : BitVec 32 := Scalar.muli c2_i32_37 v59
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_35 : BitVec 32 := 1#32
  let v60 : BitVec 32 := Scalar.xori v8 c1_i32_35
  let v64 : BitVec 32 := Scalar.addi v63 v60
  let c416_i32_38 : BitVec 32 := 416#32
  let v65 : BitVec 32 := Scalar.muli v64 c416_i32_38
  v65
def k0_mult7 (d0 : Dev nD) : BitVec 32 :=
  let c4_i32_42 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_39 : BitVec 32 := 1#32
  let v67 : BitVec 32 := Scalar.xori v2 c1_i32_39
  let v70 : BitVec 32 := Scalar.muli c4_i32_42 v67
  let c2_i32_43 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_40 : BitVec 32 := 1#32
  let v68 : BitVec 32 := Scalar.xori v5 c1_i32_40
  let v71 : BitVec 32 := Scalar.muli c2_i32_43 v68
  let v72 : BitVec 32 := Scalar.addi v70 v71
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_41 : BitVec 32 := 1#32
  let v69 : BitVec 32 := Scalar.xori v8 c1_i32_41
  let v73 : BitVec 32 := Scalar.addi v72 v69
  let c416_i32_44 : BitVec 32 := 416#32
  let v74 : BitVec 32 := Scalar.muli v73 c416_i32_44
  v74
def k0_mult8 (d0 : Dev nD) : BitVec 32 :=
  let c4_i32_48 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_45 : BitVec 32 := 0#32
  let v76 : BitVec 32 := Scalar.xori v2 c0_i32_45
  let v79 : BitVec 32 := Scalar.muli c4_i32_48 v76
  let c2_i32_49 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_46 : BitVec 32 := 0#32
  let v77 : BitVec 32 := Scalar.xori v5 c0_i32_46
  let v80 : BitVec 32 := Scalar.muli c2_i32_49 v77
  let v81 : BitVec 32 := Scalar.addi v79 v80
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v78 : BitVec 32 := Scalar.xori v8 c1_i32_47
  let v82 : BitVec 32 := Scalar.addi v81 v78
  let c256_i32 : BitVec 32 := 256#32
  let v83 : BitVec 32 := Scalar.muli v82 c256_i32
  v83
def k0_mult9 (d0 : Dev nD) : BitVec 32 :=
  let c4_i32_53 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_50 : BitVec 32 := 1#32
  let v85 : BitVec 32 := Scalar.xori v2 c1_i32_50
  let v88 : BitVec 32 := Scalar.muli c4_i32_53 v85
  let c2_i32_54 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_51 : BitVec 32 := 0#32
  let v86 : BitVec 32 := Scalar.xori v5 c0_i32_51
  let v89 : BitVec 32 := Scalar.muli c2_i32_54 v86
  let v90 : BitVec 32 := Scalar.addi v88 v89
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_52 : BitVec 32 := 0#32
  let v87 : BitVec 32 := Scalar.xori v8 c0_i32_52
  let v91 : BitVec 32 := Scalar.addi v90 v87
  let c256_i32_55 : BitVec 32 := 256#32
  let v92 : BitVec 32 := Scalar.muli v91 c256_i32_55
  v92
def k0_mult10 (d0 : Dev nD) : BitVec 32 :=
  let c4_i32_59 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_56 : BitVec 32 := 0#32
  let v94 : BitVec 32 := Scalar.xori v2 c0_i32_56
  let v97 : BitVec 32 := Scalar.muli c4_i32_59 v94
  let c2_i32_60 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_57 : BitVec 32 := 1#32
  let v95 : BitVec 32 := Scalar.xori v5 c1_i32_57
  let v98 : BitVec 32 := Scalar.muli c2_i32_60 v95
  let v99 : BitVec 32 := Scalar.addi v97 v98
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_58 : BitVec 32 := 0#32
  let v96 : BitVec 32 := Scalar.xori v8 c0_i32_58
  let v100 : BitVec 32 := Scalar.addi v99 v96
  let c256_i32_61 : BitVec 32 := 256#32
  let v101 : BitVec 32 := Scalar.muli v100 c256_i32_61
  v101
def k0_mult11 (d0 : Dev nD) : BitVec 32 :=
  let c4_i32_65 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_62 : BitVec 32 := 1#32
  let v103 : BitVec 32 := Scalar.xori v2 c1_i32_62
  let v106 : BitVec 32 := Scalar.muli c4_i32_65 v103
  let c2_i32_66 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_63 : BitVec 32 := 1#32
  let v104 : BitVec 32 := Scalar.xori v5 c1_i32_63
  let v107 : BitVec 32 := Scalar.muli c2_i32_66 v104
  let v108 : BitVec 32 := Scalar.addi v106 v107
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_64 : BitVec 32 := 0#32
  let v105 : BitVec 32 := Scalar.xori v8 c0_i32_64
  let v109 : BitVec 32 := Scalar.addi v108 v105
  let c256_i32_67 : BitVec 32 := 256#32
  let v110 : BitVec 32 := Scalar.muli v109 c256_i32_67
  v110
def k0_mult12 (d0 : Dev nD) : BitVec 32 :=
  let c4_i32_71 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_68 : BitVec 32 := 1#32
  let v112 : BitVec 32 := Scalar.xori v2 c1_i32_68
  let v115 : BitVec 32 := Scalar.muli c4_i32_71 v112
  let c2_i32_72 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_69 : BitVec 32 := 0#32
  let v113 : BitVec 32 := Scalar.xori v5 c0_i32_69
  let v116 : BitVec 32 := Scalar.muli c2_i32_72 v113
  let v117 : BitVec 32 := Scalar.addi v115 v116
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_70 : BitVec 32 := 1#32
  let v114 : BitVec 32 := Scalar.xori v8 c1_i32_70
  let v118 : BitVec 32 := Scalar.addi v117 v114
  let c256_i32_73 : BitVec 32 := 256#32
  let v119 : BitVec 32 := Scalar.muli v118 c256_i32_73
  v119
def k0_mult13 (d0 : Dev nD) : BitVec 32 :=
  let c4_i32_77 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_74 : BitVec 32 := 0#32
  let v121 : BitVec 32 := Scalar.xori v2 c0_i32_74
  let v124 : BitVec 32 := Scalar.muli c4_i32_77 v121
  let c2_i32_78 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_75 : BitVec 32 := 1#32
  let v122 : BitVec 32 := Scalar.xori v5 c1_i32_75
  let v125 : BitVec 32 := Scalar.muli c2_i32_78 v122
  let v126 : BitVec 32 := Scalar.addi v124 v125
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_76 : BitVec 32 := 1#32
  let v123 : BitVec 32 := Scalar.xori v8 c1_i32_76
  let v127 : BitVec 32 := Scalar.addi v126 v123
  let c256_i32_79 : BitVec 32 := 256#32
  let v128 : BitVec 32 := Scalar.muli v127 c256_i32_79
  v128
def k0_mult14 (d0 : Dev nD) : BitVec 32 :=
  let c4_i32_83 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_80 : BitVec 32 := 1#32
  let v130 : BitVec 32 := Scalar.xori v2 c1_i32_80
  let v133 : BitVec 32 := Scalar.muli c4_i32_83 v130
  let c2_i32_84 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_81 : BitVec 32 := 1#32
  let v131 : BitVec 32 := Scalar.xori v5 c1_i32_81
  let v134 : BitVec 32 := Scalar.muli c2_i32_84 v131
  let v135 : BitVec 32 := Scalar.addi v133 v134
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_82 : BitVec 32 := 1#32
  let v132 : BitVec 32 := Scalar.xori v8 c1_i32_82
  let v136 : BitVec 32 := Scalar.addi v135 v132
  let c256_i32_85 : BitVec 32 := 256#32
  let v137 : BitVec 32 := Scalar.muli v136 c256_i32_85
  v137
def k0_mult15 (d0 : Dev nD) : BitVec 32 :=
  let c4_i32_89 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_86 : BitVec 32 := 0#32
  let v139 : BitVec 32 := Scalar.xori v2 c0_i32_86
  let v142 : BitVec 32 := Scalar.muli c4_i32_89 v139
  let c2_i32_90 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_87 : BitVec 32 := 0#32
  let v140 : BitVec 32 := Scalar.xori v5 c0_i32_87
  let v143 : BitVec 32 := Scalar.muli c2_i32_90 v140
  let v144 : BitVec 32 := Scalar.addi v142 v143
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_88 : BitVec 32 := 1#32
  let v141 : BitVec 32 := Scalar.xori v8 c1_i32_88
  let v145 : BitVec 32 := Scalar.addi v144 v141
  let c704_i32 : BitVec 32 := 704#32
  let v146 : BitVec 32 := Scalar.muli v145 c704_i32
  v146
def k0_mult16 (d0 : Dev nD) : BitVec 32 :=
  let c4_i32_94 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_91 : BitVec 32 := 1#32
  let v148 : BitVec 32 := Scalar.xori v2 c1_i32_91
  let v151 : BitVec 32 := Scalar.muli c4_i32_94 v148
  let c2_i32_95 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_92 : BitVec 32 := 0#32
  let v149 : BitVec 32 := Scalar.xori v5 c0_i32_92
  let v152 : BitVec 32 := Scalar.muli c2_i32_95 v149
  let v153 : BitVec 32 := Scalar.addi v151 v152
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_93 : BitVec 32 := 0#32
  let v150 : BitVec 32 := Scalar.xori v8 c0_i32_93
  let v154 : BitVec 32 := Scalar.addi v153 v150
  let c704_i32_96 : BitVec 32 := 704#32
  let v155 : BitVec 32 := Scalar.muli v154 c704_i32_96
  v155
def k0_mult17 (d0 : Dev nD) : BitVec 32 :=
  let c4_i32_100 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_97 : BitVec 32 := 0#32
  let v157 : BitVec 32 := Scalar.xori v2 c0_i32_97
  let v160 : BitVec 32 := Scalar.muli c4_i32_100 v157
  let c2_i32_101 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_98 : BitVec 32 := 1#32
  let v158 : BitVec 32 := Scalar.xori v5 c1_i32_98
  let v161 : BitVec 32 := Scalar.muli c2_i32_101 v158
  let v162 : BitVec 32 := Scalar.addi v160 v161
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_99 : BitVec 32 := 0#32
  let v159 : BitVec 32 := Scalar.xori v8 c0_i32_99
  let v163 : BitVec 32 := Scalar.addi v162 v159
  let c704_i32_102 : BitVec 32 := 704#32
  let v164 : BitVec 32 := Scalar.muli v163 c704_i32_102
  v164
def k0_mult18 (d0 : Dev nD) : BitVec 32 :=
  let c4_i32_106 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_103 : BitVec 32 := 1#32
  let v166 : BitVec 32 := Scalar.xori v2 c1_i32_103
  let v169 : BitVec 32 := Scalar.muli c4_i32_106 v166
  let c2_i32_107 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_104 : BitVec 32 := 1#32
  let v167 : BitVec 32 := Scalar.xori v5 c1_i32_104
  let v170 : BitVec 32 := Scalar.muli c2_i32_107 v167
  let v171 : BitVec 32 := Scalar.addi v169 v170
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_105 : BitVec 32 := 0#32
  let v168 : BitVec 32 := Scalar.xori v8 c0_i32_105
  let v172 : BitVec 32 := Scalar.addi v171 v168
  let c704_i32_108 : BitVec 32 := 704#32
  let v173 : BitVec 32 := Scalar.muli v172 c704_i32_108
  v173
def k0_mult19 (d0 : Dev nD) : BitVec 32 :=
  let c4_i32_112 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_109 : BitVec 32 := 1#32
  let v175 : BitVec 32 := Scalar.xori v2 c1_i32_109
  let v178 : BitVec 32 := Scalar.muli c4_i32_112 v175
  let c2_i32_113 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_110 : BitVec 32 := 0#32
  let v176 : BitVec 32 := Scalar.xori v5 c0_i32_110
  let v179 : BitVec 32 := Scalar.muli c2_i32_113 v176
  let v180 : BitVec 32 := Scalar.addi v178 v179
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_111 : BitVec 32 := 1#32
  let v177 : BitVec 32 := Scalar.xori v8 c1_i32_111
  let v181 : BitVec 32 := Scalar.addi v180 v177
  let c704_i32_114 : BitVec 32 := 704#32
  let v182 : BitVec 32 := Scalar.muli v181 c704_i32_114
  v182
def k0_mult20 (d0 : Dev nD) : BitVec 32 :=
  let c4_i32_118 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_115 : BitVec 32 := 0#32
  let v184 : BitVec 32 := Scalar.xori v2 c0_i32_115
  let v187 : BitVec 32 := Scalar.muli c4_i32_118 v184
  let c2_i32_119 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_116 : BitVec 32 := 1#32
  let v185 : BitVec 32 := Scalar.xori v5 c1_i32_116
  let v188 : BitVec 32 := Scalar.muli c2_i32_119 v185
  let v189 : BitVec 32 := Scalar.addi v187 v188
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_117 : BitVec 32 := 1#32
  let v186 : BitVec 32 := Scalar.xori v8 c1_i32_117
  let v190 : BitVec 32 := Scalar.addi v189 v186
  let c704_i32_120 : BitVec 32 := 704#32
  let v191 : BitVec 32 := Scalar.muli v190 c704_i32_120
  v191
def k0_mult21 (d0 : Dev nD) : BitVec 32 :=
  let c4_i32_124 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_121 : BitVec 32 := 1#32
  let v193 : BitVec 32 := Scalar.xori v2 c1_i32_121
  let v196 : BitVec 32 := Scalar.muli c4_i32_124 v193
  let c2_i32_125 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_122 : BitVec 32 := 1#32
  let v194 : BitVec 32 := Scalar.xori v5 c1_i32_122
  let v197 : BitVec 32 := Scalar.muli c2_i32_125 v194
  let v198 : BitVec 32 := Scalar.addi v196 v197
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_123 : BitVec 32 := 1#32
  let v195 : BitVec 32 := Scalar.xori v8 c1_i32_123
  let v199 : BitVec 32 := Scalar.addi v198 v195
  let c704_i32_126 : BitVec 32 := 704#32
  let v200 : BitVec 32 := Scalar.muli v199 c704_i32_126
  v200
def k0_mult22 (d0 : Dev nD) : BitVec 32 :=
  let c4_i32_130 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_127 : BitVec 32 := 0#32
  let v202 : BitVec 32 := Scalar.xori v2 c0_i32_127
  let v205 : BitVec 32 := Scalar.muli c4_i32_130 v202
  let c2_i32_131 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_128 : BitVec 32 := 0#32
  let v203 : BitVec 32 := Scalar.xori v5 c0_i32_128
  let v206 : BitVec 32 := Scalar.muli c2_i32_131 v203
  let v207 : BitVec 32 := Scalar.addi v205 v206
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_129 : BitVec 32 := 1#32
  let v204 : BitVec 32 := Scalar.xori v8 c1_i32_129
  let v208 : BitVec 32 := Scalar.addi v207 v204
  let c704_i32_132 : BitVec 32 := 704#32
  let v209 : BitVec 32 := Scalar.muli v208 c704_i32_132
  v209
def k0_mult23 (d0 : Dev nD) : BitVec 32 :=
  let c4_i32_136 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_133 : BitVec 32 := 1#32
  let v211 : BitVec 32 := Scalar.xori v2 c1_i32_133
  let v214 : BitVec 32 := Scalar.muli c4_i32_136 v211
  let c2_i32_137 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_134 : BitVec 32 := 0#32
  let v212 : BitVec 32 := Scalar.xori v5 c0_i32_134
  let v215 : BitVec 32 := Scalar.muli c2_i32_137 v212
  let v216 : BitVec 32 := Scalar.addi v214 v215
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_135 : BitVec 32 := 0#32
  let v213 : BitVec 32 := Scalar.xori v8 c0_i32_135
  let v217 : BitVec 32 := Scalar.addi v216 v213
  let c704_i32_138 : BitVec 32 := 704#32
  let v218 : BitVec 32 := Scalar.muli v217 c704_i32_138
  v218
def k0_mult24 (d0 : Dev nD) : BitVec 32 :=
  let c4_i32_142 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_139 : BitVec 32 := 0#32
  let v220 : BitVec 32 := Scalar.xori v2 c0_i32_139
  let v223 : BitVec 32 := Scalar.muli c4_i32_142 v220
  let c2_i32_143 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_140 : BitVec 32 := 1#32
  let v221 : BitVec 32 := Scalar.xori v5 c1_i32_140
  let v224 : BitVec 32 := Scalar.muli c2_i32_143 v221
  let v225 : BitVec 32 := Scalar.addi v223 v224
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_141 : BitVec 32 := 0#32
  let v222 : BitVec 32 := Scalar.xori v8 c0_i32_141
  let v226 : BitVec 32 := Scalar.addi v225 v222
  let c704_i32_144 : BitVec 32 := 704#32
  let v227 : BitVec 32 := Scalar.muli v226 c704_i32_144
  v227
def k0_mult25 (d0 : Dev nD) : BitVec 32 :=
  let c4_i32_148 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_145 : BitVec 32 := 1#32
  let v229 : BitVec 32 := Scalar.xori v2 c1_i32_145
  let v232 : BitVec 32 := Scalar.muli c4_i32_148 v229
  let c2_i32_149 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_146 : BitVec 32 := 1#32
  let v230 : BitVec 32 := Scalar.xori v5 c1_i32_146
  let v233 : BitVec 32 := Scalar.muli c2_i32_149 v230
  let v234 : BitVec 32 := Scalar.addi v232 v233
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_147 : BitVec 32 := 0#32
  let v231 : BitVec 32 := Scalar.xori v8 c0_i32_147
  let v235 : BitVec 32 := Scalar.addi v234 v231
  let c704_i32_150 : BitVec 32 := 704#32
  let v236 : BitVec 32 := Scalar.muli v235 c704_i32_150
  v236
def k0_mult26 (d0 : Dev nD) : BitVec 32 :=
  let c4_i32_154 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_151 : BitVec 32 := 1#32
  let v238 : BitVec 32 := Scalar.xori v2 c1_i32_151
  let v241 : BitVec 32 := Scalar.muli c4_i32_154 v238
  let c2_i32_155 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_152 : BitVec 32 := 0#32
  let v239 : BitVec 32 := Scalar.xori v5 c0_i32_152
  let v242 : BitVec 32 := Scalar.muli c2_i32_155 v239
  let v243 : BitVec 32 := Scalar.addi v241 v242
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_153 : BitVec 32 := 1#32
  let v240 : BitVec 32 := Scalar.xori v8 c1_i32_153
  let v244 : BitVec 32 := Scalar.addi v243 v240
  let c704_i32_156 : BitVec 32 := 704#32
  let v245 : BitVec 32 := Scalar.muli v244 c704_i32_156
  v245
def k0_mult27 (d0 : Dev nD) : BitVec 32 :=
  let c4_i32_160 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_157 : BitVec 32 := 0#32
  let v247 : BitVec 32 := Scalar.xori v2 c0_i32_157
  let v250 : BitVec 32 := Scalar.muli c4_i32_160 v247
  let c2_i32_161 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_158 : BitVec 32 := 1#32
  let v248 : BitVec 32 := Scalar.xori v5 c1_i32_158
  let v251 : BitVec 32 := Scalar.muli c2_i32_161 v248
  let v252 : BitVec 32 := Scalar.addi v250 v251
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_159 : BitVec 32 := 1#32
  let v249 : BitVec 32 := Scalar.xori v8 c1_i32_159
  let v253 : BitVec 32 := Scalar.addi v252 v249
  let c704_i32_162 : BitVec 32 := 704#32
  let v254 : BitVec 32 := Scalar.muli v253 c704_i32_162
  v254
def k0_mult28 (d0 : Dev nD) : BitVec 32 :=
  let c4_i32_166 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_163 : BitVec 32 := 1#32
  let v256 : BitVec 32 := Scalar.xori v2 c1_i32_163
  let v259 : BitVec 32 := Scalar.muli c4_i32_166 v256
  let c2_i32_167 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_164 : BitVec 32 := 1#32
  let v257 : BitVec 32 := Scalar.xori v5 c1_i32_164
  let v260 : BitVec 32 := Scalar.muli c2_i32_167 v257
  let v261 : BitVec 32 := Scalar.addi v259 v260
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_165 : BitVec 32 := 1#32
  let v258 : BitVec 32 := Scalar.xori v8 c1_i32_165
  let v262 : BitVec 32 := Scalar.addi v261 v258
  let c704_i32_168 : BitVec 32 := 704#32
  let v263 : BitVec 32 := Scalar.muli v262 c704_i32_168
  v263
def k0_mult29 (d0 : Dev nD) : BitVec 32 :=
  let c4_i32_172 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_169 : BitVec 32 := 0#32
  let v265 : BitVec 32 := Scalar.xori v2 c0_i32_169
  let v268 : BitVec 32 := Scalar.muli c4_i32_172 v265
  let c2_i32_173 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_170 : BitVec 32 := 0#32
  let v266 : BitVec 32 := Scalar.xori v5 c0_i32_170
  let v269 : BitVec 32 := Scalar.muli c2_i32_173 v266
  let v270 : BitVec 32 := Scalar.addi v268 v269
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_171 : BitVec 32 := 1#32
  let v267 : BitVec 32 := Scalar.xori v8 c1_i32_171
  let v271 : BitVec 32 := Scalar.addi v270 v267
  let c704_i32_174 : BitVec 32 := 704#32
  let v272 : BitVec 32 := Scalar.muli v271 c704_i32_174
  v272
def k0_mult30 (d0 : Dev nD) : BitVec 32 :=
  let c4_i32_178 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_175 : BitVec 32 := 1#32
  let v274 : BitVec 32 := Scalar.xori v2 c1_i32_175
  let v277 : BitVec 32 := Scalar.muli c4_i32_178 v274
  let c2_i32_179 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_176 : BitVec 32 := 0#32
  let v275 : BitVec 32 := Scalar.xori v5 c0_i32_176
  let v278 : BitVec 32 := Scalar.muli c2_i32_179 v275
  let v279 : BitVec 32 := Scalar.addi v277 v278
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_177 : BitVec 32 := 0#32
  let v276 : BitVec 32 := Scalar.xori v8 c0_i32_177
  let v280 : BitVec 32 := Scalar.addi v279 v276
  let c704_i32_180 : BitVec 32 := 704#32
  let v281 : BitVec 32 := Scalar.muli v280 c704_i32_180
  v281
def k0_mult31 (d0 : Dev nD) : BitVec 32 :=
  let c4_i32_184 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_181 : BitVec 32 := 0#32
  let v283 : BitVec 32 := Scalar.xori v2 c0_i32_181
  let v286 : BitVec 32 := Scalar.muli c4_i32_184 v283
  let c2_i32_185 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_182 : BitVec 32 := 1#32
  let v284 : BitVec 32 := Scalar.xori v5 c1_i32_182
  let v287 : BitVec 32 := Scalar.muli c2_i32_185 v284
  let v288 : BitVec 32 := Scalar.addi v286 v287
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_183 : BitVec 32 := 0#32
  let v285 : BitVec 32 := Scalar.xori v8 c0_i32_183
  let v289 : BitVec 32 := Scalar.addi v288 v285
  let c704_i32_186 : BitVec 32 := 704#32
  let v290 : BitVec 32 := Scalar.muli v289 c704_i32_186
  v290
def k0_mult32 (d0 : Dev nD) : BitVec 32 :=
  let c4_i32_190 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_187 : BitVec 32 := 1#32
  let v292 : BitVec 32 := Scalar.xori v2 c1_i32_187
  let v295 : BitVec 32 := Scalar.muli c4_i32_190 v292
  let c2_i32_191 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_188 : BitVec 32 := 1#32
  let v293 : BitVec 32 := Scalar.xori v5 c1_i32_188
  let v296 : BitVec 32 := Scalar.muli c2_i32_191 v293
  let v297 : BitVec 32 := Scalar.addi v295 v296
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_189 : BitVec 32 := 0#32
  let v294 : BitVec 32 := Scalar.xori v8 c0_i32_189
  let v298 : BitVec 32 := Scalar.addi v297 v294
  let c704_i32_192 : BitVec 32 := 704#32
  let v299 : BitVec 32 := Scalar.muli v298 c704_i32_192
  v299
def k0_mult33 (d0 : Dev nD) : BitVec 32 :=
  let c4_i32_196 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_193 : BitVec 32 := 1#32
  let v301 : BitVec 32 := Scalar.xori v2 c1_i32_193
  let v304 : BitVec 32 := Scalar.muli c4_i32_196 v301
  let c2_i32_197 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_194 : BitVec 32 := 0#32
  let v302 : BitVec 32 := Scalar.xori v5 c0_i32_194
  let v305 : BitVec 32 := Scalar.muli c2_i32_197 v302
  let v306 : BitVec 32 := Scalar.addi v304 v305
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_195 : BitVec 32 := 1#32
  let v303 : BitVec 32 := Scalar.xori v8 c1_i32_195
  let v307 : BitVec 32 := Scalar.addi v306 v303
  let c704_i32_198 : BitVec 32 := 704#32
  let v308 : BitVec 32 := Scalar.muli v307 c704_i32_198
  v308
def k0_mult34 (d0 : Dev nD) : BitVec 32 :=
  let c4_i32_202 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_199 : BitVec 32 := 0#32
  let v310 : BitVec 32 := Scalar.xori v2 c0_i32_199
  let v313 : BitVec 32 := Scalar.muli c4_i32_202 v310
  let c2_i32_203 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_200 : BitVec 32 := 1#32
  let v311 : BitVec 32 := Scalar.xori v5 c1_i32_200
  let v314 : BitVec 32 := Scalar.muli c2_i32_203 v311
  let v315 : BitVec 32 := Scalar.addi v313 v314
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_201 : BitVec 32 := 1#32
  let v312 : BitVec 32 := Scalar.xori v8 c1_i32_201
  let v316 : BitVec 32 := Scalar.addi v315 v312
  let c704_i32_204 : BitVec 32 := 704#32
  let v317 : BitVec 32 := Scalar.muli v316 c704_i32_204
  v317
def k0_mult35 (d0 : Dev nD) : BitVec 32 :=
  let c4_i32_208 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_205 : BitVec 32 := 1#32
  let v319 : BitVec 32 := Scalar.xori v2 c1_i32_205
  let v322 : BitVec 32 := Scalar.muli c4_i32_208 v319
  let c2_i32_209 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_206 : BitVec 32 := 1#32
  let v320 : BitVec 32 := Scalar.xori v5 c1_i32_206
  let v323 : BitVec 32 := Scalar.muli c2_i32_209 v320
  let v324 : BitVec 32 := Scalar.addi v322 v323
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_207 : BitVec 32 := 1#32
  let v321 : BitVec 32 := Scalar.xori v8 c1_i32_207
  let v325 : BitVec 32 := Scalar.addi v324 v321
  let c704_i32_210 : BitVec 32 := 704#32
  let v326 : BitVec 32 := Scalar.muli v325 c704_i32_210
  v326
def k0_mult36 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c416_i32_211 : BitVec 32 := 416#32
  let v328 : BitVec 32 := Scalar.muli v12 c416_i32_211
  v328
def k0_mult37 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c256_i32_212 : BitVec 32 := 256#32
  let v330 : BitVec 32 := Scalar.muli v12 c256_i32_212
  v330
def k0_mult38 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c704_i32_213 : BitVec 32 := 704#32
  let v332 : BitVec 32 := Scalar.muli v12 c704_i32_213
  v332
def k0_mult39 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c704_i32_214 : BitVec 32 := 704#32
  let v334 : BitVec 32 := Scalar.muli v12 c704_i32_214
  v334
def k0_mult40 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c704_i32_215 : BitVec 32 := 704#32
  let v336 : BitVec 32 := Scalar.muli v12 c704_i32_215
  v336
def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_217 : BitVec 32 := 0#32
  let c0_i32_218 : BitVec 32 := 0#32
  ![v12.toNat, 0, 0]
def k0_off2 (d0 : Dev nD) : Fin 2 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c416_i32_211 : BitVec 32 := 416#32
  let v328 : BitVec 32 := Scalar.muli v12 c416_i32_211
  let v329 : BitVec 32 := v328
  let c0_i32_219 : BitVec 32 := 0#32
  ![v329.toNat, 0]
def k0_off3 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_221 : BitVec 32 := 0#32
  let c0_i32_222 : BitVec 32 := 0#32
  ![v12.toNat, 0, 0]
def k0_off4 (d0 : Dev nD) : Fin 2 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c256_i32_212 : BitVec 32 := 256#32
  let v330 : BitVec 32 := Scalar.muli v12 c256_i32_212
  let v331 : BitVec 32 := v330
  let c0_i32_223 : BitVec 32 := 0#32
  ![v331.toNat, 0]
def k0_off5 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_225 : BitVec 32 := 0#32
  let c0_i32_226 : BitVec 32 := 0#32
  ![v12.toNat, 0, 0]
def k0_off6 (d0 : Dev nD) : Fin 2 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c704_i32_213 : BitVec 32 := 704#32
  let v332 : BitVec 32 := Scalar.muli v12 c704_i32_213
  let v333 : BitVec 32 := v332
  let c0_i32_227 : BitVec 32 := 0#32
  ![v333.toNat, 0]
def k0_off7 (d0 : Dev nD) (c0_i32 : BitVec 32) (c0_i32_5 : BitVec 32) (c1_i32_6 : BitVec 32) : Fin 2 → Nat :=
  let c4_i32_7 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.xori v2 c0_i32
  let v16 : BitVec 32 := Scalar.muli c4_i32_7 v13
  let c2_i32_8 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.xori v5 c0_i32_5
  let v17 : BitVec 32 := Scalar.muli c2_i32_8 v14
  let v18 : BitVec 32 := Scalar.addi v16 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.xori v8 c1_i32_6
  let v19 : BitVec 32 := Scalar.addi v18 v15
  let c416_i32 : BitVec 32 := 416#32
  let v20 : BitVec 32 := Scalar.muli v19 c416_i32
  let v21 : BitVec 32 := v20
  let c0_i32_245 : BitVec 32 := 0#32
  ![v21.toNat, 0]
def k0_off7_at (r : Fin 7) : BitVec 32 × BitVec 32 × BitVec 32 :=
  if r.val < 3 then
    if r.val < 1 then
      (0#32, 0#32, 1#32)
    else
      if r.val < 2 then
        (1#32, 0#32, 0#32)
      else
        (0#32, 1#32, 0#32)
  else
    if r.val < 5 then
      if r.val < 4 then
        (1#32, 1#32, 0#32)
      else
        (1#32, 0#32, 1#32)
    else
      if r.val < 6 then
        (0#32, 1#32, 1#32)
      else
        (1#32, 1#32, 1#32)
def k0_dev1 (d0 : Dev nD) : Nat :=
  let c0_i32_240 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v13 : BitVec 32 := Scalar.xori v2 c0_i32
  let c4_i32_239 : BitVec 32 := 4#32
  let v363 : BitVec 32 := Scalar.muli v13 c4_i32_239
  let v364 : BitVec 32 := Scalar.addi c0_i32_240 v363
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_5 : BitVec 32 := 0#32
  let v14 : BitVec 32 := Scalar.xori v5 c0_i32_5
  let c2_i32_241 : BitVec 32 := 2#32
  let v365 : BitVec 32 := Scalar.muli v14 c2_i32_241
  let v366 : BitVec 32 := Scalar.addi v364 v365
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_6 : BitVec 32 := 1#32
  let v15 : BitVec 32 := Scalar.xori v8 c1_i32_6
  let c1_i32_242 : BitVec 32 := 1#32
  let v367 : BitVec 32 := Scalar.muli v15 c1_i32_242
  let v368 : BitVec 32 := Scalar.addi v366 v367
  v368.toNat
def k0_dev2 (d0 : Dev nD) : Nat :=
  let c0_i32_251 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_9 : BitVec 32 := 1#32
  let v22 : BitVec 32 := Scalar.xori v2 c1_i32_9
  let c4_i32_250 : BitVec 32 := 4#32
  let v376 : BitVec 32 := Scalar.muli v22 c4_i32_250
  let v377 : BitVec 32 := Scalar.addi c0_i32_251 v376
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_10 : BitVec 32 := 0#32
  let v23 : BitVec 32 := Scalar.xori v5 c0_i32_10
  let c2_i32_252 : BitVec 32 := 2#32
  let v378 : BitVec 32 := Scalar.muli v23 c2_i32_252
  let v379 : BitVec 32 := Scalar.addi v377 v378
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_11 : BitVec 32 := 0#32
  let v24 : BitVec 32 := Scalar.xori v8 c0_i32_11
  let c1_i32_253 : BitVec 32 := 1#32
  let v380 : BitVec 32 := Scalar.muli v24 c1_i32_253
  let v381 : BitVec 32 := Scalar.addi v379 v380
  v381.toNat
def k0_dev3 (d0 : Dev nD) : Nat :=
  let c0_i32_262 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_15 : BitVec 32 := 0#32
  let v31 : BitVec 32 := Scalar.xori v2 c0_i32_15
  let c4_i32_261 : BitVec 32 := 4#32
  let v389 : BitVec 32 := Scalar.muli v31 c4_i32_261
  let v390 : BitVec 32 := Scalar.addi c0_i32_262 v389
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_16 : BitVec 32 := 1#32
  let v32 : BitVec 32 := Scalar.xori v5 c1_i32_16
  let c2_i32_263 : BitVec 32 := 2#32
  let v391 : BitVec 32 := Scalar.muli v32 c2_i32_263
  let v392 : BitVec 32 := Scalar.addi v390 v391
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_17 : BitVec 32 := 0#32
  let v33 : BitVec 32 := Scalar.xori v8 c0_i32_17
  let c1_i32_264 : BitVec 32 := 1#32
  let v393 : BitVec 32 := Scalar.muli v33 c1_i32_264
  let v394 : BitVec 32 := Scalar.addi v392 v393
  v394.toNat
def k0_dev4 (d0 : Dev nD) : Nat :=
  let c0_i32_273 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_21 : BitVec 32 := 1#32
  let v40 : BitVec 32 := Scalar.xori v2 c1_i32_21
  let c4_i32_272 : BitVec 32 := 4#32
  let v402 : BitVec 32 := Scalar.muli v40 c4_i32_272
  let v403 : BitVec 32 := Scalar.addi c0_i32_273 v402
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_22 : BitVec 32 := 1#32
  let v41 : BitVec 32 := Scalar.xori v5 c1_i32_22
  let c2_i32_274 : BitVec 32 := 2#32
  let v404 : BitVec 32 := Scalar.muli v41 c2_i32_274
  let v405 : BitVec 32 := Scalar.addi v403 v404
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_23 : BitVec 32 := 0#32
  let v42 : BitVec 32 := Scalar.xori v8 c0_i32_23
  let c1_i32_275 : BitVec 32 := 1#32
  let v406 : BitVec 32 := Scalar.muli v42 c1_i32_275
  let v407 : BitVec 32 := Scalar.addi v405 v406
  v407.toNat
def k0_dev5 (d0 : Dev nD) : Nat :=
  let c0_i32_284 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_27 : BitVec 32 := 1#32
  let v49 : BitVec 32 := Scalar.xori v2 c1_i32_27
  let c4_i32_283 : BitVec 32 := 4#32
  let v415 : BitVec 32 := Scalar.muli v49 c4_i32_283
  let v416 : BitVec 32 := Scalar.addi c0_i32_284 v415
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_28 : BitVec 32 := 0#32
  let v50 : BitVec 32 := Scalar.xori v5 c0_i32_28
  let c2_i32_285 : BitVec 32 := 2#32
  let v417 : BitVec 32 := Scalar.muli v50 c2_i32_285
  let v418 : BitVec 32 := Scalar.addi v416 v417
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_29 : BitVec 32 := 1#32
  let v51 : BitVec 32 := Scalar.xori v8 c1_i32_29
  let c1_i32_286 : BitVec 32 := 1#32
  let v419 : BitVec 32 := Scalar.muli v51 c1_i32_286
  let v420 : BitVec 32 := Scalar.addi v418 v419
  v420.toNat
def k0_dev6 (d0 : Dev nD) : Nat :=
  let c0_i32_294 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_33 : BitVec 32 := 0#32
  let v58 : BitVec 32 := Scalar.xori v2 c0_i32_33
  let c4_i32_293 : BitVec 32 := 4#32
  let v428 : BitVec 32 := Scalar.muli v58 c4_i32_293
  let v429 : BitVec 32 := Scalar.addi c0_i32_294 v428
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_34 : BitVec 32 := 1#32
  let v59 : BitVec 32 := Scalar.xori v5 c1_i32_34
  let c2_i32_295 : BitVec 32 := 2#32
  let v430 : BitVec 32 := Scalar.muli v59 c2_i32_295
  let v431 : BitVec 32 := Scalar.addi v429 v430
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_35 : BitVec 32 := 1#32
  let v60 : BitVec 32 := Scalar.xori v8 c1_i32_35
  let c1_i32_296 : BitVec 32 := 1#32
  let v432 : BitVec 32 := Scalar.muli v60 c1_i32_296
  let v433 : BitVec 32 := Scalar.addi v431 v432
  v433.toNat
def k0_dev7 (d0 : Dev nD) : Nat :=
  let c0_i32_304 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_39 : BitVec 32 := 1#32
  let v67 : BitVec 32 := Scalar.xori v2 c1_i32_39
  let c4_i32_303 : BitVec 32 := 4#32
  let v441 : BitVec 32 := Scalar.muli v67 c4_i32_303
  let v442 : BitVec 32 := Scalar.addi c0_i32_304 v441
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_40 : BitVec 32 := 1#32
  let v68 : BitVec 32 := Scalar.xori v5 c1_i32_40
  let c2_i32_305 : BitVec 32 := 2#32
  let v443 : BitVec 32 := Scalar.muli v68 c2_i32_305
  let v444 : BitVec 32 := Scalar.addi v442 v443
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_41 : BitVec 32 := 1#32
  let v69 : BitVec 32 := Scalar.xori v8 c1_i32_41
  let c1_i32_306 : BitVec 32 := 1#32
  let v445 : BitVec 32 := Scalar.muli v69 c1_i32_306
  let v446 : BitVec 32 := Scalar.addi v444 v445
  v446.toNat
def k0_off8 (d0 : Dev nD) (c0_i32_45 : BitVec 32) (c0_i32_46 : BitVec 32) (c1_i32_47 : BitVec 32) : Fin 2 → Nat :=
  let c4_i32_48 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v76 : BitVec 32 := Scalar.xori v2 c0_i32_45
  let v79 : BitVec 32 := Scalar.muli c4_i32_48 v76
  let c2_i32_49 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v77 : BitVec 32 := Scalar.xori v5 c0_i32_46
  let v80 : BitVec 32 := Scalar.muli c2_i32_49 v77
  let v81 : BitVec 32 := Scalar.addi v79 v80
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v78 : BitVec 32 := Scalar.xori v8 c1_i32_47
  let v82 : BitVec 32 := Scalar.addi v81 v78
  let c256_i32 : BitVec 32 := 256#32
  let v83 : BitVec 32 := Scalar.muli v82 c256_i32
  let v84 : BitVec 32 := v83
  let c0_i32_320 : BitVec 32 := 0#32
  ![v84.toNat, 0]
def k0_off8_at (r : Fin 7) : BitVec 32 × BitVec 32 × BitVec 32 :=
  if r.val < 3 then
    if r.val < 1 then
      (0#32, 0#32, 1#32)
    else
      if r.val < 2 then
        (1#32, 0#32, 0#32)
      else
        (0#32, 1#32, 0#32)
  else
    if r.val < 5 then
      if r.val < 4 then
        (1#32, 1#32, 0#32)
      else
        (1#32, 0#32, 1#32)
    else
      if r.val < 6 then
        (0#32, 1#32, 1#32)
      else
        (1#32, 1#32, 1#32)
def k0_dev8 (d0 : Dev nD) : Nat :=
  let c0_i32_315 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_45 : BitVec 32 := 0#32
  let v76 : BitVec 32 := Scalar.xori v2 c0_i32_45
  let c4_i32_314 : BitVec 32 := 4#32
  let v454 : BitVec 32 := Scalar.muli v76 c4_i32_314
  let v455 : BitVec 32 := Scalar.addi c0_i32_315 v454
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_46 : BitVec 32 := 0#32
  let v77 : BitVec 32 := Scalar.xori v5 c0_i32_46
  let c2_i32_316 : BitVec 32 := 2#32
  let v456 : BitVec 32 := Scalar.muli v77 c2_i32_316
  let v457 : BitVec 32 := Scalar.addi v455 v456
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v78 : BitVec 32 := Scalar.xori v8 c1_i32_47
  let c1_i32_317 : BitVec 32 := 1#32
  let v458 : BitVec 32 := Scalar.muli v78 c1_i32_317
  let v459 : BitVec 32 := Scalar.addi v457 v458
  v459.toNat
def k0_dev9 (d0 : Dev nD) : Nat :=
  let c0_i32_326 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_50 : BitVec 32 := 1#32
  let v85 : BitVec 32 := Scalar.xori v2 c1_i32_50
  let c4_i32_325 : BitVec 32 := 4#32
  let v467 : BitVec 32 := Scalar.muli v85 c4_i32_325
  let v468 : BitVec 32 := Scalar.addi c0_i32_326 v467
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_51 : BitVec 32 := 0#32
  let v86 : BitVec 32 := Scalar.xori v5 c0_i32_51
  let c2_i32_327 : BitVec 32 := 2#32
  let v469 : BitVec 32 := Scalar.muli v86 c2_i32_327
  let v470 : BitVec 32 := Scalar.addi v468 v469
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_52 : BitVec 32 := 0#32
  let v87 : BitVec 32 := Scalar.xori v8 c0_i32_52
  let c1_i32_328 : BitVec 32 := 1#32
  let v471 : BitVec 32 := Scalar.muli v87 c1_i32_328
  let v472 : BitVec 32 := Scalar.addi v470 v471
  v472.toNat
def k0_dev10 (d0 : Dev nD) : Nat :=
  let c0_i32_337 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_56 : BitVec 32 := 0#32
  let v94 : BitVec 32 := Scalar.xori v2 c0_i32_56
  let c4_i32_336 : BitVec 32 := 4#32
  let v480 : BitVec 32 := Scalar.muli v94 c4_i32_336
  let v481 : BitVec 32 := Scalar.addi c0_i32_337 v480
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_57 : BitVec 32 := 1#32
  let v95 : BitVec 32 := Scalar.xori v5 c1_i32_57
  let c2_i32_338 : BitVec 32 := 2#32
  let v482 : BitVec 32 := Scalar.muli v95 c2_i32_338
  let v483 : BitVec 32 := Scalar.addi v481 v482
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_58 : BitVec 32 := 0#32
  let v96 : BitVec 32 := Scalar.xori v8 c0_i32_58
  let c1_i32_339 : BitVec 32 := 1#32
  let v484 : BitVec 32 := Scalar.muli v96 c1_i32_339
  let v485 : BitVec 32 := Scalar.addi v483 v484
  v485.toNat
def k0_dev11 (d0 : Dev nD) : Nat :=
  let c0_i32_348 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_62 : BitVec 32 := 1#32
  let v103 : BitVec 32 := Scalar.xori v2 c1_i32_62
  let c4_i32_347 : BitVec 32 := 4#32
  let v493 : BitVec 32 := Scalar.muli v103 c4_i32_347
  let v494 : BitVec 32 := Scalar.addi c0_i32_348 v493
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_63 : BitVec 32 := 1#32
  let v104 : BitVec 32 := Scalar.xori v5 c1_i32_63
  let c2_i32_349 : BitVec 32 := 2#32
  let v495 : BitVec 32 := Scalar.muli v104 c2_i32_349
  let v496 : BitVec 32 := Scalar.addi v494 v495
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_64 : BitVec 32 := 0#32
  let v105 : BitVec 32 := Scalar.xori v8 c0_i32_64
  let c1_i32_350 : BitVec 32 := 1#32
  let v497 : BitVec 32 := Scalar.muli v105 c1_i32_350
  let v498 : BitVec 32 := Scalar.addi v496 v497
  v498.toNat
def k0_dev12 (d0 : Dev nD) : Nat :=
  let c0_i32_359 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_68 : BitVec 32 := 1#32
  let v112 : BitVec 32 := Scalar.xori v2 c1_i32_68
  let c4_i32_358 : BitVec 32 := 4#32
  let v506 : BitVec 32 := Scalar.muli v112 c4_i32_358
  let v507 : BitVec 32 := Scalar.addi c0_i32_359 v506
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_69 : BitVec 32 := 0#32
  let v113 : BitVec 32 := Scalar.xori v5 c0_i32_69
  let c2_i32_360 : BitVec 32 := 2#32
  let v508 : BitVec 32 := Scalar.muli v113 c2_i32_360
  let v509 : BitVec 32 := Scalar.addi v507 v508
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_70 : BitVec 32 := 1#32
  let v114 : BitVec 32 := Scalar.xori v8 c1_i32_70
  let c1_i32_361 : BitVec 32 := 1#32
  let v510 : BitVec 32 := Scalar.muli v114 c1_i32_361
  let v511 : BitVec 32 := Scalar.addi v509 v510
  v511.toNat
def k0_dev13 (d0 : Dev nD) : Nat :=
  let c0_i32_370 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_74 : BitVec 32 := 0#32
  let v121 : BitVec 32 := Scalar.xori v2 c0_i32_74
  let c4_i32_369 : BitVec 32 := 4#32
  let v519 : BitVec 32 := Scalar.muli v121 c4_i32_369
  let v520 : BitVec 32 := Scalar.addi c0_i32_370 v519
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_75 : BitVec 32 := 1#32
  let v122 : BitVec 32 := Scalar.xori v5 c1_i32_75
  let c2_i32_371 : BitVec 32 := 2#32
  let v521 : BitVec 32 := Scalar.muli v122 c2_i32_371
  let v522 : BitVec 32 := Scalar.addi v520 v521
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_76 : BitVec 32 := 1#32
  let v123 : BitVec 32 := Scalar.xori v8 c1_i32_76
  let c1_i32_372 : BitVec 32 := 1#32
  let v523 : BitVec 32 := Scalar.muli v123 c1_i32_372
  let v524 : BitVec 32 := Scalar.addi v522 v523
  v524.toNat
def k0_dev14 (d0 : Dev nD) : Nat :=
  let c0_i32_381 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_80 : BitVec 32 := 1#32
  let v130 : BitVec 32 := Scalar.xori v2 c1_i32_80
  let c4_i32_380 : BitVec 32 := 4#32
  let v532 : BitVec 32 := Scalar.muli v130 c4_i32_380
  let v533 : BitVec 32 := Scalar.addi c0_i32_381 v532
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_81 : BitVec 32 := 1#32
  let v131 : BitVec 32 := Scalar.xori v5 c1_i32_81
  let c2_i32_382 : BitVec 32 := 2#32
  let v534 : BitVec 32 := Scalar.muli v131 c2_i32_382
  let v535 : BitVec 32 := Scalar.addi v533 v534
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_82 : BitVec 32 := 1#32
  let v132 : BitVec 32 := Scalar.xori v8 c1_i32_82
  let c1_i32_383 : BitVec 32 := 1#32
  let v536 : BitVec 32 := Scalar.muli v132 c1_i32_383
  let v537 : BitVec 32 := Scalar.addi v535 v536
  v537.toNat
def k0_off9 (d0 : Dev nD) (c0_i32_86 : BitVec 32) (c0_i32_87 : BitVec 32) (c1_i32_88 : BitVec 32) : Fin 2 → Nat :=
  let c4_i32_89 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v139 : BitVec 32 := Scalar.xori v2 c0_i32_86
  let v142 : BitVec 32 := Scalar.muli c4_i32_89 v139
  let c2_i32_90 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v140 : BitVec 32 := Scalar.xori v5 c0_i32_87
  let v143 : BitVec 32 := Scalar.muli c2_i32_90 v140
  let v144 : BitVec 32 := Scalar.addi v142 v143
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v141 : BitVec 32 := Scalar.xori v8 c1_i32_88
  let v145 : BitVec 32 := Scalar.addi v144 v141
  let c704_i32 : BitVec 32 := 704#32
  let v146 : BitVec 32 := Scalar.muli v145 c704_i32
  let v147 : BitVec 32 := v146
  let c0_i32_397 : BitVec 32 := 0#32
  ![v147.toNat, 0]
def k0_off9_at (r : Fin 7) : BitVec 32 × BitVec 32 × BitVec 32 :=
  if r.val < 3 then
    if r.val < 1 then
      (0#32, 0#32, 1#32)
    else
      if r.val < 2 then
        (1#32, 0#32, 0#32)
      else
        (0#32, 1#32, 0#32)
  else
    if r.val < 5 then
      if r.val < 4 then
        (1#32, 1#32, 0#32)
      else
        (1#32, 0#32, 1#32)
    else
      if r.val < 6 then
        (0#32, 1#32, 1#32)
      else
        (1#32, 1#32, 1#32)
def k0_dev15 (d0 : Dev nD) : Nat :=
  let c0_i32_392 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_86 : BitVec 32 := 0#32
  let v139 : BitVec 32 := Scalar.xori v2 c0_i32_86
  let c4_i32_391 : BitVec 32 := 4#32
  let v545 : BitVec 32 := Scalar.muli v139 c4_i32_391
  let v546 : BitVec 32 := Scalar.addi c0_i32_392 v545
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_87 : BitVec 32 := 0#32
  let v140 : BitVec 32 := Scalar.xori v5 c0_i32_87
  let c2_i32_393 : BitVec 32 := 2#32
  let v547 : BitVec 32 := Scalar.muli v140 c2_i32_393
  let v548 : BitVec 32 := Scalar.addi v546 v547
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_88 : BitVec 32 := 1#32
  let v141 : BitVec 32 := Scalar.xori v8 c1_i32_88
  let c1_i32_394 : BitVec 32 := 1#32
  let v549 : BitVec 32 := Scalar.muli v141 c1_i32_394
  let v550 : BitVec 32 := Scalar.addi v548 v549
  v550.toNat
def k0_dev16 (d0 : Dev nD) : Nat :=
  let c0_i32_403 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_91 : BitVec 32 := 1#32
  let v148 : BitVec 32 := Scalar.xori v2 c1_i32_91
  let c4_i32_402 : BitVec 32 := 4#32
  let v558 : BitVec 32 := Scalar.muli v148 c4_i32_402
  let v559 : BitVec 32 := Scalar.addi c0_i32_403 v558
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_92 : BitVec 32 := 0#32
  let v149 : BitVec 32 := Scalar.xori v5 c0_i32_92
  let c2_i32_404 : BitVec 32 := 2#32
  let v560 : BitVec 32 := Scalar.muli v149 c2_i32_404
  let v561 : BitVec 32 := Scalar.addi v559 v560
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_93 : BitVec 32 := 0#32
  let v150 : BitVec 32 := Scalar.xori v8 c0_i32_93
  let c1_i32_405 : BitVec 32 := 1#32
  let v562 : BitVec 32 := Scalar.muli v150 c1_i32_405
  let v563 : BitVec 32 := Scalar.addi v561 v562
  v563.toNat
def k0_dev17 (d0 : Dev nD) : Nat :=
  let c0_i32_414 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_97 : BitVec 32 := 0#32
  let v157 : BitVec 32 := Scalar.xori v2 c0_i32_97
  let c4_i32_413 : BitVec 32 := 4#32
  let v571 : BitVec 32 := Scalar.muli v157 c4_i32_413
  let v572 : BitVec 32 := Scalar.addi c0_i32_414 v571
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_98 : BitVec 32 := 1#32
  let v158 : BitVec 32 := Scalar.xori v5 c1_i32_98
  let c2_i32_415 : BitVec 32 := 2#32
  let v573 : BitVec 32 := Scalar.muli v158 c2_i32_415
  let v574 : BitVec 32 := Scalar.addi v572 v573
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_99 : BitVec 32 := 0#32
  let v159 : BitVec 32 := Scalar.xori v8 c0_i32_99
  let c1_i32_416 : BitVec 32 := 1#32
  let v575 : BitVec 32 := Scalar.muli v159 c1_i32_416
  let v576 : BitVec 32 := Scalar.addi v574 v575
  v576.toNat
def k0_dev18 (d0 : Dev nD) : Nat :=
  let c0_i32_425 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_103 : BitVec 32 := 1#32
  let v166 : BitVec 32 := Scalar.xori v2 c1_i32_103
  let c4_i32_424 : BitVec 32 := 4#32
  let v584 : BitVec 32 := Scalar.muli v166 c4_i32_424
  let v585 : BitVec 32 := Scalar.addi c0_i32_425 v584
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_104 : BitVec 32 := 1#32
  let v167 : BitVec 32 := Scalar.xori v5 c1_i32_104
  let c2_i32_426 : BitVec 32 := 2#32
  let v586 : BitVec 32 := Scalar.muli v167 c2_i32_426
  let v587 : BitVec 32 := Scalar.addi v585 v586
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_105 : BitVec 32 := 0#32
  let v168 : BitVec 32 := Scalar.xori v8 c0_i32_105
  let c1_i32_427 : BitVec 32 := 1#32
  let v588 : BitVec 32 := Scalar.muli v168 c1_i32_427
  let v589 : BitVec 32 := Scalar.addi v587 v588
  v589.toNat
def k0_dev19 (d0 : Dev nD) : Nat :=
  let c0_i32_436 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_109 : BitVec 32 := 1#32
  let v175 : BitVec 32 := Scalar.xori v2 c1_i32_109
  let c4_i32_435 : BitVec 32 := 4#32
  let v597 : BitVec 32 := Scalar.muli v175 c4_i32_435
  let v598 : BitVec 32 := Scalar.addi c0_i32_436 v597
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_110 : BitVec 32 := 0#32
  let v176 : BitVec 32 := Scalar.xori v5 c0_i32_110
  let c2_i32_437 : BitVec 32 := 2#32
  let v599 : BitVec 32 := Scalar.muli v176 c2_i32_437
  let v600 : BitVec 32 := Scalar.addi v598 v599
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_111 : BitVec 32 := 1#32
  let v177 : BitVec 32 := Scalar.xori v8 c1_i32_111
  let c1_i32_438 : BitVec 32 := 1#32
  let v601 : BitVec 32 := Scalar.muli v177 c1_i32_438
  let v602 : BitVec 32 := Scalar.addi v600 v601
  v602.toNat
def k0_dev20 (d0 : Dev nD) : Nat :=
  let c0_i32_447 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_115 : BitVec 32 := 0#32
  let v184 : BitVec 32 := Scalar.xori v2 c0_i32_115
  let c4_i32_446 : BitVec 32 := 4#32
  let v610 : BitVec 32 := Scalar.muli v184 c4_i32_446
  let v611 : BitVec 32 := Scalar.addi c0_i32_447 v610
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_116 : BitVec 32 := 1#32
  let v185 : BitVec 32 := Scalar.xori v5 c1_i32_116
  let c2_i32_448 : BitVec 32 := 2#32
  let v612 : BitVec 32 := Scalar.muli v185 c2_i32_448
  let v613 : BitVec 32 := Scalar.addi v611 v612
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_117 : BitVec 32 := 1#32
  let v186 : BitVec 32 := Scalar.xori v8 c1_i32_117
  let c1_i32_449 : BitVec 32 := 1#32
  let v614 : BitVec 32 := Scalar.muli v186 c1_i32_449
  let v615 : BitVec 32 := Scalar.addi v613 v614
  v615.toNat
def k0_dev21 (d0 : Dev nD) : Nat :=
  let c0_i32_458 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_121 : BitVec 32 := 1#32
  let v193 : BitVec 32 := Scalar.xori v2 c1_i32_121
  let c4_i32_457 : BitVec 32 := 4#32
  let v623 : BitVec 32 := Scalar.muli v193 c4_i32_457
  let v624 : BitVec 32 := Scalar.addi c0_i32_458 v623
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_122 : BitVec 32 := 1#32
  let v194 : BitVec 32 := Scalar.xori v5 c1_i32_122
  let c2_i32_459 : BitVec 32 := 2#32
  let v625 : BitVec 32 := Scalar.muli v194 c2_i32_459
  let v626 : BitVec 32 := Scalar.addi v624 v625
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_123 : BitVec 32 := 1#32
  let v195 : BitVec 32 := Scalar.xori v8 c1_i32_123
  let c1_i32_460 : BitVec 32 := 1#32
  let v627 : BitVec 32 := Scalar.muli v195 c1_i32_460
  let v628 : BitVec 32 := Scalar.addi v626 v627
  v628.toNat
def k0_dev22 (d0 : Dev nD) : Nat :=
  let c0_i32_469 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_127 : BitVec 32 := 0#32
  let v202 : BitVec 32 := Scalar.xori v2 c0_i32_127
  let c4_i32_468 : BitVec 32 := 4#32
  let v636 : BitVec 32 := Scalar.muli v202 c4_i32_468
  let v637 : BitVec 32 := Scalar.addi c0_i32_469 v636
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_128 : BitVec 32 := 0#32
  let v203 : BitVec 32 := Scalar.xori v5 c0_i32_128
  let c2_i32_470 : BitVec 32 := 2#32
  let v638 : BitVec 32 := Scalar.muli v203 c2_i32_470
  let v639 : BitVec 32 := Scalar.addi v637 v638
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_129 : BitVec 32 := 1#32
  let v204 : BitVec 32 := Scalar.xori v8 c1_i32_129
  let c1_i32_471 : BitVec 32 := 1#32
  let v640 : BitVec 32 := Scalar.muli v204 c1_i32_471
  let v641 : BitVec 32 := Scalar.addi v639 v640
  v641.toNat
def k0_dev23 (d0 : Dev nD) : Nat :=
  let c0_i32_480 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_133 : BitVec 32 := 1#32
  let v211 : BitVec 32 := Scalar.xori v2 c1_i32_133
  let c4_i32_479 : BitVec 32 := 4#32
  let v649 : BitVec 32 := Scalar.muli v211 c4_i32_479
  let v650 : BitVec 32 := Scalar.addi c0_i32_480 v649
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_134 : BitVec 32 := 0#32
  let v212 : BitVec 32 := Scalar.xori v5 c0_i32_134
  let c2_i32_481 : BitVec 32 := 2#32
  let v651 : BitVec 32 := Scalar.muli v212 c2_i32_481
  let v652 : BitVec 32 := Scalar.addi v650 v651
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_135 : BitVec 32 := 0#32
  let v213 : BitVec 32 := Scalar.xori v8 c0_i32_135
  let c1_i32_482 : BitVec 32 := 1#32
  let v653 : BitVec 32 := Scalar.muli v213 c1_i32_482
  let v654 : BitVec 32 := Scalar.addi v652 v653
  v654.toNat
def k0_dev24 (d0 : Dev nD) : Nat :=
  let c0_i32_491 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_139 : BitVec 32 := 0#32
  let v220 : BitVec 32 := Scalar.xori v2 c0_i32_139
  let c4_i32_490 : BitVec 32 := 4#32
  let v662 : BitVec 32 := Scalar.muli v220 c4_i32_490
  let v663 : BitVec 32 := Scalar.addi c0_i32_491 v662
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_140 : BitVec 32 := 1#32
  let v221 : BitVec 32 := Scalar.xori v5 c1_i32_140
  let c2_i32_492 : BitVec 32 := 2#32
  let v664 : BitVec 32 := Scalar.muli v221 c2_i32_492
  let v665 : BitVec 32 := Scalar.addi v663 v664
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_141 : BitVec 32 := 0#32
  let v222 : BitVec 32 := Scalar.xori v8 c0_i32_141
  let c1_i32_493 : BitVec 32 := 1#32
  let v666 : BitVec 32 := Scalar.muli v222 c1_i32_493
  let v667 : BitVec 32 := Scalar.addi v665 v666
  v667.toNat
def k0_dev25 (d0 : Dev nD) : Nat :=
  let c0_i32_502 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_145 : BitVec 32 := 1#32
  let v229 : BitVec 32 := Scalar.xori v2 c1_i32_145
  let c4_i32_501 : BitVec 32 := 4#32
  let v675 : BitVec 32 := Scalar.muli v229 c4_i32_501
  let v676 : BitVec 32 := Scalar.addi c0_i32_502 v675
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_146 : BitVec 32 := 1#32
  let v230 : BitVec 32 := Scalar.xori v5 c1_i32_146
  let c2_i32_503 : BitVec 32 := 2#32
  let v677 : BitVec 32 := Scalar.muli v230 c2_i32_503
  let v678 : BitVec 32 := Scalar.addi v676 v677
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_147 : BitVec 32 := 0#32
  let v231 : BitVec 32 := Scalar.xori v8 c0_i32_147
  let c1_i32_504 : BitVec 32 := 1#32
  let v679 : BitVec 32 := Scalar.muli v231 c1_i32_504
  let v680 : BitVec 32 := Scalar.addi v678 v679
  v680.toNat
def k0_dev26 (d0 : Dev nD) : Nat :=
  let c0_i32_513 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_151 : BitVec 32 := 1#32
  let v238 : BitVec 32 := Scalar.xori v2 c1_i32_151
  let c4_i32_512 : BitVec 32 := 4#32
  let v688 : BitVec 32 := Scalar.muli v238 c4_i32_512
  let v689 : BitVec 32 := Scalar.addi c0_i32_513 v688
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_152 : BitVec 32 := 0#32
  let v239 : BitVec 32 := Scalar.xori v5 c0_i32_152
  let c2_i32_514 : BitVec 32 := 2#32
  let v690 : BitVec 32 := Scalar.muli v239 c2_i32_514
  let v691 : BitVec 32 := Scalar.addi v689 v690
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_153 : BitVec 32 := 1#32
  let v240 : BitVec 32 := Scalar.xori v8 c1_i32_153
  let c1_i32_515 : BitVec 32 := 1#32
  let v692 : BitVec 32 := Scalar.muli v240 c1_i32_515
  let v693 : BitVec 32 := Scalar.addi v691 v692
  v693.toNat
def k0_dev27 (d0 : Dev nD) : Nat :=
  let c0_i32_524 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_157 : BitVec 32 := 0#32
  let v247 : BitVec 32 := Scalar.xori v2 c0_i32_157
  let c4_i32_523 : BitVec 32 := 4#32
  let v701 : BitVec 32 := Scalar.muli v247 c4_i32_523
  let v702 : BitVec 32 := Scalar.addi c0_i32_524 v701
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_158 : BitVec 32 := 1#32
  let v248 : BitVec 32 := Scalar.xori v5 c1_i32_158
  let c2_i32_525 : BitVec 32 := 2#32
  let v703 : BitVec 32 := Scalar.muli v248 c2_i32_525
  let v704 : BitVec 32 := Scalar.addi v702 v703
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_159 : BitVec 32 := 1#32
  let v249 : BitVec 32 := Scalar.xori v8 c1_i32_159
  let c1_i32_526 : BitVec 32 := 1#32
  let v705 : BitVec 32 := Scalar.muli v249 c1_i32_526
  let v706 : BitVec 32 := Scalar.addi v704 v705
  v706.toNat
def k0_dev28 (d0 : Dev nD) : Nat :=
  let c0_i32_535 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_163 : BitVec 32 := 1#32
  let v256 : BitVec 32 := Scalar.xori v2 c1_i32_163
  let c4_i32_534 : BitVec 32 := 4#32
  let v714 : BitVec 32 := Scalar.muli v256 c4_i32_534
  let v715 : BitVec 32 := Scalar.addi c0_i32_535 v714
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_164 : BitVec 32 := 1#32
  let v257 : BitVec 32 := Scalar.xori v5 c1_i32_164
  let c2_i32_536 : BitVec 32 := 2#32
  let v716 : BitVec 32 := Scalar.muli v257 c2_i32_536
  let v717 : BitVec 32 := Scalar.addi v715 v716
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_165 : BitVec 32 := 1#32
  let v258 : BitVec 32 := Scalar.xori v8 c1_i32_165
  let c1_i32_537 : BitVec 32 := 1#32
  let v718 : BitVec 32 := Scalar.muli v258 c1_i32_537
  let v719 : BitVec 32 := Scalar.addi v717 v718
  v719.toNat
def k0_dev29 (d0 : Dev nD) : Nat :=
  let c0_i32_546 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_169 : BitVec 32 := 0#32
  let v265 : BitVec 32 := Scalar.xori v2 c0_i32_169
  let c4_i32_545 : BitVec 32 := 4#32
  let v727 : BitVec 32 := Scalar.muli v265 c4_i32_545
  let v728 : BitVec 32 := Scalar.addi c0_i32_546 v727
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_170 : BitVec 32 := 0#32
  let v266 : BitVec 32 := Scalar.xori v5 c0_i32_170
  let c2_i32_547 : BitVec 32 := 2#32
  let v729 : BitVec 32 := Scalar.muli v266 c2_i32_547
  let v730 : BitVec 32 := Scalar.addi v728 v729
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_171 : BitVec 32 := 1#32
  let v267 : BitVec 32 := Scalar.xori v8 c1_i32_171
  let c1_i32_548 : BitVec 32 := 1#32
  let v731 : BitVec 32 := Scalar.muli v267 c1_i32_548
  let v732 : BitVec 32 := Scalar.addi v730 v731
  v732.toNat
def k0_dev30 (d0 : Dev nD) : Nat :=
  let c0_i32_557 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_175 : BitVec 32 := 1#32
  let v274 : BitVec 32 := Scalar.xori v2 c1_i32_175
  let c4_i32_556 : BitVec 32 := 4#32
  let v740 : BitVec 32 := Scalar.muli v274 c4_i32_556
  let v741 : BitVec 32 := Scalar.addi c0_i32_557 v740
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_176 : BitVec 32 := 0#32
  let v275 : BitVec 32 := Scalar.xori v5 c0_i32_176
  let c2_i32_558 : BitVec 32 := 2#32
  let v742 : BitVec 32 := Scalar.muli v275 c2_i32_558
  let v743 : BitVec 32 := Scalar.addi v741 v742
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_177 : BitVec 32 := 0#32
  let v276 : BitVec 32 := Scalar.xori v8 c0_i32_177
  let c1_i32_559 : BitVec 32 := 1#32
  let v744 : BitVec 32 := Scalar.muli v276 c1_i32_559
  let v745 : BitVec 32 := Scalar.addi v743 v744
  v745.toNat
def k0_dev31 (d0 : Dev nD) : Nat :=
  let c0_i32_568 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_181 : BitVec 32 := 0#32
  let v283 : BitVec 32 := Scalar.xori v2 c0_i32_181
  let c4_i32_567 : BitVec 32 := 4#32
  let v753 : BitVec 32 := Scalar.muli v283 c4_i32_567
  let v754 : BitVec 32 := Scalar.addi c0_i32_568 v753
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_182 : BitVec 32 := 1#32
  let v284 : BitVec 32 := Scalar.xori v5 c1_i32_182
  let c2_i32_569 : BitVec 32 := 2#32
  let v755 : BitVec 32 := Scalar.muli v284 c2_i32_569
  let v756 : BitVec 32 := Scalar.addi v754 v755
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_183 : BitVec 32 := 0#32
  let v285 : BitVec 32 := Scalar.xori v8 c0_i32_183
  let c1_i32_570 : BitVec 32 := 1#32
  let v757 : BitVec 32 := Scalar.muli v285 c1_i32_570
  let v758 : BitVec 32 := Scalar.addi v756 v757
  v758.toNat
def k0_dev32 (d0 : Dev nD) : Nat :=
  let c0_i32_579 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_187 : BitVec 32 := 1#32
  let v292 : BitVec 32 := Scalar.xori v2 c1_i32_187
  let c4_i32_578 : BitVec 32 := 4#32
  let v766 : BitVec 32 := Scalar.muli v292 c4_i32_578
  let v767 : BitVec 32 := Scalar.addi c0_i32_579 v766
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_188 : BitVec 32 := 1#32
  let v293 : BitVec 32 := Scalar.xori v5 c1_i32_188
  let c2_i32_580 : BitVec 32 := 2#32
  let v768 : BitVec 32 := Scalar.muli v293 c2_i32_580
  let v769 : BitVec 32 := Scalar.addi v767 v768
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_189 : BitVec 32 := 0#32
  let v294 : BitVec 32 := Scalar.xori v8 c0_i32_189
  let c1_i32_581 : BitVec 32 := 1#32
  let v770 : BitVec 32 := Scalar.muli v294 c1_i32_581
  let v771 : BitVec 32 := Scalar.addi v769 v770
  v771.toNat
def k0_dev33 (d0 : Dev nD) : Nat :=
  let c0_i32_590 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_193 : BitVec 32 := 1#32
  let v301 : BitVec 32 := Scalar.xori v2 c1_i32_193
  let c4_i32_589 : BitVec 32 := 4#32
  let v779 : BitVec 32 := Scalar.muli v301 c4_i32_589
  let v780 : BitVec 32 := Scalar.addi c0_i32_590 v779
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_194 : BitVec 32 := 0#32
  let v302 : BitVec 32 := Scalar.xori v5 c0_i32_194
  let c2_i32_591 : BitVec 32 := 2#32
  let v781 : BitVec 32 := Scalar.muli v302 c2_i32_591
  let v782 : BitVec 32 := Scalar.addi v780 v781
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_195 : BitVec 32 := 1#32
  let v303 : BitVec 32 := Scalar.xori v8 c1_i32_195
  let c1_i32_592 : BitVec 32 := 1#32
  let v783 : BitVec 32 := Scalar.muli v303 c1_i32_592
  let v784 : BitVec 32 := Scalar.addi v782 v783
  v784.toNat
def k0_dev34 (d0 : Dev nD) : Nat :=
  let c0_i32_601 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_199 : BitVec 32 := 0#32
  let v310 : BitVec 32 := Scalar.xori v2 c0_i32_199
  let c4_i32_600 : BitVec 32 := 4#32
  let v792 : BitVec 32 := Scalar.muli v310 c4_i32_600
  let v793 : BitVec 32 := Scalar.addi c0_i32_601 v792
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_200 : BitVec 32 := 1#32
  let v311 : BitVec 32 := Scalar.xori v5 c1_i32_200
  let c2_i32_602 : BitVec 32 := 2#32
  let v794 : BitVec 32 := Scalar.muli v311 c2_i32_602
  let v795 : BitVec 32 := Scalar.addi v793 v794
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_201 : BitVec 32 := 1#32
  let v312 : BitVec 32 := Scalar.xori v8 c1_i32_201
  let c1_i32_603 : BitVec 32 := 1#32
  let v796 : BitVec 32 := Scalar.muli v312 c1_i32_603
  let v797 : BitVec 32 := Scalar.addi v795 v796
  v797.toNat
def k0_dev35 (d0 : Dev nD) : Nat :=
  let c0_i32_612 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_205 : BitVec 32 := 1#32
  let v319 : BitVec 32 := Scalar.xori v2 c1_i32_205
  let c4_i32_611 : BitVec 32 := 4#32
  let v805 : BitVec 32 := Scalar.muli v319 c4_i32_611
  let v806 : BitVec 32 := Scalar.addi c0_i32_612 v805
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_206 : BitVec 32 := 1#32
  let v320 : BitVec 32 := Scalar.xori v5 c1_i32_206
  let c2_i32_613 : BitVec 32 := 2#32
  let v807 : BitVec 32 := Scalar.muli v320 c2_i32_613
  let v808 : BitVec 32 := Scalar.addi v806 v807
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_207 : BitVec 32 := 1#32
  let v321 : BitVec 32 := Scalar.xori v8 c1_i32_207
  let c1_i32_614 : BitVec 32 := 1#32
  let v809 : BitVec 32 := Scalar.muli v321 c1_i32_614
  let v810 : BitVec 32 := Scalar.addi v808 v809
  v810.toNat
-- ==== Reference.lean ====
abbrev S26624x2048 : Shape := ⟨2, ![26624, 2048]⟩
abbrev S16384x2048 : Shape := ⟨2, ![16384, 2048]⟩
abbrev S45056x2048 : Shape := ⟨2, ![45056, 2048]⟩
abbrev S8x8x416x2048 : Shape := ⟨4, ![8, 8, 416, 2048]⟩
abbrev S64x416x2048 : Shape := ⟨3, ![64, 416, 2048]⟩
abbrev S8x8x256x2048 : Shape := ⟨4, ![8, 8, 256, 2048]⟩
abbrev S64x256x2048 : Shape := ⟨3, ![64, 256, 2048]⟩
abbrev S8x8x704x2048 : Shape := ⟨4, ![8, 8, 704, 2048]⟩
abbrev S64x704x2048 : Shape := ⟨3, ![64, 704, 2048]⟩

abbrev nBuf : Space → Nat
  | .hbm => 20
  | .vmem => 0
  | .smem => 0
  | _ => 0

abbrev bufTy : (tb : Table) → Fin (tcTables nBuf tb) → BufTy
  | .hbm, ⟨0, _⟩ => ⟨S26624x2048, .bf16⟩
  | .hbm, ⟨1, _⟩ => ⟨S16384x2048, .bf16⟩
  | .hbm, ⟨2, _⟩ => ⟨S45056x2048, .bf16⟩
  | .hbm, ⟨3, _⟩ => ⟨S45056x2048, .bf16⟩
  | .hbm, ⟨4, _⟩ => ⟨S45056x2048, .bf16⟩
  | .hbm, ⟨5, _⟩ => ⟨S8x8x416x2048, .bf16⟩
  | .hbm, ⟨6, _⟩ => ⟨S8x8x416x2048, .bf16⟩
  | .hbm, ⟨7, _⟩ => ⟨S64x416x2048, .bf16⟩
  | .hbm, ⟨8, _⟩ => ⟨S8x8x256x2048, .bf16⟩
  | .hbm, ⟨9, _⟩ => ⟨S8x8x256x2048, .bf16⟩
  | .hbm, ⟨10, _⟩ => ⟨S64x256x2048, .bf16⟩
  | .hbm, ⟨11, _⟩ => ⟨S8x8x704x2048, .bf16⟩
  | .hbm, ⟨12, _⟩ => ⟨S8x8x704x2048, .bf16⟩
  | .hbm, ⟨13, _⟩ => ⟨S64x704x2048, .bf16⟩
  | .hbm, ⟨14, _⟩ => ⟨S8x8x704x2048, .bf16⟩
  | .hbm, ⟨15, _⟩ => ⟨S8x8x704x2048, .bf16⟩
  | .hbm, ⟨16, _⟩ => ⟨S64x704x2048, .bf16⟩
  | .hbm, ⟨17, _⟩ => ⟨S8x8x704x2048, .bf16⟩
  | .hbm, ⟨18, _⟩ => ⟨S8x8x704x2048, .bf16⟩
  | .hbm, ⟨19, _⟩ => ⟨S64x704x2048, .bf16⟩
  | _, _ => ⟨S26624x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Update.lean ====
abbrev S8x416x2048 : Shape := ⟨3, ![8, 416, 2048]⟩
abbrev S8x256x2048 : Shape := ⟨3, ![8, 256, 2048]⟩
abbrev S8x704x2048 : Shape := ⟨3, ![8, 704, 2048]⟩
abbrev S1x2048x416 : Shape := ⟨3, ![1, 2048, 416]⟩
abbrev S1x256x2048 : Shape := ⟨3, ![1, 256, 2048]⟩
abbrev S1x2048x704 : Shape := ⟨3, ![1, 2048, 704]⟩
abbrev S1x704x2048 : Shape := ⟨3, ![1, 704, 2048]⟩
abbrev S416x2048 : Shape := ⟨2, ![416, 2048]⟩
abbrev S8x208x2048 : Shape := ⟨3, ![8, 208, 2048]⟩
abbrev S208x2048 : Shape := ⟨2, ![208, 2048]⟩
abbrev S1x208x2048 : Shape := ⟨3, ![1, 208, 2048]⟩
abbrev S2048x416 : Shape := ⟨2, ![2048, 416]⟩
abbrev S256x416 : Shape := ⟨2, ![256, 416]⟩
abbrev S256x2048 : Shape := ⟨2, ![256, 2048]⟩
abbrev S704x2048 : Shape := ⟨2, ![704, 2048]⟩
abbrev S8x176x2048 : Shape := ⟨3, ![8, 176, 2048]⟩
abbrev S176x2048 : Shape := ⟨2, ![176, 2048]⟩
abbrev S1x176x2048 : Shape := ⟨3, ![1, 176, 2048]⟩
abbrev S2048x704 : Shape := ⟨2, ![2048, 704]⟩
abbrev S256x704 : Shape := ⟨2, ![256, 704]⟩
abbrev S64x2048 : Shape := ⟨2, ![64, 2048]⟩

abbrev nBuf : Space → Nat
  | .hbm => 78
  | .vmem => 81
  | .smem => 0
  | _ => 0

abbrev bufTy : (tb : Table) → Fin (tcTables nBuf tb) → BufTy
  | .hbm, ⟨0, _⟩ => ⟨S8x416x2048, .bf16⟩
  | .hbm, ⟨1, _⟩ => ⟨S8x256x2048, .bf16⟩
  | .hbm, ⟨2, _⟩ => ⟨S8x704x2048, .bf16⟩
  | .hbm, ⟨3, _⟩ => ⟨S8x704x2048, .bf16⟩
  | .hbm, ⟨4, _⟩ => ⟨S8x704x2048, .bf16⟩
  | .hbm, ⟨5, _⟩ => ⟨S1x2048x416, .f32⟩
  | .hbm, ⟨6, _⟩ => ⟨S1x256x2048, .f32⟩
  | .hbm, ⟨7, _⟩ => ⟨S1x2048x704, .f32⟩
  | .hbm, ⟨8, _⟩ => ⟨S1x2048x704, .f32⟩
  | .hbm, ⟨9, _⟩ => ⟨S1x704x2048, .f32⟩
  | .hbm, ⟨10, _⟩ => ⟨S1x2048x416, .f32⟩
  | .hbm, ⟨11, _⟩ => ⟨S1x256x2048, .f32⟩
  | .hbm, ⟨12, _⟩ => ⟨S1x2048x704, .f32⟩
  | .hbm, ⟨13, _⟩ => ⟨S1x2048x704, .f32⟩
  | .hbm, ⟨14, _⟩ => ⟨S1x704x2048, .f32⟩
  | .hbm, ⟨15, _⟩ => ⟨S1x2048x416, .f32⟩
  | .hbm, ⟨16, _⟩ => ⟨S1x256x2048, .f32⟩
  | .hbm, ⟨17, _⟩ => ⟨S1x2048x704, .f32⟩
  | .hbm, ⟨18, _⟩ => ⟨S1x2048x704, .f32⟩
  | .hbm, ⟨19, _⟩ => ⟨S1x704x2048, .f32⟩
  | .hbm, ⟨20, _⟩ => ⟨S416x2048, .f32⟩
  | .hbm, ⟨21, _⟩ => ⟨S2048x416, .f32⟩
  | .hbm, ⟨22, _⟩ => ⟨S2048x416, .f32⟩
  | .hbm, ⟨23, _⟩ => ⟨S2048x416, .f32⟩
  | .hbm, ⟨24, _⟩ => ⟨S2048x416, .f32⟩
  | .hbm, ⟨25, _⟩ => ⟨S2048x416, .f32⟩
  | .hbm, ⟨26, _⟩ => ⟨S2048x416, .f32⟩
  | .hbm, ⟨27, _⟩ => ⟨S2048x416, .f32⟩
  | .hbm, ⟨28, _⟩ => ⟨S1x2048x416, .f32⟩
  | .hbm, ⟨29, _⟩ => ⟨S1x2048x416, .f32⟩
  | .hbm, ⟨30, _⟩ => ⟨S1x2048x416, .f32⟩
  | .hbm, ⟨31, _⟩ => ⟨S1x2048x416, .f32⟩
  | .hbm, ⟨32, _⟩ => ⟨S256x2048, .f32⟩
  | .hbm, ⟨33, _⟩ => ⟨S256x2048, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S256x2048, .f32⟩
  | .hbm, ⟨38, _⟩ => ⟨S256x2048, .f32⟩
  | .hbm, ⟨39, _⟩ => ⟨S1x256x2048, .f32⟩
  | .hbm, ⟨40, _⟩ => ⟨S1x256x2048, .f32⟩
  | .hbm, ⟨41, _⟩ => ⟨S1x256x2048, .f32⟩
  | .hbm, ⟨42, _⟩ => ⟨S1x256x2048, .f32⟩
  | .hbm, ⟨43, _⟩ => ⟨S704x2048, .f32⟩
  | .hbm, ⟨44, _⟩ => ⟨S2048x704, .f32⟩
  | .hbm, ⟨45, _⟩ => ⟨S2048x704, .f32⟩
  | .hbm, ⟨46, _⟩ => ⟨S2048x704, .f32⟩
  | .hbm, ⟨47, _⟩ => ⟨S2048x704, .f32⟩
  | .hbm, ⟨48, _⟩ => ⟨S2048x704, .f32⟩
  | .hbm, ⟨49, _⟩ => ⟨S2048x704, .f32⟩
  | .hbm, ⟨50, _⟩ => ⟨S2048x704, .f32⟩
  | .hbm, ⟨51, _⟩ => ⟨S1x2048x704, .f32⟩
  | .hbm, ⟨52, _⟩ => ⟨S1x2048x704, .f32⟩
  | .hbm, ⟨53, _⟩ => ⟨S1x2048x704, .f32⟩
  | .hbm, ⟨54, _⟩ => ⟨S1x2048x704, .f32⟩
  | .hbm, ⟨55, _⟩ => ⟨S704x2048, .f32⟩
  | .hbm, ⟨56, _⟩ => ⟨S2048x704, .f32⟩
  | .hbm, ⟨57, _⟩ => ⟨S2048x704, .f32⟩
  | .hbm, ⟨58, _⟩ => ⟨S2048x704, .f32⟩
  | .hbm, ⟨59, _⟩ => ⟨S2048x704, .f32⟩
  | .hbm, ⟨60, _⟩ => ⟨S2048x704, .f32⟩
  | .hbm, ⟨61, _⟩ => ⟨S2048x704, .f32⟩
  | .hbm, ⟨62, _⟩ => ⟨S2048x704, .f32⟩
  | .hbm, ⟨63, _⟩ => ⟨S1x2048x704, .f32⟩
  | .hbm, ⟨64, _⟩ => ⟨S1x2048x704, .f32⟩
  | .hbm, ⟨65, _⟩ => ⟨S1x2048x704, .f32⟩
  | .hbm, ⟨66, _⟩ => ⟨S1x2048x704, .f32⟩
  | .hbm, ⟨67, _⟩ => ⟨S704x2048, .f32⟩
  | .hbm, ⟨68, _⟩ => ⟨S704x2048, .f32⟩
  | .hbm, ⟨69, _⟩ => ⟨S704x2048, .f32⟩
  | .hbm, ⟨70, _⟩ => ⟨S704x2048, .f32⟩
  | .hbm, ⟨71, _⟩ => ⟨S704x2048, .f32⟩
  | .hbm, ⟨72, _⟩ => ⟨S704x2048, .f32⟩
  | .hbm, ⟨73, _⟩ => ⟨S704x2048, .f32⟩
  | .hbm, ⟨74, _⟩ => ⟨S1x704x2048, .f32⟩
  | .hbm, ⟨75, _⟩ => ⟨S1x704x2048, .f32⟩
  | .hbm, ⟨76, _⟩ => ⟨S1x704x2048, .f32⟩
  | .hbm, ⟨77, _⟩ => ⟨S1x704x2048, .f32⟩
  | .local _ .vmem, ⟨0, _⟩ => ⟨S8x208x2048, .bf16⟩
  | .local _ .vmem, ⟨1, _⟩ => ⟨S8x208x2048, .bf16⟩
  | .local _ .vmem, ⟨2, _⟩ => ⟨S208x2048, .f32⟩
  | .local _ .vmem, ⟨3, _⟩ => ⟨S208x2048, .f32⟩
  | .local _ .vmem, ⟨4, _⟩ => ⟨S256x416, .f32⟩
  | .local _ .vmem, ⟨5, _⟩ => ⟨S256x416, .f32⟩
  | .local _ .vmem, ⟨6, _⟩ => ⟨S256x416, .f32⟩
  | .local _ .vmem, ⟨7, _⟩ => ⟨S256x416, .f32⟩
  | .local _ .vmem, ⟨8, _⟩ => ⟨S256x416, .f32⟩
  | .local _ .vmem, ⟨9, _⟩ => ⟨S256x416, .f32⟩
  | .local _ .vmem, ⟨10, _⟩ => ⟨S256x416, .f32⟩
  | .local _ .vmem, ⟨11, _⟩ => ⟨S256x416, .f32⟩
  | .local _ .vmem, ⟨12, _⟩ => ⟨S256x416, .f32⟩
  | .local _ .vmem, ⟨13, _⟩ => ⟨S256x416, .f32⟩
  | .local _ .vmem, ⟨14, _⟩ => ⟨S256x416, .f32⟩
  | .local _ .vmem, ⟨15, _⟩ => ⟨S256x416, .f32⟩
  | .local _ .vmem, ⟨16, _⟩ => ⟨S256x416, .f32⟩
  | .local _ .vmem, ⟨17, _⟩ => ⟨S256x416, .f32⟩
  | .local _ .vmem, ⟨18, _⟩ => ⟨S8x256x2048, .bf16⟩
  | .local _ .vmem, ⟨19, _⟩ => ⟨S256x2048, .f32⟩
  | .local _ .vmem, ⟨20, _⟩ => ⟨S256x2048, .f32⟩
  | .local _ .vmem, ⟨21, _⟩ => ⟨S256x2048, .f32⟩
  | .local _ .vmem, ⟨22, _⟩ => ⟨S256x2048, .f32⟩
  | .local _ .vmem, ⟨23, _⟩ => ⟨S256x2048, .f32⟩
  | .local _ .vmem, ⟨24, _⟩ => ⟨S256x2048, .f32⟩
  | .local _ .vmem, ⟨25, _⟩ => ⟨S256x2048, .f32⟩
  | .local _ .vmem, ⟨26, _⟩ => ⟨S256x2048, .f32⟩
  | .local _ .vmem, ⟨27, _⟩ => ⟨S8x176x2048, .bf16⟩
  | .local _ .vmem, ⟨28, _⟩ => ⟨S8x176x2048, .bf16⟩
  | .local _ .vmem, ⟨29, _⟩ => ⟨S176x2048, .f32⟩
  | .local _ .vmem, ⟨30, _⟩ => ⟨S176x2048, .f32⟩
  | .local _ .vmem, ⟨31, _⟩ => ⟨S256x704, .f32⟩
  | .local _ .vmem, ⟨32, _⟩ => ⟨S256x704, .f32⟩
  | .local _ .vmem, ⟨33, _⟩ => ⟨S256x704, .f32⟩
  | .local _ .vmem, ⟨34, _⟩ => ⟨S256x704, .f32⟩
  | .local _ .vmem, ⟨35, _⟩ => ⟨S256x704, .f32⟩
  | .local _ .vmem, ⟨36, _⟩ => ⟨S256x704, .f32⟩
  | .local _ .vmem, ⟨37, _⟩ => ⟨S256x704, .f32⟩
  | .local _ .vmem, ⟨38, _⟩ => ⟨S256x704, .f32⟩
  | .local _ .vmem, ⟨39, _⟩ => ⟨S256x704, .f32⟩
  | .local _ .vmem, ⟨40, _⟩ => ⟨S256x704, .f32⟩
  | .local _ .vmem, ⟨41, _⟩ => ⟨S256x704, .f32⟩
  | .local _ .vmem, ⟨42, _⟩ => ⟨S256x704, .f32⟩
  | .local _ .vmem, ⟨43, _⟩ => ⟨S256x704, .f32⟩
  | .local _ .vmem, ⟨44, _⟩ => ⟨S256x704, .f32⟩
  | .local _ .vmem, ⟨45, _⟩ => ⟨S8x176x2048, .bf16⟩
  | .local _ .vmem, ⟨46, _⟩ => ⟨S8x176x2048, .bf16⟩
  | .local _ .vmem, ⟨47, _⟩ => ⟨S176x2048, .f32⟩
  | .local _ .vmem, ⟨48, _⟩ => ⟨S176x2048, .f32⟩
  | .local _ .vmem, ⟨49, _⟩ => ⟨S256x704, .f32⟩
  | .local _ .vmem, ⟨50, _⟩ => ⟨S256x704, .f32⟩
  | .local _ .vmem, ⟨51, _⟩ => ⟨S256x704, .f32⟩
  | .local _ .vmem, ⟨52, _⟩ => ⟨S256x704, .f32⟩
  | .local _ .vmem, ⟨53, _⟩ => ⟨S256x704, .f32⟩
  | .local _ .vmem, ⟨54, _⟩ => ⟨S256x704, .f32⟩
  | .local _ .vmem, ⟨55, _⟩ => ⟨S256x704, .f32⟩
  | .local _ .vmem, ⟨56, _⟩ => ⟨S256x704, .f32⟩
  | .local _ .vmem, ⟨57, _⟩ => ⟨S256x704, .f32⟩
  | .local _ .vmem, ⟨58, _⟩ => ⟨S256x704, .f32⟩
  | .local _ .vmem, ⟨59, _⟩ => ⟨S256x704, .f32⟩
  | .local _ .vmem, ⟨60, _⟩ => ⟨S256x704, .f32⟩
  | .local _ .vmem, ⟨61, _⟩ => ⟨S256x704, .f32⟩
  | .local _ .vmem, ⟨62, _⟩ => ⟨S256x704, .f32⟩
  | .local _ .vmem, ⟨63, _⟩ => ⟨S8x176x2048, .bf16⟩
  | .local _ .vmem, ⟨64, _⟩ => ⟨S8x176x2048, .bf16⟩
  | .local _ .vmem, ⟨65, _⟩ => ⟨S176x2048, .f32⟩
  | .local _ .vmem, ⟨66, _⟩ => ⟨S176x2048, .f32⟩
  | .local _ .vmem, ⟨67, _⟩ => ⟨S64x2048, .f32⟩
  | .local _ .vmem, ⟨68, _⟩ => ⟨S64x2048, .f32⟩
  | .local _ .vmem, ⟨69, _⟩ => ⟨S64x2048, .f32⟩
  | .local _ .vmem, ⟨70, _⟩ => ⟨S64x2048, .f32⟩
  | .local _ .vmem, ⟨71, _⟩ => ⟨S64x2048, .f32⟩
  | .local _ .vmem, ⟨72, _⟩ => ⟨S64x2048, .f32⟩
  | .local _ .vmem, ⟨73, _⟩ => ⟨S64x2048, .f32⟩
  | .local _ .vmem, ⟨74, _⟩ => ⟨S64x2048, .f32⟩
  | .local _ .vmem, ⟨75, _⟩ => ⟨S64x2048, .f32⟩
  | .local _ .vmem, ⟨76, _⟩ => ⟨S64x2048, .f32⟩
  | .local _ .vmem, ⟨77, _⟩ => ⟨S64x2048, .f32⟩
  | .local _ .vmem, ⟨78, _⟩ => ⟨S64x2048, .f32⟩
  | .local _ .vmem, ⟨79, _⟩ => ⟨S64x2048, .f32⟩
  | .local _ .vmem, ⟨80, _⟩ => ⟨S64x2048, .f32⟩
  | _, _ => ⟨S8x416x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | _, _ => false

abbrev semScoped : Fin 0 → Bool
  | ⟨_, h⟩ => absurd h (Nat.not_lt_zero _)

abbrev dmaSemScoped : Fin 81 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | _ => false

abbrev sig : RefSig :=
  ofTc nBuf bufTy 0 81 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5_0 : Ref sig .tc := ⟨.hbm, 25, rfl⟩
abbrev main_v5_1 : Ref sig .tc := ⟨.hbm, 26, rfl⟩
abbrev main_v5_2 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14_0 : Ref sig .tc := ⟨.hbm, 36, rfl⟩
abbrev main_v14_1 : Ref sig .tc := ⟨.hbm, 37, rfl⟩
abbrev main_v14_2 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24_0 : Ref sig .tc := ⟨.hbm, 48, rfl⟩
abbrev main_v24_1 : Ref sig .tc := ⟨.hbm, 49, rfl⟩
abbrev main_v24_2 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34_0 : Ref sig .tc := ⟨.hbm, 60, rfl⟩
abbrev main_v34_1 : Ref sig .tc := ⟨.hbm, 61, rfl⟩
abbrev main_v34_2 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43_0 : Ref sig .tc := ⟨.hbm, 71, rfl⟩
abbrev main_v43_1 : Ref sig .tc := ⟨.hbm, 72, rfl⟩
abbrev main_v43_2 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg1_0 : Ref sig .tc := ⟨.vmem, 19, rfl⟩
abbrev cc3_stg0_0 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg2_1 : Ref sig .tc := ⟨.vmem, 36, rfl⟩
abbrev cc5_stg3_0 : Ref sig .tc := ⟨.vmem, 37, rfl⟩
abbrev cc5_stg3_1 : Ref sig .tc := ⟨.vmem, 38, rfl⟩
abbrev cc5_stg4_0 : Ref sig .tc := ⟨.vmem, 39, rfl⟩
abbrev cc5_stg4_1 : Ref sig .tc := ⟨.vmem, 40, rfl⟩
abbrev cc5_stg5_0 : Ref sig .tc := ⟨.vmem, 41, rfl⟩
abbrev cc5_stg5_1 : Ref sig .tc := ⟨.vmem, 42, rfl⟩
abbrev cc5_stg6_0 : Ref sig .tc := ⟨.vmem, 43, rfl⟩
abbrev cc5_stg6_1 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg1_1 : Ref sig .tc := ⟨.vmem, 48, rfl⟩
abbrev cc7_stg0_0 : Ref sig .tc := ⟨.vmem, 49, rfl⟩
abbrev cc7_stg0_1 : Ref sig .tc := ⟨.vmem, 50, rfl⟩
abbrev cc7_stg1_0 : Ref sig .tc := ⟨.vmem, 51, rfl⟩
abbrev cc7_stg1_1 : Ref sig .tc := ⟨.vmem, 52, rfl⟩
abbrev cc7_stg2_0 : Ref sig .tc := ⟨.vmem, 53, rfl⟩
abbrev cc7_stg2_1 : Ref sig .tc := ⟨.vmem, 54, rfl⟩
abbrev cc7_stg3_0 : Ref sig .tc := ⟨.vmem, 55, rfl⟩
abbrev cc7_stg3_1 : Ref sig .tc := ⟨.vmem, 56, rfl⟩
abbrev cc7_stg4_0 : Ref sig .tc := ⟨.vmem, 57, rfl⟩
abbrev cc7_stg4_1 : Ref sig .tc := ⟨.vmem, 58, rfl⟩
abbrev cc7_stg5_0 : Ref sig .tc := ⟨.vmem, 59, rfl⟩
abbrev cc7_stg5_1 : Ref sig .tc := ⟨.vmem, 60, rfl⟩
abbrev cc7_stg6_0 : Ref sig .tc := ⟨.vmem, 61, rfl⟩
abbrev cc7_stg6_1 : Ref sig .tc := ⟨.vmem, 62, rfl⟩
abbrev cc8_stg0_0 : Ref sig .tc := ⟨.vmem, 63, rfl⟩
abbrev cc8_stg0_1 : Ref sig .tc := ⟨.vmem, 64, rfl⟩
abbrev cc8_stg1_0 : Ref sig .tc := ⟨.vmem, 65, rfl⟩
abbrev cc8_stg1_1 : Ref sig .tc := ⟨.vmem, 66, rfl⟩
abbrev cc9_stg0_0 : Ref sig .tc := ⟨.vmem, 67, rfl⟩
abbrev cc9_stg0_1 : Ref sig .tc := ⟨.vmem, 68, rfl⟩
abbrev cc9_stg1_0 : Ref sig .tc := ⟨.vmem, 69, rfl⟩
abbrev cc9_stg1_1 : Ref sig .tc := ⟨.vmem, 70, rfl⟩
abbrev cc9_stg2_0 : Ref sig .tc := ⟨.vmem, 71, rfl⟩
abbrev cc9_stg2_1 : Ref sig .tc := ⟨.vmem, 72, rfl⟩
abbrev cc9_stg3_0 : Ref sig .tc := ⟨.vmem, 73, rfl⟩
abbrev cc9_stg3_1 : Ref sig .tc := ⟨.vmem, 74, rfl⟩
abbrev cc9_stg4_0 : Ref sig .tc := ⟨.vmem, 75, rfl⟩
abbrev cc9_stg4_1 : Ref sig .tc := ⟨.vmem, 76, rfl⟩
abbrev cc9_stg5_0 : Ref sig .tc := ⟨.vmem, 77, rfl⟩
abbrev cc9_stg5_1 : Ref sig .tc := ⟨.vmem, 78, rfl⟩
abbrev cc9_stg6_0 : Ref sig .tc := ⟨.vmem, 79, rfl⟩
abbrev cc9_stg6_1 : Ref sig .tc := ⟨.vmem, 80, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc2_sem0_0 : DmaSem sig := 18
abbrev cc2_sem1_0 : DmaSem sig := 19
abbrev cc3_sem0_0 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc4_sem0_0 : DmaSem sig := 27
abbrev cc4_sem0_1 : DmaSem sig := 28
abbrev cc4_sem1_0 : DmaSem sig := 29
abbrev cc4_sem1_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem2_1 : DmaSem sig := 36
abbrev cc5_sem3_0 : DmaSem sig := 37
abbrev cc5_sem3_1 : DmaSem sig := 38
abbrev cc5_sem4_0 : DmaSem sig := 39
abbrev cc5_sem4_1 : DmaSem sig := 40
abbrev cc5_sem5_0 : DmaSem sig := 41
abbrev cc5_sem5_1 : DmaSem sig := 42
abbrev cc5_sem6_0 : DmaSem sig := 43
abbrev cc5_sem6_1 : DmaSem sig := 44
abbrev cc6_sem0_0 : DmaSem sig := 45
abbrev cc6_sem0_1 : DmaSem sig := 46
abbrev cc6_sem1_0 : DmaSem sig := 47
abbrev cc6_sem1_1 : DmaSem sig := 48
abbrev cc7_sem0_0 : DmaSem sig := 49
abbrev cc7_sem0_1 : DmaSem sig := 50
abbrev cc7_sem1_0 : DmaSem sig := 51
abbrev cc7_sem1_1 : DmaSem sig := 52
abbrev cc7_sem2_0 : DmaSem sig := 53
abbrev cc7_sem2_1 : DmaSem sig := 54
abbrev cc7_sem3_0 : DmaSem sig := 55
abbrev cc7_sem3_1 : DmaSem sig := 56
abbrev cc7_sem4_0 : DmaSem sig := 57
abbrev cc7_sem4_1 : DmaSem sig := 58
abbrev cc7_sem5_0 : DmaSem sig := 59
abbrev cc7_sem5_1 : DmaSem sig := 60
abbrev cc7_sem6_0 : DmaSem sig := 61
abbrev cc7_sem6_1 : DmaSem sig := 62
abbrev cc8_sem0_0 : DmaSem sig := 63
abbrev cc8_sem0_1 : DmaSem sig := 64
abbrev cc8_sem1_0 : DmaSem sig := 65
abbrev cc8_sem1_1 : DmaSem sig := 66
abbrev cc9_sem0_0 : DmaSem sig := 67
abbrev cc9_sem0_1 : DmaSem sig := 68
abbrev cc9_sem1_0 : DmaSem sig := 69
abbrev cc9_sem1_1 : DmaSem sig := 70
abbrev cc9_sem2_0 : DmaSem sig := 71
abbrev cc9_sem2_1 : DmaSem sig := 72
abbrev cc9_sem3_0 : DmaSem sig := 73
abbrev cc9_sem3_1 : DmaSem sig := 74
abbrev cc9_sem4_0 : DmaSem sig := 75
abbrev cc9_sem4_1 : DmaSem sig := 76
abbrev cc9_sem5_0 : DmaSem sig := 77
abbrev cc9_sem5_1 : DmaSem sig := 78
abbrev cc9_sem6_0 : DmaSem sig := 79
abbrev cc9_sem6_1 : DmaSem sig := 80

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x208x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S208x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x416 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x416 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x416 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x416 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x416 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x416 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x416 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![1], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S8x256x2048 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S256x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S256x2048 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S256x2048 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true]

abbrev stage3_2 : Fin 1 → Memref sig .tc .vmem S256x2048 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

abbrev stage3_3 : Fin 1 → Memref sig .tc .vmem S256x2048 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

abbrev stage3_4 : Fin 1 → Memref sig .tc .vmem S256x2048 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true]

abbrev stage3_5 : Fin 1 → Memref sig .tc .vmem S256x2048 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true]

abbrev stage3_6 : Fin 1 → Memref sig .tc .vmem S256x2048 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![true]

abbrev grid4 : Pipeline.Grid := ⟨1, ![4], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8x176x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S176x2048 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S256x704 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S256x704 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S256x704 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S256x704 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S256x704 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S256x704 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S256x704 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![4], ![false]⟩

def cc6_transform_0 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S8x176x2048 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S176x2048 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev grid7 : Pipeline.Grid := ⟨1, ![8], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S256x704 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S256x704 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S256x704 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S256x704 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S256x704 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S256x704 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S256x704 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![4], ![false]⟩

def cc8_transform_0 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S8x176x2048 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S176x2048 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev grid9 : Pipeline.Grid := ⟨1, ![11], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S64x2048 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S64x2048 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S64x2048 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 2 → Memref sig .tc .vmem S64x2048 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 2 → Memref sig .tc .vmem S64x2048 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 2 → Memref sig .tc .vmem S64x2048 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev stage9_6 : Fin 2 → Memref sig .tc .vmem S64x2048 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]
-- ==== UpdateRefIdeal.lean ====
abbrev S8x416x2048 : Shape := ⟨3, ![8, 416, 2048]⟩
abbrev S8x256x2048 : Shape := ⟨3, ![8, 256, 2048]⟩
abbrev S8x704x2048 : Shape := ⟨3, ![8, 704, 2048]⟩
abbrev S1x2048x416 : Shape := ⟨3, ![1, 2048, 416]⟩
abbrev S1x256x2048 : Shape := ⟨3, ![1, 256, 2048]⟩
abbrev S1x2048x704 : Shape := ⟨3, ![1, 2048, 704]⟩
abbrev S1x704x2048 : Shape := ⟨3, ![1, 704, 2048]⟩
abbrev S_ : Shape := ⟨0, ![]⟩
abbrev S416x2048 : Shape := ⟨2, ![416, 2048]⟩
abbrev S2048x416 : Shape := ⟨2, ![2048, 416]⟩
abbrev S256x2048 : Shape := ⟨2, ![256, 2048]⟩
abbrev S704x2048 : Shape := ⟨2, ![704, 2048]⟩
abbrev S2048x704 : Shape := ⟨2, ![2048, 704]⟩

abbrev nBuf : Space → Nat
  | .hbm => 208
  | .vmem => 0
  | .smem => 0
  | _ => 0

abbrev hbmTy0_0 (i : Nat) : BufTy := match i % 128 with
  | 0 => ⟨S8x416x2048, .bf16⟩
  | 1 => ⟨S8x256x2048, .bf16⟩
  | 2 => ⟨S8x704x2048, .bf16⟩
  | 3 => ⟨S8x704x2048, .bf16⟩
  | 4 => ⟨S8x704x2048, .bf16⟩
  | 5 => ⟨S1x2048x416, .f32⟩
  | 6 => ⟨S1x256x2048, .f32⟩
  | 7 => ⟨S1x2048x704, .f32⟩
  | 8 => ⟨S1x2048x704, .f32⟩
  | 9 => ⟨S1x704x2048, .f32⟩
  | 10 => ⟨S1x2048x416, .f32⟩
  | 11 => ⟨S1x256x2048, .f32⟩
  | 12 => ⟨S1x2048x704, .f32⟩
  | 13 => ⟨S1x2048x704, .f32⟩
  | 14 => ⟨S1x704x2048, .f32⟩
  | 15 => ⟨S1x2048x416, .f32⟩
  | 16 => ⟨S1x256x2048, .f32⟩
  | 17 => ⟨S1x2048x704, .f32⟩
  | 18 => ⟨S1x2048x704, .f32⟩
  | 19 => ⟨S1x704x2048, .f32⟩
  | 20 => ⟨S8x416x2048, .f32⟩
  | 21 => ⟨S_, .f32⟩
  | 22 => ⟨S416x2048, .f32⟩
  | 23 => ⟨S2048x416, .f32⟩
  | 24 => ⟨S1x2048x416, .f32⟩
  | 25 => ⟨S_, .f32⟩
  | 26 => ⟨S1x2048x416, .f32⟩
  | 27 => ⟨S1x2048x416, .f32⟩
  | 28 => ⟨S_, .f32⟩
  | 29 => ⟨S1x2048x416, .f32⟩
  | 30 => ⟨S1x2048x416, .f32⟩
  | 31 => ⟨S1x2048x416, .f32⟩
  | 32 => ⟨S_, .f32⟩
  | 33 => ⟨S1x2048x416, .f32⟩
  | 34 => ⟨S1x2048x416, .f32⟩
  | 35 => ⟨S1x2048x416, .f32⟩
  | 36 => ⟨S_, .f32⟩
  | 37 => ⟨S1x2048x416, .f32⟩
  | 38 => ⟨S1x2048x416, .f32⟩
  | 39 => ⟨S1x2048x416, .f32⟩
  | 40 => ⟨S_, .f32⟩
  | 41 => ⟨S1x2048x416, .f32⟩
  | 42 => ⟨S1x2048x416, .f32⟩
  | 43 => ⟨S_, .f32⟩
  | 44 => ⟨S1x2048x416, .f32⟩
  | 45 => ⟨S1x2048x416, .f32⟩
  | 46 => ⟨S1x2048x416, .f32⟩
  | 47 => ⟨S_, .f32⟩
  | 48 => ⟨S1x2048x416, .f32⟩
  | 49 => ⟨S1x2048x416, .f32⟩
  | 50 => ⟨S1x2048x416, .f32⟩
  | 51 => ⟨S_, .f32⟩
  | 52 => ⟨S1x2048x416, .f32⟩
  | 53 => ⟨S1x2048x416, .f32⟩
  | 54 => ⟨S1x2048x416, .f32⟩
  | 55 => ⟨S_, .f32⟩
  | 56 => ⟨S1x2048x416, .f32⟩
  | 57 => ⟨S1x2048x416, .f32⟩
  | 58 => ⟨S8x256x2048, .f32⟩
  | 59 => ⟨S_, .f32⟩
  | 60 => ⟨S256x2048, .f32⟩
  | 61 => ⟨S1x256x2048, .f32⟩
  | 62 => ⟨S_, .f32⟩
  | 63 => ⟨S1x256x2048, .f32⟩
  | 64 => ⟨S1x256x2048, .f32⟩
  | 65 => ⟨S_, .f32⟩
  | 66 => ⟨S1x256x2048, .f32⟩
  | 67 => ⟨S1x256x2048, .f32⟩
  | 68 => ⟨S1x256x2048, .f32⟩
  | 69 => ⟨S_, .f32⟩
  | 70 => ⟨S1x256x2048, .f32⟩
  | 71 => ⟨S1x256x2048, .f32⟩
  | 72 => ⟨S1x256x2048, .f32⟩
  | 73 => ⟨S_, .f32⟩
  | 74 => ⟨S1x256x2048, .f32⟩
  | 75 => ⟨S1x256x2048, .f32⟩
  | 76 => ⟨S1x256x2048, .f32⟩
  | 77 => ⟨S_, .f32⟩
  | 78 => ⟨S1x256x2048, .f32⟩
  | 79 => ⟨S1x256x2048, .f32⟩
  | 80 => ⟨S_, .f32⟩
  | 81 => ⟨S1x256x2048, .f32⟩
  | 82 => ⟨S1x256x2048, .f32⟩
  | 83 => ⟨S1x256x2048, .f32⟩
  | 84 => ⟨S_, .f32⟩
  | 85 => ⟨S1x256x2048, .f32⟩
  | 86 => ⟨S1x256x2048, .f32⟩
  | 87 => ⟨S1x256x2048, .f32⟩
  | 88 => ⟨S_, .f32⟩
  | 89 => ⟨S1x256x2048, .f32⟩
  | 90 => ⟨S1x256x2048, .f32⟩
  | 91 => ⟨S1x256x2048, .f32⟩
  | 92 => ⟨S_, .f32⟩
  | 93 => ⟨S1x256x2048, .f32⟩
  | 94 => ⟨S1x256x2048, .f32⟩
  | 95 => ⟨S8x704x2048, .f32⟩
  | 96 => ⟨S_, .f32⟩
  | 97 => ⟨S704x2048, .f32⟩
  | 98 => ⟨S2048x704, .f32⟩
  | 99 => ⟨S1x2048x704, .f32⟩
  | 100 => ⟨S_, .f32⟩
  | 101 => ⟨S1x2048x704, .f32⟩
  | 102 => ⟨S1x2048x704, .f32⟩
  | 103 => ⟨S_, .f32⟩
  | 104 => ⟨S1x2048x704, .f32⟩
  | 105 => ⟨S1x2048x704, .f32⟩
  | 106 => ⟨S1x2048x704, .f32⟩
  | 107 => ⟨S_, .f32⟩
  | 108 => ⟨S1x2048x704, .f32⟩
  | 109 => ⟨S1x2048x704, .f32⟩
  | 110 => ⟨S1x2048x704, .f32⟩
  | 111 => ⟨S_, .f32⟩
  | 112 => ⟨S1x2048x704, .f32⟩
  | 113 => ⟨S1x2048x704, .f32⟩
  | 114 => ⟨S1x2048x704, .f32⟩
  | 115 => ⟨S_, .f32⟩
  | 116 => ⟨S1x2048x704, .f32⟩
  | 117 => ⟨S1x2048x704, .f32⟩
  | 118 => ⟨S_, .f32⟩
  | 119 => ⟨S1x2048x704, .f32⟩
  | 120 => ⟨S1x2048x704, .f32⟩
  | 121 => ⟨S1x2048x704, .f32⟩
  | 122 => ⟨S_, .f32⟩
  | 123 => ⟨S1x2048x704, .f32⟩
  | 124 => ⟨S1x2048x704, .f32⟩
  | 125 => ⟨S1x2048x704, .f32⟩
  | 126 => ⟨S_, .f32⟩
  | 127 => ⟨S1x2048x704, .f32⟩
  | _ => ⟨S8x416x2048, .bf16⟩

abbrev hbmTy0_1 (i : Nat) : BufTy := match i % 128 with
  | 0 => ⟨S1x2048x704, .f32⟩
  | 1 => ⟨S1x2048x704, .f32⟩
  | 2 => ⟨S_, .f32⟩
  | 3 => ⟨S1x2048x704, .f32⟩
  | 4 => ⟨S1x2048x704, .f32⟩
  | 5 => ⟨S8x704x2048, .f32⟩
  | 6 => ⟨S_, .f32⟩
  | 7 => ⟨S704x2048, .f32⟩
  | 8 => ⟨S2048x704, .f32⟩
  | 9 => ⟨S1x2048x704, .f32⟩
  | 10 => ⟨S_, .f32⟩
  | 11 => ⟨S1x2048x704, .f32⟩
  | 12 => ⟨S1x2048x704, .f32⟩
  | 13 => ⟨S_, .f32⟩
  | 14 => ⟨S1x2048x704, .f32⟩
  | 15 => ⟨S1x2048x704, .f32⟩
  | 16 => ⟨S1x2048x704, .f32⟩
  | 17 => ⟨S_, .f32⟩
  | 18 => ⟨S1x2048x704, .f32⟩
  | 19 => ⟨S1x2048x704, .f32⟩
  | 20 => ⟨S1x2048x704, .f32⟩
  | 21 => ⟨S_, .f32⟩
  | 22 => ⟨S1x2048x704, .f32⟩
  | 23 => ⟨S1x2048x704, .f32⟩
  | 24 => ⟨S1x2048x704, .f32⟩
  | 25 => ⟨S_, .f32⟩
  | 26 => ⟨S1x2048x704, .f32⟩
  | 27 => ⟨S1x2048x704, .f32⟩
  | 28 => ⟨S_, .f32⟩
  | 29 => ⟨S1x2048x704, .f32⟩
  | 30 => ⟨S1x2048x704, .f32⟩
  | 31 => ⟨S1x2048x704, .f32⟩
  | 32 => ⟨S_, .f32⟩
  | 33 => ⟨S1x2048x704, .f32⟩
  | 34 => ⟨S1x2048x704, .f32⟩
  | 35 => ⟨S1x2048x704, .f32⟩
  | 36 => ⟨S_, .f32⟩
  | 37 => ⟨S1x2048x704, .f32⟩
  | 38 => ⟨S1x2048x704, .f32⟩
  | 39 => ⟨S1x2048x704, .f32⟩
  | 40 => ⟨S_, .f32⟩
  | 41 => ⟨S1x2048x704, .f32⟩
  | 42 => ⟨S1x2048x704, .f32⟩
  | 43 => ⟨S8x704x2048, .f32⟩
  | 44 => ⟨S_, .f32⟩
  | 45 => ⟨S704x2048, .f32⟩
  | 46 => ⟨S1x704x2048, .f32⟩
  | 47 => ⟨S_, .f32⟩
  | 48 => ⟨S1x704x2048, .f32⟩
  | 49 => ⟨S1x704x2048, .f32⟩
  | 50 => ⟨S_, .f32⟩
  | 51 => ⟨S1x704x2048, .f32⟩
  | 52 => ⟨S1x704x2048, .f32⟩
  | 53 => ⟨S1x704x2048, .f32⟩
  | 54 => ⟨S_, .f32⟩
  | 55 => ⟨S1x704x2048, .f32⟩
  | 56 => ⟨S1x704x2048, .f32⟩
  | 57 => ⟨S1x704x2048, .f32⟩
  | 58 => ⟨S_, .f32⟩
  | 59 => ⟨S1x704x2048, .f32⟩
  | 60 => ⟨S1x704x2048, .f32⟩
  | 61 => ⟨S1x704x2048, .f32⟩
  | 62 => ⟨S_, .f32⟩
  | 63 => ⟨S1x704x2048, .f32⟩
  | 64 => ⟨S1x704x2048, .f32⟩
  | 65 => ⟨S_, .f32⟩
  | 66 => ⟨S1x704x2048, .f32⟩
  | 67 => ⟨S1x704x2048, .f32⟩
  | 68 => ⟨S1x704x2048, .f32⟩
  | 69 => ⟨S_, .f32⟩
  | 70 => ⟨S1x704x2048, .f32⟩
  | 71 => ⟨S1x704x2048, .f32⟩
  | 72 => ⟨S1x704x2048, .f32⟩
  | 73 => ⟨S_, .f32⟩
  | 74 => ⟨S1x704x2048, .f32⟩
  | 75 => ⟨S1x704x2048, .f32⟩
  | 76 => ⟨S1x704x2048, .f32⟩
  | 77 => ⟨S_, .f32⟩
  | 78 => ⟨S1x704x2048, .f32⟩
  | 79 => ⟨S1x704x2048, .f32⟩
  | _ => ⟨S8x416x2048, .bf16⟩

abbrev hbmTy (i : Nat) : BufTy := match i / 128 with
  | 0 => hbmTy0_0 i
  | 1 => hbmTy0_1 i
  | _ => ⟨S8x416x2048, .bf16⟩

abbrev bufTy : (tb : Table) → Fin (tcTables nBuf tb) → BufTy
  | .hbm, ⟨i, _⟩ => hbmTy i
  | _, _ => ⟨S8x416x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_cst : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst_0 : Ref sig .tc := ⟨.hbm, 25, rfl⟩
abbrev main_v4 : Ref sig .tc := ⟨.hbm, 26, rfl⟩
abbrev main_v5 : Ref sig .tc := ⟨.hbm, 27, rfl⟩
abbrev main_cst_1 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_cst_2 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_cst_3 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_cst_4 : Ref sig .tc := ⟨.hbm, 40, rfl⟩
abbrev main_v15 : Ref sig .tc := ⟨.hbm, 41, rfl⟩
abbrev main_v16 : Ref sig .tc := ⟨.hbm, 42, rfl⟩
abbrev main_cst_5 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_cst_6 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst_7 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_cst_8 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_cst_9 : Ref sig .tc := ⟨.hbm, 59, rfl⟩
abbrev main_v29 : Ref sig .tc := ⟨.hbm, 60, rfl⟩
abbrev main_v30 : Ref sig .tc := ⟨.hbm, 61, rfl⟩
abbrev main_cst_10 : Ref sig .tc := ⟨.hbm, 62, rfl⟩
abbrev main_v31 : Ref sig .tc := ⟨.hbm, 63, rfl⟩
abbrev main_v32 : Ref sig .tc := ⟨.hbm, 64, rfl⟩
abbrev main_cst_11 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_cst_12 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_cst_13 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_cst_14 : Ref sig .tc := ⟨.hbm, 77, rfl⟩
abbrev main_v42 : Ref sig .tc := ⟨.hbm, 78, rfl⟩
abbrev main_v43 : Ref sig .tc := ⟨.hbm, 79, rfl⟩
abbrev main_cst_15 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_cst_16 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_cst_17 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_cst_18 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_cst_19 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_cst_20 : Ref sig .tc := ⟨.hbm, 100, rfl⟩
abbrev main_v59 : Ref sig .tc := ⟨.hbm, 101, rfl⟩
abbrev main_v60 : Ref sig .tc := ⟨.hbm, 102, rfl⟩
abbrev main_cst_21 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_cst_22 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_cst_23 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_cst_24 : Ref sig .tc := ⟨.hbm, 115, rfl⟩
abbrev main_v70 : Ref sig .tc := ⟨.hbm, 116, rfl⟩
abbrev main_v71 : Ref sig .tc := ⟨.hbm, 117, rfl⟩
abbrev main_cst_25 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_cst_26 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_cst_27 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_cst_28 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_cst_29 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_cst_30 : Ref sig .tc := ⟨.hbm, 138, rfl⟩
abbrev main_v87 : Ref sig .tc := ⟨.hbm, 139, rfl⟩
abbrev main_v88 : Ref sig .tc := ⟨.hbm, 140, rfl⟩
abbrev main_cst_31 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_cst_32 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_cst_33 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_cst_34 : Ref sig .tc := ⟨.hbm, 153, rfl⟩
abbrev main_v98 : Ref sig .tc := ⟨.hbm, 154, rfl⟩
abbrev main_v99 : Ref sig .tc := ⟨.hbm, 155, rfl⟩
abbrev main_cst_35 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_cst_36 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_cst_37 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_cst_38 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_cst_39 : Ref sig .tc := ⟨.hbm, 172, rfl⟩
abbrev main_v112 : Ref sig .tc := ⟨.hbm, 173, rfl⟩
abbrev main_v113 : Ref sig .tc := ⟨.hbm, 174, rfl⟩
abbrev main_cst_40 : Ref sig .tc := ⟨.hbm, 175, rfl⟩
abbrev main_v114 : Ref sig .tc := ⟨.hbm, 176, rfl⟩
abbrev main_v115 : Ref sig .tc := ⟨.hbm, 177, rfl⟩
abbrev main_cst_41 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_cst_42 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_cst_43 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_cst_44 : Ref sig .tc := ⟨.hbm, 190, rfl⟩
abbrev main_v125 : Ref sig .tc := ⟨.hbm, 191, rfl⟩
abbrev main_v126 : Ref sig .tc := ⟨.hbm, 192, rfl⟩
abbrev main_cst_45 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_cst_46 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_cst_47 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_cst_48 : Ref sig .tc := ⟨.hbm, 205, rfl⟩
abbrev main_v136 : Ref sig .tc := ⟨.hbm, 206, rfl⟩
abbrev main_v137 : Ref sig .tc := ⟨.hbm, 207, rfl⟩

abbrev nD : Nat := 1
abbrev τ : Topo := Topo.v7x

variable {F : FTy → Type} [FloatOps F]
-- ==== Gather.lean ====
abbrev S416x2048 : Shape := ⟨2, ![416, 2048]⟩
abbrev S256x2048 : Shape := ⟨2, ![256, 2048]⟩
abbrev S704x2048 : Shape := ⟨2, ![704, 2048]⟩
abbrev S3328x2048 : Shape := ⟨2, ![3328, 2048]⟩
abbrev S2048x2048 : Shape := ⟨2, ![2048, 2048]⟩
abbrev S5632x2048 : Shape := ⟨2, ![5632, 2048]⟩
abbrev S5x7 : Shape := ⟨2, ![5, 7]⟩
abbrev S5 : Shape := ⟨1, ![5]⟩
abbrev S1 : Shape := ⟨1, ![1]⟩
abbrev S_ : Shape := ⟨0, ![]⟩
abbrev S1x1 : Shape := ⟨2, ![1, 1]⟩

abbrev nBuf : Space → Nat
  | .hbm => 10
  | .vmem => 0
  | .smem => 0
  | _ => 0

abbrev bufTy : (tb : Table) → Fin (tcTables nBuf tb) → BufTy
  | .hbm, ⟨0, _⟩ => ⟨S416x2048, .bf16⟩
  | .hbm, ⟨1, _⟩ => ⟨S256x2048, .bf16⟩
  | .hbm, ⟨2, _⟩ => ⟨S704x2048, .bf16⟩
  | .hbm, ⟨3, _⟩ => ⟨S704x2048, .bf16⟩
  | .hbm, ⟨4, _⟩ => ⟨S704x2048, .bf16⟩
  | .hbm, ⟨5, _⟩ => ⟨S3328x2048, .bf16⟩
  | .hbm, ⟨6, _⟩ => ⟨S2048x2048, .bf16⟩
  | .hbm, ⟨7, _⟩ => ⟨S5632x2048, .bf16⟩
  | .hbm, ⟨8, _⟩ => ⟨S5632x2048, .bf16⟩
  | .hbm, ⟨9, _⟩ => ⟨S5632x2048, .bf16⟩
  | _, _ => ⟨S416x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  ofTc nBuf bufTy 0 75 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩

abbrev nD : Nat := 8
abbrev τ : Topo := Topo.v7x

variable {F : FTy → Type} [FloatOps F]

abbrev grid0 : Pipeline.Grid := .none

def k0_mult1 (d0 : Dev nD) : BitVec 32 :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c416_i32 : BitVec 32 := 416#32
  let v18 : BitVec 32 := Scalar.muli v17 c416_i32
  v18
def k0_mult2 (d0 : Dev nD) : BitVec 32 :=
  let c4_i32_10 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.muli c4_i32_10 v2
  let c2_i32_11 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.muli c2_i32_11 v5
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.addi v22 v8
  let c256_i32 : BitVec 32 := 256#32
  let v24 : BitVec 32 := Scalar.muli v23 c256_i32
  v24
def k0_mult3 (d0 : Dev nD) : BitVec 32 :=
  let c4_i32_12 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v26 : BitVec 32 := Scalar.muli c4_i32_12 v2
  let c2_i32_13 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v27 : BitVec 32 := Scalar.muli c2_i32_13 v5
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v29 : BitVec 32 := Scalar.addi v28 v8
  let c704_i32 : BitVec 32 := 704#32
  let v30 : BitVec 32 := Scalar.muli v29 c704_i32
  v30
def k0_mult4 (d0 : Dev nD) : BitVec 32 :=
  let c4_i32_14 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v32 : BitVec 32 := Scalar.muli c4_i32_14 v2
  let c2_i32_15 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v33 : BitVec 32 := Scalar.muli c2_i32_15 v5
  let v34 : BitVec 32 := Scalar.addi v32 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c704_i32_16 : BitVec 32 := 704#32
  let v36 : BitVec 32 := Scalar.muli v35 c704_i32_16
  v36
def k0_mult5 (d0 : Dev nD) : BitVec 32 :=
  let c4_i32_17 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v38 : BitVec 32 := Scalar.muli c4_i32_17 v2
  let c2_i32_18 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v39 : BitVec 32 := Scalar.muli c2_i32_18 v5
  let v40 : BitVec 32 := Scalar.addi v38 v39
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.addi v40 v8
  let c704_i32_19 : BitVec 32 := 704#32
  let v42 : BitVec 32 := Scalar.muli v41 c704_i32_19
  v42
def k0_off1 (d0 : Dev nD) : Fin 2 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c416_i32 : BitVec 32 := 416#32
  let v18 : BitVec 32 := Scalar.muli v17 c416_i32
  let v19 : BitVec 32 := v18
  let c0_i32_20 : BitVec 32 := 0#32
  ![v19.toNat, 0]
def k0_off2 (d0 : Dev nD) : Fin 2 → Nat :=
  let c4_i32_10 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.muli c4_i32_10 v2
  let c2_i32_11 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.muli c2_i32_11 v5
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.addi v22 v8
  let c256_i32 : BitVec 32 := 256#32
  let v24 : BitVec 32 := Scalar.muli v23 c256_i32
  let v25 : BitVec 32 := v24
  let c0_i32_22 : BitVec 32 := 0#32
  ![v25.toNat, 0]
def k0_off3 (d0 : Dev nD) : Fin 2 → Nat :=
  let c4_i32_12 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v26 : BitVec 32 := Scalar.muli c4_i32_12 v2
  let c2_i32_13 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v27 : BitVec 32 := Scalar.muli c2_i32_13 v5
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v29 : BitVec 32 := Scalar.addi v28 v8
  let c704_i32 : BitVec 32 := 704#32
  let v30 : BitVec 32 := Scalar.muli v29 c704_i32
  let v31 : BitVec 32 := v30
  let c0_i32_24 : BitVec 32 := 0#32
  ![v31.toNat, 0]
def k0_mult6 (d0 : Dev nD) : BitVec 32 :=
  let c4_i32_28 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v59 : BitVec 32 := Scalar.muli c4_i32_28 v2
  let c2_i32_29 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v60 : BitVec 32 := Scalar.muli c2_i32_29 v5
  let v61 : BitVec 32 := Scalar.addi v59 v60
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v62 : BitVec 32 := Scalar.addi v61 v8
  let c416_i32_30 : BitVec 32 := 416#32
  let v63 : BitVec 32 := Scalar.muli v62 c416_i32_30
  v63
def k0_mult7 (d0 : Dev nD) : BitVec 32 :=
  let c4_i32_31 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v65 : BitVec 32 := Scalar.muli c4_i32_31 v2
  let c2_i32_32 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v66 : BitVec 32 := Scalar.muli c2_i32_32 v5
  let v67 : BitVec 32 := Scalar.addi v65 v66
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v68 : BitVec 32 := Scalar.addi v67 v8
  let c416_i32_33 : BitVec 32 := 416#32
  let v69 : BitVec 32 := Scalar.muli v68 c416_i32_33
  v69
def k0_mult8 (d0 : Dev nD) : BitVec 32 :=
  let c4_i32_34 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v71 : BitVec 32 := Scalar.muli c4_i32_34 v2
  let c2_i32_35 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v72 : BitVec 32 := Scalar.muli c2_i32_35 v5
  let v73 : BitVec 32 := Scalar.addi v71 v72
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v74 : BitVec 32 := Scalar.addi v73 v8
  let c416_i32_36 : BitVec 32 := 416#32
  let v75 : BitVec 32 := Scalar.muli v74 c416_i32_36
  v75
def k0_mult9 (d0 : Dev nD) : BitVec 32 :=
  let c4_i32_37 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v77 : BitVec 32 := Scalar.muli c4_i32_37 v2
  let c2_i32_38 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v78 : BitVec 32 := Scalar.muli c2_i32_38 v5
  let v79 : BitVec 32 := Scalar.addi v77 v78
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v80 : BitVec 32 := Scalar.addi v79 v8
  let c416_i32_39 : BitVec 32 := 416#32
  let v81 : BitVec 32 := Scalar.muli v80 c416_i32_39
  v81
def k0_mult10 (d0 : Dev nD) : BitVec 32 :=
  let c4_i32_40 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v83 : BitVec 32 := Scalar.muli c4_i32_40 v2
  let c2_i32_41 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v84 : BitVec 32 := Scalar.muli c2_i32_41 v5
  let v85 : BitVec 32 := Scalar.addi v83 v84
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v86 : BitVec 32 := Scalar.addi v85 v8
  let c256_i32_42 : BitVec 32 := 256#32
  let v87 : BitVec 32 := Scalar.muli v86 c256_i32_42
  v87
def k0_mult11 (d0 : Dev nD) : BitVec 32 :=
  let c4_i32_43 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v89 : BitVec 32 := Scalar.muli c4_i32_43 v2
  let c2_i32_44 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v90 : BitVec 32 := Scalar.muli c2_i32_44 v5
  let v91 : BitVec 32 := Scalar.addi v89 v90
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v92 : BitVec 32 := Scalar.addi v91 v8
  let c256_i32_45 : BitVec 32 := 256#32
  let v93 : BitVec 32 := Scalar.muli v92 c256_i32_45
  v93
def k0_mult12 (d0 : Dev nD) : BitVec 32 :=
  let c4_i32_46 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v95 : BitVec 32 := Scalar.muli c4_i32_46 v2
  let c2_i32_47 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v96 : BitVec 32 := Scalar.muli c2_i32_47 v5
  let v97 : BitVec 32 := Scalar.addi v95 v96
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v98 : BitVec 32 := Scalar.addi v97 v8
  let c256_i32_48 : BitVec 32 := 256#32
  let v99 : BitVec 32 := Scalar.muli v98 c256_i32_48
  v99
def k0_mult13 (d0 : Dev nD) : BitVec 32 :=
  let c4_i32_49 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v101 : BitVec 32 := Scalar.muli c4_i32_49 v2
  let c2_i32_50 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v102 : BitVec 32 := Scalar.muli c2_i32_50 v5
  let v103 : BitVec 32 := Scalar.addi v101 v102
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v104 : BitVec 32 := Scalar.addi v103 v8
  let c256_i32_51 : BitVec 32 := 256#32
  let v105 : BitVec 32 := Scalar.muli v104 c256_i32_51
  v105
def k0_mult14 (d0 : Dev nD) : BitVec 32 :=
  let c4_i32_52 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v107 : BitVec 32 := Scalar.muli c4_i32_52 v2
  let c2_i32_53 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v108 : BitVec 32 := Scalar.muli c2_i32_53 v5
  let v109 : BitVec 32 := Scalar.addi v107 v108
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v110 : BitVec 32 := Scalar.addi v109 v8
  let c704_i32_54 : BitVec 32 := 704#32
  let v111 : BitVec 32 := Scalar.muli v110 c704_i32_54
  v111
def k0_mult15 (d0 : Dev nD) : BitVec 32 :=
  let c4_i32_55 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v113 : BitVec 32 := Scalar.muli c4_i32_55 v2
  let c2_i32_56 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v114 : BitVec 32 := Scalar.muli c2_i32_56 v5
  let v115 : BitVec 32 := Scalar.addi v113 v114
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v116 : BitVec 32 := Scalar.addi v115 v8
  let c704_i32_57 : BitVec 32 := 704#32
  let v117 : BitVec 32 := Scalar.muli v116 c704_i32_57
  v117
def k0_mult16 (d0 : Dev nD) : BitVec 32 :=
  let c4_i32_58 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v119 : BitVec 32 := Scalar.muli c4_i32_58 v2
  let c2_i32_59 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v120 : BitVec 32 := Scalar.muli c2_i32_59 v5
  let v121 : BitVec 32 := Scalar.addi v119 v120
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v122 : BitVec 32 := Scalar.addi v121 v8
  let c704_i32_60 : BitVec 32 := 704#32
  let v123 : BitVec 32 := Scalar.muli v122 c704_i32_60
  v123
def k0_mult17 (d0 : Dev nD) : BitVec 32 :=
  let c4_i32_61 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v125 : BitVec 32 := Scalar.muli c4_i32_61 v2
  let c2_i32_62 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v126 : BitVec 32 := Scalar.muli c2_i32_62 v5
  let v127 : BitVec 32 := Scalar.addi v125 v126
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v128 : BitVec 32 := Scalar.addi v127 v8
  let c704_i32_63 : BitVec 32 := 704#32
  let v129 : BitVec 32 := Scalar.muli v128 c704_i32_63
  v129
def k0_mult18 (d0 : Dev nD) : BitVec 32 :=
  let c4_i32_64 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v131 : BitVec 32 := Scalar.muli c4_i32_64 v2
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v132 : BitVec 32 := Scalar.muli c2_i32_65 v5
  let v133 : BitVec 32 := Scalar.addi v131 v132
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v134 : BitVec 32 := Scalar.addi v133 v8
  let c704_i32_66 : BitVec 32 := 704#32
  let v135 : BitVec 32 := Scalar.muli v134 c704_i32_66
  v135
def k0_mult19 (d0 : Dev nD) : BitVec 32 :=
  let c4_i32_67 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v137 : BitVec 32 := Scalar.muli c4_i32_67 v2
  let c2_i32_68 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v138 : BitVec 32 := Scalar.muli c2_i32_68 v5
  let v139 : BitVec 32 := Scalar.addi v137 v138
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v140 : BitVec 32 := Scalar.addi v139 v8
  let c704_i32_69 : BitVec 32 := 704#32
  let v141 : BitVec 32 := Scalar.muli v140 c704_i32_69
  v141
def k0_mult20 (d0 : Dev nD) : BitVec 32 :=
  let c4_i32_70 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v143 : BitVec 32 := Scalar.muli c4_i32_70 v2
  let c2_i32_71 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v144 : BitVec 32 := Scalar.muli c2_i32_71 v5
  let v145 : BitVec 32 := Scalar.addi v143 v144
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v146 : BitVec 32 := Scalar.addi v145 v8
  let c704_i32_72 : BitVec 32 := 704#32
  let v147 : BitVec 32 := Scalar.muli v146 c704_i32_72
  v147
def k0_mult21 (d0 : Dev nD) : BitVec 32 :=
  let c4_i32_73 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v149 : BitVec 32 := Scalar.muli c4_i32_73 v2
  let c2_i32_74 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v150 : BitVec 32 := Scalar.muli c2_i32_74 v5
  let v151 : BitVec 32 := Scalar.addi v149 v150
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v152 : BitVec 32 := Scalar.addi v151 v8
  let c704_i32_75 : BitVec 32 := 704#32
  let v153 : BitVec 32 := Scalar.muli v152 c704_i32_75
  v153
def k0_mult22 (d0 : Dev nD) : BitVec 32 :=
  let c4_i32_76 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v155 : BitVec 32 := Scalar.muli c4_i32_76 v2
  let c2_i32_77 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v156 : BitVec 32 := Scalar.muli c2_i32_77 v5
  let v157 : BitVec 32 := Scalar.addi v155 v156
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v158 : BitVec 32 := Scalar.addi v157 v8
  let c704_i32_78 : BitVec 32 := 704#32
  let v159 : BitVec 32 := Scalar.muli v158 c704_i32_78
  v159
def k0_mult23 (d0 : Dev nD) : BitVec 32 :=
  let c4_i32_79 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v161 : BitVec 32 := Scalar.muli c4_i32_79 v2
  let c2_i32_80 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v162 : BitVec 32 := Scalar.muli c2_i32_80 v5
  let v163 : BitVec 32 := Scalar.addi v161 v162
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v164 : BitVec 32 := Scalar.addi v163 v8
  let c704_i32_81 : BitVec 32 := 704#32
  let v165 : BitVec 32 := Scalar.muli v164 c704_i32_81
  v165
def k0_mult24 (d0 : Dev nD) : BitVec 32 :=
  let c4_i32_82 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v167 : BitVec 32 := Scalar.muli c4_i32_82 v2
  let c2_i32_83 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v168 : BitVec 32 := Scalar.muli c2_i32_83 v5
  let v169 : BitVec 32 := Scalar.addi v167 v168
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v170 : BitVec 32 := Scalar.addi v169 v8
  let c704_i32_84 : BitVec 32 := 704#32
  let v171 : BitVec 32 := Scalar.muli v170 c704_i32_84
  v171
def k0_mult25 (d0 : Dev nD) : BitVec 32 :=
  let c4_i32_85 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v173 : BitVec 32 := Scalar.muli c4_i32_85 v2
  let c2_i32_86 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v174 : BitVec 32 := Scalar.muli c2_i32_86 v5
  let v175 : BitVec 32 := Scalar.addi v173 v174
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v176 : BitVec 32 := Scalar.addi v175 v8
  let c704_i32_87 : BitVec 32 := 704#32
  let v177 : BitVec 32 := Scalar.muli v176 c704_i32_87
  v177
def k0_dev1 (d0 : Dev nD) : Nat :=
  let c0_i32_93 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_92 : BitVec 32 := 4#32
  let v179 : BitVec 32 := Scalar.muli v2 c4_i32_92
  let v180 : BitVec 32 := Scalar.addi c0_i32_93 v179
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_94 : BitVec 32 := 2#32
  let v181 : BitVec 32 := Scalar.muli v5 c2_i32_94
  let v182 : BitVec 32 := Scalar.addi v180 v181
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_95 : BitVec 32 := 1#32
  let v183 : BitVec 32 := Scalar.muli v9 c1_i32_95
  let v184 : BitVec 32 := Scalar.addi v182 v183
  v184.toNat
def k0_dev2 (d0 : Dev nD) : Nat :=
  let c0_i32_102 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_101 : BitVec 32 := 4#32
  let v190 : BitVec 32 := Scalar.muli v10 c4_i32_101
  let v191 : BitVec 32 := Scalar.addi c0_i32_102 v190
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v192 : BitVec 32 := Scalar.muli v5 c2_i32_103
  let v193 : BitVec 32 := Scalar.addi v191 v192
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_104 : BitVec 32 := 1#32
  let v194 : BitVec 32 := Scalar.muli v8 c1_i32_104
  let v195 : BitVec 32 := Scalar.addi v193 v194
  v195.toNat
def k0_dev3 (d0 : Dev nD) : Nat :=
  let c0_i32_111 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_110 : BitVec 32 := 4#32
  let v201 : BitVec 32 := Scalar.muli v2 c4_i32_110
  let v202 : BitVec 32 := Scalar.addi c0_i32_111 v201
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_112 : BitVec 32 := 2#32
  let v203 : BitVec 32 := Scalar.muli v11 c2_i32_112
  let v204 : BitVec 32 := Scalar.addi v202 v203
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_113 : BitVec 32 := 1#32
  let v205 : BitVec 32 := Scalar.muli v8 c1_i32_113
  let v206 : BitVec 32 := Scalar.addi v204 v205
  v206.toNat
def k0_dev4 (d0 : Dev nD) : Nat :=
  let c0_i32_120 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_119 : BitVec 32 := 4#32
  let v212 : BitVec 32 := Scalar.muli v12 c4_i32_119
  let v213 : BitVec 32 := Scalar.addi c0_i32_120 v212
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_121 : BitVec 32 := 2#32
  let v214 : BitVec 32 := Scalar.muli v13 c2_i32_121
  let v215 : BitVec 32 := Scalar.addi v213 v214
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_122 : BitVec 32 := 1#32
  let v216 : BitVec 32 := Scalar.muli v8 c1_i32_122
  let v217 : BitVec 32 := Scalar.addi v215 v216
  v217.toNat
def k0_dev5 (d0 : Dev nD) : Nat :=
  let c0_i32_129 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_128 : BitVec 32 := 4#32
  let v223 : BitVec 32 := Scalar.muli v2 c4_i32_128
  let v224 : BitVec 32 := Scalar.addi c0_i32_129 v223
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_130 : BitVec 32 := 2#32
  let v225 : BitVec 32 := Scalar.muli v5 c2_i32_130
  let v226 : BitVec 32 := Scalar.addi v224 v225
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_131 : BitVec 32 := 1#32
  let v227 : BitVec 32 := Scalar.muli v9 c1_i32_131
  let v228 : BitVec 32 := Scalar.addi v226 v227
  v228.toNat
def k0_dev6 (d0 : Dev nD) : Nat :=
  let c0_i32_138 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_137 : BitVec 32 := 4#32
  let v234 : BitVec 32 := Scalar.muli v10 c4_i32_137
  let v235 : BitVec 32 := Scalar.addi c0_i32_138 v234
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_139 : BitVec 32 := 2#32
  let v236 : BitVec 32 := Scalar.muli v5 c2_i32_139
  let v237 : BitVec 32 := Scalar.addi v235 v236
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_140 : BitVec 32 := 1#32
  let v238 : BitVec 32 := Scalar.muli v8 c1_i32_140
  let v239 : BitVec 32 := Scalar.addi v237 v238
  v239.toNat
def k0_dev7 (d0 : Dev nD) : Nat :=
  let c0_i32_147 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_146 : BitVec 32 := 4#32
  let v245 : BitVec 32 := Scalar.muli v2 c4_i32_146
  let v246 : BitVec 32 := Scalar.addi c0_i32_147 v245
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_148 : BitVec 32 := 2#32
  let v247 : BitVec 32 := Scalar.muli v11 c2_i32_148
  let v248 : BitVec 32 := Scalar.addi v246 v247
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_149 : BitVec 32 := 1#32
  let v249 : BitVec 32 := Scalar.muli v8 c1_i32_149
  let v250 : BitVec 32 := Scalar.addi v248 v249
  v250.toNat
def k0_dev8 (d0 : Dev nD) : Nat :=
  let c0_i32_156 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_155 : BitVec 32 := 4#32
  let v256 : BitVec 32 := Scalar.muli v12 c4_i32_155
  let v257 : BitVec 32 := Scalar.addi c0_i32_156 v256
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_157 : BitVec 32 := 2#32
  let v258 : BitVec 32 := Scalar.muli v13 c2_i32_157
  let v259 : BitVec 32 := Scalar.addi v257 v258
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_158 : BitVec 32 := 1#32
  let v260 : BitVec 32 := Scalar.muli v8 c1_i32_158
  let v261 : BitVec 32 := Scalar.addi v259 v260
  v261.toNat
def k0_dev9 (d0 : Dev nD) : Nat :=
  let c0_i32_165 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_164 : BitVec 32 := 4#32
  let v267 : BitVec 32 := Scalar.muli v2 c4_i32_164
  let v268 : BitVec 32 := Scalar.addi c0_i32_165 v267
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_166 : BitVec 32 := 2#32
  let v269 : BitVec 32 := Scalar.muli v5 c2_i32_166
  let v270 : BitVec 32 := Scalar.addi v268 v269
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_167 : BitVec 32 := 1#32
  let v271 : BitVec 32 := Scalar.muli v9 c1_i32_167
  let v272 : BitVec 32 := Scalar.addi v270 v271
  v272.toNat
def k0_dev10 (d0 : Dev nD) : Nat :=
  let c0_i32_174 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_173 : BitVec 32 := 4#32
  let v278 : BitVec 32 := Scalar.muli v10 c4_i32_173
  let v279 : BitVec 32 := Scalar.addi c0_i32_174 v278
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_175 : BitVec 32 := 2#32
  let v280 : BitVec 32 := Scalar.muli v5 c2_i32_175
  let v281 : BitVec 32 := Scalar.addi v279 v280
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_176 : BitVec 32 := 1#32
  let v282 : BitVec 32 := Scalar.muli v8 c1_i32_176
  let v283 : BitVec 32 := Scalar.addi v281 v282
  v283.toNat
def k0_dev11 (d0 : Dev nD) : Nat :=
  let c0_i32_183 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_182 : BitVec 32 := 4#32
  let v289 : BitVec 32 := Scalar.muli v2 c4_i32_182
  let v290 : BitVec 32 := Scalar.addi c0_i32_183 v289
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_184 : BitVec 32 := 2#32
  let v291 : BitVec 32 := Scalar.muli v11 c2_i32_184
  let v292 : BitVec 32 := Scalar.addi v290 v291
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_185 : BitVec 32 := 1#32
  let v293 : BitVec 32 := Scalar.muli v8 c1_i32_185
  let v294 : BitVec 32 := Scalar.addi v292 v293
  v294.toNat
def k0_dev12 (d0 : Dev nD) : Nat :=
  let c0_i32_192 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_191 : BitVec 32 := 4#32
  let v300 : BitVec 32 := Scalar.muli v12 c4_i32_191
  let v301 : BitVec 32 := Scalar.addi c0_i32_192 v300
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_193 : BitVec 32 := 2#32
  let v302 : BitVec 32 := Scalar.muli v13 c2_i32_193
  let v303 : BitVec 32 := Scalar.addi v301 v302
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_194 : BitVec 32 := 1#32
  let v304 : BitVec 32 := Scalar.muli v8 c1_i32_194
  let v305 : BitVec 32 := Scalar.addi v303 v304
  v305.toNat
def k0_dev13 (d0 : Dev nD) : Nat :=
  let c0_i32_201 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_200 : BitVec 32 := 4#32
  let v311 : BitVec 32 := Scalar.muli v2 c4_i32_200
  let v312 : BitVec 32 := Scalar.addi c0_i32_201 v311
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_202 : BitVec 32 := 2#32
  let v313 : BitVec 32 := Scalar.muli v5 c2_i32_202
  let v314 : BitVec 32 := Scalar.addi v312 v313
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_203 : BitVec 32 := 1#32
  let v315 : BitVec 32 := Scalar.muli v9 c1_i32_203
  let v316 : BitVec 32 := Scalar.addi v314 v315
  v316.toNat
def k0_dev14 (d0 : Dev nD) : Nat :=
  let c0_i32_210 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_209 : BitVec 32 := 4#32
  let v322 : BitVec 32 := Scalar.muli v10 c4_i32_209
  let v323 : BitVec 32 := Scalar.addi c0_i32_210 v322
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_211 : BitVec 32 := 2#32
  let v324 : BitVec 32 := Scalar.muli v5 c2_i32_211
  let v325 : BitVec 32 := Scalar.addi v323 v324
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_212 : BitVec 32 := 1#32
  let v326 : BitVec 32 := Scalar.muli v8 c1_i32_212
  let v327 : BitVec 32 := Scalar.addi v325 v326
  v327.toNat
def k0_dev15 (d0 : Dev nD) : Nat :=
  let c0_i32_219 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_218 : BitVec 32 := 4#32
  let v333 : BitVec 32 := Scalar.muli v2 c4_i32_218
  let v334 : BitVec 32 := Scalar.addi c0_i32_219 v333
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_220 : BitVec 32 := 2#32
  let v335 : BitVec 32 := Scalar.muli v11 c2_i32_220
  let v336 : BitVec 32 := Scalar.addi v334 v335
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_221 : BitVec 32 := 1#32
  let v337 : BitVec 32 := Scalar.muli v8 c1_i32_221
  let v338 : BitVec 32 := Scalar.addi v336 v337
  v338.toNat
def k0_dev16 (d0 : Dev nD) : Nat :=
  let c0_i32_228 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_227 : BitVec 32 := 4#32
  let v344 : BitVec 32 := Scalar.muli v12 c4_i32_227
  let v345 : BitVec 32 := Scalar.addi c0_i32_228 v344
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_229 : BitVec 32 := 2#32
  let v346 : BitVec 32 := Scalar.muli v13 c2_i32_229
  let v347 : BitVec 32 := Scalar.addi v345 v346
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_230 : BitVec 32 := 1#32
  let v348 : BitVec 32 := Scalar.muli v8 c1_i32_230
  let v349 : BitVec 32 := Scalar.addi v347 v348
  v349.toNat
def k0_dev17 (d0 : Dev nD) : Nat :=
  let c0_i32_237 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_236 : BitVec 32 := 4#32
  let v355 : BitVec 32 := Scalar.muli v2 c4_i32_236
  let v356 : BitVec 32 := Scalar.addi c0_i32_237 v355
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_238 : BitVec 32 := 2#32
  let v357 : BitVec 32 := Scalar.muli v5 c2_i32_238
  let v358 : BitVec 32 := Scalar.addi v356 v357
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_239 : BitVec 32 := 1#32
  let v359 : BitVec 32 := Scalar.muli v9 c1_i32_239
  let v360 : BitVec 32 := Scalar.addi v358 v359
  v360.toNat
def k0_dev18 (d0 : Dev nD) : Nat :=
  let c0_i32_246 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_245 : BitVec 32 := 4#32
  let v366 : BitVec 32 := Scalar.muli v10 c4_i32_245
  let v367 : BitVec 32 := Scalar.addi c0_i32_246 v366
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_247 : BitVec 32 := 2#32
  let v368 : BitVec 32 := Scalar.muli v5 c2_i32_247
  let v369 : BitVec 32 := Scalar.addi v367 v368
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_248 : BitVec 32 := 1#32
  let v370 : BitVec 32 := Scalar.muli v8 c1_i32_248
  let v371 : BitVec 32 := Scalar.addi v369 v370
  v371.toNat
def k0_dev19 (d0 : Dev nD) : Nat :=
  let c0_i32_255 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_254 : BitVec 32 := 4#32
  let v377 : BitVec 32 := Scalar.muli v2 c4_i32_254
  let v378 : BitVec 32 := Scalar.addi c0_i32_255 v377
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_256 : BitVec 32 := 2#32
  let v379 : BitVec 32 := Scalar.muli v11 c2_i32_256
  let v380 : BitVec 32 := Scalar.addi v378 v379
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_257 : BitVec 32 := 1#32
  let v381 : BitVec 32 := Scalar.muli v8 c1_i32_257
  let v382 : BitVec 32 := Scalar.addi v380 v381
  v382.toNat
def k0_dev20 (d0 : Dev nD) : Nat :=
  let c0_i32_264 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_263 : BitVec 32 := 4#32
  let v388 : BitVec 32 := Scalar.muli v12 c4_i32_263
  let v389 : BitVec 32 := Scalar.addi c0_i32_264 v388
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_265 : BitVec 32 := 2#32
  let v390 : BitVec 32 := Scalar.muli v13 c2_i32_265
  let v391 : BitVec 32 := Scalar.addi v389 v390
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_266 : BitVec 32 := 1#32
  let v392 : BitVec 32 := Scalar.muli v8 c1_i32_266
  let v393 : BitVec 32 := Scalar.addi v391 v392
  v393.toNat
def k0_mult26 (d0 : Dev nD) : BitVec 32 :=
  let c4_i32_268 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v399 : BitVec 32 := Scalar.muli c4_i32_268 v10
  let c2_i32_269 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v400 : BitVec 32 := Scalar.muli c2_i32_269 v5
  let v401 : BitVec 32 := Scalar.addi v399 v400
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v402 : BitVec 32 := Scalar.addi v401 v8
  let c416_i32_270 : BitVec 32 := 416#32
  let v403 : BitVec 32 := Scalar.muli v402 c416_i32_270
  v403
def k0_mult27 (d0 : Dev nD) : BitVec 32 :=
  let c4_i32_271 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v405 : BitVec 32 := Scalar.muli c4_i32_271 v10
  let c2_i32_272 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v406 : BitVec 32 := Scalar.muli c2_i32_272 v5
  let v407 : BitVec 32 := Scalar.addi v405 v406
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v408 : BitVec 32 := Scalar.addi v407 v8
  let c416_i32_273 : BitVec 32 := 416#32
  let v409 : BitVec 32 := Scalar.muli v408 c416_i32_273
  v409
def k0_off4 (d0 : Dev nD) : Fin 2 → Nat :=
  let c4_i32_271 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v405 : BitVec 32 := Scalar.muli c4_i32_271 v10
  let c2_i32_272 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v406 : BitVec 32 := Scalar.muli c2_i32_272 v5
  let v407 : BitVec 32 := Scalar.addi v405 v406
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v408 : BitVec 32 := Scalar.addi v407 v8
  let c416_i32_273 : BitVec 32 := 416#32
  let v409 : BitVec 32 := Scalar.muli v408 c416_i32_273
  let v410 : BitVec 32 := v409
  let c0_i32_282 : BitVec 32 := 0#32
  ![v410.toNat, 0]
def k0_mult28 (d0 : Dev nD) : BitVec 32 :=
  let c4_i32_284 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v421 : BitVec 32 := Scalar.muli c4_i32_284 v10
  let c2_i32_285 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v422 : BitVec 32 := Scalar.muli c2_i32_285 v5
  let v423 : BitVec 32 := Scalar.addi v421 v422
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v424 : BitVec 32 := Scalar.addi v423 v8
  let c416_i32_286 : BitVec 32 := 416#32
  let v425 : BitVec 32 := Scalar.muli v424 c416_i32_286
  v425
def k0_mult29 (d0 : Dev nD) : BitVec 32 :=
  let c4_i32_287 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v427 : BitVec 32 := Scalar.muli c4_i32_287 v10
  let c2_i32_288 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v428 : BitVec 32 := Scalar.muli c2_i32_288 v5
  let v429 : BitVec 32 := Scalar.addi v427 v428
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v430 : BitVec 32 := Scalar.addi v429 v8
  let c416_i32_289 : BitVec 32 := 416#32
  let v431 : BitVec 32 := Scalar.muli v430 c416_i32_289
  v431
def k0_dev21 (d0 : Dev nD) : Nat :=
  let c0_i32_295 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_294 : BitVec 32 := 4#32
  let v433 : BitVec 32 := Scalar.muli v2 c4_i32_294
  let v434 : BitVec 32 := Scalar.addi c0_i32_295 v433
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_296 : BitVec 32 := 2#32
  let v435 : BitVec 32 := Scalar.muli v5 c2_i32_296
  let v436 : BitVec 32 := Scalar.addi v434 v435
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_297 : BitVec 32 := 1#32
  let v437 : BitVec 32 := Scalar.muli v9 c1_i32_297
  let v438 : BitVec 32 := Scalar.addi v436 v437
  v438.toNat
def k0_mult30 (d0 : Dev nD) : BitVec 32 :=
  let c4_i32_300 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v445 : BitVec 32 := Scalar.muli c4_i32_300 v10
  let c2_i32_301 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v446 : BitVec 32 := Scalar.muli c2_i32_301 v5
  let v447 : BitVec 32 := Scalar.addi v445 v446
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v448 : BitVec 32 := Scalar.addi v447 v8
  let c256_i32_302 : BitVec 32 := 256#32
  let v449 : BitVec 32 := Scalar.muli v448 c256_i32_302
  v449
def k0_mult31 (d0 : Dev nD) : BitVec 32 :=
  let c4_i32_303 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v451 : BitVec 32 := Scalar.muli c4_i32_303 v10
  let c2_i32_304 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v452 : BitVec 32 := Scalar.muli c2_i32_304 v5
  let v453 : BitVec 32 := Scalar.addi v451 v452
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v454 : BitVec 32 := Scalar.addi v453 v8
  let c256_i32_305 : BitVec 32 := 256#32
  let v455 : BitVec 32 := Scalar.muli v454 c256_i32_305
  v455
def k0_off5 (d0 : Dev nD) : Fin 2 → Nat :=
  let c4_i32_303 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v451 : BitVec 32 := Scalar.muli c4_i32_303 v10
  let c2_i32_304 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v452 : BitVec 32 := Scalar.muli c2_i32_304 v5
  let v453 : BitVec 32 := Scalar.addi v451 v452
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v454 : BitVec 32 := Scalar.addi v453 v8
  let c256_i32_305 : BitVec 32 := 256#32
  let v455 : BitVec 32 := Scalar.muli v454 c256_i32_305
  let v456 : BitVec 32 := v455
  let c0_i32_314 : BitVec 32 := 0#32
  ![v456.toNat, 0]
def k0_mult32 (d0 : Dev nD) : BitVec 32 :=
  let c4_i32_316 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v467 : BitVec 32 := Scalar.muli c4_i32_316 v10
  let c2_i32_317 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v468 : BitVec 32 := Scalar.muli c2_i32_317 v5
  let v469 : BitVec 32 := Scalar.addi v467 v468
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v470 : BitVec 32 := Scalar.addi v469 v8
  let c256_i32_318 : BitVec 32 := 256#32
  let v471 : BitVec 32 := Scalar.muli v470 c256_i32_318
  v471
def k0_mult33 (d0 : Dev nD) : BitVec 32 :=
  let c4_i32_319 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v473 : BitVec 32 := Scalar.muli c4_i32_319 v10
  let c2_i32_320 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v474 : BitVec 32 := Scalar.muli c2_i32_320 v5
  let v475 : BitVec 32 := Scalar.addi v473 v474
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v476 : BitVec 32 := Scalar.addi v475 v8
  let c256_i32_321 : BitVec 32 := 256#32
  let v477 : BitVec 32 := Scalar.muli v476 c256_i32_321
  v477
def k0_dev22 (d0 : Dev nD) : Nat :=
  let c0_i32_327 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_326 : BitVec 32 := 4#32
  let v479 : BitVec 32 := Scalar.muli v2 c4_i32_326
  let v480 : BitVec 32 := Scalar.addi c0_i32_327 v479
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_328 : BitVec 32 := 2#32
  let v481 : BitVec 32 := Scalar.muli v5 c2_i32_328
  let v482 : BitVec 32 := Scalar.addi v480 v481
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_329 : BitVec 32 := 1#32
  let v483 : BitVec 32 := Scalar.muli v9 c1_i32_329
  let v484 : BitVec 32 := Scalar.addi v482 v483
  v484.toNat
def k0_mult34 (d0 : Dev nD) : BitVec 32 :=
  let c4_i32_332 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v491 : BitVec 32 := Scalar.muli c4_i32_332 v10
  let c2_i32_333 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v492 : BitVec 32 := Scalar.muli c2_i32_333 v5
  let v493 : BitVec 32 := Scalar.addi v491 v492
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v494 : BitVec 32 := Scalar.addi v493 v8
  let c704_i32_334 : BitVec 32 := 704#32
  let v495 : BitVec 32 := Scalar.muli v494 c704_i32_334
  v495
def k0_mult35 (d0 : Dev nD) : BitVec 32 :=
  let c4_i32_335 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v497 : BitVec 32 := Scalar.muli c4_i32_335 v10
  let c2_i32_336 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v498 : BitVec 32 := Scalar.muli c2_i32_336 v5
  let v499 : BitVec 32 := Scalar.addi v497 v498
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v500 : BitVec 32 := Scalar.addi v499 v8
  let c704_i32_337 : BitVec 32 := 704#32
  let v501 : BitVec 32 := Scalar.muli v500 c704_i32_337
  v501
def k0_off6 (d0 : Dev nD) : Fin 2 → Nat :=
  let c4_i32_335 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v497 : BitVec 32 := Scalar.muli c4_i32_335 v10
  let c2_i32_336 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v498 : BitVec 32 := Scalar.muli c2_i32_336 v5
  let v499 : BitVec 32 := Scalar.addi v497 v498
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v500 : BitVec 32 := Scalar.addi v499 v8
  let c704_i32_337 : BitVec 32 := 704#32
  let v501 : BitVec 32 := Scalar.muli v500 c704_i32_337
  let v502 : BitVec 32 := v501
  let c0_i32_346 : BitVec 32 := 0#32
  ![v502.toNat, 0]
def k0_mult36 (d0 : Dev nD) : BitVec 32 :=
  let c4_i32_348 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v513 : BitVec 32 := Scalar.muli c4_i32_348 v10
  let c2_i32_349 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v514 : BitVec 32 := Scalar.muli c2_i32_349 v5
  let v515 : BitVec 32 := Scalar.addi v513 v514
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v516 : BitVec 32 := Scalar.addi v515 v8
  let c704_i32_350 : BitVec 32 := 704#32
  let v517 : BitVec 32 := Scalar.muli v516 c704_i32_350
  v517
def k0_mult37 (d0 : Dev nD) : BitVec 32 :=
  let c4_i32_351 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v519 : BitVec 32 := Scalar.muli c4_i32_351 v10
  let c2_i32_352 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v520 : BitVec 32 := Scalar.muli c2_i32_352 v5
  let v521 : BitVec 32 := Scalar.addi v519 v520
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v522 : BitVec 32 := Scalar.addi v521 v8
  let c704_i32_353 : BitVec 32 := 704#32
  let v523 : BitVec 32 := Scalar.muli v522 c704_i32_353
  v523
def k0_dev23 (d0 : Dev nD) : Nat :=
  let c0_i32_359 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_358 : BitVec 32 := 4#32
  let v525 : BitVec 32 := Scalar.muli v2 c4_i32_358
  let v526 : BitVec 32 := Scalar.addi c0_i32_359 v525
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_360 : BitVec 32 := 2#32
  let v527 : BitVec 32 := Scalar.muli v5 c2_i32_360
  let v528 : BitVec 32 := Scalar.addi v526 v527
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_361 : BitVec 32 := 1#32
  let v529 : BitVec 32 := Scalar.muli v9 c1_i32_361
  let v530 : BitVec 32 := Scalar.addi v528 v529
  v530.toNat
def k0_mult38 (d0 : Dev nD) : BitVec 32 :=
  let c4_i32_364 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v537 : BitVec 32 := Scalar.muli c4_i32_364 v10
  let c2_i32_365 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v538 : BitVec 32 := Scalar.muli c2_i32_365 v5
  let v539 : BitVec 32 := Scalar.addi v537 v538
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v540 : BitVec 32 := Scalar.addi v539 v8
  let c704_i32_366 : BitVec 32 := 704#32
  let v541 : BitVec 32 := Scalar.muli v540 c704_i32_366
  v541
def k0_mult39 (d0 : Dev nD) : BitVec 32 :=
  let c4_i32_367 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v543 : BitVec 32 := Scalar.muli c4_i32_367 v10
  let c2_i32_368 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v544 : BitVec 32 := Scalar.muli c2_i32_368 v5
  let v545 : BitVec 32 := Scalar.addi v543 v544
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v546 : BitVec 32 := Scalar.addi v545 v8
  let c704_i32_369 : BitVec 32 := 704#32
  let v547 : BitVec 32 := Scalar.muli v546 c704_i32_369
  v547
def k0_mult40 (d0 : Dev nD) : BitVec 32 :=
  let c4_i32_380 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v559 : BitVec 32 := Scalar.muli c4_i32_380 v10
  let c2_i32_381 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v560 : BitVec 32 := Scalar.muli c2_i32_381 v5
  let v561 : BitVec 32 := Scalar.addi v559 v560
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v562 : BitVec 32 := Scalar.addi v561 v8
  let c704_i32_382 : BitVec 32 := 704#32
  let v563 : BitVec 32 := Scalar.muli v562 c704_i32_382
  v563
def k0_mult41 (d0 : Dev nD) : BitVec 32 :=
  let c4_i32_383 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v565 : BitVec 32 := Scalar.muli c4_i32_383 v10
  let c2_i32_384 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v566 : BitVec 32 := Scalar.muli c2_i32_384 v5
  let v567 : BitVec 32 := Scalar.addi v565 v566
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v568 : BitVec 32 := Scalar.addi v567 v8
  let c704_i32_385 : BitVec 32 := 704#32
  let v569 : BitVec 32 := Scalar.muli v568 c704_i32_385
  v569
def k0_dev24 (d0 : Dev nD) : Nat :=
  let c0_i32_391 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_390 : BitVec 32 := 4#32
  let v571 : BitVec 32 := Scalar.muli v2 c4_i32_390
  let v572 : BitVec 32 := Scalar.addi c0_i32_391 v571
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_392 : BitVec 32 := 2#32
  let v573 : BitVec 32 := Scalar.muli v5 c2_i32_392
  let v574 : BitVec 32 := Scalar.addi v572 v573
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_393 : BitVec 32 := 1#32
  let v575 : BitVec 32 := Scalar.muli v9 c1_i32_393
  let v576 : BitVec 32 := Scalar.addi v574 v575
  v576.toNat
def k0_mult42 (d0 : Dev nD) : BitVec 32 :=
  let c4_i32_396 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v583 : BitVec 32 := Scalar.muli c4_i32_396 v10
  let c2_i32_397 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v584 : BitVec 32 := Scalar.muli c2_i32_397 v5
  let v585 : BitVec 32 := Scalar.addi v583 v584
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v586 : BitVec 32 := Scalar.addi v585 v8
  let c704_i32_398 : BitVec 32 := 704#32
  let v587 : BitVec 32 := Scalar.muli v586 c704_i32_398
  v587
def k0_mult43 (d0 : Dev nD) : BitVec 32 :=
  let c4_i32_399 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v589 : BitVec 32 := Scalar.muli c4_i32_399 v10
  let c2_i32_400 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v590 : BitVec 32 := Scalar.muli c2_i32_400 v5
  let v591 : BitVec 32 := Scalar.addi v589 v590
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v592 : BitVec 32 := Scalar.addi v591 v8
  let c704_i32_401 : BitVec 32 := 704#32
  let v593 : BitVec 32 := Scalar.muli v592 c704_i32_401
  v593
def k0_mult44 (d0 : Dev nD) : BitVec 32 :=
  let c4_i32_412 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v605 : BitVec 32 := Scalar.muli c4_i32_412 v10
  let c2_i32_413 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v606 : BitVec 32 := Scalar.muli c2_i32_413 v5
  let v607 : BitVec 32 := Scalar.addi v605 v606
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v608 : BitVec 32 := Scalar.addi v607 v8
  let c704_i32_414 : BitVec 32 := 704#32
  let v609 : BitVec 32 := Scalar.muli v608 c704_i32_414
  v609
def k0_mult45 (d0 : Dev nD) : BitVec 32 :=
  let c4_i32_415 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v611 : BitVec 32 := Scalar.muli c4_i32_415 v10
  let c2_i32_416 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v612 : BitVec 32 := Scalar.muli c2_i32_416 v5
  let v613 : BitVec 32 := Scalar.addi v611 v612
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v614 : BitVec 32 := Scalar.addi v613 v8
  let c704_i32_417 : BitVec 32 := 704#32
  let v615 : BitVec 32 := Scalar.muli v614 c704_i32_417
  v615
def k0_dev25 (d0 : Dev nD) : Nat :=
  let c0_i32_423 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_422 : BitVec 32 := 4#32
  let v617 : BitVec 32 := Scalar.muli v2 c4_i32_422
  let v618 : BitVec 32 := Scalar.addi c0_i32_423 v617
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_424 : BitVec 32 := 2#32
  let v619 : BitVec 32 := Scalar.muli v5 c2_i32_424
  let v620 : BitVec 32 := Scalar.addi v618 v619
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_425 : BitVec 32 := 1#32
  let v621 : BitVec 32 := Scalar.muli v9 c1_i32_425
  let v622 : BitVec 32 := Scalar.addi v620 v621
  v622.toNat
def k0_mult46 (d0 : Dev nD) : BitVec 32 :=
  let c4_i32_428 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v629 : BitVec 32 := Scalar.muli c4_i32_428 v2
  let c2_i32_429 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v630 : BitVec 32 := Scalar.muli c2_i32_429 v11
  let v631 : BitVec 32 := Scalar.addi v629 v630
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v632 : BitVec 32 := Scalar.addi v631 v8
  let c416_i32_430 : BitVec 32 := 416#32
  let v633 : BitVec 32 := Scalar.muli v632 c416_i32_430
  v633
def k0_mult47 (d0 : Dev nD) : BitVec 32 :=
  let c4_i32_431 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v635 : BitVec 32 := Scalar.muli c4_i32_431 v2
  let c2_i32_432 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v636 : BitVec 32 := Scalar.muli c2_i32_432 v11
  let v637 : BitVec 32 := Scalar.addi v635 v636
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v638 : BitVec 32 := Scalar.addi v637 v8
  let c416_i32_433 : BitVec 32 := 416#32
  let v639 : BitVec 32 := Scalar.muli v638 c416_i32_433
  v639
def k0_off7 (d0 : Dev nD) : Fin 2 → Nat :=
  let c4_i32_431 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v635 : BitVec 32 := Scalar.muli c4_i32_431 v2
  let c2_i32_432 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v636 : BitVec 32 := Scalar.muli c2_i32_432 v11
  let v637 : BitVec 32 := Scalar.addi v635 v636
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v638 : BitVec 32 := Scalar.addi v637 v8
  let c416_i32_433 : BitVec 32 := 416#32
  let v639 : BitVec 32 := Scalar.muli v638 c416_i32_433
  let v640 : BitVec 32 := v639
  let c0_i32_442 : BitVec 32 := 0#32
  ![v640.toNat, 0]
def k0_mult48 (d0 : Dev nD) : BitVec 32 :=
  let c4_i32_444 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v651 : BitVec 32 := Scalar.muli c4_i32_444 v2
  let c2_i32_445 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v652 : BitVec 32 := Scalar.muli c2_i32_445 v11
  let v653 : BitVec 32 := Scalar.addi v651 v652
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v654 : BitVec 32 := Scalar.addi v653 v8
  let c416_i32_446 : BitVec 32 := 416#32
  let v655 : BitVec 32 := Scalar.muli v654 c416_i32_446
  v655
def k0_mult49 (d0 : Dev nD) : BitVec 32 :=
  let c4_i32_447 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v657 : BitVec 32 := Scalar.muli c4_i32_447 v2
  let c2_i32_448 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v658 : BitVec 32 := Scalar.muli c2_i32_448 v11
  let v659 : BitVec 32 := Scalar.addi v657 v658
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v660 : BitVec 32 := Scalar.addi v659 v8
  let c416_i32_449 : BitVec 32 := 416#32
  let v661 : BitVec 32 := Scalar.muli v660 c416_i32_449
  v661
def k0_dev26 (d0 : Dev nD) : Nat :=
  let c0_i32_454 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_453 : BitVec 32 := 4#32
  let v663 : BitVec 32 := Scalar.muli v2 c4_i32_453
  let v664 : BitVec 32 := Scalar.addi c0_i32_454 v663
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_455 : BitVec 32 := 2#32
  let v665 : BitVec 32 := Scalar.muli v5 c2_i32_455
  let v666 : BitVec 32 := Scalar.addi v664 v665
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_456 : BitVec 32 := 1#32
  let v667 : BitVec 32 := Scalar.muli v9 c1_i32_456
  let v668 : BitVec 32 := Scalar.addi v666 v667
  v668.toNat
def k0_mult50 (d0 : Dev nD) : BitVec 32 :=
  let c4_i32_459 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v675 : BitVec 32 := Scalar.muli c4_i32_459 v2
  let c2_i32_460 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v676 : BitVec 32 := Scalar.muli c2_i32_460 v11
  let v677 : BitVec 32 := Scalar.addi v675 v676
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v678 : BitVec 32 := Scalar.addi v677 v8
  let c256_i32_461 : BitVec 32 := 256#32
  let v679 : BitVec 32 := Scalar.muli v678 c256_i32_461
  v679
def k0_mult51 (d0 : Dev nD) : BitVec 32 :=
  let c4_i32_462 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v681 : BitVec 32 := Scalar.muli c4_i32_462 v2
  let c2_i32_463 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v682 : BitVec 32 := Scalar.muli c2_i32_463 v11
  let v683 : BitVec 32 := Scalar.addi v681 v682
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v684 : BitVec 32 := Scalar.addi v683 v8
  let c256_i32_464 : BitVec 32 := 256#32
  let v685 : BitVec 32 := Scalar.muli v684 c256_i32_464
  v685
def k0_off8 (d0 : Dev nD) : Fin 2 → Nat :=
  let c4_i32_462 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v681 : BitVec 32 := Scalar.muli c4_i32_462 v2
  let c2_i32_463 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v682 : BitVec 32 := Scalar.muli c2_i32_463 v11
  let v683 : BitVec 32 := Scalar.addi v681 v682
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v684 : BitVec 32 := Scalar.addi v683 v8
  let c256_i32_464 : BitVec 32 := 256#32
  let v685 : BitVec 32 := Scalar.muli v684 c256_i32_464
  let v686 : BitVec 32 := v685
  let c0_i32_473 : BitVec 32 := 0#32
  ![v686.toNat, 0]
def k0_mult52 (d0 : Dev nD) : BitVec 32 :=
  let c4_i32_475 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v697 : BitVec 32 := Scalar.muli c4_i32_475 v2
  let c2_i32_476 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v698 : BitVec 32 := Scalar.muli c2_i32_476 v11
  let v699 : BitVec 32 := Scalar.addi v697 v698
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v700 : BitVec 32 := Scalar.addi v699 v8
  let c256_i32_477 : BitVec 32 := 256#32
  let v701 : BitVec 32 := Scalar.muli v700 c256_i32_477
  v701
def k0_mult53 (d0 : Dev nD) : BitVec 32 :=
  let c4_i32_478 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v703 : BitVec 32 := Scalar.muli c4_i32_478 v2
  let c2_i32_479 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v704 : BitVec 32 := Scalar.muli c2_i32_479 v11
  let v705 : BitVec 32 := Scalar.addi v703 v704
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v706 : BitVec 32 := Scalar.addi v705 v8
  let c256_i32_480 : BitVec 32 := 256#32
  let v707 : BitVec 32 := Scalar.muli v706 c256_i32_480
  v707
def k0_dev27 (d0 : Dev nD) : Nat :=
  let c0_i32_486 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_485 : BitVec 32 := 4#32
  let v709 : BitVec 32 := Scalar.muli v2 c4_i32_485
  let v710 : BitVec 32 := Scalar.addi c0_i32_486 v709
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_487 : BitVec 32 := 2#32
  let v711 : BitVec 32 := Scalar.muli v5 c2_i32_487
  let v712 : BitVec 32 := Scalar.addi v710 v711
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_488 : BitVec 32 := 1#32
  let v713 : BitVec 32 := Scalar.muli v9 c1_i32_488
  let v714 : BitVec 32 := Scalar.addi v712 v713
  v714.toNat
def k0_mult54 (d0 : Dev nD) : BitVec 32 :=
  let c4_i32_491 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v721 : BitVec 32 := Scalar.muli c4_i32_491 v2
  let c2_i32_492 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v722 : BitVec 32 := Scalar.muli c2_i32_492 v11
  let v723 : BitVec 32 := Scalar.addi v721 v722
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v724 : BitVec 32 := Scalar.addi v723 v8
  let c704_i32_493 : BitVec 32 := 704#32
  let v725 : BitVec 32 := Scalar.muli v724 c704_i32_493
  v725
def k0_mult55 (d0 : Dev nD) : BitVec 32 :=
  let c4_i32_494 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v727 : BitVec 32 := Scalar.muli c4_i32_494 v2
  let c2_i32_495 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v728 : BitVec 32 := Scalar.muli c2_i32_495 v11
  let v729 : BitVec 32 := Scalar.addi v727 v728
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v730 : BitVec 32 := Scalar.addi v729 v8
  let c704_i32_496 : BitVec 32 := 704#32
  let v731 : BitVec 32 := Scalar.muli v730 c704_i32_496
  v731
def k0_off9 (d0 : Dev nD) : Fin 2 → Nat :=
  let c4_i32_494 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v727 : BitVec 32 := Scalar.muli c4_i32_494 v2
  let c2_i32_495 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v728 : BitVec 32 := Scalar.muli c2_i32_495 v11
  let v729 : BitVec 32 := Scalar.addi v727 v728
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v730 : BitVec 32 := Scalar.addi v729 v8
  let c704_i32_496 : BitVec 32 := 704#32
  let v731 : BitVec 32 := Scalar.muli v730 c704_i32_496
  let v732 : BitVec 32 := v731
  let c0_i32_505 : BitVec 32 := 0#32
  ![v732.toNat, 0]
def k0_mult56 (d0 : Dev nD) : BitVec 32 :=
  let c4_i32_507 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v743 : BitVec 32 := Scalar.muli c4_i32_507 v2
  let c2_i32_508 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v744 : BitVec 32 := Scalar.muli c2_i32_508 v11
  let v745 : BitVec 32 := Scalar.addi v743 v744
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v746 : BitVec 32 := Scalar.addi v745 v8
  let c704_i32_509 : BitVec 32 := 704#32
  let v747 : BitVec 32 := Scalar.muli v746 c704_i32_509
  v747
def k0_mult57 (d0 : Dev nD) : BitVec 32 :=
  let c4_i32_510 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v749 : BitVec 32 := Scalar.muli c4_i32_510 v2
  let c2_i32_511 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v750 : BitVec 32 := Scalar.muli c2_i32_511 v11
  let v751 : BitVec 32 := Scalar.addi v749 v750
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v752 : BitVec 32 := Scalar.addi v751 v8
  let c704_i32_512 : BitVec 32 := 704#32
  let v753 : BitVec 32 := Scalar.muli v752 c704_i32_512
  v753
def k0_dev28 (d0 : Dev nD) : Nat :=
  let c0_i32_518 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_517 : BitVec 32 := 4#32
  let v755 : BitVec 32 := Scalar.muli v2 c4_i32_517
  let v756 : BitVec 32 := Scalar.addi c0_i32_518 v755
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_519 : BitVec 32 := 2#32
  let v757 : BitVec 32 := Scalar.muli v5 c2_i32_519
  let v758 : BitVec 32 := Scalar.addi v756 v757
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_520 : BitVec 32 := 1#32
  let v759 : BitVec 32 := Scalar.muli v9 c1_i32_520
  let v760 : BitVec 32 := Scalar.addi v758 v759
  v760.toNat
def k0_mult58 (d0 : Dev nD) : BitVec 32 :=
  let c4_i32_523 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v767 : BitVec 32 := Scalar.muli c4_i32_523 v2
  let c2_i32_524 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v768 : BitVec 32 := Scalar.muli c2_i32_524 v11
  let v769 : BitVec 32 := Scalar.addi v767 v768
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v770 : BitVec 32 := Scalar.addi v769 v8
  let c704_i32_525 : BitVec 32 := 704#32
  let v771 : BitVec 32 := Scalar.muli v770 c704_i32_525
  v771
def k0_mult59 (d0 : Dev nD) : BitVec 32 :=
  let c4_i32_526 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v773 : BitVec 32 := Scalar.muli c4_i32_526 v2
  let c2_i32_527 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v774 : BitVec 32 := Scalar.muli c2_i32_527 v11
  let v775 : BitVec 32 := Scalar.addi v773 v774
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v776 : BitVec 32 := Scalar.addi v775 v8
  let c704_i32_528 : BitVec 32 := 704#32
  let v777 : BitVec 32 := Scalar.muli v776 c704_i32_528
  v777
def k0_mult60 (d0 : Dev nD) : BitVec 32 :=
  let c4_i32_539 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v789 : BitVec 32 := Scalar.muli c4_i32_539 v2
  let c2_i32_540 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v790 : BitVec 32 := Scalar.muli c2_i32_540 v11
  let v791 : BitVec 32 := Scalar.addi v789 v790
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v792 : BitVec 32 := Scalar.addi v791 v8
  let c704_i32_541 : BitVec 32 := 704#32
  let v793 : BitVec 32 := Scalar.muli v792 c704_i32_541
  v793
def k0_mult61 (d0 : Dev nD) : BitVec 32 :=
  let c4_i32_542 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v795 : BitVec 32 := Scalar.muli c4_i32_542 v2
  let c2_i32_543 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v796 : BitVec 32 := Scalar.muli c2_i32_543 v11
  let v797 : BitVec 32 := Scalar.addi v795 v796
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v798 : BitVec 32 := Scalar.addi v797 v8
  let c704_i32_544 : BitVec 32 := 704#32
  let v799 : BitVec 32 := Scalar.muli v798 c704_i32_544
  v799
def k0_dev29 (d0 : Dev nD) : Nat :=
  let c0_i32_550 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_549 : BitVec 32 := 4#32
  let v801 : BitVec 32 := Scalar.muli v2 c4_i32_549
  let v802 : BitVec 32 := Scalar.addi c0_i32_550 v801
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_551 : BitVec 32 := 2#32
  let v803 : BitVec 32 := Scalar.muli v5 c2_i32_551
  let v804 : BitVec 32 := Scalar.addi v802 v803
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_552 : BitVec 32 := 1#32
  let v805 : BitVec 32 := Scalar.muli v9 c1_i32_552
  let v806 : BitVec 32 := Scalar.addi v804 v805
  v806.toNat
def k0_mult62 (d0 : Dev nD) : BitVec 32 :=
  let c4_i32_555 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v813 : BitVec 32 := Scalar.muli c4_i32_555 v2
  let c2_i32_556 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v814 : BitVec 32 := Scalar.muli c2_i32_556 v11
  let v815 : BitVec 32 := Scalar.addi v813 v814
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v816 : BitVec 32 := Scalar.addi v815 v8
  let c704_i32_557 : BitVec 32 := 704#32
  let v817 : BitVec 32 := Scalar.muli v816 c704_i32_557
  v817
def k0_mult63 (d0 : Dev nD) : BitVec 32 :=
  let c4_i32_558 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v819 : BitVec 32 := Scalar.muli c4_i32_558 v2
  let c2_i32_559 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v820 : BitVec 32 := Scalar.muli c2_i32_559 v11
  let v821 : BitVec 32 := Scalar.addi v819 v820
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v822 : BitVec 32 := Scalar.addi v821 v8
  let c704_i32_560 : BitVec 32 := 704#32
  let v823 : BitVec 32 := Scalar.muli v822 c704_i32_560
  v823
def k0_mult64 (d0 : Dev nD) : BitVec 32 :=
  let c4_i32_571 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v835 : BitVec 32 := Scalar.muli c4_i32_571 v2
  let c2_i32_572 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v836 : BitVec 32 := Scalar.muli c2_i32_572 v11
  let v837 : BitVec 32 := Scalar.addi v835 v836
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v838 : BitVec 32 := Scalar.addi v837 v8
  let c704_i32_573 : BitVec 32 := 704#32
  let v839 : BitVec 32 := Scalar.muli v838 c704_i32_573
  v839
def k0_mult65 (d0 : Dev nD) : BitVec 32 :=
  let c4_i32_574 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v841 : BitVec 32 := Scalar.muli c4_i32_574 v2
  let c2_i32_575 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v842 : BitVec 32 := Scalar.muli c2_i32_575 v11
  let v843 : BitVec 32 := Scalar.addi v841 v842
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v844 : BitVec 32 := Scalar.addi v843 v8
  let c704_i32_576 : BitVec 32 := 704#32
  let v845 : BitVec 32 := Scalar.muli v844 c704_i32_576
  v845
def k0_dev30 (d0 : Dev nD) : Nat :=
  let c0_i32_582 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_581 : BitVec 32 := 4#32
  let v847 : BitVec 32 := Scalar.muli v2 c4_i32_581
  let v848 : BitVec 32 := Scalar.addi c0_i32_582 v847
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_583 : BitVec 32 := 2#32
  let v849 : BitVec 32 := Scalar.muli v5 c2_i32_583
  let v850 : BitVec 32 := Scalar.addi v848 v849
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_584 : BitVec 32 := 1#32
  let v851 : BitVec 32 := Scalar.muli v9 c1_i32_584
  let v852 : BitVec 32 := Scalar.addi v850 v851
  v852.toNat
def k0_mult66 (d0 : Dev nD) : BitVec 32 :=
  let c4_i32_587 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v859 : BitVec 32 := Scalar.muli c4_i32_587 v12
  let c2_i32_588 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v860 : BitVec 32 := Scalar.muli c2_i32_588 v13
  let v861 : BitVec 32 := Scalar.addi v859 v860
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v862 : BitVec 32 := Scalar.addi v861 v8
  let c416_i32_589 : BitVec 32 := 416#32
  let v863 : BitVec 32 := Scalar.muli v862 c416_i32_589
  v863
def k0_mult67 (d0 : Dev nD) : BitVec 32 :=
  let c4_i32_590 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v865 : BitVec 32 := Scalar.muli c4_i32_590 v12
  let c2_i32_591 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v866 : BitVec 32 := Scalar.muli c2_i32_591 v13
  let v867 : BitVec 32 := Scalar.addi v865 v866
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v868 : BitVec 32 := Scalar.addi v867 v8
  let c416_i32_592 : BitVec 32 := 416#32
  let v869 : BitVec 32 := Scalar.muli v868 c416_i32_592
  v869
def k0_off10 (d0 : Dev nD) : Fin 2 → Nat :=
  let c4_i32_590 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v865 : BitVec 32 := Scalar.muli c4_i32_590 v12
  let c2_i32_591 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v866 : BitVec 32 := Scalar.muli c2_i32_591 v13
  let v867 : BitVec 32 := Scalar.addi v865 v866
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v868 : BitVec 32 := Scalar.addi v867 v8
  let c416_i32_592 : BitVec 32 := 416#32
  let v869 : BitVec 32 := Scalar.muli v868 c416_i32_592
  let v870 : BitVec 32 := v869
  let c0_i32_601 : BitVec 32 := 0#32
  ![v870.toNat, 0]
def k0_mult68 (d0 : Dev nD) : BitVec 32 :=
  let c4_i32_603 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v881 : BitVec 32 := Scalar.muli c4_i32_603 v12
  let c2_i32_604 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v882 : BitVec 32 := Scalar.muli c2_i32_604 v13
  let v883 : BitVec 32 := Scalar.addi v881 v882
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v884 : BitVec 32 := Scalar.addi v883 v8
  let c416_i32_605 : BitVec 32 := 416#32
  let v885 : BitVec 32 := Scalar.muli v884 c416_i32_605
  v885
def k0_mult69 (d0 : Dev nD) : BitVec 32 :=
  let c4_i32_606 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v887 : BitVec 32 := Scalar.muli c4_i32_606 v12
  let c2_i32_607 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v888 : BitVec 32 := Scalar.muli c2_i32_607 v13
  let v889 : BitVec 32 := Scalar.addi v887 v888
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v890 : BitVec 32 := Scalar.addi v889 v8
  let c416_i32_608 : BitVec 32 := 416#32
  let v891 : BitVec 32 := Scalar.muli v890 c416_i32_608
  v891
def k0_dev31 (d0 : Dev nD) : Nat :=
  let c0_i32_613 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_612 : BitVec 32 := 4#32
  let v893 : BitVec 32 := Scalar.muli v2 c4_i32_612
  let v894 : BitVec 32 := Scalar.addi c0_i32_613 v893
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_614 : BitVec 32 := 2#32
  let v895 : BitVec 32 := Scalar.muli v5 c2_i32_614
  let v896 : BitVec 32 := Scalar.addi v894 v895
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_615 : BitVec 32 := 1#32
  let v897 : BitVec 32 := Scalar.muli v9 c1_i32_615
  let v898 : BitVec 32 := Scalar.addi v896 v897
  v898.toNat
def k0_mult70 (d0 : Dev nD) : BitVec 32 :=
  let c4_i32_618 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v905 : BitVec 32 := Scalar.muli c4_i32_618 v12
  let c2_i32_619 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v906 : BitVec 32 := Scalar.muli c2_i32_619 v13
  let v907 : BitVec 32 := Scalar.addi v905 v906
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v908 : BitVec 32 := Scalar.addi v907 v8
  let c256_i32_620 : BitVec 32 := 256#32
  let v909 : BitVec 32 := Scalar.muli v908 c256_i32_620
  v909
def k0_mult71 (d0 : Dev nD) : BitVec 32 :=
  let c4_i32_621 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v911 : BitVec 32 := Scalar.muli c4_i32_621 v12
  let c2_i32_622 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v912 : BitVec 32 := Scalar.muli c2_i32_622 v13
  let v913 : BitVec 32 := Scalar.addi v911 v912
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v914 : BitVec 32 := Scalar.addi v913 v8
  let c256_i32_623 : BitVec 32 := 256#32
  let v915 : BitVec 32 := Scalar.muli v914 c256_i32_623
  v915
def k0_off11 (d0 : Dev nD) : Fin 2 → Nat :=
  let c4_i32_621 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v911 : BitVec 32 := Scalar.muli c4_i32_621 v12
  let c2_i32_622 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v912 : BitVec 32 := Scalar.muli c2_i32_622 v13
  let v913 : BitVec 32 := Scalar.addi v911 v912
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v914 : BitVec 32 := Scalar.addi v913 v8
  let c256_i32_623 : BitVec 32 := 256#32
  let v915 : BitVec 32 := Scalar.muli v914 c256_i32_623
  let v916 : BitVec 32 := v915
  let c0_i32_632 : BitVec 32 := 0#32
  ![v916.toNat, 0]
def k0_mult72 (d0 : Dev nD) : BitVec 32 :=
  let c4_i32_634 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v927 : BitVec 32 := Scalar.muli c4_i32_634 v12
  let c2_i32_635 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v928 : BitVec 32 := Scalar.muli c2_i32_635 v13
  let v929 : BitVec 32 := Scalar.addi v927 v928
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v930 : BitVec 32 := Scalar.addi v929 v8
  let c256_i32_636 : BitVec 32 := 256#32
  let v931 : BitVec 32 := Scalar.muli v930 c256_i32_636
  v931
def k0_mult73 (d0 : Dev nD) : BitVec 32 :=
  let c4_i32_637 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v933 : BitVec 32 := Scalar.muli c4_i32_637 v12
  let c2_i32_638 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v934 : BitVec 32 := Scalar.muli c2_i32_638 v13
  let v935 : BitVec 32 := Scalar.addi v933 v934
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v936 : BitVec 32 := Scalar.addi v935 v8
  let c256_i32_639 : BitVec 32 := 256#32
  let v937 : BitVec 32 := Scalar.muli v936 c256_i32_639
  v937
def k0_dev32 (d0 : Dev nD) : Nat :=
  let c0_i32_645 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_644 : BitVec 32 := 4#32
  let v939 : BitVec 32 := Scalar.muli v2 c4_i32_644
  let v940 : BitVec 32 := Scalar.addi c0_i32_645 v939
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_646 : BitVec 32 := 2#32
  let v941 : BitVec 32 := Scalar.muli v5 c2_i32_646
  let v942 : BitVec 32 := Scalar.addi v940 v941
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_647 : BitVec 32 := 1#32
  let v943 : BitVec 32 := Scalar.muli v9 c1_i32_647
  let v944 : BitVec 32 := Scalar.addi v942 v943
  v944.toNat
def k0_mult74 (d0 : Dev nD) : BitVec 32 :=
  let c4_i32_650 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v951 : BitVec 32 := Scalar.muli c4_i32_650 v12
  let c2_i32_651 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v952 : BitVec 32 := Scalar.muli c2_i32_651 v13
  let v953 : BitVec 32 := Scalar.addi v951 v952
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v954 : BitVec 32 := Scalar.addi v953 v8
  let c704_i32_652 : BitVec 32 := 704#32
  let v955 : BitVec 32 := Scalar.muli v954 c704_i32_652
  v955
def k0_mult75 (d0 : Dev nD) : BitVec 32 :=
  let c4_i32_653 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v957 : BitVec 32 := Scalar.muli c4_i32_653 v12
  let c2_i32_654 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v958 : BitVec 32 := Scalar.muli c2_i32_654 v13
  let v959 : BitVec 32 := Scalar.addi v957 v958
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v960 : BitVec 32 := Scalar.addi v959 v8
  let c704_i32_655 : BitVec 32 := 704#32
  let v961 : BitVec 32 := Scalar.muli v960 c704_i32_655
  v961
def k0_off12 (d0 : Dev nD) : Fin 2 → Nat :=
  let c4_i32_653 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v957 : BitVec 32 := Scalar.muli c4_i32_653 v12
  let c2_i32_654 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v958 : BitVec 32 := Scalar.muli c2_i32_654 v13
  let v959 : BitVec 32 := Scalar.addi v957 v958
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v960 : BitVec 32 := Scalar.addi v959 v8
  let c704_i32_655 : BitVec 32 := 704#32
  let v961 : BitVec 32 := Scalar.muli v960 c704_i32_655
  let v962 : BitVec 32 := v961
  let c0_i32_664 : BitVec 32 := 0#32
  ![v962.toNat, 0]
def k0_mult76 (d0 : Dev nD) : BitVec 32 :=
  let c4_i32_666 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v973 : BitVec 32 := Scalar.muli c4_i32_666 v12
  let c2_i32_667 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v974 : BitVec 32 := Scalar.muli c2_i32_667 v13
  let v975 : BitVec 32 := Scalar.addi v973 v974
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v976 : BitVec 32 := Scalar.addi v975 v8
  let c704_i32_668 : BitVec 32 := 704#32
  let v977 : BitVec 32 := Scalar.muli v976 c704_i32_668
  v977
def k0_mult77 (d0 : Dev nD) : BitVec 32 :=
  let c4_i32_669 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v979 : BitVec 32 := Scalar.muli c4_i32_669 v12
  let c2_i32_670 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v980 : BitVec 32 := Scalar.muli c2_i32_670 v13
  let v981 : BitVec 32 := Scalar.addi v979 v980
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v982 : BitVec 32 := Scalar.addi v981 v8
  let c704_i32_671 : BitVec 32 := 704#32
  let v983 : BitVec 32 := Scalar.muli v982 c704_i32_671
  v983
def k0_dev33 (d0 : Dev nD) : Nat :=
  let c0_i32_677 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_676 : BitVec 32 := 4#32
  let v985 : BitVec 32 := Scalar.muli v2 c4_i32_676
  let v986 : BitVec 32 := Scalar.addi c0_i32_677 v985
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_678 : BitVec 32 := 2#32
  let v987 : BitVec 32 := Scalar.muli v5 c2_i32_678
  let v988 : BitVec 32 := Scalar.addi v986 v987
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_679 : BitVec 32 := 1#32
  let v989 : BitVec 32 := Scalar.muli v9 c1_i32_679
  let v990 : BitVec 32 := Scalar.addi v988 v989
  v990.toNat
def k0_mult78 (d0 : Dev nD) : BitVec 32 :=
  let c4_i32_682 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v997 : BitVec 32 := Scalar.muli c4_i32_682 v12
  let c2_i32_683 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v998 : BitVec 32 := Scalar.muli c2_i32_683 v13
  let v999 : BitVec 32 := Scalar.addi v997 v998
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1000 : BitVec 32 := Scalar.addi v999 v8
  let c704_i32_684 : BitVec 32 := 704#32
  let v1001 : BitVec 32 := Scalar.muli v1000 c704_i32_684
  v1001
def k0_mult79 (d0 : Dev nD) : BitVec 32 :=
  let c4_i32_685 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1003 : BitVec 32 := Scalar.muli c4_i32_685 v12
  let c2_i32_686 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1004 : BitVec 32 := Scalar.muli c2_i32_686 v13
  let v1005 : BitVec 32 := Scalar.addi v1003 v1004
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1006 : BitVec 32 := Scalar.addi v1005 v8
  let c704_i32_687 : BitVec 32 := 704#32
  let v1007 : BitVec 32 := Scalar.muli v1006 c704_i32_687
  v1007
def k0_mult80 (d0 : Dev nD) : BitVec 32 :=
  let c4_i32_698 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1019 : BitVec 32 := Scalar.muli c4_i32_698 v12
  let c2_i32_699 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1020 : BitVec 32 := Scalar.muli c2_i32_699 v13
  let v1021 : BitVec 32 := Scalar.addi v1019 v1020
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1022 : BitVec 32 := Scalar.addi v1021 v8
  let c704_i32_700 : BitVec 32 := 704#32
  let v1023 : BitVec 32 := Scalar.muli v1022 c704_i32_700
  v1023
def k0_mult81 (d0 : Dev nD) : BitVec 32 :=
  let c4_i32_701 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1025 : BitVec 32 := Scalar.muli c4_i32_701 v12
  let c2_i32_702 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1026 : BitVec 32 := Scalar.muli c2_i32_702 v13
  let v1027 : BitVec 32 := Scalar.addi v1025 v1026
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1028 : BitVec 32 := Scalar.addi v1027 v8
  let c704_i32_703 : BitVec 32 := 704#32
  let v1029 : BitVec 32 := Scalar.muli v1028 c704_i32_703
  v1029
def k0_dev34 (d0 : Dev nD) : Nat :=
  let c0_i32_709 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_708 : BitVec 32 := 4#32
  let v1031 : BitVec 32 := Scalar.muli v2 c4_i32_708
  let v1032 : BitVec 32 := Scalar.addi c0_i32_709 v1031
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_710 : BitVec 32 := 2#32
  let v1033 : BitVec 32 := Scalar.muli v5 c2_i32_710
  let v1034 : BitVec 32 := Scalar.addi v1032 v1033
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_711 : BitVec 32 := 1#32
  let v1035 : BitVec 32 := Scalar.muli v9 c1_i32_711
  let v1036 : BitVec 32 := Scalar.addi v1034 v1035
  v1036.toNat
def k0_mult82 (d0 : Dev nD) : BitVec 32 :=
  let c4_i32_714 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1043 : BitVec 32 := Scalar.muli c4_i32_714 v12
  let c2_i32_715 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1044 : BitVec 32 := Scalar.muli c2_i32_715 v13
  let v1045 : BitVec 32 := Scalar.addi v1043 v1044
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1046 : BitVec 32 := Scalar.addi v1045 v8
  let c704_i32_716 : BitVec 32 := 704#32
  let v1047 : BitVec 32 := Scalar.muli v1046 c704_i32_716
  v1047
def k0_mult83 (d0 : Dev nD) : BitVec 32 :=
  let c4_i32_717 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1049 : BitVec 32 := Scalar.muli c4_i32_717 v12
  let c2_i32_718 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1050 : BitVec 32 := Scalar.muli c2_i32_718 v13
  let v1051 : BitVec 32 := Scalar.addi v1049 v1050
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1052 : BitVec 32 := Scalar.addi v1051 v8
  let c704_i32_719 : BitVec 32 := 704#32
  let v1053 : BitVec 32 := Scalar.muli v1052 c704_i32_719
  v1053
def k0_mult84 (d0 : Dev nD) : BitVec 32 :=
  let c4_i32_730 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1065 : BitVec 32 := Scalar.muli c4_i32_730 v12
  let c2_i32_731 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1066 : BitVec 32 := Scalar.muli c2_i32_731 v13
  let v1067 : BitVec 32 := Scalar.addi v1065 v1066
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1068 : BitVec 32 := Scalar.addi v1067 v8
  let c704_i32_732 : BitVec 32 := 704#32
  let v1069 : BitVec 32 := Scalar.muli v1068 c704_i32_732
  v1069
def k0_mult85 (d0 : Dev nD) : BitVec 32 :=
  let c4_i32_733 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1071 : BitVec 32 := Scalar.muli c4_i32_733 v12
  let c2_i32_734 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1072 : BitVec 32 := Scalar.muli c2_i32_734 v13
  let v1073 : BitVec 32 := Scalar.addi v1071 v1072
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1074 : BitVec 32 := Scalar.addi v1073 v8
  let c704_i32_735 : BitVec 32 := 704#32
  let v1075 : BitVec 32 := Scalar.muli v1074 c704_i32_735
  v1075
def k0_dev35 (d0 : Dev nD) : Nat :=
  let c0_i32_741 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_740 : BitVec 32 := 4#32
  let v1077 : BitVec 32 := Scalar.muli v2 c4_i32_740
  let v1078 : BitVec 32 := Scalar.addi c0_i32_741 v1077
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_742 : BitVec 32 := 2#32
  let v1079 : BitVec 32 := Scalar.muli v5 c2_i32_742
  let v1080 : BitVec 32 := Scalar.addi v1078 v1079
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_743 : BitVec 32 := 1#32
  let v1081 : BitVec 32 := Scalar.muli v9 c1_i32_743
  let v1082 : BitVec 32 := Scalar.addi v1080 v1081
  v1082.toNat
def k0_mult86 (d0 : Dev nD) : BitVec 32 :=
  let c4_i32_746 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1089 : BitVec 32 := Scalar.muli c4_i32_746 v2
  let c2_i32_747 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1090 : BitVec 32 := Scalar.muli c2_i32_747 v5
  let v1091 : BitVec 32 := Scalar.addi v1089 v1090
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1092 : BitVec 32 := Scalar.addi v1091 v9
  let c416_i32_748 : BitVec 32 := 416#32
  let v1093 : BitVec 32 := Scalar.muli v1092 c416_i32_748
  v1093
def k0_mult87 (d0 : Dev nD) : BitVec 32 :=
  let c4_i32_749 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1095 : BitVec 32 := Scalar.muli c4_i32_749 v2
  let c2_i32_750 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1096 : BitVec 32 := Scalar.muli c2_i32_750 v5
  let v1097 : BitVec 32 := Scalar.addi v1095 v1096
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1098 : BitVec 32 := Scalar.addi v1097 v9
  let c416_i32_751 : BitVec 32 := 416#32
  let v1099 : BitVec 32 := Scalar.muli v1098 c416_i32_751
  v1099
def k0_off13 (d0 : Dev nD) : Fin 2 → Nat :=
  let c4_i32_749 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1095 : BitVec 32 := Scalar.muli c4_i32_749 v2
  let c2_i32_750 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1096 : BitVec 32 := Scalar.muli c2_i32_750 v5
  let v1097 : BitVec 32 := Scalar.addi v1095 v1096
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1098 : BitVec 32 := Scalar.addi v1097 v9
  let c416_i32_751 : BitVec 32 := 416#32
  let v1099 : BitVec 32 := Scalar.muli v1098 c416_i32_751
  let v1100 : BitVec 32 := v1099
  let c0_i32_760 : BitVec 32 := 0#32
  ![v1100.toNat, 0]
def k0_mult88 (d0 : Dev nD) : BitVec 32 :=
  let c4_i32_763 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1112 : BitVec 32 := Scalar.muli c4_i32_763 v10
  let c2_i32_764 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1113 : BitVec 32 := Scalar.muli c2_i32_764 v5
  let v1114 : BitVec 32 := Scalar.addi v1112 v1113
  let c1_i32_762 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1111 : BitVec 32 := Scalar.subi c1_i32_762 v8
  let v1115 : BitVec 32 := Scalar.addi v1114 v1111
  let c416_i32_765 : BitVec 32 := 416#32
  let v1116 : BitVec 32 := Scalar.muli v1115 c416_i32_765
  v1116
def k0_mult89 (d0 : Dev nD) : BitVec 32 :=
  let c4_i32_766 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1118 : BitVec 32 := Scalar.muli c4_i32_766 v10
  let c2_i32_767 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1119 : BitVec 32 := Scalar.muli c2_i32_767 v5
  let v1120 : BitVec 32 := Scalar.addi v1118 v1119
  let c1_i32_762 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1111 : BitVec 32 := Scalar.subi c1_i32_762 v8
  let v1121 : BitVec 32 := Scalar.addi v1120 v1111
  let c416_i32_768 : BitVec 32 := 416#32
  let v1122 : BitVec 32 := Scalar.muli v1121 c416_i32_768
  v1122
def k0_off14 (d0 : Dev nD) : Fin 2 → Nat :=
  let c4_i32_766 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1118 : BitVec 32 := Scalar.muli c4_i32_766 v10
  let c2_i32_767 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1119 : BitVec 32 := Scalar.muli c2_i32_767 v5
  let v1120 : BitVec 32 := Scalar.addi v1118 v1119
  let c1_i32_762 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1111 : BitVec 32 := Scalar.subi c1_i32_762 v8
  let v1121 : BitVec 32 := Scalar.addi v1120 v1111
  let c416_i32_768 : BitVec 32 := 416#32
  let v1122 : BitVec 32 := Scalar.muli v1121 c416_i32_768
  let v1123 : BitVec 32 := v1122
  let c0_i32_777 : BitVec 32 := 0#32
  ![v1123.toNat, 0]
def k0_mult90 (d0 : Dev nD) : BitVec 32 :=
  let c4_i32_780 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1135 : BitVec 32 := Scalar.muli c4_i32_780 v2
  let c2_i32_781 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1136 : BitVec 32 := Scalar.muli c2_i32_781 v11
  let v1137 : BitVec 32 := Scalar.addi v1135 v1136
  let c1_i32_779 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1134 : BitVec 32 := Scalar.subi c1_i32_779 v8
  let v1138 : BitVec 32 := Scalar.addi v1137 v1134
  let c416_i32_782 : BitVec 32 := 416#32
  let v1139 : BitVec 32 := Scalar.muli v1138 c416_i32_782
  v1139
def k0_mult91 (d0 : Dev nD) : BitVec 32 :=
  let c4_i32_783 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1141 : BitVec 32 := Scalar.muli c4_i32_783 v2
  let c2_i32_784 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1142 : BitVec 32 := Scalar.muli c2_i32_784 v11
  let v1143 : BitVec 32 := Scalar.addi v1141 v1142
  let c1_i32_779 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1134 : BitVec 32 := Scalar.subi c1_i32_779 v8
  let v1144 : BitVec 32 := Scalar.addi v1143 v1134
  let c416_i32_785 : BitVec 32 := 416#32
  let v1145 : BitVec 32 := Scalar.muli v1144 c416_i32_785
  v1145
def k0_off15 (d0 : Dev nD) : Fin 2 → Nat :=
  let c4_i32_783 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1141 : BitVec 32 := Scalar.muli c4_i32_783 v2
  let c2_i32_784 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1142 : BitVec 32 := Scalar.muli c2_i32_784 v11
  let v1143 : BitVec 32 := Scalar.addi v1141 v1142
  let c1_i32_779 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1134 : BitVec 32 := Scalar.subi c1_i32_779 v8
  let v1144 : BitVec 32 := Scalar.addi v1143 v1134
  let c416_i32_785 : BitVec 32 := 416#32
  let v1145 : BitVec 32 := Scalar.muli v1144 c416_i32_785
  let v1146 : BitVec 32 := v1145
  let c0_i32_794 : BitVec 32 := 0#32
  ![v1146.toNat, 0]
def k0_mult92 (d0 : Dev nD) : BitVec 32 :=
  let c4_i32_797 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1158 : BitVec 32 := Scalar.muli c4_i32_797 v12
  let c2_i32_798 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1159 : BitVec 32 := Scalar.muli c2_i32_798 v13
  let v1160 : BitVec 32 := Scalar.addi v1158 v1159
  let c1_i32_796 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1157 : BitVec 32 := Scalar.subi c1_i32_796 v8
  let v1161 : BitVec 32 := Scalar.addi v1160 v1157
  let c416_i32_799 : BitVec 32 := 416#32
  let v1162 : BitVec 32 := Scalar.muli v1161 c416_i32_799
  v1162
def k0_mult93 (d0 : Dev nD) : BitVec 32 :=
  let c4_i32_800 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1164 : BitVec 32 := Scalar.muli c4_i32_800 v12
  let c2_i32_801 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1165 : BitVec 32 := Scalar.muli c2_i32_801 v13
  let v1166 : BitVec 32 := Scalar.addi v1164 v1165
  let c1_i32_796 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1157 : BitVec 32 := Scalar.subi c1_i32_796 v8
  let v1167 : BitVec 32 := Scalar.addi v1166 v1157
  let c416_i32_802 : BitVec 32 := 416#32
  let v1168 : BitVec 32 := Scalar.muli v1167 c416_i32_802
  v1168
def k0_off16 (d0 : Dev nD) : Fin 2 → Nat :=
  let c4_i32_800 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1164 : BitVec 32 := Scalar.muli c4_i32_800 v12
  let c2_i32_801 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1165 : BitVec 32 := Scalar.muli c2_i32_801 v13
  let v1166 : BitVec 32 := Scalar.addi v1164 v1165
  let c1_i32_796 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1157 : BitVec 32 := Scalar.subi c1_i32_796 v8
  let v1167 : BitVec 32 := Scalar.addi v1166 v1157
  let c416_i32_802 : BitVec 32 := 416#32
  let v1168 : BitVec 32 := Scalar.muli v1167 c416_i32_802
  let v1169 : BitVec 32 := v1168
  let c0_i32_811 : BitVec 32 := 0#32
  ![v1169.toNat, 0]
def k0_mult94 (d0 : Dev nD) : BitVec 32 :=
  let c4_i32_813 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1180 : BitVec 32 := Scalar.muli c4_i32_813 v2
  let c2_i32_814 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1181 : BitVec 32 := Scalar.muli c2_i32_814 v5
  let v1182 : BitVec 32 := Scalar.addi v1180 v1181
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1183 : BitVec 32 := Scalar.addi v1182 v9
  let c256_i32_815 : BitVec 32 := 256#32
  let v1184 : BitVec 32 := Scalar.muli v1183 c256_i32_815
  v1184
def k0_mult95 (d0 : Dev nD) : BitVec 32 :=
  let c4_i32_816 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1186 : BitVec 32 := Scalar.muli c4_i32_816 v2
  let c2_i32_817 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1187 : BitVec 32 := Scalar.muli c2_i32_817 v5
  let v1188 : BitVec 32 := Scalar.addi v1186 v1187
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1189 : BitVec 32 := Scalar.addi v1188 v9
  let c256_i32_818 : BitVec 32 := 256#32
  let v1190 : BitVec 32 := Scalar.muli v1189 c256_i32_818
  v1190
def k0_off17 (d0 : Dev nD) : Fin 2 → Nat :=
  let c4_i32_816 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1186 : BitVec 32 := Scalar.muli c4_i32_816 v2
  let c2_i32_817 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1187 : BitVec 32 := Scalar.muli c2_i32_817 v5
  let v1188 : BitVec 32 := Scalar.addi v1186 v1187
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1189 : BitVec 32 := Scalar.addi v1188 v9
  let c256_i32_818 : BitVec 32 := 256#32
  let v1190 : BitVec 32 := Scalar.muli v1189 c256_i32_818
  let v1191 : BitVec 32 := v1190
  let c0_i32_827 : BitVec 32 := 0#32
  ![v1191.toNat, 0]
def k0_mult96 (d0 : Dev nD) : BitVec 32 :=
  let c4_i32_830 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1203 : BitVec 32 := Scalar.muli c4_i32_830 v10
  let c2_i32_831 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1204 : BitVec 32 := Scalar.muli c2_i32_831 v5
  let v1205 : BitVec 32 := Scalar.addi v1203 v1204
  let c1_i32_829 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1202 : BitVec 32 := Scalar.subi c1_i32_829 v8
  let v1206 : BitVec 32 := Scalar.addi v1205 v1202
  let c256_i32_832 : BitVec 32 := 256#32
  let v1207 : BitVec 32 := Scalar.muli v1206 c256_i32_832
  v1207
def k0_mult97 (d0 : Dev nD) : BitVec 32 :=
  let c4_i32_833 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1209 : BitVec 32 := Scalar.muli c4_i32_833 v10
  let c2_i32_834 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1210 : BitVec 32 := Scalar.muli c2_i32_834 v5
  let v1211 : BitVec 32 := Scalar.addi v1209 v1210
  let c1_i32_829 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1202 : BitVec 32 := Scalar.subi c1_i32_829 v8
  let v1212 : BitVec 32 := Scalar.addi v1211 v1202
  let c256_i32_835 : BitVec 32 := 256#32
  let v1213 : BitVec 32 := Scalar.muli v1212 c256_i32_835
  v1213
def k0_off18 (d0 : Dev nD) : Fin 2 → Nat :=
  let c4_i32_833 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1209 : BitVec 32 := Scalar.muli c4_i32_833 v10
  let c2_i32_834 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1210 : BitVec 32 := Scalar.muli c2_i32_834 v5
  let v1211 : BitVec 32 := Scalar.addi v1209 v1210
  let c1_i32_829 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1202 : BitVec 32 := Scalar.subi c1_i32_829 v8
  let v1212 : BitVec 32 := Scalar.addi v1211 v1202
  let c256_i32_835 : BitVec 32 := 256#32
  let v1213 : BitVec 32 := Scalar.muli v1212 c256_i32_835
  let v1214 : BitVec 32 := v1213
  let c0_i32_844 : BitVec 32 := 0#32
  ![v1214.toNat, 0]
def k0_mult98 (d0 : Dev nD) : BitVec 32 :=
  let c4_i32_847 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1226 : BitVec 32 := Scalar.muli c4_i32_847 v2
  let c2_i32_848 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1227 : BitVec 32 := Scalar.muli c2_i32_848 v11
  let v1228 : BitVec 32 := Scalar.addi v1226 v1227
  let c1_i32_846 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1225 : BitVec 32 := Scalar.subi c1_i32_846 v8
  let v1229 : BitVec 32 := Scalar.addi v1228 v1225
  let c256_i32_849 : BitVec 32 := 256#32
  let v1230 : BitVec 32 := Scalar.muli v1229 c256_i32_849
  v1230
def k0_mult99 (d0 : Dev nD) : BitVec 32 :=
  let c4_i32_850 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1232 : BitVec 32 := Scalar.muli c4_i32_850 v2
  let c2_i32_851 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1233 : BitVec 32 := Scalar.muli c2_i32_851 v11
  let v1234 : BitVec 32 := Scalar.addi v1232 v1233
  let c1_i32_846 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1225 : BitVec 32 := Scalar.subi c1_i32_846 v8
  let v1235 : BitVec 32 := Scalar.addi v1234 v1225
  let c256_i32_852 : BitVec 32 := 256#32
  let v1236 : BitVec 32 := Scalar.muli v1235 c256_i32_852
  v1236
def k0_off19 (d0 : Dev nD) : Fin 2 → Nat :=
  let c4_i32_850 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1232 : BitVec 32 := Scalar.muli c4_i32_850 v2
  let c2_i32_851 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1233 : BitVec 32 := Scalar.muli c2_i32_851 v11
  let v1234 : BitVec 32 := Scalar.addi v1232 v1233
  let c1_i32_846 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1225 : BitVec 32 := Scalar.subi c1_i32_846 v8
  let v1235 : BitVec 32 := Scalar.addi v1234 v1225
  let c256_i32_852 : BitVec 32 := 256#32
  let v1236 : BitVec 32 := Scalar.muli v1235 c256_i32_852
  let v1237 : BitVec 32 := v1236
  let c0_i32_861 : BitVec 32 := 0#32
  ![v1237.toNat, 0]
def k0_mult100 (d0 : Dev nD) : BitVec 32 :=
  let c4_i32_864 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1249 : BitVec 32 := Scalar.muli c4_i32_864 v12
  let c2_i32_865 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1250 : BitVec 32 := Scalar.muli c2_i32_865 v13
  let v1251 : BitVec 32 := Scalar.addi v1249 v1250
  let c1_i32_863 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1248 : BitVec 32 := Scalar.subi c1_i32_863 v8
  let v1252 : BitVec 32 := Scalar.addi v1251 v1248
  let c256_i32_866 : BitVec 32 := 256#32
  let v1253 : BitVec 32 := Scalar.muli v1252 c256_i32_866
  v1253
def k0_mult101 (d0 : Dev nD) : BitVec 32 :=
  let c4_i32_867 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1255 : BitVec 32 := Scalar.muli c4_i32_867 v12
  let c2_i32_868 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1256 : BitVec 32 := Scalar.muli c2_i32_868 v13
  let v1257 : BitVec 32 := Scalar.addi v1255 v1256
  let c1_i32_863 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1248 : BitVec 32 := Scalar.subi c1_i32_863 v8
  let v1258 : BitVec 32 := Scalar.addi v1257 v1248
  let c256_i32_869 : BitVec 32 := 256#32
  let v1259 : BitVec 32 := Scalar.muli v1258 c256_i32_869
  v1259
def k0_off20 (d0 : Dev nD) : Fin 2 → Nat :=
  let c4_i32_867 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1255 : BitVec 32 := Scalar.muli c4_i32_867 v12
  let c2_i32_868 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1256 : BitVec 32 := Scalar.muli c2_i32_868 v13
  let v1257 : BitVec 32 := Scalar.addi v1255 v1256
  let c1_i32_863 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1248 : BitVec 32 := Scalar.subi c1_i32_863 v8
  let v1258 : BitVec 32 := Scalar.addi v1257 v1248
  let c256_i32_869 : BitVec 32 := 256#32
  let v1259 : BitVec 32 := Scalar.muli v1258 c256_i32_869
  let v1260 : BitVec 32 := v1259
  let c0_i32_878 : BitVec 32 := 0#32
  ![v1260.toNat, 0]
def k0_mult102 (d0 : Dev nD) : BitVec 32 :=
  let c4_i32_880 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1271 : BitVec 32 := Scalar.muli c4_i32_880 v2
  let c2_i32_881 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1272 : BitVec 32 := Scalar.muli c2_i32_881 v5
  let v1273 : BitVec 32 := Scalar.addi v1271 v1272
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1274 : BitVec 32 := Scalar.addi v1273 v9
  let c704_i32_882 : BitVec 32 := 704#32
  let v1275 : BitVec 32 := Scalar.muli v1274 c704_i32_882
  v1275
def k0_mult103 (d0 : Dev nD) : BitVec 32 :=
  let c4_i32_883 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1277 : BitVec 32 := Scalar.muli c4_i32_883 v2
  let c2_i32_884 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1278 : BitVec 32 := Scalar.muli c2_i32_884 v5
  let v1279 : BitVec 32 := Scalar.addi v1277 v1278
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1280 : BitVec 32 := Scalar.addi v1279 v9
  let c704_i32_885 : BitVec 32 := 704#32
  let v1281 : BitVec 32 := Scalar.muli v1280 c704_i32_885
  v1281
def k0_off21 (d0 : Dev nD) : Fin 2 → Nat :=
  let c4_i32_883 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1277 : BitVec 32 := Scalar.muli c4_i32_883 v2
  let c2_i32_884 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1278 : BitVec 32 := Scalar.muli c2_i32_884 v5
  let v1279 : BitVec 32 := Scalar.addi v1277 v1278
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1280 : BitVec 32 := Scalar.addi v1279 v9
  let c704_i32_885 : BitVec 32 := 704#32
  let v1281 : BitVec 32 := Scalar.muli v1280 c704_i32_885
  let v1282 : BitVec 32 := v1281
  let c0_i32_894 : BitVec 32 := 0#32
  ![v1282.toNat, 0]
def k0_mult104 (d0 : Dev nD) : BitVec 32 :=
  let c4_i32_897 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1294 : BitVec 32 := Scalar.muli c4_i32_897 v10
  let c2_i32_898 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1295 : BitVec 32 := Scalar.muli c2_i32_898 v5
  let v1296 : BitVec 32 := Scalar.addi v1294 v1295
  let c1_i32_896 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1293 : BitVec 32 := Scalar.subi c1_i32_896 v8
  let v1297 : BitVec 32 := Scalar.addi v1296 v1293
  let c704_i32_899 : BitVec 32 := 704#32
  let v1298 : BitVec 32 := Scalar.muli v1297 c704_i32_899
  v1298
def k0_mult105 (d0 : Dev nD) : BitVec 32 :=
  let c4_i32_900 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1300 : BitVec 32 := Scalar.muli c4_i32_900 v10
  let c2_i32_901 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1301 : BitVec 32 := Scalar.muli c2_i32_901 v5
  let v1302 : BitVec 32 := Scalar.addi v1300 v1301
  let c1_i32_896 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1293 : BitVec 32 := Scalar.subi c1_i32_896 v8
  let v1303 : BitVec 32 := Scalar.addi v1302 v1293
  let c704_i32_902 : BitVec 32 := 704#32
  let v1304 : BitVec 32 := Scalar.muli v1303 c704_i32_902
  v1304
def k0_off22 (d0 : Dev nD) : Fin 2 → Nat :=
  let c4_i32_900 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1300 : BitVec 32 := Scalar.muli c4_i32_900 v10
  let c2_i32_901 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1301 : BitVec 32 := Scalar.muli c2_i32_901 v5
  let v1302 : BitVec 32 := Scalar.addi v1300 v1301
  let c1_i32_896 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1293 : BitVec 32 := Scalar.subi c1_i32_896 v8
  let v1303 : BitVec 32 := Scalar.addi v1302 v1293
  let c704_i32_902 : BitVec 32 := 704#32
  let v1304 : BitVec 32 := Scalar.muli v1303 c704_i32_902
  let v1305 : BitVec 32 := v1304
  let c0_i32_911 : BitVec 32 := 0#32
  ![v1305.toNat, 0]
def k0_mult106 (d0 : Dev nD) : BitVec 32 :=
  let c4_i32_914 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1317 : BitVec 32 := Scalar.muli c4_i32_914 v2
  let c2_i32_915 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1318 : BitVec 32 := Scalar.muli c2_i32_915 v11
  let v1319 : BitVec 32 := Scalar.addi v1317 v1318
  let c1_i32_913 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1316 : BitVec 32 := Scalar.subi c1_i32_913 v8
  let v1320 : BitVec 32 := Scalar.addi v1319 v1316
  let c704_i32_916 : BitVec 32 := 704#32
  let v1321 : BitVec 32 := Scalar.muli v1320 c704_i32_916
  v1321
def k0_mult107 (d0 : Dev nD) : BitVec 32 :=
  let c4_i32_917 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1323 : BitVec 32 := Scalar.muli c4_i32_917 v2
  let c2_i32_918 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1324 : BitVec 32 := Scalar.muli c2_i32_918 v11
  let v1325 : BitVec 32 := Scalar.addi v1323 v1324
  let c1_i32_913 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1316 : BitVec 32 := Scalar.subi c1_i32_913 v8
  let v1326 : BitVec 32 := Scalar.addi v1325 v1316
  let c704_i32_919 : BitVec 32 := 704#32
  let v1327 : BitVec 32 := Scalar.muli v1326 c704_i32_919
  v1327
def k0_off23 (d0 : Dev nD) : Fin 2 → Nat :=
  let c4_i32_917 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1323 : BitVec 32 := Scalar.muli c4_i32_917 v2
  let c2_i32_918 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1324 : BitVec 32 := Scalar.muli c2_i32_918 v11
  let v1325 : BitVec 32 := Scalar.addi v1323 v1324
  let c1_i32_913 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1316 : BitVec 32 := Scalar.subi c1_i32_913 v8
  let v1326 : BitVec 32 := Scalar.addi v1325 v1316
  let c704_i32_919 : BitVec 32 := 704#32
  let v1327 : BitVec 32 := Scalar.muli v1326 c704_i32_919
  let v1328 : BitVec 32 := v1327
  let c0_i32_928 : BitVec 32 := 0#32
  ![v1328.toNat, 0]
def k0_mult108 (d0 : Dev nD) : BitVec 32 :=
  let c4_i32_931 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1340 : BitVec 32 := Scalar.muli c4_i32_931 v12
  let c2_i32_932 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1341 : BitVec 32 := Scalar.muli c2_i32_932 v13
  let v1342 : BitVec 32 := Scalar.addi v1340 v1341
  let c1_i32_930 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1339 : BitVec 32 := Scalar.subi c1_i32_930 v8
  let v1343 : BitVec 32 := Scalar.addi v1342 v1339
  let c704_i32_933 : BitVec 32 := 704#32
  let v1344 : BitVec 32 := Scalar.muli v1343 c704_i32_933
  v1344
def k0_mult109 (d0 : Dev nD) : BitVec 32 :=
  let c4_i32_934 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1346 : BitVec 32 := Scalar.muli c4_i32_934 v12
  let c2_i32_935 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1347 : BitVec 32 := Scalar.muli c2_i32_935 v13
  let v1348 : BitVec 32 := Scalar.addi v1346 v1347
  let c1_i32_930 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1339 : BitVec 32 := Scalar.subi c1_i32_930 v8
  let v1349 : BitVec 32 := Scalar.addi v1348 v1339
  let c704_i32_936 : BitVec 32 := 704#32
  let v1350 : BitVec 32 := Scalar.muli v1349 c704_i32_936
  v1350
def k0_off24 (d0 : Dev nD) : Fin 2 → Nat :=
  let c4_i32_934 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1346 : BitVec 32 := Scalar.muli c4_i32_934 v12
  let c2_i32_935 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1347 : BitVec 32 := Scalar.muli c2_i32_935 v13
  let v1348 : BitVec 32 := Scalar.addi v1346 v1347
  let c1_i32_930 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1339 : BitVec 32 := Scalar.subi c1_i32_930 v8
  let v1349 : BitVec 32 := Scalar.addi v1348 v1339
  let c704_i32_936 : BitVec 32 := 704#32
  let v1350 : BitVec 32 := Scalar.muli v1349 c704_i32_936
  let v1351 : BitVec 32 := v1350
  let c0_i32_945 : BitVec 32 := 0#32
  ![v1351.toNat, 0]
def k0_mult110 (d0 : Dev nD) : BitVec 32 :=
  let c4_i32_947 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1362 : BitVec 32 := Scalar.muli c4_i32_947 v2
  let c2_i32_948 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1363 : BitVec 32 := Scalar.muli c2_i32_948 v5
  let v1364 : BitVec 32 := Scalar.addi v1362 v1363
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1365 : BitVec 32 := Scalar.addi v1364 v9
  let c704_i32_949 : BitVec 32 := 704#32
  let v1366 : BitVec 32 := Scalar.muli v1365 c704_i32_949
  v1366
def k0_mult111 (d0 : Dev nD) : BitVec 32 :=
  let c4_i32_950 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1368 : BitVec 32 := Scalar.muli c4_i32_950 v2
  let c2_i32_951 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1369 : BitVec 32 := Scalar.muli c2_i32_951 v5
  let v1370 : BitVec 32 := Scalar.addi v1368 v1369
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1371 : BitVec 32 := Scalar.addi v1370 v9
  let c704_i32_952 : BitVec 32 := 704#32
  let v1372 : BitVec 32 := Scalar.muli v1371 c704_i32_952
  v1372
def k0_mult112 (d0 : Dev nD) : BitVec 32 :=
  let c4_i32_964 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1385 : BitVec 32 := Scalar.muli c4_i32_964 v10
  let c2_i32_965 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1386 : BitVec 32 := Scalar.muli c2_i32_965 v5
  let v1387 : BitVec 32 := Scalar.addi v1385 v1386
  let c1_i32_963 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1384 : BitVec 32 := Scalar.subi c1_i32_963 v8
  let v1388 : BitVec 32 := Scalar.addi v1387 v1384
  let c704_i32_966 : BitVec 32 := 704#32
  let v1389 : BitVec 32 := Scalar.muli v1388 c704_i32_966
  v1389
def k0_mult113 (d0 : Dev nD) : BitVec 32 :=
  let c4_i32_967 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1391 : BitVec 32 := Scalar.muli c4_i32_967 v10
  let c2_i32_968 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1392 : BitVec 32 := Scalar.muli c2_i32_968 v5
  let v1393 : BitVec 32 := Scalar.addi v1391 v1392
  let c1_i32_963 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1384 : BitVec 32 := Scalar.subi c1_i32_963 v8
  let v1394 : BitVec 32 := Scalar.addi v1393 v1384
  let c704_i32_969 : BitVec 32 := 704#32
  let v1395 : BitVec 32 := Scalar.muli v1394 c704_i32_969
  v1395
def k0_mult114 (d0 : Dev nD) : BitVec 32 :=
  let c4_i32_981 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1408 : BitVec 32 := Scalar.muli c4_i32_981 v2
  let c2_i32_982 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1409 : BitVec 32 := Scalar.muli c2_i32_982 v11
  let v1410 : BitVec 32 := Scalar.addi v1408 v1409
  let c1_i32_980 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1407 : BitVec 32 := Scalar.subi c1_i32_980 v8
  let v1411 : BitVec 32 := Scalar.addi v1410 v1407
  let c704_i32_983 : BitVec 32 := 704#32
  let v1412 : BitVec 32 := Scalar.muli v1411 c704_i32_983
  v1412
def k0_mult115 (d0 : Dev nD) : BitVec 32 :=
  let c4_i32_984 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1414 : BitVec 32 := Scalar.muli c4_i32_984 v2
  let c2_i32_985 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1415 : BitVec 32 := Scalar.muli c2_i32_985 v11
  let v1416 : BitVec 32 := Scalar.addi v1414 v1415
  let c1_i32_980 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1407 : BitVec 32 := Scalar.subi c1_i32_980 v8
  let v1417 : BitVec 32 := Scalar.addi v1416 v1407
  let c704_i32_986 : BitVec 32 := 704#32
  let v1418 : BitVec 32 := Scalar.muli v1417 c704_i32_986
  v1418
def k0_mult116 (d0 : Dev nD) : BitVec 32 :=
  let c4_i32_998 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1431 : BitVec 32 := Scalar.muli c4_i32_998 v12
  let c2_i32_999 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1432 : BitVec 32 := Scalar.muli c2_i32_999 v13
  let v1433 : BitVec 32 := Scalar.addi v1431 v1432
  let c1_i32_997 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1430 : BitVec 32 := Scalar.subi c1_i32_997 v8
  let v1434 : BitVec 32 := Scalar.addi v1433 v1430
  let c704_i32_1000 : BitVec 32 := 704#32
  let v1435 : BitVec 32 := Scalar.muli v1434 c704_i32_1000
  v1435
def k0_mult117 (d0 : Dev nD) : BitVec 32 :=
  let c4_i32_1001 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1437 : BitVec 32 := Scalar.muli c4_i32_1001 v12
  let c2_i32_1002 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1438 : BitVec 32 := Scalar.muli c2_i32_1002 v13
  let v1439 : BitVec 32 := Scalar.addi v1437 v1438
  let c1_i32_997 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1430 : BitVec 32 := Scalar.subi c1_i32_997 v8
  let v1440 : BitVec 32 := Scalar.addi v1439 v1430
  let c704_i32_1003 : BitVec 32 := 704#32
  let v1441 : BitVec 32 := Scalar.muli v1440 c704_i32_1003
  v1441
def k0_mult118 (d0 : Dev nD) : BitVec 32 :=
  let c4_i32_1014 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1453 : BitVec 32 := Scalar.muli c4_i32_1014 v2
  let c2_i32_1015 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1454 : BitVec 32 := Scalar.muli c2_i32_1015 v5
  let v1455 : BitVec 32 := Scalar.addi v1453 v1454
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1456 : BitVec 32 := Scalar.addi v1455 v9
  let c704_i32_1016 : BitVec 32 := 704#32
  let v1457 : BitVec 32 := Scalar.muli v1456 c704_i32_1016
  v1457
def k0_mult119 (d0 : Dev nD) : BitVec 32 :=
  let c4_i32_1017 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1459 : BitVec 32 := Scalar.muli c4_i32_1017 v2
  let c2_i32_1018 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1460 : BitVec 32 := Scalar.muli c2_i32_1018 v5
  let v1461 : BitVec 32 := Scalar.addi v1459 v1460
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1462 : BitVec 32 := Scalar.addi v1461 v9
  let c704_i32_1019 : BitVec 32 := 704#32
  let v1463 : BitVec 32 := Scalar.muli v1462 c704_i32_1019
  v1463
def k0_mult120 (d0 : Dev nD) : BitVec 32 :=
  let c4_i32_1031 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1476 : BitVec 32 := Scalar.muli c4_i32_1031 v10
  let c2_i32_1032 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1477 : BitVec 32 := Scalar.muli c2_i32_1032 v5
  let v1478 : BitVec 32 := Scalar.addi v1476 v1477
  let c1_i32_1030 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1475 : BitVec 32 := Scalar.subi c1_i32_1030 v8
  let v1479 : BitVec 32 := Scalar.addi v1478 v1475
  let c704_i32_1033 : BitVec 32 := 704#32
  let v1480 : BitVec 32 := Scalar.muli v1479 c704_i32_1033
  v1480
def k0_mult121 (d0 : Dev nD) : BitVec 32 :=
  let c4_i32_1034 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1482 : BitVec 32 := Scalar.muli c4_i32_1034 v10
  let c2_i32_1035 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1483 : BitVec 32 := Scalar.muli c2_i32_1035 v5
  let v1484 : BitVec 32 := Scalar.addi v1482 v1483
  let c1_i32_1030 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1475 : BitVec 32 := Scalar.subi c1_i32_1030 v8
  let v1485 : BitVec 32 := Scalar.addi v1484 v1475
  let c704_i32_1036 : BitVec 32 := 704#32
  let v1486 : BitVec 32 := Scalar.muli v1485 c704_i32_1036
  v1486
def k0_mult122 (d0 : Dev nD) : BitVec 32 :=
  let c4_i32_1048 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1499 : BitVec 32 := Scalar.muli c4_i32_1048 v2
  let c2_i32_1049 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1500 : BitVec 32 := Scalar.muli c2_i32_1049 v11
  let v1501 : BitVec 32 := Scalar.addi v1499 v1500
  let c1_i32_1047 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1498 : BitVec 32 := Scalar.subi c1_i32_1047 v8
  let v1502 : BitVec 32 := Scalar.addi v1501 v1498
  let c704_i32_1050 : BitVec 32 := 704#32
  let v1503 : BitVec 32 := Scalar.muli v1502 c704_i32_1050
  v1503
def k0_mult123 (d0 : Dev nD) : BitVec 32 :=
  let c4_i32_1051 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1505 : BitVec 32 := Scalar.muli c4_i32_1051 v2
  let c2_i32_1052 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1506 : BitVec 32 := Scalar.muli c2_i32_1052 v11
  let v1507 : BitVec 32 := Scalar.addi v1505 v1506
  let c1_i32_1047 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1498 : BitVec 32 := Scalar.subi c1_i32_1047 v8
  let v1508 : BitVec 32 := Scalar.addi v1507 v1498
  let c704_i32_1053 : BitVec 32 := 704#32
  let v1509 : BitVec 32 := Scalar.muli v1508 c704_i32_1053
  v1509
def k0_mult124 (d0 : Dev nD) : BitVec 32 :=
  let c4_i32_1065 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1522 : BitVec 32 := Scalar.muli c4_i32_1065 v12
  let c2_i32_1066 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1523 : BitVec 32 := Scalar.muli c2_i32_1066 v13
  let v1524 : BitVec 32 := Scalar.addi v1522 v1523
  let c1_i32_1064 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1521 : BitVec 32 := Scalar.subi c1_i32_1064 v8
  let v1525 : BitVec 32 := Scalar.addi v1524 v1521
  let c704_i32_1067 : BitVec 32 := 704#32
  let v1526 : BitVec 32 := Scalar.muli v1525 c704_i32_1067
  v1526
def k0_mult125 (d0 : Dev nD) : BitVec 32 :=
  let c4_i32_1068 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1528 : BitVec 32 := Scalar.muli c4_i32_1068 v12
  let c2_i32_1069 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1529 : BitVec 32 := Scalar.muli c2_i32_1069 v13
  let v1530 : BitVec 32 := Scalar.addi v1528 v1529
  let c1_i32_1064 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1521 : BitVec 32 := Scalar.subi c1_i32_1064 v8
  let v1531 : BitVec 32 := Scalar.addi v1530 v1521
  let c704_i32_1070 : BitVec 32 := 704#32
  let v1532 : BitVec 32 := Scalar.muli v1531 c704_i32_1070
  v1532
-- ==== GatherRef.lean ====
abbrev S3328x2048 : Shape := ⟨2, ![3328, 2048]⟩
abbrev S2048x2048 : Shape := ⟨2, ![2048, 2048]⟩
abbrev S5632x2048 : Shape := ⟨2, ![5632, 2048]⟩

abbrev nBuf : Space → Nat
  | .hbm => 5
  | .vmem => 0
  | .smem => 0
  | _ => 0

abbrev bufTy : (tb : Table) → Fin (tcTables nBuf tb) → BufTy
  | .hbm, ⟨0, _⟩ => ⟨S3328x2048, .bf16⟩
  | .hbm, ⟨1, _⟩ => ⟨S2048x2048, .bf16⟩
  | .hbm, ⟨2, _⟩ => ⟨S5632x2048, .bf16⟩
  | .hbm, ⟨3, _⟩ => ⟨S5632x2048, .bf16⟩
  | .hbm, ⟨4, _⟩ => ⟨S5632x2048, .bf16⟩
  | _, _ => ⟨S3328x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩

abbrev nD : Nat := 1
abbrev τ : Topo := Topo.v7x

variable {F : FTy → Type} [FloatOps F]
-- ==== Dense.lean ====
abbrev S4096x3328 : Shape := ⟨2, ![4096, 3328]⟩
abbrev S3328x2048 : Shape := ⟨2, ![3328, 2048]⟩
abbrev S4096x2048 : Shape := ⟨2, ![4096, 2048]⟩
abbrev S512x1664 : Shape := ⟨2, ![512, 1664]⟩
abbrev S1664x1024 : Shape := ⟨2, ![1664, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x3328, .bf16⟩
  | .hbm, ⟨1, _⟩ => ⟨S3328x2048, .bf16⟩
  | .hbm, ⟨2, _⟩ => ⟨S4096x2048, .f32⟩
  | .local _ .vmem, ⟨0, _⟩ => ⟨S512x1664, .bf16⟩
  | .local _ .vmem, ⟨1, _⟩ => ⟨S512x1664, .bf16⟩
  | .local _ .vmem, ⟨2, _⟩ => ⟨S1664x1024, .bf16⟩
  | .local _ .vmem, ⟨3, _⟩ => ⟨S1664x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x3328, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DenseRefIdeal.lean ====
abbrev S4096x3328 : Shape := ⟨2, ![4096, 3328]⟩
abbrev S3328x2048 : Shape := ⟨2, ![3328, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x3328, .bf16⟩
  | .hbm, ⟨1, _⟩ => ⟨S3328x2048, .bf16⟩
  | .hbm, ⟨2, _⟩ => ⟨S4096x2048, .f32⟩
  | _, _ => ⟨S4096x3328, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Norm.lean ====
abbrev S4096x2048 : Shape := ⟨2, ![4096, 2048]⟩
abbrev S2x2048x2048 : Shape := ⟨3, ![2, 2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S2x2048x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormRefIdeal.lean ====
abbrev S4096x2048 : Shape := ⟨2, ![4096, 2048]⟩
abbrev S2x2048x2048 : Shape := ⟨3, ![2, 2048, 2048]⟩
abbrev S1x2048 : Shape := ⟨2, ![1, 2048]⟩
abbrev S_ : Shape := ⟨0, ![]⟩
abbrev S2x2048 : Shape := ⟨2, ![2, 2048]⟩
abbrev S2x2048x1 : Shape := ⟨3, ![2, 2048, 1]⟩
abbrev S1x1x2048 : Shape := ⟨3, ![1, 1, 2048]⟩
abbrev S2048 : Shape := ⟨1, ![2048]⟩

abbrev nBuf : Space → Nat
  | .hbm => 40
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2x2048x2048, .f32⟩
  | .hbm, ⟨2, _⟩ => ⟨S1x2048, .f32⟩
  | .hbm, ⟨3, _⟩ => ⟨S4096x2048, .f32⟩
  | .hbm, ⟨4, _⟩ => ⟨S2x2048x2048, .f32⟩
  | .hbm, ⟨5, _⟩ => ⟨S2x2048x2048, .f32⟩
  | .hbm, ⟨6, _⟩ => ⟨S_, .f32⟩
  | .hbm, ⟨7, _⟩ => ⟨S2x2048, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x1, .f32⟩
  | .hbm, ⟨16, _⟩ => ⟨S2x2048x2048, .f32⟩
  | .hbm, ⟨17, _⟩ => ⟨S2x2048x2048, .f32⟩
  | .hbm, ⟨18, _⟩ => ⟨S1x1x2048, .f32⟩
  | .hbm, ⟨19, _⟩ => ⟨S2x2048x2048, .f32⟩
  | .hbm, ⟨20, _⟩ => ⟨S2x2048x2048, .f32⟩
  | .hbm, ⟨21, _⟩ => ⟨S2x2048x2048, .f32⟩
  | .hbm, ⟨22, _⟩ => ⟨S_, .f32⟩
  | .hbm, ⟨23, _⟩ => ⟨S2x2048, .f32⟩
  | .hbm, ⟨24, _⟩ => ⟨S2x2048x1, .f32⟩
  | .hbm, ⟨25, _⟩ => ⟨S_, .f32⟩
  | .hbm, ⟨26, _⟩ => ⟨S2x2048x1, .f32⟩
  | .hbm, ⟨27, _⟩ => ⟨S2x2048x1, .f32⟩
  | .hbm, ⟨28, _⟩ => ⟨S2x2048x2048, .f32⟩
  | .hbm, ⟨29, _⟩ => ⟨S2x2048x2048, .f32⟩
  | .hbm, ⟨30, _⟩ => ⟨S2x2048x2048, .f32⟩
  | .hbm, ⟨31, _⟩ => ⟨S2x2048x2048, .f32⟩
  | .hbm, ⟨32, _⟩ => ⟨S2x2048x2048, .f32⟩
  | .hbm, ⟨33, _⟩ => ⟨S4096x2048, .f32⟩
  | .hbm, ⟨34, _⟩ => ⟨S4096x2048, .f32⟩
  | .hbm, ⟨35, _⟩ => ⟨S4096x2048, .bf16⟩
  | .hbm, ⟨36, _⟩ => ⟨S2x2048x2048, .f32⟩
  | .hbm, ⟨37, _⟩ => ⟨S_, .f32⟩
  | .hbm, ⟨38, _⟩ => ⟨S2048, .f32⟩
  | .hbm, ⟨39, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Passes.lean ====
abbrev S2x2048x2048 : Shape := ⟨3, ![2, 2048, 2048]⟩
abbrev S1x2048 : Shape := ⟨2, ![1, 2048]⟩
abbrev S3328x2048 : Shape := ⟨2, ![3328, 2048]⟩
abbrev S4096x2048 : Shape := ⟨2, ![4096, 2048]⟩
abbrev S2048x2048 : Shape := ⟨2, ![2048, 2048]⟩
abbrev S5632x2048 : Shape := ⟨2, ![5632, 2048]⟩
abbrev S512x2048 : Shape := ⟨2, ![512, 2048]⟩
abbrev S512 : Shape := ⟨1, ![512]⟩
abbrev S512x1 : Shape := ⟨2, ![512, 1]⟩
abbrev S4096x3328 : Shape := ⟨2, ![4096, 3328]⟩
abbrev S1664x2048 : Shape := ⟨2, ![1664, 2048]⟩
abbrev S512x1664 : Shape := ⟨2, ![512, 1664]⟩
abbrev S2048x1024 : Shape := ⟨2, ![2048, 1024]⟩
abbrev S512x1024 : Shape := ⟨2, ![512, 1024]⟩
abbrev S4096x5632 : Shape := ⟨2, ![4096, 5632]⟩
abbrev S1408x2048 : Shape := ⟨2, ![1408, 2048]⟩
abbrev S512x1408 : Shape := ⟨2, ![512, 1408]⟩
abbrev S1024x2048 : Shape := ⟨2, ![1024, 2048]⟩

abbrev nBuf : Space → Nat
  | .hbm => 22
  | .vmem => 58
  | .smem => 0
  | _ => 0

abbrev bufTy : (tb : Table) → Fin (tcTables nBuf tb) → BufTy
  | .hbm, ⟨0, _⟩ => ⟨S2x2048x2048, .f32⟩
  | .hbm, ⟨1, _⟩ => ⟨S1x2048, .f32⟩
  | .hbm, ⟨2, _⟩ => ⟨S3328x2048, .bf16⟩
  | .hbm, ⟨3, _⟩ => ⟨S4096x2048, .bf16⟩
  | .hbm, ⟨4, _⟩ => ⟨S2048x2048, .bf16⟩
  | .hbm, ⟨5, _⟩ => ⟨S1x2048, .f32⟩
  | .hbm, ⟨6, _⟩ => ⟨S5632x2048, .bf16⟩
  | .hbm, ⟨7, _⟩ => ⟨S5632x2048, .bf16⟩
  | .hbm, ⟨8, _⟩ => ⟨S4096x2048, .bf16⟩
  | .hbm, ⟨9, _⟩ => ⟨S5632x2048, .bf16⟩
  | .hbm, ⟨10, _⟩ => ⟨S4096x2048, .bf16⟩
  | .hbm, ⟨11, _⟩ => ⟨S4096x2048, .f32⟩
  | .hbm, ⟨12, _⟩ => ⟨S4096x2048, .bf16⟩
  | .hbm, ⟨13, _⟩ => ⟨S4096x3328, .f32⟩
  | .hbm, ⟨14, _⟩ => ⟨S4096x2048, .f32⟩
  | .hbm, ⟨15, _⟩ => ⟨S4096x2048, .bf16⟩
  | .hbm, ⟨16, _⟩ => ⟨S4096x5632, .f32⟩
  | .hbm, ⟨17, _⟩ => ⟨S4096x5632, .f32⟩
  | .hbm, ⟨18, _⟩ => ⟨S4096x5632, .bf16⟩
  | .hbm, ⟨19, _⟩ => ⟨S4096x5632, .bf16⟩
  | .hbm, ⟨20, _⟩ => ⟨S4096x5632, .bf16⟩
  | .hbm, ⟨21, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S1664x2048, .bf16⟩
  | .local _ .vmem, ⟨8, _⟩ => ⟨S1664x2048, .bf16⟩
  | .local _ .vmem, ⟨9, _⟩ => ⟨S512x1664, .f32⟩
  | .local _ .vmem, ⟨10, _⟩ => ⟨S512x1664, .f32⟩
  | .local _ .vmem, ⟨11, _⟩ => ⟨S512x2048, .bf16⟩
  | .local _ .vmem, ⟨12, _⟩ => ⟨S512x2048, .bf16⟩
  | .local _ .vmem, ⟨13, _⟩ => ⟨S2048x1024, .bf16⟩
  | .local _ .vmem, ⟨14, _⟩ => ⟨S2048x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x2048, .f32⟩
  | .local _ .vmem, ⟨20, _⟩ => ⟨S512x2048, .f32⟩
  | .local _ .vmem, ⟨21, _⟩ => ⟨S1x2048, .f32⟩
  | .local _ .vmem, ⟨22, _⟩ => ⟨S512x2048, .bf16⟩
  | .local _ .vmem, ⟨23, _⟩ => ⟨S512x2048, .bf16⟩
  | .local _ .vmem, ⟨24, _⟩ => ⟨S512x2048, .bf16⟩
  | .local _ .vmem, ⟨25, _⟩ => ⟨S512x2048, .bf16⟩
  | .local _ .vmem, ⟨26, _⟩ => ⟨S1408x2048, .bf16⟩
  | .local _ .vmem, ⟨27, _⟩ => ⟨S1408x2048, .bf16⟩
  | .local _ .vmem, ⟨28, _⟩ => ⟨S512x1408, .f32⟩
  | .local _ .vmem, ⟨29, _⟩ => ⟨S512x1408, .f32⟩
  | .local _ .vmem, ⟨30, _⟩ => ⟨S512x2048, .bf16⟩
  | .local _ .vmem, ⟨31, _⟩ => ⟨S512x2048, .bf16⟩
  | .local _ .vmem, ⟨32, _⟩ => ⟨S1408x2048, .bf16⟩
  | .local _ .vmem, ⟨33, _⟩ => ⟨S1408x2048, .bf16⟩
  | .local _ .vmem, ⟨34, _⟩ => ⟨S512x1408, .f32⟩
  | .local _ .vmem, ⟨35, _⟩ => ⟨S512x1408, .f32⟩
  | .local _ .vmem, ⟨36, _⟩ => ⟨S512x1408, .f32⟩
  | .local _ .vmem, ⟨37, _⟩ => ⟨S512x1408, .f32⟩
  | .local _ .vmem, ⟨38, _⟩ => ⟨S512x1408, .bf16⟩
  | .local _ .vmem, ⟨39, _⟩ => ⟨S512x1408, .bf16⟩
  | .local _ .vmem, ⟨40, _⟩ => ⟨S512x2048, .bf16⟩
  | .local _ .vmem, ⟨41, _⟩ => ⟨S512x2048, .bf16⟩
  | .local _ .vmem, ⟨42, _⟩ => ⟨S1408x2048, .bf16⟩
  | .local _ .vmem, ⟨43, _⟩ => ⟨S1408x2048, .bf16⟩
  | .local _ .vmem, ⟨44, _⟩ => ⟨S512x1408, .f32⟩
  | .local _ .vmem, ⟨45, _⟩ => ⟨S512x1408, .f32⟩
  | .local _ .vmem, ⟨46, _⟩ => ⟨S512x1408, .f32⟩
  | .local _ .vmem, ⟨47, _⟩ => ⟨S512x1408, .f32⟩
  | .local _ .vmem, ⟨48, _⟩ => ⟨S512x1408, .bf16⟩
  | .local _ .vmem, ⟨49, _⟩ => ⟨S512x1408, .bf16⟩
  | .local _ .vmem, ⟨50, _⟩ => ⟨S512x1408, .bf16⟩
  | .local _ .vmem, ⟨51, _⟩ => ⟨S512x1408, .bf16⟩
  | .local _ .vmem, ⟨52, _⟩ => ⟨S512x2048, .bf16⟩
  | .local _ .vmem, ⟨53, _⟩ => ⟨S512x2048, .bf16⟩
  | .local _ .vmem, ⟨54, _⟩ => ⟨S1024x2048, .bf16⟩
  | .local _ .vmem, ⟨55, _⟩ => ⟨S1024x2048, .bf16⟩
  | .local _ .vmem, ⟨56, _⟩ => ⟨S512x1024, .f32⟩
  | .local _ .vmem, ⟨57, _⟩ => ⟨S512x1024, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v7_0 : Ref sig .tc := ⟨.hbm, 19, rfl⟩
abbrev main_v7_1 : Ref sig .tc := ⟨.hbm, 20, rfl⟩
abbrev main_v8 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc5_stg3_0 : Ref sig .tc := ⟨.vmem, 36, rfl⟩
abbrev cc5_stg3_1 : Ref sig .tc := ⟨.vmem, 37, rfl⟩
abbrev cc5_stg4_0 : Ref sig .tc := ⟨.vmem, 38, rfl⟩
abbrev cc5_stg4_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg1_1 : Ref sig .tc := ⟨.vmem, 43, rfl⟩
abbrev cc6_stg2_0 : Ref sig .tc := ⟨.vmem, 44, rfl⟩
abbrev cc6_stg2_1 : Ref sig .tc := ⟨.vmem, 45, rfl⟩
abbrev cc6_stg3_0 : Ref sig .tc := ⟨.vmem, 46, rfl⟩
abbrev cc6_stg3_1 : Ref sig .tc := ⟨.vmem, 47, rfl⟩
abbrev cc6_stg4_0 : Ref sig .tc := ⟨.vmem, 48, rfl⟩
abbrev cc6_stg4_1 : Ref sig .tc := ⟨.vmem, 49, rfl⟩
abbrev cc6_stg5_0 : Ref sig .tc := ⟨.vmem, 50, rfl⟩
abbrev cc6_stg5_1 : Ref sig .tc := ⟨.vmem, 51, rfl⟩
abbrev cc7_stg0_0 : Ref sig .tc := ⟨.vmem, 52, rfl⟩
abbrev cc7_stg0_1 : Ref sig .tc := ⟨.vmem, 53, rfl⟩
abbrev cc7_stg1_0 : Ref sig .tc := ⟨.vmem, 54, rfl⟩
abbrev cc7_stg1_1 : Ref sig .tc := ⟨.vmem, 55, rfl⟩
abbrev cc7_stg2_0 : Ref sig .tc := ⟨.vmem, 56, rfl⟩
abbrev cc7_stg2_1 : Ref sig .tc := ⟨.vmem, 57, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc5_sem3_0 : DmaSem sig := 36
abbrev cc5_sem3_1 : DmaSem sig := 37
abbrev cc5_sem4_0 : DmaSem sig := 38
abbrev cc5_sem4_1 : DmaSem sig := 39
abbrev cc6_sem0_0 : DmaSem sig := 40
abbrev cc6_sem0_1 : DmaSem sig := 41
abbrev cc6_sem1_0 : DmaSem sig := 42
abbrev cc6_sem1_1 : DmaSem sig := 43
abbrev cc6_sem2_0 : DmaSem sig := 44
abbrev cc6_sem2_1 : DmaSem sig := 45
abbrev cc6_sem3_0 : DmaSem sig := 46
abbrev cc6_sem3_1 : DmaSem sig := 47
abbrev cc6_sem4_0 : DmaSem sig := 48
abbrev cc6_sem4_1 : DmaSem sig := 49
abbrev cc6_sem5_0 : DmaSem sig := 50
abbrev cc6_sem5_1 : DmaSem sig := 51
abbrev cc7_sem0_0 : DmaSem sig := 52
abbrev cc7_sem0_1 : DmaSem sig := 53
abbrev cc7_sem1_0 : DmaSem sig := 54
abbrev cc7_sem1_1 : DmaSem sig := 55
abbrev cc7_sem2_0 : DmaSem sig := 56
abbrev cc7_sem2_1 : DmaSem sig := 57

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![8, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1664x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x1664 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![8, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x2048 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x2048 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨3, ![8, 4, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S512x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1408x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S512x1408 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![8, 4, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc5_transform_3 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc5_transform_4 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S512x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S1408x2048 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S512x1408 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev stage5_3 : Fin 2 → Memref sig .tc .vmem S512x1408 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true, false]

abbrev stage5_4 : Fin 2 → Memref sig .tc .vmem S512x1408 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true, false]

abbrev grid6 : Pipeline.Grid := ⟨3, ![8, 4, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc6_transform_3 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc6_transform_4 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc6_transform_5 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S512x2048 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S1408x2048 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S512x1408 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev stage6_3 : Fin 2 → Memref sig .tc .vmem S512x1408 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true, false]

abbrev stage6_4 : Fin 2 → Memref sig .tc .vmem S512x1408 .bf16 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, true, false]

abbrev stage6_5 : Fin 2 → Memref sig .tc .vmem S512x1408 .bf16 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true, true, false]

abbrev grid7 : Pipeline.Grid := ⟨3, ![8, 2, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S512x2048 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S1024x2048 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S512x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]
-- ==== PassesRefIdeal.lean ====
abbrev S2x2048x2048 : Shape := ⟨3, ![2, 2048, 2048]⟩
abbrev S1x2048 : Shape := ⟨2, ![1, 2048]⟩
abbrev S3328x2048 : Shape := ⟨2, ![3328, 2048]⟩
abbrev S4096x2048 : Shape := ⟨2, ![4096, 2048]⟩
abbrev S2048x2048 : Shape := ⟨2, ![2048, 2048]⟩
abbrev S5632x2048 : Shape := ⟨2, ![5632, 2048]⟩
abbrev S_ : Shape := ⟨0, ![]⟩
abbrev S4096 : Shape := ⟨1, ![4096]⟩
abbrev S4096x1 : Shape := ⟨2, ![4096, 1]⟩
abbrev S2048x5632 : Shape := ⟨2, ![2048, 5632]⟩
abbrev S4096x5632 : Shape := ⟨2, ![4096, 5632]⟩
abbrev S2048x3328 : Shape := ⟨2, ![2048, 3328]⟩
abbrev S4096x3328 : Shape := ⟨2, ![4096, 3328]⟩

abbrev nBuf : Space → Nat
  | .hbm => 81
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S1x2048, .f32⟩
  | .hbm, ⟨2, _⟩ => ⟨S3328x2048, .bf16⟩
  | .hbm, ⟨3, _⟩ => ⟨S4096x2048, .bf16⟩
  | .hbm, ⟨4, _⟩ => ⟨S2048x2048, .bf16⟩
  | .hbm, ⟨5, _⟩ => ⟨S1x2048, .f32⟩
  | .hbm, ⟨6, _⟩ => ⟨S5632x2048, .bf16⟩
  | .hbm, ⟨7, _⟩ => ⟨S5632x2048, .bf16⟩
  | .hbm, ⟨8, _⟩ => ⟨S4096x2048, .bf16⟩
  | .hbm, ⟨9, _⟩ => ⟨S5632x2048, .bf16⟩
  | .hbm, ⟨10, _⟩ => ⟨S4096x2048, .bf16⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .bf16⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .bf16⟩
  | .hbm, ⟨46, _⟩ => ⟨S2048x5632, .bf16⟩
  | .hbm, ⟨47, _⟩ => ⟨S4096x5632, .f32⟩
  | .hbm, ⟨48, _⟩ => ⟨S2048x5632, .bf16⟩
  | .hbm, ⟨49, _⟩ => ⟨S4096x5632, .f32⟩
  | .hbm, ⟨50, _⟩ => ⟨S4096x5632, .f32⟩
  | .hbm, ⟨51, _⟩ => ⟨S4096x5632, .f32⟩
  | .hbm, ⟨52, _⟩ => ⟨S_, .f32⟩
  | .hbm, ⟨53, _⟩ => ⟨S4096x5632, .f32⟩
  | .hbm, ⟨54, _⟩ => ⟨S4096x5632, .f32⟩
  | .hbm, ⟨55, _⟩ => ⟨S_, .f32⟩
  | .hbm, ⟨56, _⟩ => ⟨S4096x5632, .f32⟩
  | .hbm, ⟨57, _⟩ => ⟨S4096x5632, .f32⟩
  | .hbm, ⟨58, _⟩ => ⟨S2048x5632, .bf16⟩
  | .hbm, ⟨59, _⟩ => ⟨S4096x5632, .f32⟩
  | .hbm, ⟨60, _⟩ => ⟨S4096x5632, .f32⟩
  | .hbm, ⟨61, _⟩ => ⟨S_, .f32⟩
  | .hbm, ⟨62, _⟩ => ⟨S4096x5632, .f32⟩
  | .hbm, ⟨63, _⟩ => ⟨S4096x5632, .f32⟩
  | .hbm, ⟨64, _⟩ => ⟨S4096x5632, .f32⟩
  | .hbm, ⟨65, _⟩ => ⟨S_, .f32⟩
  | .hbm, ⟨66, _⟩ => ⟨S4096x5632, .f32⟩
  | .hbm, ⟨67, _⟩ => ⟨S4096x5632, .f32⟩
  | .hbm, ⟨68, _⟩ => ⟨S4096x5632, .f32⟩
  | .hbm, ⟨69, _⟩ => ⟨S4096x5632, .f32⟩
  | .hbm, ⟨70, _⟩ => ⟨S4096x5632, .f32⟩
  | .hbm, ⟨71, _⟩ => ⟨S4096x5632, .f32⟩
  | .hbm, ⟨72, _⟩ => ⟨S2048x3328, .bf16⟩
  | .hbm, ⟨73, _⟩ => ⟨S4096x3328, .f32⟩
  | .hbm, ⟨74, _⟩ => ⟨S4096x5632, .f32⟩
  | .hbm, ⟨75, _⟩ => ⟨S4096x5632, .f32⟩
  | .hbm, ⟨76, _⟩ => ⟨S4096x5632, .bf16⟩
  | .hbm, ⟨77, _⟩ => ⟨S4096x5632, .bf16⟩
  | .hbm, ⟨78, _⟩ => ⟨S4096x5632, .bf16⟩
  | .hbm, ⟨79, _⟩ => ⟨S2048x2048, .bf16⟩
  | .hbm, ⟨80, _⟩ => ⟨S4096x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩

abbrev nD : Nat := 1
abbrev τ : Topo := Topo.v7x

variable {F : FTy → Type} [FloatOps F]
-- ==== GwFfn.lean ====
abbrev S4096x5632 : Shape := ⟨2, ![4096, 5632]⟩
abbrev S4096x2048 : Shape := ⟨2, ![4096, 2048]⟩
abbrev S5632x2048 : Shape := ⟨2, ![5632, 2048]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwFfnRefIdeal.lean ====
abbrev S4096x5632 : Shape := ⟨2, ![4096, 5632]⟩
abbrev S4096x2048 : Shape := ⟨2, ![4096, 2048]⟩
abbrev S5632x4096 : Shape := ⟨2, ![5632, 4096]⟩
abbrev S5632x2048 : Shape := ⟨2, ![5632, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x4096, .bf16⟩
  | .hbm, ⟨3, _⟩ => ⟨S5632x2048, .f32⟩
  | .hbm, ⟨4, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GwOut.lean ====
abbrev S4096x2048 : Shape := ⟨2, ![4096, 2048]⟩
abbrev S2048x2048 : Shape := ⟨2, ![2048, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwOutRefIdeal.lean ====
abbrev S4096x2048 : Shape := ⟨2, ![4096, 2048]⟩
abbrev S2048x4096 : Shape := ⟨2, ![2048, 4096]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x4096, .bf16⟩
  | .hbm, ⟨3, _⟩ => ⟨S2048x2048, .f32⟩
  | .hbm, ⟨4, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GwIn.lean ====
abbrev S4096x3328 : Shape := ⟨2, ![4096, 3328]⟩
abbrev S4096x2048 : Shape := ⟨2, ![4096, 2048]⟩
abbrev S3328x2048 : Shape := ⟨2, ![3328, 2048]⟩
abbrev S1024x1664 : Shape := ⟨2, ![1024, 1664]⟩
abbrev S1024x1024 : Shape := ⟨2, ![1024, 1024]⟩
abbrev S1664x1024 : Shape := ⟨2, ![1664, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x3328, .bf16⟩
  | .hbm, ⟨1, _⟩ => ⟨S4096x2048, .bf16⟩
  | .hbm, ⟨2, _⟩ => ⟨S3328x2048, .bf16⟩
  | .local _ .vmem, ⟨0, _⟩ => ⟨S1024x1664, .bf16⟩
  | .local _ .vmem, ⟨1, _⟩ => ⟨S1024x1664, .bf16⟩
  | .local _ .vmem, ⟨2, _⟩ => ⟨S1024x1024, .bf16⟩
  | .local _ .vmem, ⟨3, _⟩ => ⟨S1024x1024, .bf16⟩
  | .local _ .vmem, ⟨4, _⟩ => ⟨S1664x1024, .bf16⟩
  | .local _ .vmem, ⟨5, _⟩ => ⟨S1664x1024, .bf16⟩
  | .local _ .vmem, ⟨6, _⟩ => ⟨S1664x1024, .f32⟩
  | _, _ => ⟨S4096x3328, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwInRefIdeal.lean ====
abbrev S4096x3328 : Shape := ⟨2, ![4096, 3328]⟩
abbrev S4096x2048 : Shape := ⟨2, ![4096, 2048]⟩
abbrev S3328x4096 : Shape := ⟨2, ![3328, 4096]⟩
abbrev S3328x2048 : Shape := ⟨2, ![3328, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x3328, .bf16⟩
  | .hbm, ⟨1, _⟩ => ⟨S4096x2048, .bf16⟩
  | .hbm, ⟨2, _⟩ => ⟨S3328x4096, .bf16⟩
  | .hbm, ⟨3, _⟩ => ⟨S3328x2048, .f32⟩
  | .hbm, ⟨4, _⟩ => ⟨S3328x2048, .bf16⟩
  | _, _ => ⟨S4096x3328, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== HidGate.lean ====
abbrev S4096x5632 : Shape := ⟨2, ![4096, 5632]⟩
abbrev S5632x2048 : Shape := ⟨2, ![5632, 2048]⟩
abbrev S4096x2048 : Shape := ⟨2, ![4096, 2048]⟩
abbrev S512x1408 : Shape := ⟨2, ![512, 1408]⟩
abbrev S1408x1024 : Shape := ⟨2, ![1408, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .local _ .vmem, ⟨0, _⟩ => ⟨S512x1408, .bf16⟩
  | .local _ .vmem, ⟨1, _⟩ => ⟨S512x1408, .bf16⟩
  | .local _ .vmem, ⟨2, _⟩ => ⟨S1408x1024, .bf16⟩
  | .local _ .vmem, ⟨3, _⟩ => ⟨S1408x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HidGateRefIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== HidUp.lean ====
abbrev S4096x5632 : Shape := ⟨2, ![4096, 5632]⟩
abbrev S5632x2048 : Shape := ⟨2, ![5632, 2048]⟩
abbrev S4096x2048 : Shape := ⟨2, ![4096, 2048]⟩
abbrev S512x1408 : Shape := ⟨2, ![512, 1408]⟩
abbrev S1408x1024 : Shape := ⟨2, ![1408, 1024]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .local _ .vmem, ⟨0, _⟩ => ⟨S512x1408, .bf16⟩
  | .local _ .vmem, ⟨1, _⟩ => ⟨S512x1408, .bf16⟩
  | .local _ .vmem, ⟨2, _⟩ => ⟨S1408x1024, .bf16⟩
  | .local _ .vmem, ⟨3, _⟩ => ⟨S1408x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== HidUpRefIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .hbm, ⟨4, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Down.lean ====
abbrev S4096x5632 : Shape := ⟨2, ![4096, 5632]⟩
abbrev S5632x2048 : Shape := ⟨2, ![5632, 2048]⟩
abbrev S4096x2048 : Shape := ⟨2, ![4096, 2048]⟩
abbrev S64x256 : Shape := ⟨2, ![64, 256]⟩
abbrev S512x1408 : Shape := ⟨2, ![512, 1408]⟩
abbrev S1408x1024 : Shape := ⟨2, ![1408, 1024]⟩
abbrev S512x1024 : Shape := ⟨2, ![512, 1024]⟩
abbrev S8x128 : Shape := ⟨2, ![8, 128]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 7
  | .vmem => 15
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S64x256, .f32⟩
  | .local _ .vmem, ⟨0, _⟩ => ⟨S512x1408, .bf16⟩
  | .local _ .vmem, ⟨1, _⟩ => ⟨S512x1408, .bf16⟩
  | .local _ .vmem, ⟨2, _⟩ => ⟨S1408x1024, .bf16⟩
  | .local _ .vmem, ⟨3, _⟩ => ⟨S1408x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x128, .f32⟩
  | .local _ .vmem, ⟨13, _⟩ => ⟨S8x128, .f32⟩
  | .local _ .vmem, ⟨14, _⟩ => ⟨S512x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== DownRefIdeal.lean ====
abbrev S4096x5632 : Shape := ⟨2, ![4096, 5632]⟩
abbrev S5632x2048 : Shape := ⟨2, ![5632, 2048]⟩
abbrev S4096x2048 : Shape := ⟨2, ![4096, 2048]⟩
abbrev S_ : Shape := ⟨0, ![]⟩
abbrev S8x512x2x1024 : Shape := ⟨4, ![8, 512, 2, 1024]⟩
abbrev S8x512x2 : Shape := ⟨3, ![8, 512, 2]⟩
abbrev S8x2 : Shape := ⟨2, ![8, 2]⟩
abbrev S8x1x2x1 : Shape := ⟨4, ![8, 1, 2, 1]⟩
abbrev S8x8x2x128 : Shape := ⟨4, ![8, 8, 2, 128]⟩
abbrev S64x256 : Shape := ⟨2, ![64, 256]⟩

abbrev nBuf : Space → Nat
  | .hbm => 20
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S8x512x2x1024, .f32⟩
  | .hbm, ⟨12, _⟩ => ⟨S_, .f32⟩
  | .hbm, ⟨13, _⟩ => ⟨S8x512x2, .f32⟩
  | .hbm, ⟨14, _⟩ => ⟨S_, .f32⟩
  | .hbm, ⟨15, _⟩ => ⟨S8x2, .f32⟩
  | .hbm, ⟨16, _⟩ => ⟨S4096x2048, .bf16⟩
  | .hbm, ⟨17, _⟩ => ⟨S8x1x2x1, .f32⟩
  | .hbm, ⟨18, _⟩ => ⟨S8x8x2x128, .f32⟩
  | .hbm, ⟨19, _⟩ => ⟨S64x256, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== Mixer.lean ====
abbrev S4096x3328 : Shape := ⟨2, ![4096, 3328]⟩
abbrev S1x64 : Shape := ⟨2, ![1, 64]⟩
abbrev S16 : Shape := ⟨1, ![16]⟩
abbrev S8x128 : Shape := ⟨2, ![8, 128]⟩
abbrev S8x128x128 : Shape := ⟨3, ![8, 128, 128]⟩
abbrev S128x8 : Shape := ⟨2, ![128, 8]⟩
abbrev S1x1024 : Shape := ⟨2, ![1, 1024]⟩
abbrev S4096x2048 : Shape := ⟨2, ![4096, 2048]⟩
abbrev S128x3328 : Shape := ⟨2, ![128, 3328]⟩
abbrev S128x256 : Shape := ⟨2, ![128, 256]⟩
abbrev S128x2048 : Shape := ⟨2, ![128, 2048]⟩
abbrev S128x1024 : Shape := ⟨2, ![128, 1024]⟩
abbrev S128x64 : Shape := ⟨2, ![128, 64]⟩
abbrev S256x64 : Shape := ⟨2, ![256, 64]⟩
abbrev S256 : Shape := ⟨1, ![256]⟩
abbrev S256x1 : Shape := ⟨2, ![256, 1]⟩
abbrev S1 : Shape := ⟨1, ![1]⟩
abbrev S128 : Shape := ⟨1, ![128]⟩
abbrev S128x1 : Shape := ⟨2, ![128, 1]⟩
abbrev S128x128 : Shape := ⟨2, ![128, 128]⟩
abbrev S1x128 : Shape := ⟨2, ![1, 128]⟩
abbrev S1x128x128 : Shape := ⟨3, ![1, 128, 128]⟩

abbrev nBuf : Space → Nat
  | .hbm => 11
  | .vmem => 16
  | .smem => 1
  | _ => 0

abbrev bufTy : (tb : Table) → Fin (tcTables nBuf tb) → BufTy
  | .hbm, ⟨0, _⟩ => ⟨S4096x3328, .f32⟩
  | .hbm, ⟨1, _⟩ => ⟨S1x64, .f32⟩
  | .hbm, ⟨2, _⟩ => ⟨S1x64, .f32⟩
  | .hbm, ⟨3, _⟩ => ⟨S16, .f32⟩
  | .hbm, ⟨4, _⟩ => ⟨S8x128, .f32⟩
  | .hbm, ⟨5, _⟩ => ⟨S8x128, .f32⟩
  | .hbm, ⟨6, _⟩ => ⟨S8x128x128, .f32⟩
  | .hbm, ⟨7, _⟩ => ⟨S128x8, .f32⟩
  | .hbm, ⟨8, _⟩ => ⟨S1x1024, .f32⟩
  | .hbm, ⟨9, _⟩ => ⟨S1x1024, .f32⟩
  | .hbm, ⟨10, _⟩ => ⟨S4096x2048, .bf16⟩
  | .local _ .vmem, ⟨0, _⟩ => ⟨S128x3328, .f32⟩
  | .local _ .vmem, ⟨1, _⟩ => ⟨S128x3328, .f32⟩
  | .local _ .vmem, ⟨2, _⟩ => ⟨S128x256, .f32⟩
  | .local _ .vmem, ⟨3, _⟩ => ⟨S128x256, .f32⟩
  | .local _ .vmem, ⟨4, _⟩ => ⟨S1x64, .f32⟩
  | .local _ .vmem, ⟨5, _⟩ => ⟨S1x64, .f32⟩
  | .local _ .vmem, ⟨6, _⟩ => ⟨S8x128, .f32⟩
  | .local _ .vmem, ⟨7, _⟩ => ⟨S8x128, .f32⟩
  | .local _ .vmem, ⟨8, _⟩ => ⟨S8x128x128, .f32⟩
  | .local _ .vmem, ⟨9, _⟩ => ⟨S128x8, .f32⟩
  | .local _ .vmem, ⟨10, _⟩ => ⟨S1x1024, .f32⟩
  | .local _ .vmem, ⟨11, _⟩ => ⟨S1x1024, .f32⟩
  | .local _ .vmem, ⟨12, _⟩ => ⟨S128x2048, .bf16⟩
  | .local _ .vmem, ⟨13, _⟩ => ⟨S128x2048, .bf16⟩
  | .local _ .vmem, ⟨14, _⟩ => ⟨S128x1024, .f32⟩
  | .local _ .vmem, ⟨15, _⟩ => ⟨S128x1024, .f32⟩
  | .local _ .smem, ⟨0, _⟩ => ⟨S16, .f32⟩
  | _, _ => ⟨S4096x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_scratch1 : Ref sig .tc := ⟨.vmem, 15, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c4_i32 : BitVec 32 := 4#32
  let c0_i32_0 : BitVec 32 := 0#32
  ![v3.toNat, c4_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x3328 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .smem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S128x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== MixerIdeal.lean ====
variable {F : FTy → Type} [FloatOps F] [Named F]
def κ : String → Option EReal := fun
  | "mask" => some ⊥
  | "slope0" => some (((Real.sqrt 2)⁻¹ : ℝ) : EReal)
  | "slope10" => some (((32 * (Real.sqrt 2))⁻¹ : ℝ) : EReal)
  | "slope12" => some (((64 * (Real.sqrt 2))⁻¹ : ℝ) : EReal)
  | "slope14" => some (((128 * (Real.sqrt 2))⁻¹ : ℝ) : EReal)
  | "slope2" => some (((2 * (Real.sqrt 2))⁻¹ : ℝ) : EReal)
  | "slope4" => some (((4 * (Real.sqrt 2))⁻¹ : ℝ) : EReal)
  | "slope6" => some (((8 * (Real.sqrt 2))⁻¹ : ℝ) : EReal)
  | "slope8" => some (((16 * (Real.sqrt 2))⁻¹ : ℝ) : EReal)
  | _ => none
-- ==== MixerRefIdeal.lean ====
abbrev S4096x3328 : Shape := ⟨2, ![4096, 3328]⟩
abbrev S1x64 : Shape := ⟨2, ![1, 64]⟩
abbrev S16 : Shape := ⟨1, ![16]⟩
abbrev S8x128 : Shape := ⟨2, ![8, 128]⟩
abbrev S8x128x128 : Shape := ⟨3, ![8, 128, 128]⟩
abbrev S128x8 : Shape := ⟨2, ![128, 8]⟩
abbrev S1x1024 : Shape := ⟨2, ![1, 1024]⟩
abbrev S32x128x3328 : Shape := ⟨3, ![32, 128, 3328]⟩
abbrev S32x128x1024 : Shape := ⟨3, ![32, 128, 1024]⟩
abbrev S32x128x2x8x64 : Shape := ⟨5, ![32, 128, 2, 8, 64]⟩
abbrev S_ : Shape := ⟨0, ![]⟩
abbrev S32x128x2x8 : Shape := ⟨4, ![32, 128, 2, 8]⟩
abbrev S32x128x2x8x1 : Shape := ⟨5, ![32, 128, 2, 8, 1]⟩
abbrev S64 : Shape := ⟨1, ![64]⟩
abbrev S1x1x1x1x64 : Shape := ⟨5, ![1, 1, 1, 1, 64]⟩
abbrev S32x128x128 : Shape := ⟨3, ![32, 128, 128]⟩
abbrev S32x128x2x64 : Shape := ⟨4, ![32, 128, 2, 64]⟩
abbrev S32x128x2 : Shape := ⟨3, ![32, 128, 2]⟩
abbrev S32x128x2x1 : Shape := ⟨4, ![32, 128, 2, 1]⟩
abbrev S1x1x1x64 : Shape := ⟨4, ![1, 1, 1, 64]⟩
abbrev S1x128x2x64 : Shape := ⟨4, ![1, 128, 2, 64]⟩
abbrev S31x128x2x64 : Shape := ⟨4, ![31, 128, 2, 64]⟩
abbrev S32x256x2x64 : Shape := ⟨4, ![32, 256, 2, 64]⟩
abbrev S32x2x128x8x256 : Shape := ⟨5, ![32, 2, 128, 8, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S1x128x256 : Shape := ⟨3, ![1, 128, 256]⟩
abbrev S1x1x256 : Shape := ⟨3, ![1, 1, 256]⟩
abbrev S32x1x1 : Shape := ⟨3, ![32, 1, 1]⟩
abbrev S32x1x256 : Shape := ⟨3, ![32, 1, 256]⟩
abbrev S32x128x256 : Shape := ⟨3, ![32, 128, 256]⟩
abbrev S2x8 : Shape := ⟨2, ![2, 8]⟩
abbrev S2x1x8x1 : Shape := ⟨4, ![2, 1, 8, 1]⟩
abbrev S1x128x1x256 : Shape := ⟨4, ![1, 128, 1, 256]⟩
abbrev S2x128x8x256 : Shape := ⟨4, ![2, 128, 8, 256]⟩
abbrev S32x1x128x1x256 : Shape := ⟨5, ![32, 1, 128, 1, 256]⟩
abbrev S1x2x128x8x256 : Shape := ⟨5, ![1, 2, 128, 8, 256]⟩
abbrev S2x1x8 : Shape := ⟨3, ![2, 1, 8]⟩
abbrev S32x2x128x8 : Shape := ⟨4, ![32, 2, 128, 8]⟩
abbrev S1x2x1x8 : Shape := ⟨4, ![1, 2, 1, 8]⟩
abbrev S32x2x128x8x1 : Shape := ⟨5, ![32, 2, 128, 8, 1]⟩
abbrev S32x2x128x8x64 : Shape := ⟨5, ![32, 2, 128, 8, 64]⟩
abbrev S32x128x2048 : Shape := ⟨3, ![32, 128, 2048]⟩
abbrev S32x128x8x128 : Shape := ⟨4, ![32, 128, 8, 128]⟩
abbrev S32x128x8 : Shape := ⟨3, ![32, 128, 8]⟩
abbrev S32x128x8x1 : Shape := ⟨4, ![32, 128, 8, 1]⟩
abbrev S1x1x8x128 : Shape := ⟨4, ![1, 1, 8, 128]⟩
abbrev S1x128 : Shape := ⟨2, ![1, 128]⟩
abbrev S128x128 : Shape := ⟨2, ![128, 128]⟩
abbrev S8x32x128x128 : Shape := ⟨4, ![8, 32, 128, 128]⟩
abbrev S128x8x1 : Shape := ⟨3, ![128, 8, 1]⟩
abbrev S1x128x8x1 : Shape := ⟨4, ![1, 128, 8, 1]⟩
abbrev S32x128 : Shape := ⟨2, ![32, 128]⟩
abbrev S32x128x1 : Shape := ⟨3, ![32, 128, 1]⟩
abbrev S1024 : Shape := ⟨1, ![1024]⟩
abbrev S1x1x1024 : Shape := ⟨3, ![1, 1, 1024]⟩
abbrev S4096x2048 : Shape := ⟨2, ![4096, 2048]⟩

abbrev nBuf : Space → Nat
  | .hbm => 257
  | .vmem => 0
  | .smem => 0
  | _ => 0

abbrev hbmTy0_0 (i : Nat) : BufTy := match i % 128 with
  | 0 => ⟨S4096x3328, .f32⟩
  | 1 => ⟨S1x64, .f32⟩
  | 2 => ⟨S1x64, .f32⟩
  | 3 => ⟨S16, .f32⟩
  | 4 => ⟨S8x128, .f32⟩
  | 5 => ⟨S8x128, .f32⟩
  | 6 => ⟨S8x128x128, .f32⟩
  | 7 => ⟨S128x8, .f32⟩
  | 8 => ⟨S1x1024, .f32⟩
  | 9 => ⟨S1x1024, .f32⟩
  | 10 => ⟨S32x128x3328, .f32⟩
  | 11 => ⟨S32x128x1024, .f32⟩
  | 12 => ⟨S32x128x2x8x64, .f32⟩
  | 13 => ⟨S32x128x2x8x64, .f32⟩
  | 14 => ⟨S_, .f32⟩
  | 15 => ⟨S32x128x2x8, .f32⟩
  | 16 => ⟨S32x128x2x8x1, .f32⟩
  | 17 => ⟨S_, .f32⟩
  | 18 => ⟨S32x128x2x8x1, .f32⟩
  | 19 => ⟨S32x128x2x8x1, .f32⟩
  | 20 => ⟨S_, .f32⟩
  | 21 => ⟨S32x128x2x8x1, .f32⟩
  | 22 => ⟨S32x128x2x8x1, .f32⟩
  | 23 => ⟨S32x128x2x8x1, .f32⟩
  | 24 => ⟨S32x128x2x8x64, .f32⟩
  | 25 => ⟨S32x128x2x8x64, .f32⟩
  | 26 => ⟨S64, .f32⟩
  | 27 => ⟨S1x1x1x1x64, .f32⟩
  | 28 => ⟨S32x128x2x8x64, .f32⟩
  | 29 => ⟨S32x128x2x8x64, .f32⟩
  | 30 => ⟨S32x128x128, .f32⟩
  | 31 => ⟨S32x128x2x64, .f32⟩
  | 32 => ⟨S32x128x2x64, .f32⟩
  | 33 => ⟨S_, .f32⟩
  | 34 => ⟨S32x128x2, .f32⟩
  | 35 => ⟨S32x128x2x1, .f32⟩
  | 36 => ⟨S_, .f32⟩
  | 37 => ⟨S32x128x2x1, .f32⟩
  | 38 => ⟨S32x128x2x1, .f32⟩
  | 39 => ⟨S_, .f32⟩
  | 40 => ⟨S32x128x2x1, .f32⟩
  | 41 => ⟨S32x128x2x1, .f32⟩
  | 42 => ⟨S32x128x2x1, .f32⟩
  | 43 => ⟨S32x128x2x64, .f32⟩
  | 44 => ⟨S32x128x2x64, .f32⟩
  | 45 => ⟨S64, .f32⟩
  | 46 => ⟨S1x1x1x64, .f32⟩
  | 47 => ⟨S32x128x2x64, .f32⟩
  | 48 => ⟨S32x128x2x64, .f32⟩
  | 49 => ⟨S32x128x128, .f32⟩
  | 50 => ⟨S32x128x2x64, .f32⟩
  | 51 => ⟨S1x128x2x64, .f32⟩
  | 52 => ⟨S_, .f32⟩
  | 53 => ⟨S1x128x2x64, .f32⟩
  | 54 => ⟨S31x128x2x64, .f32⟩
  | 55 => ⟨S32x128x2x64, .f32⟩
  | 56 => ⟨S32x256x2x64, .f32⟩
  | 57 => ⟨S32x2x128x8x256, .f32⟩
  | 58 => ⟨S_, .f32⟩
  | 59 => ⟨S32x2x128x8x256, .f32⟩
  | 60 => ⟨S32x2x128x8x256, .f32⟩
  | 61 => ⟨S128, .i32⟩
  | 62 => ⟨S128x1, .i32⟩
  | 63 => ⟨S256, .i32⟩
  | 64 => ⟨S1x256, .i32⟩
  | 65 => ⟨S_, .i32⟩
  | 66 => ⟨S128x1, .i32⟩
  | 67 => ⟨S128x1, .i32⟩
  | 68 => ⟨S128x256, .i32⟩
  | 69 => ⟨S128x256, .i32⟩
  | 70 => ⟨S128x256, .i32⟩
  | 71 => ⟨S32, .i32⟩
  | 72 => ⟨S_, .i32⟩
  | 73 => ⟨S32, .i32⟩
  | 74 => ⟨S32, .i32⟩
  | 75 => ⟨S_, .i32⟩
  | 76 => ⟨S32, .i32⟩
  | 77 => ⟨S32, .i1⟩
  | 78 => ⟨S_, .i32⟩
  | 79 => ⟨S128x256, .i32⟩
  | 80 => ⟨S128x256, .i1⟩
  | 81 => ⟨S_, .i32⟩
  | 82 => ⟨S128x256, .i32⟩
  | 83 => ⟨S128x256, .i1⟩
  | 84 => ⟨S128x256, .i1⟩
  | 85 => ⟨S1x128x256, .i1⟩
  | 86 => ⟨S_, .i32⟩
  | 87 => ⟨S1x256, .i32⟩
  | 88 => ⟨S1x256, .i1⟩
  | 89 => ⟨S1x1x256, .i1⟩
  | 90 => ⟨S32x1x1, .i1⟩
  | 91 => ⟨S32x1x1, .i1⟩
  | 92 => ⟨S32x1x256, .i1⟩
  | 93 => ⟨S32x1x256, .i1⟩
  | 94 => ⟨S32x1x256, .i1⟩
  | 95 => ⟨S32x128x256, .i1⟩
  | 96 => ⟨S32x128x256, .i1⟩
  | 97 => ⟨S32x128x256, .i1⟩
  | 98 => ⟨S_, .f32⟩
  | 99 => ⟨S16, .f32⟩
  | 100 => ⟨S16, .i32⟩
  | 101 => ⟨S_, .i32⟩
  | 102 => ⟨S16, .i32⟩
  | 103 => ⟨S16, .i32⟩
  | 104 => ⟨S16, .f32⟩
  | 105 => ⟨S_, .f32⟩
  | 106 => ⟨S16, .f32⟩
  | 107 => ⟨S16, .f32⟩
  | 108 => ⟨S16, .f32⟩
  | 109 => ⟨S2x8, .f32⟩
  | 110 => ⟨S2x1x8x1, .f32⟩
  | 111 => ⟨S128x256, .f32⟩
  | 112 => ⟨S1x128x1x256, .f32⟩
  | 113 => ⟨S2x128x8x256, .f32⟩
  | 114 => ⟨S2x128x8x256, .f32⟩
  | 115 => ⟨S2x128x8x256, .f32⟩
  | 116 => ⟨S32x1x128x1x256, .i1⟩
  | 117 => ⟨S1x2x128x8x256, .f32⟩
  | 118 => ⟨S32x2x128x8x256, .f32⟩
  | 119 => ⟨S32x2x128x8x256, .f32⟩
  | 120 => ⟨S_, .f32⟩
  | 121 => ⟨S_, .f32⟩
  | 122 => ⟨S32x2x128x8x256, .i1⟩
  | 123 => ⟨S32x2x128x8x256, .f32⟩
  | 124 => ⟨S32x2x128x8x256, .f32⟩
  | 125 => ⟨S2x1x8, .f32⟩
  | 126 => ⟨S_, .f32⟩
  | 127 => ⟨S32x2x128x8, .f32⟩
  | _ => ⟨S4096x3328, .f32⟩

abbrev hbmTy0_1 (i : Nat) : BufTy := match i % 128 with
  | 0 => ⟨S1x2x1x8, .f32⟩
  | 1 => ⟨S32x2x128x8, .f32⟩
  | 2 => ⟨S32x2x128x8, .f32⟩
  | 3 => ⟨S32x2x128x8x1, .f32⟩
  | 4 => ⟨S32x2x128x8x256, .f32⟩
  | 5 => ⟨S32x2x128x8x256, .f32⟩
  | 6 => ⟨S32x2x128x8x256, .f32⟩
  | 7 => ⟨S_, .f32⟩
  | 8 => ⟨S32x2x128x8, .f32⟩
  | 9 => ⟨S1x2x1x8, .f32⟩
  | 10 => ⟨S32x2x128x8, .f32⟩
  | 11 => ⟨S32x2x128x8, .f32⟩
  | 12 => ⟨S32x2x128x8, .f32⟩
  | 13 => ⟨S32x2x128x8, .f32⟩
  | 14 => ⟨S_, .f32⟩
  | 15 => ⟨S32x2x128x8, .f32⟩
  | 16 => ⟨S32x2x128x8, .f32⟩
  | 17 => ⟨S32x2x128x8x1, .f32⟩
  | 18 => ⟨S32x2x128x8x256, .f32⟩
  | 19 => ⟨S32x2x128x8x256, .f32⟩
  | 20 => ⟨S1x128x2x64, .f32⟩
  | 21 => ⟨S_, .f32⟩
  | 22 => ⟨S1x128x2x64, .f32⟩
  | 23 => ⟨S31x128x2x64, .f32⟩
  | 24 => ⟨S32x128x2x64, .f32⟩
  | 25 => ⟨S32x256x2x64, .f32⟩
  | 26 => ⟨S32x2x128x8x64, .f32⟩
  | 27 => ⟨S32x128x2x8x64, .f32⟩
  | 28 => ⟨S32x128x1024, .f32⟩
  | 29 => ⟨S32x128x2048, .f32⟩
  | 30 => ⟨S_, .f32⟩
  | 31 => ⟨S_, .f32⟩
  | 32 => ⟨S32x128x2048, .f32⟩
  | 33 => ⟨S32x128x2048, .f32⟩
  | 34 => ⟨S32x128x2048, .f32⟩
  | 35 => ⟨S_, .f32⟩
  | 36 => ⟨S32x128x2048, .f32⟩
  | 37 => ⟨S32x128x2048, .f32⟩
  | 38 => ⟨S_, .f32⟩
  | 39 => ⟨S32x128x2048, .f32⟩
  | 40 => ⟨S32x128x2048, .f32⟩
  | 41 => ⟨S32x128x2048, .f32⟩
  | 42 => ⟨S32x128x1024, .f32⟩
  | 43 => ⟨S32x128x1024, .f32⟩
  | 44 => ⟨S32x128x8x128, .f32⟩
  | 45 => ⟨S_, .f32⟩
  | 46 => ⟨S32x128x8, .f32⟩
  | 47 => ⟨S32x128x8x1, .f32⟩
  | 48 => ⟨S_, .f32⟩
  | 49 => ⟨S32x128x8x1, .f32⟩
  | 50 => ⟨S32x128x8x1, .f32⟩
  | 51 => ⟨S32x128x8x128, .f32⟩
  | 52 => ⟨S32x128x8x128, .f32⟩
  | 53 => ⟨S32x128x8x128, .f32⟩
  | 54 => ⟨S_, .f32⟩
  | 55 => ⟨S32x128x8, .f32⟩
  | 56 => ⟨S32x128x8x1, .f32⟩
  | 57 => ⟨S_, .f32⟩
  | 58 => ⟨S32x128x8x1, .f32⟩
  | 59 => ⟨S32x128x8x1, .f32⟩
  | 60 => ⟨S_, .f32⟩
  | 61 => ⟨S32x128x8x1, .f32⟩
  | 62 => ⟨S32x128x8x1, .f32⟩
  | 63 => ⟨S32x128x8x1, .f32⟩
  | 64 => ⟨S32x128x8x128, .f32⟩
  | 65 => ⟨S32x128x8x128, .f32⟩
  | 66 => ⟨S1x1x8x128, .f32⟩
  | 67 => ⟨S32x128x8x128, .f32⟩
  | 68 => ⟨S32x128x8x128, .f32⟩
  | 69 => ⟨S1x1x8x128, .f32⟩
  | 70 => ⟨S32x128x8x128, .f32⟩
  | 71 => ⟨S32x128x8x128, .f32⟩
  | 72 => ⟨S128, .i32⟩
  | 73 => ⟨S128x1, .i32⟩
  | 74 => ⟨S128, .i32⟩
  | 75 => ⟨S1x128, .i32⟩
  | 76 => ⟨S128x128, .i32⟩
  | 77 => ⟨S128x128, .i32⟩
  | 78 => ⟨S128x128, .i1⟩
  | 79 => ⟨S_, .f32⟩
  | 80 => ⟨S_, .f32⟩
  | 81 => ⟨S8x128x128, .i1⟩
  | 82 => ⟨S8x128x128, .f32⟩
  | 83 => ⟨S8x128x128, .f32⟩
  | 84 => ⟨S8x32x128x128, .f32⟩
  | 85 => ⟨S32x128x8x128, .f32⟩
  | 86 => ⟨S128x8x1, .f32⟩
  | 87 => ⟨S1x128x8x1, .f32⟩
  | 88 => ⟨S32x128x8x128, .f32⟩
  | 89 => ⟨S32x128x8x128, .f32⟩
  | 90 => ⟨S32x128x1024, .f32⟩
  | 91 => ⟨S32x128x1024, .f32⟩
  | 92 => ⟨S32x128x1024, .f32⟩
  | 93 => ⟨S_, .f32⟩
  | 94 => ⟨S32x128, .f32⟩
  | 95 => ⟨S32x128x1, .f32⟩
  | 96 => ⟨S_, .f32⟩
  | 97 => ⟨S32x128x1, .f32⟩
  | 98 => ⟨S32x128x1, .f32⟩
  | 99 => ⟨S_, .f32⟩
  | 100 => ⟨S32x128x1, .f32⟩
  | 101 => ⟨S32x128x1, .f32⟩
  | 102 => ⟨S32x128x1, .f32⟩
  | 103 => ⟨S32x128x1024, .f32⟩
  | 104 => ⟨S32x128x1024, .f32⟩
  | 105 => ⟨S1024, .f32⟩
  | 106 => ⟨S1x1x1024, .f32⟩
  | 107 => ⟨S32x128x1024, .f32⟩
  | 108 => ⟨S32x128x1024, .f32⟩
  | 109 => ⟨S32x128x1024, .f32⟩
  | 110 => ⟨S_, .f32⟩
  | 111 => ⟨S32x128, .f32⟩
  | 112 => ⟨S32x128x1, .f32⟩
  | 113 => ⟨S_, .f32⟩
  | 114 => ⟨S32x128x1, .f32⟩
  | 115 => ⟨S32x128x1, .f32⟩
  | 116 => ⟨S_, .f32⟩
  | 117 => ⟨S32x128x1, .f32⟩
  | 118 => ⟨S32x128x1, .f32⟩
  | 119 => ⟨S32x128x1, .f32⟩
  | 120 => ⟨S32x128x1024, .f32⟩
  | 121 => ⟨S32x128x1024, .f32⟩
  | 122 => ⟨S1024, .f32⟩
  | 123 => ⟨S1x1x1024, .f32⟩
  | 124 => ⟨S32x128x1024, .f32⟩
  | 125 => ⟨S32x128x1024, .f32⟩
  | 126 => ⟨S32x128x2048, .f32⟩
  | 127 => ⟨S4096x2048, .f32⟩
  | _ => ⟨S4096x3328, .f32⟩

abbrev hbmTy0_2 (i : Nat) : BufTy := match i % 128 with
  | 0 => ⟨S4096x2048, .bf16⟩
  | _ => ⟨S4096x3328, .f32⟩

abbrev hbmTy (i : Nat) : BufTy := match i / 128 with
  | 0 => hbmTy0_0 i
  | 1 => hbmTy0_1 i
  | 2 => hbmTy0_2 i
  | _ => ⟨S4096x3328, .f32⟩

abbrev bufTy : (tb : Table) → Fin (tcTables nBuf tb) → BufTy
  | .hbm, ⟨i, _⟩ => hbmTy i
  | _, _ => ⟨S4096x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_7 : Ref sig .tc := ⟨.hbm, 72, rfl⟩
abbrev main_v53 : Ref sig .tc := ⟨.hbm, 73, rfl⟩
abbrev main_v54 : Ref sig .tc := ⟨.hbm, 74, rfl⟩
abbrev main_c_8 : Ref sig .tc := ⟨.hbm, 75, rfl⟩
abbrev main_v55 : Ref sig .tc := ⟨.hbm, 76, rfl⟩
abbrev main_v56 : Ref sig .tc := ⟨.hbm, 77, rfl⟩
abbrev main_c_9 : Ref sig .tc := ⟨.hbm, 78, rfl⟩
abbrev main_v57 : Ref sig .tc := ⟨.hbm, 79, rfl⟩
abbrev main_v58 : Ref sig .tc := ⟨.hbm, 80, rfl⟩
abbrev main_c_10 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_c_11 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_12 : Ref sig .tc := ⟨.hbm, 98, rfl⟩
abbrev main_v74 : Ref sig .tc := ⟨.hbm, 99, rfl⟩
abbrev main_v75 : Ref sig .tc := ⟨.hbm, 100, rfl⟩
abbrev main_c_13 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_14 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_cst_15 : Ref sig .tc := ⟨.hbm, 120, rfl⟩
abbrev main_call0_v0 : Ref sig .tc := ⟨.hbm, 121, rfl⟩
abbrev main_call0_v1 : Ref sig .tc := ⟨.hbm, 122, rfl⟩
abbrev main_call0_v2 : Ref sig .tc := ⟨.hbm, 123, rfl⟩
abbrev main_v93 : Ref sig .tc := ⟨.hbm, 124, rfl⟩
abbrev main_v94 : Ref sig .tc := ⟨.hbm, 125, rfl⟩
abbrev main_cst_16 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_cst_17 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_cst_18 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_cst_19 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_cst_20 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_cst_21 : Ref sig .tc := ⟨.hbm, 163, rfl⟩
abbrev main_v127 : Ref sig .tc := ⟨.hbm, 164, rfl⟩
abbrev main_v128 : Ref sig .tc := ⟨.hbm, 165, rfl⟩
abbrev main_cst_22 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_cst_23 : Ref sig .tc := ⟨.hbm, 173, rfl⟩
abbrev main_v135 : Ref sig .tc := ⟨.hbm, 174, rfl⟩
abbrev main_v136 : Ref sig .tc := ⟨.hbm, 175, rfl⟩
abbrev main_cst_24 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_cst_25 : Ref sig .tc := ⟨.hbm, 182, rfl⟩
abbrev main_v142 : Ref sig .tc := ⟨.hbm, 183, rfl⟩
abbrev main_v143 : Ref sig .tc := ⟨.hbm, 184, rfl⟩
abbrev main_cst_26 : Ref sig .tc := ⟨.hbm, 185, rfl⟩
abbrev main_v144 : Ref sig .tc := ⟨.hbm, 186, rfl⟩
abbrev main_v145 : Ref sig .tc := ⟨.hbm, 187, rfl⟩
abbrev main_cst_27 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_cst_28 : Ref sig .tc := ⟨.hbm, 207, rfl⟩
abbrev main_call1_v0 : Ref sig .tc := ⟨.hbm, 208, rfl⟩
abbrev main_call1_v1 : Ref sig .tc := ⟨.hbm, 209, rfl⟩
abbrev main_call1_v2 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_cst_29 : Ref sig .tc := ⟨.hbm, 221, rfl⟩
abbrev main_v174 : Ref sig .tc := ⟨.hbm, 222, rfl⟩
abbrev main_v175 : Ref sig .tc := ⟨.hbm, 223, rfl⟩
abbrev main_cst_30 : Ref sig .tc := ⟨.hbm, 224, rfl⟩
abbrev main_v176 : Ref sig .tc := ⟨.hbm, 225, rfl⟩
abbrev main_v177 : Ref sig .tc := ⟨.hbm, 226, rfl⟩
abbrev main_cst_31 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_cst_32 : Ref sig .tc := ⟨.hbm, 238, rfl⟩
abbrev main_v188 : Ref sig .tc := ⟨.hbm, 239, rfl⟩
abbrev main_v189 : Ref sig .tc := ⟨.hbm, 240, rfl⟩
abbrev main_cst_33 : Ref sig .tc := ⟨.hbm, 241, rfl⟩
abbrev main_v190 : Ref sig .tc := ⟨.hbm, 242, rfl⟩
abbrev main_v191 : Ref sig .tc := ⟨.hbm, 243, rfl⟩
abbrev main_cst_34 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩

abbrev nD : Nat := 1
abbrev τ : Topo := Topo.v7x

variable {F : FTy → Type} [FloatOps F]
-- ==== Patch.lean ====
abbrev S4096x3328 : Shape := ⟨2, ![4096, 3328]⟩
abbrev S4096x256 : Shape := ⟨2, ![4096, 256]⟩
abbrev S1024x256 : Shape := ⟨2, ![1024, 256]⟩

abbrev nBuf : Space → Nat
  | .hbm => 3
  | .vmem => 4
  | .smem => 0
  | _ => 0

abbrev bufTy : (tb : Table) → Fin (tcTables nBuf tb) → BufTy
  | .hbm, ⟨0, _⟩ => ⟨S4096x3328, .bf16⟩
  | .hbm, ⟨1, _⟩ => ⟨S4096x256, .bf16⟩
  | .hbm, ⟨2, _⟩ => ⟨S4096x3328, .bf16⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | _, _ => ⟨S4096x3328, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== PatchRef.lean ====
abbrev S4096x3328 : Shape := ⟨2, ![4096, 3328]⟩
abbrev S4096x256 : Shape := ⟨2, ![4096, 256]⟩
abbrev S_ : Shape := ⟨0, ![]⟩

abbrev nBuf : Space → Nat
  | .hbm => 5
  | .vmem => 0
  | .smem => 0
  | _ => 0

abbrev bufTy : (tb : Table) → Fin (tcTables nBuf tb) → BufTy
  | .hbm, ⟨0, _⟩ => ⟨S4096x3328, .bf16⟩
  | .hbm, ⟨1, _⟩ => ⟨S4096x256, .bf16⟩
  | .hbm, ⟨2, _⟩ => ⟨S_, .i32⟩
  | .hbm, ⟨3, _⟩ => ⟨S_, .i32⟩
  | .hbm, ⟨4, _⟩ => ⟨S4096x3328, .bf16⟩
  | _, _ => ⟨S4096x3328, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩

abbrev nD : Nat := 1
abbrev τ : Topo := Topo.v7x

variable {F : FTy → Type} [FloatOps F]
-- ==== Proof.Talk.lean ====
/-
  Copies between devices in which every semaphore is used once: each semaphore of the call is credited by one copy and
  waited for once. A finite type `C` names the semaphores of a device; semaphore `x` of device `d` is the cell `(d, x)`,
  credited `amt x`, and the copy that credits it hands over `pay d x`.
-/
module

public import Idealize.ShloMosaic.Lib.Pipeline.Launch
public import Idealize.ShloMosaic.Lib.Tactic

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (launchCred owing owing_of_ne)

variable {nD : Nat} {τ : Topo} {sig : RefSig} {Val : EltTy → Type} {Λ : Labels}

/-- The ghost state: the library's rounds algebra. -/
abbrev UR (nD : Nat) (τ : Topo) (sig : RefSig) := URounds (GSem nD τ sig) Unit

local notation "𝕄" => MT nD τ sig Unit Val ℕ (UR nD τ sig) ℕ

/-- Where the rounds algebra sits. -/
def ER : Emb (UR nD τ sig) (MT nD τ sig Unit Val ℕ (UR nD τ sig) ℕ) :=
  (uEmb (nD := nD) (sig := sig) (Ix := Unit) (Val := Val) (Name := ℕ) (U := UR nD τ sig) (Lvl := ℕ)).toEmb

instance : (ER (nD := nD) (τ := τ) (sig := sig) (Val := Val)).LandsIn (upEmb : UEmb _ 𝕄) := by unfold ER; infer_instance

/-! ## Lists of steps -/

/-- The programs of a list, one after the other. -/
def seqs {κ : Proc τ} : List (Prog (TpuEff nD τ sig Val Λ κ) PUnit) → Prog (TpuEff nD τ sig Val Λ κ) PUnit
  | [] => .ret ⟨⟩
  | p :: l => p >>= fun _ => seqs l

/-- The separating conjunction over a list. -/
def sepL {I : Type} (Φ : I → sProp 𝕄) : List I → sProp 𝕄
  | [] => iprop(emp)
  | i :: l => iprop(Φ i ∗ sepL Φ l)

/-- Over all of a finite type, the conjunction is the one over any list of its members without repetitions. -/
theorem sepL_univ {I : Type} [Fintype I] [DecidableEq I] (Φ : I → sProp 𝕄) (l : List I) (hn : l.Nodup) (hc : ∀ i, i ∈ l) :
    bigSep Finset.univ Φ = sepL Φ l := by
  have h : ∀ l : List I, l.Nodup → bigSep l.toFinset Φ = sepL Φ l := fun l => by
    induction l with
    | nil => intro _; rfl
    | cons i l ih =>
      intro hn
      rw [List.toFinset_cons, bigSep_insert (by simpa using (List.nodup_cons.mp hn).1), ih (List.nodup_cons.mp hn).2]; rfl
  rw [← h l hn]
  congr 1; ext i; simp [hc i]

/-- A list of steps run from the resources of each: step `i` turns `A i` into `B i`, beside a state `S` of the steps left. -/
theorem wp_seqs {I : Type} {α : Type} (defs : Defs nD τ sig Val Λ) (𝒱 : Variants) (c : Dev nD) (bd : Option 𝒱.V)
    (p : I → Prog (TpuEff nD τ sig Val Λ .tc) PUnit) (A B : I → sProp 𝕄) (S : List I → sProp 𝕄)
    (Q : α → sProp 𝕄)
    (step : ∀ i l (k : PUnit → Prog (TpuEff nD τ sig Val Λ .tc) α),
      iprop(S (i :: l) ∗ A i) ⊢ iprop(((S l ∗ B i) -∗ wp frame (wpE defs 𝒱 (c : Thread nD τ) bd) Set.univ (k ⟨⟩) Q)
        -∗ wp frame (wpE defs 𝒱 (c : Thread nD τ) bd) Set.univ (p i >>= k) Q))
    (l : List I) (k : PUnit → Prog (TpuEff nD τ sig Val Λ .tc) α) :
    iprop(S l ∗ sepL A l) ⊢ iprop(((S [] ∗ sepL B l) -∗ wp frame (wpE defs 𝒱 (c : Thread nD τ) bd) Set.univ (k ⟨⟩) Q)
        -∗ wp frame (wpE defs 𝒱 (c : Thread nD τ) bd) Set.univ (seqs (l.map p) >>= k) Q) := by
  induction l generalizing k with
  | nil =>
    iintro ⟨HS, -⟩ Hk
    rw [show seqs (([] : List I).map p) >>= k = k ⟨⟩ from rfl]
    iapply Hk
    isplitl [HS]; · iexact HS
    unfold sepL; iempintro
  | cons i l ih =>
    unfold sepL
    iintro ⟨HS, HA, HL⟩ Hk
    rw [show seqs ((i :: l).map p) >>= k = p i >>= fun u => (seqs (l.map p) >>= k) from bind_assoc _ _ _]
    iapply (step i l _) $$ [HS HA]
    · isplitl [HS] <;> iassumption
    iintro ⟨HS, HB⟩
    iapply (ih k) $$ [HS HL]
    · isplitl [HS] <;> iassumption
    iintro ⟨HS, HL⟩
    iapply Hk
    isplitl [HS]; · iexact HS
    isplitl [HB] <;> iassumption

/-- The same for a list that names every member of a finite type once. -/
theorem wp_seqs_univ {I : Type} [Fintype I] [DecidableEq I] {α : Type} (defs : Defs nD τ sig Val Λ) (𝒱 : Variants) (c : Dev nD) (bd : Option 𝒱.V)
    (p : I → Prog (TpuEff nD τ sig Val Λ .tc) PUnit) (A B : I → sProp 𝕄) (S : List I → sProp 𝕄)
    (Q : α → sProp 𝕄) (l : List I) (hn : l.Nodup) (hc : ∀ i, i ∈ l)
    (step : ∀ i l (k : PUnit → Prog (TpuEff nD τ sig Val Λ .tc) α),
      iprop(S (i :: l) ∗ A i) ⊢ iprop(((S l ∗ B i) -∗ wp frame (wpE defs 𝒱 (c : Thread nD τ) bd) Set.univ (k ⟨⟩) Q)
        -∗ wp frame (wpE defs 𝒱 (c : Thread nD τ) bd) Set.univ (p i >>= k) Q))
    (k : PUnit → Prog (TpuEff nD τ sig Val Λ .tc) α) :
    iprop(S l ∗ bigSep Finset.univ A) ⊢ iprop(((S [] ∗ bigSep Finset.univ B) -∗ wp frame (wpE defs 𝒱 (c : Thread nD τ) bd) Set.univ (k ⟨⟩) Q)
        -∗ wp frame (wpE defs 𝒱 (c : Thread nD τ) bd) Set.univ (seqs (l.map p) >>= k) Q) := by
  rw [sepL_univ A l hn hc, sepL_univ B l hn hc]
  exact wp_seqs defs 𝒱 c bd p A B S Q step l k

/-- Two lists of steps in a row. -/
theorem seqs_append {κ : Proc τ} (l l' : List (Prog (TpuEff nD τ sig Val Λ κ) PUnit)) : seqs (l ++ l') = seqs l >>= fun _ => seqs l' := by
  induction l with
  | nil => rfl
  | cons p l ih =>
    show (p >>= fun _ => seqs (l ++ l')) = (p >>= fun _ => seqs l) >>= fun _ => seqs l'
    rw [ih, bind_assoc]

/-! ## The schedule -/

variable {C : Type} [Fintype C] [DecidableEq C] (sem : C → SemLoc sig)

/-- Semaphore `x` of device `d`. -/
abbrev cellG (p : Dev nD × C) : GSem nD τ sig := ((p.1 : Thread nD τ), sem p.2)

omit [Fintype C] [DecidableEq C] in
theorem cellG_inj (hsem : Function.Injective sem) : Function.Injective (cellG (nD := nD) (τ := τ) sem) := by
  rintro ⟨d, x⟩ ⟨d', x'⟩ h
  have h1 : d = d' := congrArg (fun g : GSem nD τ sig => g.1.1) h
  have h2 : sem x = sem x' := congrArg Prod.snd h
  rw [h1, hsem h2]

variable (amt : C → ℕ) (pay : Dev nD → C → sProp (MT nD τ sig Unit Val ℕ (UR nD τ sig) ℕ))

/-- Every cell has one round of one duty. -/
def sched (hamt : ∀ x, 0 < amt x) : Rounds.Schedule (GSem nD τ sig) Unit 𝕄 where
  duties _ r := if r = 0 then {()} else ∅
  amount g _ _ := Function.extend (cellG (nD := nD) (τ := τ) sem) (fun p => amt p.2) (fun _ => 1) g
  payload g _ _ := Function.extend (cellG (nD := nD) (τ := τ) sem) (fun p => pay p.1 p.2) (fun _ => iprop(emp)) g
  amount_pos g r d _ := by
    classical
    unfold Function.extend
    split
    · exact hamt _
    · exact Nat.one_pos

variable {sem amt pay}
variable (hamt : ∀ x, 0 < amt x) (hsem : Function.Injective sem)

omit [Fintype C] [DecidableEq C] in
theorem duty_mem (g : GSem nD τ sig) : () ∈ (sched (nD := nD) (τ := τ) (Val := Val) sem amt pay hamt).duties g 0 := Finset.mem_singleton_self _
omit [Fintype C] [DecidableEq C] in
theorem duties_zero (g : GSem nD τ sig) : (sched (nD := nD) (τ := τ) (Val := Val) sem amt pay hamt).duties g 0 = {()} := rfl
omit [Fintype C] [DecidableEq C] in
theorem duties_later (g : GSem nD τ sig) (r : ℕ) (h : 1 ≤ r) : (sched (nD := nD) (τ := τ) (Val := Val) sem amt pay hamt).duties g r = ∅ := if_neg (by omega)
omit [Fintype C] [DecidableEq C] in
include hsem in
theorem amount_cell (p : Dev nD × C) (r : ℕ) (d : Unit) : (sched (nD := nD) (τ := τ) (Val := Val) sem amt pay hamt).amount (cellG sem p) r d = amt p.2 :=
  (cellG_inj sem hsem).extend_apply (fun p : Dev nD × C => amt p.2) (fun _ => 1) p
omit [Fintype C] [DecidableEq C] in
include hsem in
theorem payload_cell (p : Dev nD × C) (r : ℕ) (d : Unit) : (sched (nD := nD) (τ := τ) (Val := Val) sem amt pay hamt).payload (cellG sem p) r d = pay p.1 p.2 :=
  (cellG_inj sem hsem).extend_apply (fun p : Dev nD × C => pay p.1 p.2) (fun _ => iprop(emp)) p
omit [Fintype C] [DecidableEq C] in
include hsem in
theorem expect_cell (p : Dev nD × C) : (sched (nD := nD) (τ := τ) (Val := Val) sem amt pay hamt).expect (cellG sem p) 0 = amt p.2 := by
  unfold Rounds.Schedule.expect
  rw [duties_zero]; unfold Rounds.Schedule.amountOf
  rw [Finset.sum_singleton, amount_cell hamt hsem]

omit [Fintype C] [DecidableEq C] in
include hsem in
theorem rest_cell (p : Dev nD × C) :
    (bigSep ((sched (nD := nD) (τ := τ) (Val := Val) sem amt pay hamt).duties (cellG sem p) 0 \ ∅) fun d => (sched (nD := nD) (τ := τ) (Val := Val) sem amt pay hamt).payload (cellG sem p) 0 d) = pay p.1 p.2 := by
  rw [Finset.sdiff_empty, duties_zero, bigSep_singleton, payload_cell hamt hsem]
omit [Fintype C] [DecidableEq C] in
theorem payload_storable (hst : ∀ d x, Storable (upEmb : UEmb _ 𝕄) (pay d x)) (g : GSem nD τ sig) (r : ℕ) (d : Unit) :
    Storable (upEmb : UEmb _ 𝕄) ((sched (nD := nD) (τ := τ) (Val := Val) sem amt pay hamt).payload g r d) := by
  classical
  show Storable (upEmb : UEmb _ 𝕄) (Function.extend (cellG (nD := nD) (τ := τ) sem) (fun p => pay p.1 p.2) (fun _ => iprop(emp)) g)
  unfold Function.extend
  split
  · exact hst _ _
  · infer_instance

/-! ## What is known throughout, and the rules -/

/-- Every cell's invariant, and that its round is open. -/
def Inv (pay : Dev nD → C → sProp 𝕄) (κ : Dev nD × C → ℕ) : sProp 𝕄 :=
  bigSep Finset.univ fun p : Dev nD × C =>
    iprop(cellInv ER (sched sem amt pay hamt) (κ p) (cellG sem p) ∗ reached ER (cellG (τ := τ) sem p) 0)

instance (pay : Dev nD → C → sProp 𝕄) (κ : Dev nD × C → ℕ) : Persistent (Inv (τ := τ) hamt pay κ (sem := sem)) := by
  unfold Inv; infer_instance

/-- One cell's invariant and its open round. -/
theorem Inv_cell (κ : Dev nD × C → ℕ) (p : Dev nD × C) :
    Inv (τ := τ) hamt pay κ (sem := sem) ⊢ iprop(cellInv ER (sched sem amt pay hamt) (κ p) (cellG sem p) ∗ reached ER (cellG (τ := τ) sem p) 0) :=
  bigSep_elim (Finset.mem_univ p)

/-- The owner of a cell has not waited yet. -/
abbrev before (Val : EltTy → Type) (sem : C → SemLoc sig) (p : Dev nD × C) : sProp 𝕄 := atPos ER (cellG (τ := τ) sem p) 0 ∅ 0
/-- The owner of a cell has waited. -/
abbrev after (Val : EltTy → Type) (sem : C → SemLoc sig) (p : Dev nD × C) : sProp 𝕄 := atPos ER (cellG (τ := τ) sem p) 1 ∅ 0
/-- The right to make the copy that credits a cell. -/
abbrev tok (Val : EltTy → Type) (sem : C → SemLoc sig) (p : Dev nD × C) : sProp 𝕄 := dutyTok ER (cellG (τ := τ) sem p) 0 ()
/-- The credit a cell is waited with. -/
abbrev credit (Val : EltTy → Type) (sem : C → SemLoc sig) (amt : C → ℕ) (p : Dev nD × C) : sProp 𝕄 := cred (tallyAt (cellG (τ := τ) sem p) () (amt p.2))

section rules

variable (defs : Defs nD τ sig Val Λ) (𝒱 : Variants) (bd : Option 𝒱.V) {α : Type} {Q : α → sProp (MT nD τ sig Unit Val ℕ (UR nD τ sig) ℕ)}

include hsem in
/-- A wait on a cell: the payload comes with it. -/
theorem wp_wait (κ : Dev nD × C → ℕ) (d : Dev nD) (x : C) {w : TpuEff nD τ sig Val Λ .tc PUnit}
    (hw : ∀ K : PUnit → sProp 𝕄, wpE defs 𝒱 (d : Thread nD τ) bd Set.univ w K = waitSpec (d : Thread nD τ) Set.univ (sem x) (amt x) K)
    {O : CellTallies nD τ sig Unit} {W : Waits sig Unit} {k : PUnit → Prog (TpuEff nD τ sig Val Λ .tc) α} :
    iprop(Inv hamt pay κ (sem := sem) ∗ credit Val sem amt (d, x) ∗ owes (d : Thread nD τ) O W ∗ MayWait (d : Thread nD τ) (sem x) () O
        ∗ before Val sem (d, x))
      ⊢ iprop(((owes (d : Thread nD τ) O (insert (sem x, ()) W) ∗ after (τ := τ) Val sem (d, x) ∗ pay d x)
            -∗ wp frame (wpE defs 𝒱 (d : Thread nD τ) bd) Set.univ (k ⟨⟩) Q)
          -∗ wp frame (wpE defs 𝒱 (d : Thread nD τ) bd) Set.univ (.op w k) Q) := by
  iintro ⟨#HI, Hc, HO, Hm, Hat⟩ Hk
  ihave Hcell := (Inv_cell hamt κ (d, x)) $$ HI
  icases Hcell with ⟨#Hcell, -⟩
  iapply (Rounds.wp_wait_rest_token 𝒱 ER (sched sem amt pay hamt) (d : Thread nD τ) bd (κ := κ (d, x)) (sm := sem x) hw (Set.mem_univ _) () (O := O) (W := W)
      (R := 0) (m := 0) (T := ∅) (by rw [Nat.zero_add]; exact (expect_cell (pay := pay) hamt hsem (d, x)).symm)) $$ [Hc HO Hm Hat]
  · isplitr; · iexact Hcell
    isplitl [Hc]; · iexact Hc
    isplitl [HO]; · iexact HO
    isplitl [Hm]; · iexact Hm
    iexact Hat
  iintro ⟨HO, Hat, -, Hpay⟩
  iapply Hk
  isplitl [HO]; · iexact HO
  isplitl [Hat]; · iexact Hat
  ihave Hpay' := (Entails.of_eq (rest_cell hamt hsem (pay := pay) (d, x))) $$ Hpay
  iexact Hpay'

/-- A cell waited for closes: its counter is at zero. -/
theorem close (κ : Dev nD × C → ℕ) (p : Dev nD × C) :
    iprop(Inv hamt pay κ (sem := sem) ∗ after (τ := τ) Val sem p) ⊢ |={Set.univ}=> (semVal (cellG sem p) 0 : sProp 𝕄) := by
  iintro ⟨#HI, Hat⟩
  ihave Hcell := (Inv_cell hamt κ p) $$ HI
  icases Hcell with ⟨#Hcell, -⟩
  iapply (Rounds.cell_close ER (sched sem amt pay hamt) (Set.mem_univ (κ p)) (fun h => h) (R := 1) (duties_later hamt (cellG sem p)))
  isplitr; · iexact Hcell
  iexact Hat

end rules

/-! ## The launch -/

/-- The rounds algebra's initial element: every cell's round open, every duty's token outstanding. -/
def u₀ (sem : C → SemLoc sig) : UR nD τ sig :=
  initOf (Finset.univ.image (cellG (nD := nD) (τ := τ) sem)) (Finset.univ.image fun p : Dev nD × C => (cellG sem p, 0, ()))

include hsem in
/-- The cells' invariants are made from their counters at zero. -/
theorem fund (hst : ∀ d x, Storable (upEmb : UEmb _ 𝕄) (pay d x)) :
    iprop((bigSep Finset.univ fun p : Dev nD × C => semVal (cellG sem p) 0) ∗ ownU (u₀ (nD := nD) (τ := τ) sem))
      ⊢ |={Set.univ}=> iprop(∃ κ : Dev nD × C → ℕ, Inv hamt pay κ (sem := sem) ∗ (bigSep Finset.univ fun p => before Val sem p)
          ∗ bigSep Finset.univ fun p => tok (τ := τ) Val sem p) := by
  haveI := payload_storable (τ := τ) hamt (sem := sem) hst
  have hin := cellG_inj (nD := nD) (τ := τ) sem hsem
  have himg : ∀ Φ : GSem nD τ sig → sProp 𝕄, bigSep (Finset.univ.image (cellG (nD := nD) (τ := τ) sem)) Φ
      = bigSep Finset.univ fun p : Dev nD × C => Φ (cellG sem p) := fun Φ => bigSep_image_of_injOn hin.injOn Φ
  have htok : ∀ Φ : GSem nD τ sig × ℕ × Unit → sProp 𝕄,
      bigSep (Finset.univ.image fun p : Dev nD × C => (cellG sem p, 0, ())) Φ
        = bigSep Finset.univ fun p : Dev nD × C => Φ (cellG sem p, 0, ()) :=
    fun Φ => bigSep_image_of_injOn (fun a _ b _ h => hin (congrArg Prod.fst h)) Φ
  iintro ⟨Hv, Hu⟩
  ihave Hu' := (show ownU (u₀ (nD := nD) (τ := τ) sem) ⊢ BI.own ((ER (Val := Val)) (u₀ (nD := nD) (τ := τ) sem)) from BI.Entails.refl _) $$ Hu
  unfold u₀
  imod (Rounds.fund (ER (Val := Val)) (sched sem amt pay hamt) _ _) $$ Hu' with ⟨Hst, Hr, Hat, Htok⟩
  ihave Hst := (Entails.of_eq (himg _)) $$ Hst
  ihave Hr := (Entails.of_eq (himg _)) $$ Hr
  ihave Hat := (Entails.of_eq (himg _)) $$ Hat
  ihave Htok := (Entails.of_eq (htok _)) $$ Htok
  ihave Hb := (show iprop((bigSep Finset.univ fun p : Dev nD × C => (semVal (cellG sem p) 0 : sProp 𝕄))
      ∗ bigSep Finset.univ fun p : Dev nD × C => roundState ER (sched sem amt pay hamt) (cellG sem p) 0)
      ⊢ bigSep Finset.univ fun p : Dev nD × C => body ER (sched sem amt pay hamt) (cellG sem p) from
      (Entails.of_eq (bigSep_sep _ _ _).symm).trans (bigSep_mono fun p _ => body_intro ER (sched sem amt pay hamt) (cellG sem p))) $$ [Hv Hst]
  · isplitl [Hv] <;> iassumption
  imod (inv_alloc_family Finset.univ (fun p : Dev nD × C => body ER (sched sem amt pay hamt) (cellG sem p)) ∅) $$ Hb with ⟨%κ, -, Hinv⟩
  imodintro
  iexists κ
  isplitl [Hinv Hr]
  · unfold Inv
    rw [bigSep_sep']
    isplitl [Hinv] <;> iassumption
  isplitl [Hat] <;> iassumption

/-- One index at every TensorCore cell. -/
def lvIx (g : GSem nD τ sig) : Finset Unit := if g.1.2 = Proc.tc then {()} else ∅

/-- Every device's rights to assign levels give the levels `lv` of every TensorCore cell. -/
theorem levels_all (lv : GSem nD τ sig → Unit → ℕ) :
    (bigSep Finset.univ fun c : Dev nD => (Idealize.ShloMosaic.levels0 c : sProp 𝕄)) ⊢ |==> levAts lvIx lv := by
  refine (bigSep_mono fun c _ => lev_assign_cells (c.tc : Thread nD τ) lvIx lv).trans <| (BI.bigSep_bupd _ _).trans <| BI.bupd_mono ?_
  rw [bigSep_sep']
  refine BI.Entails.trans ?_ (levAts_of_cores lvIx lv)
  have hsc (d : Dev nD) (p : Proc τ) (hp : p ∈ Finset.univ.erase (Proc.tc : Proc τ)) :
      (coreLevAts ((d, p) : Thread nD τ) lvIx lv : sProp 𝕄) = BI.emp := by
    unfold coreLevAts
    rw [bigSep_congr (Ψ := fun _ : SemLoc sig => (BI.emp : sProp 𝕄)) fun sm _ => by
      rw [show lvIx (((d, p) : Thread nD τ), sm) = ∅ from if_neg (Finset.ne_of_mem_erase hp), BI.bigSep_empty]]
    exact BI.bigSep_emp_const _
  rw [bigSep_threads (fun c : Thread nD τ => (coreLevAts c lvIx lv : sProp 𝕄)),
    bigSep_congr (Ψ := fun _ : Dev nD => (BI.emp : sProp 𝕄)) (s := Finset.univ)
      (Φ := fun d : Dev nD => bigSep (Finset.univ.erase Proc.tc) fun p => (coreLevAts ((d, p) : Thread nD τ) lvIx lv : sProp 𝕄))
      fun d _ => (bigSep_congr (hsc d)).trans (BI.bigSep_emp_const _), BI.bigSep_emp_const]
  refine (show _ ⊢ (_ : sProp 𝕄) from ?_)
  iintro ⟨-, H⟩
  isplitl [H]; · iexact H
  iempintro

include hsem in
/-- A whole run from the run of each device: every device is given every cell's invariant, its own cells unwaited, what
    `H` says it gets of the devices' buffers and tokens, and the credit the others owe it; it must end with every one of its
    scoped semaphores at zero, owing nothing. -/
theorem launch [∀ e, Nonempty (Val e)] (hst : ∀ d x, Storable (upEmb : UEmb _ 𝕄) (pay d x))
    (hscoped : (Finset.univ.filter fun sm : SemLoc sig => sm.isScoped .tc) = Finset.univ.image sem)
    (defs : Defs nD τ sig Val Λ) (𝒱 : Variants) (main : Dev nD → Prog (TpuEff nD τ sig Val Λ .tc) PUnit)
    (m : (ℓ : Loc nD τ sig) → Buf Val ℓ) (g : Dev nD → PrngReg)
    (O₀ : Dev nD → CellTallies nD τ sig Unit) (lv : GSem nD τ sig → Unit → ℕ) (H Fn : Dev nD → sProp 𝕄)
    (hgroup : iprop((bigSep Finset.univ fun c : Dev nD => Idealize.ShloMosaic.unscopedBufs c fun b => m ((c : Thread nD τ).loc b))
        ∗ bigSep Finset.univ fun p => tok (τ := τ) Val sem p) ⊢ bigSep Finset.univ H)
    (hrun : ∀ (κ : Dev nD × C → ℕ) (c : Dev nD), iprop(Inv hamt pay κ (sem := sem) ∗ scopedBufs (c : Thread nD τ) ∗ opIdle (c : Thread nD τ) ∗ H c
          ∗ (bigSep Finset.univ fun x => before Val sem (c, x))
          ∗ owes (c : Thread nD τ) (O₀ c) ∅ ∗ levAts lvIx lv ∗ launchCred O₀ c)
        ⊢ wp frame (wpE defs 𝒱 (c : Thread nD τ) none) Set.univ (main c)
            fun _ => iprop((Fn c ∗ scopedSems0 (c : Thread nD τ)) ∗ ∃ W, owes (c : Thread nD τ) 0 W))
    (Qd : Dev nD → MemSt nD τ sig Val → Prop)
    (hread : ∀ (c : Dev nD) (s' : Phys nD τ sig Val), iprop(Fn c ∗ SI s') ⊢ |={Set.univ}=> iprop(⌜Qd c s'.mem⌝ ∗ SI s')) :
    θ_run defs (onTc main) ⟨m, fun _ => 0, g⟩ fun r =>
      (∀ c, Qd c r.2) ∧ ∀ g' : GSem nD τ sig, (g'.1.2 ≠ .tc ∨ g'.2.isScoped .tc = true) → r.2.sem g' = 0 := by
  classical
  have hss (c : Dev nD) : (scopedSems0 (c : Thread nD τ) : sProp 𝕄) = bigSep Finset.univ fun x : C => semVal (cellG sem (c, x)) 0 := by
    rw [show (scopedSems0 (c : Thread nD τ) : sProp 𝕄) = _ from scopedSems0_tc c, hscoped]
    exact bigSep_image_of_injOn hsem.injOn _
  refine (θ_run defs _ _).mono (Q := fun r => (∀ c : Dev nD, Qd c r.2 ∧ ∀ sm : SemLoc sig, sm.isScoped .tc = true → r.2.sem ((c : Thread nD τ), sm) = 0)
      ∧ ∀ g' : GSem nD τ sig, g'.1.2 ≠ .tc → r.2.sem g' = 0)
    (fun r hr => ⟨fun c => (hr.1 c).1, sems_of_reads (fun c => (hr.1 c).2) hr.2⟩) (adequate_tpu defs _ _ _
    (reflect_intro_fupd_tc_sems (X := Dev nD × C → ℕ) 𝒱 (owing O₀) 0 (noBookings fun _ => le_rfl) (owing_of_ne O₀) (u₀ (nD := nD) (τ := τ) sem)
      (fun κ c => iprop(Inv hamt pay κ (sem := sem) ∗ scopedBufs (c : Thread nD τ) ∗ opIdle (c : Thread nD τ) ∗ H c
          ∗ (bigSep Finset.univ fun x => before Val sem (c, x))
          ∗ owes (c : Thread nD τ) (O₀ c) ∅ ∗ levAts lvIx lv ∗ launchCred O₀ c))
      (fun _ c => iprop(Fn c ∗ scopedSems0 (c : Thread nD τ)))
      (fun _ => iprop(emp)) Set.univ ?_ (fun κ c => ?_) fun _ => ?_))
  · have hcore (c : Dev nD) :
        coreInit (Ix := Unit) (Name := ℕ) (U := UR nD τ sig) (Lvl := ℕ) (owing O₀) 0 (⟨m, fun _ => 0, g⟩ : MemSt nD τ sig Val) (c : Thread nD τ)
          ⊢ iprop((scopedBufs (c : Thread nD τ) ∗ opIdle (c : Thread nD τ) ∗ owes (c : Thread nD τ) (O₀ c) ∅ ∗ launchCred O₀ c)
              ∗ Idealize.ShloMosaic.levels0 c ∗ Idealize.ShloMosaic.unscopedBufs c (fun b => m ((c : Thread nD τ).loc b))
              ∗ bigSep Finset.univ fun x : C => semVal (cellG sem (c, x)) 0) :=
      (Pipeline.coreInit_boundary_owing O₀ m g c).trans (by
        unfold boundary
        rw [hss c]
        iintro ⟨⟨Hsc, Hss, Hop⟩, Hub, -, HL, Hlv, -, Hcr⟩
        isplitl [Hsc Hop HL Hcr]
        · isplitl [Hsc]; · iexact Hsc
          isplitl [Hop]; · iexact Hop
          isplitl [HL] <;> iassumption
        isplitl [Hlv]; · iexact Hlv
        isplitl [Hub] <;> iassumption)
    iintro ⟨Hcores, Hu⟩
    ihave Hc := (show (bigSep Finset.univ fun d : Dev nD =>
        coreInit (Ix := Unit) (Name := ℕ) (U := UR nD τ sig) (Lvl := ℕ) (owing O₀) 0 (⟨m, fun _ => 0, g⟩ : MemSt nD τ sig Val) (d : Thread nD τ)) ⊢ _
      from (bigSep_mono fun c _ => hcore c).trans (by simp only [bigSep_sep']; exact BI.Entails.refl _)) $$ Hcores
    icases Hc with ⟨⟨Hsc, Hop, HL, Hcr⟩, Hlv, Hub, Hv⟩
    imod (levels_all lv) $$ Hlv with #Hla
    ihave Hv := (Entails.of_eq (BI.bigSep_univ_prod fun p : Dev nD × C => (semVal (cellG sem p) 0 : sProp 𝕄)).symm) $$ Hv
    imod (fund hamt hsem hst) $$ [Hv Hu] with ⟨%κ, #HI, Hat, Htok⟩
    · isplitl [Hv] <;> iassumption
    ihave Hat := (Entails.of_eq (BI.bigSep_univ_prod fun p : Dev nD × C => (before Val sem p : sProp 𝕄))) $$ Hat
    ihave HH := hgroup $$ [Hub Htok]
    · isplitl [Hub] <;> iassumption
    imodintro
    iexists κ
    isplitr []
    · simp only [bigSep_sep']
      isplitr; · iapply (bigSep_of_persistent Finset.univ); iexact HI
      isplitl [Hsc]; · iexact Hsc
      isplitl [Hop]; · iexact Hop
      isplitl [HH]; · iexact HH
      isplitl [Hat]; · iexact Hat
      isplitl [HL]; · iexact HL
      isplitr; · iapply (bigSep_of_persistent Finset.univ); iexact Hla
      iexact Hcr
    · iempintro
  · refine (hrun κ c).trans (Entails.of_eq ?_)
    unfold post; simp only [liftTc_tc]
  · have hcore (c : Dev nD) (s' : Phys nD τ sig Val) : iprop((Fn c ∗ scopedSems0 (c : Thread nD τ)) ∗ SI s') ⊢ |={Set.univ}=>
        iprop(⌜Qd c s'.mem ∧ ∀ sm : SemLoc sig, sm.isScoped .tc = true → s'.mem.sem ((c : Thread nD τ), sm) = 0⌝ ∗ SI s') := by
      iintro ⟨⟨HF, Hss⟩, HSI⟩
      ihave %hz := (tcScoped_read_pers c s') $$ [Hss HSI]
      · isplitl [Hss] <;> iassumption
      imod (hread c s') $$ [HF HSI] with ⟨%hq, HSI⟩
      · isplitl [HF] <;> iassumption
      imodintro
      isplitr
      · ipureintro; exact ⟨hq, hz⟩
      · iexact HSI
    iintro ⟨HF, -, Hsc⟩ %s' HSI
    ihave %hsc := (scSems_read_zero m g s') $$ [Hsc HSI]
    · isplitl [Hsc] <;> iassumption
    imod (posts_fupd Finset.univ hcore s') $$ [HF HSI] with %h
    · isplitl [HF] <;> iassumption
    imodintro
    ipureintro
    exact ⟨fun c => h c (Finset.mem_univ c), hsc⟩

end Cert.Talk

end
-- ==== Proof.Pieces.lean ====
/-
  Facts about parts of a memref that both exchanges use: parts cut out of a buffer by a label are disjoint and cover it,
  contents that read alike agree, equal operands make equal copies, and a conjunction over a type in two kinds.
-/
module

public import proofs.«01_k».proof.Proof.Talk

@[expose] public section

noncomputable section

namespace Cert.Pieces

open Idealize.ShloMosaic Idealize.ShloMosaic.TcCoe
open Idealize.SL Idealize.SL.RA Idealize.SL.BI
open scoped Idealize.SL.BI
open Idealize.SL.BI.BIBase Idealize.SL.BI.Laws Idealize.SL.Sem

variable {nD : Nat} {τ : Topo} {sig : RefSig} {Val : EltTy → Type} {Λ : Labels}

/-- Equal offsets give equal slices. -/
theorem slice_congr {s : Shape} {e : EltTy} (m : Memref sig .tc .hbm s e) {off off' : Fin s.rank → Nat} (sz : Fin s.rank → Nat)
    (h : ∀ a, off a + sz a ≤ s.size a) (h' : ∀ a, off' a + sz a ≤ s.size a) (e : off = off') :
    m.slice (Rect.unit (s := s) off sz h) (fun _ => rfl) = m.slice (Rect.unit (s := s) off' sz h') (fun _ => rfl) := by
  subst e; rfl

/-- Equal operands make equal copies. -/
theorem here_congr {s : Shape} {a a' b b' : Memref sig .tc .hbm s .bf16} (q : DmaSem sig) (ha : a = a') (hb : b = b')
    (h1 : a.view.WordExact) (h2 : b.view.WordExact) (h1' : a'.view.WordExact) (h2' : b'.view.WordExact) :
    (Prog.lift (.enqueueDma a (.here b) (.dma q) h1 h2 ⟨Or.inl rfl, trivial⟩) : Prog (TpuEff nD τ sig Val Λ .tc) PUnit)
      = Prog.lift (.enqueueDma a' (.here b') (.dma q) h1' h2' ⟨Or.inl rfl, trivial⟩) := by
  subst ha hb; rfl
/-- Equal operands make equal copies between devices. -/
theorem remote_congr {s : Shape} {a a' b b' : Memref sig .tc .hbm s .bf16} {c c' : Dev nD} (q r : DmaSem sig) (ha : a = a') (hb : b = b')
    (hc : c = c') (h1 : a.view.WordExact) (h2 : b.view.WordExact) (h1' : a'.view.WordExact) (h2' : b'.view.WordExact) :
    (Prog.lift (.enqueueDma a (.remote (Dev.tc c) b (.dma q)) (.dma r) h1 h2 ⟨⟨rfl, Or.inl rfl⟩, trivial⟩) :
        Prog (TpuEff nD τ sig Val Λ .tc) PUnit)
      = Prog.lift (.enqueueDma a' (.remote (Dev.tc c') b' (.dma q)) (.dma r) h1' h2' ⟨⟨rfl, Or.inl rfl⟩, trivial⟩) := by
  subst ha hb hc; rfl
/-- Equal operands make equal waits. -/
theorem wait_congr {s s' : Shape} {a a' : Memref sig .tc .hbm s .bf16} {b b' : Memref sig .tc .hbm s' .bf16} (q : DmaSem sig) (ha : a = a') (hb : b = b')
    (h1 : a.view.WordExact) (h2 : b.view.WordExact) (h1' : a'.view.WordExact) (h2' : b'.view.WordExact) :
    (Prog.lift (.waitDma2 q a b h1 h2) : Prog (TpuEff nD τ sig Val Λ .tc) PUnit) = Prog.lift (.waitDma2 q a' b' h1' h2') := by
  subst ha hb; rfl

/-- A whole memref's elements are its buffer's. -/
theorem set_of_whole {sp : Space} {s : Shape} {e : EltTy} {m : Memref sig .tc sp s e} (h : m.IsWhole) : m.view.set = Finset.univ := by
  obtain ⟨b, rfl, rfl, rfl, hm⟩ := h; cases hm; exact View.set_whole b

/-- Sets cut out of a whole memref by a label are disjoint, -/
theorem cut_disjoint {s : Shape} {e : EltTy} (v : View sig .tc .hbm s e) (R : Dev nD → Finset s.Idx) (l : s.Idx → Nat)
    (hR : ∀ d i, i ∈ R d ↔ l i = d.val) (a b : Dev nD) (h : a ≠ b) : Disjoint ((R a).map v.emb) ((R b).map v.emb) := by
  rw [Finset.disjoint_map, Finset.disjoint_left]
  exact fun i ha hb => h (Fin.ext (((hR a i).mp ha).symm.trans ((hR b i).mp hb)))
/-- and cover it. -/
theorem cut_cover {s : Shape} {e : EltTy} {m : Memref sig .tc .hbm s e} (hm : m.IsWhole) (R : Dev nD → Finset s.Idx) (l : s.Idx → Nat)
    (hl : ∀ i, l i < nD) (hR : ∀ d i, i ∈ R d ↔ l i = d.val) : (Finset.univ.biUnion fun d => (R d).map m.view.emb) = Finset.univ := by
  refine Finset.eq_univ_of_forall fun j => ?_
  have hj : j ∈ m.view.set := by rw [set_of_whole hm]; exact Finset.mem_univ _
  obtain ⟨i, -, rfl⟩ := Finset.mem_map.mp hj
  exact Finset.mem_biUnion.mpr ⟨⟨l i, hl i⟩, Finset.mem_univ _, Finset.mem_map_of_mem _ ((hR _ i).mpr rfl)⟩

/-- Contents that read alike through a view agree under it. -/
theorem eq_on_of_read {s : Shape} {e : EltTy} (v : View sig .tc .hbm s e) (f g : v.ty.Contents Val) (h : v.read Val f = v.read Val g) :
    ∀ i ∈ v.set, f i = g i := by
  intro i hi
  obtain ⟨x, -, rfl⟩ := Finset.mem_map.mp hi
  have := congrFun h x
  rw [View.read_apply, View.read_apply] at this
  exact (cast_inj _).mp this

/-- Row `i` of the block of `n` rows numbered `s` lies in rows `s * n` on. -/
theorem mem_rows {n N : Nat} (hn : 0 < n) (s : Nat) (h : ∀ a, (![s * n, 0] : Fin 2 → Nat) a + (⟨2, ![n, 2048]⟩ : Shape).size a ≤ (⟨2, ![N, 2048]⟩ : Shape).size a)
    (i : (⟨2, ![N, 2048]⟩ : Shape).Idx) :
    i ∈ (Rect.unit (s := ⟨2, ![N, 2048]⟩) ![s * n, 0] (⟨2, ![n, 2048]⟩ : Shape).size h).set ↔ (i 0).val / n = s := by
  rw [Rect.mem_set_unit]
  have h1 : (i 1).val < 2048 := (i 1).isLt
  have e : (i 0).val / n = s ↔ s * n ≤ (i 0).val ∧ (i 0).val < s * n + n := by
    rw [Nat.div_eq_iff hn, Nat.add_sub_assoc hn]; omega
  rw [e, Fin.forall_fin_two]
  exact ⟨fun h => h.1, fun h => ⟨h, Nat.zero_le _, by show (i 1).val < 0 + 2048; omega⟩⟩

/-- A conjunction over a type that two families list once. -/
theorem bigSep_two {M : Type} [URA M] {A B K : Type} [Fintype A] [Fintype B] [Fintype K] (f : A → K) (g : B → K) (h : Function.Bijective (Sum.elim f g))
    (Φ : K → sProp M) :
    bigSep Finset.univ Φ = iprop((bigSep Finset.univ fun a => Φ (f a)) ∗ bigSep Finset.univ fun b => Φ (g b)) := by
  rw [BI.bigSep_univ_equiv (Equiv.ofBijective _ h), BI.bigSep_univ_sum]; rfl

end Cert.Pieces

end
-- ==== Proof.Steps.lean ====
/-
  The kernel's body as the list of its copies and waits. For each of the five gradients `w` and each device `s`,
  `block w s` is device `s`'s row block of the gradient, `slot w s` the place of device `s`'s contribution in the result.
-/
module

public import proofs.«01_k».proof.Proof.Gen.KernelIdeal
public import proofs.«01_k».proof.Proof.Gen.KernelIdeal.Launch
public import proofs.«01_k».proof.Proof.Gen.KernelIdeal.Points
public import Idealize.ShloMosaic.Lib.Pipeline.Regions
public import proofs.«01_k».proof.Proof.Pieces

@[expose] public section

noncomputable section

namespace Cert.Proof

open Cert.KernelIdeal Cert.KernelIdeal.Gen
open Idealize.ShloMosaic Idealize.ShloMosaic.TcCoe
open Idealize.SL.Sem
open Cert.Talk (seqs)
open Cert.Pieces

/-- The rows of a block of gradient `w`. -/
def nr : Fin 5 → Nat
  | 0 => 416 | 1 => 256 | 2 => 704 | 3 => 704 | 4 => 704

/-- A block of gradient `w`. -/
abbrev SB (w : Fin 5) : Shape := ⟨2, ![nr w, 2048]⟩
/-- The same block as one slot of the result. -/
abbrev SL1 (w : Fin 5) : Shape := ⟨3, ![1, nr w, 2048]⟩
/-- A device's gradient `w`: eight blocks. -/
abbrev SI (w : Fin 5) : Shape := ⟨2, ![8 * nr w, 2048]⟩
/-- A device's result `w`: eight slots. -/
abbrev SO (w : Fin 5) : Shape := ⟨3, ![8, nr w, 2048]⟩

/-- The buffer of gradient `w`. -/
abbrev inB : Fin 5 → Ref sig .tc
  | 0 => main_arg0 | 1 => main_arg1 | 2 => main_arg2 | 3 => main_arg3 | 4 => main_arg4
/-- The buffer of result `w`. -/
abbrev outB : Fin 5 → Ref sig .tc
  | 0 => main_v1_0 | 1 => main_v1_1 | 2 => main_v1_2 | 3 => main_v1_3 | 4 => main_v1_4

/-- Gradient `w` as a memref. -/
def inM : (w : Fin 5) → Memref sig .tc .hbm (SI w) .bf16
  | 0 => Memref.whole main_arg0 | 1 => Memref.whole main_arg1 | 2 => Memref.whole main_arg2
  | 3 => Memref.whole main_arg3 | 4 => Memref.whole main_arg4
/-- Result `w` as a memref. -/
def outM : (w : Fin 5) → Memref sig .tc .hbm (SO w) .bf16
  | 0 => Memref.whole main_v1_0 | 1 => Memref.whole main_v1_1 | 2 => Memref.whole main_v1_2
  | 3 => Memref.whole main_v1_3 | 4 => Memref.whole main_v1_4

theorem inM_whole : (w : Fin 5) → (inM w).IsWhole
  | 0 => Memref.isWhole_whole _ | 1 => Memref.isWhole_whole _ | 2 => Memref.isWhole_whole _
  | 3 => Memref.isWhole_whole _ | 4 => Memref.isWhole_whole _
theorem outM_whole : (w : Fin 5) → (outM w).IsWhole
  | 0 => Memref.isWhole_whole _ | 1 => Memref.isWhole_whole _ | 2 => Memref.isWhole_whole _
  | 3 => Memref.isWhole_whole _ | 4 => Memref.isWhole_whole _

theorem block_inb (w : Fin 5) (s : Dev nD) : ∀ a, (![s.val * nr w, 0] : Fin 2 → Nat) a + (SB w).size a ≤ (SI w).size a := by
  revert w s; decide
theorem slot_inb (w : Fin 5) (s : Dev nD) : ∀ a, (![s.val, 0, 0] : Fin 3 → Nat) a + (SL1 w).size a ≤ (SO w).size a := by
  revert w s; decide
theorem slot_squeezes (w : Fin 5) : (SL1 w).Squeezes (SB w) := by revert w; decide

/-- Device `s`'s rows of gradient `w`. -/
abbrev block (w : Fin 5) (s : Dev nD) : Memref sig .tc .hbm (SB w) .bf16 :=
  (inM w).slice (Rect.unit (s := SI w) ![s.val * nr w, 0] (SB w).size (block_inb w s)) (fun _ => rfl)
/-- Device `s`'s slot of result `w`. -/
abbrev slot (w : Fin 5) (s : Dev nD) : Memref sig .tc .hbm (SB w) .bf16 :=
  ((outM w).slice (Rect.unit (s := SO w) ![s.val, 0, 0] (SL1 w).size (slot_inb w s)) (fun _ => rfl)).squeeze (SB w) (slot_squeezes w)

/-- The semaphore that counts the read-out of copy `k` of gradient `w`. -/
def sendS (w : Fin 5) (k : Fin 7) : DmaSem sig := ⟨7 * w.val + k.val, by show _ < 75; omega⟩
/-- The semaphore that counts the landing of copy `k` of gradient `w`. -/
def recvS (w : Fin 5) (k : Fin 7) : DmaSem sig := ⟨35 + (7 * w.val + k.val), by show _ < 75; omega⟩
/-- The semaphore of the device's copy of its own block of gradient `w`. -/
def locS (w : Fin 5) : DmaSem sig := ⟨70 + w.val, by show _ < 75; omega⟩

/-- The three mesh coordinates that the `k`-th partner differs in, as bits of the device's number. -/
def flip : Fin 7 → Nat
  | 0 => 1 | 1 => 4 | 2 => 2 | 3 => 6 | 4 => 5 | 5 => 3 | 6 => 7
/-- The `k`-th partner of device `d`. -/
def peer (k : Fin 7) (d : Dev nD) : Dev nD := ⟨d.val ^^^ flip k, by revert k d; decide⟩

variable {F : FTy → Type} [FloatOps F]

theorem block_words : ∀ (w : Fin 5) (s : Dev nD),
    (Rect.unit (s := SI w) ![s.val * nr w, 0] (SB w).size (block_inb w s)).WholeWords (EltTy.packing .bf16) := by decide +kernel
theorem slot_words : ∀ (w : Fin 5) (s : Dev nD),
    (Rect.unit (s := SO w) ![s.val, 0, 0] (SL1 w).size (slot_inb w s)).WholeWords (EltTy.packing .bf16) := by decide +kernel
/-- A block is whole memory words. -/
theorem block_exact (w : Fin 5) (s : Dev nD) : (block w s).view.WordExact :=
  (inM_whole w).wordExact_slice rfl _ (block_words w s)
/-- A slot is whole memory words. -/
theorem slot_exact (w : Fin 5) (s : Dev nD) : (slot w s).view.WordExact :=
  ((outM_whole w).wordExact_slice rfl _ (slot_words w s)).reshape _ _

/-- Start the device's copy of its own block. -/
def locStart (d : Dev nD) (w : Fin 5) : Prog (TpuEff nD τ sig (Elt F) Λ₀ .tc) PUnit :=
  Prog.lift (.enqueueDma (block w d) (.here (slot w d)) (.dma (locS w)) (block_exact w d) (slot_exact w d) ⟨Or.inl rfl, trivial⟩)
/-- Start the copy to the `k`-th partner. -/
def remStart (d : Dev nD) (wk : Fin 5 × Fin 7) : Prog (TpuEff nD τ sig (Elt F) Λ₀ .tc) PUnit :=
  Prog.lift (.enqueueDma (block wk.1 (peer wk.2 d)) (.remote (Dev.tc (peer wk.2 d)) (slot wk.1 d) (.dma (sendS wk.1 wk.2))) (.dma (recvS wk.1 wk.2))
    (block_exact wk.1 (peer wk.2 d)) (slot_exact wk.1 d) ⟨⟨rfl, Or.inl rfl⟩, trivial⟩)
/-- Wait for the landing of copy `k`. -/
def recvWait (d : Dev nD) (wk : Fin 5 × Fin 7) : Prog (TpuEff nD τ sig (Elt F) Λ₀ .tc) PUnit :=
  Prog.lift (.waitDma2 (recvS wk.1 wk.2) (block wk.1 (peer wk.2 d)) (slot wk.1 d) (block_exact wk.1 (peer wk.2 d)) (slot_exact wk.1 d))
/-- Wait for the read-out of copy `k`. -/
def sendWait (d : Dev nD) (wk : Fin 5 × Fin 7) : Prog (TpuEff nD τ sig (Elt F) Λ₀ .tc) PUnit :=
  Prog.lift (.waitDma2 (sendS wk.1 wk.2) (slot wk.1 d) (block wk.1 (peer wk.2 d)) (slot_exact wk.1 d) (block_exact wk.1 (peer wk.2 d)))
/-- Wait for the device's own copy. -/
def locWait (d : Dev nD) (w : Fin 5) : Prog (TpuEff nD τ sig (Elt F) Λ₀ .tc) PUnit :=
  Prog.lift (.waitDma2 (locS w) (block w d) (slot w d) (block_exact w d) (slot_exact w d))

/-- The five gradients. -/
def ws : List (Fin 5) := [0, 1, 2, 3, 4]
/-- The thirty-five copies to partners, in program order. -/
def wks : List (Fin 5 × Fin 7) := ws.flatMap fun w => [(w, 0), (w, 1), (w, 2), (w, 3), (w, 4), (w, 5), (w, 6)]

/-- The steps of the body on device `d`. -/
def steps (d : Dev nD) : List (Prog (TpuEff nD τ sig (Elt F) Λ₀ .tc) PUnit) :=
  ws.map (locStart d) ++ wks.map (remStart d) ++ wks.map (recvWait d) ++ wks.map (sendWait d) ++ ws.map (locWait d)

/-! ## The same steps with the offsets as the kernel computes them -/

/-- The device's own block, its offset as computed. -/
def blockOwn (d : Dev nD) : (w : Fin 5) → Memref sig .tc .hbm (SB w) .bf16
  | 0 => (Memref.whole main_arg0).slice (Rect.unit (s := S3328x2048) (k0_off2 d) S416x2048.size (k0_off2_inb d)) (fun _ => rfl)
  | 1 => (Memref.whole main_arg1).slice (Rect.unit (s := S2048x2048) (k0_off4 d) S256x2048.size (k0_off4_inb d)) (fun _ => rfl)
  | 2 => (Memref.whole main_arg2).slice (Rect.unit (s := S5632x2048) (k0_off6 d) S704x2048.size (k0_off6_inb d)) (fun _ => rfl)
  | 3 => (Memref.whole main_arg3).slice (Rect.unit (s := S5632x2048) (k0_off6 d) S704x2048.size (k0_off6_inb d)) (fun _ => rfl)
  | 4 => (Memref.whole main_arg4).slice (Rect.unit (s := S5632x2048) (k0_off6 d) S704x2048.size (k0_off6_inb d)) (fun _ => rfl)
/-- The `k`-th partner's block, its offset as computed. -/
def blockPeer (d : Dev nD) (k : Fin 7) : (w : Fin 5) → Memref sig .tc .hbm (SB w) .bf16
  | 0 => (Memref.whole main_arg0).slice (Rect.unit (s := S3328x2048) (k0_off7 d (k0_off7_at k).1 (k0_off7_at k).2.1 (k0_off7_at k).2.2) S416x2048.size (k0_off7_inb d k)) (fun _ => rfl)
  | 1 => (Memref.whole main_arg1).slice (Rect.unit (s := S2048x2048) (k0_off8 d (k0_off8_at k).1 (k0_off8_at k).2.1 (k0_off8_at k).2.2) S256x2048.size (k0_off8_inb d k)) (fun _ => rfl)
  | 2 => (Memref.whole main_arg2).slice (Rect.unit (s := S5632x2048) (k0_off9 d (k0_off9_at k).1 (k0_off9_at k).2.1 (k0_off9_at k).2.2) S704x2048.size (k0_off9_inb d k)) (fun _ => rfl)
  | 3 => (Memref.whole main_arg3).slice (Rect.unit (s := S5632x2048) (k0_off9 d (k0_off9_at k).1 (k0_off9_at k).2.1 (k0_off9_at k).2.2) S704x2048.size (k0_off9_inb d k)) (fun _ => rfl)
  | 4 => (Memref.whole main_arg4).slice (Rect.unit (s := S5632x2048) (k0_off9 d (k0_off9_at k).1 (k0_off9_at k).2.1 (k0_off9_at k).2.2) S704x2048.size (k0_off9_inb d k)) (fun _ => rfl)
/-- The device's slot, its offset as computed. -/
def slotOwn (d : Dev nD) : (w : Fin 5) → Memref sig .tc .hbm (SB w) .bf16
  | 0 => ((Memref.whole main_v1_0).slice (Rect.unit (s := S8x416x2048) (k0_off1 d) S1x416x2048.size (k0_off1_inb d)) (fun _ => rfl)).squeeze S416x2048 squeezes_S1x416x2048_S416x2048
  | 1 => ((Memref.whole main_v1_1).slice (Rect.unit (s := S8x256x2048) (k0_off3 d) S1x256x2048.size (k0_off3_inb d)) (fun _ => rfl)).squeeze S256x2048 squeezes_S1x256x2048_S256x2048
  | 2 => ((Memref.whole main_v1_2).slice (Rect.unit (s := S8x704x2048) (k0_off5 d) S1x704x2048.size (k0_off5_inb d)) (fun _ => rfl)).squeeze S704x2048 squeezes_S1x704x2048_S704x2048
  | 3 => ((Memref.whole main_v1_3).slice (Rect.unit (s := S8x704x2048) (k0_off5 d) S1x704x2048.size (k0_off5_inb d)) (fun _ => rfl)).squeeze S704x2048 squeezes_S1x704x2048_S704x2048
  | 4 => ((Memref.whole main_v1_4).slice (Rect.unit (s := S8x704x2048) (k0_off5 d) S1x704x2048.size (k0_off5_inb d)) (fun _ => rfl)).squeeze S704x2048 squeezes_S1x704x2048_S704x2048
/-- The partners' numbers as computed. -/
def peerOwn : Fin 5 → Fin 7 → Dev nD → Dev nD :=
  ![![fun d => ⟨k0_dev1 d, k0_dev1_lt d⟩, fun d => ⟨k0_dev2 d, k0_dev2_lt d⟩, fun d => ⟨k0_dev3 d, k0_dev3_lt d⟩, fun d => ⟨k0_dev4 d, k0_dev4_lt d⟩, fun d => ⟨k0_dev5 d, k0_dev5_lt d⟩, fun d => ⟨k0_dev6 d, k0_dev6_lt d⟩, fun d => ⟨k0_dev7 d, k0_dev7_lt d⟩], ![fun d => ⟨k0_dev8 d, k0_dev8_lt d⟩, fun d => ⟨k0_dev9 d, k0_dev9_lt d⟩, fun d => ⟨k0_dev10 d, k0_dev10_lt d⟩, fun d => ⟨k0_dev11 d, k0_dev11_lt d⟩, fun d => ⟨k0_dev12 d, k0_dev12_lt d⟩, fun d => ⟨k0_dev13 d, k0_dev13_lt d⟩, fun d => ⟨k0_dev14 d, k0_dev14_lt d⟩], ![fun d => ⟨k0_dev15 d, k0_dev15_lt d⟩, fun d => ⟨k0_dev16 d, k0_dev16_lt d⟩, fun d => ⟨k0_dev17 d, k0_dev17_lt d⟩, fun d => ⟨k0_dev18 d, k0_dev18_lt d⟩, fun d => ⟨k0_dev19 d, k0_dev19_lt d⟩, fun d => ⟨k0_dev20 d, k0_dev20_lt d⟩, fun d => ⟨k0_dev21 d, k0_dev21_lt d⟩], ![fun d => ⟨k0_dev22 d, k0_dev22_lt d⟩, fun d => ⟨k0_dev23 d, k0_dev23_lt d⟩, fun d => ⟨k0_dev24 d, k0_dev24_lt d⟩, fun d => ⟨k0_dev25 d, k0_dev25_lt d⟩, fun d => ⟨k0_dev26 d, k0_dev26_lt d⟩, fun d => ⟨k0_dev27 d, k0_dev27_lt d⟩, fun d => ⟨k0_dev28 d, k0_dev28_lt d⟩], ![fun d => ⟨k0_dev29 d, k0_dev29_lt d⟩, fun d => ⟨k0_dev30 d, k0_dev30_lt d⟩, fun d => ⟨k0_dev31 d, k0_dev31_lt d⟩, fun d => ⟨k0_dev32 d, k0_dev32_lt d⟩, fun d => ⟨k0_dev33 d, k0_dev33_lt d⟩, fun d => ⟨k0_dev34 d, k0_dev34_lt d⟩, fun d => ⟨k0_dev35 d, k0_dev35_lt d⟩]]

theorem peerOwn_eq : ∀ (w : Fin 5) (k : Fin 7) (d : Dev nD), peerOwn w k d = peer k d := by decide +kernel

theorem off2_eq : ∀ d : Dev nD, k0_off2 d = ![d.val * 416, 0] := by decide +kernel
theorem off4_eq : ∀ d : Dev nD, k0_off4 d = ![d.val * 256, 0] := by decide +kernel
theorem off6_eq : ∀ d : Dev nD, k0_off6 d = ![d.val * 704, 0] := by decide +kernel
theorem off1_eq : ∀ d : Dev nD, k0_off1 d = ![d.val, 0, 0] := by decide +kernel
theorem off3_eq : ∀ d : Dev nD, k0_off3 d = ![d.val, 0, 0] := by decide +kernel
theorem off5_eq : ∀ d : Dev nD, k0_off5 d = ![d.val, 0, 0] := by decide +kernel
theorem off7_eq : ∀ (d : Dev nD) (k : Fin 7),
    k0_off7 d (k0_off7_at k).1 (k0_off7_at k).2.1 (k0_off7_at k).2.2 = ![(peer k d).val * 416, 0] := by decide +kernel
theorem off8_eq : ∀ (d : Dev nD) (k : Fin 7),
    k0_off8 d (k0_off8_at k).1 (k0_off8_at k).2.1 (k0_off8_at k).2.2 = ![(peer k d).val * 256, 0] := by decide +kernel
theorem off9_eq : ∀ (d : Dev nD) (k : Fin 7),
    k0_off9 d (k0_off9_at k).1 (k0_off9_at k).2.1 (k0_off9_at k).2.2 = ![(peer k d).val * 704, 0] := by decide +kernel

theorem blockOwn_eq (d : Dev nD) : (w : Fin 5) → blockOwn d w = block w d
  | 0 => slice_congr _ _ _ _ (off2_eq d)
  | 1 => slice_congr _ _ _ _ (off4_eq d)
  | 2 => slice_congr _ _ _ _ (off6_eq d)
  | 3 => slice_congr _ _ _ _ (off6_eq d)
  | 4 => slice_congr _ _ _ _ (off6_eq d)
theorem blockPeer_eq (d : Dev nD) (k : Fin 7) : (w : Fin 5) → blockPeer d k w = block w (peer k d)
  | 0 => slice_congr _ _ _ _ (off7_eq d k)
  | 1 => slice_congr _ _ _ _ (off8_eq d k)
  | 2 => slice_congr _ _ _ _ (off9_eq d k)
  | 3 => slice_congr _ _ _ _ (off9_eq d k)
  | 4 => slice_congr _ _ _ _ (off9_eq d k)
theorem slotOwn_eq (d : Dev nD) : (w : Fin 5) → slotOwn d w = slot w d
  | 0 => congrArg (fun m => Memref.squeeze m S416x2048 squeezes_S1x416x2048_S416x2048) (slice_congr _ _ _ _ (off1_eq d))
  | 1 => congrArg (fun m => Memref.squeeze m S256x2048 squeezes_S1x256x2048_S256x2048) (slice_congr _ _ _ _ (off3_eq d))
  | 2 => congrArg (fun m => Memref.squeeze m S704x2048 squeezes_S1x704x2048_S704x2048) (slice_congr _ _ _ _ (off5_eq d))
  | 3 => congrArg (fun m => Memref.squeeze m S704x2048 squeezes_S1x704x2048_S704x2048) (slice_congr _ _ _ _ (off5_eq d))
  | 4 => congrArg (fun m => Memref.squeeze m S704x2048 squeezes_S1x704x2048_S704x2048) (slice_congr _ _ _ _ (off5_eq d))

/-- `locStart` with the offsets as computed. -/
def locStart' (d : Dev nD) (w : Fin 5) : Prog (TpuEff nD τ sig (Elt F) Λ₀ .tc) PUnit :=
  Prog.lift (.enqueueDma (blockOwn d w) (.here (slotOwn d w)) (.dma (locS w)) (blockOwn_eq d w ▸ block_exact w d)
    (slotOwn_eq d w ▸ slot_exact w d) ⟨Or.inl rfl, trivial⟩)
/-- `remStart` with the offsets as computed. -/
def remStart' (d : Dev nD) (wk : Fin 5 × Fin 7) : Prog (TpuEff nD τ sig (Elt F) Λ₀ .tc) PUnit :=
  Prog.lift (.enqueueDma (blockPeer d wk.2 wk.1) (.remote (Dev.tc (peerOwn wk.1 wk.2 d)) (slotOwn d wk.1) (.dma (sendS wk.1 wk.2)))
    (.dma (recvS wk.1 wk.2)) (blockPeer_eq d wk.2 wk.1 ▸ block_exact wk.1 (peer wk.2 d)) (slotOwn_eq d wk.1 ▸ slot_exact wk.1 d)
    ⟨⟨rfl, Or.inl rfl⟩, trivial⟩)

/-- The steps with the offsets as computed. -/
def steps' (d : Dev nD) : List (Prog (TpuEff nD τ sig (Elt F) Λ₀ .tc) PUnit) :=
  ws.map (locStart' d) ++ wks.map (remStart' d) ++ wks.map (recvWait d) ++ wks.map (sendWait d) ++ ws.map (locWait d)

theorem body_eq' (t : Fin cfg0.N) : bodyAt0 (F := F) t = Prog.lift .deviceId >>= fun d => seqs (steps' d) := by
  chain_rfl

theorem locStart_eq (d : Dev nD) : locStart' (F := F) d = locStart d :=
  funext fun w => here_congr _ (blockOwn_eq d w) (slotOwn_eq d w) _ _ _ _
theorem remStart_eq (d : Dev nD) : remStart' (F := F) d = remStart d :=
  funext fun wk => remote_congr _ _ (blockPeer_eq d wk.2 wk.1) (slotOwn_eq d wk.1) (peerOwn_eq wk.1 wk.2 d) _ _ _ _

/-- The kernel's body is its steps in order. -/
theorem body_eq (t : Fin cfg0.N) : bodyAt0 (F := F) t = Prog.lift .deviceId >>= fun d => seqs (steps d) := by
  rw [body_eq']; simp only [steps', steps, locStart_eq, remStart_eq]

end Cert.Proof

end
-- ==== Proof.Blocks.lean ====
/-
  The eight blocks of a gradient and the eight slots of a result: they are disjoint, cover their buffer, and what a copy
  from a block into a slot leaves there is the result's own block.
-/
module

public import proofs.«01_k».proof.Proof.Steps
public import Idealize.ShloMosaic.Lib.Ring

@[expose] public section

noncomputable section

namespace Cert.Proof

open Cert.KernelIdeal Cert.KernelIdeal.Gen
open Idealize.ShloMosaic Idealize.ShloMosaic.TcCoe
open Idealize.SL.Sem
open Cert.Pieces

/-- The rectangle of block `s` in a gradient. -/
abbrev blockR (w : Fin 5) (s : Dev nD) : Rect (SI w) := Rect.unit (s := SI w) ![s.val * nr w, 0] (SB w).size (block_inb w s)
/-- The rectangle of slot `s` in a result. -/
abbrev slotR (w : Fin 5) (s : Dev nD) : Rect (SO w) := Rect.unit (s := SO w) ![s.val, 0, 0] (SL1 w).size (slot_inb w s)

/-- The elements of a block. -/
theorem block_set (w : Fin 5) (s : Dev nD) : (block w s).view.set = (blockR w s).set.map (inM w).view.emb :=
  View.set_slice _ _
/-- The elements of a slot. -/
theorem slot_set (w : Fin 5) (s : Dev nD) : (slot w s).view.set = (slotR w s).set.map (outM w).view.emb :=
  (View.set_reshape _ _).trans (View.set_slice _ _)

theorem nr_pos : ∀ w : Fin 5, 0 < nr w := by decide

/-- An element of a gradient lies in the block its row belongs to. -/
theorem mem_blockR (w : Fin 5) (s : Dev nD) (i : (SI w).Idx) : i ∈ (blockR w s).set ↔ (i 0).val / nr w = s.val :=
  mem_rows (nr_pos w) s.val (block_inb w s) i
/-- An element of a result lies in the slot of its leading coordinate. -/
theorem mem_slotR (w : Fin 5) (s : Dev nD) (i : (SO w).Idx) : i ∈ (slotR w s).set ↔ (i 0).val = s.val := by
  rw [Rect.mem_set_unit]
  have h1 : (i 1).val < nr w := (i 1).isLt
  have h2 : (i 2).val < 2048 := (i 2).isLt
  constructor
  · intro h
    have h : s.val ≤ (i 0).val ∧ (i 0).val < s.val + 1 := h 0
    omega
  · intro h a
    match a with
    | 0 => show s.val ≤ (i 0).val ∧ (i 0).val < s.val + 1; omega
    | 1 => show 0 ≤ (i 1).val ∧ (i 1).val < 0 + nr w; omega
    | 2 => show 0 ≤ (i 2).val ∧ (i 2).val < 0 + 2048; omega

theorem block_disjoint (w : Fin 5) (a b : Dev nD) (h : a ≠ b) : Disjoint (block w a).view.set (block w b).view.set := by
  rw [block_set, block_set]; exact cut_disjoint _ (fun d => (blockR w d).set) _ (mem_blockR w) a b h
theorem slot_disjoint (w : Fin 5) (a b : Dev nD) (h : a ≠ b) : Disjoint (slot w a).view.set (slot w b).view.set := by
  rw [slot_set, slot_set]; exact cut_disjoint _ (fun d => (slotR w d).set) _ (mem_slotR w) a b h
theorem block_cover (w : Fin 5) : (Finset.univ.biUnion (β := (inM w).view.ty.Idx) fun d : Dev nD => (block w d).view.set) = Finset.univ := by
  rw [show ((fun d => (block w d).view.set) : Dev nD → Finset (inM w).view.ty.Idx) = fun d => (blockR w d).set.map (inM w).view.emb from funext (block_set w)]
  exact cut_cover (inM_whole w) (fun d => (blockR w d).set) _
    (fun i => (Nat.div_lt_iff_lt_mul (nr_pos w)).mpr (i 0).isLt) (mem_blockR w)
theorem slot_cover (w : Fin 5) : (Finset.univ.biUnion (β := (outM w).view.ty.Idx) fun d : Dev nD => (slot w d).view.set) = Finset.univ := by
  rw [show ((fun d => (slot w d).view.set) : Dev nD → Finset (outM w).view.ty.Idx) = fun d => (slotR w d).set.map (outM w).view.emb from funext (slot_set w)]
  exact cut_cover (outM_whole w) (fun d => (slotR w d).set) _ (fun i => (i 0).isLt) (mem_slotR w)

/-- What every transfer of gradient `w` credits. -/
def amt (w : Fin 5) : Nat := (slot w 0).view.dmaCredit
theorem block_amt (w : Fin 5) (s : Dev nD) : (block w s).view.dmaCredit = amt w :=
  match w with
  | 0 => rfl | 1 => rfl | 2 => rfl | 3 => rfl | 4 => rfl
theorem slot_amt (w : Fin 5) (s : Dev nD) : (slot w s).view.dmaCredit = amt w := rfl
theorem amt_pos (w : Fin 5) : 0 < amt w :=
  View.dmaCredit_pos _ (by revert w; decide)

/-! ## Contents -/

variable {Val : EltTy → Type}

/-- Row `r` of block `d`, column `c`, as an index of a gradient. -/
def rowIx (w : Fin 5) (d : Dev nD) (r : Fin (nr w)) (c : Fin 2048) : (SI w).Idx :=
  Shape.pair (d := ![8 * nr w, 2048]) ⟨d.val * nr w + r.val, by
    have : d.val * nr w + nr w ≤ 8 * nr w := by
      have := Nat.mul_le_mul_right (nr w) (show d.val + 1 ≤ 8 from d.isLt)
      rwa [Nat.add_mul, Nat.one_mul] at this
    have := r.isLt
    show d.val * nr w + r.val < 8 * nr w
    omega⟩ c

/-- Device `d`'s result `w` from every device's gradient `w`: slot `s` is block `d` of device `s`'s gradient. -/
def scatterVal (w : Fin 5) (A : Dev nD → (SI w).Idx → Val .bf16) (d : Dev nD) : (SO w).Idx → Val .bf16 :=
  fun j => A (j 0) (rowIx w d (j 1) (j 2))

/-- The place of an element of slot `s` in the result. -/
theorem slot_idx (w : Fin 5) (s : Dev nD) (x : (SB w).Idx) :
    (slotR w s).emb (Shape.reshapeEquiv (slot_squeezes w).numel_eq x) = Fin.cons (α := fun a => Fin ((SO w).size a)) s x := by
  rw [Shape.reshapeEquiv_cons_one (n := 2) (d := ![nr w, 2048])]
  funext a
  refine Fin.ext ?_
  match a with
  | 0 => show s.val + 1 * 0 = s.val; omega
  | 1 => show 0 + 1 * (x 0).val = (x 0).val; omega
  | 2 => show 0 + 1 * (x 1).val = (x 1).val; omega
/-- The place of an element of block `d` in the gradient. -/
theorem block_idx (w : Fin 5) (d : Dev nD) (x : (SB w).Idx) : (blockR w d).emb x = rowIx w d (x 0) (x 1) := by
  funext a
  refine Fin.ext ?_
  match a with
  | 0 => show d.val * nr w + 1 * (x 0).val = d.val * nr w + (x 0).val; omega
  | 1 => show 0 + 1 * (x 1).val = (x 1).val; omega

/-- A result buffer holding the scattered gradients. -/
def scatterBuf (w : Fin 5) (A : Dev nD → (SI w).Idx → Val .bf16) (d : Dev nD) (f₀ : (outM w).view.ty.Contents Val) :
    (outM w).view.ty.Contents Val :=
  (outM w).view.write Val f₀ (scatterVal w A d) Finset.univ

/-- Copying block `d` of device `s`'s gradient into slot `s` leaves device `d`'s result there. -/
theorem copy_eq (w : Fin 5) (s d : Dev nD) (g : (inM w).view.ty.Contents Val) (A : Dev nD → (SI w).Idx → Val .bf16)
    (hA : A s = (inM w).view.read Val g) (fd f₀ : (outM w).view.ty.Contents Val) :
    ∀ i ∈ (slot w s).view.set, (slot w s).view.write Val fd ((block w d).view.read Val g) Finset.univ i = scatterBuf w A d f₀ i := by
  refine eq_on_of_read _ _ _ ?_
  rw [View.read_write_univ]
  funext x
  have h1 : (block w d).view.read Val g x = A s (rowIx w d (x 0) (x 1)) := by
    rw [hA, ← block_idx]; rfl
  have h2 : (slot w s).view.read Val (scatterBuf w A d f₀) x
      = (outM w).view.read Val (scatterBuf w A d f₀) ((slotR w s).emb (Shape.reshapeEquiv (slot_squeezes w).numel_eq x)) := rfl
  rw [h1, h2, slot_idx, scatterBuf, View.read_write_univ]
  rfl

end Cert.Proof

end
-- ==== Proof.Protocol.lean ====
/-
  The protocol of the exchange. Device `d` copies its block `peer k d` of each gradient into slot `d` of its `k`-th
  partner, and its own block into its own slot. Its send semaphore `(w, k)` gives that block back, its receive semaphore
  `(w, k)` gives its slot `peer k d` filled, its local semaphore `w` gives its own slot filled and its own block back.
  Nobody waits before all of its copies are started, so no wait stands under anything owed.
-/
module

public import proofs.«01_k».proof.Proof.Blocks

@[expose] public section

noncomputable section

namespace Cert.Proof

open Cert.KernelIdeal Cert.KernelIdeal.Gen Cert.Talk
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR nD τ sig) ℕ

/-! ## The cells -/

/-- A device's semaphores: send, receive, local. -/
abbrev Cell := (Fin 5 × Fin 7) ⊕ (Fin 5 × Fin 7) ⊕ Fin 5

/-- The semaphore of a cell. -/
def cellSem : Cell → SemLoc sig
  | .inl wk => .dma (sendS wk.1 wk.2)
  | .inr (.inl wk) => .dma (recvS wk.1 wk.2)
  | .inr (.inr w) => .dma (locS w)

theorem cellSem_inj : Function.Injective cellSem := by
  have h : ∀ a b : Cell, cellSem a = cellSem b → a = b := by decide +kernel
  exact fun a b => h a b

theorem scoped_cells : (Finset.univ.filter fun sm : SemLoc sig => sm.isScoped .tc) = Finset.univ.image cellSem := by decide +kernel

/-- What a cell is credited. -/
def cellAmt : Cell → ℕ
  | .inl wk => amt wk.1
  | .inr (.inl wk) => amt wk.1
  | .inr (.inr w) => amt w

theorem cellAmt_pos : ∀ x, 0 < cellAmt x
  | .inl wk => amt_pos wk.1
  | .inr (.inl wk) => amt_pos wk.1
  | .inr (.inr w) => amt_pos w

/-! ## The contents -/

variable (m : (ℓ : Loc nD τ sig) → Buf (Elt F) ℓ)

/-- Device `s`'s gradient `w` at launch. -/
def inBuf (w : Fin 5) (s : Dev nD) : (inM w).view.ty.Contents (Elt F) := m ((inM w).view.loc (s : Thread nD τ))
/-- Device `d`'s result `w` at launch. -/
def outBuf (w : Fin 5) (d : Dev nD) : (outM w).view.ty.Contents (Elt F) := m ((outM w).view.loc (d : Thread nD τ))
/-- Device `d`'s result `w` at the end. -/
def finBuf (w : Fin 5) (d : Dev nD) : (outM w).view.ty.Contents (Elt F) :=
  scatterBuf w (fun s => (inM w).view.read (Elt F) (inBuf m w s)) d (outBuf m w d)

/-- Block `s` of device `d`'s gradient `w`. -/
def blockPts (d : Dev nD) (w : Fin 5) (s : Dev nD) : sProp 𝕄 :=
  ((block w s).view.loc (d : Thread nD τ)) ↦[(block w s).view.set]{fullShare} inBuf m w d
/-- Slot `s` of device `d`'s result `w`, holding `f`. -/
def slotPts (f : (w : Fin 5) → (d : Dev nD) → (outM w).view.ty.Contents (Elt F)) (d : Dev nD) (w : Fin 5) (s : Dev nD) : sProp 𝕄 :=
  ((slot w s).view.loc (d : Thread nD τ)) ↦[(slot w s).view.set]{fullShare} f w d

/-- What each cell hands over. -/
def pay (d : Dev nD) : Cell → sProp 𝕄
  | .inl wk => blockPts m d wk.1 (peer wk.2 d)
  | .inr (.inl wk) => slotPts (finBuf m) d wk.1 (peer wk.2 d)
  | .inr (.inr w) => iprop(slotPts (finBuf m) d w d ∗ blockPts m d w d)

instance (d : Dev nD) : (x : Cell) → Storable (upEmb : UEmb _ 𝕄) (pay m d x)
  | .inl wk => by unfold pay blockPts; infer_instance
  | .inr (.inl wk) => by unfold pay slotPts; infer_instance
  | .inr (.inr w) => by unfold pay slotPts blockPts; infer_instance

theorem peer_peer : ∀ (k : Fin 7) (d : Dev nD), peer k (peer k d) = d := by decide

/-- A landed block is the slot's final contents. -/
theorem landed (w : Fin 5) (s d : Dev nD) (fd : (outM w).view.ty.Contents (Elt F)) :
    (((slot w s).view.loc (d : Thread nD τ)) ↦[(slot w s).view.set]{fullShare}
      (slot w s).view.write (Elt F) fd ((block w d).view.read (Elt F) (inBuf m w s)) Finset.univ : sProp 𝕄) ⊢ slotPts (finBuf m) d w s :=
  Entails.of_eq (pointsTo_congr (copy_eq w s d (inBuf m w s) _ rfl fd (outBuf m w d)))

/-! ## The steps -/

variable (κ : Dev nD × Cell → ℕ)

/-- What everybody knows. -/
abbrev Known : sProp 𝕄 := Inv (τ := τ) cellAmt_pos (pay m) κ (sem := cellSem)

/-- What device `d` owes for the copies `l` it has not started. -/
def owedL (d : Dev nD) (l : List (Fin 5 × Fin 7)) : CellTallies nD τ sig Unit :=
  (l.map fun wk => tallyAt (cellG (τ := τ) cellSem (peer wk.2 d, .inr (.inl wk))) () (amt wk.1)).sum

theorem owedL_cons (d : Dev nD) (wk : Fin 5 × Fin 7) (l : List (Fin 5 × Fin 7)) :
    owedL d (wk :: l) = owedL d l + tallyAt (cellG (τ := τ) cellSem (peer wk.2 d, .inr (.inl wk))) () (amt wk.1) := by
  unfold owedL; rw [List.map_cons, List.sum_cons, add_comm]

/-- What a device's copy hands to its partner's receive cell. -/
theorem pay_peer (d : Dev nD) (wk : Fin 5 × Fin 7) :
    slotPts (finBuf m) (peer wk.2 d) wk.1 d = pay m (peer wk.2 d) (.inr (.inl wk)) := by
  show _ = slotPts (finBuf m) (peer wk.2 d) wk.1 (peer wk.2 (peer wk.2 d))
  rw [peer_peer]

/-- The device's own copy starts. -/
theorem step_loc (d : Dev nD) {α : Type} (Q : α → sProp 𝕄) (w : Fin 5) (k : PUnit → Prog (TpuEff nD τ sig (Elt F) Λ₀ .tc) α) :
    iprop(Known m κ ∗ (blockPts m d w d ∗ slotPts (outBuf m) d w d ∗ tok (τ := τ) (Elt F) cellSem (d, .inr (.inr w))))
      ⊢ iprop(((Known m κ ∗ credit (τ := τ) (Elt F) cellSem cellAmt (d, .inr (.inr w))) -∗ wp frame (wpE (defs₀ (F := F)) Variants.none (d : Thread nD τ) none) Set.univ (k ⟨⟩) Q)
        -∗ wp frame (wpE (defs₀ (F := F)) Variants.none (d : Thread nD τ) none) Set.univ (locStart d w >>= k) Q) := by
  unfold locStart; rw [Prog.bind_lift]
  iintro ⟨#HI, Hb, Hs, Ht⟩ Hk
  ihave Hcell := (Inv_cell cellAmt_pos κ (d, .inr (.inr w))) $$ HI
  icases Hcell with ⟨#Hc, #Hr⟩
  unfold blockPts slotPts
  iapply (Rounds.wp_copy_pointsTo Variants.none ER (sched cellSem cellAmt (pay m) cellAmt_pos) (d : Thread nD τ) none (κ := κ (d, .inr (.inr w))) (r := 0) (d := ())
    (duty_mem cellAmt_pos _) () (amt w) rfl (amount_cell cellAmt_pos cellSem_inj (d, .inr (.inr w)) 0 ())
    ((sep_mono_left (landed m w d d _)).trans (Entails.of_eq (payload_cell cellAmt_pos cellSem_inj (pay := pay m) (d, .inr (.inr w)) 0 ()).symm))) $$ [Hb Hs Ht]
  · isplitr; · iexact Hc
    isplitl [Hb]; · iexact Hb
    isplitl [Hs]; · iexact Hs
    isplitl [Ht]; · iexact Ht
    iexact Hr
  iintro Hcr
  iapply Hk
  isplitr; · iexact HI
  iexact Hcr

/-- A copy to a partner starts. -/
theorem step_rem (d : Dev nD) {α : Type} (Q : α → sProp 𝕄) (wk : Fin 5 × Fin 7) (l : List (Fin 5 × Fin 7))
    (k : PUnit → Prog (TpuEff nD τ sig (Elt F) Λ₀ .tc) α) :
    iprop((Known m κ ∗ ∃ W, owes (d : Thread nD τ) (owedL d (wk :: l)) W)
        ∗ (blockPts m d wk.1 (peer wk.2 d) ∗ slotPts (outBuf m) (peer wk.2 d) wk.1 d
          ∗ tok (τ := τ) (Elt F) cellSem (d, .inl wk) ∗ tok (τ := τ) (Elt F) cellSem (peer wk.2 d, .inr (.inl wk))))
      ⊢ iprop((((Known m κ ∗ ∃ W, owes (d : Thread nD τ) (owedL d l) W) ∗ credit (τ := τ) (Elt F) cellSem cellAmt (d, .inl wk)) -∗ wp frame (wpE (defs₀ (F := F)) Variants.none (d : Thread nD τ) none) Set.univ (k ⟨⟩) Q)
        -∗ wp frame (wpE (defs₀ (F := F)) Variants.none (d : Thread nD τ) none) Set.univ (remStart d wk >>= k) Q) := by
  unfold remStart; rw [Prog.bind_lift]
  iintro ⟨⟨#HI, ⟨%W, HO⟩⟩, Hb, Hs, Ht, Ht'⟩ Hk
  ihave Hcell := (Inv_cell cellAmt_pos κ (d, .inl wk)) $$ HI
  icases Hcell with ⟨#Hc, #Hr⟩
  ihave Hcell := (Inv_cell cellAmt_pos κ (peer wk.2 d, .inr (.inl wk))) $$ HI
  icases Hcell with ⟨#Hc', #Hr'⟩
  unfold blockPts slotPts
  iapply (Rounds.wp_send_pointsTo Variants.none ER (sched cellSem cellAmt (pay m) cellAmt_pos) (d : Thread nD τ) none (κ₁ := κ (d, .inl wk)) (κ₂ := κ (peer wk.2 d, .inr (.inl wk)))
    (r₁ := 0) (r₂ := 0) (d₁ := ()) (d₂ := ()) (duty_mem cellAmt_pos _) (duty_mem cellAmt_pos _) () () (amt wk.1) rfl
    (amount_cell cellAmt_pos cellSem_inj (d, .inl wk) 0 ()) (amount_cell cellAmt_pos cellSem_inj (peer wk.2 d, .inr (.inl wk)) 0 ())
    (owedL d l) (owedL_cons d wk l) (W := W)
    (Entails.of_eq (payload_cell cellAmt_pos cellSem_inj (pay := pay m) (d, .inl wk) 0 ()).symm)
    ((landed m wk.1 d (peer wk.2 d) _).trans (Entails.of_eq
      ((pay_peer m d wk).trans
        (payload_cell cellAmt_pos cellSem_inj (pay := pay m) (peer wk.2 d, .inr (.inl wk)) 0 ()).symm)))) $$ [HO Hb Hs Ht Ht']
  · isplitr; · iexact Hc
    isplitr; · iexact Hc'
    isplitl [Hb]; · iexact Hb
    isplitl [Hs]; · iexact Hs
    isplitl [HO]; · iexact HO
    isplitl [Ht]; · iexact Ht
    isplitr; · iexact Hr
    isplitl [Ht']; · iexact Ht'
    iexact Hr'
  iintro ⟨Hcr, HO⟩
  iapply Hk
  isplitl [HO]
  · isplitr; · iexact HI
    iexists W; iexact HO
  iexact Hcr

/-- A wait on cell `x`, owing nothing. -/
theorem step_wait (d : Dev nD) {α : Type} (Q : α → sProp 𝕄) (x : Cell) (w : TpuEff nD τ sig (Elt F) Λ₀ .tc PUnit)
    (hw : ∀ K : PUnit → sProp 𝕄, wpE (defs₀ (F := F)) Variants.none (d : Thread nD τ) none Set.univ w K
      = waitSpec (d : Thread nD τ) Set.univ (cellSem x) (cellAmt x) K)
    (k : PUnit → Prog (TpuEff nD τ sig (Elt F) Λ₀ .tc) α) :
    iprop((Known m κ ∗ ∃ W, owes (d : Thread nD τ) 0 W) ∗ (credit (τ := τ) (Elt F) cellSem cellAmt (d, x) ∗ before (τ := τ) (Elt F) cellSem (d, x)))
      ⊢ iprop((((Known m κ ∗ ∃ W, owes (d : Thread nD τ) 0 W) ∗ (after (τ := τ) (Elt F) cellSem (d, x) ∗ pay m d x)) -∗ wp frame (wpE (defs₀ (F := F)) Variants.none (d : Thread nD τ) none) Set.univ (k ⟨⟩) Q)
        -∗ wp frame (wpE (defs₀ (F := F)) Variants.none (d : Thread nD τ) none) Set.univ (Prog.lift w >>= k) Q) := by
  rw [Prog.bind_lift]
  iintro ⟨⟨#HI, ⟨%W, HO⟩⟩, Hcr, Hat⟩ Hk
  iapply (wp_wait cellAmt_pos cellSem_inj (defs₀ (F := F)) Variants.none none κ d x hw) $$ [HO Hcr Hat]
  · isplitr; · iexact HI
    isplitl [Hcr]; · iexact Hcr
    isplitl [HO]; · iexact HO
    isplitr; · rw [MayWait_zero]; iempintro
    iexact Hat
  iintro ⟨HO, Hat, Hp⟩
  iapply Hk
  isplitl [HO]
  · isplitr; · iexact HI
    iexists _; iexact HO
  isplitl [Hat] <;> iassumption

/-! ## The body -/

/-- A device's position before any of its waits, by kind of semaphore. -/
theorem cells_split (Φ : Cell → sProp 𝕄) :
    bigSep Finset.univ Φ = iprop((bigSep Finset.univ fun wk : Fin 5 × Fin 7 => Φ (.inl wk))
      ∗ (bigSep Finset.univ fun wk : Fin 5 × Fin 7 => Φ (.inr (.inl wk))) ∗ bigSep Finset.univ fun w : Fin 5 => Φ (.inr (.inr w))) := by
  rw [BI.bigSep_univ_sum, BI.bigSep_univ_sum]; rfl

/-- What a device starts with: its own blocks, its own slot and its slots at its partners, and the tokens of its copies. -/
def Start (d : Dev nD) : sProp 𝕄 :=
  iprop((bigSep Finset.univ fun w : Fin 5 => iprop(blockPts m d w d ∗ slotPts (outBuf m) d w d ∗ tok (τ := τ) (Elt F) cellSem (d, .inr (.inr w))))
    ∗ (bigSep Finset.univ fun wk : Fin 5 × Fin 7 => iprop(blockPts m d wk.1 (peer wk.2 d) ∗ slotPts (outBuf m) (peer wk.2 d) wk.1 d
        ∗ tok (τ := τ) (Elt F) cellSem (d, .inl wk) ∗ tok (τ := τ) (Elt F) cellSem (peer wk.2 d, .inr (.inl wk)))))

/-- The body's run: from the buffers' pieces to what every cell of the device hands over. -/
theorem wp_body (d : Dev nD) (t : Fin cfg0.N) :
    iprop(Known m κ ∗ (∃ W, owes (d : Thread nD τ) (owedL d wks) W) ∗ Start m d
        ∗ (bigSep Finset.univ fun wk : Fin 5 × Fin 7 => credit (τ := τ) (Elt F) cellSem cellAmt (d, .inr (.inl wk)))
        ∗ bigSep Finset.univ fun x : Cell => before (τ := τ) (Elt F) cellSem (d, x))
      ⊢ wp frame (wpE (defs₀ (F := F)) Variants.none (d : Thread nD τ) none) Set.univ (bodyAt0 t) fun _ =>
          iprop((∃ W, owes (d : Thread nD τ) 0 W) ∗ bigSep Finset.univ fun x : Cell => iprop(after (τ := τ) (Elt F) cellSem (d, x) ∗ pay m d x)) := by
  rw [body_eq, Prog.bind_lift]
  unfold Start
  rw [wp_deviceId, steps, seqs_append, seqs_append, seqs_append, seqs_append, bind_assoc, bind_assoc, bind_assoc,
    cells_split (fun x : Cell => before (τ := τ) (Elt F) cellSem (d, x))]
  refine (show _ ⊢ (_ : sProp 𝕄) from ?_)
  iintro ⟨#HI, HO, Hst, Hcr, Hat⟩
  icases Hst with ⟨Hloc, Hrem⟩
  icases Hat with ⟨HatS, HatR, HatL⟩
  -- every copy is started
  iapply (wp_seqs_univ (defs₀ (F := F)) Variants.none d none (locStart d) _ _ (fun _ => Known m κ) _ ws (by decide) (by decide)
    (fun w _ k => step_loc m κ d _ w k) _) $$ [Hloc]
  · isplitr; · iexact HI
    iexact Hloc
  iintro ⟨-, HcL⟩
  iapply (wp_seqs_univ (defs₀ (F := F)) Variants.none d none (remStart d) _ _ (fun l => iprop(Known m κ ∗ ∃ W, owes (d : Thread nD τ) (owedL d l) W)) _ wks
    (by decide) (by decide) (fun wk l k => step_rem m κ d _ wk l k) _) $$ [HO Hrem]
  · isplitl [HO]
    · isplitr; · iexact HI
      iexact HO
    iexact Hrem
  iintro ⟨⟨-, HO⟩, HcS⟩
  rw [show owedL d [] = 0 from rfl]
  -- then every wait
  iapply (wp_seqs_univ (defs₀ (F := F)) Variants.none d none (recvWait d) _ _ (fun _ => iprop(Known m κ ∗ ∃ W, owes (d : Thread nD τ) 0 W)) _ wks
    (by decide) (by decide) (fun wk _ k => step_wait m κ d _ (.inr (.inl wk)) _ (fun K => wpE_waitDma2_eq (hsrc := block_exact wk.1 (peer wk.2 d)) (hdst := slot_exact wk.1 d)
      Variants.none (d : Thread nD τ) none Set.univ K) k) _) $$ [HO Hcr HatR]
  · isplitl [HO]
    · isplitr; · iexact HI
      iexact HO
    rw [bigSep_sep']; isplitl [Hcr] <;> iassumption
  iintro ⟨⟨-, HO⟩, HR⟩
  iapply (wp_seqs_univ (defs₀ (F := F)) Variants.none d none (sendWait d) _ _ (fun _ => iprop(Known m κ ∗ ∃ W, owes (d : Thread nD τ) 0 W)) _ wks
    (by decide) (by decide) (fun wk _ k => step_wait m κ d _ (.inl wk) _ (fun K => (wpE_waitDma2_eq (hsrc := slot_exact wk.1 d) (hdst := block_exact wk.1 (peer wk.2 d))
      Variants.none (d : Thread nD τ) none Set.univ K).trans (by rw [block_amt]; rfl)) k) _) $$ [HO HcS HatS]
  · isplitl [HO]
    · isplitr; · iexact HI
      iexact HO
    rw [bigSep_sep']; isplitl [HcS] <;> iassumption
  iintro ⟨⟨-, HO⟩, HS⟩
  rw [← bind_pure (seqs (ws.map (locWait d)))]
  iapply (wp_seqs_univ (defs₀ (F := F)) Variants.none d none (locWait d) _ _ (fun _ => iprop(Known m κ ∗ ∃ W, owes (d : Thread nD τ) 0 W)) _ ws
    (by decide) (by decide) (fun w _ k => step_wait m κ d _ (.inr (.inr w)) _ (fun K => wpE_waitDma2_eq (hsrc := block_exact w d) (hdst := slot_exact w d)
      Variants.none (d : Thread nD τ) none Set.univ K) k) _) $$ [HO HcL HatL]
  · isplitl [HO]
    · isplitr; · iexact HI
      iexact HO
    rw [bigSep_sep']; isplitl [HcL] <;> iassumption
  iintro ⟨⟨-, HO⟩, HL⟩
  rw [show (pure PUnit.unit : Prog (TpuEff nD τ sig (Elt F) Λ₀ .tc) PUnit) = .ret ⟨⟩ from rfl, wp_ret]
  imodintro
  isplitl [HO]; · iexact HO
  rw [cells_split]
  isplitl [HS]; · iexact HS
  isplitl [HR] <;> iassumption

end Cert.Proof

end
-- ==== Proof.Region.lean ====
/-
  A kernel region without windows and with a grid of one point: the region runs its body once.
-/
module

public import proofs.«01_k».proof.Proof.Talk

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg RDat owesWithin)

variable {nD : Nat} {τ : Topo} {sig : RefSig} {Val : EltTy → Type} {Λ₀ : Labels}

local notation "𝕄" => MT nD τ sig Unit Val ℕ (UR nD τ sig) ℕ

variable (cfgs : Fin 1 → Cfg sig Λ₀)

/-- The region's invariant: `P` before the body and `Y` after it, the core owing `O` before and nothing after. -/
def onceDat (m : (ℓ : Loc nD τ sig) → Buf Val ℓ) (P Y : Dev nD → sProp (MT nD τ sig Unit Val ℕ (UR nD τ sig) ℕ)) (O : Dev nD → CellTallies nD τ sig Unit) (p : Fin 1) (c : Dev nD) :
    RDat τ Val Unit ℕ (UR nD τ sig) ℕ (cfgs p) c where
  A w := m _
  after _ _ _ _ := True
  Φ t := if t.val = 0 then iprop(P c ∗ scopedBufs (c : Thread nD τ)) else iprop(Y c ∗ scopedSems0 (c : Thread nD τ) ∗ scopedBufs (c : Thread nD τ))
  q _ := fullShare
  owed t := if t.val = 0 then O c else 0

section Points
variable (m : (ℓ : Loc nD τ sig) → Buf Val ℓ) (P Y : Dev nD → sProp (MT nD τ sig Unit Val ℕ (UR nD τ sig) ℕ)) (O : Dev nD → CellTallies nD τ sig Unit)
  (c : Dev nD) (t : Fin ((cfgs 0).N + 1))

theorem onceDat_before (h : t.val = 0) : (onceDat cfgs m P Y O 0 c).Φ t = iprop(P c ∗ scopedBufs (c : Thread nD τ)) := if_pos h
theorem onceDat_after (h : t.val ≠ 0) : (onceDat cfgs m P Y O 0 c).Φ t
    = iprop(Y c ∗ scopedSems0 (c : Thread nD τ) ∗ scopedBufs (c : Thread nD τ)) := if_neg h
theorem onceDat_owes (h : t.val = 0) : (onceDat cfgs m P Y O 0 c).owed t = O c := if_pos h
theorem onceDat_owes_not (h : t.val ≠ 0) : (onceDat cfgs m P Y O 0 c).owed t = 0 := if_neg h
end Points

/-- The region runs the body once. -/
theorem wp_once (phinj : Function.Injective (Pipeline.cellOf (nD := nD) (τ := τ) cfgs)) (defs₀ : Defs nD τ sig Val Λ₀) (𝒱₀ : Variants) [∀ e, Nonempty (Val e)]
    (hW : (cfgs 0).W = 0) (hN : (cfgs 0).N = 1)
    (m : (ℓ : Loc nD τ sig) → Buf Val ℓ) (P Y : Dev nD → sProp 𝕄) (O : Dev nD → CellTallies nD τ sig Unit) (c : Dev nD)
    (hbody : ∀ t s, iprop(P c ∗ ∃ W, owes (c : Thread nD τ) (O c) W)
      ⊢ wp frame (wpE defs₀ 𝒱₀ (c : Thread nD τ) none) Set.univ (defs₀ .tc (cfgs 0).body ((cfgs 0).bodyArgs t s)) fun _ =>
        iprop((Y c ∗ scopedSems0 (c : Thread nD τ)) ∗ ∃ W, owes (c : Thread nD τ) 0 W))
    {α : Type} {k : PUnit → Prog (TpuEff nD τ sig Val (Pipeline.Sig Λ₀ (Fin 1) fun p => ((cfgs p).toPCfg (Val := Val)).Adm) Proc.tc) α} {Q : α → sProp 𝕄} :
    iprop((P c ∗ owes (c : Thread nD τ) (O c) ∅) ∗ scopedBufs (c : Thread nD τ))
      ⊢ iprop(((Y c ∗ scopedSems0 (c : Thread nD τ) ∗ scopedBufs (c : Thread nD τ) ∗ ∃ W, owes (c : Thread nD τ) 0 W)
          -∗ wp frame (wpE (Pipeline.defs (fun q => (cfgs q).toPCfg (Val := Val)) defs₀) (Variants.lift 𝒱₀) (c : Thread nD τ) none) Set.univ (k ⟨⟩) Q)
        -∗ wp frame (wpE (Pipeline.defs (fun q => (cfgs q).toPCfg (Val := Val)) defs₀) (Variants.lift 𝒱₀) (c : Thread nD τ) none) Set.univ
          (.op (.customCall (Pipeline.entry 0) ()) k) Q) := by
  have hE : IsEmpty (Fin (cfgs 0).W) := by rw [hW]; infer_instance
  have hK : IsEmpty (Fin ((cfgs 0).toPCfg (Val := Val)).pre.K) := inferInstanceAs (IsEmpty (Fin 0))
  have hempty : ∀ Φ : Fin (cfgs 0).W → sProp 𝕄, bigSep Finset.univ Φ = iprop(emp) := fun Φ => by
    rw [Finset.univ_eq_empty]; rfl
  have hb : (onceDat cfgs m P Y O 0 c).BodyObligation defs₀ 𝒱₀ () Set.univ := by
    intro t V _
    have ht : t.val = 0 := by have := t.isLt; omega
    unfold RDat.owesAt
    rw [hempty, hempty]
    rw [onceDat_before cfgs m P Y O c _ ht, onceDat_owes cfgs m P Y O c _ ht, onceDat_after cfgs m P Y O c t.succ (Nat.succ_ne_zero t.val),
      onceDat_owes_not cfgs m P Y O c t.succ (Nat.succ_ne_zero t.val)]
    iintro ⟨⟨HP, Hsc⟩, ⟨%W, -, HO⟩, -⟩
    iapply (wp_wand_r frame (wpE defs₀ 𝒱₀ (c : Thread nD τ) none) Set.univ)
    isplitl [HP HO]
    · iapply (hbody t _)
      isplitl [HP]; · iexact HP
      iexists W; iexact HO
    iintro %_ ⟨⟨HY, HS⟩, ⟨%W', HO⟩⟩
    isplitl [HY HS Hsc]
    · isplitl [HY]; · iexact HY
      isplitl [HS] <;> iassumption
    isplitl [HO]
    · iexists W'; isplitr; · ipureintro; exact fun _ _ => Or.inl trivial
      iexact HO
    iempintro
  have hin : iprop(P c ∗ Pipeline.prefHeld ((cfgs 0).toPCfg (Val := Val)).pre c (fun k => hK.elim k) ((cfgs 0).toPCfg_adm (Val := Val)).1 ∗ scopedBufs (c : Thread nD τ))
      ⊢ (onceDat cfgs m P Y O 0 c).Φ 0 := by
    rw [onceDat_before cfgs m P Y O c 0 rfl]
    iintro ⟨HP, -, HS⟩
    isplitl [HP] <;> iassumption
  have hlast : (Fin.last (cfgs 0).N).val ≠ 0 := by rw [Fin.val_last, hN]; exact one_ne_zero
  have hout : iprop((onceDat cfgs m P Y O 0 c).Φ (Fin.last (cfgs 0).N) ∗ Pipeline.cellsSems0 (τ := τ) (Ix := Unit) (Val := Val) (Name := ℕ) (U := UR nD τ sig) (Lvl := ℕ) cfgs 0 c ∗ Pipeline.Dat.staging (cfgs 0) c)
      ⊢ iprop(Y c ∗ scopedSems0 (c : Thread nD τ) ∗ scopedBufs (c : Thread nD τ)) := by
    rw [onceDat_after cfgs m P Y O c _ hlast]
    iintro ⟨H, -⟩; iexact H
  have hbufs : (scopedBufs (c : Thread nD τ) : sProp 𝕄) ⊢ iprop(Pipeline.Dat.staging (cfgs 0) c ∗ scopedBufs (c : Thread nD τ)) := by
    unfold Pipeline.Dat.staging
    rw [hempty]
    iintro H
    isplitr; · iempintro
    iexact H
  iintro ⟨⟨HP, HO⟩, Hsc⟩ Hk
  iapply (Pipeline.PerCore.RDat.wp_customCall_entry (fun q => (cfgs q).toPCfg (Val := Val)) (fun _ q => (cfgs q).toPCfg_adm)
    (onceDat cfgs m P Y O) () ER (fun _ => 0)
    (phinj : Function.Injective (Pipeline.PerCore.cellOf (nD := nD) (Pipeline.pinD (fun q => (cfgs q).toPCfg (Val := Val)) (fun (_ : Dev nD) q => (cfgs q).toPCfg_adm)))) 0 defs₀ 𝒱₀ (fun k => hK.elim k) c Set.univ
    (fun w => hE.elim w) hb (fun w => hE.elim w) none (fun u h => nomatch h) (X := P c) (Y := iprop(Y c)) (R := scopedBufs (c : Thread nD τ))
    hbufs hin hout) $$ [HP HO Hsc]
  · isplitl [HO]
    · unfold Pipeline.PerCore.RDat.EntryPre RDat.arrays RDat.owesAt Pipeline.PerCore.RDat.cellsWaits Pipeline.PerCore.RDat.cellsInit Pipeline.PerCore.toksInit
      rw [onceDat_owes cfgs m P Y O c 0 rfl]
      isplitr; · iapply (Entails.of_eq (hempty _).symm); iempintro
      isplitl [HO]
      · iexists ∅; isplitr; · ipureintro; rw [Finset.coe_empty]; exact Set.empty_subset _
        iexact HO
      isplitr; · iapply (Entails.of_eq (hempty _).symm); iempintro
      isplitr; · iapply (Entails.of_eq (hempty _).symm); iempintro
      iapply (Entails.of_eq (hempty _).symm); iempintro
    isplitr; · unfold Pipeline.prefHeld; rw [Finset.univ_eq_empty]; iempintro
    isplitl [HP] <;> iassumption
  unfold Pipeline.PerCore.RDat.EntryPost
  unfold RDat.owesAt
  rw [onceDat_owes_not cfgs m P Y O c _ hlast]
  iintro ⟨⟨-, ⟨%W, -, HO⟩⟩, HY, HS, HB⟩
  iapply Hk
  isplitl [HY]; · iexact HY
  isplitl [HS]; · iexact HS
  isplitl [HB]; · iexact HB
  iexists W; iexact HO

end Cert.Talk

end
-- ==== Proof.Run.lean ====
/-
  The run of the exchange on all devices: every device ends with its gradients untouched and its five results holding the
  scattered gradients.
-/
module

public import proofs.«01_k».proof.Proof.Protocol
public import proofs.«01_k».proof.Proof.Region
public import Idealize.ShloMosaic.Lib.Ring

@[expose] public section

noncomputable section

namespace Cert.Proof

open Cert.KernelIdeal Cert.KernelIdeal.Gen Cert.Talk
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (launchCred)

variable {F : FTy → Type} [FloatOps F]

local notation "𝕄" => MT nD τ sig Unit (Elt F) ℕ (UR nD τ sig) ℕ

variable (m : (ℓ : Loc nD τ sig) → Buf (Elt F) ℓ)

/-! ## The buffers in pieces -/

/-- Every device is `d` or one of its partners. -/
theorem around (d : Dev nD) (Φ : Dev nD → sProp 𝕄) :
    bigSep Finset.univ Φ = iprop(Φ d ∗ bigSep Finset.univ fun k : Fin 7 => Φ (peer k d)) := by
  have h1 : ∀ d : Dev nD, (Finset.univ : Finset (Dev nD)) = insert d (Finset.univ.image fun k : Fin 7 => peer k d) := by decide
  have h2 : ∀ d : Dev nD, d ∉ Finset.univ.image fun k : Fin 7 => peer k d := by decide
  have h3 : ∀ (d : Dev nD) (a b : Fin 7), peer a d = peer b d → a = b := by decide
  rw [h1 d, bigSep_insert (h2 d), bigSep_image_of_injOn fun a _ b _ => h3 d a b]; rfl

/-- Gradient `w` of device `d`, whole. -/
def inPts (d : Dev nD) (w : Fin 5) : sProp 𝕄 := ((inM w).view.loc (d : Thread nD τ)) ↦{fullShare} inBuf m w d
/-- Result `w` of device `d`, whole, holding `f`. -/
def outPts (f : (w : Fin 5) → (d : Dev nD) → (outM w).view.ty.Contents (Elt F)) (d : Dev nD) (w : Fin 5) : sProp 𝕄 :=
  ((outM w).view.loc (d : Thread nD τ)) ↦{fullShare} f w d

/-- A gradient is its eight blocks, -/
theorem inPts_eq (d : Dev nD) (w : Fin 5) :
    inPts m d w = iprop(blockPts m d w d ∗ bigSep Finset.univ fun k : Fin 7 => blockPts m d w (peer k d)) :=
  (Ring.pointsTo_blocks (ℓ := (inM w).view.loc (d : Thread nD τ)) (fun s : Dev nD => (block w s).view.set) (block_disjoint w) (block_cover w) (inBuf m w d)).trans
    (around d fun s => blockPts m d w s)
/-- and a result its eight slots. -/
theorem outPts_eq (f : (w : Fin 5) → (d : Dev nD) → (outM w).view.ty.Contents (Elt F)) (d : Dev nD) (w : Fin 5) :
    outPts f d w = iprop(slotPts f d w d ∗ bigSep Finset.univ fun k : Fin 7 => slotPts f d w (peer k d)) :=
  (Ring.pointsTo_blocks (ℓ := (outM w).view.loc (d : Thread nD τ)) (fun s : Dev nD => (slot w s).view.set) (slot_disjoint w) (slot_cover w) (f w d)).trans
    (around d fun s => slotPts f d w s)

/-- All five gradients, -/
theorem ins_eq (d : Dev nD) : bigSep Finset.univ (inPts m d)
    = iprop((bigSep Finset.univ fun w => blockPts m d w d) ∗ bigSep Finset.univ fun wk : Fin 5 × Fin 7 => blockPts m d wk.1 (peer wk.2 d)) := by
  rw [BI.bigSep_univ_prod, ← bigSep_sep']
  exact congrArg _ (funext fun w => inPts_eq m d w)
/-- and all five results. -/
theorem outs_eq (f : (w : Fin 5) → (d : Dev nD) → (outM w).view.ty.Contents (Elt F)) (d : Dev nD) : bigSep Finset.univ (outPts f d)
    = iprop((bigSep Finset.univ fun w => slotPts f d w d) ∗ bigSep Finset.univ fun wk : Fin 5 × Fin 7 => slotPts f d wk.1 (peer wk.2 d)) := by
  rw [BI.bigSep_univ_prod, ← bigSep_sep']
  exact congrArg _ (funext fun w => outPts_eq f d w)

/-- The buffers of a device at launch. -/
theorem bufs_eq (d : Dev nD) : (Idealize.ShloMosaic.unscopedBufs d fun b => m ((d : Thread nD τ).loc b) : sProp 𝕄)
    = iprop(bigSep Finset.univ (inPts m d) ∗ bigSep Finset.univ (outPts (outBuf m) d)) := by
  have h : (Finset.univ.filter fun b : Ref sig .tc => ¬ b.isScoped) = Finset.univ.image (Sum.elim inB outB) := by decide +kernel
  have hi : Function.Injective (Sum.elim inB outB) := by
    have : ∀ a b : Fin 5 ⊕ Fin 5, Sum.elim inB outB a = Sum.elim inB outB b → a = b := by decide +kernel
    exact fun a b => this a b
  unfold Idealize.ShloMosaic.unscopedBufs
  rw [h, bigSep_image_of_injOn hi.injOn, BI.bigSep_univ_sum]
  refine congrArg₂ (fun a b : sProp 𝕄 => iprop(a ∗ b)) (congrArg _ (funext fun w => ?_)) (congrArg _ (funext fun w => ?_))
  · match w with
    | 0 => rfl | 1 => rfl | 2 => rfl | 3 => rfl | 4 => rfl
  · match w with
    | 0 => rfl | 1 => rfl | 2 => rfl | 3 => rfl | 4 => rfl

/-- Summed over all devices, what sits at a device's partners is what its partners hold. -/
theorem turn (Φ : Dev nD → Dev nD → Fin 5 × Fin 7 → sProp 𝕄) :
    (bigSep Finset.univ fun d : Dev nD => bigSep Finset.univ fun wk : Fin 5 × Fin 7 => Φ d (peer wk.2 d) wk)
      = bigSep Finset.univ fun d : Dev nD => bigSep Finset.univ fun wk : Fin 5 × Fin 7 => Φ (peer wk.2 d) d wk := by
  rw [← BI.bigSep_univ_prod (fun p : Dev nD × (Fin 5 × Fin 7) => Φ p.1 (peer p.2.2 p.1) p.2),
    ← BI.bigSep_univ_prod (fun p : Dev nD × (Fin 5 × Fin 7) => Φ (peer p.2.2 p.1) p.1 p.2),
    BI.bigSep_univ_equiv (⟨fun p => (peer p.2.2 p.1, p.2), fun p => (peer p.2.2 p.1, p.2),
      fun p => by simp only [peer_peer], fun p => by simp only [peer_peer]⟩ : Dev nD × (Fin 5 × Fin 7) ≃ Dev nD × (Fin 5 × Fin 7))]
  refine congrArg _ (funext fun p => ?_)
  show Φ (peer p.2.2 p.1) (peer p.2.2 (peer p.2.2 p.1)) p.2 = _
  rw [peer_peer]

/-- At launch every device gets its pieces and its tokens. -/
theorem deal : iprop((bigSep Finset.univ fun d : Dev nD => Idealize.ShloMosaic.unscopedBufs d fun b => m ((d : Thread nD τ).loc b))
    ∗ bigSep Finset.univ fun p : Dev nD × Cell => tok (τ := τ) (Elt F) cellSem p) ⊢ (bigSep Finset.univ fun d : Dev nD => Start m d : sProp 𝕄) := by
  rw [show ((fun d : Dev nD => Idealize.ShloMosaic.unscopedBufs d fun b => m ((d : Thread nD τ).loc b)) : Dev nD → sProp 𝕄) = fun d => _ from
    funext fun d => (bufs_eq m d).trans (by rw [ins_eq, outs_eq]), BI.bigSep_univ_prod]
  simp only [cells_split (fun x : Cell => tok (τ := τ) (Elt F) cellSem (_, x)), Start, bigSep_sep']
  rw [turn (fun d e wk => slotPts (outBuf m) d wk.1 e), turn (fun d e wk => tok (τ := τ) (Elt F) cellSem (d, .inr (.inl wk)))]
  refine (show _ ⊢ (_ : sProp 𝕄) from ?_)
  iintro ⟨⟨⟨Hb, Hbs⟩, Hs, Hss⟩, Ht, Htr, Htl⟩
  isplitl [Hb Hs Htl]
  · isplitl [Hb]; · iexact Hb
    isplitl [Hs] <;> iassumption
  isplitl [Hbs]; · iexact Hbs
  isplitl [Hss]; · iexact Hss
  isplitl [Ht] <;> iassumption

/-! ## What is owed at launch -/

/-- What device `d` owes at launch, as a sum. -/
theorem owed_eq (d : Dev nD) : owedL d wks = ∑ wk : Fin 5 × Fin 7, tallyAt (cellG (τ := τ) cellSem (peer wk.2 d, .inr (.inl wk))) () (amt wk.1) := by
  unfold owedL
  rw [← List.sum_toFinset _ (show wks.Nodup by decide), show wks.toFinset = Finset.univ by decide]

/-- Each device gets the credit of its receive semaphores. -/
theorem creds (d : Dev nD) : (launchCred (fun e => owedL e wks) d : sProp 𝕄)
    ⊢ bigSep Finset.univ fun wk : Fin 5 × Fin 7 => credit (τ := τ) (Elt F) cellSem cellAmt (d, .inr (.inl wk)) := by
  rw [show (fun e => owedL e wks) = _ from funext owed_eq, Pipeline.launchCred_sum]
  exact bigSep_mono fun wk _ => Pipeline.launchCred_tallyAt (cellSem (.inr (.inl wk))) (peer wk.2) (peer wk.2) (peer_peer wk.2) (peer_peer wk.2) () (amt wk.1) d

/-! ## A device's run -/

/-- What a device ends with. -/
def Done (d : Dev nD) : sProp 𝕄 := iprop(bigSep Finset.univ (inPts m d) ∗ bigSep Finset.univ (outPts (finBuf m) d))

/-- What the cells hand over is the buffers. -/
theorem pays_done (d : Dev nD) : (bigSep Finset.univ fun x : Cell => pay m d x) ⊢ (Done m d : sProp 𝕄) := by
  unfold Done
  rw [cells_split, ins_eq, outs_eq]
  simp only [pay, bigSep_sep']
  iintro ⟨Hbs, Hss, Hs, Hb⟩
  isplitl [Hb Hbs]; · isplitl [Hb] <;> iassumption
  isplitl [Hs] <;> iassumption

variable (κ : Dev nD × Cell → ℕ)

/-- Every semaphore is at zero once it has been waited for. -/
theorem closes (d : Dev nD) : iprop(Known m κ ∗ bigSep Finset.univ fun x : Cell => after (τ := τ) (Elt F) cellSem (d, x))
    ⊢ |={Set.univ}=> (scopedSems0 (d : Thread nD τ) : sProp 𝕄) := by
  rw [show (scopedSems0 (d : Thread nD τ) : sProp 𝕄) = _ from scopedSems0_tc d, scoped_cells, bigSep_image_of_injOn cellSem_inj.injOn]
  refine (sep_mono_left (bigSep_of_persistent (Finset.univ (α := Cell)) (Known m κ))).trans ?_
  rw [← bigSep_sep']
  exact (bigSep_mono fun x _ => close cellAmt_pos κ (d, x)).trans (bigSep_fupd _ _)

/-- The body of the region, from what a device starts with to its buffers, with its semaphores at zero. -/
theorem body_done (d : Dev nD) (t : Fin cfg0.N) :
    iprop((Known m κ ∗ Start m d ∗ (bigSep Finset.univ fun wk : Fin 5 × Fin 7 => credit (τ := τ) (Elt F) cellSem cellAmt (d, .inr (.inl wk)))
        ∗ bigSep Finset.univ fun x : Cell => before (τ := τ) (Elt F) cellSem (d, x)) ∗ ∃ W, owes (d : Thread nD τ) (owedL d wks) W)
      ⊢ wp frame (wpE (defs₀ (F := F)) Variants.none (d : Thread nD τ) none) Set.univ (bodyAt0 t) fun _ =>
          iprop((Done m d ∗ scopedSems0 (d : Thread nD τ)) ∗ ∃ W, owes (d : Thread nD τ) 0 W) := by
  iintro ⟨⟨#HI, Hst, Hcr, Hat⟩, HO⟩
  iapply (wp_fupd frame (wpE (defs₀ (F := F)) Variants.none (d : Thread nD τ) none) Set.univ _ _)
  iapply (wp_wand_r frame (wpE (defs₀ (F := F)) Variants.none (d : Thread nD τ) none) Set.univ)
  isplitl
  · iapply (wp_body m κ d t)
    isplitr; · iexact HI
    isplitl [HO]; · iexact HO
    isplitl [Hst]; · iexact Hst
    isplitl [Hcr] <;> iassumption
  iintro %_ ⟨HO, H⟩
  ihave H := (Entails.of_eq (bigSep_sep' Finset.univ (fun x : Cell => after (τ := τ) (Elt F) cellSem (d, x)) fun x => pay m d x)) $$ H
  icases H with ⟨Haf, Hp⟩
  imod (closes m κ d) $$ [Haf] with Hz
  · isplitr; · iexact HI
    iexact Haf
  imodintro
  isplitl [Hp Hz]
  · isplitl [Hp]; · iapply (pays_done m d); iexact Hp
    iexact Hz
  iexact HO

/-- The same for the region's call. -/
theorem call_done (d : Dev nD) (t : Fin cfg0.N) (s : (w : Fin cfg0.W) → Fin (cfg0.win w).nbuf) :
    iprop((Known m κ ∗ Start m d ∗ (bigSep Finset.univ fun wk : Fin 5 × Fin 7 => credit (τ := τ) (Elt F) cellSem cellAmt (d, .inr (.inl wk)))
        ∗ bigSep Finset.univ fun x : Cell => before (τ := τ) (Elt F) cellSem (d, x)) ∗ ∃ W, owes (d : Thread nD τ) (owedL d wks) W)
      ⊢ wp frame (wpE (defs₀ (F := F)) Variants.none (d : Thread nD τ) none) Set.univ ((defs₀ (F := F)) .tc cfg0.body (cfg0.bodyArgs t s)) fun _ =>
          iprop((Done m d ∗ scopedSems0 (d : Thread nD τ)) ∗ ∃ W, owes (d : Thread nD τ) 0 W) := by
  refine (body_done m κ d t).trans (Entails.of_eq ?_)
  chain_rfl

set_option maxRecDepth 16384 in
/-- The whole program on device `d`. -/
theorem main_done (d : Dev nD) :
    iprop(Known m κ ∗ scopedBufs (d : Thread nD τ) ∗ opIdle (d : Thread nD τ) ∗ Start m d
        ∗ (bigSep Finset.univ fun x : Cell => before (τ := τ) (Elt F) cellSem (d, x))
        ∗ owes (d : Thread nD τ) (owedL d wks) ∅ ∗ levAts lvIx (fun _ _ => 0) ∗ launchCred (fun e => owedL e wks) d)
      ⊢ wp frame (wpE (defs (F := F)) (Variants.lift Variants.none) (d : Thread nD τ) none) Set.univ (main d) fun _ =>
          iprop((Done m d ∗ scopedSems0 (d : Thread nD τ)) ∗ ∃ W, owes (d : Thread nD τ) 0 W) := by
  unfold main
  rw [Prog.bind_lift]
  iintro ⟨#HI, Hsc, -, Hst, Hat, HO, -, Hlc⟩
  ihave Hcr := (creds d) $$ Hlc
  iapply (wp_once cfgs cellOf_inj (defs₀ (F := F)) Variants.none rfl N_0 m
    (fun d => iprop(Known m κ ∗ Start m d ∗ (bigSep Finset.univ fun wk : Fin 5 × Fin 7 => credit (τ := τ) (Elt F) cellSem cellAmt (d, .inr (.inl wk)))
        ∗ bigSep Finset.univ fun x : Cell => before (τ := τ) (Elt F) cellSem (d, x))) (Done m) (fun d => owedL d wks) d
    (fun t s => call_done m κ d t s)) $$ [Hsc Hst Hat HO Hcr]
  · isplitr [Hsc]
    · isplitr [HO]
      · isplitr; · iexact HI
        isplitl [Hst]; · iexact Hst
        isplitl [Hcr] <;> iassumption
      iexact HO
    iexact Hsc
  iintro ⟨HD, Hz, -, HO⟩
  rw [show (pure PUnit.unit : Prog (TpuEff nD τ sig (Elt F) (Pipeline.Sig Λ₀ (Fin 1) fun p => (pcfgs (F := F) p).Adm) .tc) PUnit) = .ret ⟨⟩ from rfl, wp_ret]
  imodintro
  isplitl [HD Hz]; · isplitl [HD] <;> iassumption
  iexact HO

/-! ## All devices -/

/-- What a device's final memory says. -/
def Ends (d : Dev nD) (s : MemSt nD τ sig (Elt F)) : Prop :=
  (∀ w, s.mem ((inM w).view.loc (d : Thread nD τ)) = inBuf m w d) ∧ ∀ w, s.mem ((outM w).view.loc (d : Thread nD τ)) = finBuf m w d

/-- The run: every device's gradients are untouched and its results hold the scattered gradients; every semaphore ends at zero. -/
theorem run_main (g : Dev nD → PrngReg) : θ_run (defs (F := F)) (onTc (τ := τ) (main (F := F))) ⟨m, fun _ => 0, g⟩ fun r =>
    (∀ d, Ends m d r.2) ∧ ∀ g' : GSem nD τ sig, (g'.1.2 ≠ .tc ∨ g'.2.isScoped .tc = true) → r.2.sem g' = 0 := by
  refine Talk.launch cellAmt_pos cellSem_inj (pay := pay m) (fun d x => inferInstance) scoped_cells (defs (F := F)) (Variants.lift Variants.none) (main (F := F)) m g
    (fun e => owedL e wks) (fun _ _ => 0) (Start m) (Done m) (deal m) (fun κ d => main_done m κ d) (Ends m) fun d s' => ?_
  unfold Done inPts outPts
  iintro ⟨⟨Hi, Ho⟩, HSI⟩
  ihave Hr := (pointsTo_read_all Finset.univ (fun w => (inM w).view.loc (d : Thread nD τ)) (fun w => inBuf m w d) s') $$ [Hi HSI]
  · isplitl [Hi] <;> iassumption
  icases Hr with ⟨%hi, HSI⟩
  ihave Hr := (pointsTo_read_all Finset.univ (fun w => (outM w).view.loc (d : Thread nD τ)) (fun w => finBuf m w d) s') $$ [Ho HSI]
  · isplitl [Ho] <;> iassumption
  icases Hr with ⟨%ho, HSI⟩
  imodintro
  isplitr
  · ipureintro; exact ⟨fun w => hi w (Finset.mem_univ w), fun w => ho w (Finset.mem_univ w)⟩
  iexact HSI

end Cert.Proof

end
-- ==== Proof.Values.lean ====
/-
  The scattered gradients are the plain exchange of row blocks, block by block of the whole arrays.
-/
module

public import proofs.«01_k».proof.Proof.Run
public import proofs.«01_k».proof.Proof.Gen.Reference.Run
public import proofs.«01_k».proof.Proof.Gen.ReferenceIdeal.Run
public import Idealize.ShloMosaic.Lib.Layout
public import Mathlib.Tactic.Ring
public import Idealize.ShloMosaic.Lib.Pipeline.Value
public import Idealize.ShloMosaic.Lib.Pointwise.Index

@[expose] public section

noncomputable section

namespace Cert.Proof

open Cert.KernelIdeal Cert.KernelIdeal.Gen
open Idealize.ShloMosaic Idealize.ShloMosaic.TcCoe
open Idealize.SL.Sem

/-- The whole gradient `w`, all devices' rows. -/
abbrev WI (w : Fin 5) : Shape := ⟨2, ![64 * nr w, 2048]⟩
/-- The same rows numbered by source device, destination device and row of the block. -/
abbrev W4 (w : Fin 5) : Shape := ⟨4, ![8, 8, nr w, 2048]⟩
/-- The whole result `w`. -/
abbrev WO (w : Fin 5) : Shape := ⟨3, ![64, nr w, 2048]⟩

theorem tiles_in : ∀ w : Fin 5, Layout.Tiles (SI w) (WI w) 0 8 := by decide
theorem tiles_out : ∀ w : Fin 5, Layout.Tiles (SO w) (WO w) 0 8 := by decide
theorem casts_in : ∀ w : Fin 5, (WI w).ShapeCasts (W4 w) := by decide
theorem casts_out : ∀ w : Fin 5, (W4 w).ShapeCasts (WO w) := by decide
theorem swaps : ∀ w : Fin 5, (W4 w).Transposes [1, 0, 2, 3] (W4 w) := by decide

/-- The reference's result `w`: the row blocks with source and destination exchanged. -/
def refVal {α : Type} (w : Fin 5) (v : (WI w).Idx → α) : (WO w).Idx → α :=
  shapeCast (WO w) (transpose (W4 w) [1, 0, 2, 3] (shapeCast (W4 w) v (casts_in w)) (swaps w)) (casts_out w)

/-- Device `d`'s block of the reference's result is what the exchange leaves on device `d`. -/
theorem refVal_block {Val : EltTy → Type} (w : Fin 5) (d : Dev nD) (v : (WI w).Idx → Val .bf16) :
    Layout.block (SO w) (WO w) 0 8 d (refVal w v) (tiles_out w)
      = scatterVal w (fun s => Layout.block (SI w) (WI w) 0 8 s v (tiles_in w)) d := by
  funext j
  have hs : (j 0).val < 8 := (j 0).isLt
  have hr : (j 1).val < nr w := (j 1).isLt
  have hd : d.val < 8 := d.isLt
  have hk : (nr w) * (8 * (j 0).val + d.val) + nr w ≤ nr w * 64 := by
    have := Nat.mul_le_mul_left (nr w) (show 8 * (j 0).val + d.val + 1 ≤ 64 by omega)
    rwa [Nat.mul_add, Nat.mul_one] at this
  show refVal w v ((tiles_out w).idx d j) = v ((tiles_in w).idx (j 0 : Dev nD) (rowIx w d (j 1) (j 2)))
  unfold refVal
  rw [shapeCast_apply _ (casts_out w) _ (ix4 (n0 := 8) (n1 := 8) (n2 := nr w) (n3 := 2048) d (j 0) (j 1) (j 2)) ?_,
    transpose_apply _ _ (swaps w) _ (ix4 (n0 := 8) (n1 := 8) (n2 := nr w) (n3 := 2048) (j 0) d (j 1) (j 2)) ?_,
    shapeCast_apply _ (casts_in w) _ (ix2 (n0 := 64 * nr w) (n1 := 2048) ⟨nr w * (8 * (j 0).val + d.val) + (j 1).val, by
      rw [Nat.mul_comm 64]; omega⟩ (j 2)) ?_]
  · refine congrArg v (funext fun a => Fin.ext ?_)
    match a with
    | 0 =>
      show nr w * (8 * (j 0).val + d.val) + (j 1).val = (j 0).val * (8 * nr w) + (d.val * nr w + (j 1).val)
      ring
    | 1 => rfl
  · rw [Shape.rowMajor_val_two, Shape.rowMajor_val_four]
    show (nr w * (8 * (j 0).val + d.val) + (j 1).val) * 2048 + (j 2).val
      = ((((j 0).val * 8 + d.val) * nr w + (j 1).val) * 2048 + (j 2).val)
    ring
  · intro b
    match b with
    | 0 => rfl
    | 1 => rfl
    | 2 => rfl
    | 3 => rfl
  · rw [Shape.rowMajor_val_three, Shape.rowMajor_val_four]
    show (((d.val * 8 + (j 0).val) * nr w + (j 1).val) * 2048 + (j 2).val)
      = (((d.val * 8 + (j 0).val) * nr w + (j 1).val) * 2048 + (j 2).val)
    rfl

variable {F : FTy → Type} [FloatOps F]
variable (m : (ℓ : Loc nD τ sig) → Buf (Elt F) ℓ)

/-- The final contents of device `d`'s result `w`, from the whole gradient. -/
theorem final_block (w : Fin 5) (v : (WI w).Idx → Elt F .bf16)
    (h : ∀ s : Dev nD, (inM w).view.read (Elt F) (inBuf m w s) = Layout.block (SI w) (WI w) 0 8 s v (tiles_in w)) (d : Dev nD) :
    (outM w).view.read (Elt F) (finBuf m w d) = Layout.block (SO w) (WO w) 0 8 d (refVal w v) (tiles_out w) := by
  unfold finBuf scatterBuf
  rw [View.read_write_univ, refVal_block]
  exact congrArg (fun A => scatterVal w A d) (funext h)

end Cert.Proof

end
-- ==== Proof.UpdateRun.lean ====
/-
  The run of the optimizer program with the contents it leaves: every array at the last boundary's contents, every
  counter at zero.
-/
module

public import proofs.«01_k».proof.Proof.Gen.UpdateIdeal.Frame

@[expose] public section

set_option maxRecDepth 16384

noncomputable section

namespace Cert.UpdateIdeal.Values

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.UpdateIdeal Cert.UpdateIdeal.Gen

variable {F : FTy → Type} [FloatOps F]

local notation "𝕄" => MT nD τ sig Unit (Elt F) ℕ (UR sig nD τ) ℕ

set_option backward.isDefEq.respectTransparency.types false in
/-- The optimizer program runs, faults nowhere, and ends with every array at the contents of the last boundary and every
    counter at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, ∀ b ∈ Pipeline.ucRefs τ sig, r.2.mem (((c : Thread nD τ)).1, b) = W20 m ρ c b) ∧ r.2.sem = fun _ => 0 :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h hz => ⟨h, funext fun g => hz g (.inr (no_unscoped g.2))⟩)

end Cert.UpdateIdeal.Values
-- ==== Proof.Moments.lean ====
/-
  What each optimizer call leaves in its result arrays, over the real numbers.
-/
module

public import proofs.«01_k».proof.Proof.Gen.UpdateIdeal.Frame.Region1
public import proofs.«01_k».proof.Proof.Gen.UpdateIdeal.Frame.Region3
public import proofs.«01_k».proof.Proof.Gen.UpdateIdeal.Frame.Region5
public import proofs.«01_k».proof.Proof.Gen.UpdateIdeal.Frame.Region7
public import proofs.«01_k».proof.Proof.Gen.UpdateIdeal.Frame.Region9
public import Idealize.ShloMosaic.Lib.Pipeline.ValueKit
public import Idealize.ShloMosaic.Lib.Pointwise.Tactic

@[expose] public section

set_option maxRecDepth 16384

noncomputable section

open Idealize.ShloMosaic Idealize.ShloMosaic.TcCoe Idealize.SL.Sem
open Idealize.ShloMosaic.Pipeline (Dat)

namespace Cert.UpdateIdeal.Values

open Cert.UpdateIdeal Cert.UpdateIdeal.Gen

variable (V : (c : Dev nD) → (b : Ref sig .tc) → Buf (Elt Ideal) ((c : Thread nD τ).loc b))

/-- The first moment after a step. -/
def mom (g m : EReal) : EReal :=
  Ideal.ofBits .f32 0x3F666666#32 * m + Ideal.ofBits .f32 0x3DCCCCCD#32 * g

/-- The second moment after a step. -/
def vel (g v : EReal) : EReal :=
  Ideal.ofBits .f32 0x3F7FBE77#32 * v + Ideal.ofBits .f32 0x3A83126F#32 * (g * g)

/-- The change of a weight `w` in a step: the corrected moments' quotient and the decay of the weight, scaled. -/
def dlt (w g m v : EReal) : EReal :=
  Ideal.ofBits .f32 0xBA83126F#32 *
    (Ideal.div (Ideal.div (mom g m) (Ideal.ofBits .f32 0x3F26BD02#32))
        (Ideal.sqrt (Ideal.div (vel g v) (Ideal.ofBits .f32 0x3C231ACC#32)) + Ideal.ofBits .f32 0x322BCC77#32)
      + Ideal.ofBits .f32 0x3C23D70A#32 * w)

/-- `d`, `m'`, `v'` are the change and the two moments that one step makes of `w`, `g`, `m`, `v`, entry by entry. -/
def Step {S : Shape} (w g m v d m' v' : FVec Ideal S .f32) : Prop :=
  d = (fun i => dlt (w i) (g i) (m i) (v i)) ∧ m' = (fun i => mom (g i) (m i)) ∧ v' = fun i => vel (g i) (v i)

/-- Where the blocks of the optimizer call for `w_in` lie. -/
theorem idx1 : ∀ t : Fin cfg1.N, win1_0.index t = ![(grid1.coords t 0).val, 0]
    ∧ win1_1.index t = ![(grid1.coords t 0).val, 0]
    ∧ win1_2.index t = ![(grid1.coords t 0).val, 0]
    ∧ win1_3.index t = ![(grid1.coords t 0).val, 0]
    ∧ win1_4.index t = ![(grid1.coords t 0).val, 0]
    ∧ win1_5.index t = ![(grid1.coords t 0).val, 0]
    ∧ win1_6.index t = ![(grid1.coords t 0).val, 0] :=
  (by decide +kernel : ∀ t : Fin grid1.N, _)

/-- The optimizer call for `w_in` makes one step. -/
theorem adam1 (c : Dev nD) : Step (S := S2048x416) (V c main_v2) (V c main_v1) (V c main_v3) (V c main_v4)
    ((dat1 V c).arrAt 4 cfg1.N) ((dat1 V c).arrAt 5 cfg1.N) ((dat1 V c).arrAt 6 cfg1.N) := by
  refine ⟨(dat1 V c).arrAt_eq_of_covers 4 _ (by decide +kernel) fun t _ y => ?_,
    (dat1 V c).arrAt_eq_of_covers 5 _ (by decide +kernel) fun t _ y => ?_,
    (dat1 V c).arrAt_eq_of_covers 6 _ (by decide +kernel) fun t _ y => ?_⟩ <;> blk_simp
  · rw [after1_4]; frame_out
    pointwise [k1_pay4, k1_pay3, k1_pay2, k1_pay1, dlt, mom, vel]
    blk_point [iblk1, idx1 t]
  · rw [after1_5]; frame_out
    pointwise [k1_pay2, k1_pay1, mom]
    blk_point [iblk1, idx1 t]
  · rw [after1_6]; frame_out
    pointwise [k1_pay3, k1_pay1, vel]
    blk_point [iblk1, idx1 t]

/-- Where the blocks of the optimizer call for `w_out` lie. -/
theorem idx3 : ∀ t : Fin cfg3.N, win3_0.index t = ![(grid3.coords t 0).val, 0]
    ∧ win3_1.index t = ![(grid3.coords t 0).val, 0]
    ∧ win3_2.index t = ![(grid3.coords t 0).val, 0]
    ∧ win3_3.index t = ![(grid3.coords t 0).val, 0]
    ∧ win3_4.index t = ![(grid3.coords t 0).val, 0]
    ∧ win3_5.index t = ![(grid3.coords t 0).val, 0]
    ∧ win3_6.index t = ![(grid3.coords t 0).val, 0] :=
  (by decide +kernel : ∀ t : Fin grid3.N, _)

/-- The optimizer call for `w_out` makes one step. -/
theorem adam3 (c : Dev nD) : Step (S := S256x2048) (V c main_v11) (V c main_v10) (V c main_v12) (V c main_v13)
    ((dat3 V c).arrAt 4 cfg3.N) ((dat3 V c).arrAt 5 cfg3.N) ((dat3 V c).arrAt 6 cfg3.N) := by
  refine ⟨(dat3 V c).arrAt_eq_of_covers 4 _ (by decide +kernel) fun t _ y => ?_,
    (dat3 V c).arrAt_eq_of_covers 5 _ (by decide +kernel) fun t _ y => ?_,
    (dat3 V c).arrAt_eq_of_covers 6 _ (by decide +kernel) fun t _ y => ?_⟩ <;> blk_simp
  · rw [after3_4]; frame_out
    pointwise [k3_pay4, k3_pay3, k3_pay2, k3_pay1, dlt, mom, vel]
    blk_point [iblk3, idx3 t]
  · rw [after3_5]; frame_out
    pointwise [k3_pay2, k3_pay1, mom]
    blk_point [iblk3, idx3 t]
  · rw [after3_6]; frame_out
    pointwise [k3_pay3, k3_pay1, vel]
    blk_point [iblk3, idx3 t]

/-- Where the blocks of the optimizer call for `ffn_gate` lie. -/
theorem idx5 : ∀ t : Fin cfg5.N, win5_0.index t = ![(grid5.coords t 0).val, 0]
    ∧ win5_1.index t = ![(grid5.coords t 0).val, 0]
    ∧ win5_2.index t = ![(grid5.coords t 0).val, 0]
    ∧ win5_3.index t = ![(grid5.coords t 0).val, 0]
    ∧ win5_4.index t = ![(grid5.coords t 0).val, 0]
    ∧ win5_5.index t = ![(grid5.coords t 0).val, 0]
    ∧ win5_6.index t = ![(grid5.coords t 0).val, 0] :=
  (by decide +kernel : ∀ t : Fin grid5.N, _)

/-- The optimizer call for `ffn_gate` makes one step. -/
theorem adam5 (c : Dev nD) : Step (S := S2048x704) (V c main_v21) (V c main_v20) (V c main_v22) (V c main_v23)
    ((dat5 V c).arrAt 4 cfg5.N) ((dat5 V c).arrAt 5 cfg5.N) ((dat5 V c).arrAt 6 cfg5.N) := by
  refine ⟨(dat5 V c).arrAt_eq_of_covers 4 _ (by decide +kernel) fun t _ y => ?_,
    (dat5 V c).arrAt_eq_of_covers 5 _ (by decide +kernel) fun t _ y => ?_,
    (dat5 V c).arrAt_eq_of_covers 6 _ (by decide +kernel) fun t _ y => ?_⟩ <;> blk_simp
  · rw [after5_4]; frame_out
    pointwise [k5_pay4, k5_pay3, k5_pay2, k5_pay1, dlt, mom, vel]
    blk_point [iblk5, idx5 t]
  · rw [after5_5]; frame_out
    pointwise [k5_pay2, k5_pay1, mom]
    blk_point [iblk5, idx5 t]
  · rw [after5_6]; frame_out
    pointwise [k5_pay3, k5_pay1, vel]
    blk_point [iblk5, idx5 t]

/-- Where the blocks of the optimizer call for `ffn_up` lie. -/
theorem idx7 : ∀ t : Fin cfg7.N, win7_0.index t = ![(grid7.coords t 0).val, 0]
    ∧ win7_1.index t = ![(grid7.coords t 0).val, 0]
    ∧ win7_2.index t = ![(grid7.coords t 0).val, 0]
    ∧ win7_3.index t = ![(grid7.coords t 0).val, 0]
    ∧ win7_4.index t = ![(grid7.coords t 0).val, 0]
    ∧ win7_5.index t = ![(grid7.coords t 0).val, 0]
    ∧ win7_6.index t = ![(grid7.coords t 0).val, 0] :=
  (by decide +kernel : ∀ t : Fin grid7.N, _)

/-- The optimizer call for `ffn_up` makes one step. -/
theorem adam7 (c : Dev nD) : Step (S := S2048x704) (V c main_v31) (V c main_v30) (V c main_v32) (V c main_v33)
    ((dat7 V c).arrAt 4 cfg7.N) ((dat7 V c).arrAt 5 cfg7.N) ((dat7 V c).arrAt 6 cfg7.N) := by
  refine ⟨(dat7 V c).arrAt_eq_of_covers 4 _ (by decide +kernel) fun t _ y => ?_,
    (dat7 V c).arrAt_eq_of_covers 5 _ (by decide +kernel) fun t _ y => ?_,
    (dat7 V c).arrAt_eq_of_covers 6 _ (by decide +kernel) fun t _ y => ?_⟩ <;> blk_simp
  · rw [after7_4]; frame_out
    pointwise [k7_pay4, k7_pay3, k7_pay2, k7_pay1, dlt, mom, vel]
    blk_point [iblk7, idx7 t]
  · rw [after7_5]; frame_out
    pointwise [k7_pay2, k7_pay1, mom]
    blk_point [iblk7, idx7 t]
  · rw [after7_6]; frame_out
    pointwise [k7_pay3, k7_pay1, vel]
    blk_point [iblk7, idx7 t]

/-- Where the blocks of the optimizer call for `ffn_down` lie. -/
theorem idx9 : ∀ t : Fin cfg9.N, win9_0.index t = ![(grid9.coords t 0).val, 0]
    ∧ win9_1.index t = ![(grid9.coords t 0).val, 0]
    ∧ win9_2.index t = ![(grid9.coords t 0).val, 0]
    ∧ win9_3.index t = ![(grid9.coords t 0).val, 0]
    ∧ win9_4.index t = ![(grid9.coords t 0).val, 0]
    ∧ win9_5.index t = ![(grid9.coords t 0).val, 0]
    ∧ win9_6.index t = ![(grid9.coords t 0).val, 0] :=
  (by decide +kernel : ∀ t : Fin grid9.N, _)

/-- The optimizer call for `ffn_down` makes one step. -/
theorem adam9 (c : Dev nD) : Step (S := S704x2048) (V c main_v40) (V c main_v39) (V c main_v41) (V c main_v42)
    ((dat9 V c).arrAt 4 cfg9.N) ((dat9 V c).arrAt 5 cfg9.N) ((dat9 V c).arrAt 6 cfg9.N) := by
  refine ⟨(dat9 V c).arrAt_eq_of_covers 4 _ (by decide +kernel) fun t _ y => ?_,
    (dat9 V c).arrAt_eq_of_covers 5 _ (by decide +kernel) fun t _ y => ?_,
    (dat9 V c).arrAt_eq_of_covers 6 _ (by decide +kernel) fun t _ y => ?_⟩ <;> blk_simp
  · rw [after9_4]; frame_out
    pointwise [k9_pay4, k9_pay3, k9_pay2, k9_pay1, dlt, mom, vel]
    blk_point [iblk9, idx9 t]
  · rw [after9_5]; frame_out
    pointwise [k9_pay2, k9_pay1, mom]
    blk_point [iblk9, idx9 t]
  · rw [after9_6]; frame_out
    pointwise [k9_pay3, k9_pay1, vel]
    blk_point [iblk9, idx9 t]

end Cert.UpdateIdeal.Values
-- ==== Proof.Sums.lean ====
/-
  What each sum of slots leaves in its result array, over the real numbers.
-/
module

public import proofs.«01_k».proof.Proof.Gen.UpdateIdeal.Frame.Region0
public import proofs.«01_k».proof.Proof.Gen.UpdateIdeal.Frame.Region2
public import proofs.«01_k».proof.Proof.Gen.UpdateIdeal.Frame.Region4
public import proofs.«01_k».proof.Proof.Gen.UpdateIdeal.Frame.Region6
public import proofs.«01_k».proof.Proof.Gen.UpdateIdeal.Frame.Region8
public import Idealize.ShloMosaic.Lib.Pipeline.ValueKit
public import Idealize.ShloMosaic.Lib.Pointwise.Tactic

@[expose] public section

set_option maxRecDepth 16384

noncomputable section

open Idealize.ShloMosaic Idealize.ShloMosaic.TcCoe Idealize.SL.Sem
open Idealize.ShloMosaic.Pipeline (Dat)

namespace Cert.UpdateIdeal.Values

open Cert.UpdateIdeal Cert.UpdateIdeal.Gen

variable (V : (c : Dev nD) → (b : Ref sig .tc) → Buf (Elt Ideal) ((c : Thread nD τ).loc b))

/-- The sum of the eight slots, entry by entry. -/
def total {a b : ℕ} (x : FVec Ideal ⟨3, ![8, a, b]⟩ .bf16) : FVec Ideal ⟨2, ![a, b]⟩ .f32 :=
  fun i => ∑ k : Fin 8, x (ix3 k (i 0) (i 1))

/-- Where the blocks of the sum for `w_in` lie. -/
theorem idx0 : ∀ t : Fin cfg0.N, win0_0.index t = ![0, (grid0.coords t 0).val, 0]
    ∧ win0_1.index t = ![(grid0.coords t 0).val, 0] :=
  (by decide +kernel : ∀ t : Fin grid0.N, _)

/-- What one step of the sum for `w_in` stores is the total of the block it loaded. -/
theorem pay0 (x : FVec Ideal S8x208x2048 .bf16) (y : S208x2048.Idx) :
    k0_pay1 (View.ld x r0_0) (View.ld x r0_1) (View.ld x r0_2) (View.ld x r0_3) (View.ld x r0_4) (View.ld x r0_5)
      (View.ld x r0_6) (View.ld x r0_7) y = (total x y : EReal) := by
  pointwise [k0_pay1, total]
  rw [Fin.sum_univ_eight]

/-- The sum for `w_in` leaves the total of its slots. -/
theorem sum0 (c : Dev nD) : (dat0 V c).arrAt 1 cfg0.N = total (a := 416) (b := 2048) (V c main_arg0) := by
  refine (dat0 V c).arrAt_eq_of_covers 1 _ (by decide +kernel) fun t hf y => ?_
  blk_simp
  rw [after0_1]; frame_out
  refine (pay0 _ y).trans ?_
  dsimp only [total]
  blk_point [iblk0, idx0 t]

/-- Where the blocks of the sum for `w_out` lie. -/
theorem idx2 : ∀ t : Fin cfg2.N, win2_0.index t = ![0, (grid2.coords t 0).val, 0]
    ∧ win2_1.index t = ![(grid2.coords t 0).val, 0] :=
  (by decide +kernel : ∀ t : Fin grid2.N, _)

/-- What one step of the sum for `w_out` stores is the total of the block it loaded. -/
theorem pay2 (x : FVec Ideal S8x256x2048 .bf16) (y : S256x2048.Idx) :
    k2_pay1 (View.ld x r2_0) (View.ld x r2_1) (View.ld x r2_2) (View.ld x r2_3) (View.ld x r2_4) (View.ld x r2_5)
      (View.ld x r2_6) (View.ld x r2_7) y = (total x y : EReal) := by
  pointwise [k2_pay1, total]
  rw [Fin.sum_univ_eight]

/-- The sum for `w_out` leaves the total of its slots. -/
theorem sum2 (c : Dev nD) : (dat2 V c).arrAt 1 cfg2.N = total (a := 256) (b := 2048) (V c main_arg1) := by
  refine (dat2 V c).arrAt_eq_of_covers 1 _ (by decide +kernel) fun t hf y => ?_
  blk_simp
  rw [after2_1]; frame_out
  refine (pay2 _ y).trans ?_
  dsimp only [total]
  blk_point [iblk2, idx2 t]

/-- Where the blocks of the sum for `ffn_gate` lie. -/
theorem idx4 : ∀ t : Fin cfg4.N, win4_0.index t = ![0, (grid4.coords t 0).val, 0]
    ∧ win4_1.index t = ![(grid4.coords t 0).val, 0] :=
  (by decide +kernel : ∀ t : Fin grid4.N, _)

/-- What one step of the sum for `ffn_gate` stores is the total of the block it loaded. -/
theorem pay4 (x : FVec Ideal S8x176x2048 .bf16) (y : S176x2048.Idx) :
    k4_pay1 (View.ld x r4_0) (View.ld x r4_1) (View.ld x r4_2) (View.ld x r4_3) (View.ld x r4_4) (View.ld x r4_5)
      (View.ld x r4_6) (View.ld x r4_7) y = (total x y : EReal) := by
  pointwise [k4_pay1, total]
  rw [Fin.sum_univ_eight]

/-- The sum for `ffn_gate` leaves the total of its slots. -/
theorem sum4 (c : Dev nD) : (dat4 V c).arrAt 1 cfg4.N = total (a := 704) (b := 2048) (V c main_arg2) := by
  refine (dat4 V c).arrAt_eq_of_covers 1 _ (by decide +kernel) fun t hf y => ?_
  blk_simp
  rw [after4_1]; frame_out
  refine (pay4 _ y).trans ?_
  dsimp only [total]
  blk_point [iblk4, idx4 t]

/-- Where the blocks of the sum for `ffn_up` lie. -/
theorem idx6 : ∀ t : Fin cfg6.N, win6_0.index t = ![0, (grid6.coords t 0).val, 0]
    ∧ win6_1.index t = ![(grid6.coords t 0).val, 0] :=
  (by decide +kernel : ∀ t : Fin grid6.N, _)

/-- What one step of the sum for `ffn_up` stores is the total of the block it loaded. -/
theorem pay6 (x : FVec Ideal S8x176x2048 .bf16) (y : S176x2048.Idx) :
    k6_pay1 (View.ld x r6_0) (View.ld x r6_1) (View.ld x r6_2) (View.ld x r6_3) (View.ld x r6_4) (View.ld x r6_5)
      (View.ld x r6_6) (View.ld x r6_7) y = (total x y : EReal) := by
  pointwise [k6_pay1, total]
  rw [Fin.sum_univ_eight]

/-- The sum for `ffn_up` leaves the total of its slots. -/
theorem sum6 (c : Dev nD) : (dat6 V c).arrAt 1 cfg6.N = total (a := 704) (b := 2048) (V c main_arg3) := by
  refine (dat6 V c).arrAt_eq_of_covers 1 _ (by decide +kernel) fun t hf y => ?_
  blk_simp
  rw [after6_1]; frame_out
  refine (pay6 _ y).trans ?_
  dsimp only [total]
  blk_point [iblk6, idx6 t]

/-- Where the blocks of the sum for `ffn_down` lie. -/
theorem idx8 : ∀ t : Fin cfg8.N, win8_0.index t = ![0, (grid8.coords t 0).val, 0]
    ∧ win8_1.index t = ![(grid8.coords t 0).val, 0] :=
  (by decide +kernel : ∀ t : Fin grid8.N, _)

/-- What one step of the sum for `ffn_down` stores is the total of the block it loaded. -/
theorem pay8 (x : FVec Ideal S8x176x2048 .bf16) (y : S176x2048.Idx) :
    k8_pay1 (View.ld x r8_0) (View.ld x r8_1) (View.ld x r8_2) (View.ld x r8_3) (View.ld x r8_4) (View.ld x r8_5)
      (View.ld x r8_6) (View.ld x r8_7) y = (total x y : EReal) := by
  pointwise [k8_pay1, total]
  rw [Fin.sum_univ_eight]

/-- The sum for `ffn_down` leaves the total of its slots. -/
theorem sum8 (c : Dev nD) : (dat8 V c).arrAt 1 cfg8.N = total (a := 704) (b := 2048) (V c main_arg4) := by
  refine (dat8 V c).arrAt_eq_of_covers 1 _ (by decide +kernel) fun t hf y => ?_
  blk_simp
  rw [after8_1]; frame_out
  refine (pay8 _ y).trans ?_
  dsimp only [total]
  blk_point [iblk8, idx8 t]

end Cert.UpdateIdeal.Values
-- ==== Proof.UpdateRef.lean ====
/-
  The optimizer's reference over the real numbers: each of its results, entry by entry.
-/
module

public import proofs.«01_k».proof.Proof.Gen.UpdateRefIdeal.Run
public import proofs.«01_k».proof.Proof.Moments
public import proofs.«01_k».proof.Proof.Sums

@[expose] public section

set_option maxRecDepth 16384

noncomputable section

open Idealize.ShloMosaic Idealize.ShloMosaic.TcCoe Idealize.SL.Sem

namespace Cert.UpdateIdeal.Values

/-- The gradient of a weight kept row by row: the total of its slots under a leading axis of one. -/
def grad {a b : ℕ} (x : FVec Ideal ⟨3, ![8, a, b]⟩ .bf16) : FVec Ideal ⟨3, ![1, a, b]⟩ .f32 :=
  fun i => total x (ix2 (i 1) (i 2))

/-- The gradient of a weight kept column by column. -/
def gradT {a b : ℕ} (x : FVec Ideal ⟨3, ![8, a, b]⟩ .bf16) : FVec Ideal ⟨3, ![1, b, a]⟩ .f32 :=
  fun i => total x (ix2 (i 2) (i 1))

end Cert.UpdateIdeal.Values

namespace Cert.UpdateRefIdeal

open Cert.UpdateIdeal.Values Cert.UpdateRefIdeal.Gen

variable (m : (ℓ : Loc nD τ sig) → Buf (Elt Ideal) ℓ) (ρ : Dev nD → PrngReg)

/-- The reference's gradient of `w_in`. -/
theorem ref_w_in (c : Dev nD) : Value.res_main_v3 (F := Ideal) (StableHlo.launchContents m c)
    = (gradT (a := 416) (b := 2048) (m ((c : Thread nD τ).loc main_arg0))) := by
  funext i
  pointwise [Value.res_main_v3, gradT, total]

/-- The reference's gradient of `w_out`. -/
theorem ref_w_out (c : Dev nD) : Value.res_main_v30 (F := Ideal) (StableHlo.launchContents m c)
    = (grad (a := 256) (b := 2048) (m ((c : Thread nD τ).loc main_arg1))) := by
  funext i
  pointwise [Value.res_main_v30, grad, total]

/-- The reference's gradient of `ffn_gate`. -/
theorem ref_ffn_gate (c : Dev nD) : Value.res_main_v58 (F := Ideal) (StableHlo.launchContents m c)
    = (gradT (a := 704) (b := 2048) (m ((c : Thread nD τ).loc main_arg2))) := by
  funext i
  pointwise [Value.res_main_v58, gradT, total]

/-- The reference's gradient of `ffn_up`. -/
theorem ref_ffn_up (c : Dev nD) : Value.res_main_v86 (F := Ideal) (StableHlo.launchContents m c)
    = (gradT (a := 704) (b := 2048) (m ((c : Thread nD τ).loc main_arg3))) := by
  funext i
  pointwise [Value.res_main_v86, gradT, total]

/-- The reference's gradient of `ffn_down`. -/
theorem ref_ffn_down (c : Dev nD) : Value.res_main_v113 (F := Ideal) (StableHlo.launchContents m c)
    = (grad (a := 704) (b := 2048) (m ((c : Thread nD τ).loc main_arg4))) := by
  funext i
  pointwise [Value.res_main_v113, grad, total]

/-- The reference's expressions for a step, at any shape, make one step. -/
theorem ref_step {S : Shape} (hb : S_.BroadcastsInDim S ![]) (w g n v : FVec Ideal S .f32) :
    Step w g n v
      (mulf (broadcastInDim S ![] hb (constant S_ .f32 0xBA83126F#32)) (addf (Host.divf (Host.divf (addf (mulf (broadcastInDim S ![] hb (constant S_ .f32 0x3F666666#32)) n) (mulf (broadcastInDim S ![] hb (constant S_ .f32 0x3DCCCCCD#32)) g)) (broadcastInDim S ![] hb (constant S_ .f32 0x3F26BD02#32))) (addf (Host.sqrt (Host.divf (addf (mulf (broadcastInDim S ![] hb (constant S_ .f32 0x3F7FBE77#32)) v) (mulf (broadcastInDim S ![] hb (constant S_ .f32 0x3A83126F#32)) (mulf g g))) (broadcastInDim S ![] hb (constant S_ .f32 0x3C231ACC#32)))) (broadcastInDim S ![] hb (constant S_ .f32 0x322BCC77#32)))) (mulf (broadcastInDim S ![] hb (constant S_ .f32 0x3C23D70A#32)) w)))
      (addf (mulf (broadcastInDim S ![] hb (constant S_ .f32 0x3F666666#32)) n) (mulf (broadcastInDim S ![] hb (constant S_ .f32 0x3DCCCCCD#32)) g))
      (addf (mulf (broadcastInDim S ![] hb (constant S_ .f32 0x3F7FBE77#32)) v) (mulf (broadcastInDim S ![] hb (constant S_ .f32 0x3A83126F#32)) (mulf g g))) :=
  ⟨rfl, rfl, rfl⟩

end Cert.UpdateRefIdeal

namespace Cert.UpdateIdeal.Values

/-- A step has one outcome. -/
theorem Step.unique {S : Shape} {w g n v w' g' n' v' d x y e p q : FVec Ideal S .f32} (h : Step w g n v d x y)
    (h' : Step w' g' n' v' e p q) (hw : w' = w) (hg : g' = g) (hn : n' = n) (hv : v' = v) : e = d ∧ p = x ∧ q = y := by
  subst hw hg hn hv
  exact ⟨h'.1.trans h.1.symm, h'.2.1.trans h.2.1.symm, h'.2.2.trans h.2.2.symm⟩

end Cert.UpdateIdeal.Values
-- ==== Proof.Update.lean ====
/-
  What the optimizer program leaves in its twenty results, over the real numbers.
-/
module

public import proofs.«01_k».proof.Proof.UpdateRun
public import proofs.«01_k».proof.Proof.UpdateRef

@[expose] public section

set_option maxRecDepth 16384

noncomputable section

open Idealize.ShloMosaic Idealize.ShloMosaic.TcCoe Idealize.SL.Sem

namespace Cert.UpdateIdeal.Values

open Cert.UpdateIdeal Cert.UpdateIdeal.Gen

/-- A step carries over to arrays under a leading axis of one. -/
theorem Step.lift {a b : ℕ} {w g n v d x y : FVec Ideal ⟨2, ![a, b]⟩ .f32} {w' g' n' v' d' x' y' : FVec Ideal ⟨3, ![1, a, b]⟩ .f32}
    (h : Step w g n v d x y) (hw : ∀ i, w (ix2 (i 1) (i 2)) = w' i) (hn : ∀ i, n (ix2 (i 1) (i 2)) = n' i)
    (hv : ∀ i, v (ix2 (i 1) (i 2)) = v' i) (hg : ∀ i, g' i = g (ix2 (i 1) (i 2))) (hd : ∀ i, d' i = d (ix2 (i 1) (i 2)))
    (hx : ∀ i, x' i = x (ix2 (i 1) (i 2))) (hy : ∀ i, y' i = y (ix2 (i 1) (i 2))) : Step w' g' n' v' d' x' y' := by
  obtain ⟨rfl, rfl, rfl⟩ := h
  exact ⟨funext fun i => by rw [hd, hg, ← hw i, ← hn i, ← hv i], funext fun i => by rw [hx, hg, ← hn i],
    funext fun i => by rw [hy, hg, ← hv i]⟩

/-- Dropping a leading axis of one, entry by entry. -/
theorem cast_apply {a b : ℕ} (x : FVec Ideal ⟨3, ![1, a, b]⟩ .f32) (h : (⟨3, ![1, a, b]⟩ : Shape).ShapeCasts ⟨2, ![a, b]⟩)
    (i : (⟨3, ![1, a, b]⟩ : Shape).Idx) : shapeCast ⟨2, ![a, b]⟩ x h (ix2 (i 1) (i 2)) = x i := by
  refine (shapeCast_dropUnit_apply ![a, b] x h _).trans (congrArg x (funext fun k => ?_))
  fin_cases k
  · exact Fin.ext (by have := (i 0).isLt; simp at this; simp [this])
  · rfl
  · rfl

variable (m : (ℓ : Loc nD τ sig) → Buf (Elt Ideal) ℓ) (ρ : Dev nD → PrngReg)

/-! ## Each result keeps, to the end, what it held after its weight's last operations -/

/-- The results of the weights up to `w_in`. -/
abbrev done0 : List (Ref sig .tc) := [main_v6, main_v7, main_v8, main_v9]

/-- The results of the weights up to `w_out`. -/
abbrev done1 : List (Ref sig .tc) := done0 ++ [main_v15, main_v16, main_v17, main_v18]

/-- The results of the weights up to `ffn_gate`. -/
abbrev done2 : List (Ref sig .tc) := done1 ++ [main_v25, main_v26, main_v27, main_v28]

/-- The results of the weights up to `ffn_up`. -/
abbrev done3 : List (Ref sig .tc) := done2 ++ [main_v35, main_v36, main_v37, main_v38]

/-- The operations for `ffn_down` leave the results before it alone. -/
theorem kept3 (c : Dev nD) (r : Ref sig .tc) (hr : r ∈ done3) :
    W20 m ρ c (Proc.devRef .tc r) = W16 m ρ c (Proc.devRef .tc r) :=
  ((W20_of m ρ c r ((ListAll.forall_mem_of_all_decide (by decide +kernel) : ∀ r ∈ done3, r ∉ hostOps10_W) r hr)).trans
    (W19_of m ρ c r ((ListAll.forall_mem_of_all_decide (by decide +kernel) :
      ∀ r ∈ done3, ∀ k : Fin cfg9.W, Pipeline.arrRef spec9 k = r → (cfg9.win k).isOut = false) r hr))).trans
  ((W18_of m ρ c r ((ListAll.forall_mem_of_all_decide (by decide +kernel) : ∀ r ∈ done3, r ∉ hostOps9_W) r hr)).trans
    (W17_of m ρ c r ((ListAll.forall_mem_of_all_decide (by decide +kernel) :
      ∀ r ∈ done3, ∀ k : Fin cfg8.W, Pipeline.arrRef spec8 k = r → (cfg8.win k).isOut = false) r hr)))

/-- The operations for `ffn_up` leave the results before it alone. -/
theorem kept2 (c : Dev nD) (r : Ref sig .tc) (hr : r ∈ done2) :
    W16 m ρ c (Proc.devRef .tc r) = W12 m ρ c (Proc.devRef .tc r) :=
  ((W16_of m ρ c r ((ListAll.forall_mem_of_all_decide (by decide +kernel) : ∀ r ∈ done2, r ∉ hostOps8_W) r hr)).trans
    (W15_of m ρ c r ((ListAll.forall_mem_of_all_decide (by decide +kernel) :
      ∀ r ∈ done2, ∀ k : Fin cfg7.W, Pipeline.arrRef spec7 k = r → (cfg7.win k).isOut = false) r hr))).trans
  ((W14_of m ρ c r ((ListAll.forall_mem_of_all_decide (by decide +kernel) : ∀ r ∈ done2, r ∉ hostOps7_W) r hr)).trans
    (W13_of m ρ c r ((ListAll.forall_mem_of_all_decide (by decide +kernel) :
      ∀ r ∈ done2, ∀ k : Fin cfg6.W, Pipeline.arrRef spec6 k = r → (cfg6.win k).isOut = false) r hr)))

/-- The operations for `ffn_gate` leave the results before it alone. -/
theorem kept1 (c : Dev nD) (r : Ref sig .tc) (hr : r ∈ done1) :
    W12 m ρ c (Proc.devRef .tc r) = W8 m ρ c (Proc.devRef .tc r) :=
  ((W12_of m ρ c r ((ListAll.forall_mem_of_all_decide (by decide +kernel) : ∀ r ∈ done1, r ∉ hostOps6_W) r hr)).trans
    (W11_of m ρ c r ((ListAll.forall_mem_of_all_decide (by decide +kernel) :
      ∀ r ∈ done1, ∀ k : Fin cfg5.W, Pipeline.arrRef spec5 k = r → (cfg5.win k).isOut = false) r hr))).trans
  ((W10_of m ρ c r ((ListAll.forall_mem_of_all_decide (by decide +kernel) : ∀ r ∈ done1, r ∉ hostOps5_W) r hr)).trans
    (W9_of m ρ c r ((ListAll.forall_mem_of_all_decide (by decide +kernel) :
      ∀ r ∈ done1, ∀ k : Fin cfg4.W, Pipeline.arrRef spec4 k = r → (cfg4.win k).isOut = false) r hr)))

/-- The operations for `w_out` leave the results before it alone. -/
theorem kept0 (c : Dev nD) (r : Ref sig .tc) (hr : r ∈ done0) :
    W8 m ρ c (Proc.devRef .tc r) = W4 m ρ c (Proc.devRef .tc r) :=
  ((W8_of m ρ c r ((ListAll.forall_mem_of_all_decide (by decide +kernel) : ∀ r ∈ done0, r ∉ hostOps4_W) r hr)).trans
    (W7_of m ρ c r ((ListAll.forall_mem_of_all_decide (by decide +kernel) :
      ∀ r ∈ done0, ∀ k : Fin cfg3.W, Pipeline.arrRef spec3 k = r → (cfg3.win k).isOut = false) r hr))).trans
  ((W6_of m ρ c r ((ListAll.forall_mem_of_all_decide (by decide +kernel) : ∀ r ∈ done0, r ∉ hostOps3_W) r hr)).trans
    (W5_of m ρ c r ((ListAll.forall_mem_of_all_decide (by decide +kernel) :
      ∀ r ∈ done0, ∀ k : Fin cfg2.W, Pipeline.arrRef spec2 k = r → (cfg2.win k).isOut = false) r hr)))

/-! ## The results -/

/-- The results for `w_in`: the total of its slots, and one step of its weight and moments. -/
theorem out_w_in (c : Dev nD) :
    W20 m ρ c (Proc.devRef .tc main_v6) = gradT (a := 416) (b := 2048) (m ((c : Thread nD τ).loc main_arg0))
    ∧ Step (m ((c : Thread nD τ).loc main_arg5)) (gradT (a := 416) (b := 2048) (m ((c : Thread nD τ).loc main_arg0)))
      (m ((c : Thread nD τ).loc main_arg10)) (m ((c : Thread nD τ).loc main_arg15))
      (W20 m ρ c (Proc.devRef .tc main_v7)) (W20 m ρ c (Proc.devRef .tc main_v8)) (W20 m ρ c (Proc.devRef .tc main_v9)) := by
  have hs : W1 m ρ c (Proc.devRef .tc main_v0) = total (a := 416) (b := 2048) (m ((c : Thread nD τ).loc main_arg0)) :=
    (W1_arr m ρ c 1).trans ((sum0 (V0 m ρ) c).trans (congrArg total (W0_args m ρ c main_arg0 (by decide))))
  have hg : ∀ i, W2 m ρ c (Proc.devRef .tc main_v1) (ix2 (i 1) (i 2))
      = gradT (a := 416) (b := 2048) (m ((c : Thread nD τ).loc main_arg0)) i := fun i =>
    (congrFun (by after_results : W2 m ρ c (Proc.devRef .tc main_v1)
      = transpose S2048x416 [1, 0] (W1 m ρ c (Proc.devRef .tc main_v0)) transposes_S416x2048_S2048x416_1_0) _).trans (by
      rw [hs]; pointwise [total, gradT])
  refine ⟨funext fun i => ((congrFun ((kept3 m ρ c main_v6 (by decide)).trans ((kept2 m ρ c main_v6 (by decide)).trans ((kept1 m ρ c main_v6 (by decide)).trans (kept0 m ρ c main_v6 (by decide))))) i).trans
      (by after_results; pointwise : W4 m ρ c (Proc.devRef .tc main_v6) i = W3 m ρ c (Proc.devRef .tc main_v1) (ix2 (i 1) (i 2)))).trans
    ((congrFun (W3_of m ρ c main_v1 (by decide)) _).trans (hg i)), (adam1 (V2 m ρ) c).lift
    (fun i => (congrFun (by after_results; rfl : W2 m ρ c (Proc.devRef .tc main_v2)
      = shapeCast S2048x416 (W1 m ρ c (Proc.devRef .tc main_arg5)) shapeCasts_S1x2048x416_S2048x416) _).trans
      ((cast_apply _ _ i).trans (congrFun (W1_args m ρ c main_arg5 (by decide)) i)))
    (fun i => (congrFun (by after_results; rfl : W2 m ρ c (Proc.devRef .tc main_v3)
      = shapeCast S2048x416 (W1 m ρ c (Proc.devRef .tc main_arg10)) shapeCasts_S1x2048x416_S2048x416) _).trans
      ((cast_apply _ _ i).trans (congrFun (W1_args m ρ c main_arg10 (by decide)) i)))
    (fun i => (congrFun (by after_results; rfl : W2 m ρ c (Proc.devRef .tc main_v4)
      = shapeCast S2048x416 (W1 m ρ c (Proc.devRef .tc main_arg15)) shapeCasts_S1x2048x416_S2048x416) _).trans
      ((cast_apply _ _ i).trans (congrFun (W1_args m ρ c main_arg15 (by decide)) i)))
    (fun i => (hg i).symm) (fun i => ?_) (fun i => ?_) (fun i => ?_)⟩
  · exact ((congrFun ((kept3 m ρ c main_v7 (by decide)).trans ((kept2 m ρ c main_v7 (by decide)).trans ((kept1 m ρ c main_v7 (by decide)).trans (kept0 m ρ c main_v7 (by decide))))) i).trans
      (by after_results; pointwise : W4 m ρ c (Proc.devRef .tc main_v7) i = W3 m ρ c (Proc.devRef .tc main_v5_0) (ix2 (i 1) (i 2)))).trans
      (congrFun (W3_arr m ρ c 4) _)
  · exact ((congrFun ((kept3 m ρ c main_v8 (by decide)).trans ((kept2 m ρ c main_v8 (by decide)).trans ((kept1 m ρ c main_v8 (by decide)).trans (kept0 m ρ c main_v8 (by decide))))) i).trans
      (by after_results; pointwise : W4 m ρ c (Proc.devRef .tc main_v8) i = W3 m ρ c (Proc.devRef .tc main_v5_1) (ix2 (i 1) (i 2)))).trans
      (congrFun (W3_arr m ρ c 5) _)
  · exact ((congrFun ((kept3 m ρ c main_v9 (by decide)).trans ((kept2 m ρ c main_v9 (by decide)).trans ((kept1 m ρ c main_v9 (by decide)).trans (kept0 m ρ c main_v9 (by decide))))) i).trans
      (by after_results; pointwise : W4 m ρ c (Proc.devRef .tc main_v9) i = W3 m ρ c (Proc.devRef .tc main_v5_2) (ix2 (i 1) (i 2)))).trans
      (congrFun (W3_arr m ρ c 6) _)

/-- The results for `w_out`: the total of its slots, and one step of its weight and moments. -/
theorem out_w_out (c : Dev nD) :
    W20 m ρ c (Proc.devRef .tc main_v15) = grad (a := 256) (b := 2048) (m ((c : Thread nD τ).loc main_arg1))
    ∧ Step (m ((c : Thread nD τ).loc main_arg6)) (grad (a := 256) (b := 2048) (m ((c : Thread nD τ).loc main_arg1)))
      (m ((c : Thread nD τ).loc main_arg11)) (m ((c : Thread nD τ).loc main_arg16))
      (W20 m ρ c (Proc.devRef .tc main_v16)) (W20 m ρ c (Proc.devRef .tc main_v17)) (W20 m ρ c (Proc.devRef .tc main_v18)) := by
  have hs : W5 m ρ c (Proc.devRef .tc main_v10) = total (a := 256) (b := 2048) (m ((c : Thread nD τ).loc main_arg1)) :=
    (W5_arr m ρ c 1).trans ((sum2 (V4 m ρ) c).trans (congrArg total (W4_args m ρ c main_arg1 (by decide))))
  have hg : ∀ i, W6 m ρ c (Proc.devRef .tc main_v10) (ix2 (i 1) (i 2))
      = grad (a := 256) (b := 2048) (m ((c : Thread nD τ).loc main_arg1)) i := fun i =>
    (congrFun ((W6_of m ρ c main_v10 (by decide)).trans hs) _)
  refine ⟨funext fun i => ((congrFun ((kept3 m ρ c main_v15 (by decide)).trans ((kept2 m ρ c main_v15 (by decide)).trans (kept1 m ρ c main_v15 (by decide)))) i).trans
      (by after_results; pointwise : W8 m ρ c (Proc.devRef .tc main_v15) i = W7 m ρ c (Proc.devRef .tc main_v10) (ix2 (i 1) (i 2)))).trans
    ((congrFun (W7_of m ρ c main_v10 (by decide)) _).trans (hg i)), (adam3 (V6 m ρ) c).lift
    (fun i => (congrFun (by after_results; rfl : W6 m ρ c (Proc.devRef .tc main_v11)
      = shapeCast S256x2048 (W5 m ρ c (Proc.devRef .tc main_arg6)) shapeCasts_S1x256x2048_S256x2048) _).trans
      ((cast_apply _ _ i).trans (congrFun (W5_args m ρ c main_arg6 (by decide)) i)))
    (fun i => (congrFun (by after_results; rfl : W6 m ρ c (Proc.devRef .tc main_v12)
      = shapeCast S256x2048 (W5 m ρ c (Proc.devRef .tc main_arg11)) shapeCasts_S1x256x2048_S256x2048) _).trans
      ((cast_apply _ _ i).trans (congrFun (W5_args m ρ c main_arg11 (by decide)) i)))
    (fun i => (congrFun (by after_results; rfl : W6 m ρ c (Proc.devRef .tc main_v13)
      = shapeCast S256x2048 (W5 m ρ c (Proc.devRef .tc main_arg16)) shapeCasts_S1x256x2048_S256x2048) _).trans
      ((cast_apply _ _ i).trans (congrFun (W5_args m ρ c main_arg16 (by decide)) i)))
    (fun i => (hg i).symm) (fun i => ?_) (fun i => ?_) (fun i => ?_)⟩
  · exact ((congrFun ((kept3 m ρ c main_v16 (by decide)).trans ((kept2 m ρ c main_v16 (by decide)).trans (kept1 m ρ c main_v16 (by decide)))) i).trans
      (by after_results; pointwise : W8 m ρ c (Proc.devRef .tc main_v16) i = W7 m ρ c (Proc.devRef .tc main_v14_0) (ix2 (i 1) (i 2)))).trans
      (congrFun (W7_arr m ρ c 4) _)
  · exact ((congrFun ((kept3 m ρ c main_v17 (by decide)).trans ((kept2 m ρ c main_v17 (by decide)).trans (kept1 m ρ c main_v17 (by decide)))) i).trans
      (by after_results; pointwise : W8 m ρ c (Proc.devRef .tc main_v17) i = W7 m ρ c (Proc.devRef .tc main_v14_1) (ix2 (i 1) (i 2)))).trans
      (congrFun (W7_arr m ρ c 5) _)
  · exact ((congrFun ((kept3 m ρ c main_v18 (by decide)).trans ((kept2 m ρ c main_v18 (by decide)).trans (kept1 m ρ c main_v18 (by decide)))) i).trans
      (by after_results; pointwise : W8 m ρ c (Proc.devRef .tc main_v18) i = W7 m ρ c (Proc.devRef .tc main_v14_2) (ix2 (i 1) (i 2)))).trans
      (congrFun (W7_arr m ρ c 6) _)

/-- The results for `ffn_gate`: the total of its slots, and one step of its weight and moments. -/
theorem out_ffn_gate (c : Dev nD) :
    W20 m ρ c (Proc.devRef .tc main_v25) = gradT (a := 704) (b := 2048) (m ((c : Thread nD τ).loc main_arg2))
    ∧ Step (m ((c : Thread nD τ).loc main_arg7)) (gradT (a := 704) (b := 2048) (m ((c : Thread nD τ).loc main_arg2)))
      (m ((c : Thread nD τ).loc main_arg12)) (m ((c : Thread nD τ).loc main_arg17))
      (W20 m ρ c (Proc.devRef .tc main_v26)) (W20 m ρ c (Proc.devRef .tc main_v27)) (W20 m ρ c (Proc.devRef .tc main_v28)) := by
  have hs : W9 m ρ c (Proc.devRef .tc main_v19) = total (a := 704) (b := 2048) (m ((c : Thread nD τ).loc main_arg2)) :=
    (W9_arr m ρ c 1).trans ((sum4 (V8 m ρ) c).trans (congrArg total (W8_args m ρ c main_arg2 (by decide))))
  have hg : ∀ i, W10 m ρ c (Proc.devRef .tc main_v20) (ix2 (i 1) (i 2))
      = gradT (a := 704) (b := 2048) (m ((c : Thread nD τ).loc main_arg2)) i := fun i =>
    (congrFun (by after_results : W10 m ρ c (Proc.devRef .tc main_v20)
      = transpose S2048x704 [1, 0] (W9 m ρ c (Proc.devRef .tc main_v19)) transposes_S704x2048_S2048x704_1_0) _).trans (by
      rw [hs]; pointwise [total, gradT])
  refine ⟨funext fun i => ((congrFun ((kept3 m ρ c main_v25 (by decide)).trans (kept2 m ρ c main_v25 (by decide))) i).trans
      (by after_results; pointwise : W12 m ρ c (Proc.devRef .tc main_v25) i = W11 m ρ c (Proc.devRef .tc main_v20) (ix2 (i 1) (i 2)))).trans
    ((congrFun (W11_of m ρ c main_v20 (by decide)) _).trans (hg i)), (adam5 (V10 m ρ) c).lift
    (fun i => (congrFun (by after_results; rfl : W10 m ρ c (Proc.devRef .tc main_v21)
      = shapeCast S2048x704 (W9 m ρ c (Proc.devRef .tc main_arg7)) shapeCasts_S1x2048x704_S2048x704) _).trans
      ((cast_apply _ _ i).trans (congrFun (W9_args m ρ c main_arg7 (by decide)) i)))
    (fun i => (congrFun (by after_results; rfl : W10 m ρ c (Proc.devRef .tc main_v22)
      = shapeCast S2048x704 (W9 m ρ c (Proc.devRef .tc main_arg12)) shapeCasts_S1x2048x704_S2048x704) _).trans
      ((cast_apply _ _ i).trans (congrFun (W9_args m ρ c main_arg12 (by decide)) i)))
    (fun i => (congrFun (by after_results; rfl : W10 m ρ c (Proc.devRef .tc main_v23)
      = shapeCast S2048x704 (W9 m ρ c (Proc.devRef .tc main_arg17)) shapeCasts_S1x2048x704_S2048x704) _).trans
      ((cast_apply _ _ i).trans (congrFun (W9_args m ρ c main_arg17 (by decide)) i)))
    (fun i => (hg i).symm) (fun i => ?_) (fun i => ?_) (fun i => ?_)⟩
  · exact ((congrFun ((kept3 m ρ c main_v26 (by decide)).trans (kept2 m ρ c main_v26 (by decide))) i).trans
      (by after_results; pointwise : W12 m ρ c (Proc.devRef .tc main_v26) i = W11 m ρ c (Proc.devRef .tc main_v24_0) (ix2 (i 1) (i 2)))).trans
      (congrFun (W11_arr m ρ c 4) _)
  · exact ((congrFun ((kept3 m ρ c main_v27 (by decide)).trans (kept2 m ρ c main_v27 (by decide))) i).trans
      (by after_results; pointwise : W12 m ρ c (Proc.devRef .tc main_v27) i = W11 m ρ c (Proc.devRef .tc main_v24_1) (ix2 (i 1) (i 2)))).trans
      (congrFun (W11_arr m ρ c 5) _)
  · exact ((congrFun ((kept3 m ρ c main_v28 (by decide)).trans (kept2 m ρ c main_v28 (by decide))) i).trans
      (by after_results; pointwise : W12 m ρ c (Proc.devRef .tc main_v28) i = W11 m ρ c (Proc.devRef .tc main_v24_2) (ix2 (i 1) (i 2)))).trans
      (congrFun (W11_arr m ρ c 6) _)

/-- The results for `ffn_up`: the total of its slots, and one step of its weight and moments. -/
theorem out_ffn_up (c : Dev nD) :
    W20 m ρ c (Proc.devRef .tc main_v35) = gradT (a := 704) (b := 2048) (m ((c : Thread nD τ).loc main_arg3))
    ∧ Step (m ((c : Thread nD τ).loc main_arg8)) (gradT (a := 704) (b := 2048) (m ((c : Thread nD τ).loc main_arg3)))
      (m ((c : Thread nD τ).loc main_arg13)) (m ((c : Thread nD τ).loc main_arg18))
      (W20 m ρ c (Proc.devRef .tc main_v36)) (W20 m ρ c (Proc.devRef .tc main_v37)) (W20 m ρ c (Proc.devRef .tc main_v38)) := by
  have hs : W13 m ρ c (Proc.devRef .tc main_v29) = total (a := 704) (b := 2048) (m ((c : Thread nD τ).loc main_arg3)) :=
    (W13_arr m ρ c 1).trans ((sum6 (V12 m ρ) c).trans (congrArg total (W12_args m ρ c main_arg3 (by decide))))
  have hg : ∀ i, W14 m ρ c (Proc.devRef .tc main_v30) (ix2 (i 1) (i 2))
      = gradT (a := 704) (b := 2048) (m ((c : Thread nD τ).loc main_arg3)) i := fun i =>
    (congrFun (by after_results : W14 m ρ c (Proc.devRef .tc main_v30)
      = transpose S2048x704 [1, 0] (W13 m ρ c (Proc.devRef .tc main_v29)) transposes_S704x2048_S2048x704_1_0) _).trans (by
      rw [hs]; pointwise [total, gradT])
  refine ⟨funext fun i => ((congrFun (kept3 m ρ c main_v35 (by decide)) i).trans
      (by after_results; pointwise : W16 m ρ c (Proc.devRef .tc main_v35) i = W15 m ρ c (Proc.devRef .tc main_v30) (ix2 (i 1) (i 2)))).trans
    ((congrFun (W15_of m ρ c main_v30 (by decide)) _).trans (hg i)), (adam7 (V14 m ρ) c).lift
    (fun i => (congrFun (by after_results; rfl : W14 m ρ c (Proc.devRef .tc main_v31)
      = shapeCast S2048x704 (W13 m ρ c (Proc.devRef .tc main_arg8)) shapeCasts_S1x2048x704_S2048x704) _).trans
      ((cast_apply _ _ i).trans (congrFun (W13_args m ρ c main_arg8 (by decide)) i)))
    (fun i => (congrFun (by after_results; rfl : W14 m ρ c (Proc.devRef .tc main_v32)
      = shapeCast S2048x704 (W13 m ρ c (Proc.devRef .tc main_arg13)) shapeCasts_S1x2048x704_S2048x704) _).trans
      ((cast_apply _ _ i).trans (congrFun (W13_args m ρ c main_arg13 (by decide)) i)))
    (fun i => (congrFun (by after_results; rfl : W14 m ρ c (Proc.devRef .tc main_v33)
      = shapeCast S2048x704 (W13 m ρ c (Proc.devRef .tc main_arg18)) shapeCasts_S1x2048x704_S2048x704) _).trans
      ((cast_apply _ _ i).trans (congrFun (W13_args m ρ c main_arg18 (by decide)) i)))
    (fun i => (hg i).symm) (fun i => ?_) (fun i => ?_) (fun i => ?_)⟩
  · exact ((congrFun (kept3 m ρ c main_v36 (by decide)) i).trans
      (by after_results; pointwise : W16 m ρ c (Proc.devRef .tc main_v36) i = W15 m ρ c (Proc.devRef .tc main_v34_0) (ix2 (i 1) (i 2)))).trans
      (congrFun (W15_arr m ρ c 4) _)
  · exact ((congrFun (kept3 m ρ c main_v37 (by decide)) i).trans
      (by after_results; pointwise : W16 m ρ c (Proc.devRef .tc main_v37) i = W15 m ρ c (Proc.devRef .tc main_v34_1) (ix2 (i 1) (i 2)))).trans
      (congrFun (W15_arr m ρ c 5) _)
  · exact ((congrFun (kept3 m ρ c main_v38 (by decide)) i).trans
      (by after_results; pointwise : W16 m ρ c (Proc.devRef .tc main_v38) i = W15 m ρ c (Proc.devRef .tc main_v34_2) (ix2 (i 1) (i 2)))).trans
      (congrFun (W15_arr m ρ c 6) _)

/-- The results for `ffn_down`: the total of its slots, and one step of its weight and moments. -/
theorem out_ffn_down (c : Dev nD) :
    W20 m ρ c (Proc.devRef .tc main_v44) = grad (a := 704) (b := 2048) (m ((c : Thread nD τ).loc main_arg4))
    ∧ Step (m ((c : Thread nD τ).loc main_arg9)) (grad (a := 704) (b := 2048) (m ((c : Thread nD τ).loc main_arg4)))
      (m ((c : Thread nD τ).loc main_arg14)) (m ((c : Thread nD τ).loc main_arg19))
      (W20 m ρ c (Proc.devRef .tc main_v45)) (W20 m ρ c (Proc.devRef .tc main_v46)) (W20 m ρ c (Proc.devRef .tc main_v47)) := by
  have hs : W17 m ρ c (Proc.devRef .tc main_v39) = total (a := 704) (b := 2048) (m ((c : Thread nD τ).loc main_arg4)) :=
    (W17_arr m ρ c 1).trans ((sum8 (V16 m ρ) c).trans (congrArg total (W16_args m ρ c main_arg4 (by decide))))
  have hg : ∀ i, W18 m ρ c (Proc.devRef .tc main_v39) (ix2 (i 1) (i 2))
      = grad (a := 704) (b := 2048) (m ((c : Thread nD τ).loc main_arg4)) i := fun i =>
    (congrFun ((W18_of m ρ c main_v39 (by decide)).trans hs) _)
  refine ⟨funext fun i => ((by after_results; pointwise : W20 m ρ c (Proc.devRef .tc main_v44) i = W19 m ρ c (Proc.devRef .tc main_v39) (ix2 (i 1) (i 2)))).trans
    ((congrFun (W19_of m ρ c main_v39 (by decide)) _).trans (hg i)), (adam9 (V18 m ρ) c).lift
    (fun i => (congrFun (by after_results; rfl : W18 m ρ c (Proc.devRef .tc main_v40)
      = shapeCast S704x2048 (W17 m ρ c (Proc.devRef .tc main_arg9)) shapeCasts_S1x704x2048_S704x2048) _).trans
      ((cast_apply _ _ i).trans (congrFun (W17_args m ρ c main_arg9 (by decide)) i)))
    (fun i => (congrFun (by after_results; rfl : W18 m ρ c (Proc.devRef .tc main_v41)
      = shapeCast S704x2048 (W17 m ρ c (Proc.devRef .tc main_arg14)) shapeCasts_S1x704x2048_S704x2048) _).trans
      ((cast_apply _ _ i).trans (congrFun (W17_args m ρ c main_arg14 (by decide)) i)))
    (fun i => (congrFun (by after_results; rfl : W18 m ρ c (Proc.devRef .tc main_v42)
      = shapeCast S704x2048 (W17 m ρ c (Proc.devRef .tc main_arg19)) shapeCasts_S1x704x2048_S704x2048) _).trans
      ((cast_apply _ _ i).trans (congrFun (W17_args m ρ c main_arg19 (by decide)) i)))
    (fun i => (hg i).symm) (fun i => ?_) (fun i => ?_) (fun i => ?_)⟩
  · exact ((by after_results; pointwise : W20 m ρ c (Proc.devRef .tc main_v45) i = W19 m ρ c (Proc.devRef .tc main_v43_0) (ix2 (i 1) (i 2)))).trans
      (congrFun (W19_arr m ρ c 4) _)
  · exact ((by after_results; pointwise : W20 m ρ c (Proc.devRef .tc main_v46) i = W19 m ρ c (Proc.devRef .tc main_v43_1) (ix2 (i 1) (i 2)))).trans
      (congrFun (W19_arr m ρ c 5) _)
  · exact ((by after_results; pointwise : W20 m ρ c (Proc.devRef .tc main_v47) i = W19 m ρ c (Proc.devRef .tc main_v43_2) (ix2 (i 1) (i 2)))).trans
      (congrFun (W19_arr m ρ c 6) _)

end Cert.UpdateIdeal.Values
-- ==== Proof.GatherSteps.lean ====
/-
  The body of the all-gather as the list of its copies and waits. For each of the five weights `w` and each device `s`,
  `rows w s` is the place of device `s`'s shard in the gathered weight.
-/
module

public import proofs.«01_k».proof.Proof.Gen.GatherIdeal
public import proofs.«01_k».proof.Proof.Gen.GatherIdeal.Launch
public import proofs.«01_k».proof.Proof.Gen.GatherIdeal.Points
public import Idealize.ShloMosaic.Lib.Pipeline.Regions
public import proofs.«01_k».proof.Proof.Pieces

@[expose] public section

noncomputable section

namespace Cert.Gathering

open Cert.GatherIdeal Cert.GatherIdeal.Gen
open Idealize.ShloMosaic Idealize.ShloMosaic.TcCoe
open Idealize.SL.Sem
open Cert.Talk (seqs)
open Cert.Pieces

/-- The rows of a shard of weight `w`. -/
def nr : Fin 5 → Nat
  | 0 => 416 | 1 => 256 | 2 => 704 | 3 => 704 | 4 => 704

/-- A shard of weight `w`. -/
abbrev SB (w : Fin 5) : Shape := ⟨2, ![nr w, 2048]⟩
/-- The gathered weight `w`: eight shards. -/
abbrev SO (w : Fin 5) : Shape := ⟨2, ![8 * nr w, 2048]⟩

/-- The buffer of shard `w`. -/
abbrev inB : Fin 5 → Ref sig .tc
  | 0 => main_arg0 | 1 => main_arg1 | 2 => main_arg2 | 3 => main_arg3 | 4 => main_arg4
/-- The buffer of the gathered weight `w`. -/
abbrev outB : Fin 5 → Ref sig .tc
  | 0 => main_v1_0 | 1 => main_v1_1 | 2 => main_v1_2 | 3 => main_v1_3 | 4 => main_v1_4

/-- Shard `w` as a memref. -/
def inM : (w : Fin 5) → Memref sig .tc .hbm (SB w) .bf16
  | 0 => Memref.whole main_arg0 | 1 => Memref.whole main_arg1 | 2 => Memref.whole main_arg2
  | 3 => Memref.whole main_arg3 | 4 => Memref.whole main_arg4
/-- The gathered weight `w` as a memref. -/
def outM : (w : Fin 5) → Memref sig .tc .hbm (SO w) .bf16
  | 0 => Memref.whole main_v1_0 | 1 => Memref.whole main_v1_1 | 2 => Memref.whole main_v1_2
  | 3 => Memref.whole main_v1_3 | 4 => Memref.whole main_v1_4

theorem inM_whole : (w : Fin 5) → (inM w).IsWhole
  | 0 => Memref.isWhole_whole _ | 1 => Memref.isWhole_whole _ | 2 => Memref.isWhole_whole _
  | 3 => Memref.isWhole_whole _ | 4 => Memref.isWhole_whole _
theorem outM_whole : (w : Fin 5) → (outM w).IsWhole
  | 0 => Memref.isWhole_whole _ | 1 => Memref.isWhole_whole _ | 2 => Memref.isWhole_whole _
  | 3 => Memref.isWhole_whole _ | 4 => Memref.isWhole_whole _

theorem rows_inb (w : Fin 5) (s : Dev nD) : ∀ a, (![s.val * nr w, 0] : Fin 2 → Nat) a + (SB w).size a ≤ (SO w).size a := by
  revert w s; decide
theorem rows_words : ∀ (w : Fin 5) (s : Dev nD),
    (Rect.unit (s := SO w) ![s.val * nr w, 0] (SB w).size (rows_inb w s)).WholeWords (EltTy.packing .bf16) := by decide +kernel

/-- The rows of the gathered weight `w` from an offset on. -/
abbrev rowsAt (w : Fin 5) (off : Fin 2 → Nat) (h : ∀ a, off a + (SB w).size a ≤ (SO w).size a) : Memref sig .tc .hbm (SB w) .bf16 :=
  (outM w).slice (Rect.unit (s := SO w) off (SB w).size h) (fun _ => rfl)
/-- Device `s`'s rows of the gathered weight `w`. -/
abbrev rows (w : Fin 5) (s : Dev nD) : Memref sig .tc .hbm (SB w) .bf16 := rowsAt w ![s.val * nr w, 0] (rows_inb w s)

/-- A device's rows are whole memory words, -/
theorem rows_exact (w : Fin 5) (s : Dev nD) : (rows w s).view.WordExact :=
  (outM_whole w).wordExact_slice rfl _ (rows_words w s)
/-- and so is a shard. -/
theorem in_exact (w : Fin 5) : (inM w).view.WordExact := (inM_whole w).wordExact

/-- The semaphore that counts the read-out of copy `k` of weight `w`. -/
def sendS (w : Fin 5) (k : Fin 7) : DmaSem sig := ⟨7 * w.val + k.val, by show _ < 75; omega⟩
/-- The semaphore that counts the landing of copy `k` of weight `w`. -/
def recvS (w : Fin 5) (k : Fin 7) : DmaSem sig := ⟨35 + (7 * w.val + k.val), by show _ < 75; omega⟩
/-- The semaphore of the device's copy of its own shard of weight `w`. -/
def locS (w : Fin 5) : DmaSem sig := ⟨70 + w.val, by show _ < 75; omega⟩

/-- The mesh coordinates that the origin of copy `k` differs in, as bits of the device's number. -/
def flip : Fin 7 → Nat
  | 0 => 1 | 1 => 4 | 2 => 2 | 3 => 6 | 4 => 5 | 5 => 3 | 6 => 7
/-- The device whose shard copy `k` brings to device `d`. -/
def peer (k : Fin 7) (d : Dev nD) : Dev nD := ⟨d.val ^^^ flip k, by revert k d; decide⟩

/-- The four copies of a shard straight from its owner: to the other core of the chip and to the core of the same number on
    each other chip. -/
def lo : Fin 4 → Fin 7 := ![0, 1, 2, 3]
/-- The copies between chips, which are passed on, -/
def up : Fin 3 → Fin 7 := ![1, 2, 3]
/-- the copies that pass them on to the other core of the chip, -/
def fw : Fin 3 → Fin 7 := ![4, 5, 6]
/-- and the copies that come from the other core of the chip. -/
def la : Fin 4 → Fin 7 := ![0, 4, 5, 6]

variable {F : FTy → Type} [FloatOps F]

/-- Start the device's copy of its own shard. -/
def locStart (d : Dev nD) (w : Fin 5) : Prog (TpuEff nD τ sig (Elt F) Λ₀ .tc) PUnit :=
  Prog.lift (.enqueueDma (inM w) (.here (rows w d)) (.dma (locS w)) (in_exact w) (rows_exact w d) ⟨Or.inl rfl, trivial⟩)
/-- Start the copy of the device's own shard to partner `k`. -/
def remStart (d : Dev nD) (wk : Fin 5 × Fin 4) : Prog (TpuEff nD τ sig (Elt F) Λ₀ .tc) PUnit :=
  Prog.lift (.enqueueDma (inM wk.1) (.remote (Dev.tc (peer (lo wk.2) d)) (rows wk.1 d) (.dma (sendS wk.1 (lo wk.2)))) (.dma (recvS wk.1 (lo wk.2)))
    (in_exact wk.1) (rows_exact wk.1 d) ⟨⟨rfl, Or.inl rfl⟩, trivial⟩)
/-- Wait for the landing of copy `k`. -/
def recvWait (d : Dev nD) (w : Fin 5) (k : Fin 7) : Prog (TpuEff nD τ sig (Elt F) Λ₀ .tc) PUnit :=
  Prog.lift (.waitDma2 (recvS w k) (rows w (peer k d)) (rows w (peer k d)) (rows_exact w (peer k d)) (rows_exact w (peer k d)))
/-- Pass the shard of copy `up j` on to the other core of the chip. -/
def fwdStart (d : Dev nD) (wj : Fin 5 × Fin 3) : Prog (TpuEff nD τ sig (Elt F) Λ₀ .tc) PUnit :=
  Prog.lift (.enqueueDma (rows wj.1 (peer (up wj.2) d)) (.remote (Dev.tc (peer 0 d)) (rows wj.1 (peer (up wj.2) d)) (.dma (sendS wj.1 (fw wj.2))))
    (.dma (recvS wj.1 (fw wj.2))) (rows_exact wj.1 (peer (up wj.2) d)) (rows_exact wj.1 (peer (up wj.2) d)) ⟨⟨rfl, Or.inl rfl⟩, trivial⟩)
/-- Wait for a shard from another chip and pass it on. -/
def pass (d : Dev nD) (wj : Fin 5 × Fin 3) : Prog (TpuEff nD τ sig (Elt F) Λ₀ .tc) PUnit :=
  recvWait d wj.1 (up wj.2) >>= fun _ => fwdStart d wj
/-- Wait for a shard from the other core of the chip. -/
def lastWait (d : Dev nD) (wk : Fin 5 × Fin 4) : Prog (TpuEff nD τ sig (Elt F) Λ₀ .tc) PUnit := recvWait d wk.1 (la wk.2)
/-- Wait for the read-out of a copy of the device's own shard. -/
def sendWait (d : Dev nD) (wk : Fin 5 × Fin 4) : Prog (TpuEff nD τ sig (Elt F) Λ₀ .tc) PUnit :=
  Prog.lift (.waitDma2 (sendS wk.1 (lo wk.2)) (rows wk.1 d) (inM wk.1) (rows_exact wk.1 d) (in_exact wk.1))
/-- Wait for the read-out of a shard passed on. -/
def fwdWait (d : Dev nD) (wj : Fin 5 × Fin 3) : Prog (TpuEff nD τ sig (Elt F) Λ₀ .tc) PUnit :=
  Prog.lift (.waitDma2 (sendS wj.1 (fw wj.2)) (rows wj.1 (peer (up wj.2) d)) (rows wj.1 (peer (up wj.2) d)) (rows_exact wj.1 (peer (up wj.2) d))
    (rows_exact wj.1 (peer (up wj.2) d)))
/-- Wait for the device's own copy. -/
def locWait (d : Dev nD) (w : Fin 5) : Prog (TpuEff nD τ sig (Elt F) Λ₀ .tc) PUnit :=
  Prog.lift (.waitDma2 (locS w) (inM w) (rows w d) (in_exact w) (rows_exact w d))

/-- The five weights. -/
def ws : List (Fin 5) := [0, 1, 2, 3, 4]
/-- The copies of the own shard, and the waits for what comes from the other core, in program order. -/
def wks : List (Fin 5 × Fin 4) := ws.flatMap fun w => [(w, 0), (w, 1), (w, 2), (w, 3)]
/-- The shards passed on, in program order. -/
def wjs : List (Fin 5 × Fin 3) := [0, 1, 2].flatMap fun j => [(0, j), (1, j), (2, j), (3, j), (4, j)]

/-- The steps of the body on device `d`. -/
def steps (d : Dev nD) : List (Prog (TpuEff nD τ sig (Elt F) Λ₀ .tc) PUnit) :=
  ws.map (locStart d) ++ wks.map (remStart d) ++ wjs.map (pass d) ++ wks.map (lastWait d)
    ++ wks.map (sendWait d) ++ wjs.map (fwdWait d) ++ ws.map (locWait d)

/-! ## The same steps with the offsets as the kernel computes them -/

/-- The offset of the device's own rows, as computed, -/
def ownOff (d : Dev nD) : Fin 5 → Fin 2 → Nat :=
  ![k0_off1 d, k0_off2 d, k0_off3 d, k0_off3 d, k0_off3 d]
/-- of the rows of a shard passed on, -/
def upOff (d : Dev nD) : Fin 3 → Fin 5 → Fin 2 → Nat :=
  ![![k0_off4 d, k0_off5 d, k0_off6 d, k0_off6 d, k0_off6 d], ![k0_off7 d, k0_off8 d, k0_off9 d, k0_off9 d, k0_off9 d],
    ![k0_off10 d, k0_off11 d, k0_off12 d, k0_off12 d, k0_off12 d]]
/-- and of the rows of a shard from the other core. -/
def laOff (d : Dev nD) : Fin 5 → Fin 4 → Fin 2 → Nat :=
  ![![k0_off13 d, k0_off14 d, k0_off15 d, k0_off16 d], ![k0_off17 d, k0_off18 d, k0_off19 d, k0_off20 d],
    ![k0_off21 d, k0_off22 d, k0_off23 d, k0_off24 d], ![k0_off21 d, k0_off22 d, k0_off23 d, k0_off24 d],
    ![k0_off21 d, k0_off22 d, k0_off23 d, k0_off24 d]]
/-- The partners' numbers as computed, -/
def peerLo : Fin 5 → Fin 4 → Dev nD → Dev nD :=
  ![![fun d => ⟨k0_dev1 d, k0_dev1_lt d⟩, fun d => ⟨k0_dev2 d, k0_dev2_lt d⟩, fun d => ⟨k0_dev3 d, k0_dev3_lt d⟩, fun d => ⟨k0_dev4 d, k0_dev4_lt d⟩], ![fun d => ⟨k0_dev5 d, k0_dev5_lt d⟩, fun d => ⟨k0_dev6 d, k0_dev6_lt d⟩, fun d => ⟨k0_dev7 d, k0_dev7_lt d⟩, fun d => ⟨k0_dev8 d, k0_dev8_lt d⟩], ![fun d => ⟨k0_dev9 d, k0_dev9_lt d⟩, fun d => ⟨k0_dev10 d, k0_dev10_lt d⟩, fun d => ⟨k0_dev11 d, k0_dev11_lt d⟩, fun d => ⟨k0_dev12 d, k0_dev12_lt d⟩], ![fun d => ⟨k0_dev13 d, k0_dev13_lt d⟩, fun d => ⟨k0_dev14 d, k0_dev14_lt d⟩, fun d => ⟨k0_dev15 d, k0_dev15_lt d⟩, fun d => ⟨k0_dev16 d, k0_dev16_lt d⟩], ![fun d => ⟨k0_dev17 d, k0_dev17_lt d⟩, fun d => ⟨k0_dev18 d, k0_dev18_lt d⟩, fun d => ⟨k0_dev19 d, k0_dev19_lt d⟩, fun d => ⟨k0_dev20 d, k0_dev20_lt d⟩]]
/-- and the other core's. -/
def peerFw : Fin 3 → Fin 5 → Dev nD → Dev nD :=
  ![![fun d => ⟨k0_dev21 d, k0_dev21_lt d⟩, fun d => ⟨k0_dev22 d, k0_dev22_lt d⟩, fun d => ⟨k0_dev23 d, k0_dev23_lt d⟩, fun d => ⟨k0_dev24 d, k0_dev24_lt d⟩, fun d => ⟨k0_dev25 d, k0_dev25_lt d⟩], ![fun d => ⟨k0_dev26 d, k0_dev26_lt d⟩, fun d => ⟨k0_dev27 d, k0_dev27_lt d⟩, fun d => ⟨k0_dev28 d, k0_dev28_lt d⟩, fun d => ⟨k0_dev29 d, k0_dev29_lt d⟩, fun d => ⟨k0_dev30 d, k0_dev30_lt d⟩], ![fun d => ⟨k0_dev31 d, k0_dev31_lt d⟩, fun d => ⟨k0_dev32 d, k0_dev32_lt d⟩, fun d => ⟨k0_dev33 d, k0_dev33_lt d⟩, fun d => ⟨k0_dev34 d, k0_dev34_lt d⟩, fun d => ⟨k0_dev35 d, k0_dev35_lt d⟩]]

theorem ownOff_eq : ∀ (d : Dev nD) (w : Fin 5), ownOff d w = ![d.val * nr w, 0] := by decide +kernel
theorem upOff_eq : ∀ (d : Dev nD) (j : Fin 3) (w : Fin 5), upOff d j w = ![(peer (up j) d).val * nr w, 0] := by decide +kernel
theorem laOff_eq : ∀ (d : Dev nD) (w : Fin 5) (i : Fin 4), laOff d w i = ![(peer (la i) d).val * nr w, 0] := by decide +kernel
theorem peerLo_eq : ∀ (w : Fin 5) (k : Fin 4) (d : Dev nD), peerLo w k d = peer (lo k) d := by decide +kernel
theorem peerFw_eq : ∀ (j : Fin 3) (w : Fin 5) (d : Dev nD), peerFw j w d = peer 0 d := by decide +kernel

/-- An offset that is a device's is in bounds. -/
theorem inb_of {w : Fin 5} {s : Dev nD} {off : Fin 2 → Nat} (h : off = ![s.val * nr w, 0]) : ∀ a, off a + (SB w).size a ≤ (SO w).size a := by
  subst h; exact rows_inb w s

/-- The device's own rows, -/
abbrev rowsOwn (d : Dev nD) (w : Fin 5) := rowsAt w (ownOff d w) (inb_of (ownOff_eq d w))
/-- the rows of a shard passed on, -/
abbrev rowsUp (d : Dev nD) (j : Fin 3) (w : Fin 5) := rowsAt w (upOff d j w) (inb_of (upOff_eq d j w))
/-- and the rows of a shard from the other core, with the offsets as computed. -/
abbrev rowsLa (d : Dev nD) (w : Fin 5) (i : Fin 4) := rowsAt w (laOff d w i) (inb_of (laOff_eq d w i))

theorem rowsOwn_eq (d : Dev nD) (w : Fin 5) : rowsOwn d w = rows w d := slice_congr _ _ _ _ (ownOff_eq d w)
theorem rowsUp_eq (d : Dev nD) (j : Fin 3) (w : Fin 5) : rowsUp d j w = rows w (peer (up j) d) := slice_congr _ _ _ _ (upOff_eq d j w)
theorem rowsLa_eq (d : Dev nD) (w : Fin 5) (i : Fin 4) : rowsLa d w i = rows w (peer (la i) d) := slice_congr _ _ _ _ (laOff_eq d w i)

theorem own_exact (d : Dev nD) (w : Fin 5) : (rowsOwn d w).view.WordExact := by rw [rowsOwn_eq]; exact rows_exact w d
theorem up_exact (d : Dev nD) (j : Fin 3) (w : Fin 5) : (rowsUp d j w).view.WordExact := by rw [rowsUp_eq]; exact rows_exact w _
theorem la_exact (d : Dev nD) (w : Fin 5) (i : Fin 4) : (rowsLa d w i).view.WordExact := by rw [rowsLa_eq]; exact rows_exact w _

/-- The steps with the offsets as computed. -/
def steps' (d : Dev nD) : List (Prog (TpuEff nD τ sig (Elt F) Λ₀ .tc) PUnit) :=
  ws.map (fun w => Prog.lift (.enqueueDma (inM w) (.here (rowsOwn d w)) (.dma (locS w)) (in_exact w) (own_exact d w) ⟨Or.inl rfl, trivial⟩))
    ++ wks.map (fun wk => Prog.lift (.enqueueDma (inM wk.1) (.remote (Dev.tc (peerLo wk.1 wk.2 d)) (rowsOwn d wk.1) (.dma (sendS wk.1 (lo wk.2))))
        (.dma (recvS wk.1 (lo wk.2))) (in_exact wk.1) (own_exact d wk.1) ⟨⟨rfl, Or.inl rfl⟩, trivial⟩))
    ++ wjs.map (fun wj => Prog.lift (.waitDma2 (recvS wj.1 (up wj.2)) (rowsUp d wj.2 wj.1) (rowsUp d wj.2 wj.1) (up_exact d wj.2 wj.1) (up_exact d wj.2 wj.1))
        >>= fun _ => Prog.lift (.enqueueDma (rowsUp d wj.2 wj.1) (.remote (Dev.tc (peerFw wj.2 wj.1 d)) (rowsUp d wj.2 wj.1) (.dma (sendS wj.1 (fw wj.2))))
          (.dma (recvS wj.1 (fw wj.2))) (up_exact d wj.2 wj.1) (up_exact d wj.2 wj.1) ⟨⟨rfl, Or.inl rfl⟩, trivial⟩))
    ++ wks.map (fun wk => Prog.lift (.waitDma2 (recvS wk.1 (la wk.2)) (rowsLa d wk.1 wk.2) (rowsLa d wk.1 wk.2) (la_exact d wk.1 wk.2) (la_exact d wk.1 wk.2)))
    ++ wks.map (fun wk => Prog.lift (.waitDma2 (sendS wk.1 (lo wk.2)) (rowsOwn d wk.1) (inM wk.1) (own_exact d wk.1) (in_exact wk.1)))
    ++ wjs.map (fun wj => Prog.lift (.waitDma2 (sendS wj.1 (fw wj.2)) (rowsUp d wj.2 wj.1) (rowsUp d wj.2 wj.1) (up_exact d wj.2 wj.1) (up_exact d wj.2 wj.1)))
    ++ ws.map (fun w => Prog.lift (.waitDma2 (locS w) (inM w) (rowsOwn d w) (in_exact w) (own_exact d w)))

theorem body_eq' (t : Fin cfg0.N) : bodyAt0 (F := F) t = Prog.lift .deviceId >>= fun d => seqs (steps' d) := by
  chain_rfl

theorem steps_eq (d : Dev nD) : steps' (F := F) d = steps d := by
  unfold steps' steps
  refine congrArg₂ (· ++ ·) (congrArg₂ (· ++ ·) (congrArg₂ (· ++ ·) (congrArg₂ (· ++ ·) (congrArg₂ (· ++ ·) (congrArg₂ (· ++ ·) ?_ ?_) ?_) ?_) ?_) ?_) ?_
  · exact List.map_congr_left fun w _ => here_congr _ rfl (rowsOwn_eq d w) _ _ _ _
  · exact List.map_congr_left fun wk _ => remote_congr _ _ rfl (rowsOwn_eq d wk.1) (peerLo_eq wk.1 wk.2 d) _ _ _ _
  · exact List.map_congr_left fun wj _ => congrArg₂ (fun p q : Prog (TpuEff nD τ sig (Elt F) Λ₀ .tc) PUnit => p >>= fun _ => q)
      (wait_congr _ (rowsUp_eq d wj.2 wj.1) (rowsUp_eq d wj.2 wj.1) _ _ _ _)
      (remote_congr _ _ (rowsUp_eq d wj.2 wj.1) (rowsUp_eq d wj.2 wj.1) (peerFw_eq wj.2 wj.1 d) _ _ _ _)
  · exact List.map_congr_left fun wk _ => wait_congr _ (rowsLa_eq d wk.1 wk.2) (rowsLa_eq d wk.1 wk.2) _ _ _ _
  · exact List.map_congr_left fun wk _ => wait_congr _ (rowsOwn_eq d wk.1) rfl _ _ _ _
  · exact List.map_congr_left fun wj _ => wait_congr _ (rowsUp_eq d wj.2 wj.1) (rowsUp_eq d wj.2 wj.1) _ _ _ _
  · exact List.map_congr_left fun w _ => wait_congr _ rfl (rowsOwn_eq d w) _ _ _ _

/-- The kernel's body is its steps in order. -/
theorem body_eq (t : Fin cfg0.N) : bodyAt0 (F := F) t = Prog.lift .deviceId >>= fun d => seqs (steps d) := by
  rw [body_eq']; simp only [steps_eq]

end Cert.Gathering

end
-- ==== Proof.GatherBlocks.lean ====
/-
  The eight devices' rows of a gathered weight: they are disjoint, cover the buffer, and a shard copied there, or the same
  rows of another device's gathered weight, are the gathered weight's own rows. A shard's buffer is read by five copies at once.
-/
module

public import proofs.«01_k».proof.Proof.GatherSteps
public import Idealize.ShloMosaic.Lib.Ring
public import Idealize.ShloMosaic.Lib.Transfers

@[expose] public section

noncomputable section

namespace Cert.Gathering

open Cert.GatherIdeal Cert.GatherIdeal.Gen
open Idealize.ShloMosaic Idealize.ShloMosaic.TcCoe
open Idealize.SL.Sem
open Cert.Pieces

/-- The rectangle of device `s`'s rows in a gathered weight. -/
abbrev rowsR (w : Fin 5) (s : Dev nD) : Rect (SO w) := Rect.unit (s := SO w) ![s.val * nr w, 0] (SB w).size (rows_inb w s)

/-- The elements of a device's rows. -/
theorem rows_set (w : Fin 5) (s : Dev nD) : (rows w s).view.set = (rowsR w s).set.map (outM w).view.emb :=
  View.set_slice _ _

theorem nr_pos : ∀ w : Fin 5, 0 < nr w := by decide

/-- An element of a gathered weight lies in the rows of the device its row belongs to. -/
theorem mem_rowsR (w : Fin 5) (s : Dev nD) (i : (SO w).Idx) : i ∈ (rowsR w s).set ↔ (i 0).val / nr w = s.val :=
  mem_rows (nr_pos w) s.val (rows_inb w s) i

/-- The device a row belongs to. -/
theorem owner_lt (w : Fin 5) (i : (SO w).Idx) : (i 0).val / nr w < 8 :=
  (Nat.div_lt_iff_lt_mul (nr_pos w)).mpr (i 0).isLt

theorem rows_disjoint (w : Fin 5) (a b : Dev nD) (h : a ≠ b) : Disjoint (rows w a).view.set (rows w b).view.set := by
  rw [rows_set, rows_set]; exact cut_disjoint _ (fun d => (rowsR w d).set) _ (mem_rowsR w) a b h
theorem rows_cover (w : Fin 5) : (Finset.univ.biUnion (β := (outM w).view.ty.Idx) fun d : Dev nD => (rows w d).view.set) = Finset.univ := by
  rw [show ((fun d => (rows w d).view.set) : Dev nD → Finset (outM w).view.ty.Idx) = fun d => (rowsR w d).set.map (outM w).view.emb from funext (rows_set w)]
  exact cut_cover (outM_whole w) (fun d => (rowsR w d).set) _ (owner_lt w) (mem_rowsR w)

/-- What every transfer of weight `w` credits. -/
def amt (w : Fin 5) : Nat := (rows w 0).view.dmaCredit
theorem in_amt (w : Fin 5) : (inM w).view.dmaCredit = amt w :=
  match w with
  | 0 => rfl | 1 => rfl | 2 => rfl | 3 => rfl | 4 => rfl
theorem amt_pos (w : Fin 5) : 0 < amt w :=
  View.dmaCredit_pos _ (by revert w; decide)

/-! ## Contents -/

variable {Val : EltTy → Type}

/-- The gathered weight from every device's shard: row `r` is row `r mod n` of the shard of device `r / n`. -/
def gatherVal (w : Fin 5) (A : Dev nD → (SB w).Idx → Val .bf16) : (SO w).Idx → Val .bf16 :=
  fun j => A ⟨(j 0).val / nr w, owner_lt w j⟩ (Shape.pair (d := ![nr w, 2048]) ⟨(j 0).val % nr w, Nat.mod_lt _ (nr_pos w)⟩ (j 1))

/-- In device `s`'s rows the gathered weight is device `s`'s shard. -/
theorem gatherVal_rows (w : Fin 5) (A : Dev nD → (SB w).Idx → Val .bf16) (s : Dev nD) (x : (SB w).Idx) :
    gatherVal w A ((rowsR w s).emb x) = A s x := by
  have hx : (x 0).val < nr w := (x 0).isLt
  have h0 : (((rowsR w s).emb x) 0).val = s.val * nr w + (x 0).val := by
    show s.val * nr w + 1 * (x 0).val = _; omega
  have hd : (((rowsR w s).emb x) 0).val / nr w = s.val := by
    rw [h0, Nat.add_comm, Nat.add_mul_div_right _ _ (nr_pos w), Nat.div_eq_of_lt hx, Nat.zero_add]
  have hm : (((rowsR w s).emb x) 0).val % nr w = (x 0).val := by
    rw [h0, Nat.add_comm, Nat.add_mul_mod_self_right, Nat.mod_eq_of_lt hx]
  unfold gatherVal
  refine congr (congrArg A (Fin.ext hd)) (funext fun a => Fin.ext ?_)
  match a with
  | 0 => exact hm
  | 1 => show 0 + 1 * (x 1).val = (x 1).val; omega

/-- A buffer holding the gathered weight. -/
def gatherBuf (w : Fin 5) (A : Dev nD → (SB w).Idx → Val .bf16) (f₀ : (outM w).view.ty.Contents Val) : (outM w).view.ty.Contents Val :=
  (outM w).view.write Val f₀ (gatherVal w A) Finset.univ

/-- What a device's rows of it read. -/
theorem read_rows (w : Fin 5) (A : Dev nD → (SB w).Idx → Val .bf16) (f₀ : (outM w).view.ty.Contents Val) (s : Dev nD) :
    (rows w s).view.read Val (gatherBuf w A f₀) = A s := by
  funext x
  have h : (rows w s).view.read Val (gatherBuf w A f₀) x = (outM w).view.read Val (gatherBuf w A f₀) ((rowsR w s).emb x) := rfl
  rw [h, gatherBuf, View.read_write_univ, gatherVal_rows]

/-- Device `s`'s shard written into its rows leaves the gathered weight there. -/
theorem copy_eq (w : Fin 5) (s : Dev nD) (A : Dev nD → (SB w).Idx → Val .bf16) (fd f₀ : (outM w).view.ty.Contents Val) :
    ∀ i ∈ (rows w s).view.set, (rows w s).view.write Val fd (A s) Finset.univ i = gatherBuf w A f₀ i := by
  refine eq_on_of_read _ _ _ ?_
  rw [View.read_write_univ, read_rows]

end Cert.Gathering

end
-- ==== Proof.GatherProtocol.lean ====
/-
  The protocol of the all-gather. Device `d` copies its shard of each weight into its rows at itself and at four others: the
  other core of its chip and the core of its number on each other chip. A shard that comes from another chip it passes on to
  the other core of its chip. Receive semaphore `(w, k)` gives the rows of device `peer k d` filled, the send semaphores give
  the sources back. A device that waits for a shard from another chip owes only what it passes on to the other core, and
  nobody waits for that before it has passed on everything itself: the copies between chips have level 0, those that pass
  on have level 1.
-/
module

public import proofs.«01_k».proof.Proof.GatherBlocks

@[expose] public section

noncomputable section

namespace Cert.Gathering

open Cert.GatherIdeal Cert.GatherIdeal.Gen Cert.Talk
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Pieces

variable {F : FTy → Type} [FloatOps F]

local notation "𝕄" => MT nD τ sig Unit (Elt F) ℕ (UR nD τ sig) ℕ

/-! ## The cells -/

/-- A device's semaphores: send, receive, local. -/
abbrev Cell := (Fin 5 × Fin 7) ⊕ (Fin 5 × Fin 7) ⊕ Fin 5

/-- The semaphore of a cell. -/
def cellSem : Cell → SemLoc sig
  | .inl wk => .dma (sendS wk.1 wk.2)
  | .inr (.inl wk) => .dma (recvS wk.1 wk.2)
  | .inr (.inr w) => .dma (locS w)

theorem cellSem_inj : Function.Injective cellSem := by
  have h : ∀ a b : Cell, cellSem a = cellSem b → a = b := by decide +kernel
  exact fun a b => h a b

theorem scoped_cells : (Finset.univ.filter fun sm : SemLoc sig => sm.isScoped .tc) = Finset.univ.image cellSem := by decide +kernel

/-- What a cell is credited. -/
def cellAmt : Cell → ℕ
  | .inl wk => amt wk.1
  | .inr (.inl wk) => amt wk.1
  | .inr (.inr w) => amt w

theorem cellAmt_pos : ∀ x, 0 < cellAmt x
  | .inl wk => amt_pos wk.1
  | .inr (.inl wk) => amt_pos wk.1
  | .inr (.inr w) => amt_pos w

/-- The copy of the own shard to partner `k`, -/
def loC (wk : Fin 5 × Fin 4) : Fin 5 × Fin 7 := (wk.1, lo wk.2)
/-- the copy between chips, -/
def upC (wj : Fin 5 × Fin 3) : Fin 5 × Fin 7 := (wj.1, up wj.2)
/-- the copy that passes it on, -/
def fwC (wj : Fin 5 × Fin 3) : Fin 5 × Fin 7 := (wj.1, fw wj.2)
/-- and the copy from the other core. -/
def laC (wk : Fin 5 × Fin 4) : Fin 5 × Fin 7 := (wk.1, la wk.2)

/-- The copies a device starts, in two kinds, -/
theorem starts_split : Function.Bijective (Sum.elim loC fwC) := by decide +kernel
/-- and the copies it gets, in two kinds. -/
theorem gets_split : Function.Bijective (Sum.elim upC laC) := by decide +kernel

/-- The device that copy `k` of device `d` goes to. -/
def dest (k : Fin 7) (d : Dev nD) : Dev nD := if k.val < 4 then peer k d else peer 0 d

theorem dest_dest : ∀ (k : Fin 7) (d : Dev nD), dest k (dest k d) = d := by decide
theorem dest_lo : ∀ (k : Fin 4) (d : Dev nD), dest (lo k) d = peer (lo k) d := by decide
theorem dest_fw : ∀ (j : Fin 3) (d : Dev nD), dest (fw j) d = peer 0 d := by decide
theorem from_lo : ∀ (k : Fin 4) (d : Dev nD), peer (lo k) (peer (lo k) d) = d := by decide
theorem from_fw : ∀ (j : Fin 3) (d : Dev nD), peer (fw j) (peer 0 d) = peer (up j) d := by decide

/-! ## The contents -/

variable (m : (ℓ : Loc nD τ sig) → Buf (Elt F) ℓ)

/-- Device `s`'s shard `w` at launch. -/
def inBuf (w : Fin 5) (s : Dev nD) : (inM w).view.ty.Contents (Elt F) := m ((inM w).view.loc (s : Thread nD τ))
/-- Device `d`'s result `w` at launch. -/
def outBuf (w : Fin 5) (d : Dev nD) : (outM w).view.ty.Contents (Elt F) := m ((outM w).view.loc (d : Thread nD τ))
/-- Device `d`'s result `w` at the end. -/
def finBuf (w : Fin 5) (d : Dev nD) : (outM w).view.ty.Contents (Elt F) :=
  gatherBuf w (fun s => (inM w).view.read (Elt F) (inBuf m w s)) (outBuf m w d)

/-- The share of a shard's buffer that one of its five copies reads with. -/
def sh (k : Fin 5) : PosShare TreeShare := Transfers.dealOf fullShare Finset.univ k

/-- A share of device `d`'s shard `w`. -/
def srcPts (d : Dev nD) (w : Fin 5) (k : Fin 5) : sProp 𝕄 :=
  ((inM w).view.loc (d : Thread nD τ)) ↦[(inM w).view.set]{sh k} inBuf m w d
/-- Device `s`'s rows of device `d`'s result `w`, holding `f`. -/
def rowsPts (f : (w : Fin 5) → (d : Dev nD) → (outM w).view.ty.Contents (Elt F)) (d : Dev nD) (w : Fin 5) (s : Dev nD) : sProp 𝕄 :=
  ((rows w s).view.loc (d : Thread nD τ)) ↦[(rows w s).view.set]{fullShare} f w d

/-- The source that copy `k` gives back. -/
def sendPay (d : Dev nD) (w : Fin 5) : Fin 7 → sProp 𝕄
  | 0 => srcPts m d w 0 | 1 => srcPts m d w 1 | 2 => srcPts m d w 2 | 3 => srcPts m d w 3
  | 4 => rowsPts (finBuf m) d w (peer 1 d) | 5 => rowsPts (finBuf m) d w (peer 2 d) | 6 => rowsPts (finBuf m) d w (peer 3 d)

theorem sendPay_lo (d : Dev nD) (w : Fin 5) (k : Fin 4) : sendPay m d w (lo k) = srcPts m d w k.castSucc :=
  match k with
  | 0 => rfl | 1 => rfl | 2 => rfl | 3 => rfl
theorem sendPay_fw (d : Dev nD) (w : Fin 5) (j : Fin 3) : sendPay m d w (fw j) = rowsPts (finBuf m) d w (peer (up j) d) :=
  match j with
  | 0 => rfl | 1 => rfl | 2 => rfl

/-- What each cell hands over. -/
def pay (d : Dev nD) : Cell → sProp 𝕄
  | .inl wk => sendPay m d wk.1 wk.2
  | .inr (.inl wk) => rowsPts (finBuf m) d wk.1 (peer wk.2 d)
  | .inr (.inr w) => iprop(rowsPts (finBuf m) d w d ∗ srcPts m d w 4)

instance (d : Dev nD) (w : Fin 5) : (k : Fin 7) → Storable (upEmb : UEmb _ 𝕄) (sendPay m d w k)
  | 0 => by unfold sendPay srcPts; infer_instance
  | 1 => by unfold sendPay srcPts; infer_instance
  | 2 => by unfold sendPay srcPts; infer_instance
  | 3 => by unfold sendPay srcPts; infer_instance
  | 4 => by unfold sendPay rowsPts; infer_instance
  | 5 => by unfold sendPay rowsPts; infer_instance
  | 6 => by unfold sendPay rowsPts; infer_instance

instance (d : Dev nD) : (x : Cell) → Storable (upEmb : UEmb _ 𝕄) (pay m d x)
  | .inl wk => by unfold pay; infer_instance
  | .inr (.inl wk) => by unfold pay rowsPts; infer_instance
  | .inr (.inr w) => by unfold pay rowsPts srcPts; infer_instance

/-- A landed shard is the final contents of its rows, -/
theorem landed (w : Fin 5) (s e : Dev nD) (fd : (outM w).view.ty.Contents (Elt F)) :
    (((rows w s).view.loc (e : Thread nD τ)) ↦[(rows w s).view.set]{fullShare}
      (rows w s).view.write (Elt F) fd ((inM w).view.read (Elt F) (inBuf m w s)) Finset.univ : sProp 𝕄) ⊢ rowsPts (finBuf m) e w s :=
  Entails.of_eq (pointsTo_congr (copy_eq w s (fun s => (inM w).view.read (Elt F) (inBuf m w s)) fd (outBuf m w e)))
/-- and so is a shard passed on. -/
theorem relayed (w : Fin 5) (s d e : Dev nD) (fd : (outM w).view.ty.Contents (Elt F)) :
    (((rows w s).view.loc (e : Thread nD τ)) ↦[(rows w s).view.set]{fullShare}
      (rows w s).view.write (Elt F) fd ((rows w s).view.read (Elt F) (finBuf m w d)) Finset.univ : sProp 𝕄) ⊢ rowsPts (finBuf m) e w s := by
  unfold finBuf; rw [read_rows]; exact landed m w s e fd

/-! ## Levels and debts -/

/-- The copies that pass on have level 1, everything else has level 0. -/
def lv (g : GSem nD τ sig) (_ : Unit) : ℕ := if ∃ wj : Fin 5 × Fin 3, g.2 = cellSem (.inr (.inl (fwC wj))) then 1 else 0

/-- What device `d` owes for the copies `l` it has not started. -/
def owedL (d : Dev nD) (l : List (Fin 5 × Fin 7)) : CellTallies nD τ sig Unit :=
  (l.map fun wk => tallyAt (cellG (τ := τ) cellSem (dest wk.2 d, .inr (.inl wk))) () (amt wk.1)).sum

theorem owedL_cons (d : Dev nD) (wk : Fin 5 × Fin 7) (l : List (Fin 5 × Fin 7)) :
    owedL d (wk :: l) = owedL d l + tallyAt (cellG (τ := τ) cellSem (dest wk.2 d, .inr (.inl wk))) () (amt wk.1) := by
  unfold owedL; rw [List.map_cons, List.sum_cons, add_comm]

/-- A cell something is owed to is that of a copy not started. -/
theorem owedL_pos (d : Dev nD) (l : List (Fin 5 × Fin 7)) (g : GSem nD τ sig) (ι : Unit) (h : 0 < owedL d l g ι) :
    ∃ wk ∈ l, g = cellG (τ := τ) cellSem (dest wk.2 d, .inr (.inl wk)) := by
  induction l with
  | nil => exact absurd h (Nat.lt_irrefl 0)
  | cons wk l ih =>
    rw [owedL_cons] at h
    by_cases hg : g = cellG (τ := τ) cellSem (dest wk.2 d, .inr (.inl wk)) ∧ ι = ()
    · exact ⟨wk, List.mem_cons_self, hg.1⟩
    · have h' : 0 < owedL d l g ι + tallyAt (cellG (τ := τ) cellSem (dest wk.2 d, .inr (.inl wk))) () (amt wk.1) g ι := h
      rw [tallyAt_apply, if_neg hg, Nat.add_zero] at h'
      obtain ⟨x, hx, e⟩ := ih h'
      exact ⟨x, List.mem_cons_of_mem _ hx, e⟩

/-- A wait for a copy between chips may stand under what is passed on. -/
theorem mayWait_up (d : Dev nD) (wj : Fin 5 × Fin 3) (l : List (Fin 5 × Fin 3)) :
    (levAts lvIx lv : sProp 𝕄) ⊢ MayWait (d : Thread nD τ) (cellSem (.inr (.inl (upC wj)))) () (owedL d (l.map fwC)) :=
  MayOwe.of_cut (L := lvIx) (lev := lv) 0 (fun p hp => by rw [Finset.mem_singleton.mp hp]; exact Finset.mem_singleton_self _)
    (fun g u hg => by obtain ⟨x, -, rfl⟩ := owedL_pos d _ g u hg; exact Finset.mem_singleton_self _)
    (fun p hp => by
      rw [Finset.mem_singleton.mp hp]
      refine le_of_eq (if_neg ?_)
      rintro ⟨x, hx⟩
      have h : ∀ a b : Fin 5 × Fin 3, upC a ≠ fwC b := by decide
      exact h wj x (Sum.inl.inj (Sum.inr.inj (cellSem_inj hx))))
    (fun g u hg => by
      obtain ⟨x, hx, rfl⟩ := owedL_pos d _ g u hg
      obtain ⟨y, -, rfl⟩ := List.mem_map.mp hx
      have h : lv (cellG (τ := τ) cellSem (dest (fwC y).2 d, .inr (.inl (fwC y)))) u = 1 := if_pos ⟨y, rfl⟩
      rw [h]; exact Nat.one_pos)

/-! ## The steps -/

variable (κ : Dev nD × Cell → ℕ)

/-- What everybody knows: the cells' invariants and the levels. -/
def Base : sProp 𝕄 := iprop(Inv (τ := τ) cellAmt_pos (pay m) κ (sem := cellSem) ∗ levAts lvIx lv)

instance : Persistent (Base m κ) := by unfold Base; infer_instance

/-- The device's own copy starts. -/
theorem step_loc (d : Dev nD) {α : Type} (Q : α → sProp 𝕄) (w : Fin 5) (k : PUnit → Prog (TpuEff nD τ sig (Elt F) Λ₀ .tc) α) :
    iprop(Base m κ ∗ (srcPts m d w 4 ∗ rowsPts (outBuf m) d w d ∗ tok (τ := τ) (Elt F) cellSem (d, .inr (.inr w))))
      ⊢ iprop(((Base m κ ∗ credit (τ := τ) (Elt F) cellSem cellAmt (d, .inr (.inr w))) -∗ wp frame (wpE (defs₀ (F := F)) Variants.none (d : Thread nD τ) none) Set.univ (k ⟨⟩) Q)
        -∗ wp frame (wpE (defs₀ (F := F)) Variants.none (d : Thread nD τ) none) Set.univ (locStart d w >>= k) Q) := by
  unfold locStart Base; rw [Prog.bind_lift]
  iintro ⟨⟨#HI, #HL⟩, Hb, Hs, Ht⟩ Hk
  ihave Hcell := (Inv_cell cellAmt_pos κ (d, .inr (.inr w))) $$ HI
  icases Hcell with ⟨#Hc, #Hr⟩
  unfold srcPts rowsPts
  iapply (Rounds.wp_copy_pointsTo Variants.none ER (sched cellSem cellAmt (pay m) cellAmt_pos) (d : Thread nD τ) none (κ := κ (d, .inr (.inr w))) (r := 0) (d := ())
    (duty_mem cellAmt_pos _) () (amt w) rfl (amount_cell cellAmt_pos cellSem_inj (d, .inr (.inr w)) 0 ())
    ((sep_mono_left (landed m w d d _)).trans (Entails.of_eq (payload_cell cellAmt_pos cellSem_inj (pay := pay m) (d, .inr (.inr w)) 0 ()).symm))) $$ [Hb Hs Ht]
  · isplitr; · iexact Hc
    isplitl [Hb]; · iexact Hb
    isplitl [Hs]; · iexact Hs
    isplitl [Ht]; · iexact Ht
    iexact Hr
  iintro Hcr
  iapply Hk
  isplitr
  · isplitr; · iexact HI
    iexact HL
  iexact Hcr

/-- Copy `k` of weight `w` starts, from any source that its two cells can hand over. -/
theorem step_send (d e : Dev nD) (w : Fin 5) (k : Fin 7) (he : e = dest k d) (a : Memref sig .tc .hbm (SB w) .bf16) (ha : a.view.WordExact) (s : Dev nD)
    (q : PosShare TreeShare) (fs : a.view.ty.Contents (Elt F))
    (hsrc : ((a.view.loc (d : Thread nD τ)) ↦[a.view.set]{q} fs : sProp 𝕄) ⊢ pay m d (.inl (w, k)))
    (hdst : ∀ fd : (outM w).view.ty.Contents (Elt F), (((rows w s).view.loc (e : Thread nD τ)) ↦[(rows w s).view.set]{fullShare}
      (rows w s).view.write (Elt F) fd (a.view.read (Elt F) fs) Finset.univ : sProp 𝕄) ⊢ pay m e (.inr (.inl (w, k))))
    {α : Type} (Q : α → sProp 𝕄) (l : List (Fin 5 × Fin 7)) (kk : PUnit → Prog (TpuEff nD τ sig (Elt F) Λ₀ .tc) α) :
    iprop((Base m κ ∗ ∃ W, owes (d : Thread nD τ) (owedL d ((w, k) :: l)) W)
        ∗ (((a.view.loc (d : Thread nD τ)) ↦[a.view.set]{q} fs) ∗ rowsPts (outBuf m) e w s
          ∗ tok (τ := τ) (Elt F) cellSem (d, .inl (w, k)) ∗ tok (τ := τ) (Elt F) cellSem (e, .inr (.inl (w, k)))))
      ⊢ iprop((((Base m κ ∗ ∃ W, owes (d : Thread nD τ) (owedL d l) W) ∗ credit (τ := τ) (Elt F) cellSem cellAmt (d, .inl (w, k))) -∗ wp frame (wpE (defs₀ (F := F)) Variants.none (d : Thread nD τ) none) Set.univ (kk ⟨⟩) Q)
        -∗ wp frame (wpE (defs₀ (F := F)) Variants.none (d : Thread nD τ) none) Set.univ
          (Prog.lift (.enqueueDma a (.remote (Dev.tc e) (rows w s) (.dma (sendS w k))) (.dma (recvS w k)) ha (rows_exact w s) ⟨⟨rfl, Or.inl rfl⟩, trivial⟩) >>= kk) Q) := by
  subst he
  unfold Base; rw [Prog.bind_lift]
  iintro ⟨⟨⟨#HI, #HL⟩, ⟨%W, HO⟩⟩, Hb, Hs, Ht, Ht'⟩ Hk
  ihave Hcell := (Inv_cell cellAmt_pos κ (d, .inl (w, k))) $$ HI
  icases Hcell with ⟨#Hc, #Hr⟩
  ihave Hcell := (Inv_cell cellAmt_pos κ (dest k d, .inr (.inl (w, k)))) $$ HI
  icases Hcell with ⟨#Hc', #Hr'⟩
  unfold rowsPts
  iapply (Rounds.wp_send_pointsTo Variants.none ER (sched cellSem cellAmt (pay m) cellAmt_pos) (d : Thread nD τ) none (κ₁ := κ (d, .inl (w, k))) (κ₂ := κ (dest k d, .inr (.inl (w, k))))
    (r₁ := 0) (r₂ := 0) (d₁ := ()) (d₂ := ()) (duty_mem cellAmt_pos _) (duty_mem cellAmt_pos _) () () (amt w) rfl
    (amount_cell cellAmt_pos cellSem_inj (d, .inl (w, k)) 0 ()) (amount_cell cellAmt_pos cellSem_inj (dest k d, .inr (.inl (w, k))) 0 ())
    (owedL d l) (owedL_cons d (w, k) l) (W := W)
    (hsrc.trans (Entails.of_eq (payload_cell cellAmt_pos cellSem_inj (pay := pay m) (d, .inl (w, k)) 0 ()).symm))
    ((hdst _).trans (Entails.of_eq (payload_cell cellAmt_pos cellSem_inj (pay := pay m) (dest k d, .inr (.inl (w, k))) 0 ()).symm))) $$ [HO Hb Hs Ht Ht']
  · isplitr; · iexact Hc
    isplitr; · iexact Hc'
    isplitl [Hb]; · iexact Hb
    isplitl [Hs]; · iexact Hs
    isplitl [HO]; · iexact HO
    isplitl [Ht]; · iexact Ht
    isplitr; · iexact Hr
    isplitl [Ht']; · iexact Ht'
    iexact Hr'
  iintro ⟨Hcr, HO⟩
  iapply Hk
  isplitl [HO]
  · isplitr
    · isplitr; · iexact HI
      iexact HL
    iexists W; iexact HO
  iexact Hcr

/-- A wait on cell `x`, under what the levels allow. -/
theorem step_wait (d : Dev nD) {α : Type} (Q : α → sProp 𝕄) (x : Cell) (O : CellTallies nD τ sig Unit)
    (hm : (levAts lvIx lv : sProp 𝕄) ⊢ MayWait (d : Thread nD τ) (cellSem x) () O) (w : TpuEff nD τ sig (Elt F) Λ₀ .tc PUnit)
    (hw : ∀ K : PUnit → sProp 𝕄, wpE (defs₀ (F := F)) Variants.none (d : Thread nD τ) none Set.univ w K
      = waitSpec (d : Thread nD τ) Set.univ (cellSem x) (cellAmt x) K)
    (k : PUnit → Prog (TpuEff nD τ sig (Elt F) Λ₀ .tc) α) :
    iprop((Base m κ ∗ ∃ W, owes (d : Thread nD τ) O W) ∗ (credit (τ := τ) (Elt F) cellSem cellAmt (d, x) ∗ before (τ := τ) (Elt F) cellSem (d, x)))
      ⊢ iprop((((Base m κ ∗ ∃ W, owes (d : Thread nD τ) O W) ∗ (after (τ := τ) (Elt F) cellSem (d, x) ∗ pay m d x)) -∗ wp frame (wpE (defs₀ (F := F)) Variants.none (d : Thread nD τ) none) Set.univ (k ⟨⟩) Q)
        -∗ wp frame (wpE (defs₀ (F := F)) Variants.none (d : Thread nD τ) none) Set.univ (Prog.lift w >>= k) Q) := by
  unfold Base; rw [Prog.bind_lift]
  iintro ⟨⟨⟨#HI, #HL⟩, ⟨%W, HO⟩⟩, Hcr, Hat⟩ Hk
  iapply (wp_wait cellAmt_pos cellSem_inj (defs₀ (F := F)) Variants.none none κ d x hw) $$ [HO Hcr Hat]
  · isplitr; · iexact HI
    isplitl [Hcr]; · iexact Hcr
    isplitl [HO]; · iexact HO
    isplitr; · iapply hm; iexact HL
    iexact Hat
  iintro ⟨HO, Hat, Hp⟩
  iapply Hk
  isplitl [HO]
  · isplitr
    · isplitr; · iexact HI
      iexact HL
    iexists _; iexact HO
  isplitl [Hat] <;> iassumption

/-- Owing nothing, every wait is allowed. -/
theorem mayWait_none (d : Dev nD) (x : Cell) : (levAts lvIx lv : sProp 𝕄) ⊢ MayWait (d : Thread nD τ) (cellSem x) () 0 := by
  rw [MayWait_zero]
  iintro -
  iempintro

/-- A copy of the own shard starts; `r` are the copies after all of these. -/
theorem step_rem (d : Dev nD) {α : Type} (Q : α → sProp 𝕄) (r : List (Fin 5 × Fin 7)) (wk : Fin 5 × Fin 4) (l : List (Fin 5 × Fin 4))
    (k : PUnit → Prog (TpuEff nD τ sig (Elt F) Λ₀ .tc) α) :
    iprop((Base m κ ∗ ∃ W, owes (d : Thread nD τ) (owedL d ((wk :: l).map loC ++ r)) W)
        ∗ (srcPts m d wk.1 wk.2.castSucc ∗ rowsPts (outBuf m) (peer (lo wk.2) d) wk.1 d
          ∗ tok (τ := τ) (Elt F) cellSem (d, .inl (loC wk)) ∗ tok (τ := τ) (Elt F) cellSem (peer (lo wk.2) d, .inr (.inl (loC wk)))))
      ⊢ iprop((((Base m κ ∗ ∃ W, owes (d : Thread nD τ) (owedL d (l.map loC ++ r)) W) ∗ credit (τ := τ) (Elt F) cellSem cellAmt (d, .inl (loC wk))) -∗ wp frame (wpE (defs₀ (F := F)) Variants.none (d : Thread nD τ) none) Set.univ (k ⟨⟩) Q)
        -∗ wp frame (wpE (defs₀ (F := F)) Variants.none (d : Thread nD τ) none) Set.univ (remStart d wk >>= k) Q) :=
  step_send m κ d (peer (lo wk.2) d) wk.1 (lo wk.2) (dest_lo wk.2 d).symm (inM wk.1) (in_exact wk.1) d (sh wk.2.castSucc) (inBuf m wk.1 d)
    (Entails.of_eq (sendPay_lo m d wk.1 wk.2).symm)
    (fun fd => (landed m wk.1 d (peer (lo wk.2) d) fd).trans (Entails.of_eq (congrArg (rowsPts (finBuf m) (peer (lo wk.2) d) wk.1) (from_lo wk.2 d).symm)))
    Q (l.map loC ++ r) k

/-- The landing of copy `k` is waited for, under what the levels allow. -/
theorem step_recv (d : Dev nD) {α : Type} (Q : α → sProp 𝕄) (w : Fin 5) (c : Fin 7) (O : CellTallies nD τ sig Unit)
    (hm : (levAts lvIx lv : sProp 𝕄) ⊢ MayWait (d : Thread nD τ) (cellSem (.inr (.inl (w, c)))) () O)
    (k : PUnit → Prog (TpuEff nD τ sig (Elt F) Λ₀ .tc) α) :
    iprop((Base m κ ∗ ∃ W, owes (d : Thread nD τ) O W)
        ∗ (credit (τ := τ) (Elt F) cellSem cellAmt (d, .inr (.inl (w, c))) ∗ before (τ := τ) (Elt F) cellSem (d, .inr (.inl (w, c)))))
      ⊢ iprop((((Base m κ ∗ ∃ W, owes (d : Thread nD τ) O W) ∗ (after (τ := τ) (Elt F) cellSem (d, .inr (.inl (w, c))) ∗ pay m d (.inr (.inl (w, c)))))
          -∗ wp frame (wpE (defs₀ (F := F)) Variants.none (d : Thread nD τ) none) Set.univ (k ⟨⟩) Q)
        -∗ wp frame (wpE (defs₀ (F := F)) Variants.none (d : Thread nD τ) none) Set.univ (recvWait d w c >>= k) Q) :=
  step_wait m κ d Q (.inr (.inl (w, c))) O hm _
    (fun K => wpE_waitDma2_eq (hsrc := rows_exact w (peer c d)) (hdst := rows_exact w (peer c d)) Variants.none (d : Thread nD τ) none Set.univ K) k

/-- A shard from the other core is waited for, owing nothing. -/
theorem step_last (d : Dev nD) {α : Type} (Q : α → sProp 𝕄) (wk : Fin 5 × Fin 4) (k : PUnit → Prog (TpuEff nD τ sig (Elt F) Λ₀ .tc) α) :
    iprop((Base m κ ∗ ∃ W, owes (d : Thread nD τ) 0 W)
        ∗ (credit (τ := τ) (Elt F) cellSem cellAmt (d, .inr (.inl (laC wk))) ∗ before (τ := τ) (Elt F) cellSem (d, .inr (.inl (laC wk)))))
      ⊢ iprop((((Base m κ ∗ ∃ W, owes (d : Thread nD τ) 0 W) ∗ (after (τ := τ) (Elt F) cellSem (d, .inr (.inl (laC wk))) ∗ pay m d (.inr (.inl (laC wk)))))
          -∗ wp frame (wpE (defs₀ (F := F)) Variants.none (d : Thread nD τ) none) Set.univ (k ⟨⟩) Q)
        -∗ wp frame (wpE (defs₀ (F := F)) Variants.none (d : Thread nD τ) none) Set.univ (lastWait d wk >>= k) Q) :=
  step_recv m κ d Q wk.1 (la wk.2) 0 (mayWait_none d _) k

/-- A shard from another chip is waited for and passed on. -/
theorem step_pass (d : Dev nD) {α : Type} (Q : α → sProp 𝕄) (wj : Fin 5 × Fin 3) (l : List (Fin 5 × Fin 3))
    (k : PUnit → Prog (TpuEff nD τ sig (Elt F) Λ₀ .tc) α) :
    iprop((Base m κ ∗ ∃ W, owes (d : Thread nD τ) (owedL d ((wj :: l).map fwC)) W)
        ∗ ((credit (τ := τ) (Elt F) cellSem cellAmt (d, .inr (.inl (upC wj))) ∗ before (τ := τ) (Elt F) cellSem (d, .inr (.inl (upC wj))))
          ∗ rowsPts (outBuf m) (peer 0 d) wj.1 (peer (up wj.2) d)
          ∗ tok (τ := τ) (Elt F) cellSem (d, .inl (fwC wj)) ∗ tok (τ := τ) (Elt F) cellSem (peer 0 d, .inr (.inl (fwC wj)))))
      ⊢ iprop((((Base m κ ∗ ∃ W, owes (d : Thread nD τ) (owedL d (l.map fwC)) W)
            ∗ (after (τ := τ) (Elt F) cellSem (d, .inr (.inl (upC wj))) ∗ credit (τ := τ) (Elt F) cellSem cellAmt (d, .inl (fwC wj))))
          -∗ wp frame (wpE (defs₀ (F := F)) Variants.none (d : Thread nD τ) none) Set.univ (k ⟨⟩) Q)
        -∗ wp frame (wpE (defs₀ (F := F)) Variants.none (d : Thread nD τ) none) Set.univ (pass d wj >>= k) Q) := by
  unfold pass; rw [bind_assoc]
  iintro ⟨HS, Hw, Hs, Ht, Ht'⟩ Hk
  iapply (step_recv m κ d Q wj.1 (up wj.2) (owedL d ((wj :: l).map fwC)) (mayWait_up d wj (wj :: l)) _) $$ [HS Hw]
  · isplitl [HS]; · iexact HS
    iexact Hw
  iintro ⟨HS, Haf, Hp⟩
  ihave Hp := (Entails.of_eq (show pay m d (.inr (.inl (wj.1, up wj.2))) = (((rows wj.1 (peer (up wj.2) d)).view.loc (d : Thread nD τ))
    ↦[(rows wj.1 (peer (up wj.2) d)).view.set]{fullShare} finBuf m wj.1 d : sProp 𝕄) from rfl)) $$ Hp
  iapply (step_send m κ d (peer 0 d) wj.1 (fw wj.2) (dest_fw wj.2 d).symm (rows wj.1 (peer (up wj.2) d)) (rows_exact wj.1 (peer (up wj.2) d)) (peer (up wj.2) d)
    fullShare (finBuf m wj.1 d) (Entails.of_eq (sendPay_fw m d wj.1 wj.2).symm)
    (fun fd => (relayed m wj.1 (peer (up wj.2) d) d (peer 0 d) fd).trans (Entails.of_eq (congrArg (rowsPts (finBuf m) (peer 0 d) wj.1) (from_fw wj.2 d).symm)))
    Q (l.map fwC) k) $$ [HS Hp Hs Ht Ht']
  · isplitl [HS]; · iexact HS
    isplitl [Hp]; · iexact Hp
    isplitl [Hs]; · iexact Hs
    isplitl [Ht]; · iexact Ht
    iexact Ht'
  iintro ⟨HS, Hc⟩
  iapply Hk
  isplitl [HS]; · iexact HS
  isplitl [Haf]; · iexact Haf
  iexact Hc

/-! ## The body -/

/-- A conjunction over a device's cells, by kind of semaphore. -/
theorem cells_split (Φ : Cell → sProp 𝕄) :
    bigSep Finset.univ Φ = iprop(((bigSep Finset.univ fun wk => Φ (.inl (loC wk))) ∗ bigSep Finset.univ fun wj => Φ (.inl (fwC wj)))
      ∗ ((bigSep Finset.univ fun wj => Φ (.inr (.inl (upC wj)))) ∗ bigSep Finset.univ fun wk => Φ (.inr (.inl (laC wk))))
      ∗ bigSep Finset.univ fun w : Fin 5 => Φ (.inr (.inr w))) := by
  rw [BI.bigSep_univ_sum, BI.bigSep_univ_sum, bigSep_two loC fwC starts_split, bigSep_two upC laC gets_split]; rfl

/-- What a device starts with: its shards in five shares, its rows everywhere it writes, and the tokens of its copies. -/
def Start (d : Dev nD) : sProp 𝕄 :=
  iprop((bigSep Finset.univ fun w : Fin 5 => iprop(srcPts m d w 4 ∗ rowsPts (outBuf m) d w d ∗ tok (τ := τ) (Elt F) cellSem (d, .inr (.inr w))))
    ∗ (bigSep Finset.univ fun wk : Fin 5 × Fin 4 => iprop(srcPts m d wk.1 wk.2.castSucc ∗ rowsPts (outBuf m) (peer (lo wk.2) d) wk.1 d
        ∗ tok (τ := τ) (Elt F) cellSem (d, .inl (loC wk)) ∗ tok (τ := τ) (Elt F) cellSem (peer (lo wk.2) d, .inr (.inl (loC wk)))))
    ∗ (bigSep Finset.univ fun wj : Fin 5 × Fin 3 => iprop(rowsPts (outBuf m) (peer 0 d) wj.1 (peer (up wj.2) d)
        ∗ tok (τ := τ) (Elt F) cellSem (d, .inl (fwC wj)) ∗ tok (τ := τ) (Elt F) cellSem (peer 0 d, .inr (.inl (fwC wj))))))

/-- The copies in the order they are started. -/
def copies : List (Fin 5 × Fin 7) := wks.map loC ++ wjs.map fwC

/-- What a device has at the end of the body: the shares of its shards, and every device's rows filled. -/
def Held (d : Dev nD) : sProp 𝕄 :=
  iprop((bigSep Finset.univ fun w : Fin 5 => iprop(rowsPts (finBuf m) d w d ∗ srcPts m d w 4))
    ∗ (bigSep Finset.univ fun wk : Fin 5 × Fin 4 => srcPts m d wk.1 wk.2.castSucc)
    ∗ (bigSep Finset.univ fun wj : Fin 5 × Fin 3 => rowsPts (finBuf m) d wj.1 (peer (up wj.2) d))
    ∗ bigSep Finset.univ fun wk : Fin 5 × Fin 4 => rowsPts (finBuf m) d wk.1 (peer (la wk.2) d))

/-- The body's run: from the buffers' pieces to all of them filled. -/
theorem wp_body (d : Dev nD) (t : Fin cfg0.N) :
    iprop(Base m κ ∗ (∃ W, owes (d : Thread nD τ) (owedL d copies) W) ∗ Start m d
        ∗ (bigSep Finset.univ fun wk : Fin 5 × Fin 7 => credit (τ := τ) (Elt F) cellSem cellAmt (d, .inr (.inl wk)))
        ∗ bigSep Finset.univ fun x : Cell => before (τ := τ) (Elt F) cellSem (d, x))
      ⊢ wp frame (wpE (defs₀ (F := F)) Variants.none (d : Thread nD τ) none) Set.univ (bodyAt0 t) fun _ =>
          iprop((∃ W, owes (d : Thread nD τ) 0 W) ∗ (bigSep Finset.univ fun x : Cell => after (τ := τ) (Elt F) cellSem (d, x)) ∗ Held m d) := by
  rw [body_eq, Prog.bind_lift]
  unfold Start copies Held
  rw [wp_deviceId, steps, seqs_append, seqs_append, seqs_append, seqs_append, seqs_append, seqs_append, bind_assoc, bind_assoc, bind_assoc, bind_assoc, bind_assoc,
    cells_split (fun x : Cell => before (τ := τ) (Elt F) cellSem (d, x)), cells_split (fun x : Cell => after (τ := τ) (Elt F) cellSem (d, x)),
    bigSep_two upC laC gets_split (fun wk => credit (τ := τ) (Elt F) cellSem cellAmt (d, .inr (.inl wk)))]
  refine (show _ ⊢ (_ : sProp 𝕄) from ?_)
  iintro ⟨#HI, HO, Hst, Hcr, Hat⟩
  icases Hst with ⟨Hloc, Hrem, Hfw⟩
  icases Hcr with ⟨HcU, HcA⟩
  icases Hat with ⟨HatS, HatR, HatL⟩
  icases HatS with ⟨HatS, HatF⟩
  icases HatR with ⟨HatU, HatA⟩
  -- the copies of the own shards
  iapply (wp_seqs_univ (defs₀ (F := F)) Variants.none d none (locStart d) _ _ (fun _ => Base m κ) _ ws (by decide) (by decide)
    (fun w _ k => step_loc m κ d _ w k) _) $$ [Hloc]
  · isplitr; · iexact HI
    iexact Hloc
  iintro ⟨-, HcL⟩
  iapply (wp_seqs_univ (defs₀ (F := F)) Variants.none d none (remStart d) _ _
    (fun l => iprop(Base m κ ∗ ∃ W, owes (d : Thread nD τ) (owedL d (l.map loC ++ wjs.map fwC)) W)) _ wks
    (by decide) (by decide) (fun wk l k => step_rem m κ d _ (wjs.map fwC) wk l k) _) $$ [HO Hrem]
  · isplitl [HO]
    · isplitr; · iexact HI
      iexact HO
    iexact Hrem
  iintro ⟨⟨-, HO⟩, HcS⟩
  rw [show ([] : List (Fin 5 × Fin 4)).map loC ++ wjs.map fwC = wjs.map fwC from rfl]
  -- what comes from other chips is passed on
  iapply (wp_seqs_univ (defs₀ (F := F)) Variants.none d none (pass d) _ _
    (fun l => iprop(Base m κ ∗ ∃ W, owes (d : Thread nD τ) (owedL d (l.map fwC)) W)) _ wjs
    (by decide) (by decide) (fun wj l k => step_pass m κ d _ wj l k) _) $$ [HO HcU HatU Hfw]
  · isplitl [HO]
    · isplitr; · iexact HI
      iexact HO
    iapply (Entails.of_eq (bigSep_sep' Finset.univ (fun wj : Fin 5 × Fin 3 => iprop(credit (τ := τ) (Elt F) cellSem cellAmt (d, .inr (.inl (upC wj))) ∗ before (τ := τ) (Elt F) cellSem (d, .inr (.inl (upC wj)))))
      fun wj => iprop(rowsPts (outBuf m) (peer 0 d) wj.1 (peer (up wj.2) d)
        ∗ tok (τ := τ) (Elt F) cellSem (d, .inl (fwC wj)) ∗ tok (τ := τ) (Elt F) cellSem (peer 0 d, .inr (.inl (fwC wj))))).symm)
    isplitl [HcU HatU]
    · iapply (Entails.of_eq (bigSep_sep' Finset.univ (fun wj : Fin 5 × Fin 3 => credit (τ := τ) (Elt F) cellSem cellAmt (d, .inr (.inl (upC wj))))
        fun wj => before (τ := τ) (Elt F) cellSem (d, .inr (.inl (upC wj)))).symm)
      isplitl [HcU] <;> iassumption
    iexact Hfw
  iintro ⟨⟨-, HO⟩, HU⟩
  rw [show owedL d (([] : List (Fin 5 × Fin 3)).map fwC) = 0 from rfl]
  ihave HU := (Entails.of_eq (bigSep_sep' Finset.univ (fun wj => after (τ := τ) (Elt F) cellSem (d, .inr (.inl (upC wj)))) fun wj => credit (τ := τ) (Elt F) cellSem cellAmt (d, .inl (fwC wj)))) $$ HU
  icases HU with ⟨HU, HcF⟩
  -- then every other wait
  iapply (wp_seqs_univ (defs₀ (F := F)) Variants.none d none (lastWait d) _ _ (fun _ => iprop(Base m κ ∗ ∃ W, owes (d : Thread nD τ) 0 W)) _ wks
    (by decide) (by decide) (fun wk _ k => step_last m κ d _ wk k) _) $$ [HO HcA HatA]
  · isplitl [HO]
    · isplitr; · iexact HI
      iexact HO
    rw [bigSep_sep']; isplitl [HcA] <;> iassumption
  iintro ⟨⟨-, HO⟩, HA⟩
  iapply (wp_seqs_univ (defs₀ (F := F)) Variants.none d none (sendWait d) _ _ (fun _ => iprop(Base m κ ∗ ∃ W, owes (d : Thread nD τ) 0 W)) _ wks
    (by decide) (by decide) (fun wk _ k => step_wait m κ d _ (.inl (loC wk)) 0 (mayWait_none d _) _
      (fun K => (wpE_waitDma2_eq (hsrc := rows_exact wk.1 d) (hdst := in_exact wk.1)
      Variants.none (d : Thread nD τ) none Set.univ K).trans (by rw [in_amt]; rfl)) k) _) $$ [HO HcS HatS]
  · isplitl [HO]
    · isplitr; · iexact HI
      iexact HO
    rw [bigSep_sep']; isplitl [HcS] <;> iassumption
  iintro ⟨⟨-, HO⟩, HS⟩
  iapply (wp_seqs_univ (defs₀ (F := F)) Variants.none d none (fwdWait d) _ _ (fun _ => iprop(Base m κ ∗ ∃ W, owes (d : Thread nD τ) 0 W)) _ wjs
    (by decide) (by decide) (fun wj _ k => step_wait m κ d _ (.inl (fwC wj)) 0 (mayWait_none d _) _
      (fun K => wpE_waitDma2_eq (hsrc := rows_exact wj.1 (peer (up wj.2) d)) (hdst := rows_exact wj.1 (peer (up wj.2) d))
      Variants.none (d : Thread nD τ) none Set.univ K) k) _) $$ [HO HcF HatF]
  · isplitl [HO]
    · isplitr; · iexact HI
      iexact HO
    rw [bigSep_sep']; isplitl [HcF] <;> iassumption
  iintro ⟨⟨-, HO⟩, HF⟩
  rw [← bind_pure (seqs (ws.map (locWait d)))]
  iapply (wp_seqs_univ (defs₀ (F := F)) Variants.none d none (locWait d) _ _ (fun _ => iprop(Base m κ ∗ ∃ W, owes (d : Thread nD τ) 0 W)) _ ws
    (by decide) (by decide) (fun w _ k => step_wait m κ d _ (.inr (.inr w)) 0 (mayWait_none d _) _
      (fun K => wpE_waitDma2_eq (hsrc := in_exact w) (hdst := rows_exact w d)
      Variants.none (d : Thread nD τ) none Set.univ K) k) _) $$ [HO HcL HatL]
  · isplitl [HO]
    · isplitr; · iexact HI
      iexact HO
    rw [bigSep_sep']; isplitl [HcL] <;> iassumption
  iintro ⟨⟨-, HO⟩, HL⟩
  rw [show (pure PUnit.unit : Prog (TpuEff nD τ sig (Elt F) Λ₀ .tc) PUnit) = .ret ⟨⟩ from rfl, wp_ret]
  ihave HA := (Entails.of_eq (bigSep_sep' Finset.univ (fun wk => after (τ := τ) (Elt F) cellSem (d, .inr (.inl (laC wk)))) fun wk => pay m d (.inr (.inl (laC wk))))) $$ HA
  icases HA with ⟨HA, HpA⟩
  ihave HS := (Entails.of_eq (bigSep_sep' Finset.univ (fun wk => after (τ := τ) (Elt F) cellSem (d, .inl (loC wk))) fun wk => pay m d (.inl (loC wk)))) $$ HS
  icases HS with ⟨HS, HpS⟩
  ihave HF := (Entails.of_eq (bigSep_sep' Finset.univ (fun wj => after (τ := τ) (Elt F) cellSem (d, .inl (fwC wj))) fun wj => pay m d (.inl (fwC wj)))) $$ HF
  icases HF with ⟨HF, HpF⟩
  ihave HL := (Entails.of_eq (bigSep_sep' Finset.univ (fun w => after (τ := τ) (Elt F) cellSem (d, .inr (.inr w))) fun w => pay m d (.inr (.inr w)))) $$ HL
  icases HL with ⟨HL, HpL⟩
  ihave HpS := (Entails.of_eq (congrArg (bigSep Finset.univ) (show (fun wk : Fin 5 × Fin 4 => pay m d (.inl (loC wk))) = fun wk => srcPts m d wk.1 wk.2.castSucc from funext fun wk => sendPay_lo m d wk.1 wk.2))) $$ HpS
  ihave HpF := (Entails.of_eq (congrArg (bigSep Finset.univ) (show (fun wj : Fin 5 × Fin 3 => pay m d (.inl (fwC wj))) = fun wj => rowsPts (finBuf m) d wj.1 (peer (up wj.2) d) from funext fun wj => sendPay_fw m d wj.1 wj.2))) $$ HpF
  imodintro
  isplitl [HO]; · iexact HO
  isplitl [HS HF HU HA HL]
  · isplitl [HS HF]; · isplitl [HS] <;> iassumption
    isplitl [HU HA]; · isplitl [HU] <;> iassumption
    iexact HL
  isplitl [HpL]; · iexact HpL
  isplitl [HpS]; · iexact HpS
  isplitl [HpF]; · iexact HpF
  iexact HpA

end Cert.Gathering

end
-- ==== Proof.GatherRun.lean ====
/-
  The run of the all-gather on all devices: every device ends with its shards untouched and its five results holding the
  gathered weights.
-/
module

public import proofs.«01_k».proof.Proof.GatherProtocol
public import proofs.«01_k».proof.Proof.Region
public import Idealize.ShloMosaic.Lib.Ring

@[expose] public section

noncomputable section

namespace Cert.Gathering

open Cert.GatherIdeal Cert.GatherIdeal.Gen Cert.Talk
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (launchCred)
open Cert.Pieces

variable {F : FTy → Type} [FloatOps F]

local notation "𝕄" => MT nD τ sig Unit (Elt F) ℕ (UR nD τ sig) ℕ

variable (m : (ℓ : Loc nD τ sig) → Buf (Elt F) ℓ)

/-! ## The buffers in pieces -/

/-- Every device is `d` or one of the seven others. -/
theorem around (d : Dev nD) (Φ : Dev nD → sProp 𝕄) :
    bigSep Finset.univ Φ = iprop(Φ d ∗ bigSep Finset.univ fun k : Fin 7 => Φ (peer k d)) := by
  have h1 : ∀ d : Dev nD, (Finset.univ : Finset (Dev nD)) = insert d (Finset.univ.image fun k : Fin 7 => peer k d) := by decide
  have h2 : ∀ d : Dev nD, d ∉ Finset.univ.image fun k : Fin 7 => peer k d := by decide
  have h3 : ∀ (d : Dev nD) (a b : Fin 7), peer a d = peer b d → a = b := by decide
  rw [h1 d, bigSep_insert (h2 d), bigSep_image_of_injOn fun a _ b _ => h3 d a b]; rfl

/-- Five shares are the four of the copies to others and the one of the device's own copy. -/
theorem five (Φ : Fin 5 → sProp 𝕄) : bigSep Finset.univ Φ = iprop(Φ 4 ∗ bigSep Finset.univ fun k : Fin 4 => Φ k.castSucc) := by
  have h1 : (Finset.univ : Finset (Fin 5)) = insert 4 (Finset.univ.image fun k : Fin 4 => k.castSucc) := by decide
  rw [h1, bigSep_insert (by decide), bigSep_image_of_injOn fun a _ b _ => (Fin.castSucc_injective 4).eq_iff.mp]; rfl

/-- Shard `w` of device `d`, whole. -/
def inPts (d : Dev nD) (w : Fin 5) : sProp 𝕄 := ((inM w).view.loc (d : Thread nD τ)) ↦{fullShare} inBuf m w d
/-- Result `w` of device `d`, whole, holding `f`. -/
def outPts (f : (w : Fin 5) → (d : Dev nD) → (outM w).view.ty.Contents (Elt F)) (d : Dev nD) (w : Fin 5) : sProp 𝕄 :=
  ((outM w).view.loc (d : Thread nD τ)) ↦{fullShare} f w d

/-- A shard is its five shares, -/
theorem inPts_eq (d : Dev nD) (w : Fin 5) :
    inPts m d w = iprop(srcPts m d w 4 ∗ bigSep Finset.univ fun k : Fin 4 => srcPts m d w k.castSucc) := by
  refine Eq.trans ?_ (five fun k => srcPts m d w k)
  unfold inPts srcPts sh
  rw [set_of_whole (inM_whole w)]
  exact Transfers.pointsTo_deal Finset.univ Finset.univ_nonempty fullShare
/-- and a result its eight devices' rows. -/
theorem outPts_eq (f : (w : Fin 5) → (d : Dev nD) → (outM w).view.ty.Contents (Elt F)) (d : Dev nD) (w : Fin 5) :
    outPts f d w = iprop(rowsPts f d w d ∗ bigSep Finset.univ fun k : Fin 7 => rowsPts f d w (peer k d)) :=
  (Ring.pointsTo_blocks (ℓ := (outM w).view.loc (d : Thread nD τ)) (fun s : Dev nD => (rows w s).view.set) (rows_disjoint w) (rows_cover w) (f w d)).trans
    (around d fun s => rowsPts f d w s)

/-- All five shards, -/
theorem ins_eq (d : Dev nD) : bigSep Finset.univ (inPts m d)
    = iprop((bigSep Finset.univ fun w => srcPts m d w 4) ∗ bigSep Finset.univ fun wk : Fin 5 × Fin 4 => srcPts m d wk.1 wk.2.castSucc) := by
  rw [BI.bigSep_univ_prod, ← bigSep_sep']
  exact congrArg _ (funext fun w => inPts_eq m d w)
/-- and all five results. -/
theorem outs_eq (f : (w : Fin 5) → (d : Dev nD) → (outM w).view.ty.Contents (Elt F)) (d : Dev nD) : bigSep Finset.univ (outPts f d)
    = iprop((bigSep Finset.univ fun w => rowsPts f d w d) ∗ bigSep Finset.univ fun wk : Fin 5 × Fin 7 => rowsPts f d wk.1 (peer wk.2 d)) := by
  rw [BI.bigSep_univ_prod, ← bigSep_sep']
  exact congrArg _ (funext fun w => outPts_eq f d w)

/-- The buffers of a device at launch. -/
theorem bufs_eq (d : Dev nD) : (Idealize.ShloMosaic.unscopedBufs d fun b => m ((d : Thread nD τ).loc b) : sProp 𝕄)
    = iprop(bigSep Finset.univ (inPts m d) ∗ bigSep Finset.univ (outPts (outBuf m) d)) := by
  have h : (Finset.univ.filter fun b : Ref sig .tc => ¬ b.isScoped) = Finset.univ.image (Sum.elim inB outB) := by decide +kernel
  have hi : Function.Injective (Sum.elim inB outB) := by
    have : ∀ a b : Fin 5 ⊕ Fin 5, Sum.elim inB outB a = Sum.elim inB outB b → a = b := by decide +kernel
    exact fun a b => this a b
  unfold Idealize.ShloMosaic.unscopedBufs
  rw [h, bigSep_image_of_injOn hi.injOn, BI.bigSep_univ_sum]
  refine congrArg₂ (fun a b : sProp 𝕄 => iprop(a ∗ b)) (congrArg _ (funext fun w => ?_)) (congrArg _ (funext fun w => ?_))
  · match w with
    | 0 => rfl | 1 => rfl | 2 => rfl | 3 => rfl | 4 => rfl
  · match w with
    | 0 => rfl | 1 => rfl | 2 => rfl | 3 => rfl | 4 => rfl

/-- Summed over all devices, what belongs to the copies a device gets is what belongs to the copies it starts, in two kinds. -/
theorem turn (Φ : Dev nD → Fin 5 × Fin 7 → sProp 𝕄) :
    (bigSep Finset.univ fun d : Dev nD => bigSep Finset.univ fun wk : Fin 5 × Fin 7 => Φ d wk)
      = iprop((bigSep Finset.univ fun d : Dev nD => bigSep Finset.univ fun wk : Fin 5 × Fin 4 => Φ (peer (lo wk.2) d) (loC wk))
        ∗ bigSep Finset.univ fun d : Dev nD => bigSep Finset.univ fun wj : Fin 5 × Fin 3 => Φ (peer 0 d) (fwC wj)) := by
  have h : (bigSep Finset.univ fun d : Dev nD => bigSep Finset.univ fun wk : Fin 5 × Fin 7 => Φ d wk)
      = bigSep Finset.univ fun d : Dev nD => bigSep Finset.univ fun wk : Fin 5 × Fin 7 => Φ (dest wk.2 d) wk := by
    rw [← BI.bigSep_univ_prod (fun p : Dev nD × (Fin 5 × Fin 7) => Φ p.1 p.2),
      ← BI.bigSep_univ_prod (fun p : Dev nD × (Fin 5 × Fin 7) => Φ (dest p.2.2 p.1) p.2),
      BI.bigSep_univ_equiv (⟨fun p => (dest p.2.2 p.1, p.2), fun p => (dest p.2.2 p.1, p.2),
        fun p => by simp only [dest_dest], fun p => by simp only [dest_dest]⟩ : Dev nD × (Fin 5 × Fin 7) ≃ Dev nD × (Fin 5 × Fin 7))]
    rfl
  rw [h, ← bigSep_sep']
  refine congrArg _ (funext fun d => ?_)
  rw [bigSep_two loC fwC starts_split]
  refine congrArg₂ (fun a b : sProp 𝕄 => iprop(a ∗ b)) (congrArg _ (funext fun wk => ?_)) (congrArg _ (funext fun wj => ?_))
  · show Φ (dest (lo wk.2) d) (loC wk) = _; rw [dest_lo]
  · show Φ (dest (fw wj.2) d) (fwC wj) = _; rw [dest_fw]

/-- At launch every device gets its pieces and its tokens. -/
theorem deal : iprop((bigSep Finset.univ fun d : Dev nD => Idealize.ShloMosaic.unscopedBufs d fun b => m ((d : Thread nD τ).loc b))
    ∗ bigSep Finset.univ fun p : Dev nD × Cell => tok (τ := τ) (Elt F) cellSem p) ⊢ (bigSep Finset.univ fun d : Dev nD => Start m d : sProp 𝕄) := by
  have hrows : (bigSep Finset.univ fun d : Dev nD => bigSep Finset.univ fun wk : Fin 5 × Fin 7 => rowsPts (outBuf m) d wk.1 (peer wk.2 d) : sProp 𝕄)
      = iprop((bigSep Finset.univ fun d : Dev nD => bigSep Finset.univ fun wk : Fin 5 × Fin 4 => rowsPts (outBuf m) (peer (lo wk.2) d) wk.1 d)
        ∗ bigSep Finset.univ fun d : Dev nD => bigSep Finset.univ fun wj : Fin 5 × Fin 3 => rowsPts (outBuf m) (peer 0 d) wj.1 (peer (up wj.2) d)) := by
    rw [turn fun d wk => rowsPts (outBuf m) d wk.1 (peer wk.2 d)]
    simp only [loC, fwC, from_lo, from_fw]
  have htok : (bigSep Finset.univ fun d : Dev nD => bigSep Finset.univ fun x : Cell => tok (τ := τ) (Elt F) cellSem (d, x) : sProp 𝕄)
      = iprop((bigSep Finset.univ fun d : Dev nD => bigSep Finset.univ fun wk : Fin 5 × Fin 7 => tok (τ := τ) (Elt F) cellSem (d, .inl wk))
        ∗ (bigSep Finset.univ fun d : Dev nD => bigSep Finset.univ fun wk : Fin 5 × Fin 7 => tok (τ := τ) (Elt F) cellSem (d, .inr (.inl wk)))
        ∗ bigSep Finset.univ fun d : Dev nD => bigSep Finset.univ fun w : Fin 5 => tok (τ := τ) (Elt F) cellSem (d, .inr (.inr w))) := by
    rw [← bigSep_sep', ← bigSep_sep']
    refine congrArg _ (funext fun d => ?_)
    rw [BI.bigSep_univ_sum, BI.bigSep_univ_sum]; rfl
  rw [show ((fun d : Dev nD => Idealize.ShloMosaic.unscopedBufs d fun b => m ((d : Thread nD τ).loc b)) : Dev nD → sProp 𝕄) = fun d => _ from
    funext fun d => (bufs_eq m d).trans (by rw [ins_eq, outs_eq]), BI.bigSep_univ_prod, htok,
    turn fun d wk => tok (τ := τ) (Elt F) cellSem (d, .inr (.inl wk))]
  simp only [bigSep_two loC fwC starts_split (fun wk => tok (τ := τ) (Elt F) cellSem (_, .inl wk)), Start, bigSep_sep']
  rw [hrows]
  refine (show _ ⊢ (_ : sProp 𝕄) from ?_)
  iintro ⟨⟨⟨Hb, Hbs⟩, Hs, Hss, Hsf⟩, ⟨Ht, Htf⟩, ⟨Hr, Hrf⟩, Htl⟩
  isplitl [Hb Hs Htl]
  · isplitl [Hb]; · iexact Hb
    isplitl [Hs] <;> iassumption
  isplitl [Hbs Hss Ht Hr]
  · isplitl [Hbs]; · iexact Hbs
    isplitl [Hss]; · iexact Hss
    isplitl [Ht] <;> iassumption
  isplitl [Hsf]; · iexact Hsf
  isplitl [Htf] <;> iassumption

/-! ## What is owed at launch -/

/-- What device `d` owes at launch, as a sum. -/
theorem owed_eq (d : Dev nD) : owedL d copies = ∑ wk : Fin 5 × Fin 7, tallyAt (cellG (τ := τ) cellSem (dest wk.2 d, .inr (.inl wk))) () (amt wk.1) := by
  unfold owedL
  rw [← List.sum_toFinset _ (show copies.Nodup by decide), show copies.toFinset = Finset.univ by decide]

/-- Each device gets the credit of its receive semaphores. -/
theorem creds (d : Dev nD) : (launchCred (fun e => owedL e copies) d : sProp 𝕄)
    ⊢ bigSep Finset.univ fun wk : Fin 5 × Fin 7 => credit (τ := τ) (Elt F) cellSem cellAmt (d, .inr (.inl wk)) := by
  rw [show (fun e => owedL e copies) = _ from funext owed_eq, Pipeline.launchCred_sum]
  exact bigSep_mono fun wk _ => Pipeline.launchCred_tallyAt (cellSem (.inr (.inl wk))) (dest wk.2) (dest wk.2) (dest_dest wk.2) (dest_dest wk.2) () (amt wk.1) d

/-! ## A device's run -/

/-- What a device ends with. -/
def Done (d : Dev nD) : sProp 𝕄 := iprop(bigSep Finset.univ (inPts m d) ∗ bigSep Finset.univ (outPts (finBuf m) d))

/-- What a device holds after the body is the buffers. -/
theorem held_done (d : Dev nD) : Held m d ⊢ (Done m d : sProp 𝕄) := by
  unfold Done Held
  rw [ins_eq, outs_eq, bigSep_two upC laC gets_split (fun wk => rowsPts (finBuf m) d wk.1 (peer wk.2 d)), bigSep_sep']
  iintro ⟨⟨Hs, Hb⟩, Hbs, Hu, Hl⟩
  isplitl [Hb Hbs]; · isplitl [Hb] <;> iassumption
  isplitl [Hs]; · iexact Hs
  isplitl [Hu]; · iexact Hu
  iexact Hl

variable (κ : Dev nD × Cell → ℕ)

/-- Every semaphore is at zero once it has been waited for. -/
theorem closes (d : Dev nD) : iprop(Base m κ ∗ bigSep Finset.univ fun x : Cell => after (τ := τ) (Elt F) cellSem (d, x))
    ⊢ |={Set.univ}=> (scopedSems0 (d : Thread nD τ) : sProp 𝕄) := by
  rw [show (scopedSems0 (d : Thread nD τ) : sProp 𝕄) = _ from scopedSems0_tc d, scoped_cells, bigSep_image_of_injOn cellSem_inj.injOn]
  refine (sep_mono_left (bigSep_of_persistent (Finset.univ (α := Cell)) (Base m κ))).trans ?_
  rw [← bigSep_sep']
  refine (bigSep_mono fun x _ => ?_).trans (bigSep_fupd _ _)
  exact (sep_mono_left (by unfold Base; iintro ⟨H, -⟩; iexact H)).trans (close cellAmt_pos κ (d, x))

/-- What a device's run starts from. -/
abbrev From (d : Dev nD) : sProp 𝕄 :=
  iprop(Base m κ ∗ Start m d ∗ (bigSep Finset.univ fun wk : Fin 5 × Fin 7 => credit (τ := τ) (Elt F) cellSem cellAmt (d, .inr (.inl wk)))
    ∗ bigSep Finset.univ fun x : Cell => before (τ := τ) (Elt F) cellSem (d, x))

/-- The body of the region, from what a device starts with to its buffers, with its semaphores at zero. -/
theorem body_done (d : Dev nD) (t : Fin cfg0.N) :
    iprop(From m κ d ∗ ∃ W, owes (d : Thread nD τ) (owedL d copies) W)
      ⊢ wp frame (wpE (defs₀ (F := F)) Variants.none (d : Thread nD τ) none) Set.univ (bodyAt0 t) fun _ =>
          iprop((Done m d ∗ scopedSems0 (d : Thread nD τ)) ∗ ∃ W, owes (d : Thread nD τ) 0 W) := by
  iintro ⟨⟨#HI, Hst, Hcr, Hat⟩, HO⟩
  iapply (wp_fupd frame (wpE (defs₀ (F := F)) Variants.none (d : Thread nD τ) none) Set.univ _ _)
  iapply (wp_wand_r frame (wpE (defs₀ (F := F)) Variants.none (d : Thread nD τ) none) Set.univ)
  isplitl
  · iapply (wp_body m κ d t)
    isplitr; · iexact HI
    isplitl [HO]; · iexact HO
    isplitl [Hst]; · iexact Hst
    isplitl [Hcr] <;> iassumption
  iintro %_ ⟨HO, Haf, Hp⟩
  imod (closes m κ d) $$ [Haf] with Hz
  · isplitr; · iexact HI
    iexact Haf
  imodintro
  isplitl [Hp Hz]
  · isplitl [Hp]; · iapply (held_done m d); iexact Hp
    iexact Hz
  iexact HO

/-- The same for the region's call. -/
theorem call_done (d : Dev nD) (t : Fin cfg0.N) (s : (w : Fin cfg0.W) → Fin (cfg0.win w).nbuf) :
    iprop(From m κ d ∗ ∃ W, owes (d : Thread nD τ) (owedL d copies) W)
      ⊢ wp frame (wpE (defs₀ (F := F)) Variants.none (d : Thread nD τ) none) Set.univ ((defs₀ (F := F)) .tc cfg0.body (cfg0.bodyArgs t s)) fun _ =>
          iprop((Done m d ∗ scopedSems0 (d : Thread nD τ)) ∗ ∃ W, owes (d : Thread nD τ) 0 W) := by
  refine (body_done m κ d t).trans (Entails.of_eq ?_)
  chain_rfl

set_option maxRecDepth 16384 in
/-- The whole program on device `d`. -/
theorem main_done (d : Dev nD) :
    iprop(Inv (τ := τ) cellAmt_pos (pay m) κ (sem := cellSem) ∗ scopedBufs (d : Thread nD τ) ∗ opIdle (d : Thread nD τ) ∗ Start m d
        ∗ (bigSep Finset.univ fun x : Cell => before (τ := τ) (Elt F) cellSem (d, x))
        ∗ owes (d : Thread nD τ) (owedL d copies) ∅ ∗ levAts lvIx lv ∗ launchCred (fun e => owedL e copies) d)
      ⊢ wp frame (wpE (defs (F := F)) (Variants.lift Variants.none) (d : Thread nD τ) none) Set.univ (main d) fun _ =>
          iprop((Done m d ∗ scopedSems0 (d : Thread nD τ)) ∗ ∃ W, owes (d : Thread nD τ) 0 W) := by
  unfold main
  rw [Prog.bind_lift]
  iintro ⟨#HI, Hsc, -, Hst, Hat, HO, #HL, Hlc⟩
  ihave Hcr := (creds d) $$ Hlc
  iapply (wp_once cfgs cellOf_inj (defs₀ (F := F)) Variants.none rfl N_0 m (From m κ) (Done m) (fun d => owedL d copies) d
    (fun t s => call_done m κ d t s)) $$ [Hsc Hst Hat HO Hcr]
  · isplitr [Hsc]
    · isplitr [HO]
      · isplitr
        · unfold Base
          isplitr; · iexact HI
          iexact HL
        isplitl [Hst]; · iexact Hst
        isplitl [Hcr] <;> iassumption
      iexact HO
    iexact Hsc
  iintro ⟨HD, Hz, -, HO⟩
  rw [show (pure PUnit.unit : Prog (TpuEff nD τ sig (Elt F) (Pipeline.Sig Λ₀ (Fin 1) fun p => (pcfgs (F := F) p).Adm) .tc) PUnit) = .ret ⟨⟩ from rfl, wp_ret]
  imodintro
  isplitl [HD Hz]; · isplitl [HD] <;> iassumption
  iexact HO

/-! ## All devices -/

/-- What a device's final memory says. -/
def Ends (d : Dev nD) (s : MemSt nD τ sig (Elt F)) : Prop :=
  (∀ w, s.mem ((inM w).view.loc (d : Thread nD τ)) = inBuf m w d) ∧ ∀ w, s.mem ((outM w).view.loc (d : Thread nD τ)) = finBuf m w d

/-- The run: every device's shards are untouched and its results hold the gathered weights; every semaphore ends at zero. -/
theorem run_main (g : Dev nD → PrngReg) : θ_run (defs (F := F)) (onTc (τ := τ) (main (F := F))) ⟨m, fun _ => 0, g⟩ fun r =>
    (∀ d, Ends m d r.2) ∧ ∀ g' : GSem nD τ sig, (g'.1.2 ≠ .tc ∨ g'.2.isScoped .tc = true) → r.2.sem g' = 0 := by
  refine Talk.launch cellAmt_pos cellSem_inj (pay := pay m) (fun d x => inferInstance) scoped_cells (defs (F := F)) (Variants.lift Variants.none) (main (F := F)) m g
    (fun e => owedL e copies) lv (Start m) (Done m) (deal m) (fun κ d => main_done m κ d) (Ends m) fun d s' => ?_
  unfold Done inPts outPts
  iintro ⟨⟨Hi, Ho⟩, HSI⟩
  ihave Hr := (pointsTo_read_all Finset.univ (fun w => (inM w).view.loc (d : Thread nD τ)) (fun w => inBuf m w d) s') $$ [Hi HSI]
  · isplitl [Hi] <;> iassumption
  icases Hr with ⟨%hi, HSI⟩
  ihave Hr := (pointsTo_read_all Finset.univ (fun w => (outM w).view.loc (d : Thread nD τ)) (fun w => finBuf m w d) s') $$ [Ho HSI]
  · isplitl [Ho] <;> iassumption
  icases Hr with ⟨%ho, HSI⟩
  imodintro
  isplitr
  · ipureintro; exact ⟨fun w => hi w (Finset.mem_univ w), fun w => ho w (Finset.mem_univ w)⟩
  iexact HSI

end Cert.Gathering

end
-- ==== Proof.GatherValues.lean ====
/-
  The gathered weights are the whole weights of which the devices hold the shards; and the run of the reference, which
  returns the whole weights it is given.
-/
module

public import proofs.«01_k».proof.Proof.GatherRun
public import proofs.«01_k».proof.Proof.Gen.Gather
public import proofs.«01_k».proof.Proof.Gen.GatherRef
public import proofs.«01_k».proof.Proof.Gen.GatherRefIdeal
public import Idealize.ShloMosaic.Lib.Layout
public import Idealize.ShloMosaic.Lib.StableHlo.Run

@[expose] public section

noncomputable section

namespace Cert.Gathering

open Cert.GatherIdeal Cert.GatherIdeal.Gen
open Idealize.ShloMosaic Idealize.ShloMosaic.TcCoe
open Idealize.SL.Sem

/-- A whole weight is its eight shards, one below the other. -/
theorem tiles : ∀ w : Fin 5, Layout.Tiles (SB w) (SO w) 0 8 := by decide

/-- The shards of a whole weight, gathered, are the whole weight. -/
theorem gather_block {Val : EltTy → Type} (w : Fin 5) (v : (SO w).Idx → Val .bf16) :
    gatherVal w (fun s => Layout.block (SB w) (SO w) 0 8 s v (tiles w)) = v := by
  funext j
  show v ((tiles w).idx (⟨(j 0).val / nr w, owner_lt w j⟩ : Fin 8)
    (Shape.pair (d := ![nr w, 2048]) ⟨(j 0).val % nr w, Nat.mod_lt _ (nr_pos w)⟩ (j 1))) = v j
  refine congrArg v (funext fun a => Fin.ext ?_)
  match a with
  | 0 => show (j 0).val / nr w * nr w + (j 0).val % nr w = (j 0).val; exact Nat.div_add_mod' _ _
  | 1 => rfl

variable {F : FTy → Type} [FloatOps F]

/-- The final contents of every device's result `w`, from the whole weight. -/
theorem final_whole (m : (ℓ : Loc nD τ sig) → Buf (Elt F) ℓ) (w : Fin 5) (v : (SO w).Idx → Elt F .bf16)
    (h : ∀ s : Dev nD, (inM w).view.read (Elt F) (inBuf m w s) = Layout.block (SB w) (SO w) 0 8 s v (tiles w)) (d : Dev nD) :
    (outM w).view.read (Elt F) (finBuf m w d) = v := by
  unfold finBuf gatherBuf
  rw [View.read_write_univ]
  exact (congrArg (gatherVal w) (funext h)).trans (gather_block w v)

open Cert.GatherRefIdeal in
/-- The reference runs and leaves every array as it was. -/
theorem run_reference (m : (ℓ : Loc Cert.GatherRefIdeal.nD Cert.GatherRefIdeal.τ Cert.GatherRefIdeal.sig) → Buf (Elt F) ℓ)
    (g : Dev Cert.GatherRefIdeal.nD → PrngReg) :
    θ_run (Cert.GatherRefIdeal.defs (F := F)) (onTc (τ := Cert.GatherRefIdeal.τ) (Cert.GatherRefIdeal.main (F := F))) ⟨m, fun _ => 0, g⟩
      fun r => ∀ (c : Dev Cert.GatherRefIdeal.nD) (b : Ref Cert.GatherRefIdeal.sig .tc),
        r.2.mem ((c.tc : Thread Cert.GatherRefIdeal.nD Cert.GatherRefIdeal.τ).loc b) = m ((c.tc : Thread Cert.GatherRefIdeal.nD Cert.GatherRefIdeal.τ).loc b) :=
  StableHlo.run_seq (by decide) (by decide) Cert.GatherRefIdeal.defs (Cert.GatherRefIdeal.main (F := F)) (fun _ => []) (fun _ => rfl)
    (fun _ => trivial) m g

end Cert.Gathering

end
-- ==== Proof.DenseValues.lean ====
/-
  The product that ends the backward pass's projections, over the real numbers: the two halves of the contraction that the
  tiled product adds up are the whole contraction of the plain product.
-/
module

public import proofs.«01_k».proof.Proof.Gen.DenseIdeal.Value
public import Idealize.ShloMosaic.Lib.Pipeline.ValueKit
public import Idealize.ShloMosaic.Lib.Pipeline.ReadBack
public import Idealize.ShloMosaic.Lib.Pointwise.Tactic

@[expose] public section

set_option maxRecDepth 16384

noncomputable section

open Idealize.ShloMosaic Idealize.ShloMosaic.TcCoe Idealize.SL.Sem
open Idealize.ShloMosaic.Pipeline (Dat)

namespace Cert.DenseIdeal.Values

open Cert.DenseIdeal Cert.DenseIdeal.Gen

/-- The plain product of two matrices, entry by entry. -/
def product {a k b : ℕ} (x : FVec Ideal ⟨2, ![a, k]⟩ .bf16) (y : FVec Ideal ⟨2, ![k, b]⟩ .bf16) : FVec Ideal ⟨2, ![a, b]⟩ .f32 :=
  fun i => ∑ l : Fin k, (x (ix2 (i 0) l) * y (ix2 l (i 1)) : EReal)

/-- Where the blocks of the product lie. -/
theorem idx : ∀ t : Fin cfg0.N, win0_0.index t = ![t.val / 4, t.val % 2] ∧ win0_1.index t = ![t.val % 2, t.val / 2 % 2]
    ∧ win0_2.index t = ![t.val / 4, t.val / 2 % 2] :=
  (by decide +kernel : ∀ t : Fin grid0.N, _)

/-- What the second half of the contraction stores: the sum of both halves. -/
theorem pay (x x' : FVec Ideal S512x1664 .bf16) (y y' : FVec Ideal S1664x1024 .bf16) (j : S512x1024.Idx) :
    k0_pay3 x' y' (k0_pay2 x y) j = (product x y j + product x' y' j : EReal) := by
  pointwise [k0_pay3, k0_pay2, k0_pay1, product]

variable (m : (ℓ : Loc nD τ sig) → Buf (Elt Ideal) ℓ)

/-- The tiled product leaves the plain product of its arguments. -/
theorem value (c : Dev nD) : (dats m 0 c).arrAt 2 cfg0.N
    = product (a := 4096) (k := 3328) (b := 2048) (m ((c : Thread nD τ).loc main_arg0)) (m ((c : Thread nD τ).loc main_arg1)) := by
  refine (dats m 0 c).arrAt_eq_of_covers 2 _ (by decide +kernel) fun t hf y => ?_
  have h1 := (flush0_2 t).mp hf
  have h0 : ¬t.val % 2 = 0 := by omega
  have h0' : (t.val - 1) % 2 = 0 := by omega
  have h1' : ¬(t.val - 1) % 2 = 1 := by omega
  have ht : t.val - 1 < cfg0.N := Nat.lt_of_le_of_lt (Nat.sub_le _ _) t.isLt
  blk_simp
  rw [after0_2, outsAt0_B m c t h0 h1 h1]; frame_out
  rw [outsAt0_A m c ⟨t.val - 1, ht⟩ h0' h1' h1']; frame_out; rw [read_unread_whole]
  refine (pay _ _ _ _ y).trans ?_
  dsimp only [product]
  refine Eq.trans ?_ (Fin.sum_mul_add_fin (L := 3328) 2 1664 _)
  rw [Fin.sum_univ_two]
  blk_point [iblk, V_main_arg0, V_main_arg1, idx t, idx ⟨t.val - 1, ht⟩]

end Cert.DenseIdeal.Values

end
-- ==== Proof.NormValues.lean ====
/-
  The backward pass of the first normalization, over the real numbers: row by row for the input gradient, and summed over all
  rows for the gain's gradient.
-/
module

public import proofs.«01_k».proof.Proof.Gen.NormIdeal.Value
public import Idealize.ShloMosaic.Lib.Pipeline.ValueKit
public import Idealize.ShloMosaic.Lib.Pointwise.Tactic

@[expose] public section

set_option maxRecDepth 16384

noncomputable section

open Idealize.ShloMosaic Idealize.ShloMosaic.TcCoe Idealize.SL.Sem
open Idealize.ShloMosaic.Pipeline (Dat)

namespace Cert.NormIdeal.Values

open Cert.NormIdeal Cert.NormIdeal.Gen

/-- The reciprocal root of the mean square of a row. -/
def invRms {a : ℕ} (x : FVec Ideal ⟨2, ![a, 2048]⟩ .f32) (r : Fin a) : EReal :=
  Ideal.rsqrt (Ideal.div (∑ l : Fin 2048, (x (ix2 r l) * x (ix2 r l) : EReal)) (Ideal.ofBits .f32 0x45000000#32)
    + Ideal.ofBits .f32 0x358637BD#32)

/-- The input gradient, entry by entry: the residual's gradient plus what comes back through the normalization. -/
def back {a : ℕ} (x dh : FVec Ideal ⟨2, ![a, 2048]⟩ .f32) (g : FVec Ideal ⟨2, ![1, 2048]⟩ .f32)
    (d : FVec Ideal ⟨2, ![a, 2048]⟩ .f32) : FVec Ideal ⟨2, ![a, 2048]⟩ .f32 := fun i =>
  (d i + invRms x (i 0) * (dh i * g (ix2 0 (i 1)) - x i * invRms x (i 0)
    * Ideal.div (∑ l : Fin 2048, dh (ix2 (i 0) l) * g (ix2 0 l) * (x (ix2 (i 0) l) * invRms x (i 0))) (Ideal.ofBits .f32 0x45000000#32)) : EReal)

/-- The gain's gradient: over all rows, the gradient times the normalized input. -/
def gain {a : ℕ} (x dh : FVec Ideal ⟨2, ![a, 2048]⟩ .f32) : FVec Ideal ⟨2, ![1, 2048]⟩ .f32 := fun i =>
  ∑ r : Fin a, (dh (ix2 r (i 1)) * (x (ix2 r (i 1)) * invRms x r) : EReal)

/-- The rows of both sequences, one after the other. -/
def rows (x : FVec Ideal ⟨3, ![2, 2048, 2048]⟩ .f32) : FVec Ideal ⟨2, ![4096, 2048]⟩ .f32 := fun i =>
  x (ix3 ⟨(i 0).val / 2048, Nat.div_lt_of_lt_mul (i 0).isLt⟩ ⟨(i 0).val % 2048, Nat.mod_lt _ (by decide)⟩ (i 1))

/-- The same reals in the narrower format. -/
def narrow {S : Shape} (x : FVec Ideal S .f32) : FVec Ideal S .bf16 := fun i => (x i : EReal)

/-- What one step stores of the input gradient is the input gradient of its rows. -/
theorem pay_back (x dh d : FVec Ideal S256x2048 .f32) (g : FVec Ideal S1x2048 .f32) (j : S256x2048.Idx) :
    k0_pay1 d (k0_pay8 x dh g) j = back (a := 256) x dh g d j := by
  pointwise [k0_pay1, k0_pay8, k0_pay6, k0_pay5, k0_pay4, back, invRms]

/-- So is what it stores of the rounded input gradient: over the real numbers there is no rounding. -/
theorem pay_back' (x dh d : FVec Ideal S256x2048 .f32) (g : FVec Ideal S1x2048 .f32) (j : S256x2048.Idx) :
    k0_pay2 d (k0_pay8 x dh g) j = narrow (back (a := 256) x dh g d) j := by
  pointwise [k0_pay2, k0_pay1, k0_pay8, k0_pay6, k0_pay5, k0_pay4, narrow, back, invRms]

/-- One step adds to the gain's gradient what its rows give. -/
theorem pay_gain (x dh : FVec Ideal S256x2048 .f32) (z : FVec Ideal S1x2048 .f32) (j : S1x2048.Idx) :
    k0_pay7 x dh z j = (z j + gain (a := 256) x dh j : EReal) := by
  pointwise [k0_pay7, k0_pay6, k0_pay5, k0_pay4, gain, invRms]

/-- The gain's gradient starts at zero. -/
theorem pay_zero (j : S1x2048.Idx) : (k0_pay3 : FVec Ideal S1x2048 .f32) j = (0 : EReal) := by
  pointwise [k0_pay3]

/-- Where the blocks lie. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] ∧ win0_6.index t = ![0, 0] :=
  (by decide +kernel : ∀ t : Fin grid0.N, _)

variable (m : (ℓ : Loc nD τ sig) → Buf (Elt Ideal) ℓ)

/-- The input gradient that the sixteen steps leave. -/
theorem value4 (c : Dev nD) : (dats m 0 c).arrAt 4 cfg0.N
    = back (a := 4096) (rows (m ((c : Thread nD τ).loc main_arg1))) (m ((c : Thread nD τ).loc main_arg0))
        (m ((c : Thread nD τ).loc main_arg2)) (m ((c : Thread nD τ).loc main_arg3)) := by
  refine (dats m 0 c).arrAt_eq_of_covers 4 _ (by decide +kernel) fun t hf y => ?_
  blk_simp
  rw [after0_4]
  have e : (outsAt0 m c t.val t.isLt).1 = k0_pay1 (iblk m c 3 t) (k0_pay8 (iblk m c 1 t) (iblk m c 0 t) (iblk m c 2 t)) := by
    by_cases h : t.val % 16 = 0
    · rw [outsAt0_A m c t h]; frame_out
    · rw [outsAt0_B m c t h]; frame_out
  rw [e]
  refine (pay_back _ _ _ _ y).trans ?_
  dsimp only [back, invRms]
  blk_point [iblk, V_main_arg0, V_main_arg2, V_main_arg3, idx t]

/-- The same in the narrower format. -/
theorem value5 (c : Dev nD) : (dats m 0 c).arrAt 5 cfg0.N
    = narrow (back (a := 4096) (rows (m ((c : Thread nD τ).loc main_arg1))) (m ((c : Thread nD τ).loc main_arg0))
        (m ((c : Thread nD τ).loc main_arg2)) (m ((c : Thread nD τ).loc main_arg3))) := by
  refine (dats m 0 c).arrAt_eq_of_covers 5 _ (by decide +kernel) fun t hf y => ?_
  blk_simp
  rw [after0_5]
  have e : (outsAt0 m c t.val t.isLt).2.1 = k0_pay2 (iblk m c 3 t) (k0_pay8 (iblk m c 1 t) (iblk m c 0 t) (iblk m c 2 t)) := by
    by_cases h : t.val % 16 = 0
    · rw [outsAt0_A m c t h]; frame_out
    · rw [outsAt0_B m c t h]; frame_out
  rw [e]
  refine (pay_back' _ _ _ _ y).trans ?_
  dsimp only [narrow, back, invRms]
  blk_point [iblk, V_main_arg0, V_main_arg2, V_main_arg3, idx t]

/-- The gain's gradient that the sixteen steps leave: the sum over all rows. -/
theorem value6 (c : Dev nD) : (dats m 0 c).arrAt 6 cfg0.N
    = gain (a := 4096) (rows (m ((c : Thread nD τ).loc main_arg1))) (m ((c : Thread nD τ).loc main_arg0)) := by
  refine (dats m 0 c).arrAt_eq_of_covers 6 _ (by decide +kernel) fun t hf y => ?_
  have ht : t.val + 1 = cfg0.N := by
    have h := (flush0_6 t).mp hf
    have := t.isLt
    have hN : cfg0.N = 16 := N_0
    omega
  blk_simp
  rw [after0_6, Pipeline.eq_sum_fin_of_reset_step_apply_last (fun n h => (outsAt0 m c n h).2.2) 16 (fun _ => (0 : EReal))
    (fun t => gain (a := 256) (iblk m c 1 t) (iblk m c 0 t))
    (fun t h j => by
      show (outsAt0 m c t.val t.isLt).2.2 j = _
      rw [outsAt0_A m c t h]; frame_out; rw [pay_gain, pay_zero])
    (fun t h j => by
      show (outsAt0 m c t.val t.isLt).2.2 j = _
      rw [outsAt0_B m c t h]; frame_out; rw [pay_gain])
    (le_of_eq N_0) t ht y, zero_add]
  dsimp only [gain, invRms]
  refine Fin.sum_mul_add_congr fun s k hl => ?_
  blk_point [iblk, V_main_arg0, idx s, idx t]

end Cert.NormIdeal.Values

end
-- ==== Proof.BackRef.lean ====
/-
  The plain references of the two calls at the end of the backward pass, over the real numbers: their runs, entry by entry.
-/
module

public import proofs.«01_k».proof.Proof.DenseValues
public import proofs.«01_k».proof.Proof.NormValues
public import proofs.«01_k».proof.Proof.Gen.DenseRefIdeal.Run
public import proofs.«01_k».proof.Proof.Gen.NormRefIdeal.Run

@[expose] public section

set_option maxRecDepth 16384

noncomputable section

open Idealize.ShloMosaic Idealize.ShloMosaic.TcCoe Idealize.SL.Sem

namespace Cert.DenseRefIdeal

open Cert.DenseIdeal.Values Cert.DenseRefIdeal.Gen

variable (m : (ℓ : Loc nD τ sig) → Buf (Elt Ideal) ℓ) (ρ : Dev nD → PrngReg)

/-- The host's product is the plain product. -/
theorem dot_eq (x : FVec Ideal S4096x3328 .bf16) (y : FVec Ideal S3328x2048 .bf16) :
    Host.dotGeneral dot_S4096x3328_S3328x2048_S4096x2048_1_0_0_1_n_n none x y = product (a := 4096) (k := 3328) (b := 2048) x y := by
  funext i
  pointwise [product]

/-- The reference of the product runs, leaves the product and keeps its arguments. -/
theorem run_product : θ_run (defs (F := Ideal)) (onTc (τ := τ) (main (F := Ideal))) ⟨m, fun _ => 0, ρ⟩ fun r => ∀ c : Dev nD,
      r.2.mem ((c.tc : Thread nD τ).loc main_v0)
        = product (a := 4096) (k := 3328) (b := 2048) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (dot_eq _ _), (h c).2⟩) (Value.run m ρ)

end Cert.DenseRefIdeal

namespace Cert.NormRefIdeal

open Cert.NormIdeal.Values Cert.NormRefIdeal.Gen

/-- The reciprocal root of each row's mean square, as the reference computes it. -/
def hInv (x : FVec Ideal S2x2048x2048 .f32) : FVec Ideal S2x2048x1 .f32 :=
  Host.rsqrt (addf (Host.divf (broadcastInDim S2x2048x1 ![0, 1] bcast_S2x2048_S2x2048x1_0_1
    (Host.reduceAdd (mulf x x) (constant S_ .f32 0x00000000#32) reducesTo_S2x2048x2048_S2x2048_d2 h_S_))
    (broadcastInDim S2x2048x1 ![] bcast_S_S2x2048x1 (constant S_ .f32 0x45000000#32)))
    (broadcastInDim S2x2048x1 ![] bcast_S_S2x2048x1 (constant S_ .f32 0x358637BD#32)))

/-- The normalized input, as the reference computes it. -/
def hHat (x : FVec Ideal S2x2048x2048 .f32) : FVec Ideal S2x2048x2048 .f32 :=
  mulf x (broadcastInDim S2x2048x2048 ![0, 1, 2] bcast_S2x2048x1_S2x2048x2048_0_1_2 (hInv x))

/-- The gradient times the gain, as the reference computes it. -/
def hScaled (dh : FVec Ideal S4096x2048 .f32) (g : FVec Ideal S1x2048 .f32) : FVec Ideal S2x2048x2048 .f32 :=
  mulf (shapeCast _ dh shapeCasts_S4096x2048_S2x2048x2048)
    (broadcastInDim S2x2048x2048 ![0, 1, 2] bcast_S1x1x2048_S2x2048x2048_0_1_2 (broadcastInDim S1x1x2048 ![1, 2] bcast_S1x2048_S1x1x2048_1_2 g))

/-- The mean over each row of the scaled gradient times the normalized input, as the reference computes it. -/
def hMean (x : FVec Ideal S2x2048x2048 .f32) (dh : FVec Ideal S4096x2048 .f32) (g : FVec Ideal S1x2048 .f32) : FVec Ideal S2x2048x1 .f32 :=
  Host.divf (broadcastInDim S2x2048x1 ![0, 1] bcast_S2x2048_S2x2048x1_0_1
    (Host.reduceAdd (mulf (hScaled dh g) (hHat x)) (constant S_ .f32 0x00000000#32) reducesTo_S2x2048x2048_S2x2048_d2 h_S_))
    (broadcastInDim S2x2048x1 ![] bcast_S_S2x2048x1 (constant S_ .f32 0x45000000#32))

/-- The input gradient, as the reference computes it. -/
def hBack (x : FVec Ideal S2x2048x2048 .f32) (dh : FVec Ideal S4096x2048 .f32) (g : FVec Ideal S1x2048 .f32) (d : FVec Ideal S4096x2048 .f32) :
    FVec Ideal S4096x2048 .f32 :=
  addf d (shapeCast _ (mulf (broadcastInDim S2x2048x2048 ![0, 1, 2] bcast_S2x2048x1_S2x2048x2048_0_1_2 (hInv x))
    (subf (hScaled dh g) (mulf (hHat x) (broadcastInDim S2x2048x2048 ![0, 1, 2] bcast_S2x2048x1_S2x2048x2048_0_1_2 (hMean x dh g)))))
    shapeCasts_S2x2048x2048_S4096x2048)

/-- The gain's gradient, as the reference computes it. -/
def hGain (x : FVec Ideal S2x2048x2048 .f32) (dh : FVec Ideal S4096x2048 .f32) : FVec Ideal S1x2048 .f32 :=
  broadcastInDim S1x2048 ![1] bcast_S2048_S1x2048_1 (Host.reduceAdd (mulf (shapeCast _ dh shapeCasts_S4096x2048_S2x2048x2048) (hHat x))
    (constant S_ .f32 0x00000000#32) reducesTo_S2x2048x2048_S2048_d0_1 h_S_)

/-- The reciprocal root of a row's mean square. -/
theorem hInv_apply (x : FVec Ideal S2x2048x2048 .f32) (r : Fin 4096) (h1 : r.val / 2048 < 2) (h2 : r.val % 2048 < 2048) :
    hInv x (ix3 ⟨r.val / 2048, h1⟩ ⟨r.val % 2048, h2⟩ 0) = (invRms (rows x) r : EReal) := by
  pointwise [hInv, invRms, rows]

/-- The normalized input, in a row. -/
theorem hHat_apply (x : FVec Ideal S2x2048x2048 .f32) (r : Fin 4096) (l : Fin 2048) (h1 : r.val / 2048 < 2) (h2 : r.val % 2048 < 2048) :
    hHat x (ix3 ⟨r.val / 2048, h1⟩ ⟨r.val % 2048, h2⟩ l) = (rows x (ix2 r l) * invRms (rows x) r : EReal) := by
  pointwise [hHat, hInv_apply, rows]

/-- The scaled gradient, in a row. -/
theorem hScaled_apply (dh : FVec Ideal S4096x2048 .f32) (g : FVec Ideal S1x2048 .f32) (r : Fin 4096) (l : Fin 2048)
    (h1 : r.val / 2048 < 2) (h2 : r.val % 2048 < 2048) :
    hScaled dh g (ix3 ⟨r.val / 2048, h1⟩ ⟨r.val % 2048, h2⟩ l) = (dh (ix2 r l) * g (ix2 0 l) : EReal) := by
  pointwise [hScaled]

/-- The mean over a row. -/
theorem hMean_apply (x : FVec Ideal S2x2048x2048 .f32) (dh : FVec Ideal S4096x2048 .f32) (g : FVec Ideal S1x2048 .f32) (r : Fin 4096)
    (h1 : r.val / 2048 < 2) (h2 : r.val % 2048 < 2048) :
    hMean x dh g (ix3 ⟨r.val / 2048, h1⟩ ⟨r.val % 2048, h2⟩ 0)
      = (Ideal.div (∑ l : Fin 2048, dh (ix2 r l) * g (ix2 0 l) * (rows x (ix2 r l) * invRms (rows x) r)) (Ideal.ofBits .f32 0x45000000#32) : EReal) := by
  pointwise [hMean, hScaled_apply, hHat_apply]

/-- The reference's input gradient is the input gradient of the rows. -/
theorem hBack_eq (x : FVec Ideal S2x2048x2048 .f32) (dh : FVec Ideal S4096x2048 .f32) (g : FVec Ideal S1x2048 .f32) (d : FVec Ideal S4096x2048 .f32) :
    hBack x dh g d = back (a := 4096) (rows x) dh g d := by
  funext i
  pointwise [hBack, hInv_apply, hScaled_apply, hHat_apply, hMean_apply, back]

/-- A sum over the two leading axes of a rank-three array is the sum over all its rows. -/
theorem sum_rows (v : S2x2048x2048.Idx → EReal) (z : EReal) (j : S2048.Idx) :
    Ideal.hostReduceAdd reducesTo_S2x2048x2048_S2048_d0_1 v z j
      = z + ∑ r : Fin 4096, v (ix3 ⟨r.val / 2048, Nat.div_lt_of_lt_mul r.isLt⟩ ⟨r.val % 2048, Nat.mod_lt _ (by decide)⟩ (j 0)) := by
  refine congrArg (z + ·) ?_
  refine (Finset.sum_filter_eq_sum_of_fiber _ (fun k : Fin 2 × Fin 2048 => (ix3 k.1 k.2 (j 0) : S2x2048x2048.Idx))
    (fun _ _ e => Prod.ext (congrFun e 0) (congrFun e 1)) (fun i => ?_) v).trans ?_
  · constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext b
      apply Fin.ext
      match b with
      | ⟨0, _⟩ => rfl
  · rw [Fintype.sum_prod_type]
    exact (Fin.sum_divmod_fin (N := 4096) 2048 fun (a : Fin 2) (s : Fin 2048) => v (ix3 a s (j 0))).symm

/-- The reference's gradient of the gain is the sum over the rows. -/
theorem hGain_eq (x : FVec Ideal S2x2048x2048 .f32) (dh : FVec Ideal S4096x2048 .f32) :
    hGain x dh = gain (a := 4096) (rows x) dh := by
  funext i
  pointwise [hGain, sum_rows, hHat_apply, gain]

variable (m : (ℓ : Loc nD τ sig) → Buf (Elt Ideal) ℓ) (ρ : Dev nD → PrngReg)

/-- The reference runs, leaves the input gradient in both formats and the gain's gradient, and keeps its arguments. -/
theorem run_back : θ_run (defs (F := Ideal)) (onTc (τ := τ) (main (F := Ideal))) ⟨m, fun _ => 0, ρ⟩ fun r => ∀ c : Dev nD,
      r.2.mem ((c.tc : Thread nD τ).loc main_v25)
        = back (a := 4096) (rows (m ((c.tc : Thread nD τ).loc main_arg1))) (m ((c.tc : Thread nD τ).loc main_arg0))
          (m ((c.tc : Thread nD τ).loc main_arg2)) (m ((c.tc : Thread nD τ).loc main_arg3))
      ∧ r.2.mem ((c.tc : Thread nD τ).loc main_v26)
        = narrow (back (a := 4096) (rows (m ((c.tc : Thread nD τ).loc main_arg1))) (m ((c.tc : Thread nD τ).loc main_arg0))
          (m ((c.tc : Thread nD τ).loc main_arg2)) (m ((c.tc : Thread nD τ).loc main_arg3)))
      ∧ r.2.mem ((c.tc : Thread nD τ).loc main_v29)
        = gain (a := 4096) (rows (m ((c.tc : Thread nD τ).loc main_arg1))) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c).1.trans (hBack_eq (m ((c.tc : Thread nD τ).loc main_arg1)) (m ((c.tc : Thread nD τ).loc main_arg0))
        (m ((c.tc : Thread nD τ).loc main_arg2)) (m ((c.tc : Thread nD τ).loc main_arg3))),
      (h c).2.1.trans (congrArg narrow (hBack_eq (m ((c.tc : Thread nD τ).loc main_arg1)) (m ((c.tc : Thread nD τ).loc main_arg0))
        (m ((c.tc : Thread nD τ).loc main_arg2)) (m ((c.tc : Thread nD τ).loc main_arg3)))),
      (h c).2.2.1.trans (hGain_eq (m ((c.tc : Thread nD τ).loc main_arg1)) (m ((c.tc : Thread nD τ).loc main_arg0))),
      (h c).2.2.2⟩) (Value.run m ρ)

end Cert.NormRefIdeal

end
-- ==== Proof.Mixing.lean ====
/-
  The forward mixer's arithmetic, over the real numbers: a row normalized by the root of its mean square, attention with a bias that
  falls with distance and one extra score that takes weight but no value, and the gated unit.
-/
module

public import Idealize.ShloMosaic.Lib.Pipeline.ValueKit
public import Idealize.ShloMosaic.Lib.Pointwise.Tactic

@[expose] public section

noncomputable section

open Idealize.ShloMosaic Idealize.ShloMosaic.TcCoe Idealize.SL.Sem

namespace Cert.Mixing

/-- The reciprocal root of a row's mean square. -/
def invRms {n : ℕ} (N : EReal) (x : Fin n → EReal) : EReal :=
  Ideal.rsqrt (Ideal.div (∑ l, (x l * x l : EReal)) N + Ideal.ofBits .f32 0x358637BD#32)

/-- A row normalized by the root of its mean square, times a gain. -/
def normed {n : ℕ} (N : EReal) (x g : Fin n → EReal) (d : Fin n) : EReal := x d * invRms N x * g d

/-- A key's score: the scaled product less the bias, or minus infinity where the key is masked. -/
def logit (sl : EReal) (valid : BitVec 1) (dist z : EReal) : EReal :=
  Scalar.select valid (z * Ideal.ofBits .f32 0x3E000000#32 - sl * dist) ⊥

/-- The largest of the scores and the extra one. -/
def top (L : Fin 256 → EReal) (s : EReal) : EReal := max ((Finset.univ : Finset (Fin 256)).fold max ⊥ L) s

/-- The total weight. -/
def mass (L : Fin 256 → EReal) (s : EReal) : EReal := (∑ k, Ideal.exp (L k - top L s)) + Ideal.exp (s - top L s)

/-- A key's share of the weight. -/
def prob (L : Fin 256 → EReal) (s : EReal) (k : Fin 256) : EReal := Ideal.exp (L k - top L s) * Ideal.div 1 (mass L s)

/-- The values, each by its key's share of the weight. -/
def attend (L : Fin 256 → EReal) (s : EReal) (v : Fin 256 → EReal) : EReal := ∑ k, prob L s k * v k

/-- The reciprocal of the root of two. -/
def root : EReal := (((Real.sqrt 2)⁻¹ : ℝ) : EReal)

/-- The unit through the error function; `c` is the reciprocal of the root of two. -/
def gelu (c x : EReal) : EReal := x * (Ideal.ofBits .f32 0x3F000000#32 * (1 + Ideal.erf (x * c)))

/-- A row less its mean. -/
def center (x : Fin 128 → EReal) (d : Fin 128) : EReal := x d - Ideal.div (∑ l, x l) (Ideal.ofBits .f32 0x43000000#32)

/-- A row normalized to mean zero and variance one, times a gain, plus a bias. -/
def layerNorm (x g b : Fin 128 → EReal) (d : Fin 128) : EReal :=
  center x d * Ideal.rsqrt (Ideal.div (∑ l, (center x l * center x l : EReal)) (Ideal.ofBits .f32 0x43000000#32) + Ideal.ofBits .f32 0x358637BD#32) * g d + b d

/-- The pattern of minus infinity. -/
theorem ofBits_bot : Ideal.ofBits .f32 0xFF800000#32 = ⊥ := by
  simp [Ideal.ofBits, Ideal.ieee]

end Cert.Mixing

end
-- ==== Proof.MixerHeads.lean ====
/-
  The forward mixer's block, over the real numbers: each head's attention and each group's gated unit as one function of what it reads.
-/
module

public import proofs.«01_k».proof.Proof.Gen.MixerIdeal.Skeleton
public import proofs.«01_k».proof.Proof.Mixing
public import Idealize.ShloMosaic.Lib.Pipeline.ValueKit
public import Idealize.ShloMosaic.Lib.Pointwise.Tactic

@[expose] public section

set_option maxRecDepth 16384

noncomputable section

open Idealize.ShloMosaic Idealize.ShloMosaic.TcCoe Idealize.SL.Sem

namespace Cert.MixerIdeal.Values

open Cert.MixerIdeal Cert.MixerIdeal.Gen Cert.Mixing

/-- One head's attention over a block of 128 rows and the two blocks of keys that end with it, in the kernel's own operations; the
    slope is the head's. -/
def head (sl : Ideal .f32) (v16 : IVec S128x256 1) (v17 : FVec Ideal S128x256 .f32) (v18 : FVec Ideal S1x64 .f32)
    (v38 v39 : FVec Ideal S256x64 .bf16) (v85 : FVec Ideal S128x64 .f32) (v86 : Ideal .f32) : FVec Ideal S128x64 .f32 :=
  have v87 : FVec Ideal S128x64 .f32 := mulf v85 v85
  have v88 : FVec Ideal S128 .f32 := multiReduction .add [1] S128 v87 0x00000000#32 reduces_S128x64_S128 (.inl rfl) rfl
  have v89 : FVec Ideal S128x1 .f32 := shapeCast S128x1 v88 shapeCasts_S128_S128x1
  have cst_31 : Ideal .f32 := Scalar.ofBits .f32 0x42800000#32
  have v90 : FVec Ideal S128x1 .f32 := broadcast S128x1 cst_31
  have v91 : FVec Ideal S128x1 .f32 := divf v89 v90
  have cst_32 : Ideal .f32 := Scalar.ofBits .f32 0x358637BD#32
  have v92 : FVec Ideal S128x1 .f32 := broadcast S128x1 cst_32
  have v93 : FVec Ideal S128x1 .f32 := addf v91 v92
  have v94 : FVec Ideal S128x1 .f32 := rsqrt v93
  have v95 : FVec Ideal S128x64 .f32 := broadcastTo S128x64 v94 broadcasts_S128x1_S128x64
  have v96 : FVec Ideal S128x64 .f32 := mulf v85 v95
  have v97 : FVec Ideal S128x64 .f32 := broadcastTo S128x64 v18 broadcasts_S1x64_S128x64
  have v98 : FVec Ideal S128x64 .f32 := mulf v96 v97
  have v99 : FVec Ideal S128x64 .bf16 := truncf .bf16 v98 bitsLt_bf16_f32
  have cst_33 : FVec Ideal S128x256 .f32 := constant S128x256 .f32 0x00000000#32
  have v100 : FVec Ideal S128x256 .f32 := matmul dot_S128x64_S256x64_S128x256_1_1_0_0_n_n none v99 v38 cst_33
  have cst_34 : Ideal .f32 := Scalar.ofBits .f32 0x3E000000#32
  have v101 : FVec Ideal S128x256 .f32 := broadcast S128x256 cst_34
  have v102 : FVec Ideal S128x256 .f32 := mulf v100 v101
  have v103 : FVec Ideal S128x256 .f32 := broadcast S128x256 sl
  have v104 : FVec Ideal S128x256 .f32 := mulf v103 v17
  have v105 : FVec Ideal S128x256 .f32 := subf v102 v104
  have cst_36 : Ideal .f32 := Named.named κ "mask" 0xF149F2CA#32
  have v106 : FVec Ideal S128x256 .f32 := broadcast S128x256 cst_36
  have v107 : FVec Ideal S128x256 .f32 := select v16 v105 v106
  have v108 : FVec Ideal S128 .f32 := multiReduction .maximumf [1] S128 v107 0xFF800000#32 reduces_S128x256_S128 (.inl rfl) rfl
  have v109 : FVec Ideal S128x1 .f32 := shapeCast S128x1 v108 shapeCasts_S128_S128x1
  have v110 : FVec Ideal S128x1 .f32 := broadcast S128x1 v86
  have v111 : FVec Ideal S128x1 .f32 := maximumf v109 v110
  have v112 : FVec Ideal S128x256 .f32 := broadcastTo S128x256 v111 broadcasts_S128x1_S128x256
  have v113 : FVec Ideal S128x256 .f32 := subf v107 v112
  have v114 : FVec Ideal S128x256 .f32 := exp v113
  have v115 : FVec Ideal S128x1 .f32 := broadcast S128x1 v86
  have v116 : FVec Ideal S128x1 .f32 := subf v115 v111
  have v117 : FVec Ideal S128x1 .f32 := exp v116
  have v118 : FVec Ideal S128 .f32 := multiReduction .add [1] S128 v114 0x00000000#32 reduces_S128x256_S128 (.inl rfl) rfl
  have v119 : FVec Ideal S128x1 .f32 := shapeCast S128x1 v118 shapeCasts_S128_S128x1
  have v120 : FVec Ideal S128x1 .f32 := addf v119 v117
  have cst_39 : Ideal .f32 := Scalar.ofBits .f32 0x3F800000#32
  have v121 : FVec Ideal S128x1 .f32 := broadcast S128x1 cst_39
  have v122 : FVec Ideal S128x1 .f32 := divf v121 v120
  have v123 : FVec Ideal S128x256 .f32 := broadcastTo S128x256 v122 broadcasts_S128x1_S128x256
  have v124 : FVec Ideal S128x256 .f32 := mulf v114 v123
  have v125 : FVec Ideal S128x256 .bf16 := truncf .bf16 v124 bitsLt_bf16_f32
  have cst_40 : FVec Ideal S128x64 .f32 := constant S128x64 .f32 0x00000000#32
  have v126 : FVec Ideal S128x64 .f32 := matmul dot_S128x256_S256x64_S128x64_1_0_0_1_n_n none v125 v39 cst_40
  have v129 : FVec Ideal S128x64 .f32 := shapeCast S128x64 v126 shapeCasts_S128x64_S128x64
  v129

/-- One group's gated unit over a block of 128 rows, in the kernel's own operations, from the group's row of gains and of biases. -/
def group (v798 : IVec S128x128 1) (v835 v838 : FVec Ideal S1x128 .f32)
    (v801 v802 : FVec Ideal S128x128 .f32) (v842 : FVec Ideal S1x128x128 .f32) (v848 : FVec Ideal S128x1 .f32) : FVec Ideal S128x128 .f32 :=
  have v810 : FVec Ideal S128x128 .f32 := k0_pay60 v801
  have v811 : FVec Ideal S128x128 .f32 := k0_pay61
  have v812 : FVec Ideal S128x128 .f32 := mulf v802 v811
  have v813 : FVec Ideal S128x128 .f32 := erf v812
  have cst_268 : Ideal .f32 := Scalar.ofBits .f32 0x3F800000#32
  have v814 : FVec Ideal S128x128 .f32 := broadcast S128x128 cst_268
  have v815 : FVec Ideal S128x128 .f32 := addf v814 v813
  have cst_269 : Ideal .f32 := Scalar.ofBits .f32 0x3F000000#32
  have v816 : FVec Ideal S128x128 .f32 := broadcast S128x128 cst_269
  have v817 : FVec Ideal S128x128 .f32 := mulf v816 v815
  have v818 : FVec Ideal S128x128 .f32 := mulf v802 v817
  have v819 : FVec Ideal S128 .f32 := multiReduction .add [1] S128 v818 0x00000000#32 reduces_S128x128_S128 (.inl rfl) rfl
  have v820 : FVec Ideal S128x1 .f32 := shapeCast S128x1 v819 shapeCasts_S128_S128x1
  have cst_271 : Ideal .f32 := Scalar.ofBits .f32 0x43000000#32
  have v821 : FVec Ideal S128x1 .f32 := broadcast S128x1 cst_271
  have v822 : FVec Ideal S128x1 .f32 := divf v820 v821
  have v823 : FVec Ideal S128x128 .f32 := broadcastTo S128x128 v822 broadcasts_S128x1_S128x128
  have v824 : FVec Ideal S128x128 .f32 := subf v818 v823
  have v825 : FVec Ideal S128x128 .f32 := mulf v824 v824
  have v826 : FVec Ideal S128 .f32 := multiReduction .add [1] S128 v825 0x00000000#32 reduces_S128x128_S128 (.inl rfl) rfl
  have v827 : FVec Ideal S128x1 .f32 := shapeCast S128x1 v826 shapeCasts_S128_S128x1
  have cst_273 : Ideal .f32 := Scalar.ofBits .f32 0x43000000#32
  have v828 : FVec Ideal S128x1 .f32 := broadcast S128x1 cst_273
  have v829 : FVec Ideal S128x1 .f32 := divf v827 v828
  have cst_274 : Ideal .f32 := Scalar.ofBits .f32 0x358637BD#32
  have v830 : FVec Ideal S128x1 .f32 := broadcast S128x1 cst_274
  have v831 : FVec Ideal S128x1 .f32 := addf v829 v830
  have v832 : FVec Ideal S128x1 .f32 := rsqrt v831
  have v833 : FVec Ideal S128x128 .f32 := broadcastTo S128x128 v832 broadcasts_S128x1_S128x128
  have v834 : FVec Ideal S128x128 .f32 := mulf v824 v833
  have v836 : FVec Ideal S128x128 .f32 := broadcastTo S128x128 v835 broadcasts_S1x128_S128x128
  have v837 : FVec Ideal S128x128 .f32 := mulf v834 v836
  have v839 : FVec Ideal S128x128 .f32 := broadcastTo S128x128 v838 broadcasts_S1x128_S128x128
  have v840 : FVec Ideal S128x128 .f32 := addf v837 v839
  have v841 : FVec Ideal S128x128 .bf16 := truncf .bf16 v840 bitsLt_bf16_f32
  have v843 : FVec Ideal S128x128 .f32 := shapeCast S128x128 v842 shapeCasts_S1x128x128_S128x128
  have cst_278 : Ideal .f32 := Scalar.ofBits .f32 0x00000000#32
  have v844 : FVec Ideal S128x128 .f32 := broadcast S128x128 cst_278
  have v845 : FVec Ideal S128x128 .f32 := select v798 v843 v844
  have v846 : FVec Ideal S128x128 .bf16 := truncf .bf16 v845 bitsLt_bf16_f32
  have cst_279 : FVec Ideal S128x128 .f32 := constant S128x128 .f32 0x00000000#32
  have v847 : FVec Ideal S128x128 .f32 := matmul dot_S128x128_S128x128_S128x128_1_0_0_1_n_n none v846 v841 cst_279
  have v849 : FVec Ideal S128x128 .f32 := broadcastTo S128x128 v848 broadcasts_S128x1_S128x128
  have v850 : FVec Ideal S128x128 .f32 := addf v847 v849
  have v851 : FVec Ideal S128x128 .f32 := mulf v810 v850
  have v854 : FVec Ideal S128x128 .f32 := shapeCast S128x128 v851 shapeCasts_S128x128_S128x128
  v854

/-- The slopes of the sixteen heads, as the kernel writes them. -/
def slope : Fin 16 → Ideal .f32 := ![
  Named.named κ "slope0" 0x3F3504F3#32,
  Scalar.ofBits .f32 0x3F000000#32,
  Named.named κ "slope2" 0x3EB504F3#32,
  Scalar.ofBits .f32 0x3E800000#32,
  Named.named κ "slope4" 0x3E3504F3#32,
  Scalar.ofBits .f32 0x3E000000#32,
  Named.named κ "slope6" 0x3DB504F3#32,
  Scalar.ofBits .f32 0x3D800000#32,
  Named.named κ "slope8" 0x3D3504F3#32,
  Scalar.ofBits .f32 0x3D000000#32,
  Named.named κ "slope10" 0x3CB504F3#32,
  Scalar.ofBits .f32 0x3C800000#32,
  Named.named κ "slope12" 0x3C3504F3#32,
  Scalar.ofBits .f32 0x3C000000#32,
  Named.named κ "slope14" 0x3BB504F3#32,
  Scalar.ofBits .f32 0x3B800000#32
]

/-- Each head's stored block is that one function, at the head's slope. -/
theorem heads (v16 : IVec S128x256 1) (v17 : FVec Ideal S128x256 .f32) (v18 : FVec Ideal S1x64 .f32) (v25 v35 v36 : FVec Ideal S256x64 .f32)
    (v38 v39 : FVec Ideal S256x64 .bf16) (q : FVec Ideal S128x64 .f32) (s : Ideal .f32) :
    k0_pay11 (k0_pay10 v16 v17 v18 v25 v35 v36 q s) = head (slope 0) v16 v17 v18 (k0_pay8 v35 v36) (k0_pay9 v25) q s
    ∧ k0_pay13 v39 (k0_pay12 v16 v17 v18 v38 q s) (constant S128x64 .f32 0x00000000#32) = head (slope 1) v16 v17 v18 v38 v39 q s
    ∧ k0_pay15 v39 (k0_pay14 v16 v17 v18 v38 q s) = head (slope 2) v16 v17 v18 v38 v39 q s
    ∧ k0_pay20 v39 (k0_pay18 v16 v17 v18 v38 q s) (k0_pay19 v16 v17 v18 v38 q s) = head (slope 3) v16 v17 v18 v38 v39 q s
    ∧ k0_pay25 v39 (k0_pay23 v16 v17 v18 v38 q s) (k0_pay24 v16 v17 v18 v38 q s) (Scalar.ofBits .f32 0x3F800000#32) = head (slope 4) v16 v17 v18 v38 v39 q s
    ∧ k0_pay31 v39 (k0_pay28 v16 v17 v18 v38 q s) (k0_pay29 v16 v17 v18 v38 q s) (k0_pay30 v16 v17 v18 v38 q s) = head (slope 5) v16 v17 v18 v38 v39 q s
    ∧ k0_pay36 v39 (k0_pay34 v16 v17 v18 v38 q s) (k0_pay35 v16 v17 v18 v38 q s) = head (slope 6) v16 v17 v18 v38 v39 q s
    ∧ k0_pay41 v39 (k0_pay39 v16 v17 v18 v38 q s) (k0_pay40 v16 v17 v18 v38 q s) = head (slope 7) v16 v17 v18 v38 v39 q s
    ∧ k0_pay45 v16 v17 v18 v38 v39 q s (k0_pay44 q) (Scalar.ofBits .f32 0x42800000#32) = head (slope 8) v16 v17 v18 v38 v39 q s
    ∧ k0_pay47 v16 v17 v18 v38 v39 q s (k0_pay46 q) = head (slope 9) v16 v17 v18 v38 v39 q s
    ∧ k0_pay49 v16 v17 v18 v38 v39 q s (k0_pay48 q) = head (slope 10) v16 v17 v18 v38 v39 q s
    ∧ k0_pay50 v16 v17 v18 v38 v39 q s = head (slope 11) v16 v17 v18 v38 v39 q s
    ∧ k0_pay51 v16 v17 v18 v38 v39 q s = head (slope 12) v16 v17 v18 v38 v39 q s
    ∧ k0_pay53 (k0_pay52 v16 v17 v18 v38 v39 q s) = head (slope 13) v16 v17 v18 v38 v39 q s
    ∧ k0_pay55 (k0_pay54 v16 v17 v18 v38 v39 q s) = head (slope 14) v16 v17 v18 v38 v39 q s
    ∧ k0_pay57 (k0_pay56 v16 v17 v18 v38 v39 q s) = head (slope 15) v16 v17 v18 v38 v39 q s :=
  ⟨rfl, rfl, rfl, rfl, rfl, rfl, rfl, rfl, rfl, rfl, rfl, rfl, rfl, rfl, rfl, rfl⟩

/-- Each group's stored block is that one function, at the group's row. -/
theorem groups (v798 : IVec S128x128 1) (v799 v800 : FVec Ideal S8x128 .f32)
    (a b : FVec Ideal S128x128 .f32) (w : FVec Ideal S1x128x128 .f32) (c : FVec Ideal S128x1 .f32) :
    k0_pay62 v798 v799 v800 b (k0_pay60 a) k0_pay61 w c = group v798 (extractStridedSlice S1x128 ![0, 0] v799 slices_S8x128_o0_0_S1x128) (extractStridedSlice S1x128 ![0, 0] v800 slices_S8x128_o0_0_S1x128) a b w c
    ∧ k0_pay65 v798 (k0_pay63 a) (k0_pay64 v799 v800 b) w c = group v798 (extractStridedSlice S1x128 ![1, 0] v799 slices_S8x128_o1_0_S1x128) (extractStridedSlice S1x128 ![1, 0] v800 slices_S8x128_o1_0_S1x128) a b w c
    ∧ k0_pay69 v798 v799 v800 (k0_pay66 a) (k0_pay67 b) (k0_pay68 b) (Scalar.ofBits .f32 0x43000000#32) w c = group v798 (extractStridedSlice S1x128 ![2, 0] v799 slices_S8x128_o2_0_S1x128) (extractStridedSlice S1x128 ![2, 0] v800 slices_S8x128_o2_0_S1x128) a b w c
    ∧ k0_pay72 v798 v799 v800 b (k0_pay70 a) (k0_pay71 b) (Scalar.ofBits .f32 0x3F800000#32) w c = group v798 (extractStridedSlice S1x128 ![3, 0] v799 slices_S8x128_o3_0_S1x128) (extractStridedSlice S1x128 ![3, 0] v800 slices_S8x128_o3_0_S1x128) a b w c
    ∧ k0_pay77 v798 (k0_pay73 a) (k0_pay74 v799 v800 b) (k0_pay75 w) k0_pay76 c = group v798 (extractStridedSlice S1x128 ![4, 0] v799 slices_S8x128_o4_0_S1x128) (extractStridedSlice S1x128 ![4, 0] v800 slices_S8x128_o4_0_S1x128) a b w c
    ∧ k0_pay81 v798 v799 v800 (k0_pay78 a) (k0_pay79 b) (k0_pay80 b) (Scalar.ofBits .f32 0x358637BD#32) w c = group v798 (extractStridedSlice S1x128 ![5, 0] v799 slices_S8x128_o5_0_S1x128) (extractStridedSlice S1x128 ![5, 0] v800 slices_S8x128_o5_0_S1x128) a b w c
    ∧ k0_pay84 v798 v799 v800 b (k0_pay82 a) (k0_pay83 b) (Scalar.ofBits .f32 0x3F000000#32) w c = group v798 (extractStridedSlice S1x128 ![6, 0] v799 slices_S8x128_o6_0_S1x128) (extractStridedSlice S1x128 ![6, 0] v800 slices_S8x128_o6_0_S1x128) a b w c
    ∧ k0_pay88 (k0_pay85 a) (k0_pay86 v799 v800 b) (k0_pay87 v798 w) (constant S128x128 .f32 0x00000000#32) c = group v798 (extractStridedSlice S1x128 ![7, 0] v799 slices_S8x128_o7_0_S1x128) (extractStridedSlice S1x128 ![7, 0] v800 slices_S8x128_o7_0_S1x128) a b w c :=
  ⟨rfl, rfl, rfl, rfl, rfl, rfl, rfl, rfl⟩

/-- The mask stands for minus infinity. -/
theorem mask_eq : Named.named (F := Ideal) κ "mask" (φ := .f32) 0xF149F2CA#32 = (⊥ : EReal) :=
  IdealRules.named_const.ideal_named_scalar _ _ _ _ rfl

/-- The first slope, which is also the factor inside the error function, is the reciprocal of the root of two. -/
theorem root_eq : Named.named (F := Ideal) κ "slope0" (φ := .f32) 0x3F3504F3#32 = root :=
  IdealRules.named_const.ideal_named_scalar _ _ _ _ rfl

/-- A head's block at a row and a column: the attention of that row's normalized query. -/
theorem head_apply (sl : Ideal .f32) (v16 : IVec S128x256 1) (v17 : FVec Ideal S128x256 .f32) (v18 : FVec Ideal S1x64 .f32)
    (v38 v39 : FVec Ideal S256x64 .bf16) (q : FVec Ideal S128x64 .f32) (s : Ideal .f32) (j : S128x64.Idx) :
    head sl v16 v17 v18 v38 v39 q s j = attend (fun k : Fin 256 => logit sl (v16 (ix2 (j 0) k)) (v17 (ix2 (j 0) k))
      (∑ e : Fin 64, (normed (Ideal.ofBits .f32 0x42800000#32) (fun e : Fin 64 => q (ix2 (j 0) e)) (fun e => v18 (ix2 0 e)) e * v38 (ix2 k e) : EReal))) s
      (fun k => v39 (ix2 k (j 1))) := by
  pointwise [head, attend, logit, normed, invRms, prob, mass, top, mask_eq, ofBits_bot]

/-- The two blocks of keys, normalized: a row of the first, then a row of the second. -/
theorem keys_apply (p o : FVec Ideal S128x64 .f32) (g : FVec Ideal S1x64 .f32) (k : Fin 256) (e : Fin 64) :
    k0_pay8 (F := Ideal) (k0_pay6 p o) (k0_pay7 g) (ix2 k e) = normed (Ideal.ofBits .f32 0x42800000#32) (fun e : Fin 64 =>
      (if h : k.val < 128 then p (ix2 ⟨k.val, h⟩ e) else o (ix2 ⟨k.val - 128, by omega⟩ e) : EReal)) (fun e => g (ix2 0 e)) e := by
  pointwise [k0_pay8, k0_pay6, k0_pay7, normed, invRms]

/-- The second half of the heads computes its keys the same way. -/
theorem keys_eq (p o : FVec Ideal S128x64 .f32) (g : FVec Ideal S1x64 .f32) : k0_pay42 g p o = k0_pay8 (F := Ideal) (k0_pay6 p o) (k0_pay7 g) := rfl

/-- The two blocks of values, one after the other. -/
theorem vals_apply (p o : FVec Ideal S128x64 .f32) (k : Fin 256) (e : Fin 64) :
    k0_pay9 (F := Ideal) (k0_pay5 p o) (ix2 k e) = (if h : k.val < 128 then p (ix2 ⟨k.val, h⟩ e) else o (ix2 ⟨k.val - 128, by omega⟩ e) : EReal) := by
  pointwise [k0_pay9, k0_pay5]

/-- And its values. -/
theorem vals_eq (p o : FVec Ideal S128x64 .f32) : k0_pay43 p o = k0_pay9 (F := Ideal) (k0_pay5 p o) := rfl

/-- A group's block at a row and a column: the gate times the product of the masked weights with the normalized columns, plus the bias. -/
theorem group_apply (v798 : IVec S128x128 1) (gl bt : FVec Ideal S1x128 .f32) (a b : FVec Ideal S128x128 .f32)
    (w : FVec Ideal S1x128x128 .f32) (c : FVec Ideal S128x1 .f32) (j : S128x128.Idx) :
    group v798 gl bt a b w c j = gelu root (a j)
      * ((∑ k : Fin 128, Scalar.select (v798 (ix2 (j 0) k)) (w (ix3 0 (j 0) k) : EReal) 0
          * layerNorm (fun d : Fin 128 => gelu root (b (ix2 k d))) (fun d => gl (ix2 0 d)) (fun d => bt (ix2 0 d)) (j 1))
        + c (ix2 (j 0) 0)) := by
  pointwise [group, k0_pay60, k0_pay61, gelu, layerNorm, center, root_eq, Ideal.erf_def]

/-- The left half of a stored block: the attention, each row normalized. -/
theorem left_apply (x : FVec Ideal S128x1024 .f32) (g : FVec Ideal S1x1024 .f32) (j : S128x1024.Idx) :
    k0_pay58 (F := Ideal) x g j = normed (Ideal.ofBits .f32 0x44800000#32) (fun d : Fin 1024 => x (ix2 (j 0) d)) (fun d => g (ix2 0 d)) (j 1) := by
  pointwise [k0_pay58, normed, invRms]

/-- The right half: the gated unit, each row normalized. -/
theorem right_apply (x : FVec Ideal S128x1024 .f32) (g : FVec Ideal S1x1024 .f32) (j : S128x1024.Idx) :
    k0_pay1 (F := Ideal) (k0_pay89 x) g j = normed (Ideal.ofBits .f32 0x44800000#32) (fun d : Fin 1024 => x (ix2 (j 0) d)) (fun d => g (ix2 0 d)) (j 1) := by
  pointwise [k0_pay1, k0_pay89, normed, invRms]

end Cert.MixerIdeal.Values

end
-- ==== Proof.MixerBlock.lean ====
/-
  What one step of the forward mixer leaves in its output block, over the real numbers: the heads side by side and the groups side by
  side, each half with its rows normalized.
-/
module

public import proofs.«01_k».proof.Proof.Gen.MixerIdeal.Value
public import proofs.«01_k».proof.Proof.MixerHeads
public import Idealize.ShloMosaic.Lib.Pipeline.ReadBack

@[expose] public section

set_option maxRecDepth 16384

noncomputable section

open Idealize.ShloMosaic Idealize.ShloMosaic.TcCoe Idealize.SL.Sem

namespace Cert.MixerIdeal.Values

open Cert.MixerIdeal Cert.MixerIdeal.Gen Cert.Mixing

/-- Columns of a block that lie in it. -/
theorem inb_cols {r c w o : ℕ} (h : o + w ≤ c) : ∀ a, (![0, o] : Fin 2 → ℕ) a + (![r, w] : Fin 2 → ℕ) a ≤ (⟨2, ![r, c]⟩ : Shape).size a := fun a =>
  match a with
  | ⟨0, _⟩ => by show 0 + r ≤ r; omega
  | ⟨1, _⟩ => h

/-- One entry of a row that lies in it. -/
theorem inb_entry {c o : ℕ} (h : o + 1 ≤ c) : ∀ a, (![o] : Fin 1 → ℕ) a + (![1] : Fin 1 → ℕ) a ≤ (⟨1, ![c]⟩ : Shape).size a := fun a =>
  match a with
  | ⟨0, _⟩ => h

/-- One matrix of a stack that lies in it. -/
theorem inb_layer {c r w o : ℕ} (h : o + 1 ≤ c) : ∀ a, (![o, 0, 0] : Fin 3 → ℕ) a + (![1, r, w] : Fin 3 → ℕ) a ≤ (⟨3, ![c, r, w]⟩ : Shape).size a := fun a =>
  match a with
  | ⟨0, _⟩ => h
  | ⟨1, _⟩ => by show 0 + r ≤ r; omega
  | ⟨2, _⟩ => by show 0 + w ≤ w; omega

/-- Some columns of a block. -/
def cols {r c : ℕ} (w o : ℕ) (h : o + w ≤ c) (x : FVec Ideal ⟨2, ![r, c]⟩ .f32) : FVec Ideal ⟨2, ![r, w]⟩ .f32 :=
  View.ld (Val := Elt Ideal) (e' := .f32) x (Rect.unit (s := ⟨2, ![r, c]⟩) ![0, o] ![r, w] (inb_cols h))

/-- The keys of a half of the heads. -/
def keys (x0 : FVec Ideal S128x3328 .f32) (x1 : FVec Ideal S128x256 .f32) (x3 : FVec Ideal S1x64 .f32) (k : Fin 2) : FVec Ideal S256x64 .bf16 :=
  k0_pay8 (k0_pay6 (cols 64 (64 * k.val) (by omega) x1) (cols 64 (1024 + 64 * k.val) (by omega) x0)) (k0_pay7 x3)

/-- The values of a half of the heads. -/
def vals (x0 : FVec Ideal S128x3328 .f32) (x1 : FVec Ideal S128x256 .f32) (k : Fin 2) : FVec Ideal S256x64 .bf16 :=
  k0_pay9 (k0_pay5 (cols 64 (128 + 64 * k.val) (by omega) x1) (cols 64 (1152 + 64 * k.val) (by omega) x0))

/-- A head of a block. -/
def headOf (i : grid0.Coords) (x0 : FVec Ideal S128x3328 .f32) (x1 : FVec Ideal S128x256 .f32) (x2 x3 : FVec Ideal S1x64 .f32) (x4 : FVec Ideal S16 .f32)
    (h : Fin 16) (k : Fin 2) : FVec Ideal S128x64 .f32 :=
  head (slope h) (k0_pay3 i) k0_pay4 x2 (keys x0 x1 x3 k) (vals x0 x1 k) (cols 64 (64 * h.val) (by omega) x0)
    (View.ld (Val := Elt Ideal) (e' := .f32) x4 (Rect.unit (s := S16) ![h.val] ![1] (inb_entry h.isLt)) (Shape.Idx.first (lt_of_lt_of_eq Nat.one_pos numel1_S1.symm)))

/-- A group of a block. -/
def groupOf (x0 : FVec Ideal S128x3328 .f32) (x5 x6 : FVec Ideal S8x128 .f32) (x7 : FVec Ideal S8x128x128 .f32) (x8 : FVec Ideal S128x8 .f32)
    (g : Fin 8) : FVec Ideal S128x128 .f32 :=
  group k0_pay59 (extractStridedSlice S1x128 ![g.val, 0] x5 (by revert g; decide)) (extractStridedSlice S1x128 ![g.val, 0] x6 (by revert g; decide))
    (cols 128 (1280 + 128 * g.val) (by omega) x0) (cols 128 (2304 + 128 * g.val) (by omega) x0)
    (View.ld (Val := Elt Ideal) (e' := .f32) x7 (Rect.unit (s := S8x128x128) ![g.val, 0, 0] ![1, 128, 128] (inb_layer g.isLt))) (cols 1 g.val (by omega) x8)

/-- The heads of a block side by side. -/
def attention (i : grid0.Coords) (x0 : FVec Ideal S128x3328 .f32) (x1 : FVec Ideal S128x256 .f32) (x2 x3 : FVec Ideal S1x64 .f32) (x4 : FVec Ideal S16 .f32) :
    FVec Ideal S128x1024 .f32 := fun y =>
  have hy : (y 1).val < 1024 := (y 1).isLt
  headOf i x0 x1 x2 x3 x4 ⟨(y 1).val / 64, by omega⟩ ⟨(y 1).val / 512, by omega⟩ (ix2 (y 0) ⟨(y 1).val % 64, by omega⟩)

/-- The groups of a block side by side. -/
def gate (x0 : FVec Ideal S128x3328 .f32) (x5 x6 : FVec Ideal S8x128 .f32) (x7 : FVec Ideal S8x128x128 .f32) (x8 : FVec Ideal S128x8 .f32) :
    FVec Ideal S128x1024 .f32 := fun y =>
  have hy : (y 1).val < 1024 := (y 1).isLt
  groupOf x0 x5 x6 x7 x8 ⟨(y 1).val / 128, by omega⟩ (ix2 (y 0) ⟨(y 1).val % 128, by omega⟩)

/-- An entry of a head, among the heads side by side. -/
theorem attention_at (i : grid0.Coords) (x0 : FVec Ideal S128x3328 .f32) (x1 : FVec Ideal S128x256 .f32) (x2 x3 : FVec Ideal S1x64 .f32) (x4 : FVec Ideal S16 .f32)
    (h : Fin 16) (k : Fin 2) (hk : h.val / 8 = k.val) (x : S128x64.Idx) (y : S128x1024.Idx) (h0 : (y 0).val = (x 0).val) (h1 : (y 1).val = 64 * h.val + (x 1).val) :
    headOf i x0 x1 x2 x3 x4 h k x = attention i x0 x1 x2 x3 x4 y := by
  have hx : (x 1).val < 64 := (x 1).isLt
  unfold attention
  have e1 : (⟨(y 1).val / 64, by omega⟩ : Fin 16) = h := Fin.ext (by show (y 1).val / 64 = h.val; omega)
  have e2 : (⟨(y 1).val / 512, by omega⟩ : Fin 2) = k := Fin.ext (by show (y 1).val / 512 = k.val; omega)
  dsimp only
  rw [e1, e2]
  congr 1
  funext a
  match a with
  | ⟨0, _⟩ => exact Fin.ext h0.symm
  | ⟨1, _⟩ => exact Fin.ext (by show (x 1).val = (y 1).val % 64; omega)

/-- An entry of a group, among the groups side by side. -/
theorem gate_at (x0 : FVec Ideal S128x3328 .f32) (x5 x6 : FVec Ideal S8x128 .f32) (x7 : FVec Ideal S8x128x128 .f32) (x8 : FVec Ideal S128x8 .f32)
    (g : Fin 8) (x : S128x128.Idx) (y : S128x1024.Idx) (h0 : (y 0).val = (x 0).val) (h1 : (y 1).val = 128 * g.val + (x 1).val) :
    groupOf x0 x5 x6 x7 x8 g x = gate x0 x5 x6 x7 x8 y := by
  have hx : (x 1).val < 128 := (x 1).isLt
  unfold gate
  have e1 : (⟨(y 1).val / 128, by omega⟩ : Fin 8) = g := Fin.ext (by show (y 1).val / 128 = g.val; omega)
  dsimp only
  rw [e1]
  congr 1
  funext a
  match a with
  | ⟨0, _⟩ => exact Fin.ext h0.symm
  | ⟨1, _⟩ => exact Fin.ext (by show (x 1).val = (y 1).val % 128; omega)

variable (m : (ℓ : Loc nD τ sig) → Buf (Elt Ideal) ℓ)

set_option maxHeartbeats 400000 in
/-- What a step leaves at a row and a column of its block. -/
theorem block_eq (c : Dev nD) (t : Fin cfg0.N) (y : S128x2048.Idx) :
    outsAt0 m c t y = if hy : (y 1).val < 1024 then
        k0_pay58 (F := Ideal) (attention (grid0.coords t) (iblk m c 0 t) (iblk m c 1 t) (iblk m c 2 t) (iblk m c 3 t) (iblk m c 4 t)) (iblk m c 9 t) (ix2 (y 0) ⟨(y 1).val, hy⟩)
      else k0_pay1 (F := Ideal) (k0_pay89 (gate (iblk m c 0 t) (iblk m c 5 t) (iblk m c 6 t) (iblk m c 7 t) (iblk m c 8 t))) (iblk m c 10 t)
        (ix2 (y 0) ⟨(y 1).val - 1024, by have h1 : (y 1).val < 2048 := (y 1).isLt; omega⟩) := by
  unfold outsAt0
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  frame_out
  repeat rw [Memref.IsWhole.read_unread]
  canon_tiles x h
  · refine Eq.trans (b := k0_pay1 (k0_pay89 (gate x0 x5 x6 x7 x8)) x10 x)
      (congrFun (congrArg (fun B => k0_pay1 (F := Ideal) (k0_pay89 B) x10) (?_ : _ = gate x0 x5 x6 x7 x8)) x) ?_
    · funext y'
      rw [View.readCov_eq_canon']
      canon_tiles x' h'
      all_goals rw [Rect.idx_unit_val] at h'0 h'1
      · exact gate_at x0 x5 x6 x7 x8 ⟨7, by decide⟩ x' y' (by simpa using h'0) (by simpa using h'1)
      · exact gate_at x0 x5 x6 x7 x8 ⟨6, by decide⟩ x' y' (by simpa using h'0) (by simpa using h'1)
      · exact gate_at x0 x5 x6 x7 x8 ⟨5, by decide⟩ x' y' (by simpa using h'0) (by simpa using h'1)
      · exact gate_at x0 x5 x6 x7 x8 ⟨4, by decide⟩ x' y' (by simpa using h'0) (by simpa using h'1)
      · exact gate_at x0 x5 x6 x7 x8 ⟨3, by decide⟩ x' y' (by simpa using h'0) (by simpa using h'1)
      · exact gate_at x0 x5 x6 x7 x8 ⟨2, by decide⟩ x' y' (by simpa using h'0) (by simpa using h'1)
      · exact gate_at x0 x5 x6 x7 x8 ⟨1, by decide⟩ x' y' (by simpa using h'0) (by simpa using h'1)
      · exact gate_at x0 x5 x6 x7 x8 ⟨0, by decide⟩ x' y' (by simpa using h'0) (by simpa using h'1)
    · rw [dif_neg (by omega)]
      congr 1
      funext b
      match b with
      | ⟨0, _⟩ => exact Fin.ext h0.symm
      | ⟨1, _⟩ => exact Fin.ext (by show (x 1).val = _; simp; omega)
  · have H := fun (h : Fin 16) (k : Fin 2) => heads (k0_pay3 (grid0.coords t)) k0_pay4 x2
      (k0_pay5 (cols 64 (128 + 64 * k.val) (by omega) x1) (cols 64 (1152 + 64 * k.val) (by omega) x0))
      (k0_pay6 (cols 64 (64 * k.val) (by omega) x1) (cols 64 (1024 + 64 * k.val) (by omega) x0)) (k0_pay7 x3) (keys x0 x1 x3 k) (vals x0 x1 k)
      (cols 64 (64 * h.val) (by omega) x0)
      (View.ld (Val := Elt Ideal) (e' := .f32) x4 (Rect.unit (s := S16) ![h.val] ![1] (inb_entry h.isLt)) (Shape.Idx.first (lt_of_lt_of_eq Nat.one_pos numel1_S1.symm)))
    refine Eq.trans (b := k0_pay58 (attention (grid0.coords t) x0 x1 x2 x3 x4) x9 x)
      (congrFun (congrArg (fun B => k0_pay58 (F := Ideal) B x9) (?_ : _ = attention (grid0.coords t) x0 x1 x2 x3 x4)) x) ?_
    · funext y'
      rw [View.readCov_eq_canon']
      canon_tiles x' h'
      all_goals rw [Rect.idx_unit_val] at h'0 h'1
      · exact (congrFun (H ⟨15, by decide⟩ ⟨1, by decide⟩).2.2.2.2.2.2.2.2.2.2.2.2.2.2.2 x').trans
          (attention_at (grid0.coords t) x0 x1 x2 x3 x4 ⟨15, by decide⟩ ⟨1, by decide⟩ rfl x' y' (by simpa using h'0) (by simpa using h'1))
      · exact (congrFun (H ⟨14, by decide⟩ ⟨1, by decide⟩).2.2.2.2.2.2.2.2.2.2.2.2.2.2.1 x').trans
          (attention_at (grid0.coords t) x0 x1 x2 x3 x4 ⟨14, by decide⟩ ⟨1, by decide⟩ rfl x' y' (by simpa using h'0) (by simpa using h'1))
      · exact (congrFun (H ⟨13, by decide⟩ ⟨1, by decide⟩).2.2.2.2.2.2.2.2.2.2.2.2.2.1 x').trans
          (attention_at (grid0.coords t) x0 x1 x2 x3 x4 ⟨13, by decide⟩ ⟨1, by decide⟩ rfl x' y' (by simpa using h'0) (by simpa using h'1))
      · exact (congrFun (H ⟨12, by decide⟩ ⟨1, by decide⟩).2.2.2.2.2.2.2.2.2.2.2.2.1 x').trans
          (attention_at (grid0.coords t) x0 x1 x2 x3 x4 ⟨12, by decide⟩ ⟨1, by decide⟩ rfl x' y' (by simpa using h'0) (by simpa using h'1))
      · exact (congrFun (H ⟨11, by decide⟩ ⟨1, by decide⟩).2.2.2.2.2.2.2.2.2.2.2.1 x').trans
          (attention_at (grid0.coords t) x0 x1 x2 x3 x4 ⟨11, by decide⟩ ⟨1, by decide⟩ rfl x' y' (by simpa using h'0) (by simpa using h'1))
      · exact (congrFun (H ⟨10, by decide⟩ ⟨1, by decide⟩).2.2.2.2.2.2.2.2.2.2.1 x').trans
          (attention_at (grid0.coords t) x0 x1 x2 x3 x4 ⟨10, by decide⟩ ⟨1, by decide⟩ rfl x' y' (by simpa using h'0) (by simpa using h'1))
      · exact (congrFun (H ⟨9, by decide⟩ ⟨1, by decide⟩).2.2.2.2.2.2.2.2.2.1 x').trans
          (attention_at (grid0.coords t) x0 x1 x2 x3 x4 ⟨9, by decide⟩ ⟨1, by decide⟩ rfl x' y' (by simpa using h'0) (by simpa using h'1))
      · exact (congrFun (H ⟨8, by decide⟩ ⟨1, by decide⟩).2.2.2.2.2.2.2.2.1 x').trans
          (attention_at (grid0.coords t) x0 x1 x2 x3 x4 ⟨8, by decide⟩ ⟨1, by decide⟩ rfl x' y' (by simpa using h'0) (by simpa using h'1))
      · exact (congrFun (H ⟨7, by decide⟩ ⟨0, by decide⟩).2.2.2.2.2.2.2.1 x').trans
          (attention_at (grid0.coords t) x0 x1 x2 x3 x4 ⟨7, by decide⟩ ⟨0, by decide⟩ rfl x' y' (by simpa using h'0) (by simpa using h'1))
      · exact (congrFun (H ⟨6, by decide⟩ ⟨0, by decide⟩).2.2.2.2.2.2.1 x').trans
          (attention_at (grid0.coords t) x0 x1 x2 x3 x4 ⟨6, by decide⟩ ⟨0, by decide⟩ rfl x' y' (by simpa using h'0) (by simpa using h'1))
      · exact (congrFun (H ⟨5, by decide⟩ ⟨0, by decide⟩).2.2.2.2.2.1 x').trans
          (attention_at (grid0.coords t) x0 x1 x2 x3 x4 ⟨5, by decide⟩ ⟨0, by decide⟩ rfl x' y' (by simpa using h'0) (by simpa using h'1))
      · exact (congrFun (H ⟨4, by decide⟩ ⟨0, by decide⟩).2.2.2.2.1 x').trans
          (attention_at (grid0.coords t) x0 x1 x2 x3 x4 ⟨4, by decide⟩ ⟨0, by decide⟩ rfl x' y' (by simpa using h'0) (by simpa using h'1))
      · exact (congrFun (H ⟨3, by decide⟩ ⟨0, by decide⟩).2.2.2.1 x').trans
          (attention_at (grid0.coords t) x0 x1 x2 x3 x4 ⟨3, by decide⟩ ⟨0, by decide⟩ rfl x' y' (by simpa using h'0) (by simpa using h'1))
      · exact (congrFun (H ⟨2, by decide⟩ ⟨0, by decide⟩).2.2.1 x').trans
          (attention_at (grid0.coords t) x0 x1 x2 x3 x4 ⟨2, by decide⟩ ⟨0, by decide⟩ rfl x' y' (by simpa using h'0) (by simpa using h'1))
      · exact (congrFun (H ⟨1, by decide⟩ ⟨0, by decide⟩).2.1 x').trans
          (attention_at (grid0.coords t) x0 x1 x2 x3 x4 ⟨1, by decide⟩ ⟨0, by decide⟩ rfl x' y' (by simpa using h'0) (by simpa using h'1))
      · exact (congrFun (H ⟨0, by decide⟩ ⟨0, by decide⟩).1 x').trans
          (attention_at (grid0.coords t) x0 x1 x2 x3 x4 ⟨0, by decide⟩ ⟨0, by decide⟩ rfl x' y' (by simpa using h'0) (by simpa using h'1))
    · rw [dif_pos (by omega)]
      congr 1
      funext b
      match b with
      | ⟨0, _⟩ => exact Fin.ext h0.symm
      | ⟨1, _⟩ => exact Fin.ext (by show (x 1).val = _; simp; omega)

end Cert.MixerIdeal.Values

end
-- ==== Proof.MixerSpec.lean ====
/-
  The forward mixer as one function of its arguments, over the real numbers. Rows come in 32 blocks of 128, 16 to a sequence; a query
  sees the keys of its own block and of the block before, at most 127 rows back and none after it.
-/
module

public import proofs.«01_k».proof.Proof.Mixing

@[expose] public section

noncomputable section

open Idealize.ShloMosaic Idealize.ShloMosaic.TcCoe Idealize.SL.Sem

namespace Cert.Mixing

/-- An entry of a row, by a natural number. -/
def at1 {n : ℕ} (X : (⟨1, ![n]⟩ : Shape).Idx → EReal) (a : ℕ) : EReal := if h : a < n then X (ix1 ⟨a, h⟩) else 0

/-- An entry of a matrix, by two natural numbers. -/
def at2 {r c : ℕ} (X : (⟨2, ![r, c]⟩ : Shape).Idx → EReal) (a b : ℕ) : EReal := if h : a < r ∧ b < c then X (ix2 ⟨a, h.1⟩ ⟨b, h.2⟩) else 0

/-- An entry of a stack, by three natural numbers. -/
def at3 {n r c : ℕ} (X : (⟨3, ![n, r, c]⟩ : Shape).Idx → EReal) (g a b : ℕ) : EReal :=
  if h : g < n ∧ a < r ∧ b < c then X (ix3 ⟨g, h.1⟩ ⟨a, h.2.1⟩ ⟨b, h.2.2⟩) else 0

/-- An entry read at an index is the entry at its coordinate. -/
theorem at1_of {n : ℕ} (X : (⟨1, ![n]⟩ : Shape).Idx → EReal) (i : (⟨1, ![n]⟩ : Shape).Idx) {a : ℕ} (h0 : (i 0).val = a) : X i = at1 X a := by
  subst h0
  unfold at1
  rw [dif_pos (show (i 0).val < n from (i 0).isLt)]
  congr 1
  funext d
  match d with
  | ⟨0, _⟩ => rfl

/-- The same of a matrix, -/
theorem at2_of {r c : ℕ} (X : (⟨2, ![r, c]⟩ : Shape).Idx → EReal) (i : (⟨2, ![r, c]⟩ : Shape).Idx) {a b : ℕ} (h0 : (i 0).val = a) (h1 : (i 1).val = b) :
    X i = at2 X a b := by
  subst h0 h1
  unfold at2
  rw [dif_pos (show (i 0).val < r ∧ (i 1).val < c from ⟨(i 0).isLt, (i 1).isLt⟩)]
  congr 1
  funext d
  match d with
  | ⟨0, _⟩ => rfl
  | ⟨1, _⟩ => rfl

/-- and of a stack. -/
theorem at3_of {n r c : ℕ} (X : (⟨3, ![n, r, c]⟩ : Shape).Idx → EReal) (i : (⟨3, ![n, r, c]⟩ : Shape).Idx) {g a b : ℕ} (h0 : (i 0).val = g)
    (h1 : (i 1).val = a) (h2 : (i 2).val = b) : X i = at3 X g a b := by
  subst h0 h1 h2
  unfold at3
  rw [dif_pos (show (i 0).val < n ∧ (i 1).val < r ∧ (i 2).val < c from ⟨(i 0).isLt, (i 1).isLt, (i 2).isLt⟩)]
  congr 1
  funext d
  match d with
  | ⟨0, _⟩ => rfl
  | ⟨1, _⟩ => rfl
  | ⟨2, _⟩ => rfl

/-- How far back a key lies from a query; the keys of the block before come first. -/
def far (q k : ℕ) : BitVec 32 := IntOp.subi (IntOp.addi (BitVec.ofNat 32 q) 128#32) (BitVec.ofNat 32 k)

/-- Whether a query sees a key; `f` says whether there is a block before in the sequence. -/
def live (f : BitVec 1) (q k : ℕ) : BitVec 1 :=
  IntOp.andi (IntOp.andi (IntOp.cmpi .sge (far q k) 0#32) (IntOp.cmpi .slt (far q k) 128#32)) (IntOp.ori (IntOp.cmpi .sge (BitVec.ofNat 32 k) 128#32) f)

/-- Whether a block has one before it in its sequence. -/
def later (b : ℕ) : BitVec 1 := if b % 16 = 0 then 0#1 else 1#1

/-- A key that is seen lies in the query's own block, or there is a block before. -/
theorem live_later (b q : ℕ) (k : Fin 256) (h : live (later b) q k.val = 1#1) : 128 ≤ k.val ∨ b % 16 ≠ 0 := by
  by_contra hn
  rw [not_or, not_not] at hn
  have hk : ∀ k : Fin 256, ¬ 128 ≤ k.val → IntOp.ori (IntOp.cmpi .sge (BitVec.ofNat 32 k.val) 128#32) 0#1 = 0#1 := by decide +kernel
  have ha : ∀ x : BitVec 1, IntOp.andi x 0#1 = 0#1 := by decide
  unfold live later at h
  rw [if_pos hn.2, hk k hn.1, ha] at h
  exact absurd h (by decide)

/-- The slope of a head. -/
def steep (h : Fin 16) : EReal := (((2 : ℝ) ^ (-((h.val : ℝ) + 1) / 2) : ℝ) : EReal)

section
variable (P : (⟨2, ![4096, 3328]⟩ : Shape).Idx → EReal) (gq gk : (⟨2, ![1, 64]⟩ : Shape).Idx → EReal) (sinks : (⟨1, ![16]⟩ : Shape).Idx → EReal)
  (lng lnb : (⟨2, ![8, 128]⟩ : Shape).Idx → EReal) (ws : (⟨3, ![8, 128, 128]⟩ : Shape).Idx → EReal) (bst : (⟨2, ![128, 8]⟩ : Shape).Idx → EReal)
  (goa gog : (⟨2, ![1, 1024]⟩ : Shape).Idx → EReal)

/-- A head's query at a row of a block. -/
def query (b q h : ℕ) (e : Fin 64) : EReal :=
  normed (Ideal.ofBits .f32 0x42800000#32) (fun e : Fin 64 => at2 P (128 * b + q) (64 * h + e.val)) (fun e => at2 gq 0 e.val) e

/-- A key of the two blocks that end with a block, for one half of the heads. -/
def key (b kv k : ℕ) (e : Fin 64) : EReal :=
  normed (Ideal.ofBits .f32 0x42800000#32) (fun e : Fin 64 => at2 P (128 * b + k - 128) (1024 + 64 * kv + e.val)) (fun e => at2 gk 0 e.val) e

/-- A query's scores. -/
def logits (b q : ℕ) (h : Fin 16) (k : Fin 256) : EReal :=
  logit (steep h) (live (later b) q k.val) (FloatOps.sitofp (F := Ideal) .f32 (far q k.val))
    (∑ e : Fin 64, (query P gq b q h.val e * key P gk b (h.val / 8) k.val e : EReal))

/-- A head's attention at a row of a block and a column of the head. -/
def att (b q : ℕ) (h : Fin 16) (e : ℕ) : EReal :=
  attend (logits P gq gk b q h) (at1 sinks h.val) (fun k => at2 P (128 * b + k.val - 128) (1152 + 64 * (h.val / 8) + e))

/-- A group's gated unit at a row of a block and a column of the group. -/
def gated (b q g : ℕ) (d : Fin 128) : EReal :=
  gelu root (at2 P (128 * b + q) (1280 + 128 * g + d.val))
    * ((∑ k : Fin 128, (Scalar.select (IntOp.cmpi .sge (BitVec.ofNat 32 q) (BitVec.ofNat 32 k.val)) (at3 ws g q k.val) 0
        * layerNorm (fun d : Fin 128 => gelu root (at2 P (128 * b + k.val) (2304 + 128 * g + d.val))) (fun d => at2 lng g d.val) (fun d => at2 lnb g d.val) d : EReal))
      + at2 bst q g)

/-- An entry of the result: the heads side by side, then the groups side by side, each half with its rows normalized. -/
def mixed (b q c : ℕ) : EReal :=
  if h : c < 1024 then
    normed (Ideal.ofBits .f32 0x44800000#32) (fun d : Fin 1024 => att P gq gk sinks b q ⟨d.val / 64, by omega⟩ (d.val % 64)) (fun d => at2 goa 0 d.val) ⟨c, h⟩
  else if h' : c - 1024 < 1024 then
    normed (Ideal.ofBits .f32 0x44800000#32) (fun d : Fin 1024 => gated P lng lnb ws bst b q (d.val / 128) ⟨d.val % 128, by omega⟩) (fun d => at2 gog 0 d.val)
      ⟨c - 1024, h'⟩
  else 0

end

/-- A score depends on the product only where the key is seen. -/
theorem logit_congr (sl : EReal) (v : BitVec 1) (d z z' : EReal) (h : v = 1#1 → z = z') : logit sl v d z = logit sl v d z' := by
  unfold logit Scalar.select
  by_cases hv : v = 1#1
  · rw [h hv]
  · simp [hv]

/-- A key that is not seen has no score. -/
theorem logit_bot (sl : EReal) (v : BitVec 1) (d z : EReal) (h : ¬ v = 1#1) : logit sl v d z = ⊥ := by
  unfold logit Scalar.select
  simp [h]

/-- A key without a score has no weight, so its value does not matter. -/
theorem attend_congr (L L' : Fin 256 → EReal) (s : EReal) (v v' : Fin 256 → EReal) (hL : ∀ k, L k = L' k) (hv : ∀ k, L k ≠ ⊥ → v k = v' k) :
    attend L s v = attend L' s v' := by
  obtain rfl : L = L' := funext hL
  unfold attend
  refine Finset.sum_congr rfl fun k _ => ?_
  by_cases h : L k = ⊥
  · have hp : prob L s k = 0 := by
      unfold prob
      rw [h, EReal.bot_sub, show Ideal.exp ⊥ = 0 from rfl, zero_mul]
    rw [hp, zero_mul, zero_mul]
  · rw [hv k h]

/-- Even heads' slopes, -/
theorem steep_even (j : ℕ) (h : 2 * j < 16) : steep ⟨2 * j, h⟩ = (((2 ^ j * Real.sqrt 2)⁻¹ : ℝ) : EReal) := by
  unfold steep
  congr 1
  have e : -(((2 * j : ℕ) : ℝ) + 1) / 2 = -((j : ℝ) + 1 / 2) := by push_cast; ring
  rw [e, Real.rpow_neg (by norm_num), Real.rpow_add (by norm_num), Real.rpow_natCast, Real.sqrt_eq_rpow]

/-- and odd ones'. -/
theorem steep_odd (j : ℕ) (h : 2 * j + 1 < 16) : steep ⟨2 * j + 1, h⟩ = (((2 ^ (j + 1))⁻¹ : ℝ) : EReal) := by
  unfold steep
  congr 1
  have e : -(((2 * j + 1 : ℕ) : ℝ) + 1) / 2 = -((j + 1 : ℕ) : ℝ) := by push_cast; ring
  rw [e, Real.rpow_neg (by norm_num), Real.rpow_natCast]

end Cert.Mixing

end
-- ==== Proof.MixerValues.lean ====
/-
  What the forward mixer leaves in its result, over the real numbers: every entry the mixer's value at its row and column.
-/
module

public import proofs.«01_k».proof.Proof.Gen.MixerIdeal.Value
public import proofs.«01_k».proof.Proof.MixerBlock
public import proofs.«01_k».proof.Proof.MixerSpec
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MixerIdeal.Values

open Cert.MixerIdeal Cert.MixerIdeal.Gen Cert.Mixing

/-- Columns of a block, at a row and a column. -/
theorem cols_apply {r c w o : ℕ} (h : o + w ≤ c) (x : FVec Ideal ⟨2, ![r, c]⟩ .f32) (j : (⟨2, ![r, w]⟩ : Shape).Idx) :
    cols w o h x j = at2 x (j 0).val (o + (j 1).val) :=
  at2_of x _ (by rw [Rect.idx_unit_val]; simp) (by rw [Rect.idx_unit_val]; simp)

/-- The kernel's test of a key is the mixer's. -/
theorem test_eq (i : grid0.Coords) (q : Fin 128) (k : Fin 256) (b : ℕ) (hi : (i 1).val = b % 16) : k0_pay3 i (ix2 q k) = live (later b) q.val k.val := by
  have hf : ∀ n : Fin 16, Scalar.xori (Scalar.cmpi .eq (BitVec.ofNat 32 n.val) 0#32) 1#1 = if n.val = 0 then 0#1 else 1#1 := by decide
  have hb : b % 16 < 16 := Nat.mod_lt _ (by decide)
  pointwise [k0_pay3, k0_pay2]
  rw [hi]
  unfold live later far
  rw [hf ⟨b % 16, hb⟩]

/-- The kernel's distances are the mixer's. -/
theorem dist_eq (q : Fin 128) (k : Fin 256) : k0_pay4 (F := Ideal) (ix2 q k) = FloatOps.sitofp (F := Ideal) .f32 (far q.val k.val) := by
  pointwise [k0_pay4, k0_pay2, far]

/-- The kernel's test of a row against a column. -/
theorem tril_eq (q k : Fin 128) : k0_pay59 (ix2 q k) = IntOp.cmpi .sge (BitVec.ofNat 32 q.val) (BitVec.ofNat 32 k.val) := by
  pointwise [k0_pay59]

/-- The kernel's slopes are the mixer's. -/
theorem slope_eq (h : Fin 16) : slope h = steep h := by
  have e0 := steep_even 0 (by decide)
  have o0 := steep_odd 0 (by decide)
  have e1 := steep_even 1 (by decide)
  have o1 := steep_odd 1 (by decide)
  have e2 := steep_even 2 (by decide)
  have o2 := steep_odd 2 (by decide)
  have e3 := steep_even 3 (by decide)
  have o3 := steep_odd 3 (by decide)
  have e4 := steep_even 4 (by decide)
  have o4 := steep_odd 4 (by decide)
  have e5 := steep_even 5 (by decide)
  have o5 := steep_odd 5 (by decide)
  have e6 := steep_even 6 (by decide)
  have o6 := steep_odd 6 (by decide)
  have e7 := steep_even 7 (by decide)
  have o7 := steep_odd 7 (by decide)
  have hs : ∀ (name : String) (bits : BitVec 32) (v : EReal), Cert.MixerIdeal.κ name = some v → Named.named (F := Ideal) κ name (φ := .f32) bits = v :=
    fun _ _ _ h => IdealRules.named_const.ideal_named_scalar _ _ _ _ h
  match h with
  | ⟨0, _⟩ => exact (hs "slope0" _ _ rfl).trans (e0.trans (by norm_num)).symm
  | ⟨1, _⟩ => exact (show Ideal.ofBits .f32 0x3F000000#32 = _ by simp [Ideal.ofBits, Ideal.ieee]; rw [← EReal.coe_mul]; congr 1; norm_num).trans o0.symm
  | ⟨2, _⟩ => exact (hs "slope2" _ _ rfl).trans (e1.trans (by norm_num)).symm
  | ⟨3, _⟩ => exact (show Ideal.ofBits .f32 0x3E800000#32 = _ by simp [Ideal.ofBits, Ideal.ieee]; rw [← EReal.coe_mul]; congr 1; norm_num).trans o1.symm
  | ⟨4, _⟩ => exact (hs "slope4" _ _ rfl).trans (e2.trans (by norm_num)).symm
  | ⟨5, _⟩ => exact (show Ideal.ofBits .f32 0x3E000000#32 = _ by simp [Ideal.ofBits, Ideal.ieee]; rw [← EReal.coe_mul]; congr 1; norm_num).trans o2.symm
  | ⟨6, _⟩ => exact (hs "slope6" _ _ rfl).trans (e3.trans (by norm_num)).symm
  | ⟨7, _⟩ => exact (show Ideal.ofBits .f32 0x3D800000#32 = _ by simp [Ideal.ofBits, Ideal.ieee]; rw [← EReal.coe_mul]; congr 1; norm_num).trans o3.symm
  | ⟨8, _⟩ => exact (hs "slope8" _ _ rfl).trans (e4.trans (by norm_num)).symm
  | ⟨9, _⟩ => exact (show Ideal.ofBits .f32 0x3D000000#32 = _ by simp [Ideal.ofBits, Ideal.ieee]; rw [← EReal.coe_mul]; congr 1; norm_num).trans o4.symm
  | ⟨10, _⟩ => exact (hs "slope10" _ _ rfl).trans (e5.trans (by norm_num)).symm
  | ⟨11, _⟩ => exact (show Ideal.ofBits .f32 0x3C800000#32 = _ by simp [Ideal.ofBits, Ideal.ieee]; rw [← EReal.coe_mul]; congr 1; norm_num).trans o5.symm
  | ⟨12, _⟩ => exact (hs "slope12" _ _ rfl).trans (e6.trans (by norm_num)).symm
  | ⟨13, _⟩ => exact (show Ideal.ofBits .f32 0x3C000000#32 = _ by simp [Ideal.ofBits, Ideal.ieee]; rw [← EReal.coe_mul]; congr 1; norm_num).trans o6.symm
  | ⟨14, _⟩ => exact (hs "slope14" _ _ rfl).trans (e7.trans (by norm_num)).symm
  | ⟨15, _⟩ => exact (show Ideal.ofBits .f32 0x3B800000#32 = _ by simp [Ideal.ofBits, Ideal.ieee]; rw [← EReal.coe_mul]; congr 1; norm_num).trans o7.symm
  | ⟨n + 16, hn⟩ => exact absurd hn (by omega)

section
variable {P : (⟨2, ![4096, 3328]⟩ : Shape).Idx → EReal} {x0 : FVec Ideal S128x3328 .f32} {x1 : FVec Ideal S128x256 .f32} {t : ℕ}

/-- The keys of a half of the heads, where there is a block before or the key lies in the query's own. -/
theorem keys_row (h0 : ∀ a b, a < 128 → b < 3328 → at2 x0 a b = at2 P (128 * t + a) b)
    (h1 : ∀ a b, a < 128 → b < 256 → at2 x1 a b = at2 P (128 * (t / 16 * 16 + (t % 16 - 1)) + a) (1024 + b))
    (x3 : FVec Ideal S1x64 .f32) (kv : Fin 2) (k : Fin 256) (hk : 128 ≤ k.val ∨ t % 16 ≠ 0) (e : Fin 64) :
    keys x0 x1 x3 kv (ix2 k e) = key P x3 t kv.val k.val e := by
  unfold keys key
  rw [keys_apply]
  have e1 : (fun e : Fin 64 => (if h : k.val < 128 then cols 64 (64 * kv.val) (by omega) x1 (ix2 ⟨k.val, h⟩ e)
      else cols 64 (1024 + 64 * kv.val) (by omega) x0 (ix2 ⟨k.val - 128, by omega⟩ e) : EReal))
      = fun e : Fin 64 => at2 P (128 * t + k.val - 128) (1024 + 64 * kv.val + e.val) := by
    funext e
    by_cases h : k.val < 128
    · rw [dif_pos h, cols_apply]
      show at2 x1 k.val (64 * kv.val + e.val) = _
      rw [h1 _ _ h (by omega)]
      congr 1 <;> omega
    · rw [dif_neg h, cols_apply]
      show at2 x0 (k.val - 128) (1024 + 64 * kv.val + e.val) = _
      rw [h0 _ _ (by omega) (by omega)]
      congr 1; omega
  have e2 : (fun e : Fin 64 => x3 (ix2 0 e)) = fun e => at2 x3 0 e.val := funext fun e => at2_of x3 _ rfl rfl
  rw [e1, e2]

/-- The values likewise. -/
theorem vals_row (h0 : ∀ a b, a < 128 → b < 3328 → at2 x0 a b = at2 P (128 * t + a) b)
    (h1 : ∀ a b, a < 128 → b < 256 → at2 x1 a b = at2 P (128 * (t / 16 * 16 + (t % 16 - 1)) + a) (1024 + b))
    (kv : Fin 2) (k : Fin 256) (hk : 128 ≤ k.val ∨ t % 16 ≠ 0) (e : Fin 64) :
    vals x0 x1 kv (ix2 k e) = at2 P (128 * t + k.val - 128) (1152 + 64 * kv.val + e.val) := by
  unfold vals
  rw [vals_apply]
  by_cases h : k.val < 128
  · rw [dif_pos h, cols_apply]
    show at2 x1 k.val (128 + 64 * kv.val + e.val) = _
    rw [h1 _ _ h (by omega)]
    congr 1 <;> omega
  · rw [dif_neg h, cols_apply]
    show at2 x0 (k.val - 128) (1152 + 64 * kv.val + e.val) = _
    rw [h0 _ _ (by omega) (by omega)]
    congr 1; omega

/-- An entry of the heads side by side is the mixer's attention. -/
theorem attention_row (h0 : ∀ a b, a < 128 → b < 3328 → at2 x0 a b = at2 P (128 * t + a) b)
    (h1 : ∀ a b, a < 128 → b < 256 → at2 x1 a b = at2 P (128 * (t / 16 * 16 + (t % 16 - 1)) + a) (1024 + b))
    (i : grid0.Coords) (hi : (i 1).val = t % 16) (x2 x3 : FVec Ideal S1x64 .f32) (x4 : FVec Ideal S16 .f32) (q : Fin 128) (d : Fin 1024) :
    attention i x0 x1 x2 x3 x4 (ix2 q d) = att P x2 x3 x4 t q.val ⟨d.val / 64, by omega⟩ (d.val % 64) := by
  unfold attention headOf att
  rw [head_apply]
  have es : ∀ (h : Fin 16) (hb) (p), View.ld (Val := Elt Ideal) (e' := .f32) x4 (Rect.unit (s := S16) ![h.val] ![1] hb) (Shape.Idx.first p) = at1 x4 h.val :=
    fun h hb p => at1_of x4 _ (by rw [Rect.idx_unit_val]; rfl)
  rw [es]
  refine attend_congr _ _ _ _ _ (fun k => ?_) (fun k hk => ?_)
  · unfold logits
    show logit (slope ⟨d.val / 64, _⟩) (k0_pay3 i (ix2 q k)) (k0_pay4 (F := Ideal) (ix2 q k)) _ = _
    rw [test_eq i q k t hi, dist_eq, slope_eq]
    refine logit_congr _ _ _ _ _ fun hv => Finset.sum_congr rfl fun e _ => ?_
    rw [keys_row h0 h1 x3 _ k (live_later _ _ _ hv)]
    congr 1
    · unfold query
      have e1 : (fun e : Fin 64 => cols 64 (64 * (d.val / 64)) (by omega) x0 (ix2 q e)) = fun e : Fin 64 => at2 P (128 * t + q.val) (64 * (d.val / 64) + e.val) := by
        funext e
        rw [cols_apply]
        exact h0 _ _ q.isLt (by show 64 * (d.val / 64) + e.val < 3328; omega)
      have e2 : (fun e : Fin 64 => x2 (ix2 0 e)) = fun e => at2 x2 0 e.val := funext fun e => at2_of x2 _ rfl rfl
      exact congrArg₂ (fun X G => normed _ X G e) e1 e2
    · show key P x3 t (d.val / 512) k.val e = key P x3 t (d.val / 64 / 8) k.val e
      rw [Nat.div_div_eq_div_mul]
  · have hv : live (later t) q.val k.val = 1#1 := by
      by_contra hn
      refine hk ?_
      show logit (slope ⟨d.val / 64, _⟩) (k0_pay3 i (ix2 q k)) (k0_pay4 (F := Ideal) (ix2 q k)) _ = _
      rw [test_eq i q k t hi]
      exact logit_bot _ _ _ _ hn
    refine (vals_row h0 h1 _ k (live_later _ _ _ hv) _).trans ?_
    show at2 P _ (1152 + 64 * (d.val / 512) + d.val % 64) = _
    rw [Nat.div_div_eq_div_mul]

/-- An entry of the groups side by side is the mixer's gated unit. -/
theorem gate_row (h0 : ∀ a b, a < 128 → b < 3328 → at2 x0 a b = at2 P (128 * t + a) b)
    (x5 x6 : FVec Ideal S8x128 .f32) (x7 : FVec Ideal S8x128x128 .f32) (x8 : FVec Ideal S128x8 .f32) (q : Fin 128) (d : Fin 1024) :
    gate x0 x5 x6 x7 x8 (ix2 q d) = gated P x5 x6 x7 x8 t q.val (d.val / 128) ⟨d.val % 128, by omega⟩ := by
  unfold gate groupOf gated
  rw [group_apply]
  have hd : d.val / 128 < 8 := by omega
  have e1 : ∀ (q : Fin 128) (o : ℕ) (ho : o + 128 ≤ 3328) (e : Fin 128), cols 128 o ho x0 (ix2 q e) = at2 P (128 * t + q.val) (o + e.val) := fun q o ho e => by
    rw [cols_apply]
    exact h0 _ _ q.isLt (by show o + e.val < 3328; omega)
  have e2 : ∀ (x : FVec Ideal S8x128 .f32) (hb) (e : Fin 128), extractStridedSlice S1x128 ![d.val / 128, 0] x hb (ix2 0 e) = at2 x (d.val / 128) e.val := fun x hb e =>
    at2_of x _ (by simp) (by simp)
  have e3 : ∀ (k : Fin 128) (hb), View.ld (Val := Elt Ideal) (e' := .f32) x7 (Rect.unit (s := S8x128x128) ![d.val / 128, 0, 0] ![1, 128, 128] hb) (ix3 0 q k) = at3 x7 (d.val / 128) q.val k.val :=
    fun k hb => at3_of x7 _ (by rw [Rect.idx_unit_val]; rfl) (by rw [Rect.idx_unit_val]; simp) (by rw [Rect.idx_unit_val]; simp)
  refine congrArg₂ (· * ·) (congrArg (gelu root) (e1 q _ _ ⟨d.val % 128, by omega⟩)) (congrArg₂ (· + ·) (Finset.sum_congr rfl fun k _ => congrArg₂ (· * ·) ?_ ?_) ?_)
  · exact congrArg₂ (fun v w => Scalar.select v w (0 : EReal)) (tril_eq q k) (e3 k _)
  · have l1 : (fun e : Fin 128 => gelu root (cols 128 (2304 + 128 * (d.val / 128)) (by omega) x0 (ix2 k e)))
        = fun e : Fin 128 => gelu root (at2 P (128 * t + k.val) (2304 + 128 * (d.val / 128) + e.val)) := funext fun e => congrArg (gelu root) (e1 k _ _ e)
    exact congr (congrArg₂ (fun X G => layerNorm X G) l1 (funext fun e => e2 x5 _ e)) (funext fun e => e2 x6 _ e) ▸ rfl
  · rw [cols_apply]
    rfl

end

/-- Where the blocks lie. -/
theorem idx : ∀ t : Fin cfg0.N, win0_0.index t = ![t.val, 0] ∧ win0_1.index t = ![t.val / 16 * 16 + (t.val % 16 - 1), 4] ∧ win0_2.index t = ![0, 0]
    ∧ win0_3.index t = ![0, 0] ∧ win0_4.index t = ![0] ∧ win0_5.index t = ![0, 0] ∧ win0_6.index t = ![0, 0] ∧ win0_7.index t = ![0, 0, 0]
    ∧ win0_8.index t = ![0, 0] ∧ win0_9.index t = ![0, 0] ∧ win0_10.index t = ![0, 0] ∧ win0_11.index t = ![t.val, 0] ∧ (grid0.coords t 1).val = t.val % 16 :=
  (by decide +kernel : ∀ t : Fin grid0.N, _)

variable (m : (ℓ : Loc nD τ sig) → Buf (Elt Ideal) ℓ)

/-- The call leaves the mixer's values. -/
theorem value (c : Dev nD) : (dats m 0 c).arrAt 11 cfg0.N = fun i : S4096x2048.Idx =>
    mixed (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) ((i 0).val / 128) ((i 0).val % 128) (i 1).val := by
  refine (dats m 0 c).arrAt_eq_of_covers 11 _ (by decide +kernel) fun t hf y => ?_
  blk_simp
  rw [after0_11, block_eq]
  have w2 : iblk m c 2 t = m ((c : Thread nD τ).loc main_arg1) := funext fun y => by blk_ext [iblk, V_main_arg1, idx t]
  have w3 : iblk m c 3 t = m ((c : Thread nD τ).loc main_arg2) := funext fun y => by blk_ext [iblk, V_main_arg2, idx t]
  have w4 : iblk m c 4 t = m ((c : Thread nD τ).loc main_arg3) := funext fun y => by blk_ext [iblk, V_main_arg3, idx t]
  have w5 : iblk m c 5 t = m ((c : Thread nD τ).loc main_arg4) := funext fun y => by blk_ext [iblk, V_main_arg4, idx t]
  have w6 : iblk m c 6 t = m ((c : Thread nD τ).loc main_arg5) := funext fun y => by blk_ext [iblk, V_main_arg5, idx t]
  have w7 : iblk m c 7 t = m ((c : Thread nD τ).loc main_arg6) := funext fun y => by blk_ext [iblk, V_main_arg6, idx t]
  have w8 : iblk m c 8 t = m ((c : Thread nD τ).loc main_arg7) := funext fun y => by blk_ext [iblk, V_main_arg7, idx t]
  have w9 : iblk m c 9 t = m ((c : Thread nD τ).loc main_arg8) := funext fun y => by blk_ext [iblk, V_main_arg8, idx t]
  have w10 : iblk m c 10 t = m ((c : Thread nD τ).loc main_arg9) := funext fun y => by blk_ext [iblk, V_main_arg9, idx t]
  rw [w2, w3, w4, w5, w6, w7, w8, w9, w10]
  have h0 : ∀ a b, a < 128 → b < 3328 → at2 (iblk m c 0 t) a b = at2 (m ((c : Thread nD τ).loc main_arg0)) (128 * t.val + a) b := fun a b ha hb => by
    refine (at2_of (iblk m c 0 t) (ix2 ⟨a, ha⟩ ⟨b, hb⟩) rfl rfl).symm.trans ?_
    show V m c main_arg0 (((cfg0.win 0).blk t).view.emb _) = _
    rw [V_main_arg0]
    refine at2_of _ _ ?_ ?_
    · show win0_0.index t 0 * 128 + 1 * a = _
      rw [(idx t).1]; show t.val * 128 + 1 * a = _; omega
    · show win0_0.index t 1 * 3328 + 1 * b = _
      rw [(idx t).1]; show 0 * 3328 + 1 * b = _; omega
  have h1 : ∀ a b, a < 128 → b < 256 → at2 (iblk m c 1 t) a b
      = at2 (m ((c : Thread nD τ).loc main_arg0)) (128 * (t.val / 16 * 16 + (t.val % 16 - 1)) + a) (1024 + b) := fun a b ha hb => by
    refine (at2_of (iblk m c 1 t) (ix2 ⟨a, ha⟩ ⟨b, hb⟩) rfl rfl).symm.trans ?_
    show V m c main_arg0 (((cfg0.win 1).blk t).view.emb _) = _
    rw [V_main_arg0]
    refine at2_of _ _ ?_ ?_
    · show win0_1.index t 0 * 128 + 1 * a = _
      rw [(idx t).2.1]; show (t.val / 16 * 16 + (t.val % 16 - 1)) * 128 + 1 * a = _; omega
    · show win0_1.index t 1 * 256 + 1 * b = _
      rw [(idx t).2.1]; show 4 * 256 + 1 * b = _; omega
  have hi := (idx t).2.2.2.2.2.2.2.2.2.2.2.2
  have ho := (idx t).2.2.2.2.2.2.2.2.2.2.2.1
  have hy0 : (y 0).val < 128 := (y 0).isLt
  have hy1 : (y 1).val < 2048 := (y 1).isLt
  rw [ho, show ((![t.val, 0] : Fin 2 → ℕ) 0 * 128 + (y 0).val) / 128 = t.val by show (t.val * 128 + (y 0).val) / 128 = t.val; omega,
    show ((![t.val, 0] : Fin 2 → ℕ) 0 * 128 + (y 0).val) % 128 = (y 0).val by show (t.val * 128 + (y 0).val) % 128 = (y 0).val; omega,
    show (![t.val, 0] : Fin 2 → ℕ) 1 * 2048 + (y 1).val = (y 1).val by show 0 * 2048 + (y 1).val = (y 1).val; omega]
  unfold mixed
  by_cases hy : (y 1).val < 1024
  · rw [dif_pos hy, dif_pos hy]
    refine (left_apply _ _ _).trans ?_
    exact congrArg₂ (fun X G => normed (n := 1024) _ X G ⟨(y 1).val, hy⟩) (funext fun d => attention_row h0 h1 _ hi _ _ _ (y 0) d)
      (funext fun d => at2_of _ _ rfl rfl)
  · have hy' : (y 1).val - 1024 < 1024 := by omega
    rw [dif_neg hy, dif_neg hy, dif_pos hy']
    refine (right_apply _ _ _).trans ?_
    exact congrArg₂ (fun X G => normed (n := 1024) _ X G ⟨(y 1).val - 1024, hy'⟩) (funext fun d => gate_row h0 _ _ _ _ (y 0) d)
      (funext fun d => at2_of _ _ rfl rfl)

end Cert.MixerIdeal.Values

end
-- ==== Proof.MixerRef.lean ====
/-
  What the forward mixer's reference leaves in its result, over the real numbers: the mixer's values.
-/
module

public import proofs.«01_k».proof.Proof.Gen.MixerRefIdeal.Run
public import proofs.«01_k».proof.Proof.Gen.MixerRefIdeal.Read
public import proofs.«01_k».proof.Proof.MixerSpec
public import Idealize.ShloMosaic.Lib.Pipeline.ValueKit
public import Idealize.ShloMosaic.Lib.Pointwise.Tactic

@[expose] public section

set_option maxRecDepth 16384

noncomputable section

open Idealize.ShloMosaic Idealize.ShloMosaic.TcCoe Idealize.SL.Sem

namespace Cert.MixerRefIdeal.Values

open Cert.MixerRefIdeal Cert.MixerRefIdeal.Read Cert.Mixing

variable (x0 : (⟨S4096x3328, .f32⟩ : BufTy).Contents (Elt Ideal)) (x1 x2 : (⟨S1x64, .f32⟩ : BufTy).Contents (Elt Ideal))
  (x3 : (⟨S16, .f32⟩ : BufTy).Contents (Elt Ideal)) (x4 x5 : (⟨S8x128, .f32⟩ : BufTy).Contents (Elt Ideal))
  (x6 : (⟨S8x128x128, .f32⟩ : BufTy).Contents (Elt Ideal)) (x7 : (⟨S128x8, .f32⟩ : BufTy).Contents (Elt Ideal))
  (x8 x9 : (⟨S1x1024, .f32⟩ : BufTy).Contents (Elt Ideal))

/-- The normalized queries. -/
theorem query_eq (b : Fin 32) (q : Fin 128) (kv : Fin 2) (g : Fin 8) (e : Fin 64) :
    val_main_v16 (F := Ideal) x0 x1 (ix5 b q kv g e) = query x0 x1 b.val q.val (8 * kv.val + g.val) e := by
  pointwise [val_main_v0, val_main_v1, val_main_v2, val_main_v3, val_main_v4, val_main_v5, val_main_v6, val_main_v7, val_main_v8, val_main_v9,
    val_main_v10, val_main_v11, val_main_v12, val_main_v13, val_main_v14, val_main_v15, val_main_v16, val_main_cst, val_main_cst_0,
    val_main_cst_1]
  have r : ∀ (e : Fin 64) (p p'), x0 (ix2 ⟨b.val * 128 + q.val, p⟩ ⟨kv.val * 512 + g.val * 64 + e.val, p'⟩)
      = at2 x0 (128 * b.val + q.val) (64 * (8 * kv.val + g.val) + e.val) := fun e p p' =>
    at2_of x0 _ (by show b.val * 128 + q.val = _; omega) (by show kv.val * 512 + g.val * 64 + e.val = _; omega)
  have r1 : x1 (ix2 0 e) = at2 x1 0 e.val := at2_of x1 _ rfl rfl
  simp only [r, r1]
  rfl

/-- A row's normalized keys. -/
theorem key_row (b : Fin 32) (k : Fin 128) (kv : Fin 2) (e : Fin 64) : val_main_v32 (F := Ideal) x0 x2 (ix4 b k kv e)
    = normed (Ideal.ofBits .f32 0x42800000#32) (fun e : Fin 64 => at2 x0 (128 * b.val + k.val) (1024 + 64 * kv.val + e.val)) (fun e => at2 x2 0 e.val) e := by
  pointwise [val_main_v17, val_main_v18, val_main_v19, val_main_v20, val_main_v21, val_main_v22, val_main_v23, val_main_v24, val_main_v25,
    val_main_v26, val_main_v27, val_main_v28, val_main_v29, val_main_v30, val_main_v31, val_main_v32, val_main_v0, val_main_cst_2,
    val_main_cst_3, val_main_cst_4]
  have r : ∀ (e : Fin 64) (p p'), x0 (ix2 ⟨b.val * 128 + k.val, p⟩ ⟨1024 + (kv.val * 64 + e.val), p'⟩)
      = at2 x0 (128 * b.val + k.val) (1024 + 64 * kv.val + e.val) := fun e p p' =>
    at2_of x0 _ (by show b.val * 128 + k.val = _; omega) (by show 1024 + (kv.val * 64 + e.val) = _; omega)
  have r1 : x2 (ix2 0 e) = at2 x2 0 e.val := at2_of x2 _ rfl rfl
  simp only [r, r1]
  rfl

/-- A row's values. -/
theorem val_row (b : Fin 32) (k : Fin 128) (kv : Fin 2) (e : Fin 64) : val_main_v34 (F := Ideal) x0 (ix4 b k kv e)
    = at2 x0 (128 * b.val + k.val) (1152 + 64 * kv.val + e.val) := by
  pointwise [val_main_v33, val_main_v34, val_main_v0]
  exact at2_of x0 _ (by show b.val * 128 + k.val = _; omega) (by show 1152 + (kv.val * 64 + e.val) = _; omega)

/-- The keys of a block and of the block before, where there is one or the key lies in the block itself. -/
theorem key_eq (b : Fin 32) (k : Fin 256) (hk : 128 ≤ k.val ∨ b.val % 16 ≠ 0) (kv : Fin 2) (e : Fin 64) :
    val_main_v39 (F := Ideal) x0 x2 (ix4 b k kv e) = key x0 x2 b.val kv.val k.val e := by
  pointwise [val_main_v35, val_main_v36, val_main_v37, val_main_v38, val_main_v39]
  unfold key
  by_cases h : k.val < 128
  · have hb : ¬ b.val < 1 := fun hb => hk.elim (fun h' => by omega) (fun h' => h' (by omega))
    rw [dif_pos h, dif_neg hb, key_row]
    rw [show 128 * (⟨b.val - 1, by omega⟩ : Fin 32).val + (⟨k.val, h⟩ : Fin 128).val = 128 * b.val + k.val - 128 by show 128 * (b.val - 1) + k.val = _; omega]
  · rw [dif_neg h, key_row]
    rw [show 128 * b.val + (⟨k.val - 128, by omega⟩ : Fin 128).val = 128 * b.val + k.val - 128 by show 128 * b.val + (k.val - 128) = _; omega]

/-- The values likewise. -/
theorem val_eq (b : Fin 32) (k : Fin 256) (hk : 128 ≤ k.val ∨ b.val % 16 ≠ 0) (kv : Fin 2) (e : Fin 64) :
    val_main_v118 (F := Ideal) x0 (ix4 b k kv e) = at2 x0 (128 * b.val + k.val - 128) (1152 + 64 * kv.val + e.val) := by
  pointwise [val_main_v114, val_main_v115, val_main_v116, val_main_v117, val_main_v118]
  by_cases h : k.val < 128
  · have hb : ¬ b.val < 1 := fun hb => hk.elim (fun h' => by omega) (fun h' => h' (by omega))
    rw [dif_pos h, dif_neg hb, val_row]
    rw [show 128 * (⟨b.val - 1, by omega⟩ : Fin 32).val + (⟨k.val, h⟩ : Fin 128).val = 128 * b.val + k.val - 128 by show 128 * (b.val - 1) + k.val = _; omega]
  · rw [dif_neg h, val_row]
    rw [show 128 * b.val + (⟨k.val - 128, by omega⟩ : Fin 128).val = 128 * b.val + k.val - 128 by show 128 * b.val + (k.val - 128) = _; omega]

/-- The reference's test of a key. -/
theorem test_eq (b : Fin 32) (q : Fin 128) (k : Fin 256) : val_main_v73 (F := Ideal) (ix3 b q k) = live (later b.val) q.val k.val := by
  have hf : ∀ b : Fin 32, (~~~IntOp.cmpi .eq (IntOp.remsi ArithUnit.host (BitVec.ofNat 32 b.val) 16#32) 0#32) = later b.val := by decide +kernel
  pointwise [val_main_v43, val_main_v44, val_main_v45, val_main_v46, val_main_v47, val_main_v48, val_main_v49, val_main_v50, val_main_v51,
    val_main_v52, val_main_v53, val_main_v54, val_main_v55, val_main_v56, val_main_v57, val_main_v58, val_main_v59, val_main_v60,
    val_main_v61, val_main_v62, val_main_v63, val_main_v64, val_main_v65, val_main_v66, val_main_v67, val_main_v68, val_main_v69,
    val_main_v70, val_main_v71, val_main_v72, val_main_v73, val_main_c, val_main_c_7, val_main_c_8, val_main_c_9, val_main_c_10,
    val_main_c_11]
  unfold live far
  rw [← hf b]

/-- The reference's slopes. -/
theorem slope_eq (kv : Fin 2) (g : Fin 8) : val_main_v82 (F := Ideal) (ix2 kv g) = steep ⟨8 * kv.val + g.val, by omega⟩ := by
  pointwise [val_main_v74, val_main_v75, val_main_v76, val_main_v77, val_main_v78, val_main_v79, val_main_v80, val_main_v81, val_main_v82,
    val_main_c_13, val_main_cst_12, val_main_cst_14]
  have h2 : Ideal.ofBits .f32 0x40000000#32 = ((2 : ℝ) : EReal) := by simp [Ideal.ofBits, Ideal.ieee]; rw [← EReal.coe_mul]; congr 1; norm_num
  have hm : Ideal.ofBits .f32 0xBF000000#32 = ((-(1 / 2) : ℝ) : EReal) := by simp [Ideal.ofBits, Ideal.ieee]; rw [← EReal.coe_mul]; congr 1; norm_num
  have hi : ∀ n : Fin 16, (IntOp.addi (BitVec.ofNat 32 n.val) 1#32).toInt = ((n.val + 1 : ℕ) : ℤ) := by decide
  have hn := hi ⟨kv.val * 8 + g.val, by omega⟩
  have hv : (FloatOps.sitofp (F := Ideal) .f32 (IntOp.addi (BitVec.ofNat 32 (kv.val * 8 + g.val)) 1#32) : EReal) = (((kv.val * 8 + g.val + 1 : ℕ) : ℝ) : EReal) := by
    show (((IntOp.addi (BitVec.ofNat 32 (kv.val * 8 + g.val)) 1#32).toInt : ℝ) : EReal) = _
    rw [hn, Int.cast_natCast]
  rw [h2, hm]
  refine (congrArg (fun z => Ideal.pow ((2 : ℝ) : EReal) (z * ((-(1 / 2) : ℝ) : EReal))) hv).trans ?_
  show Ideal.pow ((2 : ℝ) : EReal) ((((kv.val * 8 + g.val + 1 : ℕ) : ℝ) : EReal) * ((-(1 / 2) : ℝ) : EReal)) = _
  rw [← EReal.coe_mul]
  show (((2 : ℝ) ^ (((kv.val * 8 + g.val + 1 : ℕ) : ℝ) * -(1 / 2)) : ℝ) : EReal) = _
  unfold steep
  congr 2
  push_cast
  ring

/-- The reference's scores. -/
theorem logits_eq (b : Fin 32) (q : Fin 128) (kv : Fin 2) (g : Fin 8) (k : Fin 256) :
    val_main_v93 (F := Ideal) x0 x1 x2 (ix5 b kv q g k) = logits x0 x1 x2 b.val q.val ⟨8 * kv.val + g.val, by omega⟩ k := by
  have e : val_main_v93 (F := Ideal) x0 x1 x2 (ix5 b kv q g k) = logit (val_main_v82 (F := Ideal) (ix2 kv g)) (val_main_v73 (F := Ideal) (ix3 b q k))
      (val_main_v84 (F := Ideal) (ix2 q k)) (∑ e : Fin 64, (val_main_v16 (F := Ideal) x0 x1 (ix5 b q kv g e) * val_main_v39 (F := Ideal) x0 x2 (ix4 b k kv e) : EReal)) := by
    pointwise [val_main_v40, val_main_v41, val_main_v42, val_main_v83, val_main_v85, val_main_v86, val_main_v87, val_main_v88, val_main_v89,
    val_main_v90, val_main_v91, val_main_v92, val_main_v93, val_main_call0_v0, val_main_call0_v1, val_main_call0_v2, val_main_cst_6,
    val_main_cst_15, logit]
    exact congrArg (Scalar.select _ _) ofBits_bot
  have ed : val_main_v84 (F := Ideal) (ix2 q k) = FloatOps.sitofp (F := Ideal) .f32 (far q.val k.val) := by
    pointwise [val_main_v43, val_main_v44, val_main_v45, val_main_v46, val_main_v47, val_main_v48, val_main_v49, val_main_v50, val_main_v51,
    val_main_v84, val_main_c, far]
  rw [e, test_eq, slope_eq, ed]
  unfold logits
  refine logit_congr _ _ _ _ _ fun hv => Finset.sum_congr rfl fun e _ => ?_
  rw [query_eq, key_eq x0 x2 b k (live_later _ _ _ hv)]
  rw [show (8 * kv.val + g.val) / 8 = kv.val by omega]

/-- The greatest of a query's scores, the sink among them. -/
theorem top_eq (b : Fin 32) (q : Fin 128) (kv : Fin 2) (g : Fin 8) : val_main_v98 (F := Ideal) x0 x1 x2 x3 (ix4 b kv q g)
    = top (fun k : Fin 256 => val_main_v93 (F := Ideal) x0 x1 x2 (ix5 b kv q g k)) (x3 (ix1 ⟨kv.val * 8 + g.val, by omega⟩)) := by
  have h : val_main_v95 (F := Ideal) x0 x1 x2 (ix4 b kv q g)
      = Finset.univ.fold max (val_main_cst_16 (F := Ideal) (Shape.Idx.first Gen.h_S_)) (fun k : Fin 256 => val_main_v93 (F := Ideal) x0 x1 x2 (ix5 b kv q g k)) := by
    pointwise [val_main_v95]
  have hc : val_main_cst_16 (F := Ideal) (Shape.Idx.first Gen.h_S_) = ⊥ := ofBits_bot
  have hs : val_main_v97 (F := Ideal) x3 (ix4 b kv q g) = x3 (ix1 ⟨kv.val * 8 + g.val, by omega⟩) := by
    pointwise [val_main_v94, val_main_v96, val_main_v97]
  rw [hc] at h
  unfold top
  rw [val_main_v98_apply, h, hs]
  rfl

/-- A key's weight before the division. -/
theorem weight_eq (b : Fin 32) (q : Fin 128) (kv : Fin 2) (g : Fin 8) (k : Fin 256) : val_main_v102 (F := Ideal) x0 x1 x2 x3 (ix5 b kv q g k)
    = Ideal.exp (val_main_v93 (F := Ideal) x0 x1 x2 (ix5 b kv q g k) - val_main_v98 (F := Ideal) x0 x1 x2 x3 (ix4 b kv q g)) := by
  pointwise [val_main_v99, val_main_v100, val_main_v101, val_main_v102]

/-- The sum of the weights, the sink's among them. -/
theorem mass_eq (b : Fin 32) (q : Fin 128) (kv : Fin 2) (g : Fin 8) : val_main_v108 (F := Ideal) x0 x1 x2 x3 (ix4 b kv q g)
    = (∑ k : Fin 256, (val_main_v102 (F := Ideal) x0 x1 x2 x3 (ix5 b kv q g k) : EReal))
      + Ideal.exp (x3 (ix1 ⟨kv.val * 8 + g.val, by omega⟩) - val_main_v98 (F := Ideal) x0 x1 x2 x3 (ix4 b kv q g)) := by
  pointwise [val_main_v94, val_main_v103, val_main_v104, val_main_v105, val_main_v106, val_main_v107, val_main_v108, val_main_cst_17]

/-- A key's weight. -/
theorem prob_eq (b : Fin 32) (q : Fin 128) (kv : Fin 2) (g : Fin 8) (k : Fin 256) : val_main_v113 (F := Ideal) x0 x1 x2 x3 (ix5 b kv q g k)
    = val_main_v102 (F := Ideal) x0 x1 x2 x3 (ix5 b kv q g k) * Ideal.div 1 (val_main_v108 (F := Ideal) x0 x1 x2 x3 (ix4 b kv q g)) := by
  pointwise [val_main_v109, val_main_v110, val_main_v111, val_main_v112, val_main_v113, val_main_cst_18]

/-- The reference's attention. -/
theorem att_eq (b : Fin 32) (q : Fin 128) (kv : Fin 2) (g : Fin 8) (e : Fin 64) :
    val_main_v119 (F := Ideal) x0 x1 x2 x3 (ix5 b kv q g e) = att x0 x1 x2 x3 b.val q.val ⟨8 * kv.val + g.val, by omega⟩ e.val := by
  have h : val_main_v119 (F := Ideal) x0 x1 x2 x3 (ix5 b kv q g e)
      = ∑ k : Fin 256, (val_main_v113 (F := Ideal) x0 x1 x2 x3 (ix5 b kv q g k) * val_main_v118 (F := Ideal) x0 (ix4 b k kv e) : EReal) := by
    pointwise [val_main_v119]
  have hs : x3 (ix1 ⟨kv.val * 8 + g.val, by omega⟩) = at1 x3 (8 * kv.val + g.val) := at1_of x3 _ (by show kv.val * 8 + g.val = _; omega)
  have h' : val_main_v119 (F := Ideal) x0 x1 x2 x3 (ix5 b kv q g e) = attend (fun k => val_main_v93 (F := Ideal) x0 x1 x2 (ix5 b kv q g k))
      (at1 x3 (8 * kv.val + g.val)) (fun k => val_main_v118 (F := Ideal) x0 (ix4 b k kv e)) := by
    rw [h]
    unfold attend prob mass
    simp only [prob_eq, mass_eq, weight_eq, top_eq, hs]
  rw [h']
  unfold att
  refine attend_congr _ _ _ _ _ (fun k => logits_eq x0 x1 x2 b q kv g k) (fun k hk => ?_)
  have hv : live (later b.val) q.val k.val = 1#1 := by
    by_contra hn
    refine hk ((logits_eq x0 x1 x2 b q kv g k).trans ?_)
    exact logit_bot _ _ _ _ hn
  rw [val_eq x0 b k (live_later _ _ _ hv)]
  show at2 x0 (128 * b.val + k.val - 128) (1152 + 64 * kv.val + e.val) = at2 x0 (128 * b.val + k.val - 128) (1152 + 64 * ((8 * kv.val + g.val) / 8) + e.val)
  rw [show (8 * kv.val + g.val) / 8 = kv.val by omega]

/-- And its heads side by side. -/
theorem attention_eq (b : Fin 32) (q : Fin 128) (d : Fin 1024) :
    val_main_v121 (F := Ideal) x0 x1 x2 x3 (ix3 b q d) = att x0 x1 x2 x3 b.val q.val ⟨d.val / 64, by omega⟩ (d.val % 64) := by
  pointwise [val_main_v120, val_main_v121]
  rw [att_eq]
  congr 1
  apply Fin.ext
  show 8 * (d.val / 512) + d.val / 64 % 8 = d.val / 64
  omega

/-- The projections through the unit. -/
theorem unit_eq (b : Fin 32) (q : Fin 128) (d : Fin 2048) :
    val_main_v131 (F := Ideal) x0 (ix3 b q d) = gelu root (at2 x0 (128 * b.val + q.val) (1280 + d.val)) := by
  have hr : Ideal.rsqrt (Ideal.ofBits .f32 0x40000000#32) = root := by
    have h2 : Ideal.ofBits .f32 0x40000000#32 = ((2 : ℝ) : EReal) := by simp [Ideal.ofBits, Ideal.ieee]; rw [← EReal.coe_mul]; congr 1; norm_num
    rw [h2]
    show (if (2 : ℝ) < 0 then (⊥ : EReal) else if (2 : ℝ) = 0 then ⊤ else (((Real.sqrt 2)⁻¹ : ℝ) : EReal)) = root
    rw [if_neg (by norm_num), if_neg (by norm_num)]
    rfl
  pointwise [val_main_v0, val_main_v122, val_main_v123, val_main_v124, val_main_v125, val_main_v126, val_main_v127, val_main_v128,
    val_main_v129, val_main_v130, val_main_v131, val_main_cst_20, val_main_cst_21, val_main_cst_22, gelu, Ideal.hostUnary_erf_def,
    Ideal.erf_def]
  rw [hr, show x0 (ix2 _ _) = at2 x0 (128 * b.val + q.val) (1280 + d.val) from at2_of x0 _ (by show b.val * 128 + q.val = _; omega) rfl]

/-- The normalized columns. -/
theorem norm_eq (b : Fin 32) (k : Fin 128) (g : Fin 8) (d : Fin 128) : val_main_v156 (F := Ideal) x0 x4 x5 (ix4 b k g d)
    = layerNorm (fun d : Fin 128 => gelu root (at2 x0 (128 * b.val + k.val) (2304 + 128 * g.val + d.val))) (fun d => at2 x4 g.val d.val) (fun d => at2 x5 g.val d.val) d := by
  have h : val_main_v156 (F := Ideal) x0 x4 x5 (ix4 b k g d)
      = layerNorm (fun d : Fin 128 => val_main_v134 (F := Ideal) x0 (ix4 b k g d)) (fun d => x4 (ix2 g d)) (fun d => x5 (ix2 g d)) d := by
    pointwise [val_main_v135, val_main_v136, val_main_v137, val_main_v138, val_main_v139, val_main_v140, val_main_v141, val_main_v142,
    val_main_v143, val_main_v144, val_main_v145, val_main_v146, val_main_v147, val_main_v148, val_main_v149, val_main_v150,
    val_main_v151, val_main_v152, val_main_v153, val_main_v154, val_main_v155, val_main_v156, val_main_cst_23, val_main_cst_24,
    val_main_cst_25, val_main_cst_26, val_main_cst_27, layerNorm, center]
  have hw : ∀ d : Fin 128, val_main_v134 (F := Ideal) x0 (ix4 b k g d) = gelu root (at2 x0 (128 * b.val + k.val) (2304 + 128 * g.val + d.val)) := fun d => by
    pointwise [val_main_v133, val_main_v134]
    rw [unit_eq]
    congr 2
    show 1280 + (1024 + (g.val * 128 + d.val)) = _
    omega
  rw [h]
  exact congr (congrArg₂ (fun X G => layerNorm X G) (funext hw) (funext fun d => at2_of x4 _ rfl rfl)) (funext fun d => at2_of x5 _ rfl rfl) ▸ rfl

/-- The gated unit. -/
theorem gate_eq (b : Fin 32) (q : Fin 128) (d : Fin 1024) : val_main_v172 (F := Ideal) x0 x4 x5 x6 x7 (ix3 b q d)
    = gated x0 x4 x5 x6 x7 b.val q.val (d.val / 128) ⟨d.val % 128, by omega⟩ := by
  pointwise [val_main_v132, val_main_v157, val_main_v158, val_main_v159, val_main_v160, val_main_v161, val_main_v162, val_main_v163,
    val_main_v164, val_main_v165, val_main_v166, val_main_v167, val_main_v168, val_main_v169, val_main_v170, val_main_v171,
    val_main_v172, val_main_call1_v0, val_main_call1_v1, val_main_call1_v2, val_main_cst_28]
  unfold gated
  rw [unit_eq]
  refine congrArg₂ (fun a c : EReal => a * c) ?_ (congrArg₂ (fun a c : EReal => a + c) (Finset.sum_congr rfl fun k _ => ?_) (at2_of x7 _ rfl rfl))
  · congr 2
    show 1280 + d.val = 1280 + 128 * (d.val / 128) + d.val % 128
    omega
  · rw [norm_eq, mul_comm]
    refine congrArg₂ (fun a c : EReal => a * c) ?_ rfl
    have hz : id (constant (F := Ideal) S_ .f32 0x00000000#32) ix0 = 0 := by
      show Ideal.ofBits .f32 0x00000000#32 = 0
      simp [Ideal.ofBits, Ideal.ieee]
    exact congrArg₂ (Scalar.select _) (at3_of x6 _ rfl rfl rfl) hz

/-- The reference's result. -/
theorem result_eq (i : S4096x2048.Idx) : val_main_v203 (F := Ideal) x0 x1 x2 x3 x4 x5 x6 x7 x8 x9 i
    = mixed x0 x1 x2 x3 x4 x5 x6 x7 x8 x9 ((i 0).val / 128) ((i 0).val % 128) (i 1).val := by
  have hl : ∀ (b : Fin 32) (q : Fin 128) (d : Fin 1024), val_main_v186 (F := Ideal) x0 x1 x2 x3 x8 (ix3 b q d)
      = normed (Ideal.ofBits .f32 0x44800000#32) (fun d : Fin 1024 => val_main_v121 (F := Ideal) x0 x1 x2 x3 (ix3 b q d)) (fun d => x8 (ix2 0 d)) d := fun b q d => by
    pointwise [val_main_v173, val_main_v174, val_main_v175, val_main_v176, val_main_v177, val_main_v178, val_main_v179, val_main_v180,
    val_main_v181, val_main_v182, val_main_v183, val_main_v184, val_main_v185, val_main_v186, val_main_cst_29, val_main_cst_30,
    val_main_cst_31, normed, invRms]
  have hr : ∀ (b : Fin 32) (q : Fin 128) (d : Fin 1024), val_main_v200 (F := Ideal) x0 x4 x5 x6 x7 x9 (ix3 b q d)
      = normed (Ideal.ofBits .f32 0x44800000#32) (fun d : Fin 1024 => val_main_v172 (F := Ideal) x0 x4 x5 x6 x7 (ix3 b q d)) (fun d => x9 (ix2 0 d)) d := fun b q d => by
    pointwise [val_main_v187, val_main_v188, val_main_v189, val_main_v190, val_main_v191, val_main_v192, val_main_v193, val_main_v194,
    val_main_v195, val_main_v196, val_main_v197, val_main_v198, val_main_v199, val_main_v200, val_main_cst_32, val_main_cst_33,
    val_main_cst_34, normed, invRms]
  pointwise [val_main_v201, val_main_v202, val_main_v203]
  have hi : (i 1).val < 2048 := (i 1).isLt
  unfold mixed
  by_cases h : (i 1).val < 1024
  · rw [dif_pos h, dif_pos h, hl]
    refine congrFun (congrArg₂ (normed _) (funext fun d => ?_) (funext fun d => at2_of x8 _ rfl rfl)) _
    exact attention_eq x0 x1 x2 x3 _ _ d
  · rw [dif_neg h, dif_neg h, dif_pos (show (i 1).val - 1024 < 1024 by omega), hr]
    refine congrFun (congrArg₂ (normed _) (funext fun d => ?_) (funext fun d => at2_of x9 _ rfl rfl)) _
    exact gate_eq x0 x4 x5 x6 x7 _ _ d

set_option backward.isDefEq.respectTransparency.types false in
/-- The reference runs, keeps its arguments and leaves the mixer's values. -/
theorem run_mixed (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v203) = (fun i : S4096x2048.Idx => mixed (m ((c.tc : Thread nD τ).loc main_arg0))
          (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) (m ((c.tc : Thread nD τ).loc main_arg9))
          ((i 0).val / 128) ((i 0).val % 128) (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans ((val_main_v203_eq (StableHlo.launchContents m c)).trans
      (funext fun i => result_eq _ _ _ _ _ _ _ _ _ _ i)), (h c).2⟩) (Cert.MixerRefIdeal.Value.run m ρ)

end Cert.MixerRefIdeal.Values

end
-- ==== Proof.Products.lean ====
/-
  The plain products, entry by entry: of two matrices, of a matrix with a transposed one, and of a transposed one with a
  matrix.
-/
module

public import proofs.«01_k».proof.Proof.DenseValues
public import proofs.«01_k».proof.Proof.NormValues

@[expose] public section

noncomputable section

open Idealize.ShloMosaic

namespace Cert.Products

export Cert.DenseIdeal.Values (product)
export Cert.NormIdeal.Values (invRms narrow rows back gain)

/-- The product of a matrix, transposed, with another: the contraction runs over the rows of both. -/
def productTn {a k b : ℕ} (x : FVec Ideal ⟨2, ![k, a]⟩ .bf16) (y : FVec Ideal ⟨2, ![k, b]⟩ .bf16) : FVec Ideal ⟨2, ![a, b]⟩ .f32 :=
  fun i => ∑ l : Fin k, (x (ix2 l (i 0)) * y (ix2 l (i 1)) : EReal)

/-- The product of a matrix with another, transposed: the contraction runs over the columns of both. -/
def productNt {a k b : ℕ} (x : FVec Ideal ⟨2, ![a, k]⟩ .bf16) (y : FVec Ideal ⟨2, ![b, k]⟩ .bf16) : FVec Ideal ⟨2, ![a, b]⟩ .f32 :=
  fun i => ∑ l : Fin k, (x (ix2 (i 0) l) * y (ix2 (i 1) l) : EReal)

/-- The sum of two arrays, entry by entry. -/
def plus {S : Shape} (x y : FVec Ideal S .f32) : FVec Ideal S .f32 := fun i => (x i + y i : EReal)

/-- The normalized rows times the gain, in the narrower format. -/
def rmsNorm {a : ℕ} (x : FVec Ideal ⟨2, ![a, 2048]⟩ .f32) (g : FVec Ideal ⟨2, ![1, 2048]⟩ .f32) : FVec Ideal ⟨2, ![a, 2048]⟩ .bf16 :=
  fun i => (x i * invRms x (i 0) * g (ix2 0 (i 1)) : EReal)

/-- The logistic function of every entry. -/
def gate {S : Shape} (x : FVec Ideal S .f32) : FVec Ideal S .f32 := fun i =>
  Ideal.div (Ideal.ofBits .f32 0x3F800000#32) (Ideal.ofBits .f32 0x3F800000#32 + Ideal.exp (0 - x i))

/-- The gated unit: the first array times its logistic function, times the second. -/
def glu {S : Shape} (x y : FVec Ideal S .f32) : FVec Ideal S .bf16 := fun i => (x i * gate x i * y i : EReal)

/-- What comes back through the gated unit to its first array. -/
def gluBack {S : Shape} (d x y : FVec Ideal S .f32) : FVec Ideal S .bf16 := fun i =>
  (d i * y i * (gate x i * (Ideal.ofBits .f32 0x3F800000#32 + x i * (Ideal.ofBits .f32 0x3F800000#32 - gate x i))) : EReal)

/-- What comes back through the gated unit to its second array. -/
def gluBack' {S : Shape} (d x : FVec Ideal S .f32) : FVec Ideal S .bf16 := fun i => (d i * (x i * gate x i) : EReal)

end Cert.Products

end
-- ==== Proof.PassesValues.lean ====
/-
  The calls of both passes whose contraction is done in one step, over the real numbers: what each leaves in its results, whatever
  the arrays hold when it starts.
-/
module

public import proofs.«01_k».proof.Proof.Gen.PassesIdeal.Frame
public import proofs.«01_k».proof.Proof.Products
public import Idealize.ShloMosaic.Lib.Pipeline.ValueKit
public import Idealize.ShloMosaic.Lib.Pointwise.Tactic

@[expose] public section

set_option maxRecDepth 16384

noncomputable section

open Idealize.ShloMosaic Idealize.ShloMosaic.TcCoe Idealize.SL.Sem
open Idealize.ShloMosaic.Pipeline (Dat)
open Cert.Products

namespace Cert.PassesIdeal.Values

open Cert.PassesIdeal Cert.PassesIdeal.Gen

variable (V : (c : Dev nD) → (b : Ref sig .tc) → Buf (Elt Ideal) ((c : Thread nD τ).loc b))

/-- Where the blocks of call 0 lie. -/
theorem idx0 : ∀ t : Fin cfg0.N, win0_0.index t = ![t.val, 0] ∧ win0_1.index t = ![0, 0] ∧ win0_2.index t = ![t.val, 0] :=
  (by decide +kernel : ∀ t : Fin grid0.N, _)

/-- What one step of the first normalization stores. -/
theorem pay0 (x : FVec Ideal S512x2048 .f32) (g : FVec Ideal S1x2048 .f32) (j : S512x2048.Idx) : k0_pay1 x g j = rmsNorm (a := 512) x g j := by
  pointwise [k0_pay1, rmsNorm, invRms]

/-- The first normalization, of its rows and its gain. -/
theorem norm0 (c : Dev nD) : (dat0 V c).arrAt 2 cfg0.N = rmsNorm (a := 4096) (V c main_v0) (V c main_arg1) := by
  refine (dat0 V c).arrAt_eq_of_covers 2 _ (by decide +kernel) fun t hf y => ?_
  blk_simp
  rw [after0_2]; frame_out
  refine (pay0 _ _ y).trans ?_
  dsimp only [rmsNorm, invRms]
  blk_point [iblk0, idx0 t]

/-- Where the blocks of call 3 lie. -/
theorem idx3 : ∀ t : Fin cfg3.N, win3_0.index t = ![t.val, 0] ∧ win3_1.index t = ![0, 0] ∧ win3_2.index t = ![t.val, 0] :=
  (by decide +kernel : ∀ t : Fin grid3.N, _)

/-- What one step of the second normalization stores. -/
theorem pay3 (x : FVec Ideal S512x2048 .f32) (g : FVec Ideal S1x2048 .f32) (j : S512x2048.Idx) : k3_pay1 x g j = rmsNorm (a := 512) x g j := by
  pointwise [k3_pay1, rmsNorm, invRms]

/-- The second normalization, of its rows and its gain. -/
theorem norm3 (c : Dev nD) : (dat3 V c).arrAt 2 cfg3.N = rmsNorm (a := 4096) (V c main_v3) (V c main_arg5) := by
  refine (dat3 V c).arrAt_eq_of_covers 2 _ (by decide +kernel) fun t hf y => ?_
  blk_simp
  rw [after3_2]; frame_out
  refine (pay3 _ _ y).trans ?_
  dsimp only [rmsNorm, invRms]
  blk_point [iblk3, idx3 t]

/-- Where the blocks of call 1 lie. -/
theorem idx1 : ∀ t : Fin cfg1.N, win1_0.index t = ![t.val / 2, 0] ∧ win1_1.index t = ![t.val % 2, 0] ∧ win1_2.index t = ![t.val / 2, t.val % 2] :=
  (by decide +kernel : ∀ t : Fin grid1.N, _)

/-- What one step of the projection of the first normalization stores. -/
theorem pay1 (x : FVec Ideal S512x2048 .bf16) (w : FVec Ideal S1664x2048 .bf16) (j : S512x1664.Idx) : k1_pay1 x w j = productNt x w j := by
  pointwise [k1_pay1, productNt]

/-- The projection of the first normalization. -/
theorem prod1 (c : Dev nD) : (dat1 V c).arrAt 2 cfg1.N = productNt (a := 4096) (k := 2048) (b := 3328) (V c main_v1) (V c main_arg2) := by
  refine (dat1 V c).arrAt_eq_of_covers 2 _ (by decide +kernel) fun t hf y => ?_
  blk_simp
  rw [after1_2]; frame_out
  refine (pay1 _ _ y).trans ?_
  dsimp only [productNt]
  blk_point [iblk1, idx1 t]

/-- Where the blocks of call 2 lie. -/
theorem idx2 : ∀ t : Fin cfg2.N, win2_0.index t = ![t.val / 2, 0] ∧ win2_1.index t = ![0, t.val % 2] ∧ win2_2.index t = ![t.val / 2, t.val % 2] ∧ win2_3.index t = ![t.val / 2, t.val % 2] :=
  (by decide +kernel : ∀ t : Fin grid2.N, _)

/-- What one step of the output product stores. -/
theorem pay2 (x : FVec Ideal S512x2048 .bf16) (w : FVec Ideal S2048x1024 .bf16) (z : FVec Ideal S512x1024 .f32) (j : S512x1024.Idx) :
    k2_pay1 x w z j = plus z (product x w) j := by
  pointwise [k2_pay1, plus, product]

/-- The output product, added to the residual. -/
theorem sum2 (c : Dev nD) : (dat2 V c).arrAt 3 cfg2.N = plus (V c main_v0) (product (a := 4096) (k := 2048) (b := 2048) (V c main_arg3) (V c main_arg4)) := by
  refine (dat2 V c).arrAt_eq_of_covers 3 _ (by decide +kernel) fun t hf y => ?_
  blk_simp
  rw [after2_3]; frame_out
  refine (pay2 _ _ _ y).trans ?_
  dsimp only [plus, product]
  blk_point [iblk2, idx2 t]

/-- Where the blocks of call 4 lie. -/
theorem idx4 : ∀ t : Fin cfg4.N, win4_0.index t = ![t.val / 4, 0] ∧ win4_1.index t = ![t.val % 4, 0] ∧ win4_2.index t = ![t.val / 4, t.val % 4] :=
  (by decide +kernel : ∀ t : Fin grid4.N, _)

/-- What one step of the gate product stores. -/
theorem pay4 (x : FVec Ideal S512x2048 .bf16) (w : FVec Ideal S1408x2048 .bf16) (j : S512x1408.Idx) : k4_pay1 x w j = productNt x w j := by
  pointwise [k4_pay1, productNt]

/-- The gate product. -/
theorem prod4 (c : Dev nD) : (dat4 V c).arrAt 2 cfg4.N = productNt (a := 4096) (k := 2048) (b := 5632) (V c main_v4) (V c main_arg6) := by
  refine (dat4 V c).arrAt_eq_of_covers 2 _ (by decide +kernel) fun t hf y => ?_
  blk_simp
  rw [after4_2]; frame_out
  refine (pay4 _ _ y).trans ?_
  dsimp only [productNt]
  blk_point [iblk4, idx4 t]

/-- Where the blocks of call 5 lie. -/
theorem idx5 : ∀ t : Fin cfg5.N, win5_0.index t = ![t.val / 4, 0] ∧ win5_1.index t = ![t.val % 4, 0] ∧ win5_2.index t = ![t.val / 4, t.val % 4] ∧ win5_3.index t = ![t.val / 4, t.val % 4] ∧ win5_4.index t = ![t.val / 4, t.val % 4] :=
  (by decide +kernel : ∀ t : Fin grid5.N, _)

/-- What one step of the up product stores. -/
theorem pay5 (x : FVec Ideal S512x2048 .bf16) (w : FVec Ideal S1408x2048 .bf16) (j : S512x1408.Idx) : k5_pay1 x w j = productNt x w j := by
  pointwise [k5_pay1, productNt]

/-- What it stores of the gated unit. -/
theorem pay5' (x : FVec Ideal S512x2048 .bf16) (w : FVec Ideal S1408x2048 .bf16) (z : FVec Ideal S512x1408 .f32) (j : S512x1408.Idx) :
    k5_pay2 x w z j = glu z (productNt x w) j := by
  pointwise [k5_pay2, k5_pay1, glu, gate, productNt]

/-- The up product. -/
theorem prod5 (c : Dev nD) : (dat5 V c).arrAt 3 cfg5.N = productNt (a := 4096) (k := 2048) (b := 5632) (V c main_v4) (V c main_arg7) := by
  refine (dat5 V c).arrAt_eq_of_covers 3 _ (by decide +kernel) fun t hf y => ?_
  blk_simp
  rw [after5_3]; frame_out
  refine (pay5 _ _ y).trans ?_
  dsimp only [productNt]
  blk_point [iblk5, idx5 t]

/-- The gated unit of the gate product and the up product. -/
theorem glu5 (c : Dev nD) : (dat5 V c).arrAt 4 cfg5.N = glu (V c main_v5) (productNt (a := 4096) (k := 2048) (b := 5632) (V c main_v4) (V c main_arg7)) := by
  refine (dat5 V c).arrAt_eq_of_covers 4 _ (by decide +kernel) fun t hf y => ?_
  blk_simp
  rw [after5_4]; frame_out
  refine (pay5' _ _ _ y).trans ?_
  dsimp only [glu, gate, productNt]
  blk_point [iblk5, idx5 t]

/-- Where the blocks of call 6 lie. -/
theorem idx6 : ∀ t : Fin cfg6.N, win6_0.index t = ![t.val / 4, 0] ∧ win6_1.index t = ![t.val % 4, 0] ∧ win6_2.index t = ![t.val / 4, t.val % 4] ∧ win6_3.index t = ![t.val / 4, t.val % 4] ∧ win6_4.index t = ![t.val / 4, t.val % 4] ∧ win6_5.index t = ![t.val / 4, t.val % 4] :=
  (by decide +kernel : ∀ t : Fin grid6.N, _)

/-- What one step of the product that goes back through the gated unit stores for the gate. -/
theorem pay6 (x : FVec Ideal S512x2048 .bf16) (w : FVec Ideal S1408x2048 .bf16) (z u : FVec Ideal S512x1408 .f32) (j : S512x1408.Idx) :
    k6_pay4 x w z u j = gluBack (productNt x w) z u j := by
  pointwise [k6_pay4, k6_pay3, k6_pay2, k6_pay1, gluBack, gate, productNt]

/-- What it stores for the other factor. -/
theorem pay6' (x : FVec Ideal S512x2048 .bf16) (w : FVec Ideal S1408x2048 .bf16) (z : FVec Ideal S512x1408 .f32) (j : S512x1408.Idx) :
    k6_pay5 x w z j = gluBack' (productNt x w) z j := by
  pointwise [k6_pay5, k6_pay3, k6_pay2, k6_pay1, gluBack', gate, productNt]

/-- What comes back through the gated unit to the gate. -/
theorem back6 (c : Dev nD) : (dat6 V c).arrAt 4 cfg6.N = gluBack (productNt (a := 4096) (k := 2048) (b := 5632) (V c main_arg8) (V c main_arg9)) (V c main_v5) (V c main_v6_0) := by
  refine (dat6 V c).arrAt_eq_of_covers 4 _ (by decide +kernel) fun t hf y => ?_
  blk_simp
  rw [after6_4]; frame_out
  refine (pay6 _ _ _ _ y).trans ?_
  dsimp only [gluBack, gate, productNt]
  blk_point [iblk6, idx6 t]

/-- What comes back through the gated unit to the other factor. -/
theorem back6' (c : Dev nD) : (dat6 V c).arrAt 5 cfg6.N = gluBack' (productNt (a := 4096) (k := 2048) (b := 5632) (V c main_arg8) (V c main_arg9)) (V c main_v5) := by
  refine (dat6 V c).arrAt_eq_of_covers 5 _ (by decide +kernel) fun t hf y => ?_
  blk_simp
  rw [after6_5]; frame_out
  refine (pay6' _ _ _ y).trans ?_
  dsimp only [gluBack', gate, productNt]
  blk_point [iblk6, idx6 t]

/-- Where the blocks of call 7 lie. -/
theorem idx7 : ∀ t : Fin cfg7.N, win7_0.index t = ![t.val / 2, 0] ∧ win7_1.index t = ![t.val % 2, 0] ∧ win7_2.index t = ![t.val / 2, t.val % 2] :=
  (by decide +kernel : ∀ t : Fin grid7.N, _)

/-- What one step of the product that goes back through the output weight stores. -/
theorem pay7 (x : FVec Ideal S512x2048 .bf16) (w : FVec Ideal S1024x2048 .bf16) (j : S512x1024.Idx) : k7_pay1 x w j = productNt x w j := by
  pointwise [k7_pay1, productNt]

/-- The product that goes back through the output weight. -/
theorem prod7 (c : Dev nD) : (dat7 V c).arrAt 2 cfg7.N = productNt (a := 4096) (k := 2048) (b := 2048) (V c main_arg10) (V c main_arg4) := by
  refine (dat7 V c).arrAt_eq_of_covers 2 _ (by decide +kernel) fun t hf y => ?_
  blk_simp
  rw [after7_2]; frame_out
  refine (pay7 _ _ y).trans ?_
  dsimp only [productNt]
  blk_point [iblk7, idx7 t]

end Cert.PassesIdeal.Values

end
-- ==== Proof.PassesRun.lean ====
/-
  The run of the calls of both passes with the contents it leaves: every array at the last boundary's contents, every
  counter at zero.
-/
module

public import proofs.«01_k».proof.Proof.Gen.PassesIdeal.Frame

@[expose] public section

set_option maxRecDepth 16384

noncomputable section

namespace Cert.PassesIdeal.Values

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PassesIdeal Cert.PassesIdeal.Gen

variable {F : FTy → Type} [FloatOps F]

local notation "𝕄" => MT nD τ sig Unit (Elt F) ℕ (UR sig nD τ) ℕ

set_option backward.isDefEq.respectTransparency.types false in
/-- The calls of both passes run, fault nowhere, and end with every array at the contents of the last boundary and every
    counter at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, ∀ b ∈ Pipeline.ucRefs τ sig, r.2.mem (((c : Thread nD τ)).1, b) = W9 m ρ c b) ∧ r.2.sem = fun _ => 0 :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => ⟨h, funext fun g => hz g (.inr (no_unscoped g.2))⟩)

end Cert.PassesIdeal.Values
-- ==== Proof.Passes.lean ====
/-
  The calls of both passes one after the other: what each result holds at the end, in terms of the arrays at the start.
-/
module

public import proofs.«01_k».proof.Proof.PassesValues
public import proofs.«01_k».proof.Proof.PassesRun

@[expose] public section

set_option maxRecDepth 16384

noncomputable section

open Idealize.ShloMosaic Idealize.ShloMosaic.TcCoe Idealize.SL.Sem
open Cert.Products

namespace Cert.PassesIdeal.Values

open Cert.PassesIdeal Cert.PassesIdeal.Gen

/-- The input of the feed-forward part: the layer's input plus the mixer's output times its weight. -/
def mid (x : FVec Ideal ⟨3, ![2, 2048, 2048]⟩ .f32) (y : FVec Ideal ⟨2, ![4096, 2048]⟩ .bf16) (w : FVec Ideal ⟨2, ![2048, 2048]⟩ .bf16) :
    FVec Ideal ⟨2, ![4096, 2048]⟩ .f32 := plus (rows x) (product (a := 4096) (k := 2048) (b := 2048) y w)

/-- Its normalization. -/
def second (x : FVec Ideal ⟨3, ![2, 2048, 2048]⟩ .f32) (y : FVec Ideal ⟨2, ![4096, 2048]⟩ .bf16) (w : FVec Ideal ⟨2, ![2048, 2048]⟩ .bf16)
    (g : FVec Ideal ⟨2, ![1, 2048]⟩ .f32) : FVec Ideal ⟨2, ![4096, 2048]⟩ .bf16 := rmsNorm (a := 4096) (mid x y w) g

/-- The normalization times a weight of the feed-forward part. -/
def unit (x : FVec Ideal ⟨3, ![2, 2048, 2048]⟩ .f32) (y : FVec Ideal ⟨2, ![4096, 2048]⟩ .bf16) (w : FVec Ideal ⟨2, ![2048, 2048]⟩ .bf16)
    (g : FVec Ideal ⟨2, ![1, 2048]⟩ .f32) (u : FVec Ideal ⟨2, ![5632, 2048]⟩ .bf16) : FVec Ideal ⟨2, ![4096, 5632]⟩ .f32 :=
  productNt (a := 4096) (k := 2048) (b := 5632) (second x y w g) u

variable (m : (ℓ : Loc nD τ sig) → Buf (Elt Ideal) ℓ) (ρ : Dev nD → PrngReg)

/-! ## What each call leaves -/

/-- The reshaped input has the rows of both sequences, one after the other. -/
theorem rows_flat (x : FVec Ideal S2x2048x2048 .f32) : shapeCast S4096x2048 x shapeCasts_S2x2048x2048_S4096x2048 = rows x := by
  funext i
  pointwise [rows]

/-- So has the array the first call reads. -/
theorem flat (c : Dev nD) : W1 m ρ c (Proc.devRef .tc main_v0) = rows (m ((c : Thread nD τ).loc main_arg0)) :=
  (by after_results; rfl : W1 m ρ c (Proc.devRef .tc main_v0)
    = shapeCast S4096x2048 (W0 m ρ c (Proc.devRef .tc main_arg0)) shapeCasts_S2x2048x2048_S4096x2048).trans (rows_flat _)

/-- The first normalization. -/
theorem at_h1 (c : Dev nD) : W2 m ρ c (Proc.devRef .tc main_v1) = rmsNorm (a := 4096) (rows (m ((c : Thread nD τ).loc main_arg0))) (m ((c : Thread nD τ).loc main_arg1)) :=
  (W2_arr m ρ c 2).trans ((norm0 (V1 m ρ) c).trans (congrArg₂ (rmsNorm (a := 4096)) (flat m ρ c) (W1_args m ρ c main_arg1 (by decide))))

/-- Its product with the input weight. -/
theorem at_proj (c : Dev nD) : W3 m ρ c (Proc.devRef .tc main_v2) = productNt (a := 4096) (k := 2048) (b := 3328) (rmsNorm (a := 4096) (rows (m ((c : Thread nD τ).loc main_arg0))) (m ((c : Thread nD τ).loc main_arg1))) (m ((c : Thread nD τ).loc main_arg2)) :=
  (W3_arr m ρ c 2).trans ((prod1 (V2 m ρ) c).trans (congrArg₂ (productNt (a := 4096) (k := 2048) (b := 3328)) (at_h1 m ρ c) (W2_args m ρ c main_arg2 (by decide))))

/-- The input of the feed-forward part. -/
theorem at_x2 (c : Dev nD) : W4 m ρ c (Proc.devRef .tc main_v3) = mid (m ((c : Thread nD τ).loc main_arg0)) (m ((c : Thread nD τ).loc main_arg3)) (m ((c : Thread nD τ).loc main_arg4)) :=
  (W4_arr m ρ c 3).trans ((sum2 (V3 m ρ) c).trans (congrArg₂ plus ((W3_of m ρ c main_v0 (by decide)).trans ((W2_of m ρ c main_v0 (by decide)).trans (flat m ρ c)))
    (congrArg₂ (product (a := 4096) (k := 2048) (b := 2048)) (W3_args m ρ c main_arg3 (by decide)) (W3_args m ρ c main_arg4 (by decide)))))

/-- The second normalization. -/
theorem at_h2 (c : Dev nD) : W5 m ρ c (Proc.devRef .tc main_v4) = second (m ((c : Thread nD τ).loc main_arg0)) (m ((c : Thread nD τ).loc main_arg3)) (m ((c : Thread nD τ).loc main_arg4)) (m ((c : Thread nD τ).loc main_arg5)) :=
  (W5_arr m ρ c 2).trans ((norm3 (V4 m ρ) c).trans (congrArg₂ (rmsNorm (a := 4096)) (at_x2 m ρ c) (W4_args m ρ c main_arg5 (by decide))))

/-- The product with the gate weight. -/
theorem at_a (c : Dev nD) : W6 m ρ c (Proc.devRef .tc main_v5) = unit (m ((c : Thread nD τ).loc main_arg0)) (m ((c : Thread nD τ).loc main_arg3)) (m ((c : Thread nD τ).loc main_arg4)) (m ((c : Thread nD τ).loc main_arg5)) (m ((c : Thread nD τ).loc main_arg6)) :=
  (W6_arr m ρ c 2).trans ((prod4 (V5 m ρ) c).trans (congrArg₂ (productNt (a := 4096) (k := 2048) (b := 5632)) (at_h2 m ρ c) (W5_args m ρ c main_arg6 (by decide))))

/-- The product with the other weight, as the call that makes it finds its arrays. -/
theorem at_up (c : Dev nD) : productNt (a := 4096) (k := 2048) (b := 5632) (V6 m ρ c main_v4) (V6 m ρ c main_arg7) = unit (m ((c : Thread nD τ).loc main_arg0)) (m ((c : Thread nD τ).loc main_arg3)) (m ((c : Thread nD τ).loc main_arg4)) (m ((c : Thread nD τ).loc main_arg5)) (m ((c : Thread nD τ).loc main_arg7)) :=
  (congrArg₂ (productNt (a := 4096) (k := 2048) (b := 5632)) ((W6_of m ρ c main_v4 (by decide)).trans (at_h2 m ρ c)) (W6_args m ρ c main_arg7 (by decide)))

/-- The product with the other weight. -/
theorem at_b (c : Dev nD) : W7 m ρ c (Proc.devRef .tc main_v6_0) = unit (m ((c : Thread nD τ).loc main_arg0)) (m ((c : Thread nD τ).loc main_arg3)) (m ((c : Thread nD τ).loc main_arg4)) (m ((c : Thread nD τ).loc main_arg5)) (m ((c : Thread nD τ).loc main_arg7)) :=
  (W7_arr m ρ c 3).trans ((prod5 (V6 m ρ) c).trans (at_up m ρ c))

/-- The gated unit. -/
theorem at_s (c : Dev nD) : W7 m ρ c (Proc.devRef .tc main_v6_1) = glu (unit (m ((c : Thread nD τ).loc main_arg0)) (m ((c : Thread nD τ).loc main_arg3)) (m ((c : Thread nD τ).loc main_arg4)) (m ((c : Thread nD τ).loc main_arg5)) (m ((c : Thread nD τ).loc main_arg6))) (unit (m ((c : Thread nD τ).loc main_arg0)) (m ((c : Thread nD τ).loc main_arg3)) (m ((c : Thread nD τ).loc main_arg4)) (m ((c : Thread nD τ).loc main_arg5)) (m ((c : Thread nD τ).loc main_arg7))) :=
  (W7_arr m ρ c 4).trans ((glu5 (V6 m ρ) c).trans (congrArg₂ glu (at_a m ρ c) (at_up m ρ c)))

/-- The gradient of the gated unit, as the call that uses it finds its arrays. -/
theorem at_ds (c : Dev nD) : productNt (a := 4096) (k := 2048) (b := 5632) (V7 m ρ c main_arg8) (V7 m ρ c main_arg9) = productNt (a := 4096) (k := 2048) (b := 5632) (m ((c : Thread nD τ).loc main_arg8)) (m ((c : Thread nD τ).loc main_arg9)) :=
  (congrArg₂ (productNt (a := 4096) (k := 2048) (b := 5632)) (W7_args m ρ c main_arg8 (by decide)) (W7_args m ρ c main_arg9 (by decide)))

/-- The product with the gate weight is still there then. -/
theorem still_a (c : Dev nD) : V7 m ρ c main_v5 = unit (m ((c : Thread nD τ).loc main_arg0)) (m ((c : Thread nD τ).loc main_arg3)) (m ((c : Thread nD τ).loc main_arg4)) (m ((c : Thread nD τ).loc main_arg5)) (m ((c : Thread nD τ).loc main_arg6)) :=
  (W7_of m ρ c main_v5 (by decide)).trans (at_a m ρ c)

/-- What comes back to the product with the gate weight. -/
theorem at_da (c : Dev nD) : W8 m ρ c (Proc.devRef .tc main_v7_0) = gluBack (productNt (a := 4096) (k := 2048) (b := 5632) (m ((c : Thread nD τ).loc main_arg8)) (m ((c : Thread nD τ).loc main_arg9))) (unit (m ((c : Thread nD τ).loc main_arg0)) (m ((c : Thread nD τ).loc main_arg3)) (m ((c : Thread nD τ).loc main_arg4)) (m ((c : Thread nD τ).loc main_arg5)) (m ((c : Thread nD τ).loc main_arg6))) (unit (m ((c : Thread nD τ).loc main_arg0)) (m ((c : Thread nD τ).loc main_arg3)) (m ((c : Thread nD τ).loc main_arg4)) (m ((c : Thread nD τ).loc main_arg5)) (m ((c : Thread nD τ).loc main_arg7))) :=
  (W8_arr m ρ c 4).trans ((back6 (V7 m ρ) c).trans (by rw [at_ds, still_a]; exact congrArg (gluBack _ _) (at_b m ρ c)))

/-- What comes back to the product with the other weight. -/
theorem at_db (c : Dev nD) : W8 m ρ c (Proc.devRef .tc main_v7_1) = gluBack' (productNt (a := 4096) (k := 2048) (b := 5632) (m ((c : Thread nD τ).loc main_arg8)) (m ((c : Thread nD τ).loc main_arg9))) (unit (m ((c : Thread nD τ).loc main_arg0)) (m ((c : Thread nD τ).loc main_arg3)) (m ((c : Thread nD τ).loc main_arg4)) (m ((c : Thread nD τ).loc main_arg5)) (m ((c : Thread nD τ).loc main_arg6))) :=
  (W8_arr m ρ c 5).trans ((back6' (V7 m ρ) c).trans (congrArg₂ gluBack' (at_ds m ρ c) (still_a m ρ c)))

/-- The gradient of the mixer's output. -/
theorem at_dy (c : Dev nD) : W9 m ρ c (Proc.devRef .tc main_v8) = productNt (a := 4096) (k := 2048) (b := 2048) (m ((c : Thread nD τ).loc main_arg10)) (m ((c : Thread nD τ).loc main_arg4)) :=
  (W9_arr m ρ c 2).trans ((prod7 (V8 m ρ) c).trans (congrArg₂ (productNt (a := 4096) (k := 2048) (b := 2048)) (W8_args m ρ c main_arg10 (by decide)) (W8_args m ρ c main_arg4 (by decide))))

/-! ## The run -/

/-- The calls run, leave the ten results and keep their arguments. -/
theorem run_passes : θ_run (defs (F := Ideal)) (onTc (τ := τ) (main (F := Ideal))) ⟨m, fun _ => 0, ρ⟩ fun r => ∀ c : Dev nD,
      r.2.mem ((c.tc : Thread nD τ).loc main_v1) = rmsNorm (a := 4096) (rows (m ((c.tc : Thread nD τ).loc main_arg0))) (m ((c.tc : Thread nD τ).loc main_arg1))
      ∧ r.2.mem ((c.tc : Thread nD τ).loc main_v2) = productNt (a := 4096) (k := 2048) (b := 3328) (rmsNorm (a := 4096) (rows (m ((c.tc : Thread nD τ).loc main_arg0))) (m ((c.tc : Thread nD τ).loc main_arg1))) (m ((c.tc : Thread nD τ).loc main_arg2))
      ∧ r.2.mem ((c.tc : Thread nD τ).loc main_v3) = mid (m ((c.tc : Thread nD τ).loc main_arg0)) (m ((c.tc : Thread nD τ).loc main_arg3)) (m ((c.tc : Thread nD τ).loc main_arg4))
      ∧ r.2.mem ((c.tc : Thread nD τ).loc main_v4) = second (m ((c.tc : Thread nD τ).loc main_arg0)) (m ((c.tc : Thread nD τ).loc main_arg3)) (m ((c.tc : Thread nD τ).loc main_arg4)) (m ((c.tc : Thread nD τ).loc main_arg5))
      ∧ r.2.mem ((c.tc : Thread nD τ).loc main_v5) = unit (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v6_0) = unit (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg7))
      ∧ r.2.mem ((c.tc : Thread nD τ).loc main_v6_1) = glu (unit (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))) (unit (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg7)))
      ∧ r.2.mem ((c.tc : Thread nD τ).loc main_v7_0) = gluBack (productNt (a := 4096) (k := 2048) (b := 5632) (m ((c.tc : Thread nD τ).loc main_arg8)) (m ((c.tc : Thread nD τ).loc main_arg9))) (unit (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))) (unit (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg7)))
      ∧ r.2.mem ((c.tc : Thread nD τ).loc main_v7_1) = gluBack' (productNt (a := 4096) (k := 2048) (b := 5632) (m ((c.tc : Thread nD τ).loc main_arg8)) (m ((c.tc : Thread nD τ).loc main_arg9))) (unit (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)))
      ∧ r.2.mem ((c.tc : Thread nD τ).loc main_v8) = productNt (a := 4096) (k := 2048) (b := 2048) (m ((c.tc : Thread nD τ).loc main_arg10)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h.1 c _ (mem_uc main_v1 (by decide))).trans ((W9_of m ρ c main_v1 (by decide)).trans ((W8_of m ρ c main_v1 (by decide)).trans ((W7_of m ρ c main_v1 (by decide)).trans ((W6_of m ρ c main_v1 (by decide)).trans ((W5_of m ρ c main_v1 (by decide)).trans ((W4_of m ρ c main_v1 (by decide)).trans ((W3_of m ρ c main_v1 (by decide)).trans ((at_h1 m ρ c))))))))),
      (h.1 c _ (mem_uc main_v2 (by decide))).trans ((W9_of m ρ c main_v2 (by decide)).trans ((W8_of m ρ c main_v2 (by decide)).trans ((W7_of m ρ c main_v2 (by decide)).trans ((W6_of m ρ c main_v2 (by decide)).trans ((W5_of m ρ c main_v2 (by decide)).trans ((W4_of m ρ c main_v2 (by decide)).trans ((at_proj m ρ c)))))))),
      (h.1 c _ (mem_uc main_v3 (by decide))).trans ((W9_of m ρ c main_v3 (by decide)).trans ((W8_of m ρ c main_v3 (by decide)).trans ((W7_of m ρ c main_v3 (by decide)).trans ((W6_of m ρ c main_v3 (by decide)).trans ((W5_of m ρ c main_v3 (by decide)).trans ((at_x2 m ρ c))))))),
      (h.1 c _ (mem_uc main_v4 (by decide))).trans ((W9_of m ρ c main_v4 (by decide)).trans ((W8_of m ρ c main_v4 (by decide)).trans ((W7_of m ρ c main_v4 (by decide)).trans ((W6_of m ρ c main_v4 (by decide)).trans ((at_h2 m ρ c)))))),
      (h.1 c _ (mem_uc main_v5 (by decide))).trans ((W9_of m ρ c main_v5 (by decide)).trans ((W8_of m ρ c main_v5 (by decide)).trans ((W7_of m ρ c main_v5 (by decide)).trans ((at_a m ρ c))))),
      (h.1 c _ (mem_uc main_v6_0 (by decide))).trans ((W9_of m ρ c main_v6_0 (by decide)).trans ((W8_of m ρ c main_v6_0 (by decide)).trans ((at_b m ρ c)))),
      (h.1 c _ (mem_uc main_v6_1 (by decide))).trans ((W9_of m ρ c main_v6_1 (by decide)).trans ((W8_of m ρ c main_v6_1 (by decide)).trans ((at_s m ρ c)))),
      (h.1 c _ (mem_uc main_v7_0 (by decide))).trans ((W9_of m ρ c main_v7_0 (by decide)).trans ((at_da m ρ c))),
      (h.1 c _ (mem_uc main_v7_1 (by decide))).trans ((W9_of m ρ c main_v7_1 (by decide)).trans ((at_db m ρ c))),
      (h.1 c _ (mem_uc main_v8 (by decide))).trans ((at_dy m ρ c)),
      (h.1 c _ (mem_uc main_arg0 (by decide))).trans (W9_main_arg0 m ρ c),
      (h.1 c _ (mem_uc main_arg1 (by decide))).trans (W9_main_arg1 m ρ c),
      (h.1 c _ (mem_uc main_arg2 (by decide))).trans (W9_main_arg2 m ρ c),
      (h.1 c _ (mem_uc main_arg3 (by decide))).trans (W9_main_arg3 m ρ c),
      (h.1 c _ (mem_uc main_arg4 (by decide))).trans (W9_main_arg4 m ρ c),
      (h.1 c _ (mem_uc main_arg5 (by decide))).trans (W9_main_arg5 m ρ c),
      (h.1 c _ (mem_uc main_arg6 (by decide))).trans (W9_main_arg6 m ρ c),
      (h.1 c _ (mem_uc main_arg7 (by decide))).trans (W9_main_arg7 m ρ c),
      (h.1 c _ (mem_uc main_arg8 (by decide))).trans (W9_main_arg8 m ρ c),
      (h.1 c _ (mem_uc main_arg9 (by decide))).trans (W9_main_arg9 m ρ c),
      (h.1 c _ (mem_uc main_arg10 (by decide))).trans (W9_main_arg10 m ρ c)⟩) (run_main m ρ)

end Cert.PassesIdeal.Values

end
-- ==== Proof.PassesRef.lean ====
/-
  The plain reference of the calls of both passes, over the real numbers: its run, entry by entry.
-/
module

public import proofs.«01_k».proof.Proof.Passes
public import proofs.«01_k».proof.Proof.Gen.PassesRefIdeal.Run

@[expose] public section

set_option maxRecDepth 16384

noncomputable section

open Idealize.ShloMosaic Idealize.ShloMosaic.TcCoe Idealize.SL.Sem
open Cert.Products

namespace Cert.PassesRefIdeal

open Cert.PassesIdeal.Values Cert.PassesRefIdeal.Gen

/-- The reference's reshape has the rows of both sequences, one after the other. -/
theorem rows_eq (x : FVec Ideal S2x2048x2048 .f32) : shapeCast S4096x2048 x shapeCasts_S2x2048x2048_S4096x2048 = rows x := by
  funext i
  pointwise [rows]

/-- The normalization, as the reference computes it. -/
def hNorm (x : FVec Ideal S4096x2048 .f32) (g : FVec Ideal S1x2048 .f32) : FVec Ideal S4096x2048 .bf16 :=
  truncf .bf16 (mulf (mulf x (broadcastInDim S4096x2048 ![0, 1] bcast_S4096x1_S4096x2048_0_1 (Host.rsqrt (addf (Host.divf
    (broadcastInDim S4096x1 ![0] bcast_S4096_S4096x1_0 (Host.reduceAdd (mulf x x) (constant S_ .f32 0x00000000#32) reducesTo_S4096x2048_S4096_d1 h_S_))
    (broadcastInDim S4096x1 ![] bcast_S_S4096x1 (constant S_ .f32 0x45000000#32))) (broadcastInDim S4096x1 ![] bcast_S_S4096x1 (constant S_ .f32 0x358637BD#32))))))
    (broadcastInDim S4096x2048 ![0, 1] bcast_S1x2048_S4096x2048_0_1 g)) bitsLt_bf16_f32

/-- It is the normalization. -/
theorem hNorm_eq (x : FVec Ideal S4096x2048 .f32) (g : FVec Ideal S1x2048 .f32) : hNorm x g = rmsNorm (a := 4096) x g := by
  funext i
  pointwise [hNorm, rmsNorm, invRms]

/-- The residual sum, as the reference computes it, of the rows. -/
def hMid (x : FVec Ideal S4096x2048 .f32) (y : FVec Ideal S4096x2048 .bf16) (w : FVec Ideal S2048x2048 .bf16) : FVec Ideal S4096x2048 .f32 :=
  addf x (Host.dotGeneral dot_S4096x2048_S2048x2048_S4096x2048_1_0_0_1_n_n none y w)

/-- It is the rows plus the product. -/
theorem hMid_eq (x : FVec Ideal S4096x2048 .f32) (y : FVec Ideal S4096x2048 .bf16) (w : FVec Ideal S2048x2048 .bf16) :
    hMid x y w = plus x (product (a := 4096) (k := 2048) (b := 2048) y w) := by
  funext i
  pointwise [hMid, plus, product]

/-- The product with the input weight, transposed. -/
theorem hProj_eq (x : FVec Ideal S4096x2048 .bf16) (w : FVec Ideal S3328x2048 .bf16) :
    Host.dotGeneral dot_S4096x2048_S2048x3328_S4096x3328_1_0_0_1_n_n none x (transpose S2048x3328 [1, 0] w transposes_S3328x2048_S2048x3328_1_0)
      = productNt (a := 4096) (k := 2048) (b := 3328) x w := by
  funext i
  pointwise [productNt]

/-- The product with the output weight, transposed. -/
theorem hOut_eq (x : FVec Ideal S4096x2048 .bf16) (w : FVec Ideal S2048x2048 .bf16) :
    Host.dotGeneral dot_S4096x2048_S2048x2048_S4096x2048_1_0_0_1_n_n none x (transpose S2048x2048 [1, 0] w transposes_S2048x2048_S2048x2048_1_0)
      = productNt (a := 4096) (k := 2048) (b := 2048) x w := by
  funext i
  pointwise [productNt]

/-- The product with a weight of the feed-forward part, transposed, as the reference computes it. -/
def hFfn (x : FVec Ideal S4096x2048 .bf16) (w : FVec Ideal S5632x2048 .bf16) : FVec Ideal S4096x5632 .f32 :=
  Host.dotGeneral dot_S4096x2048_S2048x5632_S4096x5632_1_0_0_1_n_n none x (transpose S2048x5632 [1, 0] w transposes_S5632x2048_S2048x5632_1_0)

/-- It is the product. -/
theorem hFfn_eq (x : FVec Ideal S4096x2048 .bf16) (w : FVec Ideal S5632x2048 .bf16) : hFfn x w = productNt (a := 4096) (k := 2048) (b := 5632) x w := by
  funext i
  pointwise [hFfn, productNt]

/-- The logistic function, as the reference computes it. -/
def hGate (x : FVec Ideal S4096x5632 .f32) : FVec Ideal S4096x5632 .f32 :=
  Host.divf (broadcastInDim S4096x5632 ![] bcast_S_S4096x5632 (constant S_ .f32 0x3F800000#32)) (addf (broadcastInDim S4096x5632 ![] bcast_S_S4096x5632 (constant S_ .f32 0x3F800000#32)) (Host.exp (Host.negf x)))

/-- It is the logistic function. -/
theorem hGate_eq (x : FVec Ideal S4096x5632 .f32) : hGate x = gate x := by
  funext i
  dsimp only [gate]
  rw [zero_sub]
  pointwise [hGate]

/-- The gated unit. -/
theorem hGlu_eq (x y : FVec Ideal S4096x5632 .f32) : truncf .bf16 (mulf (mulf x (hGate x)) y) bitsLt_bf16_f32 = glu x y := by
  rw [hGate_eq]
  funext i
  pointwise [glu]

/-- What comes back through it to its first array. -/
theorem hBack_eq (d x y : FVec Ideal S4096x5632 .f32) : truncf .bf16 (mulf (mulf d y) (mulf (hGate x) (addf (broadcastInDim S4096x5632 ![] bcast_S_S4096x5632 (constant S_ .f32 0x3F800000#32))
    (mulf x (subf (broadcastInDim S4096x5632 ![] bcast_S_S4096x5632 (constant S_ .f32 0x3F800000#32)) (hGate x)))))) bitsLt_bf16_f32 = gluBack d x y := by
  rw [hGate_eq]
  funext i
  pointwise [gluBack]

/-- What comes back through it to its second array. -/
theorem hBack'_eq (d x : FVec Ideal S4096x5632 .f32) : truncf .bf16 (mulf d (mulf x (hGate x))) bitsLt_bf16_f32 = gluBack' d x := by
  rw [hGate_eq]
  funext i
  pointwise [gluBack']

variable (m : (ℓ : Loc nD τ sig) → Buf (Elt Ideal) ℓ) (ρ : Dev nD → PrngReg)

/-- The reference runs, leaves the ten results and keeps its arguments. -/
theorem run_passes : θ_run (defs (F := Ideal)) (onTc (τ := τ) (main (F := Ideal))) ⟨m, fun _ => 0, ρ⟩ fun r => ∀ c : Dev nD,
      r.2.mem ((c.tc : Thread nD τ).loc main_v13) = rmsNorm (a := 4096) (rows (m ((c.tc : Thread nD τ).loc main_arg0))) (m ((c.tc : Thread nD τ).loc main_arg1))
      ∧ r.2.mem ((c.tc : Thread nD τ).loc main_v52) = productNt (a := 4096) (k := 2048) (b := 3328) (rmsNorm (a := 4096) (rows (m ((c.tc : Thread nD τ).loc main_arg0))) (m ((c.tc : Thread nD τ).loc main_arg1))) (m ((c.tc : Thread nD τ).loc main_arg2))
      ∧ r.2.mem ((c.tc : Thread nD τ).loc main_v15) = mid (m ((c.tc : Thread nD τ).loc main_arg0)) (m ((c.tc : Thread nD τ).loc main_arg3)) (m ((c.tc : Thread nD τ).loc main_arg4))
      ∧ r.2.mem ((c.tc : Thread nD τ).loc main_v28) = second (m ((c.tc : Thread nD τ).loc main_arg0)) (m ((c.tc : Thread nD τ).loc main_arg3)) (m ((c.tc : Thread nD τ).loc main_arg4)) (m ((c.tc : Thread nD τ).loc main_arg5))
      ∧ r.2.mem ((c.tc : Thread nD τ).loc main_v30) = unit (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v32) = unit (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg7))
      ∧ r.2.mem ((c.tc : Thread nD τ).loc main_v55) = glu (unit (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))) (unit (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg7)))
      ∧ r.2.mem ((c.tc : Thread nD τ).loc main_v56) = gluBack (productNt (a := 4096) (k := 2048) (b := 5632) (m ((c.tc : Thread nD τ).loc main_arg8)) (m ((c.tc : Thread nD τ).loc main_arg9))) (unit (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))) (unit (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg7)))
      ∧ r.2.mem ((c.tc : Thread nD τ).loc main_v57) = gluBack' (productNt (a := 4096) (k := 2048) (b := 5632) (m ((c.tc : Thread nD τ).loc main_arg8)) (m ((c.tc : Thread nD τ).loc main_arg9))) (unit (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)))
      ∧ r.2.mem ((c.tc : Thread nD τ).loc main_v59) = productNt (a := 4096) (k := 2048) (b := 2048) (m ((c.tc : Thread nD τ).loc main_arg10)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => by
    obtain ⟨r0, r1, r2, r3, r4, r5, r6, r7, r8, r9, hr⟩ := h c
    have e1 : hNorm (shapeCast S4096x2048 (m ((c.tc : Thread nD τ).loc main_arg0)) shapeCasts_S2x2048x2048_S4096x2048) (m ((c.tc : Thread nD τ).loc main_arg1))
      = rmsNorm (a := 4096) (rows (m ((c.tc : Thread nD τ).loc main_arg0))) (m ((c.tc : Thread nD τ).loc main_arg1)) := by rw [rows_eq, hNorm_eq]
    have e2 : hMid (shapeCast S4096x2048 (m ((c.tc : Thread nD τ).loc main_arg0)) shapeCasts_S2x2048x2048_S4096x2048) (m ((c.tc : Thread nD τ).loc main_arg3)) (m ((c.tc : Thread nD τ).loc main_arg4))
      = mid (m ((c.tc : Thread nD τ).loc main_arg0)) (m ((c.tc : Thread nD τ).loc main_arg3)) (m ((c.tc : Thread nD τ).loc main_arg4)) := by rw [rows_eq, hMid_eq]; rfl
    have e3 : hNorm (hMid (shapeCast S4096x2048 (m ((c.tc : Thread nD τ).loc main_arg0)) shapeCasts_S2x2048x2048_S4096x2048) (m ((c.tc : Thread nD τ).loc main_arg3)) (m ((c.tc : Thread nD τ).loc main_arg4))) (m ((c.tc : Thread nD τ).loc main_arg5))
      = second (m ((c.tc : Thread nD τ).loc main_arg0)) (m ((c.tc : Thread nD τ).loc main_arg3)) (m ((c.tc : Thread nD τ).loc main_arg4)) (m ((c.tc : Thread nD τ).loc main_arg5)) := by rw [e2, hNorm_eq]; rfl
    have ea : hFfn (hNorm (hMid (shapeCast S4096x2048 (m ((c.tc : Thread nD τ).loc main_arg0)) shapeCasts_S2x2048x2048_S4096x2048) (m ((c.tc : Thread nD τ).loc main_arg3)) (m ((c.tc : Thread nD τ).loc main_arg4))) (m ((c.tc : Thread nD τ).loc main_arg5))) (m ((c.tc : Thread nD τ).loc main_arg6))
      = unit (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) := by rw [e3, hFfn_eq]; rfl
    have eb : hFfn (hNorm (hMid (shapeCast S4096x2048 (m ((c.tc : Thread nD τ).loc main_arg0)) shapeCasts_S2x2048x2048_S4096x2048) (m ((c.tc : Thread nD τ).loc main_arg3)) (m ((c.tc : Thread nD τ).loc main_arg4))) (m ((c.tc : Thread nD τ).loc main_arg5))) (m ((c.tc : Thread nD τ).loc main_arg7))
      = unit (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg7)) := by rw [e3, hFfn_eq]; rfl
    have ed : hFfn (m ((c.tc : Thread nD τ).loc main_arg8)) (m ((c.tc : Thread nD τ).loc main_arg9)) = productNt (a := 4096) (k := 2048) (b := 5632) (m ((c.tc : Thread nD τ).loc main_arg8)) (m ((c.tc : Thread nD τ).loc main_arg9)) := hFfn_eq _ _
    refine ⟨r0.trans e1, r1.trans ((congrFun (congrArg _ e1) _).trans (hProj_eq _ _)), r2.trans e2, r3.trans e3, r4.trans ea, r5.trans eb,
      r6.trans ?_, r7.trans ?_, r8.trans ?_, r9.trans (hOut_eq _ _), hr⟩
    · rw [← ea, ← eb, ← hGlu_eq]; rfl
    · rw [← ed, ← ea, ← eb, ← hBack_eq]; rfl
    · rw [← ed, ← ea, ← hBack'_eq]; rfl) (Value.run m ρ)

end Cert.PassesRefIdeal

end
-- ==== Proof.GwFfnValues.lean ====
/-
  The weight gradient that the call mm_gw_down computes, over the real numbers: the four parts of the contraction that it adds up
  are the whole contraction.
-/
module

public import proofs.«01_k».proof.Proof.Gen.GwFfnIdeal.Value
public import proofs.«01_k».proof.Proof.Gen.GwFfnRefIdeal.Run
public import proofs.«01_k».proof.Proof.Products
public import Idealize.ShloMosaic.Lib.Pipeline.ValueKit
public import Idealize.ShloMosaic.Lib.Pipeline.ReadBack
public import Idealize.ShloMosaic.Lib.Pointwise.Tactic

@[expose] public section

set_option maxRecDepth 16384

noncomputable section

open Idealize.ShloMosaic Idealize.ShloMosaic.TcCoe Idealize.SL.Sem
open Idealize.ShloMosaic.Pipeline (Dat)
open Cert.Products

namespace Cert.GwFfnIdeal.Values

open Cert.GwFfnIdeal Cert.GwFfnIdeal.Gen

/-- Where the blocks lie. -/
theorem idx : ∀ t : Fin cfg0.N, win0_0.index t = ![t.val % 4, t.val / 8] ∧ win0_1.index t = ![t.val % 4, t.val / 4 % 2]
    ∧ win0_2.index t = ![t.val / 8, t.val / 4 % 2] :=
  (by decide +kernel : ∀ t : Fin grid0.N, _)

/-- The first step stores its part of the contraction. -/
theorem pay_first (x : FVec Ideal S1024x1408 .bf16) (y : FVec Ideal S1024x1024 .bf16) (j : S1408x1024.Idx) :
    (k0_pay2 x y : FVec Ideal S1408x1024 .f32) j = (0 + productTn x y j : EReal) := by
  pointwise [k0_pay2, k0_pay1, productTn]

/-- A later step adds its part. -/
theorem pay_next (x : FVec Ideal S1024x1408 .bf16) (y : FVec Ideal S1024x1024 .bf16) (z : FVec Ideal S1408x1024 .f32) (j : S1408x1024.Idx) :
    (k0_pay3 x y z : FVec Ideal S1408x1024 .f32) j = (z j + productTn x y j : EReal) := by
  pointwise [k0_pay3, k0_pay1, productTn]

variable (m : (ℓ : Loc nD τ sig) → Buf (Elt Ideal) ℓ)

/-- After the last of four steps the accumulator holds the sum of their parts. -/
theorem acc (c : Dev nD) (t : Fin cfg0.N) (hf : t.val % 4 = 3) (y : S1408x1024.Idx) :
    (outsAt0 m c t.val t.isLt).2 y = ∑ s : Fin 4, (productTn (iblk m c 0 ⟨4 * (t.val / 4) + s.val, Pipeline.run_point_lt_of_flush t hf s⟩ : FVec Ideal S1024x1408 .bf16)
      (iblk m c 1 ⟨4 * (t.val / 4) + s.val, Pipeline.run_point_lt_of_flush t hf s⟩ : FVec Ideal S1024x1024 .bf16) y : EReal) := by
  rw [Pipeline.eq_sum_fin_of_reset_step_apply_of_flush (fun n h => (outsAt0 m c n h).2) 4 (fun _ => (0 : EReal))
    (fun t => productTn (iblk m c 0 t : FVec Ideal S1024x1408 .bf16) (iblk m c 1 t : FVec Ideal S1024x1024 .bf16))
    (fun t h j => by
      show (outsAt0 m c t.val t.isLt).2 j = _
      rw [outsAt0_A m c t h (by omega) (by omega)]; frame_out; rw [pay_first])
    (fun t h j => by
      show (outsAt0 m c t.val t.isLt).2 j = _
      by_cases h3 : t.val % 4 = 3
      · rw [outsAt0_C m c t h (by omega) h3]; frame_out; rw [read_unread_whole, pay_next]
      · rw [outsAt0_B m c t h (by omega) h3]; frame_out; rw [read_unread_whole, pay_next]) t hf y, zero_add]

/-- The last step's result is what the accumulator then holds. -/
theorem out (c : Dev nD) (t : Fin cfg0.N) (hf : t.val % 4 = 3) (y : S1408x1024.Idx) :
    (outsAt0 m c t.val t.isLt).1 y = ((outsAt0 m c t.val t.isLt).2 y : EReal) := by
  rw [outsAt0_C m c t (by omega) (by omega) hf]; frame_out
  pointwise [k0_pay4]

/-- The call leaves the plain product, in the narrower format. -/
theorem value (c : Dev nD) : (dats m 0 c).arrAt 2 cfg0.N
    = narrow (productTn (a := 5632) (k := 4096) (b := 2048) (m ((c : Thread nD τ).loc main_arg0)) (m ((c : Thread nD τ).loc main_arg1))) := by
  refine (dats m 0 c).arrAt_eq_of_covers 2 _ (by decide +kernel) fun t hf y => ?_
  have h3 := (flush0_2 t).mp hf
  blk_simp
  rw [after0_2]
  refine (out m c t h3 y).trans ((acc m c t h3 y).trans ?_)
  dsimp only [narrow, productTn]
  refine Fin.sum_mul_add_congr fun s k hl => ?_
  blk_point [iblk, V_main_arg0, V_main_arg1, idx t, idx ⟨4 * (t.val / 4) + s.val, Pipeline.run_point_lt_of_flush t h3 s⟩]

end Cert.GwFfnIdeal.Values

namespace Cert.GwFfnRefIdeal

open Cert.GwFfnRefIdeal.Gen

/-- The host's product is the plain product. -/
theorem host_eq (x : FVec Ideal S4096x5632 .bf16) (y : FVec Ideal S4096x2048 .bf16) :
    truncf .bf16 (Host.dotGeneral dot_S5632x4096_S4096x2048_S5632x2048_1_0_0_1_n_n none (transpose S5632x4096 [1, 0] x transposes_S4096x5632_S5632x4096_1_0) y) bitsLt_bf16_f32
      = narrow (productTn (a := 5632) (k := 4096) (b := 2048) x y) := by
  funext i
  pointwise [narrow, productTn]

variable (m : (ℓ : Loc nD τ sig) → Buf (Elt Ideal) ℓ) (ρ : Dev nD → PrngReg)

/-- The reference runs, leaves the product and keeps its arguments. -/
theorem run_product : θ_run (defs (F := Ideal)) (onTc (τ := τ) (main (F := Ideal))) ⟨m, fun _ => 0, ρ⟩ fun r => ∀ c : Dev nD,
      r.2.mem ((c.tc : Thread nD τ).loc main_v2)
        = narrow (productTn (a := 5632) (k := 4096) (b := 2048) (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (host_eq _ _), (h c).2⟩) (Value.run m ρ)

end Cert.GwFfnRefIdeal

end
-- ==== Proof.GwOutValues.lean ====
/-
  The weight gradient that the call mm_gw_out computes, over the real numbers: the four parts of the contraction that it adds up
  are the whole contraction.
-/
module

public import proofs.«01_k».proof.Proof.Gen.GwOutIdeal.Value
public import proofs.«01_k».proof.Proof.Gen.GwOutRefIdeal.Run
public import proofs.«01_k».proof.Proof.Products
public import Idealize.ShloMosaic.Lib.Pipeline.ValueKit
public import Idealize.ShloMosaic.Lib.Pipeline.ReadBack
public import Idealize.ShloMosaic.Lib.Pointwise.Tactic

@[expose] public section

set_option maxRecDepth 16384

noncomputable section

open Idealize.ShloMosaic Idealize.ShloMosaic.TcCoe Idealize.SL.Sem
open Idealize.ShloMosaic.Pipeline (Dat)
open Cert.Products

namespace Cert.GwOutIdeal.Values

open Cert.GwOutIdeal Cert.GwOutIdeal.Gen

/-- Where the blocks lie. -/
theorem idx : ∀ t : Fin cfg0.N, win0_0.index t = ![t.val % 4, t.val / 8] ∧ win0_1.index t = ![t.val % 4, t.val / 4 % 2]
    ∧ win0_2.index t = ![t.val / 8, t.val / 4 % 2] :=
  (by decide +kernel : ∀ t : Fin grid0.N, _)

/-- The first step stores its part of the contraction. -/
theorem pay_first (x : FVec Ideal S1024x1024 .bf16) (y : FVec Ideal S1024x1024 .bf16) (j : S1024x1024.Idx) :
    (k0_pay2 x y : FVec Ideal S1024x1024 .f32) j = (0 + productTn x y j : EReal) := by
  pointwise [k0_pay2, k0_pay1, productTn]

/-- A later step adds its part. -/
theorem pay_next (x : FVec Ideal S1024x1024 .bf16) (y : FVec Ideal S1024x1024 .bf16) (z : FVec Ideal S1024x1024 .f32) (j : S1024x1024.Idx) :
    (k0_pay3 x y z : FVec Ideal S1024x1024 .f32) j = (z j + productTn x y j : EReal) := by
  pointwise [k0_pay3, k0_pay1, productTn]

variable (m : (ℓ : Loc nD τ sig) → Buf (Elt Ideal) ℓ)

/-- After the last of four steps the accumulator holds the sum of their parts. -/
theorem acc (c : Dev nD) (t : Fin cfg0.N) (hf : t.val % 4 = 3) (y : S1024x1024.Idx) :
    (outsAt0 m c t.val t.isLt).2 y = ∑ s : Fin 4, (productTn (iblk m c 0 ⟨4 * (t.val / 4) + s.val, Pipeline.run_point_lt_of_flush t hf s⟩ : FVec Ideal S1024x1024 .bf16)
      (iblk m c 1 ⟨4 * (t.val / 4) + s.val, Pipeline.run_point_lt_of_flush t hf s⟩ : FVec Ideal S1024x1024 .bf16) y : EReal) := by
  rw [Pipeline.eq_sum_fin_of_reset_step_apply_of_flush (fun n h => (outsAt0 m c n h).2) 4 (fun _ => (0 : EReal))
    (fun t => productTn (iblk m c 0 t : FVec Ideal S1024x1024 .bf16) (iblk m c 1 t : FVec Ideal S1024x1024 .bf16))
    (fun t h j => by
      show (outsAt0 m c t.val t.isLt).2 j = _
      rw [outsAt0_A m c t h (by omega) (by omega)]; frame_out; rw [pay_first])
    (fun t h j => by
      show (outsAt0 m c t.val t.isLt).2 j = _
      by_cases h3 : t.val % 4 = 3
      · rw [outsAt0_C m c t h (by omega) h3]; frame_out; rw [read_unread_whole, pay_next]
      · rw [outsAt0_B m c t h (by omega) h3]; frame_out; rw [read_unread_whole, pay_next]) t hf y, zero_add]

/-- The last step's result is what the accumulator then holds. -/
theorem out (c : Dev nD) (t : Fin cfg0.N) (hf : t.val % 4 = 3) (y : S1024x1024.Idx) :
    (outsAt0 m c t.val t.isLt).1 y = ((outsAt0 m c t.val t.isLt).2 y : EReal) := by
  rw [outsAt0_C m c t (by omega) (by omega) hf]; frame_out
  pointwise [k0_pay4]

/-- The call leaves the plain product, in the narrower format. -/
theorem value (c : Dev nD) : (dats m 0 c).arrAt 2 cfg0.N
    = narrow (productTn (a := 2048) (k := 4096) (b := 2048) (m ((c : Thread nD τ).loc main_arg0)) (m ((c : Thread nD τ).loc main_arg1))) := by
  refine (dats m 0 c).arrAt_eq_of_covers 2 _ (by decide +kernel) fun t hf y => ?_
  have h3 := (flush0_2 t).mp hf
  blk_simp
  rw [after0_2]
  refine (out m c t h3 y).trans ((acc m c t h3 y).trans ?_)
  dsimp only [narrow, productTn]
  refine Fin.sum_mul_add_congr fun s k hl => ?_
  blk_point [iblk, V_main_arg0, V_main_arg1, idx t, idx ⟨4 * (t.val / 4) + s.val, Pipeline.run_point_lt_of_flush t h3 s⟩]

end Cert.GwOutIdeal.Values

namespace Cert.GwOutRefIdeal

open Cert.GwOutRefIdeal.Gen

/-- The host's product is the plain product. -/
theorem host_eq (x : FVec Ideal S4096x2048 .bf16) (y : FVec Ideal S4096x2048 .bf16) :
    truncf .bf16 (Host.dotGeneral dot_S2048x4096_S4096x2048_S2048x2048_1_0_0_1_n_n none (transpose S2048x4096 [1, 0] x transposes_S4096x2048_S2048x4096_1_0) y) bitsLt_bf16_f32
      = narrow (productTn (a := 2048) (k := 4096) (b := 2048) x y) := by
  funext i
  pointwise [narrow, productTn]

variable (m : (ℓ : Loc nD τ sig) → Buf (Elt Ideal) ℓ) (ρ : Dev nD → PrngReg)

/-- The reference runs, leaves the product and keeps its arguments. -/
theorem run_product : θ_run (defs (F := Ideal)) (onTc (τ := τ) (main (F := Ideal))) ⟨m, fun _ => 0, ρ⟩ fun r => ∀ c : Dev nD,
      r.2.mem ((c.tc : Thread nD τ).loc main_v2)
        = narrow (productTn (a := 2048) (k := 4096) (b := 2048) (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (host_eq _ _), (h c).2⟩) (Value.run m ρ)

end Cert.GwOutRefIdeal

end
-- ==== Proof.GwInValues.lean ====
/-
  The weight gradient that the call mm_gw_in computes, over the real numbers: the four parts of the contraction that it adds up
  are the whole contraction.
-/
module

public import proofs.«01_k».proof.Proof.Gen.GwInIdeal.Value
public import proofs.«01_k».proof.Proof.Gen.GwInRefIdeal.Run
public import proofs.«01_k».proof.Proof.Products
public import Idealize.ShloMosaic.Lib.Pipeline.ValueKit
public import Idealize.ShloMosaic.Lib.Pipeline.ReadBack
public import Idealize.ShloMosaic.Lib.Pointwise.Tactic

@[expose] public section

set_option maxRecDepth 16384

noncomputable section

open Idealize.ShloMosaic Idealize.ShloMosaic.TcCoe Idealize.SL.Sem
open Idealize.ShloMosaic.Pipeline (Dat)
open Cert.Products

namespace Cert.GwInIdeal.Values

open Cert.GwInIdeal Cert.GwInIdeal.Gen

/-- Where the blocks lie. -/
theorem idx : ∀ t : Fin cfg0.N, win0_0.index t = ![t.val % 4, t.val / 8] ∧ win0_1.index t = ![t.val % 4, t.val / 4 % 2]
    ∧ win0_2.index t = ![t.val / 8, t.val / 4 % 2] :=
  (by decide +kernel : ∀ t : Fin grid0.N, _)

/-- The first step stores its part of the contraction. -/
theorem pay_first (x : FVec Ideal S1024x1664 .bf16) (y : FVec Ideal S1024x1024 .bf16) (j : S1664x1024.Idx) :
    (k0_pay2 x y : FVec Ideal S1664x1024 .f32) j = (0 + productTn x y j : EReal) := by
  pointwise [k0_pay2, k0_pay1, productTn]

/-- A later step adds its part. -/
theorem pay_next (x : FVec Ideal S1024x1664 .bf16) (y : FVec Ideal S1024x1024 .bf16) (z : FVec Ideal S1664x1024 .f32) (j : S1664x1024.Idx) :
    (k0_pay3 x y z : FVec Ideal S1664x1024 .f32) j = (z j + productTn x y j : EReal) := by
  pointwise [k0_pay3, k0_pay1, productTn]

variable (m : (ℓ : Loc nD τ sig) → Buf (Elt Ideal) ℓ)

/-- After the last of four steps the accumulator holds the sum of their parts. -/
theorem acc (c : Dev nD) (t : Fin cfg0.N) (hf : t.val % 4 = 3) (y : S1664x1024.Idx) :
    (outsAt0 m c t.val t.isLt).2 y = ∑ s : Fin 4, (productTn (iblk m c 0 ⟨4 * (t.val / 4) + s.val, Pipeline.run_point_lt_of_flush t hf s⟩ : FVec Ideal S1024x1664 .bf16)
      (iblk m c 1 ⟨4 * (t.val / 4) + s.val, Pipeline.run_point_lt_of_flush t hf s⟩ : FVec Ideal S1024x1024 .bf16) y : EReal) := by
  rw [Pipeline.eq_sum_fin_of_reset_step_apply_of_flush (fun n h => (outsAt0 m c n h).2) 4 (fun _ => (0 : EReal))
    (fun t => productTn (iblk m c 0 t : FVec Ideal S1024x1664 .bf16) (iblk m c 1 t : FVec Ideal S1024x1024 .bf16))
    (fun t h j => by
      show (outsAt0 m c t.val t.isLt).2 j = _
      rw [outsAt0_A m c t h (by omega) (by omega)]; frame_out; rw [pay_first])
    (fun t h j => by
      show (outsAt0 m c t.val t.isLt).2 j = _
      by_cases h3 : t.val % 4 = 3
      · rw [outsAt0_C m c t h (by omega) h3]; frame_out; rw [read_unread_whole, pay_next]
      · rw [outsAt0_B m c t h (by omega) h3]; frame_out; rw [read_unread_whole, pay_next]) t hf y, zero_add]

/-- The last step's result is what the accumulator then holds. -/
theorem out (c : Dev nD) (t : Fin cfg0.N) (hf : t.val % 4 = 3) (y : S1664x1024.Idx) :
    (outsAt0 m c t.val t.isLt).1 y = ((outsAt0 m c t.val t.isLt).2 y : EReal) := by
  rw [outsAt0_C m c t (by omega) (by omega) hf]; frame_out
  pointwise [k0_pay4]

/-- The call leaves the plain product, in the narrower format. -/
theorem value (c : Dev nD) : (dats m 0 c).arrAt 2 cfg0.N
    = narrow (productTn (a := 3328) (k := 4096) (b := 2048) (m ((c : Thread nD τ).loc main_arg0)) (m ((c : Thread nD τ).loc main_arg1))) := by
  refine (dats m 0 c).arrAt_eq_of_covers 2 _ (by decide +kernel) fun t hf y => ?_
  have h3 := (flush0_2 t).mp hf
  blk_simp
  rw [after0_2]
  refine (out m c t h3 y).trans ((acc m c t h3 y).trans ?_)
  dsimp only [narrow, productTn]
  refine Fin.sum_mul_add_congr fun s k hl => ?_
  blk_point [iblk, V_main_arg0, V_main_arg1, idx t, idx ⟨4 * (t.val / 4) + s.val, Pipeline.run_point_lt_of_flush t h3 s⟩]

end Cert.GwInIdeal.Values

namespace Cert.GwInRefIdeal

open Cert.GwInRefIdeal.Gen

/-- The host's product is the plain product. -/
theorem host_eq (x : FVec Ideal S4096x3328 .bf16) (y : FVec Ideal S4096x2048 .bf16) :
    truncf .bf16 (Host.dotGeneral dot_S3328x4096_S4096x2048_S3328x2048_1_0_0_1_n_n none (transpose S3328x4096 [1, 0] x transposes_S4096x3328_S3328x4096_1_0) y) bitsLt_bf16_f32
      = narrow (productTn (a := 3328) (k := 4096) (b := 2048) x y) := by
  funext i
  pointwise [narrow, productTn]

variable (m : (ℓ : Loc nD τ sig) → Buf (Elt Ideal) ℓ) (ρ : Dev nD → PrngReg)

/-- The reference runs, leaves the product and keeps its arguments. -/
theorem run_product : θ_run (defs (F := Ideal)) (onTc (τ := τ) (main (F := Ideal))) ⟨m, fun _ => 0, ρ⟩ fun r => ∀ c : Dev nD,
      r.2.mem ((c.tc : Thread nD τ).loc main_v2)
        = narrow (productTn (a := 3328) (k := 4096) (b := 2048) (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (host_eq _ _), (h c).2⟩) (Value.run m ρ)

end Cert.GwInRefIdeal

end
-- ==== Proof.HidGateValues.lean ====
/-
  The product of the call mm_dh2_gate, over the real numbers: the four parts of the contraction that it adds up
  are the whole contraction.
-/
module

public import proofs.«01_k».proof.Proof.Gen.HidGateIdeal.Value
public import proofs.«01_k».proof.Proof.Gen.HidGateRefIdeal.Run
public import proofs.«01_k».proof.Proof.Products
public import Idealize.ShloMosaic.Lib.Pipeline.ValueKit
public import Idealize.ShloMosaic.Lib.Pipeline.ReadBack
public import Idealize.ShloMosaic.Lib.Pointwise.Tactic

@[expose] public section

set_option maxRecDepth 16384

noncomputable section

open Idealize.ShloMosaic Idealize.ShloMosaic.TcCoe Idealize.SL.Sem
open Idealize.ShloMosaic.Pipeline (Dat)
open Cert.Products

namespace Cert.HidGateIdeal.Values

open Cert.HidGateIdeal Cert.HidGateIdeal.Gen

/-- Where the blocks lie. -/
theorem idx : ∀ t : Fin cfg0.N, win0_0.index t = ![t.val / 8, t.val % 4] ∧ win0_1.index t = ![t.val % 4, t.val / 4 % 2]
    ∧ win0_2.index t = ![t.val / 8, t.val / 4 % 2] :=
  (by decide +kernel : ∀ t : Fin grid0.N, _)

/-- The first step stores its part of the contraction. -/
theorem pay_first (x : FVec Ideal S512x1408 .bf16) (y : FVec Ideal S1408x1024 .bf16) (j : S512x1024.Idx) :
    (k0_pay2 x y : FVec Ideal S512x1024 .f32) j = (0 + product x y j : EReal) := by
  pointwise [k0_pay2, k0_pay1, product]

/-- A later step adds its part. -/
theorem pay_next (x : FVec Ideal S512x1408 .bf16) (y : FVec Ideal S1408x1024 .bf16) (z : FVec Ideal S512x1024 .f32) (j : S512x1024.Idx) :
    (k0_pay3 x y z : FVec Ideal S512x1024 .f32) j = (z j + product x y j : EReal) := by
  pointwise [k0_pay3, k0_pay1, product]

variable (m : (ℓ : Loc nD τ sig) → Buf (Elt Ideal) ℓ)

/-- After the last of four steps the accumulator holds the sum of their parts. -/
theorem acc (c : Dev nD) (t : Fin cfg0.N) (hf : t.val % 4 = 3) (y : S512x1024.Idx) :
    (outsAt0 m c t.val t.isLt).2 y = ∑ s : Fin 4, (product (iblk m c 0 ⟨4 * (t.val / 4) + s.val, Pipeline.run_point_lt_of_flush t hf s⟩ : FVec Ideal S512x1408 .bf16)
      (iblk m c 1 ⟨4 * (t.val / 4) + s.val, Pipeline.run_point_lt_of_flush t hf s⟩ : FVec Ideal S1408x1024 .bf16) y : EReal) := by
  rw [Pipeline.eq_sum_fin_of_reset_step_apply_of_flush (fun n h => (outsAt0 m c n h).2) 4 (fun _ => (0 : EReal))
    (fun t => product (iblk m c 0 t : FVec Ideal S512x1408 .bf16) (iblk m c 1 t : FVec Ideal S1408x1024 .bf16))
    (fun t h j => by
      show (outsAt0 m c t.val t.isLt).2 j = _
      rw [outsAt0_A m c t h (by omega) (by omega)]; frame_out; rw [pay_first])
    (fun t h j => by
      show (outsAt0 m c t.val t.isLt).2 j = _
      by_cases h3 : t.val % 4 = 3
      · rw [outsAt0_C m c t h (by omega) h3]; frame_out; rw [read_unread_whole, pay_next]
      · rw [outsAt0_B m c t h (by omega) h3]; frame_out; rw [read_unread_whole, pay_next]) t hf y, zero_add]

/-- The last step's result is what the accumulator then holds. -/
theorem out (c : Dev nD) (t : Fin cfg0.N) (hf : t.val % 4 = 3) :
    (outsAt0 m c t.val t.isLt).1 = (outsAt0 m c t.val t.isLt).2 := by
  rw [outsAt0_C m c t (by omega) (by omega) hf]; frame_out

/-- The call leaves the plain product. -/
theorem value (c : Dev nD) : (dats m 0 c).arrAt 2 cfg0.N
    = product (a := 4096) (k := 5632) (b := 2048) (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2, out m c t h3]
  refine (acc m c t h3 y).trans ?_
  dsimp only [product]
  refine Fin.sum_mul_add_congr fun s k hl => ?_
  blk_point [iblk, V_main_arg0, V_main_arg1, idx t, idx ⟨4 * (t.val / 4) + s.val, Pipeline.run_point_lt_of_flush t h3 s⟩]

end Cert.HidGateIdeal.Values

namespace Cert.HidGateRefIdeal

open Cert.HidGateRefIdeal.Gen

/-- The host's product is the plain product. -/
theorem dot_eq (x : FVec Ideal S4096x5632 .bf16) (y : FVec Ideal S5632x2048 .bf16) :
    Host.dotGeneral dot_S4096x5632_S5632x2048_S4096x2048_1_0_0_1_n_n none x y = product (a := 4096) (k := 5632) (b := 2048) x y := by
  funext i
  pointwise [product]

variable (m : (ℓ : Loc nD τ sig) → Buf (Elt Ideal) ℓ) (ρ : Dev nD → PrngReg)

/-- The reference runs, leaves the product and keeps its arguments. -/
theorem run_product : θ_run (defs (F := Ideal)) (onTc (τ := τ) (main (F := Ideal))) ⟨m, fun _ => 0, ρ⟩ fun r => ∀ c : Dev nD,
      r.2.mem ((c.tc : Thread nD τ).loc main_v0)
        = product (a := 4096) (k := 5632) (b := 2048) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (dot_eq _ _), (h c).2⟩) (Value.run m ρ)

end Cert.HidGateRefIdeal

end
-- ==== Proof.HidUpValues.lean ====
/-
  The product of the call mm_dh2_up, over the real numbers: the four parts of the contraction that it adds up
  are the whole contraction.
-/
module

public import proofs.«01_k».proof.Proof.Gen.HidUpIdeal.Value
public import proofs.«01_k».proof.Proof.Gen.HidUpRefIdeal.Run
public import proofs.«01_k».proof.Proof.Products
public import Idealize.ShloMosaic.Lib.Pipeline.ValueKit
public import Idealize.ShloMosaic.Lib.Pipeline.ReadBack
public import Idealize.ShloMosaic.Lib.Pointwise.Tactic

@[expose] public section

set_option maxRecDepth 16384

noncomputable section

open Idealize.ShloMosaic Idealize.ShloMosaic.TcCoe Idealize.SL.Sem
open Idealize.ShloMosaic.Pipeline (Dat)
open Cert.Products

namespace Cert.HidUpIdeal.Values

open Cert.HidUpIdeal Cert.HidUpIdeal.Gen

/-- Where the blocks lie. -/
theorem idx : ∀ t : Fin cfg0.N, win0_0.index t = ![t.val / 8, t.val % 4] ∧ win0_1.index t = ![t.val % 4, t.val / 4 % 2]
    ∧ win0_2.index t = ![t.val / 8, t.val / 4 % 2]
    ∧ win0_3.index t = ![t.val / 8, t.val / 4 % 2] :=
  (by decide +kernel : ∀ t : Fin grid0.N, _)

/-- The first step stores its part of the contraction. -/
theorem pay_first (x : FVec Ideal S512x1408 .bf16) (y : FVec Ideal S1408x1024 .bf16) (j : S512x1024.Idx) :
    (k0_pay2 x y : FVec Ideal S512x1024 .f32) j = (0 + product x y j : EReal) := by
  pointwise [k0_pay2, k0_pay1, product]

/-- A later step adds its part. -/
theorem pay_next (x : FVec Ideal S512x1408 .bf16) (y : FVec Ideal S1408x1024 .bf16) (z : FVec Ideal S512x1024 .f32) (j : S512x1024.Idx) :
    (k0_pay3 x y z : FVec Ideal S512x1024 .f32) j = (z j + product x y j : EReal) := by
  pointwise [k0_pay3, k0_pay1, product]

variable (m : (ℓ : Loc nD τ sig) → Buf (Elt Ideal) ℓ)

/-- After the last of four steps the accumulator holds the sum of their parts. -/
theorem acc (c : Dev nD) (t : Fin cfg0.N) (hf : t.val % 4 = 3) (y : S512x1024.Idx) :
    (outsAt0 m c t.val t.isLt).2 y = ∑ s : Fin 4, (product (iblk m c 0 ⟨4 * (t.val / 4) + s.val, Pipeline.run_point_lt_of_flush t hf s⟩ : FVec Ideal S512x1408 .bf16)
      (iblk m c 1 ⟨4 * (t.val / 4) + s.val, Pipeline.run_point_lt_of_flush t hf s⟩ : FVec Ideal S1408x1024 .bf16) y : EReal) := by
  rw [Pipeline.eq_sum_fin_of_reset_step_apply_of_flush (fun n h => (outsAt0 m c n h).2) 4 (fun _ => (0 : EReal))
    (fun t => product (iblk m c 0 t : FVec Ideal S512x1408 .bf16) (iblk m c 1 t : FVec Ideal S1408x1024 .bf16))
    (fun t h j => by
      show (outsAt0 m c t.val t.isLt).2 j = _
      rw [outsAt0_A m c t h (by omega) (by omega)]; frame_out; rw [pay_first])
    (fun t h j => by
      show (outsAt0 m c t.val t.isLt).2 j = _
      by_cases h3 : t.val % 4 = 3
      · rw [outsAt0_C m c t h (by omega) h3]; frame_out; rw [read_unread_whole, pay_next]
      · rw [outsAt0_B m c t h (by omega) h3]; frame_out; rw [read_unread_whole, pay_next]) t hf y, zero_add]

/-- The last step's result adds to the given array what the accumulator then holds. -/
theorem out (c : Dev nD) (t : Fin cfg0.N) (hf : t.val % 4 = 3) (y : S512x1024.Idx) :
    (outsAt0 m c t.val t.isLt).1 y = plus (iblk m c 2 t : FVec Ideal S512x1024 .f32) (outsAt0 m c t.val t.isLt).2 y := by
  rw [outsAt0_C m c t (by omega) (by omega) hf]; frame_out
  pointwise [k0_pay4, plus]

/-- The call leaves the given array plus the plain product. -/
theorem value (c : Dev nD) : (dats m 0 c).arrAt 3 cfg0.N
    = plus (m ((c : Thread nD τ).loc main_arg2))
        (product (a := 4096) (k := 5632) (b := 2048) (m ((c : Thread nD τ).loc main_arg0)) (m ((c : Thread nD τ).loc main_arg1))) := by
  refine (dats m 0 c).arrAt_eq_of_covers 3 _ (by decide +kernel) fun t hf y => ?_
  have h3 := (flush0_3 t).mp hf
  blk_simp
  rw [after0_3]
  refine (out m c t h3 y).trans ?_
  show (_ + (outsAt0 m c t.val t.isLt).2 y : EReal) = _
  rw [acc m c t h3 y]
  dsimp only [product, plus]
  refine congrArg₂ (fun u v : EReal => u + v) ?_ (Fin.sum_mul_add_congr fun s k hl => ?_)
  · blk_point [iblk, V_main_arg2, idx t]
  · blk_point [iblk, V_main_arg0, V_main_arg1, idx t, idx ⟨4 * (t.val / 4) + s.val, Pipeline.run_point_lt_of_flush t h3 s⟩]

end Cert.HidUpIdeal.Values

namespace Cert.HidUpRefIdeal

open Cert.HidUpRefIdeal.Gen

/-- The reference's sum. -/
theorem sum_eq (x : FVec Ideal S4096x5632 .bf16) (y : FVec Ideal S5632x2048 .bf16) (z : FVec Ideal S4096x2048 .f32) :
    addf z (Host.dotGeneral dot_S4096x5632_S5632x2048_S4096x2048_1_0_0_1_n_n none x y)
      = plus z (product (a := 4096) (k := 5632) (b := 2048) x y) := by
  funext i
  pointwise [product, plus]

variable (m : (ℓ : Loc nD τ sig) → Buf (Elt Ideal) ℓ) (ρ : Dev nD → PrngReg)

/-- The reference runs, leaves the sum and keeps its arguments. -/
theorem run_sum : θ_run (defs (F := Ideal)) (onTc (τ := τ) (main (F := Ideal))) ⟨m, fun _ => 0, ρ⟩ fun r => ∀ c : Dev nD,
      r.2.mem ((c.tc : Thread nD τ).loc main_v1)
        = plus (m ((c.tc : Thread nD τ).loc main_arg2))
          (product (a := 4096) (k := 5632) (b := 2048) (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (sum_eq _ _ _), (h c).2⟩) (Value.run m ρ)

end Cert.HidUpRefIdeal

end
-- ==== Proof.DownValues.lean ====
/-
  The call that ends the forward pass, over the real numbers: the product in four parts, the difference from the target, the
  gradient of the loss and every tile's share of the loss.
-/
module

public import proofs.«01_k».proof.Proof.Gen.DownIdeal.Value
public import proofs.«01_k».proof.Proof.Products
public import Idealize.ShloMosaic.Lib.Pipeline.ValueKit
public import Idealize.ShloMosaic.Lib.Pipeline.ReadBack
public import Idealize.ShloMosaic.Lib.Pointwise.Tactic

@[expose] public section

set_option maxRecDepth 16384

noncomputable section

open Idealize.ShloMosaic Idealize.ShloMosaic.TcCoe Idealize.SL.Sem
open Idealize.ShloMosaic.Pipeline (Dat)
open Cert.Products

namespace Cert.DownIdeal.Values

open Cert.DownIdeal Cert.DownIdeal.Gen

/-- The layer's output less its target: the product added to the residual, less the target. -/
def miss {S : Shape} (p x z : FVec Ideal S .f32) : FVec Ideal S .f32 := fun i => (x i + p i - z i : EReal)

/-- The difference at an entry where the product is known. -/
theorem miss_of {S : Shape} (p x z : FVec Ideal S .f32) (i : S.Idx) (u : EReal) (h : p i = u) : miss p x z i = (x i + u - z i : EReal) := by
  rw [← h]; rfl

/-- The gradient of the loss: the difference over the width. -/
def scaled {S : Shape} (d : FVec Ideal S .f32) : FVec Ideal S .f32 := fun i => (d i * Ideal.ofBits .f32 0x3A000000#32 : EReal)

/-- The sum of the squares of one tile. -/
def squares (d : FVec Ideal ⟨2, ![512, 1024]⟩ .f32) : EReal := ∑ r : Fin 512, ∑ l : Fin 1024, (d (ix2 r l) * d (ix2 r l) : EReal)

/-- A tile of the whole difference. -/
def tile (d : FVec Ideal ⟨2, ![4096, 2048]⟩ .f32) (a : Fin 8) (b : Fin 2) : FVec Ideal ⟨2, ![512, 1024]⟩ .f32 := fun i =>
  d (ix2 ⟨a.val * 512 + (i 0).val, by have := (i 0).isLt; have := a.isLt; simp at *; omega⟩
    ⟨b.val * 1024 + (i 1).val, by have := (i 1).isLt; have := b.isLt; simp at *; omega⟩)

/-- Every tile's sum of squares, in each entry of an eight by 128 block. -/
def losses (d : FVec Ideal ⟨2, ![4096, 2048]⟩ .f32) : FVec Ideal ⟨2, ![64, 256]⟩ .f32 := fun i =>
  squares (tile d ⟨(i 0).val / 8, Nat.div_lt_of_lt_mul (i 0).isLt⟩ ⟨(i 1).val / 128, Nat.div_lt_of_lt_mul (i 1).isLt⟩)

/-- Where the blocks lie. -/
theorem idx : ∀ t : Fin cfg0.N, win0_0.index t = ![t.val / 8, t.val % 4] ∧ win0_1.index t = ![t.val % 4, t.val / 4 % 2]
    ∧ win0_2.index t = ![t.val / 8, t.val / 4 % 2]
    ∧ win0_3.index t = ![t.val / 8, t.val / 4 % 2] ∧ win0_4.index t = ![t.val / 8, t.val / 4 % 2]
    ∧ win0_5.index t = ![t.val / 8, t.val / 4 % 2] ∧ win0_6.index t = ![t.val / 8, t.val / 4 % 2] :=
  (by decide +kernel : ∀ t : Fin grid0.N, _)

/-- The first step stores its part of the contraction. -/
theorem pay_first (x : FVec Ideal S512x1408 .bf16) (y : FVec Ideal S1408x1024 .bf16) (j : S512x1024.Idx) :
    (k0_pay2 x y : FVec Ideal S512x1024 .f32) j = (0 + product x y j : EReal) := by
  pointwise [k0_pay2, k0_pay1, product]

/-- A later step adds its part. -/
theorem pay_next (x : FVec Ideal S512x1408 .bf16) (y : FVec Ideal S1408x1024 .bf16) (z : FVec Ideal S512x1024 .f32) (j : S512x1024.Idx) :
    (k0_pay3 x y z : FVec Ideal S512x1024 .f32) j = (z j + product x y j : EReal) := by
  pointwise [k0_pay3, k0_pay1, product]

variable (m : (ℓ : Loc nD τ sig) → Buf (Elt Ideal) ℓ)

/-- After the last of four steps the accumulator holds the sum of their parts. -/
theorem acc (c : Dev nD) (t : Fin cfg0.N) (hf : t.val % 4 = 3) (y : S512x1024.Idx) :
    (outsAt0 m c t.val t.isLt).2.2.2 y = ∑ s : Fin 4, (product (iblk m c 0 ⟨4 * (t.val / 4) + s.val, Pipeline.run_point_lt_of_flush t hf s⟩ : FVec Ideal S512x1408 .bf16)
      (iblk m c 1 ⟨4 * (t.val / 4) + s.val, Pipeline.run_point_lt_of_flush t hf s⟩ : FVec Ideal S1408x1024 .bf16) y : EReal) := by
  rw [Pipeline.eq_sum_fin_of_reset_step_apply_of_flush (fun n h => (outsAt0 m c n h).2.2.2) 4 (fun _ => (0 : EReal))
    (fun t => product (iblk m c 0 t : FVec Ideal S512x1408 .bf16) (iblk m c 1 t : FVec Ideal S1408x1024 .bf16))
    (fun t h j => by
      show (outsAt0 m c t.val t.isLt).2.2.2 j = _
      rw [outsAt0_A m c t h (by omega) (by omega)]; frame_out; rw [pay_first])
    (fun t h j => by
      show (outsAt0 m c t.val t.isLt).2.2.2 j = _
      by_cases h3 : t.val % 4 = 3
      · rw [outsAt0_C m c t h (by omega) h3]; frame_out; rw [read_unread_whole, pay_next]
      · rw [outsAt0_B m c t h (by omega) h3]; frame_out; rw [read_unread_whole, pay_next]) t hf y, zero_add]

/-- What the last step stores of the loss's gradient. -/
theorem pay_scaled (p x z : FVec Ideal S512x1024 .f32) (j : S512x1024.Idx) : k0_pay5 p x z j = scaled (miss p x z) j := by
  pointwise [k0_pay5, k0_pay4, scaled, miss]

/-- What it stores of the same in the narrower format. -/
theorem pay_narrow (p x z : FVec Ideal S512x1024 .f32) (j : S512x1024.Idx) : k0_pay7 p x z j = narrow (scaled (miss p x z)) j := by
  pointwise [k0_pay7, k0_pay5, k0_pay4, narrow, scaled, miss]

/-- What it stores of the tile's share of the loss. -/
theorem pay_squares (p x z : FVec Ideal S512x1024 .f32) (j : S8x128.Idx) :
    (k0_pay6 p x z : FVec Ideal S8x128 .f32) j = squares (miss p x z) := by
  pointwise [k0_pay6, k0_pay4, squares, miss]

/-- The three results of a last step, over what the accumulator then holds. -/
theorem outs (c : Dev nD) (t : Fin cfg0.N) (hf : t.val % 4 = 3) :
    (outsAt0 m c t.val t.isLt).1 = k0_pay5 (outsAt0 m c t.val t.isLt).2.2.2 (iblk m c 2 t) (iblk m c 3 t)
    ∧ (outsAt0 m c t.val t.isLt).2.1 = k0_pay7 (outsAt0 m c t.val t.isLt).2.2.2 (iblk m c 2 t) (iblk m c 3 t)
    ∧ (outsAt0 m c t.val t.isLt).2.2.1 = k0_pay6 (outsAt0 m c t.val t.isLt).2.2.2 (iblk m c 2 t) (iblk m c 3 t) := by
  rw [outsAt0_C m c t (by omega) (by omega) hf]
  refine ⟨?_, ?_, ?_⟩ <;> frame_out

/-- The whole difference, of the arrays at the start. -/
def diff (c : Dev nD) : FVec Ideal ⟨2, ![4096, 2048]⟩ .f32 :=
  miss (product (a := 4096) (k := 5632) (b := 2048) (m ((c : Thread nD τ).loc main_arg0)) (m ((c : Thread nD τ).loc main_arg1)))
    (m ((c : Thread nD τ).loc main_arg2)) (m ((c : Thread nD τ).loc main_arg3))

/-- A last step's difference is its tile of the whole difference. -/
theorem step_diff (c : Dev nD) (t : Fin cfg0.N) (h3 : t.val % 4 = 3) :
    miss (S := ⟨2, ![512, 1024]⟩) (outsAt0 m c t.val t.isLt).2.2.2 (iblk m c 2 t) (iblk m c 3 t)
      = tile (diff m c) ⟨t.val / 8, by have := t.isLt; have hN : cfg0.N = 64 := N_0; omega⟩ ⟨t.val / 4 % 2, by omega⟩ := by
  funext y
  refine (miss_of _ _ _ y _ (acc m c t h3 y)).trans ?_
  dsimp only [tile, diff, miss, product]
  refine congrArg₂ (fun u v : EReal => u - v) (congrArg₂ (fun u v : EReal => u + v) ?_ (Fin.sum_mul_add_congr fun s k hl => ?_)) ?_
  · blk_point [iblk, V_main_arg2, idx t]
  · blk_point [iblk, V_main_arg0, V_main_arg1, idx t, idx ⟨4 * (t.val / 4) + s.val, Pipeline.run_point_lt_of_flush t h3 s⟩]
  · blk_point [iblk, V_main_arg3, idx t]

/-- The call leaves the gradient of the loss. -/
theorem value4 (c : Dev nD) : (dats m 0 c).arrAt 4 cfg0.N = scaled (diff m c) := by
  refine (dats m 0 c).arrAt_eq_of_covers 4 _ (by decide +kernel) fun t hf y => ?_
  have h3 := (flush0_4 t).mp hf
  blk_simp
  rw [after0_4, (outs m c t h3).1]
  refine (pay_scaled _ _ _ y).trans ?_
  rw [step_diff m c t h3]
  dsimp only [scaled, tile]
  blk_point [idx t]

/-- The same in the narrower format. -/
theorem value5 (c : Dev nD) : (dats m 0 c).arrAt 5 cfg0.N = narrow (scaled (diff m c)) := by
  refine (dats m 0 c).arrAt_eq_of_covers 5 _ (by decide +kernel) fun t hf y => ?_
  have h3 := (flush0_5 t).mp hf
  blk_simp
  rw [after0_5, (outs m c t h3).2.1]
  refine (pay_narrow _ _ _ y).trans ?_
  rw [step_diff m c t h3]
  dsimp only [narrow, scaled, tile]
  blk_point [idx t]

/-- Every tile's share of the loss. -/
theorem value6 (c : Dev nD) : (dats m 0 c).arrAt 6 cfg0.N = losses (diff m c) := by
  refine (dats m 0 c).arrAt_eq_of_covers 6 _ (by decide +kernel) fun t hf y => ?_
  have h3 := (flush0_6 t).mp hf
  blk_simp
  rw [after0_6, (outs m c t h3).2.2]
  refine (pay_squares _ _ _ y).trans ?_
  rw [step_diff m c t h3]
  dsimp only [losses]
  blk_point [idx t] <;> exact Fin.ext (by dsimp only; omega)

end Cert.DownIdeal.Values

end
-- ==== Proof.DownRef.lean ====
/-
  The plain reference of the call that ends the forward pass, over the real numbers: its run, entry by entry.
-/
module

public import proofs.«01_k».proof.Proof.DownValues
public import proofs.«01_k».proof.Proof.Gen.DownRefIdeal.Run

@[expose] public section

set_option maxRecDepth 16384

noncomputable section

open Idealize.ShloMosaic Idealize.ShloMosaic.TcCoe Idealize.SL.Sem
open Cert.Products

namespace Cert.DownRefIdeal

open Cert.DownIdeal.Values Cert.DownRefIdeal.Gen

/-- The difference, as the reference computes it. -/
def hDiff (s : FVec Ideal S4096x5632 .bf16) (w : FVec Ideal S5632x2048 .bf16) (x z : FVec Ideal S4096x2048 .f32) : FVec Ideal S4096x2048 .f32 :=
  subf (addf x (Host.dotGeneral dot_S4096x5632_S5632x2048_S4096x2048_1_0_0_1_n_n none s w)) z

/-- It is the difference. -/
theorem hDiff_eq (s : FVec Ideal S4096x5632 .bf16) (w : FVec Ideal S5632x2048 .bf16) (x z : FVec Ideal S4096x2048 .f32) :
    hDiff s w x z = miss (product (a := 4096) (k := 5632) (b := 2048) s w) x z := by
  funext i
  pointwise [hDiff, miss, product]

/-- The gradient of the loss, as the reference computes it, is the difference over the width. -/
theorem hScaled_eq (d : FVec Ideal S4096x2048 .f32) :
    mulf d (broadcastInDim S4096x2048 ![] bcast_S_S4096x2048 (constant S_ .f32 0x3A000000#32)) = scaled d := by
  funext i
  pointwise [scaled]

/-- The sums of squares of the tiles, as the reference computes them. -/
def hTiles (d : FVec Ideal S4096x2048 .f32) : FVec Ideal S8x2 .f32 :=
  Host.reduceAdd (Host.reduceAdd (shapeCast _ (mulf d d) shapeCasts_S4096x2048_S8x512x2x1024) (constant S_ .f32 0x00000000#32)
    reducesTo_S8x512x2x1024_S8x512x2_d3 h_S_) (constant S_ .f32 0x00000000#32) reducesTo_S8x512x2_S8x2_d1 h_S_

/-- They are the sums of squares of the tiles. -/
theorem hTiles_apply (d : FVec Ideal S4096x2048 .f32) (a : Fin 8) (b : Fin 2) : hTiles d (ix2 a b) = squares (tile d a b) := by
  pointwise [hTiles, squares, tile]

/-- Each tile's sum, spread over its block. -/
theorem hLosses_eq (d : FVec Ideal S4096x2048 .f32) :
    shapeCast S64x256 (broadcastInDim S8x8x2x128 ![0, 1, 2, 3] bcast_S8x1x2x1_S8x8x2x128_0_1_2_3
      (broadcastInDim S8x1x2x1 ![0, 2] bcast_S8x2_S8x1x2x1_0_2 (hTiles d))) shapeCasts_S8x8x2x128_S64x256 = losses d := by
  funext i
  pointwise [losses, hTiles_apply]

variable (m : (ℓ : Loc nD τ sig) → Buf (Elt Ideal) ℓ) (ρ : Dev nD → PrngReg)

/-- The whole difference, of the arrays at the start. -/
def diff (c : Dev nD) : FVec Ideal ⟨2, ![4096, 2048]⟩ .f32 :=
  miss (product (a := 4096) (k := 5632) (b := 2048) (m ((c.tc : Thread nD τ).loc main_arg0)) (m ((c.tc : Thread nD τ).loc main_arg1)))
    (m ((c.tc : Thread nD τ).loc main_arg2)) (m ((c.tc : Thread nD τ).loc main_arg3))

/-- The reference runs, leaves the loss's gradient in both formats and the tiles' shares of the loss, and keeps its arguments. -/
theorem run_down : θ_run (defs (F := Ideal)) (onTc (τ := τ) (main (F := Ideal))) ⟨m, fun _ => 0, ρ⟩ fun r => ∀ c : Dev nD,
      r.2.mem ((c.tc : Thread nD τ).loc main_v4) = scaled (diff m c)
      ∧ r.2.mem ((c.tc : Thread nD τ).loc main_v9) = narrow (scaled (diff m c))
      ∧ r.2.mem ((c.tc : Thread nD τ).loc main_v12) = losses (diff m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    have e : hDiff (m ((c.tc : Thread nD τ).loc main_arg0)) (m ((c.tc : Thread nD τ).loc main_arg1)) (m ((c.tc : Thread nD τ).loc main_arg2))
      (m ((c.tc : Thread nD τ).loc main_arg3)) = diff m c := hDiff_eq _ _ _ _
    refine ⟨(h c).1.trans ((hScaled_eq (hDiff _ _ _ _)).trans (congrArg scaled e)),
      (h c).2.1.trans (congrArg narrow ((hScaled_eq (hDiff _ _ _ _)).trans (congrArg scaled e))),
      (h c).2.2.1.trans ((hLosses_eq (hDiff _ _ _ _)).trans (congrArg losses e)), (h c).2.2.2⟩) (Value.run m ρ)

end Cert.DownRefIdeal

end
-- ==== Proof.PatchValues.lean ====
/-
  The call that writes two heads' key and value gradients into their columns of the projections' gradient: every other column
  is as it was given.
-/
module

public import proofs.«01_k».proof.Proof.Gen.PatchIdeal.Value
public import proofs.«01_k».proof.Proof.Gen.PatchRefIdeal.Run
public import proofs.«01_k».proof.Proof.Gen.Patch.Frame
public import Idealize.ShloMosaic.Lib.Pipeline.ValueKit
public import Idealize.ShloMosaic.Lib.Pipeline.ReadBack
public import Idealize.ShloMosaic.Lib.Pointwise.Tactic

@[expose] public section

noncomputable section

open Idealize.ShloMosaic Idealize.ShloMosaic.TcCoe Idealize.SL.Sem
open Idealize.ShloMosaic.Pipeline (Dat)

namespace Cert.PatchIdeal.Values

open Cert.PatchIdeal Cert.PatchIdeal.Gen

variable {F : FTy → Type} [FloatOps F]

/-- Columns 1024 to 1279 of `x` replaced by `u`. -/
def patched {A : Type} (x : S4096x3328.Idx → A) (u : S4096x256.Idx → A) : S4096x3328.Idx → A := fun i =>
  if h : 1024 ≤ (i 1).val ∧ (i 1).val < 1280 then u (Shape.pair (d := ![4096, 256]) (i 0) ⟨(i 1).val - 1024, by show _ < 256; omega⟩) else x i

/-- Where the blocks lie. -/
theorem idx : ∀ t : Fin cfg0.N, win0_0.index t = ![t.val, 0] ∧ win0_1.index t = ![t.val, 4] :=
  (by decide +kernel : ∀ t : Fin grid0.N, _)

variable (m : (ℓ : Loc nD τ sig) → Buf (Elt F) ℓ)

/-- The call leaves its first argument with those columns replaced by its second. -/
theorem value (c : Dev nD) : (dats m 0 c).arrAt 1 cfg0.N
    = patched (m ((c : Thread nD τ).loc main_arg0)) (m ((c : Thread nD τ).loc main_arg1)) := by
  have h := (dats m 0 c).arrAt_eq_of_coversWhere 1 (P := fun i : S4096x3328.Idx => 1024 ≤ (i 1).val ∧ (i 1).val < 1280)
    (patched (m ((c : Thread nD τ).loc main_arg0)) (m ((c : Thread nD τ).loc main_arg1)))
    (fun β => β (1 : Fin _) = 4) (by decide +kernel) (fun t hf y => by
      blk_simp
      rw [after0_1]
      simp only [outsAt0]
      frame_out
      have hw : ∀ i : S4096x3328.Idx, 1024 ≤ (i 1).val ∧ (i 1).val < 1280 → ∀ u : S4096x256.Idx, u 0 = i 0 → (u 1).val + 1024 = (i 1).val →
          m ((c : Thread nD τ).loc main_arg1) u = patched (m ((c : Thread nD τ).loc main_arg0)) (m ((c : Thread nD τ).loc main_arg1)) i :=
        fun i hi u h0 h1 => by
          unfold patched
          rw [dif_pos hi]
          refine congrArg (m ((c : Thread nD τ).loc main_arg1)) (funext fun a => ?_)
          match a with
          | 0 => exact h0
          | 1 => exact Fin.ext (by show (u 1).val = (i 1).val - 1024; omega)
      obtain ⟨e0, e1⟩ := idx t
      have hy : (y (1 : Fin 2)).val < 256 := (y (1 : Fin 2)).isLt
      show V m c main_arg1 (((cfg0.win 0).blk t).view.emb y) = _
      rw [V_main_arg1]
      have o0 : win0_1.index t 0 = win0_0.index t 0 := by rw [e0, e1]; rfl
      have o1 : win0_1.index t 1 = 4 := by rw [e1]; rfl
      have o2 : win0_0.index t 1 = 0 := by rw [e0]; rfl
      refine hw _ ?_ _ ?_ ?_
      · show 1024 ≤ win0_1.index t 1 * 256 + 1 * (y (1 : Fin 2)).val ∧ win0_1.index t 1 * 256 + 1 * (y (1 : Fin 2)).val < 1280
        rw [o1]; omega
      · refine Fin.ext ?_
        show win0_0.index t 0 * 1024 + 1 * (y (0 : Fin 2)).val = win0_1.index t 0 * 1024 + 1 * (y (0 : Fin 2)).val
        rw [o0]
      · show win0_0.index t 1 * 256 + 1 * (y (1 : Fin 2)).val + 1024 = win0_1.index t 1 * 256 + 1 * (y (1 : Fin 2)).val
        rw [o1, o2]; omega)
    (fun j => by blk_simp [Pipeline.Window.cell_apply]; omega)
  refine h.trans (funext fun i => ?_)
  by_cases hp : 1024 ≤ (i 1).val ∧ (i 1).val < 1280
  · rw [if_pos hp]
  · rw [if_neg hp]
    unfold patched
    rw [dif_neg hp]
    exact congrFun (by show StableHlo.after hostOps0 _ main_v0 = _; simp only [hostOps0]; after_results; rfl : V m c main_v0 = m ((c : Thread nD τ).loc main_arg0)) i

/-- So does the reference. -/
theorem reference (x : S4096x3328.Idx → Elt F .bf16) (u : S4096x256.Idx → Elt F .bf16) :
    Host.dynamicUpdateSlice x u (fun k => (((![constantI Cert.PatchRefIdeal.S_ 32 0#32, constantI Cert.PatchRefIdeal.S_ 32 1024#32] : Fin 2 → (⟨Cert.PatchRefIdeal.S_, .i32⟩ : BufTy).Contents (Elt F))) k (Shape.Idx.first Cert.PatchRefIdeal.Gen.h_S_)).toInt)
      Cert.PatchRefIdeal.Gen.updateFits_S4096x3328_S4096x256 = patched x u := by
  refine (Host.dynamicUpdateSlice_eq_updateSlice _ _ _ _ ![0, 1024] (fun a => by match a with | 0 => rfl | 1 => rfl) (by decide)).trans ?_
  funext i
  by_cases hp : 1024 ≤ (i 1).val ∧ (i 1).val < 1280
  · unfold patched
    rw [dif_pos hp]
    refine (dif_pos (fun a => ?_)).trans (congrArg u (funext fun a => ?_))
    · match a with
      | 0 => exact ⟨Nat.zero_le _, by have := (i 0).isLt; show _ < 0 + 4096; rw [Nat.zero_add]; exact this⟩
      | 1 => exact ⟨hp.1, hp.2⟩
    · match a with
      | 0 => rfl
      | 1 => rfl
  · unfold patched
    rw [dif_neg hp]
    exact dif_neg fun h => hp ⟨(h 1).1, (h 1).2⟩

/-- The kernel's run ends with the columns updated. -/
theorem run_patch (ρ : Dev nD → PrngReg) : θ_run defs (onTc (τ := τ) (main (F := F))) ⟨m, fun _ => 0, ρ⟩ fun r => ∀ c : Dev nD,
      r.2.mem ((c : Thread nD τ).loc main_v0) = patched (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (value m c), (h c).2⟩) (Value.run_blocks m ρ)

/-- The kernel's function is the same under both of its names. -/
theorem table : Cert.Patch.defs₀ (F := Bits) = defs₀ (F := Bits) :=
  congrArg Defs.onTc (funext fun l => funext fun x => by
    match l, x with
    | 0, (t, s) => rfl)

/-- So on machine floats the run under the kernel's first name. -/
theorem run_bits (m : (ℓ : Loc nD τ sig) → Buf (Elt Bits) ℓ) (ρ : Dev nD → PrngReg) :
    θ_run Cert.Patch.defs (onTc (τ := τ) (Cert.Patch.main (F := Bits))) ⟨m, fun _ => 0, ρ⟩ fun r => ∀ c : Dev nD,
      r.2.mem ((c : Thread nD τ).loc main_v0) = patched (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  have e : Cert.Patch.defs (F := Bits) = defs (F := Bits) := congrArg (Pipeline.defs pcfgs) table
  rw [e]
  exact run_patch m ρ

/-- So does the reference's run, at any spelling of the updated array. -/
theorem run_reference (m' : (ℓ : Loc Cert.PatchRefIdeal.nD Cert.PatchRefIdeal.τ Cert.PatchRefIdeal.sig) → Buf (Elt F) ℓ)
    (ρ : Dev Cert.PatchRefIdeal.nD → PrngReg) (v : Dev Cert.PatchRefIdeal.nD → S4096x3328.Idx → Elt F .bf16)
    (hv : ∀ c : Dev Cert.PatchRefIdeal.nD, patched (m' ((c.tc : Thread _ Cert.PatchRefIdeal.τ).loc Cert.PatchRefIdeal.main_arg0))
      (m' ((c.tc : Thread _ Cert.PatchRefIdeal.τ).loc Cert.PatchRefIdeal.main_arg1)) = v c) :
    θ_run Cert.PatchRefIdeal.defs (onTc (τ := Cert.PatchRefIdeal.τ) (Cert.PatchRefIdeal.main (F := F))) ⟨m', fun _ => 0, ρ⟩ fun r =>
      ∀ c : Dev Cert.PatchRefIdeal.nD,
      r.2.mem ((c.tc : Thread _ Cert.PatchRefIdeal.τ).loc Cert.PatchRefIdeal.main_v0) = v c
      ∧ r.2.mem ((c.tc : Thread _ Cert.PatchRefIdeal.τ).loc Cert.PatchRefIdeal.main_arg0) = m' ((c.tc : Thread _ Cert.PatchRefIdeal.τ).loc Cert.PatchRefIdeal.main_arg0)
      ∧ r.2.mem ((c.tc : Thread _ Cert.PatchRefIdeal.τ).loc Cert.PatchRefIdeal.main_arg1) = m' ((c.tc : Thread _ Cert.PatchRefIdeal.τ).loc Cert.PatchRefIdeal.main_arg1) :=
  (θ_run Cert.PatchRefIdeal.defs _ _).mono (fun _ h c => ⟨(h c).1.trans ((reference _ _).trans (hv c)), (h c).2⟩)
    (Cert.PatchRefIdeal.Value.run m' ρ)

end Cert.PatchIdeal.Values

end
-- ==== Proof.lean ====
/-
  The claims: the all-gather of the five weights runs on every device and leaves there the whole weights; the scatter of
  the five weight gradients runs on every device and leaves there, slot by slot, the row blocks that the plain block
  transpose of the whole gradients puts there; the sums of the slots and the optimizer calls run and leave the gradients,
  weight changes and moments that the plain formulas give; the forward mixer runs and leaves the attention and the gated
  unit of the plain formulas; the other calls of the forward and backward pass, the backward mixer left out except for its
  last column update, run and leave the products, normalizations, gradients, tile sums of the loss and updated columns
  that the plain formulas give.
-/
module

public import proofs.«01_k».proof.Defs
public import proofs.«01_k».proof.Proof.Gen.Kernel
public import proofs.«01_k».proof.Proof.Gen.Update.Frame
public import proofs.«01_k».proof.Proof.Values
public import proofs.«01_k».proof.Proof.Update
public import proofs.«01_k».proof.Proof.GatherValues
public import proofs.«01_k».proof.Proof.BackRef
public import proofs.«01_k».proof.Proof.MixerValues
public import proofs.«01_k».proof.Proof.MixerRef
public import proofs.«01_k».proof.Proof.Gen.Mixer.Frame
public import proofs.«01_k».proof.Proof.PassesRef
public import proofs.«01_k».proof.Proof.GwFfnValues
public import proofs.«01_k».proof.Proof.GwOutValues
public import proofs.«01_k».proof.Proof.GwInValues
public import proofs.«01_k».proof.Proof.HidGateValues
public import proofs.«01_k».proof.Proof.HidUpValues
public import proofs.«01_k».proof.Proof.DownRef
public import proofs.«01_k».proof.Proof.PatchValues
public import proofs.«01_k».proof.Proof.Gen.Patch.Frame
public import proofs.«01_k».proof.Proof.Gen.PatchRef
public import proofs.«01_k».proof.Proof.Gen.Dense.Frame
public import proofs.«01_k».proof.Proof.Gen.Norm.Frame
public import proofs.«01_k».proof.Proof.Gen.Passes.Frame
public import proofs.«01_k».proof.Proof.Gen.GwFfn.Frame
public import proofs.«01_k».proof.Proof.Gen.GwOut.Frame
public import proofs.«01_k».proof.Proof.Gen.GwIn.Frame
public import proofs.«01_k».proof.Proof.Gen.HidGate.Frame
public import proofs.«01_k».proof.Proof.Gen.HidUp.Frame
public import proofs.«01_k».proof.Proof.Gen.Down.Frame
public import Idealize.ShloMosaic.Lib.Quiescent

@[expose] public section

noncomputable section

namespace Cert.Proof

open Idealize.ShloMosaic Idealize.ShloMosaic.TcCoe Idealize.SL.Sem

instance factsKernel : Cert.Kernel.Facts := Cert.Kernel.Gen.facts
instance factsKernelIdeal : Cert.KernelIdeal.Facts := Cert.KernelIdeal.Gen.facts
instance factsReference : Cert.Reference.Facts := Cert.Reference.Gen.facts
instance factsReferenceIdeal : Cert.ReferenceIdeal.Facts := Cert.ReferenceIdeal.Gen.facts
instance factsUpdate : Cert.Update.Facts := Cert.Update.Gen.facts
instance factsUpdateIdeal : Cert.UpdateIdeal.Facts := Cert.UpdateIdeal.Gen.facts
instance factsUpdateRefIdeal : Cert.UpdateRefIdeal.Facts := Cert.UpdateRefIdeal.Gen.facts
instance factsPatch : Cert.Patch.Facts := Cert.Patch.Gen.facts
instance factsPatchIdeal : Cert.PatchIdeal.Facts := Cert.PatchIdeal.Gen.facts
instance factsPatchRef : Cert.PatchRef.Facts := Cert.PatchRef.Gen.facts
instance factsPatchRefIdeal : Cert.PatchRefIdeal.Facts := Cert.PatchRefIdeal.Gen.facts
instance factsDense : Cert.Dense.Facts := Cert.Dense.Gen.facts
instance factsDenseIdeal : Cert.DenseIdeal.Facts := Cert.DenseIdeal.Gen.facts
instance factsDenseRefIdeal : Cert.DenseRefIdeal.Facts := Cert.DenseRefIdeal.Gen.facts
instance factsNorm : Cert.Norm.Facts := Cert.Norm.Gen.facts
instance factsNormIdeal : Cert.NormIdeal.Facts := Cert.NormIdeal.Gen.facts
instance factsNormRefIdeal : Cert.NormRefIdeal.Facts := Cert.NormRefIdeal.Gen.facts
instance factsPasses : Cert.Passes.Facts := Cert.Passes.Gen.facts
instance factsPassesIdeal : Cert.PassesIdeal.Facts := Cert.PassesIdeal.Gen.facts
instance factsPassesRefIdeal : Cert.PassesRefIdeal.Facts := Cert.PassesRefIdeal.Gen.facts
instance factsGwFfn : Cert.GwFfn.Facts := Cert.GwFfn.Gen.facts
instance factsGwFfnIdeal : Cert.GwFfnIdeal.Facts := Cert.GwFfnIdeal.Gen.facts
instance factsGwFfnRefIdeal : Cert.GwFfnRefIdeal.Facts := Cert.GwFfnRefIdeal.Gen.facts
instance factsGwOut : Cert.GwOut.Facts := Cert.GwOut.Gen.facts
instance factsGwOutIdeal : Cert.GwOutIdeal.Facts := Cert.GwOutIdeal.Gen.facts
instance factsGwOutRefIdeal : Cert.GwOutRefIdeal.Facts := Cert.GwOutRefIdeal.Gen.facts
instance factsGwIn : Cert.GwIn.Facts := Cert.GwIn.Gen.facts
instance factsGwInIdeal : Cert.GwInIdeal.Facts := Cert.GwInIdeal.Gen.facts
instance factsGwInRefIdeal : Cert.GwInRefIdeal.Facts := Cert.GwInRefIdeal.Gen.facts
instance factsHidGate : Cert.HidGate.Facts := Cert.HidGate.Gen.facts
instance factsHidGateIdeal : Cert.HidGateIdeal.Facts := Cert.HidGateIdeal.Gen.facts
instance factsHidGateRefIdeal : Cert.HidGateRefIdeal.Facts := Cert.HidGateRefIdeal.Gen.facts
instance factsHidUp : Cert.HidUp.Facts := Cert.HidUp.Gen.facts
instance factsHidUpIdeal : Cert.HidUpIdeal.Facts := Cert.HidUpIdeal.Gen.facts
instance factsHidUpRefIdeal : Cert.HidUpRefIdeal.Facts := Cert.HidUpRefIdeal.Gen.facts
instance factsDown : Cert.Down.Facts := Cert.Down.Gen.facts
instance factsDownIdeal : Cert.DownIdeal.Facts := Cert.DownIdeal.Gen.facts
instance factsDownRefIdeal : Cert.DownRefIdeal.Facts := Cert.DownRefIdeal.Gen.facts
instance factsMixer : Cert.Mixer.Facts := Cert.Mixer.Gen.facts
instance factsMixerIdeal : Cert.MixerIdeal.Facts := Cert.MixerIdeal.Gen.facts
instance factsMixerRefIdeal : Cert.MixerRefIdeal.Facts := Cert.MixerRefIdeal.Gen.facts
instance factsGather : Cert.Gather.Facts := Cert.Gather.Gen.facts
instance factsGatherIdeal : Cert.GatherIdeal.Facts := Cert.GatherIdeal.Gen.facts
instance factsGatherRef : Cert.GatherRef.Facts := Cert.GatherRef.Gen.facts
instance factsGatherRefIdeal : Cert.GatherRefIdeal.Facts := Cert.GatherRefIdeal.Gen.facts

/-- The scatter over the reals runs, keeps its arguments and ends with every counter at zero. -/
theorem frame_ideal : Cert.quiescent_KernelIdeal := fun m g _ =>
  (θ_run Cert.KernelIdeal.defs _ _).mono
    (fun _ h => ⟨fun c => ⟨(h.1 c).1 0, (h.1 c).1 1, (h.1 c).1 2, (h.1 c).1 3, (h.1 c).1 4⟩,
      sem_eq_zero_of_scoped (by decide) h.2⟩) (run_main m g)

/-- So does the scatter on machine floats. -/
theorem frame_kernel : Cert.quiescent_Kernel := fun m g _ =>
  (θ_run Cert.Kernel.defs _ _).mono
    (fun _ h => ⟨fun c => ⟨(h.1 c).1 0, (h.1 c).1 1, (h.1 c).1 2, (h.1 c).1 3, (h.1 c).1 4⟩,
      sem_eq_zero_of_scoped (by decide) h.2⟩) (run_main (F := Bits) m g)

/-- The reference over the reals runs and keeps its arguments. -/
theorem frame_ref_ideal : Cert.quiescent_ReferenceIdeal := fun m g _ =>
  (θ_run Cert.ReferenceIdeal.defs _ _).mono
    (fun r h => ⟨fun c => (h c).2.2.2.2.2, sem_eq_zero_of_no_sems (by decide) r.2⟩) (Cert.ReferenceIdeal.Value.run m g)

/-- So does the reference on machine floats. -/
theorem frame_ref : Cert.quiescent_Reference := fun m g _ =>
  (θ_run Cert.Reference.defs _ _).mono
    (fun r h => ⟨fun c => (h c).2.2.2.2.2, sem_eq_zero_of_no_sems (by decide) r.2⟩) (Cert.Reference.Value.run m g)

/-- Over the reals every device's results are its blocks of the reference's. -/
theorem algebraic : Cert.algebraic_KernelIdeal_ReferenceIdeal := fun m g m' g' _ hag =>
  ⟨refVal 0 (m' (((0 : Dev 1).tc : Thread _ Cert.ReferenceIdeal.τ).loc Cert.ReferenceIdeal.main_arg0)),
   refVal 1 (m' (((0 : Dev 1).tc : Thread _ Cert.ReferenceIdeal.τ).loc Cert.ReferenceIdeal.main_arg1)),
   refVal 2 (m' (((0 : Dev 1).tc : Thread _ Cert.ReferenceIdeal.τ).loc Cert.ReferenceIdeal.main_arg2)),
   refVal 3 (m' (((0 : Dev 1).tc : Thread _ Cert.ReferenceIdeal.τ).loc Cert.ReferenceIdeal.main_arg3)),
   refVal 4 (m' (((0 : Dev 1).tc : Thread _ Cert.ReferenceIdeal.τ).loc Cert.ReferenceIdeal.main_arg4)),
   (θ_run Cert.KernelIdeal.defs _ _).mono
    (fun _ h c => ⟨((h.1 c).2 0).trans (final_block m 0 _ (fun s => (hag s).1) c),
      ((h.1 c).2 1).trans (final_block m 1 _ (fun s => (hag s).2.1) c),
      ((h.1 c).2 2).trans (final_block m 2 _ (fun s => (hag s).2.2.1) c),
      ((h.1 c).2 3).trans (final_block m 3 _ (fun s => (hag s).2.2.2.1) c),
      ((h.1 c).2 4).trans (final_block m 4 _ (fun s => (hag s).2.2.2.2) c),
      (h.1 c).1 0, (h.1 c).1 1, (h.1 c).1 2, (h.1 c).1 3, (h.1 c).1 4⟩) (run_main m g),
   (θ_run Cert.ReferenceIdeal.defs _ _).mono (fun _ h => h 0) (Cert.ReferenceIdeal.Value.run m' g')⟩

/-- On machine floats too, to the last bit. -/
theorem bitexact : Cert.bitexact_Kernel_Reference := fun m g m' g' _ hag =>
  ⟨refVal 0 (m' (((0 : Dev 1).tc : Thread _ Cert.Reference.τ).loc Cert.Reference.main_arg0)),
   refVal 1 (m' (((0 : Dev 1).tc : Thread _ Cert.Reference.τ).loc Cert.Reference.main_arg1)),
   refVal 2 (m' (((0 : Dev 1).tc : Thread _ Cert.Reference.τ).loc Cert.Reference.main_arg2)),
   refVal 3 (m' (((0 : Dev 1).tc : Thread _ Cert.Reference.τ).loc Cert.Reference.main_arg3)),
   refVal 4 (m' (((0 : Dev 1).tc : Thread _ Cert.Reference.τ).loc Cert.Reference.main_arg4)),
   (θ_run Cert.Kernel.defs _ _).mono
    (fun _ h c => ⟨((h.1 c).2 0).trans (final_block (F := Bits) m 0 _ (fun s => (hag s).1) c),
      ((h.1 c).2 1).trans (final_block (F := Bits) m 1 _ (fun s => (hag s).2.1) c),
      ((h.1 c).2 2).trans (final_block (F := Bits) m 2 _ (fun s => (hag s).2.2.1) c),
      ((h.1 c).2 3).trans (final_block (F := Bits) m 3 _ (fun s => (hag s).2.2.2.1) c),
      ((h.1 c).2 4).trans (final_block (F := Bits) m 4 _ (fun s => (hag s).2.2.2.2) c),
      (h.1 c).1 0, (h.1 c).1 1, (h.1 c).1 2, (h.1 c).1 3, (h.1 c).1 4⟩) (run_main (F := Bits) m g),
   (θ_run Cert.Reference.defs _ _).mono (fun _ h => h 0) (Cert.Reference.Value.run m' g')⟩

/-- An array the optimizer program only reads is at the end as it was at the start. -/
theorem argU {F : FTy → Type} [FloatOps F] (m : (ℓ : Loc Cert.UpdateIdeal.nD Cert.UpdateIdeal.τ Cert.UpdateIdeal.sig) → Buf (Elt F) ℓ)
    (g : Dev Cert.UpdateIdeal.nD → PrngReg) (c : Dev Cert.UpdateIdeal.nD) (a : Ref Cert.UpdateIdeal.sig .tc)
    (ha : a ∈ Cert.UpdateIdeal.Gen.argRefs) (hs : ¬ (Proc.devRef .tc a : DevRef Cert.UpdateIdeal.τ Cert.UpdateIdeal.sig).isScoped)
    {s : MemSt Cert.UpdateIdeal.nD Cert.UpdateIdeal.τ Cert.UpdateIdeal.sig (Elt F)}
    (h : ∀ b ∈ Pipeline.ucRefs Cert.UpdateIdeal.τ Cert.UpdateIdeal.sig, s.mem (c, b) = Cert.UpdateIdeal.Gen.W20 m g c b) :
    s.mem ((c.tc : Thread Cert.UpdateIdeal.nD Cert.UpdateIdeal.τ).loc a) = m ((c.tc : Thread Cert.UpdateIdeal.nD Cert.UpdateIdeal.τ).loc a) :=
  (h _ (Cert.UpdateIdeal.Gen.mem_uc a hs)).trans (Cert.UpdateIdeal.Gen.W20_args m g c a ha)

/-- The optimizer program over the reals runs, keeps its arguments and ends with every counter at zero. -/
theorem frame_update_ideal : Cert.quiescent_UpdateIdeal := fun m g _ =>
  (θ_run Cert.UpdateIdeal.defs _ _).mono
    (fun _ h => ⟨fun c => ⟨argU m g c Cert.UpdateIdeal.main_arg0 (by decide) (by decide) (h.1 c), argU m g c Cert.UpdateIdeal.main_arg1 (by decide) (by decide) (h.1 c), argU m g c Cert.UpdateIdeal.main_arg2 (by decide) (by decide) (h.1 c), argU m g c Cert.UpdateIdeal.main_arg3 (by decide) (by decide) (h.1 c),
      argU m g c Cert.UpdateIdeal.main_arg4 (by decide) (by decide) (h.1 c), argU m g c Cert.UpdateIdeal.main_arg5 (by decide) (by decide) (h.1 c), argU m g c Cert.UpdateIdeal.main_arg6 (by decide) (by decide) (h.1 c), argU m g c Cert.UpdateIdeal.main_arg7 (by decide) (by decide) (h.1 c),
      argU m g c Cert.UpdateIdeal.main_arg8 (by decide) (by decide) (h.1 c), argU m g c Cert.UpdateIdeal.main_arg9 (by decide) (by decide) (h.1 c), argU m g c Cert.UpdateIdeal.main_arg10 (by decide) (by decide) (h.1 c), argU m g c Cert.UpdateIdeal.main_arg11 (by decide) (by decide) (h.1 c),
      argU m g c Cert.UpdateIdeal.main_arg12 (by decide) (by decide) (h.1 c), argU m g c Cert.UpdateIdeal.main_arg13 (by decide) (by decide) (h.1 c), argU m g c Cert.UpdateIdeal.main_arg14 (by decide) (by decide) (h.1 c), argU m g c Cert.UpdateIdeal.main_arg15 (by decide) (by decide) (h.1 c),
      argU m g c Cert.UpdateIdeal.main_arg16 (by decide) (by decide) (h.1 c), argU m g c Cert.UpdateIdeal.main_arg17 (by decide) (by decide) (h.1 c), argU m g c Cert.UpdateIdeal.main_arg18 (by decide) (by decide) (h.1 c), argU m g c Cert.UpdateIdeal.main_arg19 (by decide) (by decide) (h.1 c)⟩, h.2⟩)
    (Cert.UpdateIdeal.Values.run_main m g)

/-- So does the optimizer program on machine floats. -/
theorem frame_update : Cert.quiescent_Update := fun m g _ => Cert.Update.Gen.frame m g

/-- The optimizer's reference runs and keeps its arguments. -/
theorem frame_update_ref_ideal : Cert.quiescent_UpdateRefIdeal := fun m g _ =>
  (θ_run Cert.UpdateRefIdeal.defs _ _).mono
    (fun r h => ⟨fun c => (h c).2.2.2.2.2.2.2.2.2.2.2.2.2.2.2.2.2.2.2.2, sem_eq_zero_of_no_sems (by decide) r.2⟩) (Cert.UpdateRefIdeal.Value.run m g)

open Cert.UpdateIdeal Cert.UpdateIdeal.Gen Cert.UpdateIdeal.Values in
/-- Over the reals the optimizer program's results are the reference's. -/
theorem algebraic_update : Cert.algebraic_UpdateIdeal_UpdateRefIdeal := fun m g m' g' _ hag =>
  ⟨fun c => W20 m g c (Proc.devRef .tc main_v6), fun c => W20 m g c (Proc.devRef .tc main_v7), fun c => W20 m g c (Proc.devRef .tc main_v8), fun c => W20 m g c (Proc.devRef .tc main_v9), fun c => W20 m g c (Proc.devRef .tc main_v15), fun c => W20 m g c (Proc.devRef .tc main_v16), fun c => W20 m g c (Proc.devRef .tc main_v17), fun c => W20 m g c (Proc.devRef .tc main_v18), fun c => W20 m g c (Proc.devRef .tc main_v25), fun c => W20 m g c (Proc.devRef .tc main_v26), fun c => W20 m g c (Proc.devRef .tc main_v27), fun c => W20 m g c (Proc.devRef .tc main_v28), fun c => W20 m g c (Proc.devRef .tc main_v35), fun c => W20 m g c (Proc.devRef .tc main_v36), fun c => W20 m g c (Proc.devRef .tc main_v37), fun c => W20 m g c (Proc.devRef .tc main_v38), fun c => W20 m g c (Proc.devRef .tc main_v44), fun c => W20 m g c (Proc.devRef .tc main_v45), fun c => W20 m g c (Proc.devRef .tc main_v46), fun c => W20 m g c (Proc.devRef .tc main_v47),
   (θ_run Cert.UpdateIdeal.defs _ _).mono
    (fun _ h c => ⟨h.1 c _ (mem_uc main_v6 (by decide)), h.1 c _ (mem_uc main_v7 (by decide)), h.1 c _ (mem_uc main_v8 (by decide)), h.1 c _ (mem_uc main_v9 (by decide)), h.1 c _ (mem_uc main_v15 (by decide)), h.1 c _ (mem_uc main_v16 (by decide)), h.1 c _ (mem_uc main_v17 (by decide)), h.1 c _ (mem_uc main_v18 (by decide)), h.1 c _ (mem_uc main_v25 (by decide)), h.1 c _ (mem_uc main_v26 (by decide)), h.1 c _ (mem_uc main_v27 (by decide)), h.1 c _ (mem_uc main_v28 (by decide)), h.1 c _ (mem_uc main_v35 (by decide)), h.1 c _ (mem_uc main_v36 (by decide)), h.1 c _ (mem_uc main_v37 (by decide)), h.1 c _ (mem_uc main_v38 (by decide)), h.1 c _ (mem_uc main_v44 (by decide)), h.1 c _ (mem_uc main_v45 (by decide)), h.1 c _ (mem_uc main_v46 (by decide)), h.1 c _ (mem_uc main_v47 (by decide)),
      argU m g c Cert.UpdateIdeal.main_arg0 (by decide) (by decide) (h.1 c), argU m g c Cert.UpdateIdeal.main_arg1 (by decide) (by decide) (h.1 c), argU m g c Cert.UpdateIdeal.main_arg2 (by decide) (by decide) (h.1 c), argU m g c Cert.UpdateIdeal.main_arg3 (by decide) (by decide) (h.1 c),
      argU m g c Cert.UpdateIdeal.main_arg4 (by decide) (by decide) (h.1 c), argU m g c Cert.UpdateIdeal.main_arg5 (by decide) (by decide) (h.1 c), argU m g c Cert.UpdateIdeal.main_arg6 (by decide) (by decide) (h.1 c), argU m g c Cert.UpdateIdeal.main_arg7 (by decide) (by decide) (h.1 c),
      argU m g c Cert.UpdateIdeal.main_arg8 (by decide) (by decide) (h.1 c), argU m g c Cert.UpdateIdeal.main_arg9 (by decide) (by decide) (h.1 c), argU m g c Cert.UpdateIdeal.main_arg10 (by decide) (by decide) (h.1 c), argU m g c Cert.UpdateIdeal.main_arg11 (by decide) (by decide) (h.1 c),
      argU m g c Cert.UpdateIdeal.main_arg12 (by decide) (by decide) (h.1 c), argU m g c Cert.UpdateIdeal.main_arg13 (by decide) (by decide) (h.1 c), argU m g c Cert.UpdateIdeal.main_arg14 (by decide) (by decide) (h.1 c), argU m g c Cert.UpdateIdeal.main_arg15 (by decide) (by decide) (h.1 c),
      argU m g c Cert.UpdateIdeal.main_arg16 (by decide) (by decide) (h.1 c), argU m g c Cert.UpdateIdeal.main_arg17 (by decide) (by decide) (h.1 c), argU m g c Cert.UpdateIdeal.main_arg18 (by decide) (by decide) (h.1 c), argU m g c Cert.UpdateIdeal.main_arg19 (by decide) (by decide) (h.1 c)⟩)
    (Cert.UpdateIdeal.Values.run_main m g),
   (θ_run Cert.UpdateRefIdeal.defs _ _).mono (fun _ h c => by
    obtain ⟨a0, a1, a2, a3, a4, a5, a6, a7, a8, a9, a10, a11, a12, a13, a14, a15, a16, a17, a18, a19⟩ := hag c
    obtain ⟨r0, r1, r2, r3, r4, r5, r6, r7, r8, r9, r10, r11, r12, r13, r14, r15, r16, r17, r18, r19, hr⟩ := h c
    have g0 := (Cert.UpdateRefIdeal.ref_w_in m' c).trans (congrArg gradT a0)
    have s0 := (out_w_in m g c).2.unique (Cert.UpdateRefIdeal.ref_step Cert.UpdateRefIdeal.Gen.bcast_S_S1x2048x416 _ _ _ _) a5 g0 a10 a15
    have g1 := (Cert.UpdateRefIdeal.ref_w_out m' c).trans (congrArg grad a1)
    have s1 := (out_w_out m g c).2.unique (Cert.UpdateRefIdeal.ref_step Cert.UpdateRefIdeal.Gen.bcast_S_S1x256x2048 _ _ _ _) a6 g1 a11 a16
    have g2 := (Cert.UpdateRefIdeal.ref_ffn_gate m' c).trans (congrArg gradT a2)
    have s2 := (out_ffn_gate m g c).2.unique (Cert.UpdateRefIdeal.ref_step Cert.UpdateRefIdeal.Gen.bcast_S_S1x2048x704 _ _ _ _) a7 g2 a12 a17
    have g3 := (Cert.UpdateRefIdeal.ref_ffn_up m' c).trans (congrArg gradT a3)
    have s3 := (out_ffn_up m g c).2.unique (Cert.UpdateRefIdeal.ref_step Cert.UpdateRefIdeal.Gen.bcast_S_S1x2048x704 _ _ _ _) a8 g3 a13 a18
    have g4 := (Cert.UpdateRefIdeal.ref_ffn_down m' c).trans (congrArg grad a4)
    have s4 := (out_ffn_down m g c).2.unique (Cert.UpdateRefIdeal.ref_step Cert.UpdateRefIdeal.Gen.bcast_S_S1x704x2048 _ _ _ _) a9 g4 a14 a19
    exact ⟨r0.trans (g0.trans (out_w_in m g c).1.symm), r1.trans s0.1, r2.trans s0.2.1, r3.trans s0.2.2,
      r4.trans (g1.trans (out_w_out m g c).1.symm), r5.trans s1.1, r6.trans s1.2.1, r7.trans s1.2.2,
      r8.trans (g2.trans (out_ffn_gate m g c).1.symm), r9.trans s2.1, r10.trans s2.2.1, r11.trans s2.2.2,
      r12.trans (g3.trans (out_ffn_up m g c).1.symm), r13.trans s3.1, r14.trans s3.2.1, r15.trans s3.2.2,
      r16.trans (g4.trans (out_ffn_down m g c).1.symm), r17.trans s4.1, r18.trans s4.2.1, r19.trans s4.2.2, hr⟩) (Cert.UpdateRefIdeal.Value.run m' g')⟩

/-- The all-gather over the reals runs, keeps its arguments and ends with every counter at zero. -/
theorem frame_gather_ideal : Cert.quiescent_GatherIdeal := fun m g _ =>
  (θ_run Cert.GatherIdeal.defs _ _).mono
    (fun _ h => ⟨fun c => ⟨(h.1 c).1 0, (h.1 c).1 1, (h.1 c).1 2, (h.1 c).1 3, (h.1 c).1 4⟩,
      sem_eq_zero_of_scoped (by decide) h.2⟩) (Cert.Gathering.run_main m g)

/-- So does the all-gather on machine floats. -/
theorem frame_gather : Cert.quiescent_Gather := fun m g _ =>
  (θ_run Cert.Gather.defs _ _).mono
    (fun _ h => ⟨fun c => ⟨(h.1 c).1 0, (h.1 c).1 1, (h.1 c).1 2, (h.1 c).1 3, (h.1 c).1 4⟩,
      sem_eq_zero_of_scoped (by decide) h.2⟩) (Cert.Gathering.run_main (F := Bits) m g)

/-- The all-gather's reference over the reals runs and keeps its arguments. -/
theorem frame_gather_ref_ideal : Cert.quiescent_GatherRefIdeal := fun m g _ =>
  (θ_run Cert.GatherRefIdeal.defs _ _).mono
    (fun r h => ⟨fun c => ⟨h c _, h c _, h c _, h c _, h c _⟩, sem_eq_zero_of_no_sems (by decide) r.2⟩) (Cert.Gathering.run_reference m g)

/-- So does it on machine floats. -/
theorem frame_gather_ref : Cert.quiescent_GatherRef := fun m g _ =>
  (θ_run Cert.GatherRef.defs _ _).mono
    (fun r h => ⟨fun c => ⟨h c _, h c _, h c _, h c _, h c _⟩, sem_eq_zero_of_no_sems (by decide) r.2⟩) (Cert.Gathering.run_reference (F := Bits) m g)

set_option maxRecDepth 16384 in
/-- Over the reals every device's results are the whole weights. -/
theorem algebraic_gather : Cert.algebraic_GatherIdeal_GatherRefIdeal := fun m g m' g' _ hag =>
  ⟨m' (((0 : Dev 1).tc : Thread _ Cert.GatherRefIdeal.τ).loc Cert.GatherRefIdeal.main_arg0), m' (((0 : Dev 1).tc : Thread _ Cert.GatherRefIdeal.τ).loc Cert.GatherRefIdeal.main_arg1),
   m' (((0 : Dev 1).tc : Thread _ Cert.GatherRefIdeal.τ).loc Cert.GatherRefIdeal.main_arg2), m' (((0 : Dev 1).tc : Thread _ Cert.GatherRefIdeal.τ).loc Cert.GatherRefIdeal.main_arg3),
   m' (((0 : Dev 1).tc : Thread _ Cert.GatherRefIdeal.τ).loc Cert.GatherRefIdeal.main_arg4),
   (θ_run Cert.GatherIdeal.defs _ _).mono
    (fun _ h c => ⟨((h.1 c).2 0).trans (Cert.Gathering.final_whole m 0 _ (fun s => (hag s).1) c),
      ((h.1 c).2 1).trans (Cert.Gathering.final_whole m 1 _ (fun s => (hag s).2.1) c),
      ((h.1 c).2 2).trans (Cert.Gathering.final_whole m 2 _ (fun s => (hag s).2.2.1) c),
      ((h.1 c).2 3).trans (Cert.Gathering.final_whole m 3 _ (fun s => (hag s).2.2.2.1) c),
      ((h.1 c).2 4).trans (Cert.Gathering.final_whole m 4 _ (fun s => (hag s).2.2.2.2) c),
      (h.1 c).1 0, (h.1 c).1 1, (h.1 c).1 2, (h.1 c).1 3, (h.1 c).1 4⟩) (Cert.Gathering.run_main m g),
   (θ_run Cert.GatherRefIdeal.defs _ _).mono (fun _ h => ⟨h 0 Cert.GatherRefIdeal.main_arg0, h 0 Cert.GatherRefIdeal.main_arg1, h 0 Cert.GatherRefIdeal.main_arg2, h 0 Cert.GatherRefIdeal.main_arg3, h 0 Cert.GatherRefIdeal.main_arg4,
      h 0 Cert.GatherRefIdeal.main_arg0, h 0 Cert.GatherRefIdeal.main_arg1, h 0 Cert.GatherRefIdeal.main_arg2, h 0 Cert.GatherRefIdeal.main_arg3, h 0 Cert.GatherRefIdeal.main_arg4⟩) (Cert.Gathering.run_reference m' g')⟩

set_option maxRecDepth 16384 in
/-- On machine floats too, to the last bit. -/
theorem bitexact_gather : Cert.bitexact_Gather_GatherRef := fun m g m' g' _ hag =>
  ⟨m' (((0 : Dev 1).tc : Thread _ Cert.GatherRef.τ).loc Cert.GatherRef.main_arg0), m' (((0 : Dev 1).tc : Thread _ Cert.GatherRef.τ).loc Cert.GatherRef.main_arg1),
   m' (((0 : Dev 1).tc : Thread _ Cert.GatherRef.τ).loc Cert.GatherRef.main_arg2), m' (((0 : Dev 1).tc : Thread _ Cert.GatherRef.τ).loc Cert.GatherRef.main_arg3),
   m' (((0 : Dev 1).tc : Thread _ Cert.GatherRef.τ).loc Cert.GatherRef.main_arg4),
   (θ_run Cert.Gather.defs _ _).mono
    (fun _ h c => ⟨((h.1 c).2 0).trans (Cert.Gathering.final_whole (F := Bits) m 0 _ (fun s => (hag s).1) c),
      ((h.1 c).2 1).trans (Cert.Gathering.final_whole (F := Bits) m 1 _ (fun s => (hag s).2.1) c),
      ((h.1 c).2 2).trans (Cert.Gathering.final_whole (F := Bits) m 2 _ (fun s => (hag s).2.2.1) c),
      ((h.1 c).2 3).trans (Cert.Gathering.final_whole (F := Bits) m 3 _ (fun s => (hag s).2.2.2.1) c),
      ((h.1 c).2 4).trans (Cert.Gathering.final_whole (F := Bits) m 4 _ (fun s => (hag s).2.2.2.2) c),
      (h.1 c).1 0, (h.1 c).1 1, (h.1 c).1 2, (h.1 c).1 3, (h.1 c).1 4⟩) (Cert.Gathering.run_main (F := Bits) m g),
   (θ_run Cert.GatherRef.defs _ _).mono (fun _ h => ⟨h 0 Cert.GatherRef.main_arg0, h 0 Cert.GatherRef.main_arg1, h 0 Cert.GatherRef.main_arg2, h 0 Cert.GatherRef.main_arg3, h 0 Cert.GatherRef.main_arg4,
      h 0 Cert.GatherRef.main_arg0, h 0 Cert.GatherRef.main_arg1, h 0 Cert.GatherRef.main_arg2, h 0 Cert.GatherRef.main_arg3, h 0 Cert.GatherRef.main_arg4⟩) (Cert.Gathering.run_reference (F := Bits) m' g')⟩

/-- The product runs on machine floats, keeps its arguments and ends with every counter at zero. -/
theorem frame_dense : Cert.quiescent_Dense := fun m g _ => Cert.Dense.Gen.frame m g

/-- So does it over the reals. -/
theorem frame_dense_ideal : Cert.quiescent_DenseIdeal := fun m g _ => Cert.DenseIdeal.Gen.frame m g

/-- So does its reference. -/
theorem frame_dense_ref_ideal : Cert.quiescent_DenseRefIdeal := fun m g _ =>
  (θ_run Cert.DenseRefIdeal.defs _ _).mono
    (fun r h => ⟨fun c => (h c).2, sem_eq_zero_of_no_sems (by decide) r.2⟩) (Cert.DenseRefIdeal.Value.run m g)

open Cert.DenseIdeal Cert.DenseIdeal.Gen Cert.DenseIdeal.Values in
/-- Over the reals the tiled product is the plain product. -/
theorem algebraic_dense : Cert.algebraic_DenseIdeal_DenseRefIdeal := fun m g m' g' _ hag =>
  ⟨fun c => product (a := 4096) (k := 3328) (b := 2048) (m ((c.tc : Thread nD τ).loc main_arg0)) (m ((c.tc : Thread nD τ).loc main_arg1)),
   (θ_run Cert.DenseIdeal.defs _ _).mono (fun _ h c => ⟨(h c).1.trans (value m c), (h c).2⟩) (Cert.DenseIdeal.Value.run_blocks m g),
   (θ_run Cert.DenseRefIdeal.defs _ _).mono (fun _ h c => ⟨by
    obtain ⟨a0, a1⟩ := hag c
    exact (h c).1.trans (by rw [a0, a1]), (h c).2⟩) (Cert.DenseRefIdeal.run_product m' g')⟩

/-- The normalization's backward pass runs on machine floats, keeps its arguments and ends with every counter at zero. -/
theorem frame_norm : Cert.quiescent_Norm := fun m g _ => Cert.Norm.Gen.frame m g

/-- So does it over the reals. -/
theorem frame_norm_ideal : Cert.quiescent_NormIdeal := fun m g _ => Cert.NormIdeal.Gen.frame m g

/-- So does its reference. -/
theorem frame_norm_ref_ideal : Cert.quiescent_NormRefIdeal := fun m g _ =>
  (θ_run Cert.NormRefIdeal.defs _ _).mono
    (fun r h => ⟨fun c => (h c).2.2.2, sem_eq_zero_of_no_sems (by decide) r.2⟩) (Cert.NormRefIdeal.Value.run m g)

open Cert.NormIdeal Cert.NormIdeal.Gen Cert.NormIdeal.Values in
/-- Over the reals the normalization's backward pass, block of rows by block of rows, is that of the whole arrays. -/
theorem algebraic_norm : Cert.algebraic_NormIdeal_NormRefIdeal := fun m g m' g' _ hag =>
  ⟨fun c => back (a := 4096) (rows (m ((c.tc : Thread nD τ).loc main_arg1))) (m ((c.tc : Thread nD τ).loc main_arg0))
      (m ((c.tc : Thread nD τ).loc main_arg2)) (m ((c.tc : Thread nD τ).loc main_arg3)),
   fun c => narrow (back (a := 4096) (rows (m ((c.tc : Thread nD τ).loc main_arg1))) (m ((c.tc : Thread nD τ).loc main_arg0))
      (m ((c.tc : Thread nD τ).loc main_arg2)) (m ((c.tc : Thread nD τ).loc main_arg3))),
   fun c => gain (a := 4096) (rows (m ((c.tc : Thread nD τ).loc main_arg1))) (m ((c.tc : Thread nD τ).loc main_arg0)),
   (θ_run Cert.NormIdeal.defs _ _).mono (fun _ h c => ⟨(h c).1.trans (value4 m c), (h c).2.1.trans (value5 m c),
      (h c).2.2.1.trans (value6 m c), (h c).2.2.2⟩) (Cert.NormIdeal.Value.run_blocks m g),
   (θ_run Cert.NormRefIdeal.defs _ _).mono (fun _ h c => by
    obtain ⟨a0, a1, a2, a3⟩ := hag c
    obtain ⟨h0, h1, h2, hr⟩ := h c
    rw [a0, a1, a2, a3] at h0 h1
    rw [a0, a1] at h2
    exact ⟨h0, h1, h2, hr⟩) (Cert.NormRefIdeal.run_back m' g')⟩

/-- The calls of both passes whose contraction is done in one step run on machine floats, keep their arguments and end with every counter at zero. -/
theorem frame_passes : Cert.quiescent_Passes := fun m g _ => Cert.Passes.Gen.frame m g

/-- So over the reals. -/
theorem frame_passes_ideal : Cert.quiescent_PassesIdeal := fun m g _ => Cert.PassesIdeal.Gen.frame m g

/-- So the reference. -/
theorem frame_passes_ref_ideal : Cert.quiescent_PassesRefIdeal := fun m g _ =>
  (θ_run Cert.PassesRefIdeal.defs _ _).mono
    (fun r h => ⟨fun c => (h c).2.2.2.2.2.2.2.2.2.2, sem_eq_zero_of_no_sems (by decide) r.2⟩) (Cert.PassesRefIdeal.Value.run m g)

open Cert.Products Cert.PassesIdeal Cert.PassesIdeal.Gen Cert.PassesIdeal.Values in
/-- Over the reals every call leaves what the plain formulas give. -/
theorem algebraic_passes : Cert.algebraic_PassesIdeal_PassesRefIdeal := fun m g m' g' _ hag =>
  ⟨fun c => rmsNorm (a := 4096) (rows (m ((c.tc : Thread nD τ).loc main_arg0))) (m ((c.tc : Thread nD τ).loc main_arg1)),
   fun c => productNt (a := 4096) (k := 2048) (b := 3328) (rmsNorm (a := 4096) (rows (m ((c.tc : Thread nD τ).loc main_arg0))) (m ((c.tc : Thread nD τ).loc main_arg1))) (m ((c.tc : Thread nD τ).loc main_arg2)),
   fun c => mid (m ((c.tc : Thread nD τ).loc main_arg0)) (m ((c.tc : Thread nD τ).loc main_arg3)) (m ((c.tc : Thread nD τ).loc main_arg4)),
   fun c => second (m ((c.tc : Thread nD τ).loc main_arg0)) (m ((c.tc : Thread nD τ).loc main_arg3)) (m ((c.tc : Thread nD τ).loc main_arg4)) (m ((c.tc : Thread nD τ).loc main_arg5)),
   fun c => unit (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)),
   fun c => unit (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg7)),
   fun c => glu (unit (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))) (unit (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg7))),
   fun c => gluBack (productNt (a := 4096) (k := 2048) (b := 5632) (m ((c.tc : Thread nD τ).loc main_arg8)) (m ((c.tc : Thread nD τ).loc main_arg9))) (unit (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))) (unit (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg7))),
   fun c => gluBack' (productNt (a := 4096) (k := 2048) (b := 5632) (m ((c.tc : Thread nD τ).loc main_arg8)) (m ((c.tc : Thread nD τ).loc main_arg9))) (unit (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))),
   fun c => productNt (a := 4096) (k := 2048) (b := 2048) (m ((c.tc : Thread nD τ).loc main_arg10)) (m ((c.tc : Thread nD τ).loc main_arg4)),
   run_passes m g,
   (θ_run Cert.PassesRefIdeal.defs _ _).mono (fun _ h c => by
    obtain ⟨a0, a1, a2, a3, a4, a5, a6, a7, a8, a9, a10⟩ := hag c
    obtain ⟨h0, h1, h2, h3, h4, h5, h6, h7, h8, h9, hr⟩ := h c
    rw [a0, a1] at h0
    rw [a0, a1, a2] at h1
    rw [a0, a3, a4] at h2
    rw [a0, a3, a4, a5] at h3
    rw [a0, a3, a4, a5, a6] at h4
    rw [a0, a3, a4, a5, a7] at h5
    rw [a0, a3, a4, a5, a6, a7] at h6
    rw [a0, a3, a4, a5, a6, a7, a8, a9] at h7
    rw [a0, a3, a4, a5, a6, a8, a9] at h8
    rw [a4, a10] at h9
    exact ⟨h0, h1, h2, h3, h4, h5, h6, h7, h8, h9, hr⟩) (Cert.PassesRefIdeal.run_passes m' g')⟩

/-- The gradient of the down weight, the call mm_gw_down, runs on machine floats, keeps its arguments and ends with every counter at zero. -/
theorem frame_gw_ffn : Cert.quiescent_GwFfn := fun m g _ => Cert.GwFfn.Gen.frame m g

/-- So over the reals. -/
theorem frame_gw_ffn_ideal : Cert.quiescent_GwFfnIdeal := fun m g _ => Cert.GwFfnIdeal.Gen.frame m g

/-- So the reference. -/
theorem frame_gw_ffn_ref_ideal : Cert.quiescent_GwFfnRefIdeal := fun m g _ =>
  (θ_run Cert.GwFfnRefIdeal.defs _ _).mono
    (fun r h => ⟨fun c => (h c).2, sem_eq_zero_of_no_sems (by decide) r.2⟩) (Cert.GwFfnRefIdeal.Value.run m g)

open Cert.Products Cert.GwFfnIdeal Cert.GwFfnIdeal.Gen Cert.GwFfnIdeal.Values in
/-- Over the reals the tiled product is the plain product. -/
theorem algebraic_gw_ffn : Cert.algebraic_GwFfnIdeal_GwFfnRefIdeal := fun m g m' g' _ hag =>
  ⟨fun c => narrow (productTn (a := 5632) (k := 4096) (b := 2048) (m ((c.tc : Thread nD τ).loc main_arg0)) (m ((c.tc : Thread nD τ).loc main_arg1))),
   (θ_run Cert.GwFfnIdeal.defs _ _).mono (fun _ h c => ⟨(h c).1.trans (value m c), (h c).2⟩) (Cert.GwFfnIdeal.Value.run_blocks m g),
   (θ_run Cert.GwFfnRefIdeal.defs _ _).mono (fun _ h c => ⟨by
    obtain ⟨a0, a1⟩ := hag c
    exact (h c).1.trans (by rw [a0, a1]), (h c).2⟩) (Cert.GwFfnRefIdeal.run_product m' g')⟩

/-- The gradient of the output weight, the call mm_gw_out, runs on machine floats, keeps its arguments and ends with every counter at zero. -/
theorem frame_gw_out : Cert.quiescent_GwOut := fun m g _ => Cert.GwOut.Gen.frame m g

/-- So over the reals. -/
theorem frame_gw_out_ideal : Cert.quiescent_GwOutIdeal := fun m g _ => Cert.GwOutIdeal.Gen.frame m g

/-- So the reference. -/
theorem frame_gw_out_ref_ideal : Cert.quiescent_GwOutRefIdeal := fun m g _ =>
  (θ_run Cert.GwOutRefIdeal.defs _ _).mono
    (fun r h => ⟨fun c => (h c).2, sem_eq_zero_of_no_sems (by decide) r.2⟩) (Cert.GwOutRefIdeal.Value.run m g)

open Cert.Products Cert.GwOutIdeal Cert.GwOutIdeal.Gen Cert.GwOutIdeal.Values in
/-- Over the reals the tiled product is the plain product. -/
theorem algebraic_gw_out : Cert.algebraic_GwOutIdeal_GwOutRefIdeal := fun m g m' g' _ hag =>
  ⟨fun c => narrow (productTn (a := 2048) (k := 4096) (b := 2048) (m ((c.tc : Thread nD τ).loc main_arg0)) (m ((c.tc : Thread nD τ).loc main_arg1))),
   (θ_run Cert.GwOutIdeal.defs _ _).mono (fun _ h c => ⟨(h c).1.trans (value m c), (h c).2⟩) (Cert.GwOutIdeal.Value.run_blocks m g),
   (θ_run Cert.GwOutRefIdeal.defs _ _).mono (fun _ h c => ⟨by
    obtain ⟨a0, a1⟩ := hag c
    exact (h c).1.trans (by rw [a0, a1]), (h c).2⟩) (Cert.GwOutRefIdeal.run_product m' g')⟩

/-- The gradient of the input weight, the call mm_gw_in, runs on machine floats, keeps its arguments and ends with every counter at zero. -/
theorem frame_gw_in : Cert.quiescent_GwIn := fun m g _ => Cert.GwIn.Gen.frame m g

/-- So over the reals. -/
theorem frame_gw_in_ideal : Cert.quiescent_GwInIdeal := fun m g _ => Cert.GwInIdeal.Gen.frame m g

/-- So the reference. -/
theorem frame_gw_in_ref_ideal : Cert.quiescent_GwInRefIdeal := fun m g _ =>
  (θ_run Cert.GwInRefIdeal.defs _ _).mono
    (fun r h => ⟨fun c => (h c).2, sem_eq_zero_of_no_sems (by decide) r.2⟩) (Cert.GwInRefIdeal.Value.run m g)

open Cert.Products Cert.GwInIdeal Cert.GwInIdeal.Gen Cert.GwInIdeal.Values in
/-- Over the reals the tiled product is the plain product. -/
theorem algebraic_gw_in : Cert.algebraic_GwInIdeal_GwInRefIdeal := fun m g m' g' _ hag =>
  ⟨fun c => narrow (productTn (a := 3328) (k := 4096) (b := 2048) (m ((c.tc : Thread nD τ).loc main_arg0)) (m ((c.tc : Thread nD τ).loc main_arg1))),
   (θ_run Cert.GwInIdeal.defs _ _).mono (fun _ h c => ⟨(h c).1.trans (value m c), (h c).2⟩) (Cert.GwInIdeal.Value.run_blocks m g),
   (θ_run Cert.GwInRefIdeal.defs _ _).mono (fun _ h c => ⟨by
    obtain ⟨a0, a1⟩ := hag c
    exact (h c).1.trans (by rw [a0, a1]), (h c).2⟩) (Cert.GwInRefIdeal.run_product m' g')⟩

/-- The gate's part of what comes back to the second normalization, the call mm_dh2_gate, runs on machine floats, keeps its arguments and ends with every counter at zero. -/
theorem frame_hid_gate : Cert.quiescent_HidGate := fun m g _ => Cert.HidGate.Gen.frame m g

/-- So over the reals. -/
theorem frame_hid_gate_ideal : Cert.quiescent_HidGateIdeal := fun m g _ => Cert.HidGateIdeal.Gen.frame m g

/-- So the reference. -/
theorem frame_hid_gate_ref_ideal : Cert.quiescent_HidGateRefIdeal := fun m g _ =>
  (θ_run Cert.HidGateRefIdeal.defs _ _).mono
    (fun r h => ⟨fun c => (h c).2, sem_eq_zero_of_no_sems (by decide) r.2⟩) (Cert.HidGateRefIdeal.Value.run m g)

open Cert.Products Cert.HidGateIdeal Cert.HidGateIdeal.Gen Cert.HidGateIdeal.Values in
/-- Over the reals the tiled product is the plain product. -/
theorem algebraic_hid_gate : Cert.algebraic_HidGateIdeal_HidGateRefIdeal := fun m g m' g' _ hag =>
  ⟨fun c => product (a := 4096) (k := 5632) (b := 2048) (m ((c.tc : Thread nD τ).loc main_arg0)) (m ((c.tc : Thread nD τ).loc main_arg1)),
   (θ_run Cert.HidGateIdeal.defs _ _).mono (fun _ h c => ⟨(h c).1.trans (value m c), (h c).2⟩) (Cert.HidGateIdeal.Value.run_blocks m g),
   (θ_run Cert.HidGateRefIdeal.defs _ _).mono (fun _ h c => ⟨by
    obtain ⟨a0, a1⟩ := hag c
    exact (h c).1.trans (by rw [a0, a1]), (h c).2⟩) (Cert.HidGateRefIdeal.run_product m' g')⟩

/-- The sum of both parts, the call mm_dh2_up, runs on machine floats, keeps its arguments and ends with every counter at zero. -/
theorem frame_hid_up : Cert.quiescent_HidUp := fun m g _ => Cert.HidUp.Gen.frame m g

/-- So over the reals. -/
theorem frame_hid_up_ideal : Cert.quiescent_HidUpIdeal := fun m g _ => Cert.HidUpIdeal.Gen.frame m g

/-- So the reference. -/
theorem frame_hid_up_ref_ideal : Cert.quiescent_HidUpRefIdeal := fun m g _ =>
  (θ_run Cert.HidUpRefIdeal.defs _ _).mono
    (fun r h => ⟨fun c => (h c).2, sem_eq_zero_of_no_sems (by decide) r.2⟩) (Cert.HidUpRefIdeal.Value.run m g)

open Cert.Products Cert.HidUpIdeal Cert.HidUpIdeal.Gen Cert.HidUpIdeal.Values in
/-- Over the reals the tiled sum is the plain sum. -/
theorem algebraic_hid_up : Cert.algebraic_HidUpIdeal_HidUpRefIdeal := fun m g m' g' _ hag =>
  ⟨fun c => plus (m ((c.tc : Thread nD τ).loc main_arg2)) (product (a := 4096) (k := 5632) (b := 2048) (m ((c.tc : Thread nD τ).loc main_arg0)) (m ((c.tc : Thread nD τ).loc main_arg1))),
   (θ_run Cert.HidUpIdeal.defs _ _).mono (fun _ h c => ⟨(h c).1.trans (value m c), (h c).2⟩) (Cert.HidUpIdeal.Value.run_blocks m g),
   (θ_run Cert.HidUpRefIdeal.defs _ _).mono (fun _ h c => ⟨by
    obtain ⟨a0, a1, a2⟩ := hag c
    exact (h c).1.trans (by rw [a0, a1, a2]), (h c).2⟩) (Cert.HidUpRefIdeal.run_sum m' g')⟩

/-- The call that ends the forward pass, mm_down, runs on machine floats, keeps its arguments and ends with every counter at zero. -/
theorem frame_down : Cert.quiescent_Down := fun m g _ => Cert.Down.Gen.frame m g

/-- So over the reals. -/
theorem frame_down_ideal : Cert.quiescent_DownIdeal := fun m g _ => Cert.DownIdeal.Gen.frame m g

/-- So the reference. -/
theorem frame_down_ref_ideal : Cert.quiescent_DownRefIdeal := fun m g _ =>
  (θ_run Cert.DownRefIdeal.defs _ _).mono
    (fun r h => ⟨fun c => (h c).2.2.2, sem_eq_zero_of_no_sems (by decide) r.2⟩) (Cert.DownRefIdeal.Value.run m g)

open Cert.Products Cert.DownIdeal Cert.DownIdeal.Gen Cert.DownIdeal.Values in
/-- Over the reals the loss's gradient and the tiles' shares of the loss are the plain ones. -/
theorem algebraic_down : Cert.algebraic_DownIdeal_DownRefIdeal := fun m g m' g' _ hag =>
  ⟨fun c => scaled (diff m c),
   fun c => narrow (scaled (diff m c)),
   fun c => losses (diff m c),
   (θ_run Cert.DownIdeal.defs _ _).mono (fun _ h c => ⟨(h c).1.trans (value4 m c), (h c).2.1.trans (value5 m c),
      (h c).2.2.1.trans (value6 m c), (h c).2.2.2⟩) (Cert.DownIdeal.Value.run_blocks m g),
   (θ_run Cert.DownRefIdeal.defs _ _).mono (fun _ h c => by
    obtain ⟨a0, a1, a2, a3⟩ := hag c
    obtain ⟨h0, h1, h2, hr⟩ := h c
    have e : Cert.DownRefIdeal.diff m' c = diff m c := by
      dsimp only [Cert.DownRefIdeal.diff, diff]
      rw [a0, a1, a2, a3]
    rw [e] at h0 h1 h2
    exact ⟨h0, h1, h2, hr⟩) (Cert.DownRefIdeal.run_down m' g')⟩

/-- The forward mixer, the call mixer_fwd, runs on machine floats, keeps its arguments and ends with every counter at zero. -/
theorem frame_mixer : Cert.quiescent_Mixer := fun m g _ => Cert.Mixer.Gen.frame m g

/-- So over the reals. -/
theorem frame_mixer_ideal : Cert.quiescent_MixerIdeal := fun m g _ => Cert.MixerIdeal.Gen.frame m g

/-- So the reference. -/
theorem frame_mixer_ref_ideal : Cert.quiescent_MixerRefIdeal := fun m g _ =>
  (θ_run Cert.MixerRefIdeal.defs _ _).mono
    (fun r h => ⟨fun c => (h c).2, sem_eq_zero_of_no_sems (by decide) r.2⟩) (Cert.MixerRefIdeal.Value.run m g)

/-- The constants that are named stand for minus infinity, for one over the root of two and for the slopes of the even heads. -/
theorem preserves_mixer : Cert.preserves_Mixer_MixerIdeal :=
  ⟨IdealRules.named_const.statement Cert.MixerIdeal.κ "slope0" .f32 0x3F3504F3#32 (((Real.sqrt 2)⁻¹ : ℝ) : EReal) rfl,
   IdealRules.named_const.statement Cert.MixerIdeal.κ "mask" .f32 0xF149F2CA#32 ⊥ rfl,
   IdealRules.named_const.statement Cert.MixerIdeal.κ "slope2" .f32 0x3EB504F3#32 (((2 * (Real.sqrt 2))⁻¹ : ℝ) : EReal) rfl,
   IdealRules.named_const.statement Cert.MixerIdeal.κ "slope4" .f32 0x3E3504F3#32 (((4 * (Real.sqrt 2))⁻¹ : ℝ) : EReal) rfl,
   IdealRules.named_const.statement Cert.MixerIdeal.κ "slope6" .f32 0x3DB504F3#32 (((8 * (Real.sqrt 2))⁻¹ : ℝ) : EReal) rfl,
   IdealRules.named_const.statement Cert.MixerIdeal.κ "slope8" .f32 0x3D3504F3#32 (((16 * (Real.sqrt 2))⁻¹ : ℝ) : EReal) rfl,
   IdealRules.named_const.statement Cert.MixerIdeal.κ "slope10" .f32 0x3CB504F3#32 (((32 * (Real.sqrt 2))⁻¹ : ℝ) : EReal) rfl,
   IdealRules.named_const.statement Cert.MixerIdeal.κ "slope12" .f32 0x3C3504F3#32 (((64 * (Real.sqrt 2))⁻¹ : ℝ) : EReal) rfl,
   IdealRules.named_const.statement Cert.MixerIdeal.κ "slope14" .f32 0x3BB504F3#32 (((128 * (Real.sqrt 2))⁻¹ : ℝ) : EReal) rfl⟩

open Cert.Mixing Cert.MixerIdeal Cert.MixerIdeal.Gen Cert.MixerIdeal.Values in
/-- Over the reals the call leaves the reference's attention and gated unit, block by block. -/
theorem algebraic_mixer : Cert.algebraic_MixerIdeal_MixerRefIdeal := fun m g m' g' _ hag =>
  ⟨fun c => fun i : S4096x2048.Idx => mixed (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ((i 0).val / 128) ((i 0).val % 128) (i 1).val,
   (θ_run Cert.MixerIdeal.defs _ _).mono (fun _ h c => ⟨(h c).1.trans (value m c), (h c).2⟩) (Cert.MixerIdeal.Value.run_blocks m g),
   (θ_run Cert.MixerRefIdeal.defs _ _).mono (fun _ h c => ⟨by
    obtain ⟨a0, a1, a2, a3, a4, a5, a6, a7, a8, a9⟩ := hag c
    exact (h c).1.trans (by rw [a0, a1, a2, a3, a4, a5, a6, a7, a8, a9]), (h c).2⟩) (Cert.MixerRefIdeal.Values.run_mixed m' g')⟩

/-- The call that writes the key and value gradients into their columns runs on machine floats, keeps its arguments and ends with every counter at zero. -/
theorem frame_patch : Cert.quiescent_Patch := fun m g _ => Cert.Patch.Gen.frame m g

/-- So over the reals. -/
theorem frame_patch_ideal : Cert.quiescent_PatchIdeal := fun m g _ => Cert.PatchIdeal.Gen.frame m g

/-- So the reference over the reals. -/
theorem frame_patch_ref_ideal : Cert.quiescent_PatchRefIdeal := fun m g _ =>
  (θ_run Cert.PatchRefIdeal.defs _ _).mono
    (fun r h => ⟨fun c => (h c).2, sem_eq_zero_of_no_sems (by decide) r.2⟩) (Cert.PatchRefIdeal.Value.run m g)

/-- So the reference on machine floats. -/
theorem frame_patch_ref : Cert.quiescent_PatchRef := fun m g _ =>
  (θ_run Cert.PatchRef.defs _ _).mono
    (fun r h => ⟨fun c => (h c).2, sem_eq_zero_of_no_sems (by decide) r.2⟩) (Cert.PatchRefIdeal.Value.run (F := Bits) m g)

open Cert.PatchIdeal Cert.PatchIdeal.Gen Cert.PatchIdeal.Values in
/-- Over the reals the call updates those columns as the reference does. -/
theorem algebraic_patch : Cert.algebraic_PatchIdeal_PatchRefIdeal := fun m g m' g' _ hag =>
  ⟨fun c => patched (m ((c.tc : Thread nD τ).loc main_arg0)) (m ((c.tc : Thread nD τ).loc main_arg1)),
   run_patch m g,
   run_reference m' g' _ (fun c => congrArg₂ patched (hag c).1 (hag c).2)⟩

open Cert.PatchIdeal Cert.PatchIdeal.Gen Cert.PatchIdeal.Values in
/-- On machine floats it does so bit for bit. -/
theorem bitexact_patch : Cert.bitexact_Patch_PatchRef := fun m g m' g' _ hag =>
  ⟨fun c => patched (m ((c.tc : Thread nD τ).loc main_arg0)) (m ((c.tc : Thread nD τ).loc main_arg1)),
   run_bits m g,
   run_reference (F := Bits) m' g' _ (fun c => congrArg₂ patched (hag c).1 (hag c).2)⟩

/-- Every claim. -/
theorem claim : Cert.Claim := ⟨factsKernel, factsKernelIdeal, factsReferenceIdeal, factsReference,
  factsUpdate, factsUpdateIdeal, factsUpdateRefIdeal, factsGather, factsGatherIdeal, factsGatherRefIdeal, factsGatherRef,
  factsDense, factsDenseIdeal, factsDenseRefIdeal, factsNorm, factsNormIdeal, factsNormRefIdeal,
  factsPasses, factsPassesIdeal, factsPassesRefIdeal,
  factsGwFfn, factsGwFfnIdeal, factsGwFfnRefIdeal,
  factsGwOut, factsGwOutIdeal, factsGwOutRefIdeal,
  factsGwIn, factsGwInIdeal, factsGwInRefIdeal,
  factsHidGate, factsHidGateIdeal, factsHidGateRefIdeal,
  factsHidUp, factsHidUpIdeal, factsHidUpRefIdeal,
  factsDown, factsDownIdeal, factsDownRefIdeal,
  factsMixer, factsMixerIdeal, factsMixerRefIdeal,
  factsPatch, factsPatchIdeal, factsPatchRefIdeal, factsPatchRef,
  frame_kernel, frame_ideal, frame_ref_ideal, frame_ref, frame_update, frame_update_ideal, frame_update_ref_ideal,
  frame_gather, frame_gather_ideal, frame_gather_ref_ideal, frame_gather_ref,
  frame_dense, frame_dense_ideal, frame_dense_ref_ideal, frame_norm, frame_norm_ideal, frame_norm_ref_ideal,
  frame_passes, frame_passes_ideal, frame_passes_ref_ideal,
  frame_gw_ffn, frame_gw_ffn_ideal, frame_gw_ffn_ref_ideal,
  frame_gw_out, frame_gw_out_ideal, frame_gw_out_ref_ideal,
  frame_gw_in, frame_gw_in_ideal, frame_gw_in_ref_ideal,
  frame_hid_gate, frame_hid_gate_ideal, frame_hid_gate_ref_ideal,
  frame_hid_up, frame_hid_up_ideal, frame_hid_up_ref_ideal,
  frame_down, frame_down_ideal, frame_down_ref_ideal,
  frame_mixer, frame_mixer_ideal, frame_mixer_ref_ideal,
  frame_patch, frame_patch_ideal, frame_patch_ref_ideal, frame_patch_ref,
  trivial, bitexact, algebraic, trivial, algebraic_update, trivial, bitexact_gather, algebraic_gather,
  trivial, algebraic_dense, trivial, algebraic_norm,
  trivial, algebraic_passes, trivial, algebraic_gw_ffn, trivial, algebraic_gw_out, trivial, algebraic_gw_in, trivial, algebraic_hid_gate, trivial, algebraic_hid_up, trivial, algebraic_down,
  preserves_mixer, algebraic_mixer,
  trivial, bitexact_patch, algebraic_patch⟩

end Cert.Proof

end
